-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "qk_scale" .f32 0x3E0293EE#32 (((Real.sqrt 128)⁻¹ * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "qk_scale" .f32 0x3E0293EE#32 (((Real.sqrt 128)⁻¹ * (Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S2x4096x2048 : Shape := ⟨3, ![2, 4096, 2048]⟩
abbrev S2048x12288 : Shape := ⟨2, ![2048, 12288]⟩
abbrev S2x16x2x1x4096x128 : Shape := ⟨6, ![2, 16, 2, 1, 4096, 128]⟩
abbrev S2048x1024 : Shape := ⟨2, ![2048, 1024]⟩
abbrev S8x1024x128 : Shape := ⟨3, ![8, 1024, 128]⟩
abbrev S3x1x1024x2048 : Shape := ⟨4, ![3, 1, 1024, 2048]⟩
abbrev S3 : Shape := ⟨1, ![3]⟩
abbrev S2x2048x1024 : Shape := ⟨3, ![2, 2048, 1024]⟩
abbrev S2 : Shape := ⟨1, ![2]⟩
abbrev S2x1x8x1x1x1024x128 : Shape := ⟨7, ![2, 1, 8, 1, 1, 1024, 128]⟩
abbrev S1 : Shape := ⟨1, ![1]⟩
abbrev S_ : Shape := ⟨0, ![]⟩
abbrev S1x1x1024x2048 : Shape := ⟨4, ![1, 1, 1024, 2048]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S1024x1024 : Shape := ⟨2, ![1024, 1024]⟩
abbrev S1024x128 : Shape := ⟨2, ![1024, 128]⟩
abbrev S1x1x8x1x1x1024x128 : Shape := ⟨7, ![1, 1, 8, 1, 1, 1024, 128]⟩
abbrev S1x8x1x1x1024x128 : Shape := ⟨6, ![1, 8, 1, 1, 1024, 128]⟩
abbrev S1x1x1x1x1024x128 : Shape := ⟨6, ![1, 1, 1, 1, 1024, 128]⟩
abbrev S1x1x1x1x1x1024x128 : Shape := ⟨7, ![1, 1, 1, 1, 1, 1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2048, .bf16⟩
  | .hbm, ⟨1, _⟩ => ⟨S2048x12288, .f32⟩
  | .hbm, ⟨2, _⟩ => ⟨S2x16x2x1x4096x128, .bf16⟩
  | .local _ .vmem, ⟨0, _⟩ => ⟨S2048x1024, .bf16⟩
  | .local _ .vmem, ⟨1, _⟩ => ⟨S8x1024x128, .f32⟩
  | .local _ .vmem, ⟨2, _⟩ => ⟨S3x1x1024x2048, .bf16⟩
  | .local _ .vmem, ⟨3, _⟩ => ⟨S2x2048x1024, .f32⟩
  | .local _ .vmem, ⟨4, _⟩ => ⟨S2x1x8x1x1x1024x128, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_53_r0 : BitVec 32 := 0#32
  let c3_i32_54_r0 : BitVec 32 := 3#32
  let v57_r0 : BitVec 32 := Scalar.remui c0_i32_53_r0 c3_i32_54_r0
  ![v57_r0.toNat]
def k0_off2 : Fin 4 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  let c0_i32_57_r0 : BitVec 32 := 0#32
  ![v57_r0.toNat, 0, 0, 0]
def k0_off3 : Fin 1 → Nat :=
  let c0_i32_63_r0 : BitVec 32 := 0#32
  let c2_i32_64_r0 : BitVec 32 := 2#32
  let v64_r0 : BitVec 32 := Scalar.remui c0_i32_63_r0 c2_i32_64_r0
  ![v64_r0.toNat]
def k0_off4 : Fin 3 → Nat :=
  let c0_i32_63_r0 : BitVec 32 := 0#32
  let c2_i32_64_r0 : BitVec 32 := 2#32
  let v64_r0 : BitVec 32 := Scalar.remui c0_i32_63_r0 c2_i32_64_r0
  let c0_i32_65_r0 : BitVec 32 := 0#32
  let c0_i32_66_r0 : BitVec 32 := 0#32
  ![v64_r0.toNat, 0, 0]
def k0_cond1 : BitVec 1 :=
  let true_73_r0 : BitVec 1 := 1#1
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let c0_i32_71_r0 : BitVec 32 := 0#32
  let v71_r0 : BitVec 1 := Scalar.cmpi .ne v25_r0 c0_i32_71_r0
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let c0_i32_72_r0 : BitVec 32 := 0#32
  let v72_r0 : BitVec 1 := Scalar.cmpi .ne v26_r0 c0_i32_72_r0
  let v73_r0 : BitVec 1 := Scalar.ori v71_r0 v72_r0
  let v74_r0 : BitVec 1 := Scalar.andi true_73_r0 v73_r0
  let true_74_r0 : BitVec 1 := 1#1
  let v75_r0 : BitVec 1 := Scalar.andi v74_r0 true_74_r0
  let v76_r0 : BitVec 32 := Scalar.extui v75_r0
  let c0_i32_75_r0 : BitVec 32 := 0#32
  let v77_r0 : BitVec 1 := Scalar.cmpi .ne v76_r0 c0_i32_75_r0
  v77_r0

def k0_off5 : Fin 1 → Nat :=
  let c0_i32_61_r0 : BitVec 32 := 0#32
  let c1_i32_62_r0 : BitVec 32 := 1#32
  let v63_r0 : BitVec 32 := Scalar.addi c0_i32_61_r0 c1_i32_62_r0
  let c3_i32_176_r0 : BitVec 32 := 3#32
  let v194_r0 : BitVec 32 := Scalar.remui v63_r0 c3_i32_176_r0
  ![v194_r0.toNat]
def k0_off6 : Fin 4 → Nat :=
  let c0_i32_61_r0 : BitVec 32 := 0#32
  let c1_i32_62_r0 : BitVec 32 := 1#32
  let v63_r0 : BitVec 32 := Scalar.addi c0_i32_61_r0 c1_i32_62_r0
  let c3_i32_176_r0 : BitVec 32 := 3#32
  let v194_r0 : BitVec 32 := Scalar.remui v63_r0 c3_i32_176_r0
  let c0_i32_179_r0 : BitVec 32 := 0#32
  let c0_i32_180_r0 : BitVec 32 := 0#32
  let c0_i32_181_r0 : BitVec 32 := 0#32
  ![v194_r0.toNat, 0, 0, 0]
def k0_off7 : Fin 3 → Nat :=
  let c1_i32_177_r0 : BitVec 32 := 1#32
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let v195_r0 : BitVec 32 := Scalar.muli c1_i32_177_r0 v25_r0
  let c1024_i32_178_r0 : BitVec 32 := 1024#32
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let v196_r0 : BitVec 32 := Scalar.muli c1024_i32_178_r0 v26_r0
  let c0_i32_182_r0 : BitVec 32 := 0#32
  ![v195_r0.toNat, v196_r0.toNat, 0]
@[reducible] def k0_t1_loop : Scf.Loop 32 :=
  let c0_i32_84_r0 : BitVec 32 := 0#32
  let c32_i32_r0 : BitVec 32 := 32#32
  let v80_r0 : BitVec 32 := Scalar.addi c0_i32_84_r0 c32_i32_r0
  let c1_i32_85_r0 : BitVec 32 := 1#32
  ⟨c0_i32_84_r0, v80_r0, c1_i32_85_r0⟩
def k0_off8 (arg6_r0 : BitVec 32) : Fin 1 → Nat :=
  let c3_i32_423_r0 : BitVec 32 := 3#32
  let v546_r0 : BitVec 32 := Scalar.remui arg6_r0 c3_i32_423_r0
  ![v546_r0.toNat]
def k0_cond2 (k0_t1 : Fin k0_t1_loop.trips) (arg13_r0 : BitVec 32) (arg14_r0 : BitVec 32) : BitVec 1 :=
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c0_i32_199_r0 : BitVec 32 := 0#32
  let v221_r0 : BitVec 32 := Scalar.select v220_r0 c0_i32_199_r0 v219_r0
  let c0_i32_204_r0 : BitVec 32 := 0#32
  let v227_r0 : BitVec 32 := Scalar.addi v221_r0 c0_i32_204_r0
  let true_207_r0 : BitVec 1 := 1#1
  let c0_i32_196_r0 : BitVec 32 := 0#32
  let v217_r0 : BitVec 32 := Scalar.select v216_r0 c0_i32_196_r0 v215_r0
  let c1_i32_206_r0 : BitVec 32 := 1#32
  let v229_r0 : BitVec 32 := Scalar.addi v217_r0 c1_i32_206_r0
  let v230_r0 : BitVec 32 := Scalar.select true_207_r0 v229_r0 v217_r0
  let c4_i32_208_r0 : BitVec 32 := 4#32
  let v231_r0 : BitVec 1 := Scalar.cmpi .eq v230_r0 c4_i32_208_r0
  let c1_i32_210_r0 : BitVec 32 := 1#32
  let v233_r0 : BitVec 32 := Scalar.addi v221_r0 c1_i32_210_r0
  let v234_r0 : BitVec 32 := Scalar.select v231_r0 v233_r0 v221_r0
  let c2_i32_211_r0 : BitVec 32 := 2#32
  let v235_r0 : BitVec 1 := Scalar.cmpi .eq v234_r0 c2_i32_211_r0
  let c0_i32_212_r0 : BitVec 32 := 0#32
  let v236_r0 : BitVec 32 := Scalar.select v235_r0 c0_i32_212_r0 v234_r0
  let c0_i32_217_r0 : BitVec 32 := 0#32
  let v242_r0 : BitVec 32 := Scalar.addi v236_r0 c0_i32_217_r0
  let v259_r0 : BitVec 1 := Scalar.cmpi .ne v227_r0 v242_r0
  let c0_i32_205_r0 : BitVec 32 := 0#32
  let v228_r0 : BitVec 32 := Scalar.addi v217_r0 c0_i32_205_r0
  let c0_i32_209_r0 : BitVec 32 := 0#32
  let v232_r0 : BitVec 32 := Scalar.select v231_r0 c0_i32_209_r0 v230_r0
  let c0_i32_218_r0 : BitVec 32 := 0#32
  let v243_r0 : BitVec 32 := Scalar.addi v232_r0 c0_i32_218_r0
  let v260_r0 : BitVec 1 := Scalar.cmpi .ne v228_r0 v243_r0
  let v261_r0 : BitVec 1 := Scalar.ori v259_r0 v260_r0
  let c0_i32_84_r0 : BitVec 32 := 0#32
  let c1_i32_85_r0 : BitVec 32 := 1#32
  let arg5_r0 : BitVec 32 := Scf.iv c0_i32_84_r0 c1_i32_85_r0 k0_t1
  let c30_i32_r0 : BitVec 32 := 30#32
  let v262_r0 : BitVec 1 := Scalar.cmpi .sge arg5_r0 c30_i32_r0
  let true_232_r0 : BitVec 1 := 1#1
  let v263_r0 : BitVec 1 := Scalar.xori v262_r0 true_232_r0
  let v264_r0 : BitVec 1 := Scalar.andi v261_r0 v263_r0
  let true_233_r0 : BitVec 1 := 1#1
  let v265_r0 : BitVec 1 := Scalar.andi v264_r0 true_233_r0
  let v266_r0 : BitVec 32 := Scalar.extui v265_r0
  let c0_i32_234_r0 : BitVec 32 := 0#32
  let v267_r0 : BitVec 1 := Scalar.cmpi .ne v266_r0 c0_i32_234_r0
  v267_r0

def k0_off9 (arg6_r0 : BitVec 32) : Fin 4 → Nat :=
  let c3_i32_423_r0 : BitVec 32 := 3#32
  let v546_r0 : BitVec 32 := Scalar.remui arg6_r0 c3_i32_423_r0
  let c0_i32_426_r0 : BitVec 32 := 0#32
  let c0_i32_427_r0 : BitVec 32 := 0#32
  let c0_i32_428_r0 : BitVec 32 := 0#32
  ![v546_r0.toNat, 0, 0, 0]
def k0_off10 (arg13_r0 : BitVec 32) (arg14_r0 : BitVec 32) : Fin 3 → Nat :=
  let c1_i32_424_r0 : BitVec 32 := 1#32
  let true_207_r0 : BitVec 1 := 1#1
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c0_i32_196_r0 : BitVec 32 := 0#32
  let v217_r0 : BitVec 32 := Scalar.select v216_r0 c0_i32_196_r0 v215_r0
  let c1_i32_206_r0 : BitVec 32 := 1#32
  let v229_r0 : BitVec 32 := Scalar.addi v217_r0 c1_i32_206_r0
  let v230_r0 : BitVec 32 := Scalar.select true_207_r0 v229_r0 v217_r0
  let c4_i32_208_r0 : BitVec 32 := 4#32
  let v231_r0 : BitVec 1 := Scalar.cmpi .eq v230_r0 c4_i32_208_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c0_i32_199_r0 : BitVec 32 := 0#32
  let v221_r0 : BitVec 32 := Scalar.select v220_r0 c0_i32_199_r0 v219_r0
  let c1_i32_210_r0 : BitVec 32 := 1#32
  let v233_r0 : BitVec 32 := Scalar.addi v221_r0 c1_i32_210_r0
  let v234_r0 : BitVec 32 := Scalar.select v231_r0 v233_r0 v221_r0
  let c2_i32_211_r0 : BitVec 32 := 2#32
  let v235_r0 : BitVec 1 := Scalar.cmpi .eq v234_r0 c2_i32_211_r0
  let c0_i32_212_r0 : BitVec 32 := 0#32
  let v236_r0 : BitVec 32 := Scalar.select v235_r0 c0_i32_212_r0 v234_r0
  let c0_i32_217_r0 : BitVec 32 := 0#32
  let v242_r0 : BitVec 32 := Scalar.addi v236_r0 c0_i32_217_r0
  let v547_r0 : BitVec 32 := Scalar.muli c1_i32_424_r0 v242_r0
  let c1024_i32_425_r0 : BitVec 32 := 1024#32
  let c0_i32_209_r0 : BitVec 32 := 0#32
  let v232_r0 : BitVec 32 := Scalar.select v231_r0 c0_i32_209_r0 v230_r0
  let c0_i32_218_r0 : BitVec 32 := 0#32
  let v243_r0 : BitVec 32 := Scalar.addi v232_r0 c0_i32_218_r0
  let v548_r0 : BitVec 32 := Scalar.muli c1024_i32_425_r0 v243_r0
  let c0_i32_429_r0 : BitVec 32 := 0#32
  ![v547_r0.toNat, v548_r0.toNat, 0]
def k0_off11 (arg8_r0 : BitVec 32) : Fin 1 → Nat :=
  let c2_i32_423_r0 : BitVec 32 := 2#32
  let v546_r0 : BitVec 32 := Scalar.remui arg8_r0 c2_i32_423_r0
  ![v546_r0.toNat]
def k0_cond3 (k0_t1 : Fin k0_t1_loop.trips) (arg12_r0 : BitVec 32) (arg13_r0 : BitVec 32) (arg14_r0 : BitVec 32) : BitVec 1 :=
  let c0_i32_237_r0 : BitVec 32 := 0#32
  let c0_i32_177_r0 : BitVec 32 := 0#32
  let v196_r0 : BitVec 32 := Scalar.addi arg12_r0 c0_i32_177_r0
  let v271_r0 : BitVec 32 := Scalar.addi c0_i32_237_r0 v196_r0
  let c0_i32_238_r0 : BitVec 32 := 0#32
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c1_i32_200_r0 : BitVec 32 := 1#32
  let v222_r0 : BitVec 32 := Scalar.addi arg12_r0 c1_i32_200_r0
  let v223_r0 : BitVec 32 := Scalar.select v220_r0 v222_r0 arg12_r0
  let c4_i32_201_r0 : BitVec 32 := 4#32
  let v224_r0 : BitVec 1 := Scalar.cmpi .eq v223_r0 c4_i32_201_r0
  let c0_i32_202_r0 : BitVec 32 := 0#32
  let v225_r0 : BitVec 32 := Scalar.select v224_r0 c0_i32_202_r0 v223_r0
  let c0_i32_203_r0 : BitVec 32 := 0#32
  let v226_r0 : BitVec 32 := Scalar.addi v225_r0 c0_i32_203_r0
  let v272_r0 : BitVec 32 := Scalar.addi c0_i32_238_r0 v226_r0
  let v273_r0 : BitVec 1 := Scalar.cmpi .ne v271_r0 v272_r0
  let c0_i32_84_r0 : BitVec 32 := 0#32
  let c1_i32_85_r0 : BitVec 32 := 1#32
  let arg5_r0 : BitVec 32 := Scf.iv c0_i32_84_r0 c1_i32_85_r0 k0_t1
  let c31_i32_239_r0 : BitVec 32 := 31#32
  let v274_r0 : BitVec 1 := Scalar.cmpi .sge arg5_r0 c31_i32_239_r0
  let true_240_r0 : BitVec 1 := 1#1
  let v275_r0 : BitVec 1 := Scalar.xori v274_r0 true_240_r0
  let v276_r0 : BitVec 1 := Scalar.andi v273_r0 v275_r0
  let true_241_r0 : BitVec 1 := 1#1
  let v277_r0 : BitVec 1 := Scalar.andi v276_r0 true_241_r0
  let v278_r0 : BitVec 32 := Scalar.extui v277_r0
  let c0_i32_242_r0 : BitVec 32 := 0#32
  let v279_r0 : BitVec 1 := Scalar.cmpi .ne v278_r0 c0_i32_242_r0
  v279_r0

def k0_off12 (arg8_r0 : BitVec 32) : Fin 3 → Nat :=
  let c2_i32_423_r0 : BitVec 32 := 2#32
  let v546_r0 : BitVec 32 := Scalar.remui arg8_r0 c2_i32_423_r0
  let c0_i32_426_r0 : BitVec 32 := 0#32
  let c0_i32_427_r0 : BitVec 32 := 0#32
  ![v546_r0.toNat, 0, 0]
def k0_off13 (arg12_r0 : BitVec 32) (arg13_r0 : BitVec 32) (arg14_r0 : BitVec 32) : Fin 2 → Nat :=
  let c0_i32_428_r0 : BitVec 32 := 0#32
  let c1024_i32_425_r0 : BitVec 32 := 1024#32
  let c0_i32_424_r0 : BitVec 32 := 0#32
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c1_i32_200_r0 : BitVec 32 := 1#32
  let v222_r0 : BitVec 32 := Scalar.addi arg12_r0 c1_i32_200_r0
  let v223_r0 : BitVec 32 := Scalar.select v220_r0 v222_r0 arg12_r0
  let c4_i32_201_r0 : BitVec 32 := 4#32
  let v224_r0 : BitVec 1 := Scalar.cmpi .eq v223_r0 c4_i32_201_r0
  let c0_i32_202_r0 : BitVec 32 := 0#32
  let v225_r0 : BitVec 32 := Scalar.select v224_r0 c0_i32_202_r0 v223_r0
  let c0_i32_203_r0 : BitVec 32 := 0#32
  let v226_r0 : BitVec 32 := Scalar.addi v225_r0 c0_i32_203_r0
  let v547_r0 : BitVec 32 := Scalar.addi c0_i32_424_r0 v226_r0
  let v548_r0 : BitVec 32 := Scalar.muli c1024_i32_425_r0 v547_r0
  ![0, v548_r0.toNat]
def k0_off14 (arg7_r0 : BitVec 32) : Fin 1 → Nat :=
  let c3_i32_425_r0 : BitVec 32 := 3#32
  let v548_r0 : BitVec 32 := Scalar.remui arg7_r0 c3_i32_425_r0
  ![v548_r0.toNat]
def k0_cond4 (k0_t1 : Fin k0_t1_loop.trips) (arg13_r0 : BitVec 32) (arg14_r0 : BitVec 32) : BitVec 1 :=
  let c0_i32_178_r0 : BitVec 32 := 0#32
  let v197_r0 : BitVec 32 := Scalar.addi arg13_r0 c0_i32_178_r0
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_186_r0 : BitVec 32 := 1#32
  let v206_r0 : BitVec 32 := Scalar.select v205_r0 c1_i32_186_r0 v204_r0
  let c0_i32_191_r0 : BitVec 32 := 0#32
  let v212_r0 : BitVec 32 := Scalar.addi v206_r0 c0_i32_191_r0
  let v347_r0 : BitVec 1 := Scalar.cmpi .ne v197_r0 v212_r0
  let c0_i32_179_r0 : BitVec 32 := 0#32
  let v198_r0 : BitVec 32 := Scalar.addi arg14_r0 c0_i32_179_r0
  let c3_i32_183_r0 : BitVec 32 := 3#32
  let v202_r0 : BitVec 32 := Scalar.select v201_r0 c3_i32_183_r0 v200_r0
  let c0_i32_192_r0 : BitVec 32 := 0#32
  let v213_r0 : BitVec 32 := Scalar.addi v202_r0 c0_i32_192_r0
  let v348_r0 : BitVec 1 := Scalar.cmpi .ne v198_r0 v213_r0
  let v349_r0 : BitVec 1 := Scalar.ori v347_r0 v348_r0
  let c0_i32_84_r0 : BitVec 32 := 0#32
  let c1_i32_85_r0 : BitVec 32 := 1#32
  let arg5_r0 : BitVec 32 := Scf.iv c0_i32_84_r0 c1_i32_85_r0 k0_t1
  let c0_i32_176_r0 : BitVec 32 := 0#32
  let v194_r0 : BitVec 1 := Scalar.cmpi .eq arg5_r0 c0_i32_176_r0
  let v350_r0 : BitVec 1 := Scalar.ori v349_r0 v194_r0
  let c0_i32_273_r0 : BitVec 32 := 0#32
  let v351_r0 : BitVec 1 := Scalar.cmpi .sge arg5_r0 c0_i32_273_r0
  let v352_r0 : BitVec 1 := Scalar.andi v350_r0 v351_r0
  let v353_r0 : BitVec 32 := Scalar.extui v352_r0
  let c0_i32_274_r0 : BitVec 32 := 0#32
  let v354_r0 : BitVec 1 := Scalar.cmpi .ne v353_r0 c0_i32_274_r0
  v354_r0

def k0_off15 (arg7_r0 : BitVec 32) : Fin 4 → Nat :=
  let c3_i32_425_r0 : BitVec 32 := 3#32
  let v548_r0 : BitVec 32 := Scalar.remui arg7_r0 c3_i32_425_r0
  let c0_i32_426_r0 : BitVec 32 := 0#32
  let c0_i32_427_r0 : BitVec 32 := 0#32
  let c0_i32_428_r0 : BitVec 32 := 0#32
  ![v548_r0.toNat, 0, 0, 0]
def k0_off16 (arg13_r0 : BitVec 32) (arg14_r0 : BitVec 32) : Fin 3 → Nat :=
  let c1_i32_423_r0 : BitVec 32 := 1#32
  let c0_i32_178_r0 : BitVec 32 := 0#32
  let v197_r0 : BitVec 32 := Scalar.addi arg13_r0 c0_i32_178_r0
  let v546_r0 : BitVec 32 := Scalar.muli c1_i32_423_r0 v197_r0
  let c1024_i32_424_r0 : BitVec 32 := 1024#32
  let c0_i32_179_r0 : BitVec 32 := 0#32
  let v198_r0 : BitVec 32 := Scalar.addi arg14_r0 c0_i32_179_r0
  let v547_r0 : BitVec 32 := Scalar.muli c1024_i32_424_r0 v198_r0
  let c0_i32_429_r0 : BitVec 32 := 0#32
  ![v546_r0.toNat, v547_r0.toNat, 0]
def k0_off17 (arg9_r0 : BitVec 32) : Fin 1 → Nat :=
  let c2_i32_425_r0 : BitVec 32 := 2#32
  let v548_r0 : BitVec 32 := Scalar.remui arg9_r0 c2_i32_425_r0
  ![v548_r0.toNat]
def k0_cond5 (k0_t1 : Fin k0_t1_loop.trips) (arg12_r0 : BitVec 32) (arg13_r0 : BitVec 32) (arg14_r0 : BitVec 32) : BitVec 1 :=
  let c0_i32_237_r0 : BitVec 32 := 0#32
  let c0_i32_177_r0 : BitVec 32 := 0#32
  let v196_r0 : BitVec 32 := Scalar.addi arg12_r0 c0_i32_177_r0
  let v271_r0 : BitVec 32 := Scalar.addi c0_i32_237_r0 v196_r0
  let c0_i32_275_r0 : BitVec 32 := 0#32
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_187_r0 : BitVec 32 := 1#32
  let v207_r0 : BitVec 32 := Scalar.subi arg12_r0 c1_i32_187_r0
  let v208_r0 : BitVec 32 := Scalar.select v205_r0 v207_r0 arg12_r0
  let c_m1_i32_188_r0 : BitVec 32 := 4294967295#32
  let v209_r0 : BitVec 1 := Scalar.cmpi .eq v208_r0 c_m1_i32_188_r0
  let c3_i32_189_r0 : BitVec 32 := 3#32
  let v210_r0 : BitVec 32 := Scalar.select v209_r0 c3_i32_189_r0 v208_r0
  let c0_i32_190_r0 : BitVec 32 := 0#32
  let v211_r0 : BitVec 32 := Scalar.addi v210_r0 c0_i32_190_r0
  let v355_r0 : BitVec 32 := Scalar.addi c0_i32_275_r0 v211_r0
  let v356_r0 : BitVec 1 := Scalar.cmpi .ne v271_r0 v355_r0
  let c0_i32_84_r0 : BitVec 32 := 0#32
  let c1_i32_85_r0 : BitVec 32 := 1#32
  let arg5_r0 : BitVec 32 := Scf.iv c0_i32_84_r0 c1_i32_85_r0 k0_t1
  let c0_i32_176_r0 : BitVec 32 := 0#32
  let v194_r0 : BitVec 1 := Scalar.cmpi .eq arg5_r0 c0_i32_176_r0
  let v357_r0 : BitVec 1 := Scalar.ori v356_r0 v194_r0
  let c0_i32_276_r0 : BitVec 32 := 0#32
  let v358_r0 : BitVec 1 := Scalar.cmpi .sge arg5_r0 c0_i32_276_r0
  let v359_r0 : BitVec 1 := Scalar.andi v357_r0 v358_r0
  let v360_r0 : BitVec 32 := Scalar.extui v359_r0
  let c0_i32_277_r0 : BitVec 32 := 0#32
  let v361_r0 : BitVec 1 := Scalar.cmpi .ne v360_r0 c0_i32_277_r0
  v361_r0

def k0_off18 (arg9_r0 : BitVec 32) : Fin 3 → Nat :=
  let c2_i32_425_r0 : BitVec 32 := 2#32
  let v548_r0 : BitVec 32 := Scalar.remui arg9_r0 c2_i32_425_r0
  let c0_i32_426_r0 : BitVec 32 := 0#32
  let c0_i32_427_r0 : BitVec 32 := 0#32
  ![v548_r0.toNat, 0, 0]
def k0_off19 (arg12_r0 : BitVec 32) : Fin 2 → Nat :=
  let c0_i32_428_r0 : BitVec 32 := 0#32
  let c1024_i32_424_r0 : BitVec 32 := 1024#32
  let c0_i32_423_r0 : BitVec 32 := 0#32
  let c0_i32_177_r0 : BitVec 32 := 0#32
  let v196_r0 : BitVec 32 := Scalar.addi arg12_r0 c0_i32_177_r0
  let v546_r0 : BitVec 32 := Scalar.addi c0_i32_423_r0 v196_r0
  let v547_r0 : BitVec 32 := Scalar.muli c1024_i32_424_r0 v546_r0
  ![0, v547_r0.toNat]
def k0_off20 (arg9_r0 : BitVec 32) : Fin 3 → Nat :=
  let c2_i32_294_r0 : BitVec 32 := 2#32
  let v402_r0 : BitVec 32 := Scalar.remui arg9_r0 c2_i32_294_r0
  let v546_r0 : Index := Scalar.indexCast v402_r0
  let c0_423_r0 : Index := 0#32
  let c0_424_r0 : Index := 0#32
  ![v546_r0.toNat, 0, 0]
def k0_cond7 (arg13_r0 : BitVec 32) (arg14_r0 : BitVec 32) : BitVec 1 :=
  let c0_i32_178_r0 : BitVec 32 := 0#32
  let v197_r0 : BitVec 32 := Scalar.addi arg13_r0 c0_i32_178_r0
  let c0_i32_296_r0 : BitVec 32 := 0#32
  let v404_r0 : BitVec 1 := Scalar.cmpi .eq v197_r0 c0_i32_296_r0
  let c0_i32_179_r0 : BitVec 32 := 0#32
  let v198_r0 : BitVec 32 := Scalar.addi arg14_r0 c0_i32_179_r0
  let c0_i32_297_r0 : BitVec 32 := 0#32
  let v405_r0 : BitVec 1 := Scalar.cmpi .eq v198_r0 c0_i32_297_r0
  let v406_r0 : BitVec 1 := Scalar.andi v404_r0 v405_r0
  let v407_r0 : BitVec 32 := Scalar.extui v406_r0
  let c0_i32_298_r0 : BitVec 32 := 0#32
  let v408_r0 : BitVec 1 := Scalar.cmpi .ne v407_r0 c0_i32_298_r0
  v408_r0

def k0_off21 (arg7_r0 : BitVec 32) : Fin 4 → Nat :=
  let c3_i32_293_r0 : BitVec 32 := 3#32
  let v401_r0 : BitVec 32 := Scalar.remui arg7_r0 c3_i32_293_r0
  let c0_i32_299_r0 : BitVec 32 := 0#32
  let c0_i32_300_r0 : BitVec 32 := 0#32
  let c0_i32_301_r0 : BitVec 32 := 0#32
  ![v401_r0.toNat, 0, 0, 0]

def k0_chk2 (arg7_r0 : BitVec 32) : Prop :=
  (∀ a, (k0_off21 arg7_r0) a + S1x1x1024x2048.size a ≤ S3x1x1024x2048.size a)
theorem k0_off21_inb : ∀ (arg7_r0 : BitVec 32) (k0_hw2 : k0_chk2 arg7_r0), ∀ a, (k0_off21 arg7_r0) a + S1x1x1024x2048.size a ≤ S3x1x1024x2048.size a := fun arg7_r0 k0_hw2 => k0_hw2

def k0_off22 (arg10_r0 : BitVec 32) : Fin 7 → Nat :=
  let c2_i32_295_r0 : BitVec 32 := 2#32
  let v403_r0 : BitVec 32 := Scalar.remui arg10_r0 c2_i32_295_r0
  let c0_i32_306_r0 : BitVec 32 := 0#32
  let c0_i32_307_r0 : BitVec 32 := 0#32
  let c0_i32_308_r0 : BitVec 32 := 0#32
  let c0_i32_309_r0 : BitVec 32 := 0#32
  let c0_i32_310_r0 : BitVec 32 := 0#32
  let c0_i32_311_r0 : BitVec 32 := 0#32
  ![v403_r0.toNat, 0, 0, 0, 0, 0, 0]

def k0_off23 (arg10_r0 : BitVec 32) : Fin 7 → Nat :=
  let c2_i32_295_r0 : BitVec 32 := 2#32
  let v403_r0 : BitVec 32 := Scalar.remui arg10_r0 c2_i32_295_r0
  let c0_i32_306_r0 : BitVec 32 := 0#32
  let c0_i32_307_r0 : BitVec 32 := 0#32
  let c0_i32_308_r0 : BitVec 32 := 0#32
  let c0_i32_309_r0 : BitVec 32 := 0#32
  let c0_i32_310_r0 : BitVec 32 := 0#32
  let c0_i32_311_r0 : BitVec 32 := 0#32
  ![v403_r0.toNat, 0, 0, 0, 0, 0, 0]
def k0_off24 (arg10_r0 : BitVec 32) : Fin 7 → Nat :=
  let c2_i32_295_r0 : BitVec 32 := 2#32
  let v403_r0 : BitVec 32 := Scalar.remui arg10_r0 c2_i32_295_r0
  let c0_i32_318_r0 : BitVec 32 := 0#32
  let c0_i32_320_r0 : BitVec 32 := 0#32
  let c0_i32_321_r0 : BitVec 32 := 0#32
  let c0_i32_322_r0 : BitVec 32 := 0#32
  let c0_i32_323_r0 : BitVec 32 := 0#32
  ![v403_r0.toNat, 0, 1, 0, 0, 0, 0]
def k0_off25 (arg10_r0 : BitVec 32) : Fin 7 → Nat :=
  let c2_i32_295_r0 : BitVec 32 := 2#32
  let v403_r0 : BitVec 32 := Scalar.remui arg10_r0 c2_i32_295_r0
  let c0_i32_329_r0 : BitVec 32 := 0#32
  let c0_i32_331_r0 : BitVec 32 := 0#32
  let c0_i32_332_r0 : BitVec 32 := 0#32
  let c0_i32_333_r0 : BitVec 32 := 0#32
  let c0_i32_334_r0 : BitVec 32 := 0#32
  ![v403_r0.toNat, 0, 2, 0, 0, 0, 0]
def k0_off26 (arg10_r0 : BitVec 32) : Fin 7 → Nat :=
  let c2_i32_295_r0 : BitVec 32 := 2#32
  let v403_r0 : BitVec 32 := Scalar.remui arg10_r0 c2_i32_295_r0
  let c0_i32_340_r0 : BitVec 32 := 0#32
  let c0_i32_342_r0 : BitVec 32 := 0#32
  let c0_i32_343_r0 : BitVec 32 := 0#32
  let c0_i32_344_r0 : BitVec 32 := 0#32
  let c0_i32_345_r0 : BitVec 32 := 0#32
  ![v403_r0.toNat, 0, 3, 0, 0, 0, 0]
def k0_off27 (arg10_r0 : BitVec 32) : Fin 7 → Nat :=
  let c2_i32_295_r0 : BitVec 32 := 2#32
  let v403_r0 : BitVec 32 := Scalar.remui arg10_r0 c2_i32_295_r0
  let c0_i32_351_r0 : BitVec 32 := 0#32
  let c0_i32_353_r0 : BitVec 32 := 0#32
  let c0_i32_354_r0 : BitVec 32 := 0#32
  let c0_i32_355_r0 : BitVec 32 := 0#32
  let c0_i32_356_r0 : BitVec 32 := 0#32
  ![v403_r0.toNat, 0, 4, 0, 0, 0, 0]
def k0_off28 (arg10_r0 : BitVec 32) : Fin 7 → Nat :=
  let c2_i32_295_r0 : BitVec 32 := 2#32
  let v403_r0 : BitVec 32 := Scalar.remui arg10_r0 c2_i32_295_r0
  let c0_i32_362_r0 : BitVec 32 := 0#32
  let c0_i32_364_r0 : BitVec 32 := 0#32
  let c0_i32_365_r0 : BitVec 32 := 0#32
  let c0_i32_366_r0 : BitVec 32 := 0#32
  let c0_i32_367_r0 : BitVec 32 := 0#32
  ![v403_r0.toNat, 0, 5, 0, 0, 0, 0]
def k0_off29 (arg10_r0 : BitVec 32) : Fin 7 → Nat :=
  let c2_i32_295_r0 : BitVec 32 := 2#32
  let v403_r0 : BitVec 32 := Scalar.remui arg10_r0 c2_i32_295_r0
  let c0_i32_373_r0 : BitVec 32 := 0#32
  let c0_i32_375_r0 : BitVec 32 := 0#32
  let c0_i32_376_r0 : BitVec 32 := 0#32
  let c0_i32_377_r0 : BitVec 32 := 0#32
  let c0_i32_378_r0 : BitVec 32 := 0#32
  ![v403_r0.toNat, 0, 6, 0, 0, 0, 0]
def k0_off30 (arg10_r0 : BitVec 32) : Fin 7 → Nat :=
  let c2_i32_295_r0 : BitVec 32 := 2#32
  let v403_r0 : BitVec 32 := Scalar.remui arg10_r0 c2_i32_295_r0
  let c0_i32_384_r0 : BitVec 32 := 0#32
  let c0_i32_386_r0 : BitVec 32 := 0#32
  let c0_i32_387_r0 : BitVec 32 := 0#32
  let c0_i32_388_r0 : BitVec 32 := 0#32
  let c0_i32_389_r0 : BitVec 32 := 0#32
  ![v403_r0.toNat, 0, 7, 0, 0, 0, 0]

def k0_chk3 (arg10_r0 : BitVec 32) : Prop :=
  (∀ a, (k0_off22 arg10_r0) a + S1x1x8x1x1x1024x128.size a ≤ S2x1x8x1x1x1024x128.size a) ∧
  (∀ a, (k0_off23 arg10_r0) a + S1x1x1x1x1x1024x128.size a ≤ S2x1x8x1x1x1024x128.size a) ∧
  (∀ (hinb : ∀ a, (k0_off23 arg10_r0) a + S1x1x1x1x1x1024x128.size a ≤ S2x1x8x1x1x1024x128.size a), (Rect.unit (s := S2x1x8x1x1x1024x128) (k0_off23 arg10_r0) S1x1x1x1x1x1024x128.size hinb).PackedRows (EltTy.packing .bf16)) ∧
  (∀ a, (k0_off24 arg10_r0) a + S1x1x1x1x1x1024x128.size a ≤ S2x1x8x1x1x1024x128.size a) ∧
  (∀ (hinb : ∀ a, (k0_off24 arg10_r0) a + S1x1x1x1x1x1024x128.size a ≤ S2x1x8x1x1x1024x128.size a), (Rect.unit (s := S2x1x8x1x1x1024x128) (k0_off24 arg10_r0) S1x1x1x1x1x1024x128.size hinb).PackedRows (EltTy.packing .bf16)) ∧
  (∀ a, (k0_off25 arg10_r0) a + S1x1x1x1x1x1024x128.size a ≤ S2x1x8x1x1x1024x128.size a) ∧
  (∀ (hinb : ∀ a, (k0_off25 arg10_r0) a + S1x1x1x1x1x1024x128.size a ≤ S2x1x8x1x1x1024x128.size a), (Rect.unit (s := S2x1x8x1x1x1024x128) (k0_off25 arg10_r0) S1x1x1x1x1x1024x128.size hinb).PackedRows (EltTy.packing .bf16)) ∧
  (∀ a, (k0_off26 arg10_r0) a + S1x1x1x1x1x1024x128.size a ≤ S2x1x8x1x1x1024x128.size a) ∧
  (∀ (hinb : ∀ a, (k0_off26 arg10_r0) a + S1x1x1x1x1x1024x128.size a ≤ S2x1x8x1x1x1024x128.size a), (Rect.unit (s := S2x1x8x1x1x1024x128) (k0_off26 arg10_r0) S1x1x1x1x1x1024x128.size hinb).PackedRows (EltTy.packing .bf16)) ∧
  (∀ a, (k0_off27 arg10_r0) a + S1x1x1x1x1x1024x128.size a ≤ S2x1x8x1x1x1024x128.size a) ∧
  (∀ (hinb : ∀ a, (k0_off27 arg10_r0) a + S1x1x1x1x1x1024x128.size a ≤ S2x1x8x1x1x1024x128.size a), (Rect.unit (s := S2x1x8x1x1x1024x128) (k0_off27 arg10_r0) S1x1x1x1x1x1024x128.size hinb).PackedRows (EltTy.packing .bf16)) ∧
  (∀ a, (k0_off28 arg10_r0) a + S1x1x1x1x1x1024x128.size a ≤ S2x1x8x1x1x1024x128.size a) ∧
  (∀ (hinb : ∀ a, (k0_off28 arg10_r0) a + S1x1x1x1x1x1024x128.size a ≤ S2x1x8x1x1x1024x128.size a), (Rect.unit (s := S2x1x8x1x1x1024x128) (k0_off28 arg10_r0) S1x1x1x1x1x1024x128.size hinb).PackedRows (EltTy.packing .bf16)) ∧
  (∀ a, (k0_off29 arg10_r0) a + S1x1x1x1x1x1024x128.size a ≤ S2x1x8x1x1x1024x128.size a) ∧
  (∀ (hinb : ∀ a, (k0_off29 arg10_r0) a + S1x1x1x1x1x1024x128.size a ≤ S2x1x8x1x1x1024x128.size a), (Rect.unit (s := S2x1x8x1x1x1024x128) (k0_off29 arg10_r0) S1x1x1x1x1x1024x128.size hinb).PackedRows (EltTy.packing .bf16)) ∧
  (∀ a, (k0_off30 arg10_r0) a + S1x1x1x1x1x1024x128.size a ≤ S2x1x8x1x1x1024x128.size a) ∧
  (∀ (hinb : ∀ a, (k0_off30 arg10_r0) a + S1x1x1x1x1x1024x128.size a ≤ S2x1x8x1x1x1024x128.size a), (Rect.unit (s := S2x1x8x1x1x1024x128) (k0_off30 arg10_r0) S1x1x1x1x1x1024x128.size hinb).PackedRows (EltTy.packing .bf16))
theorem k0_off22_inb : ∀ (arg10_r0 : BitVec 32) (k0_hw3 : k0_chk3 arg10_r0), ∀ a, (k0_off22 arg10_r0) a + S1x1x8x1x1x1024x128.size a ≤ S2x1x8x1x1x1024x128.size a := fun arg10_r0 k0_hw3 => k0_hw3.1
theorem k0_off23_inb : ∀ (arg10_r0 : BitVec 32) (k0_hw3 : k0_chk3 arg10_r0), ∀ a, (k0_off23 arg10_r0) a + S1x1x1x1x1x1024x128.size a ≤ S2x1x8x1x1x1024x128.size a := fun arg10_r0 k0_hw3 => k0_hw3.2.1
theorem k0_off23_packedbf16 : ∀ (arg10_r0 : BitVec 32) (k0_hw3 : k0_chk3 arg10_r0), (Rect.unit (s := S2x1x8x1x1x1024x128) (k0_off23 arg10_r0) S1x1x1x1x1x1024x128.size (k0_off23_inb arg10_r0 k0_hw3)).PackedRows (EltTy.packing .bf16) := fun arg10_r0 k0_hw3 => k0_hw3.2.2.1 (k0_off23_inb arg10_r0 k0_hw3)
theorem k0_off24_inb : ∀ (arg10_r0 : BitVec 32) (k0_hw3 : k0_chk3 arg10_r0), ∀ a, (k0_off24 arg10_r0) a + S1x1x1x1x1x1024x128.size a ≤ S2x1x8x1x1x1024x128.size a := fun arg10_r0 k0_hw3 => k0_hw3.2.2.2.1
theorem k0_off24_packedbf16 : ∀ (arg10_r0 : BitVec 32) (k0_hw3 : k0_chk3 arg10_r0), (Rect.unit (s := S2x1x8x1x1x1024x128) (k0_off24 arg10_r0) S1x1x1x1x1x1024x128.size (k0_off24_inb arg10_r0 k0_hw3)).PackedRows (EltTy.packing .bf16) := fun arg10_r0 k0_hw3 => k0_hw3.2.2.2.2.1 (k0_off24_inb arg10_r0 k0_hw3)
theorem k0_off25_inb : ∀ (arg10_r0 : BitVec 32) (k0_hw3 : k0_chk3 arg10_r0), ∀ a, (k0_off25 arg10_r0) a + S1x1x1x1x1x1024x128.size a ≤ S2x1x8x1x1x1024x128.size a := fun arg10_r0 k0_hw3 => k0_hw3.2.2.2.2.2.1
theorem k0_off25_packedbf16 : ∀ (arg10_r0 : BitVec 32) (k0_hw3 : k0_chk3 arg10_r0), (Rect.unit (s := S2x1x8x1x1x1024x128) (k0_off25 arg10_r0) S1x1x1x1x1x1024x128.size (k0_off25_inb arg10_r0 k0_hw3)).PackedRows (EltTy.packing .bf16) := fun arg10_r0 k0_hw3 => k0_hw3.2.2.2.2.2.2.1 (k0_off25_inb arg10_r0 k0_hw3)
theorem k0_off26_inb : ∀ (arg10_r0 : BitVec 32) (k0_hw3 : k0_chk3 arg10_r0), ∀ a, (k0_off26 arg10_r0) a + S1x1x1x1x1x1024x128.size a ≤ S2x1x8x1x1x1024x128.size a := fun arg10_r0 k0_hw3 => k0_hw3.2.2.2.2.2.2.2.1
theorem k0_off26_packedbf16 : ∀ (arg10_r0 : BitVec 32) (k0_hw3 : k0_chk3 arg10_r0), (Rect.unit (s := S2x1x8x1x1x1024x128) (k0_off26 arg10_r0) S1x1x1x1x1x1024x128.size (k0_off26_inb arg10_r0 k0_hw3)).PackedRows (EltTy.packing .bf16) := fun arg10_r0 k0_hw3 => k0_hw3.2.2.2.2.2.2.2.2.1 (k0_off26_inb arg10_r0 k0_hw3)
theorem k0_off27_inb : ∀ (arg10_r0 : BitVec 32) (k0_hw3 : k0_chk3 arg10_r0), ∀ a, (k0_off27 arg10_r0) a + S1x1x1x1x1x1024x128.size a ≤ S2x1x8x1x1x1024x128.size a := fun arg10_r0 k0_hw3 => k0_hw3.2.2.2.2.2.2.2.2.2.1
theorem k0_off27_packedbf16 : ∀ (arg10_r0 : BitVec 32) (k0_hw3 : k0_chk3 arg10_r0), (Rect.unit (s := S2x1x8x1x1x1024x128) (k0_off27 arg10_r0) S1x1x1x1x1x1024x128.size (k0_off27_inb arg10_r0 k0_hw3)).PackedRows (EltTy.packing .bf16) := fun arg10_r0 k0_hw3 => k0_hw3.2.2.2.2.2.2.2.2.2.2.1 (k0_off27_inb arg10_r0 k0_hw3)
theorem k0_off28_inb : ∀ (arg10_r0 : BitVec 32) (k0_hw3 : k0_chk3 arg10_r0), ∀ a, (k0_off28 arg10_r0) a + S1x1x1x1x1x1024x128.size a ≤ S2x1x8x1x1x1024x128.size a := fun arg10_r0 k0_hw3 => k0_hw3.2.2.2.2.2.2.2.2.2.2.2.1
theorem k0_off28_packedbf16 : ∀ (arg10_r0 : BitVec 32) (k0_hw3 : k0_chk3 arg10_r0), (Rect.unit (s := S2x1x8x1x1x1024x128) (k0_off28 arg10_r0) S1x1x1x1x1x1024x128.size (k0_off28_inb arg10_r0 k0_hw3)).PackedRows (EltTy.packing .bf16) := fun arg10_r0 k0_hw3 => k0_hw3.2.2.2.2.2.2.2.2.2.2.2.2.1 (k0_off28_inb arg10_r0 k0_hw3)
theorem k0_off29_inb : ∀ (arg10_r0 : BitVec 32) (k0_hw3 : k0_chk3 arg10_r0), ∀ a, (k0_off29 arg10_r0) a + S1x1x1x1x1x1024x128.size a ≤ S2x1x8x1x1x1024x128.size a := fun arg10_r0 k0_hw3 => k0_hw3.2.2.2.2.2.2.2.2.2.2.2.2.2.1
theorem k0_off29_packedbf16 : ∀ (arg10_r0 : BitVec 32) (k0_hw3 : k0_chk3 arg10_r0), (Rect.unit (s := S2x1x8x1x1x1024x128) (k0_off29 arg10_r0) S1x1x1x1x1x1024x128.size (k0_off29_inb arg10_r0 k0_hw3)).PackedRows (EltTy.packing .bf16) := fun arg10_r0 k0_hw3 => k0_hw3.2.2.2.2.2.2.2.2.2.2.2.2.2.2.1 (k0_off29_inb arg10_r0 k0_hw3)
theorem k0_off30_inb : ∀ (arg10_r0 : BitVec 32) (k0_hw3 : k0_chk3 arg10_r0), ∀ a, (k0_off30 arg10_r0) a + S1x1x1x1x1x1024x128.size a ≤ S2x1x8x1x1x1024x128.size a := fun arg10_r0 k0_hw3 => k0_hw3.2.2.2.2.2.2.2.2.2.2.2.2.2.2.2.1
theorem k0_off30_packedbf16 : ∀ (arg10_r0 : BitVec 32) (k0_hw3 : k0_chk3 arg10_r0), (Rect.unit (s := S2x1x8x1x1x1024x128) (k0_off30 arg10_r0) S1x1x1x1x1x1024x128.size (k0_off30_inb arg10_r0 k0_hw3)).PackedRows (EltTy.packing .bf16) := fun arg10_r0 k0_hw3 => k0_hw3.2.2.2.2.2.2.2.2.2.2.2.2.2.2.2.2 (k0_off30_inb arg10_r0 k0_hw3)

def k0_off31 (arg10_r0 : BitVec 32) : Fin 1 → Nat :=
  let c2_i32_423_r0 : BitVec 32 := 2#32
  let v546_r0 : BitVec 32 := Scalar.remui arg10_r0 c2_i32_423_r0
  ![v546_r0.toNat]
def k0_cond10 (k0_t1 : Fin k0_t1_loop.trips) (arg12_r0 : BitVec 32) (arg13_r0 : BitVec 32) (arg14_r0 : BitVec 32) : BitVec 1 :=
  let c0_i32_178_r0 : BitVec 32 := 0#32
  let v197_r0 : BitVec 32 := Scalar.addi arg13_r0 c0_i32_178_r0
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c0_i32_199_r0 : BitVec 32 := 0#32
  let v221_r0 : BitVec 32 := Scalar.select v220_r0 c0_i32_199_r0 v219_r0
  let c0_i32_204_r0 : BitVec 32 := 0#32
  let v227_r0 : BitVec 32 := Scalar.addi v221_r0 c0_i32_204_r0
  let v483_r0 : BitVec 1 := Scalar.cmpi .ne v197_r0 v227_r0
  let c0_i32_177_r0 : BitVec 32 := 0#32
  let v196_r0 : BitVec 32 := Scalar.addi arg12_r0 c0_i32_177_r0
  let c2_i32_245_r0 : BitVec 32 := 2#32
  let c0_i32_246_r0 : BitVec 32 := 0#32
  let v283_r0 : BitVec 1 := Scalar.cmpi .eq c2_i32_245_r0 c0_i32_246_r0
  let c1_i32_247_r0 : BitVec 32 := 1#32
  let v284_r0 : BitVec 32 := Scalar.select v283_r0 c1_i32_247_r0 c2_i32_245_r0
  let v285_r0 : BitVec 32 := Scalar.remsi v196_r0 v284_r0
  let c0_i32_249_r0 : BitVec 32 := 0#32
  let v287_r0 : BitVec 1 := Scalar.cmpi .slt v285_r0 c0_i32_249_r0
  let c0_i32_250_r0 : BitVec 32 := 0#32
  let v288_r0 : BitVec 1 := Scalar.cmpi .slt v284_r0 c0_i32_250_r0
  let v289_r0 : BitVec 1 := Scalar.xori v287_r0 v288_r0
  let c0_i32_248_r0 : BitVec 32 := 0#32
  let v286_r0 : BitVec 1 := Scalar.cmpi .ne v285_r0 c0_i32_248_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_200_r0 : BitVec 32 := 1#32
  let v222_r0 : BitVec 32 := Scalar.addi arg12_r0 c1_i32_200_r0
  let v223_r0 : BitVec 32 := Scalar.select v220_r0 v222_r0 arg12_r0
  let c4_i32_201_r0 : BitVec 32 := 4#32
  let v224_r0 : BitVec 1 := Scalar.cmpi .eq v223_r0 c4_i32_201_r0
  let c0_i32_202_r0 : BitVec 32 := 0#32
  let v225_r0 : BitVec 32 := Scalar.select v224_r0 c0_i32_202_r0 v223_r0
  let c0_i32_203_r0 : BitVec 32 := 0#32
  let v226_r0 : BitVec 32 := Scalar.addi v225_r0 c0_i32_203_r0
  let c2_i32_258_r0 : BitVec 32 := 2#32
  let c0_i32_259_r0 : BitVec 32 := 0#32
  let v310_r0 : BitVec 1 := Scalar.cmpi .eq c2_i32_258_r0 c0_i32_259_r0
  let c1_i32_260_r0 : BitVec 32 := 1#32
  let v311_r0 : BitVec 32 := Scalar.select v310_r0 c1_i32_260_r0 c2_i32_258_r0
  let v312_r0 : BitVec 32 := Scalar.remsi v226_r0 v311_r0
  let c0_i32_262_r0 : BitVec 32 := 0#32
  let v314_r0 : BitVec 1 := Scalar.cmpi .slt v312_r0 c0_i32_262_r0
  let c0_i32_263_r0 : BitVec 32 := 0#32
  let v315_r0 : BitVec 1 := Scalar.cmpi .slt v311_r0 c0_i32_263_r0
  let v316_r0 : BitVec 1 := Scalar.xori v314_r0 v315_r0
  let c0_i32_261_r0 : BitVec 32 := 0#32
  let v313_r0 : BitVec 1 := Scalar.cmpi .ne v312_r0 c0_i32_261_r0
  let v317_r0 : BitVec 1 := Scalar.andi v316_r0 v313_r0
  let v318_r0 : BitVec 32 := Scalar.addi v312_r0 v311_r0
  let v319_r0 : BitVec 32 := Scalar.select v317_r0 v318_r0 v312_r0
  let v484_r0 : BitVec 1 := Scalar.cmpi .ne v292_r0 v319_r0
  let v487_r0 : BitVec 1 := Scalar.ori v483_r0 v484_r0
  let c0_i32_252_r0 : BitVec 32 := 0#32
  let v294_r0 : BitVec 1 := Scalar.cmpi .sgt v196_r0 c0_i32_252_r0
  let v295_r0 : BitVec 32 := Scalar.extui v294_r0
  let c0_i32_253_r0 : BitVec 32 := 0#32
  let v296_r0 : BitVec 1 := Scalar.cmpi .slt v196_r0 c0_i32_253_r0
  let v297_r0 : BitVec 32 := Scalar.extui v296_r0
  let v298_r0 : BitVec 32 := Scalar.subi v295_r0 v297_r0
  let c2_i32_251_r0 : BitVec 32 := 2#32
  let c0_i32_254_r0 : BitVec 32 := 0#32
  let v299_r0 : BitVec 1 := Scalar.cmpi .sgt c2_i32_251_r0 c0_i32_254_r0
  let v300_r0 : BitVec 32 := Scalar.extui v299_r0
  let c0_i32_255_r0 : BitVec 32 := 0#32
  let v301_r0 : BitVec 1 := Scalar.cmpi .slt c2_i32_251_r0 c0_i32_255_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_251_r0
  let c0_i32_256_r0 : BitVec 32 := 0#32
  let v306_r0 : BitVec 1 := Scalar.cmpi .ne v305_r0 c0_i32_256_r0
  let v307_r0 : BitVec 1 := Scalar.andi v304_r0 v306_r0
  let v293_r0 : BitVec 32 := Scalar.divsi v196_r0 c2_i32_251_r0
  let c1_i32_257_r0 : BitVec 32 := 1#32
  let v308_r0 : BitVec 32 := Scalar.subi v293_r0 c1_i32_257_r0
  let v309_r0 : BitVec 32 := Scalar.select v307_r0 v308_r0 v293_r0
  let c0_i32_265_r0 : BitVec 32 := 0#32
  let v321_r0 : BitVec 1 := Scalar.cmpi .sgt v226_r0 c0_i32_265_r0
  let v322_r0 : BitVec 32 := Scalar.extui v321_r0
  let c0_i32_266_r0 : BitVec 32 := 0#32
  let v323_r0 : BitVec 1 := Scalar.cmpi .slt v226_r0 c0_i32_266_r0
  let v324_r0 : BitVec 32 := Scalar.extui v323_r0
  let v325_r0 : BitVec 32 := Scalar.subi v322_r0 v324_r0
  let c2_i32_264_r0 : BitVec 32 := 2#32
  let c0_i32_267_r0 : BitVec 32 := 0#32
  let v326_r0 : BitVec 1 := Scalar.cmpi .sgt c2_i32_264_r0 c0_i32_267_r0
  let v327_r0 : BitVec 32 := Scalar.extui v326_r0
  let c0_i32_268_r0 : BitVec 32 := 0#32
  let v328_r0 : BitVec 1 := Scalar.cmpi .slt c2_i32_264_r0 c0_i32_268_r0
  let v329_r0 : BitVec 32 := Scalar.extui v328_r0
  let v330_r0 : BitVec 32 := Scalar.subi v327_r0 v329_r0
  let v331_r0 : BitVec 1 := Scalar.cmpi .ne v325_r0 v330_r0
  let v332_r0 : BitVec 32 := Scalar.remsi v226_r0 c2_i32_264_r0
  let c0_i32_269_r0 : BitVec 32 := 0#32
  let v333_r0 : BitVec 1 := Scalar.cmpi .ne v332_r0 c0_i32_269_r0
  let v334_r0 : BitVec 1 := Scalar.andi v331_r0 v333_r0
  let v320_r0 : BitVec 32 := Scalar.divsi v226_r0 c2_i32_264_r0
  let c1_i32_270_r0 : BitVec 32 := 1#32
  let v335_r0 : BitVec 32 := Scalar.subi v320_r0 c1_i32_270_r0
  let v336_r0 : BitVec 32 := Scalar.select v334_r0 v335_r0 v320_r0
  let v485_r0 : BitVec 1 := Scalar.cmpi .ne v309_r0 v336_r0
  let v488_r0 : BitVec 1 := Scalar.ori v487_r0 v485_r0
  let c0_i32_179_r0 : BitVec 32 := 0#32
  let v198_r0 : BitVec 32 := Scalar.addi arg14_r0 c0_i32_179_r0
  let c0_i32_196_r0 : BitVec 32 := 0#32
  let v217_r0 : BitVec 32 := Scalar.select v216_r0 c0_i32_196_r0 v215_r0
  let c0_i32_205_r0 : BitVec 32 := 0#32
  let v228_r0 : BitVec 32 := Scalar.addi v217_r0 c0_i32_205_r0
  let v486_r0 : BitVec 1 := Scalar.cmpi .ne v198_r0 v228_r0
  let v489_r0 : BitVec 1 := Scalar.ori v488_r0 v486_r0
  let c0_i32_84_r0 : BitVec 32 := 0#32
  let c1_i32_85_r0 : BitVec 32 := 1#32
  let arg5_r0 : BitVec 32 := Scf.iv c0_i32_84_r0 c1_i32_85_r0 k0_t1
  let c31_i32_r0 : BitVec 32 := 31#32
  let v195_r0 : BitVec 1 := Scalar.cmpi .eq arg5_r0 c31_i32_r0
  let v490_r0 : BitVec 1 := Scalar.ori v489_r0 v195_r0
  let v491_r0 : BitVec 32 := Scalar.extui v490_r0
  let c0_i32_398_r0 : BitVec 32 := 0#32
  let v492_r0 : BitVec 1 := Scalar.cmpi .ne v491_r0 c0_i32_398_r0
  v492_r0

def k0_off32 (arg12_r0 : BitVec 32) (arg13_r0 : BitVec 32) (arg14_r0 : BitVec 32) : Fin 6 → Nat :=
  let c1_i32_437_r0 : BitVec 32 := 1#32
  let c0_i32_178_r0 : BitVec 32 := 0#32
  let v197_r0 : BitVec 32 := Scalar.addi arg13_r0 c0_i32_178_r0
  let v574_r0 : BitVec 32 := Scalar.muli c1_i32_437_r0 v197_r0
  let c8_i32_438_r0 : BitVec 32 := 8#32
  let c0_i32_177_r0 : BitVec 32 := 0#32
  let v196_r0 : BitVec 32 := Scalar.addi arg12_r0 c0_i32_177_r0
  let c2_i32_424_r0 : BitVec 32 := 2#32
  let c0_i32_425_r0 : BitVec 32 := 0#32
  let v547_r0 : BitVec 1 := Scalar.cmpi .eq c2_i32_424_r0 c0_i32_425_r0
  let c1_i32_426_r0 : BitVec 32 := 1#32
  let v548_r0 : BitVec 32 := Scalar.select v547_r0 c1_i32_426_r0 c2_i32_424_r0
  let v549_r0 : BitVec 32 := Scalar.remsi v196_r0 v548_r0
  let c0_i32_428_r0 : BitVec 32 := 0#32
  let v551_r0 : BitVec 1 := Scalar.cmpi .slt v549_r0 c0_i32_428_r0
  let c0_i32_429_r0 : BitVec 32 := 0#32
  let v552_r0 : BitVec 1 := Scalar.cmpi .slt v548_r0 c0_i32_429_r0
  let v553_r0 : BitVec 1 := Scalar.xori v551_r0 v552_r0
  let c0_i32_427_r0 : BitVec 32 := 0#32
  let v550_r0 : BitVec 1 := Scalar.cmpi .ne v549_r0 c0_i32_427_r0
  let v554_r0 : BitVec 1 := Scalar.andi v553_r0 v550_r0
  let v555_r0 : BitVec 32 := Scalar.addi v549_r0 v548_r0
  let v556_r0 : BitVec 32 := Scalar.select v554_r0 v555_r0 v549_r0
  let v575_r0 : BitVec 32 := Scalar.muli c8_i32_438_r0 v556_r0
  let c1_i32_439_r0 : BitVec 32 := 1#32
  let c0_i32_431_r0 : BitVec 32 := 0#32
  let v558_r0 : BitVec 1 := Scalar.cmpi .sgt v196_r0 c0_i32_431_r0
  let v559_r0 : BitVec 32 := Scalar.extui v558_r0
  let c0_i32_432_r0 : BitVec 32 := 0#32
  let v560_r0 : BitVec 1 := Scalar.cmpi .slt v196_r0 c0_i32_432_r0
  let v561_r0 : BitVec 32 := Scalar.extui v560_r0
  let v562_r0 : BitVec 32 := Scalar.subi v559_r0 v561_r0
  let c2_i32_430_r0 : BitVec 32 := 2#32
  let c0_i32_433_r0 : BitVec 32 := 0#32
  let v563_r0 : BitVec 1 := Scalar.cmpi .sgt c2_i32_430_r0 c0_i32_433_r0
  let v564_r0 : BitVec 32 := Scalar.extui v563_r0
  let c0_i32_434_r0 : BitVec 32 := 0#32
  let v565_r0 : BitVec 1 := Scalar.cmpi .slt c2_i32_430_r0 c0_i32_434_r0
  let v566_r0 : BitVec 32 := Scalar.extui v565_r0
  let v567_r0 : BitVec 32 := Scalar.subi v564_r0 v566_r0
  let v568_r0 : BitVec 1 := Scalar.cmpi .ne v562_r0 v567_r0
  let v569_r0 : BitVec 32 := Scalar.remsi v196_r0 c2_i32_430_r0
  let c0_i32_435_r0 : BitVec 32 := 0#32
  let v570_r0 : BitVec 1 := Scalar.cmpi .ne v569_r0 c0_i32_435_r0
  let v571_r0 : BitVec 1 := Scalar.andi v568_r0 v570_r0
  let v557_r0 : BitVec 32 := Scalar.divsi v196_r0 c2_i32_430_r0
  let c1_i32_436_r0 : BitVec 32 := 1#32
  let v572_r0 : BitVec 32 := Scalar.subi v557_r0 c1_i32_436_r0
  let v573_r0 : BitVec 32 := Scalar.select v571_r0 v572_r0 v557_r0
  let v576_r0 : BitVec 32 := Scalar.muli c1_i32_439_r0 v573_r0
  let c0_i32_441_r0 : BitVec 32 := 0#32
  let c1024_i32_440_r0 : BitVec 32 := 1024#32
  let c0_i32_179_r0 : BitVec 32 := 0#32
  let v198_r0 : BitVec 32 := Scalar.addi arg14_r0 c0_i32_179_r0
  let v577_r0 : BitVec 32 := Scalar.muli c1024_i32_440_r0 v198_r0
  let c0_i32_442_r0 : BitVec 32 := 0#32
  ![v574_r0.toNat, v575_r0.toNat, v576_r0.toNat, 0, v577_r0.toNat, 0]
def k0_off33 (arg10_r0 : BitVec 32) : Fin 7 → Nat :=
  let c2_i32_423_r0 : BitVec 32 := 2#32
  let v546_r0 : BitVec 32 := Scalar.remui arg10_r0 c2_i32_423_r0
  let c0_i32_443_r0 : BitVec 32 := 0#32
  let c0_i32_444_r0 : BitVec 32 := 0#32
  let c0_i32_445_r0 : BitVec 32 := 0#32
  let c0_i32_446_r0 : BitVec 32 := 0#32
  let c0_i32_447_r0 : BitVec 32 := 0#32
  let c0_i32_448_r0 : BitVec 32 := 0#32
  ![v546_r0.toNat, 0, 0, 0, 0, 0, 0]
def k0_off34 (arg11_r0 : BitVec 32) : Fin 1 → Nat :=
  let c2_i32_423_r0 : BitVec 32 := 2#32
  let v546_r0 : BitVec 32 := Scalar.remui arg11_r0 c2_i32_423_r0
  ![v546_r0.toNat]
def k0_cond13 (k0_t1 : Fin k0_t1_loop.trips) (arg12_r0 : BitVec 32) (arg13_r0 : BitVec 32) (arg14_r0 : BitVec 32) : BitVec 1 :=
  let c0_i32_178_r0 : BitVec 32 := 0#32
  let v197_r0 : BitVec 32 := Scalar.addi arg13_r0 c0_i32_178_r0
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_186_r0 : BitVec 32 := 1#32
  let v206_r0 : BitVec 32 := Scalar.select v205_r0 c1_i32_186_r0 v204_r0
  let c0_i32_191_r0 : BitVec 32 := 0#32
  let v212_r0 : BitVec 32 := Scalar.addi v206_r0 c0_i32_191_r0
  let v510_r0 : BitVec 1 := Scalar.cmpi .ne v197_r0 v212_r0
  let c0_i32_177_r0 : BitVec 32 := 0#32
  let v196_r0 : BitVec 32 := Scalar.addi arg12_r0 c0_i32_177_r0
  let c2_i32_245_r0 : BitVec 32 := 2#32
  let c0_i32_246_r0 : BitVec 32 := 0#32
  let v283_r0 : BitVec 1 := Scalar.cmpi .eq c2_i32_245_r0 c0_i32_246_r0
  let c1_i32_247_r0 : BitVec 32 := 1#32
  let v284_r0 : BitVec 32 := Scalar.select v283_r0 c1_i32_247_r0 c2_i32_245_r0
  let v285_r0 : BitVec 32 := Scalar.remsi v196_r0 v284_r0
  let c0_i32_249_r0 : BitVec 32 := 0#32
  let v287_r0 : BitVec 1 := Scalar.cmpi .slt v285_r0 c0_i32_249_r0
  let c0_i32_250_r0 : BitVec 32 := 0#32
  let v288_r0 : BitVec 1 := Scalar.cmpi .slt v284_r0 c0_i32_250_r0
  let v289_r0 : BitVec 1 := Scalar.xori v287_r0 v288_r0
  let c0_i32_248_r0 : BitVec 32 := 0#32
  let v286_r0 : BitVec 1 := Scalar.cmpi .ne v285_r0 c0_i32_248_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_187_r0 : BitVec 32 := 1#32
  let v207_r0 : BitVec 32 := Scalar.subi arg12_r0 c1_i32_187_r0
  let v208_r0 : BitVec 32 := Scalar.select v205_r0 v207_r0 arg12_r0
  let c_m1_i32_188_r0 : BitVec 32 := 4294967295#32
  let v209_r0 : BitVec 1 := Scalar.cmpi .eq v208_r0 c_m1_i32_188_r0
  let c3_i32_189_r0 : BitVec 32 := 3#32
  let v210_r0 : BitVec 32 := Scalar.select v209_r0 c3_i32_189_r0 v208_r0
  let c0_i32_190_r0 : BitVec 32 := 0#32
  let v211_r0 : BitVec 32 := Scalar.addi v210_r0 c0_i32_190_r0
  let c2_i32_278_r0 : BitVec 32 := 2#32
  let c0_i32_279_r0 : BitVec 32 := 0#32
  let v362_r0 : BitVec 1 := Scalar.cmpi .eq c2_i32_278_r0 c0_i32_279_r0
  let c1_i32_280_r0 : BitVec 32 := 1#32
  let v363_r0 : BitVec 32 := Scalar.select v362_r0 c1_i32_280_r0 c2_i32_278_r0
  let v364_r0 : BitVec 32 := Scalar.remsi v211_r0 v363_r0
  let c0_i32_282_r0 : BitVec 32 := 0#32
  let v366_r0 : BitVec 1 := Scalar.cmpi .slt v364_r0 c0_i32_282_r0
  let c0_i32_283_r0 : BitVec 32 := 0#32
  let v367_r0 : BitVec 1 := Scalar.cmpi .slt v363_r0 c0_i32_283_r0
  let v368_r0 : BitVec 1 := Scalar.xori v366_r0 v367_r0
  let c0_i32_281_r0 : BitVec 32 := 0#32
  let v365_r0 : BitVec 1 := Scalar.cmpi .ne v364_r0 c0_i32_281_r0
  let v369_r0 : BitVec 1 := Scalar.andi v368_r0 v365_r0
  let v370_r0 : BitVec 32 := Scalar.addi v364_r0 v363_r0
  let v371_r0 : BitVec 32 := Scalar.select v369_r0 v370_r0 v364_r0
  let v511_r0 : BitVec 1 := Scalar.cmpi .ne v292_r0 v371_r0
  let v514_r0 : BitVec 1 := Scalar.ori v510_r0 v511_r0
  let c0_i32_252_r0 : BitVec 32 := 0#32
  let v294_r0 : BitVec 1 := Scalar.cmpi .sgt v196_r0 c0_i32_252_r0
  let v295_r0 : BitVec 32 := Scalar.extui v294_r0
  let c0_i32_253_r0 : BitVec 32 := 0#32
  let v296_r0 : BitVec 1 := Scalar.cmpi .slt v196_r0 c0_i32_253_r0
  let v297_r0 : BitVec 32 := Scalar.extui v296_r0
  let v298_r0 : BitVec 32 := Scalar.subi v295_r0 v297_r0
  let c2_i32_251_r0 : BitVec 32 := 2#32
  let c0_i32_254_r0 : BitVec 32 := 0#32
  let v299_r0 : BitVec 1 := Scalar.cmpi .sgt c2_i32_251_r0 c0_i32_254_r0
  let v300_r0 : BitVec 32 := Scalar.extui v299_r0
  let c0_i32_255_r0 : BitVec 32 := 0#32
  let v301_r0 : BitVec 1 := Scalar.cmpi .slt c2_i32_251_r0 c0_i32_255_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_251_r0
  let c0_i32_256_r0 : BitVec 32 := 0#32
  let v306_r0 : BitVec 1 := Scalar.cmpi .ne v305_r0 c0_i32_256_r0
  let v307_r0 : BitVec 1 := Scalar.andi v304_r0 v306_r0
  let v293_r0 : BitVec 32 := Scalar.divsi v196_r0 c2_i32_251_r0
  let c1_i32_257_r0 : BitVec 32 := 1#32
  let v308_r0 : BitVec 32 := Scalar.subi v293_r0 c1_i32_257_r0
  let v309_r0 : BitVec 32 := Scalar.select v307_r0 v308_r0 v293_r0
  let c0_i32_285_r0 : BitVec 32 := 0#32
  let v373_r0 : BitVec 1 := Scalar.cmpi .sgt v211_r0 c0_i32_285_r0
  let v374_r0 : BitVec 32 := Scalar.extui v373_r0
  let c0_i32_286_r0 : BitVec 32 := 0#32
  let v375_r0 : BitVec 1 := Scalar.cmpi .slt v211_r0 c0_i32_286_r0
  let v376_r0 : BitVec 32 := Scalar.extui v375_r0
  let v377_r0 : BitVec 32 := Scalar.subi v374_r0 v376_r0
  let c2_i32_284_r0 : BitVec 32 := 2#32
  let c0_i32_287_r0 : BitVec 32 := 0#32
  let v378_r0 : BitVec 1 := Scalar.cmpi .sgt c2_i32_284_r0 c0_i32_287_r0
  let v379_r0 : BitVec 32 := Scalar.extui v378_r0
  let c0_i32_288_r0 : BitVec 32 := 0#32
  let v380_r0 : BitVec 1 := Scalar.cmpi .slt c2_i32_284_r0 c0_i32_288_r0
  let v381_r0 : BitVec 32 := Scalar.extui v380_r0
  let v382_r0 : BitVec 32 := Scalar.subi v379_r0 v381_r0
  let v383_r0 : BitVec 1 := Scalar.cmpi .ne v377_r0 v382_r0
  let v384_r0 : BitVec 32 := Scalar.remsi v211_r0 c2_i32_284_r0
  let c0_i32_289_r0 : BitVec 32 := 0#32
  let v385_r0 : BitVec 1 := Scalar.cmpi .ne v384_r0 c0_i32_289_r0
  let v386_r0 : BitVec 1 := Scalar.andi v383_r0 v385_r0
  let v372_r0 : BitVec 32 := Scalar.divsi v211_r0 c2_i32_284_r0
  let c1_i32_290_r0 : BitVec 32 := 1#32
  let v387_r0 : BitVec 32 := Scalar.subi v372_r0 c1_i32_290_r0
  let v388_r0 : BitVec 32 := Scalar.select v386_r0 v387_r0 v372_r0
  let v512_r0 : BitVec 1 := Scalar.cmpi .ne v309_r0 v388_r0
  let v515_r0 : BitVec 1 := Scalar.ori v514_r0 v512_r0
  let c0_i32_179_r0 : BitVec 32 := 0#32
  let v198_r0 : BitVec 32 := Scalar.addi arg14_r0 c0_i32_179_r0
  let c3_i32_183_r0 : BitVec 32 := 3#32
  let v202_r0 : BitVec 32 := Scalar.select v201_r0 c3_i32_183_r0 v200_r0
  let c0_i32_192_r0 : BitVec 32 := 0#32
  let v213_r0 : BitVec 32 := Scalar.addi v202_r0 c0_i32_192_r0
  let v513_r0 : BitVec 1 := Scalar.cmpi .ne v198_r0 v213_r0
  let v516_r0 : BitVec 1 := Scalar.ori v515_r0 v513_r0
  let c0_i32_84_r0 : BitVec 32 := 0#32
  let c1_i32_85_r0 : BitVec 32 := 1#32
  let arg5_r0 : BitVec 32 := Scf.iv c0_i32_84_r0 c1_i32_85_r0 k0_t1
  let c0_i32_176_r0 : BitVec 32 := 0#32
  let v194_r0 : BitVec 1 := Scalar.cmpi .eq arg5_r0 c0_i32_176_r0
  let true_407_r0 : BitVec 1 := 1#1
  let v517_r0 : BitVec 1 := Scalar.xori v194_r0 true_407_r0
  let v518_r0 : BitVec 1 := Scalar.andi v516_r0 v517_r0
  let v519_r0 : BitVec 32 := Scalar.extui v518_r0
  let c0_i32_408_r0 : BitVec 32 := 0#32
  let v520_r0 : BitVec 1 := Scalar.cmpi .ne v519_r0 c0_i32_408_r0
  v520_r0

def k0_off35 (arg12_r0 : BitVec 32) (arg13_r0 : BitVec 32) (arg14_r0 : BitVec 32) : Fin 6 → Nat :=
  let c1_i32_437_r0 : BitVec 32 := 1#32
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_186_r0 : BitVec 32 := 1#32
  let v206_r0 : BitVec 32 := Scalar.select v205_r0 c1_i32_186_r0 v204_r0
  let c0_i32_191_r0 : BitVec 32 := 0#32
  let v212_r0 : BitVec 32 := Scalar.addi v206_r0 c0_i32_191_r0
  let v574_r0 : BitVec 32 := Scalar.muli c1_i32_437_r0 v212_r0
  let c8_i32_438_r0 : BitVec 32 := 8#32
  let c1_i32_187_r0 : BitVec 32 := 1#32
  let v207_r0 : BitVec 32 := Scalar.subi arg12_r0 c1_i32_187_r0
  let v208_r0 : BitVec 32 := Scalar.select v205_r0 v207_r0 arg12_r0
  let c_m1_i32_188_r0 : BitVec 32 := 4294967295#32
  let v209_r0 : BitVec 1 := Scalar.cmpi .eq v208_r0 c_m1_i32_188_r0
  let c3_i32_189_r0 : BitVec 32 := 3#32
  let v210_r0 : BitVec 32 := Scalar.select v209_r0 c3_i32_189_r0 v208_r0
  let c0_i32_190_r0 : BitVec 32 := 0#32
  let v211_r0 : BitVec 32 := Scalar.addi v210_r0 c0_i32_190_r0
  let c2_i32_424_r0 : BitVec 32 := 2#32
  let c0_i32_425_r0 : BitVec 32 := 0#32
  let v547_r0 : BitVec 1 := Scalar.cmpi .eq c2_i32_424_r0 c0_i32_425_r0
  let c1_i32_426_r0 : BitVec 32 := 1#32
  let v548_r0 : BitVec 32 := Scalar.select v547_r0 c1_i32_426_r0 c2_i32_424_r0
  let v549_r0 : BitVec 32 := Scalar.remsi v211_r0 v548_r0
  let c0_i32_428_r0 : BitVec 32 := 0#32
  let v551_r0 : BitVec 1 := Scalar.cmpi .slt v549_r0 c0_i32_428_r0
  let c0_i32_429_r0 : BitVec 32 := 0#32
  let v552_r0 : BitVec 1 := Scalar.cmpi .slt v548_r0 c0_i32_429_r0
  let v553_r0 : BitVec 1 := Scalar.xori v551_r0 v552_r0
  let c0_i32_427_r0 : BitVec 32 := 0#32
  let v550_r0 : BitVec 1 := Scalar.cmpi .ne v549_r0 c0_i32_427_r0
  let v554_r0 : BitVec 1 := Scalar.andi v553_r0 v550_r0
  let v555_r0 : BitVec 32 := Scalar.addi v549_r0 v548_r0
  let v556_r0 : BitVec 32 := Scalar.select v554_r0 v555_r0 v549_r0
  let v575_r0 : BitVec 32 := Scalar.muli c8_i32_438_r0 v556_r0
  let c1_i32_439_r0 : BitVec 32 := 1#32
  let c0_i32_431_r0 : BitVec 32 := 0#32
  let v558_r0 : BitVec 1 := Scalar.cmpi .sgt v211_r0 c0_i32_431_r0
  let v559_r0 : BitVec 32 := Scalar.extui v558_r0
  let c0_i32_432_r0 : BitVec 32 := 0#32
  let v560_r0 : BitVec 1 := Scalar.cmpi .slt v211_r0 c0_i32_432_r0
  let v561_r0 : BitVec 32 := Scalar.extui v560_r0
  let v562_r0 : BitVec 32 := Scalar.subi v559_r0 v561_r0
  let c2_i32_430_r0 : BitVec 32 := 2#32
  let c0_i32_433_r0 : BitVec 32 := 0#32
  let v563_r0 : BitVec 1 := Scalar.cmpi .sgt c2_i32_430_r0 c0_i32_433_r0
  let v564_r0 : BitVec 32 := Scalar.extui v563_r0
  let c0_i32_434_r0 : BitVec 32 := 0#32
  let v565_r0 : BitVec 1 := Scalar.cmpi .slt c2_i32_430_r0 c0_i32_434_r0
  let v566_r0 : BitVec 32 := Scalar.extui v565_r0
  let v567_r0 : BitVec 32 := Scalar.subi v564_r0 v566_r0
  let v568_r0 : BitVec 1 := Scalar.cmpi .ne v562_r0 v567_r0
  let v569_r0 : BitVec 32 := Scalar.remsi v211_r0 c2_i32_430_r0
  let c0_i32_435_r0 : BitVec 32 := 0#32
  let v570_r0 : BitVec 1 := Scalar.cmpi .ne v569_r0 c0_i32_435_r0
  let v571_r0 : BitVec 1 := Scalar.andi v568_r0 v570_r0
  let v557_r0 : BitVec 32 := Scalar.divsi v211_r0 c2_i32_430_r0
  let c1_i32_436_r0 : BitVec 32 := 1#32
  let v572_r0 : BitVec 32 := Scalar.subi v557_r0 c1_i32_436_r0
  let v573_r0 : BitVec 32 := Scalar.select v571_r0 v572_r0 v557_r0
  let v576_r0 : BitVec 32 := Scalar.muli c1_i32_439_r0 v573_r0
  let c0_i32_441_r0 : BitVec 32 := 0#32
  let c1024_i32_440_r0 : BitVec 32 := 1024#32
  let c3_i32_183_r0 : BitVec 32 := 3#32
  let v202_r0 : BitVec 32 := Scalar.select v201_r0 c3_i32_183_r0 v200_r0
  let c0_i32_192_r0 : BitVec 32 := 0#32
  let v213_r0 : BitVec 32 := Scalar.addi v202_r0 c0_i32_192_r0
  let v577_r0 : BitVec 32 := Scalar.muli c1024_i32_440_r0 v213_r0
  let c0_i32_442_r0 : BitVec 32 := 0#32
  ![v574_r0.toNat, v575_r0.toNat, v576_r0.toNat, 0, v577_r0.toNat, 0]
def k0_off36 (arg11_r0 : BitVec 32) : Fin 7 → Nat :=
  let c2_i32_423_r0 : BitVec 32 := 2#32
  let v546_r0 : BitVec 32 := Scalar.remui arg11_r0 c2_i32_423_r0
  let c0_i32_443_r0 : BitVec 32 := 0#32
  let c0_i32_444_r0 : BitVec 32 := 0#32
  let c0_i32_445_r0 : BitVec 32 := 0#32
  let c0_i32_446_r0 : BitVec 32 := 0#32
  let c0_i32_447_r0 : BitVec 32 := 0#32
  let c0_i32_448_r0 : BitVec 32 := 0#32
  ![v546_r0.toNat, 0, 0, 0, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h2 : k0_cond2 k0_t1 arg13_r0 arg14_r0 = 1#1), ∀ a, (k0_off8 arg6_r0) a + S1.size a ≤ S3.size a) ∧
  (∀ (k0_h2 : k0_cond2 k0_t1 arg13_r0 arg14_r0 = 1#1), ∀ a, (k0_off9 arg6_r0) a + S1x1x1024x2048.size a ≤ S3x1x1024x2048.size a) ∧
  (∀ (k0_h2 : k0_cond2 k0_t1 arg13_r0 arg14_r0 = 1#1), ∀ a, (k0_off10 arg13_r0 arg14_r0) a + S1x1024x2048.size a ≤ S2x4096x2048.size a) ∧
  (∀ (k0_h2 : k0_cond2 k0_t1 arg13_r0 arg14_r0 = 1#1), ∀ (hinb : ∀ a, (k0_off10 arg13_r0 arg14_r0) a + S1x1024x2048.size a ≤ S2x4096x2048.size a), (Rect.unit (s := S2x4096x2048) (k0_off10 arg13_r0 arg14_r0) S1x1024x2048.size hinb).WholeWords (EltTy.packing .bf16)) ∧
  (∀ (k0_h2 : k0_cond2 k0_t1 arg13_r0 arg14_r0 = 1#1), ∀ (hinb : ∀ a, (k0_off9 arg6_r0) a + S1x1x1024x2048.size a ≤ S3x1x1024x2048.size a), (Rect.unit (s := S3x1x1024x2048) (k0_off9 arg6_r0) S1x1x1024x2048.size hinb).WholeWords (EltTy.packing .bf16)) ∧
  (∀ (k0_h3 : k0_cond3 k0_t1 arg12_r0 arg13_r0 arg14_r0 = 1#1), ∀ a, (k0_off11 arg8_r0) a + S1.size a ≤ S2.size a) ∧
  (∀ (k0_h3 : k0_cond3 k0_t1 arg12_r0 arg13_r0 arg14_r0 = 1#1), ∀ a, (k0_off12 arg8_r0) a + S1x2048x1024.size a ≤ S2x2048x1024.size a) ∧
  (∀ (k0_h3 : k0_cond3 k0_t1 arg12_r0 arg13_r0 arg14_r0 = 1#1), ∀ a, (k0_off13 arg12_r0 arg13_r0 arg14_r0) a + S2048x1024.size a ≤ S2048x12288.size a) ∧
  (∀ (k0_h4 : k0_cond4 k0_t1 arg13_r0 arg14_r0 = 1#1), ∀ a, (k0_off14 arg7_r0) a + S1.size a ≤ S3.size a) ∧
  (∀ (k0_h4 : k0_cond4 k0_t1 arg13_r0 arg14_r0 = 1#1), ∀ a, (k0_off15 arg7_r0) a + S1x1x1024x2048.size a ≤ S3x1x1024x2048.size a) ∧
  (∀ (k0_h4 : k0_cond4 k0_t1 arg13_r0 arg14_r0 = 1#1), ∀ a, (k0_off16 arg13_r0 arg14_r0) a + S1x1024x2048.size a ≤ S2x4096x2048.size a) ∧
  (∀ (k0_h4 : k0_cond4 k0_t1 arg13_r0 arg14_r0 = 1#1), ∀ (hinb : ∀ a, (k0_off16 arg13_r0 arg14_r0) a + S1x1024x2048.size a ≤ S2x4096x2048.size a), (Rect.unit (s := S2x4096x2048) (k0_off16 arg13_r0 arg14_r0) S1x1024x2048.size hinb).WholeWords (EltTy.packing .bf16)) ∧
  (∀ (k0_h4 : k0_cond4 k0_t1 arg13_r0 arg14_r0 = 1#1), ∀ (hinb : ∀ a, (k0_off15 arg7_r0) a + S1x1x1024x2048.size a ≤ S3x1x1024x2048.size a), (Rect.unit (s := S3x1x1024x2048) (k0_off15 arg7_r0) S1x1x1024x2048.size hinb).WholeWords (EltTy.packing .bf16)) ∧
  (∀ (k0_h5 : k0_cond5 k0_t1 arg12_r0 arg13_r0 arg14_r0 = 1#1), ∀ a, (k0_off17 arg9_r0) a + S1.size a ≤ S2.size a) ∧
  (∀ (k0_h5 : k0_cond5 k0_t1 arg12_r0 arg13_r0 arg14_r0 = 1#1), ∀ a, (k0_off18 arg9_r0) a + S1x2048x1024.size a ≤ S2x2048x1024.size a) ∧
  (∀ (k0_h5 : k0_cond5 k0_t1 arg12_r0 arg13_r0 arg14_r0 = 1#1), ∀ a, (k0_off19 arg12_r0) a + S2048x1024.size a ≤ S2048x12288.size a) ∧
  (∀ (k0_h7 : k0_cond7 arg13_r0 arg14_r0 = 1#1), ∀ a, (k0_off20 arg9_r0) a + S1x2048x1024.size a ≤ S2x2048x1024.size a) ∧
  (∀ (k0_h10 : k0_cond10 k0_t1 arg12_r0 arg13_r0 arg14_r0 = 1#1), ∀ a, (k0_off31 arg10_r0) a + S1.size a ≤ S2.size a) ∧
  (∀ (k0_h10 : k0_cond10 k0_t1 arg12_r0 arg13_r0 arg14_r0 = 1#1), ∀ a, (k0_off32 arg12_r0 arg13_r0 arg14_r0) a + S1x8x1x1x1024x128.size a ≤ S2x16x2x1x4096x128.size a) ∧
  (∀ (k0_h10 : k0_cond10 k0_t1 arg12_r0 arg13_r0 arg14_r0 = 1#1), ∀ a, (k0_off33 arg10_r0) a + S1x1x8x1x1x1024x128.size a ≤ S2x1x8x1x1x1024x128.size a) ∧
  (∀ (k0_h10 : k0_cond10 k0_t1 arg12_r0 arg13_r0 arg14_r0 = 1#1), ∀ (hinb : ∀ a, (k0_off33 arg10_r0) a + S1x1x8x1x1x1024x128.size a ≤ S2x1x8x1x1x1024x128.size a), (Rect.unit (s := S2x1x8x1x1x1024x128) (k0_off33 arg10_r0) S1x1x8x1x1x1024x128.size hinb).WholeWords (EltTy.packing .bf16)) ∧
  (∀ (k0_h10 : k0_cond10 k0_t1 arg12_r0 arg13_r0 arg14_r0 = 1#1), ∀ (hinb : ∀ a, (k0_off32 arg12_r0 arg13_r0 arg14_r0) a + S1x8x1x1x1024x128.size a ≤ S2x16x2x1x4096x128.size a), (Rect.unit (s := S2x16x2x1x4096x128) (k0_off32 arg12_r0 arg13_r0 arg14_r0) S1x8x1x1x1024x128.size hinb).WholeWords (EltTy.packing .bf16)) ∧
  (∀ (k0_h13 : k0_cond13 k0_t1 arg12_r0 arg13_r0 arg14_r0 = 1#1), ∀ a, (k0_off34 arg11_r0) a + S1.size a ≤ S2.size a) ∧
  (∀ (k0_h13 : k0_cond13 k0_t1 arg12_r0 arg13_r0 arg14_r0 = 1#1), ∀ a, (k0_off35 arg12_r0 arg13_r0 arg14_r0) a + S1x8x1x1x1024x128.size a ≤ S2x16x2x1x4096x128.size a) ∧
  (∀ (k0_h13 : k0_cond13 k0_t1 arg12_r0 arg13_r0 arg14_r0 = 1#1), ∀ a, (k0_off36 arg11_r0) a + S1x1x8x1x1x1024x128.size a ≤ S2x1x8x1x1x1024x128.size a) ∧
  (∀ (k0_h13 : k0_cond13 k0_t1 arg12_r0 arg13_r0 arg14_r0 = 1#1), ∀ (hinb : ∀ a, (k0_off36 arg11_r0) a + S1x1x8x1x1x1024x128.size a ≤ S2x1x8x1x1x1024x128.size a), (Rect.unit (s := S2x1x8x1x1x1024x128) (k0_off36 arg11_r0) S1x1x8x1x1x1024x128.size hinb).WholeWords (EltTy.packing .bf16)) ∧
  (∀ (k0_h13 : k0_cond13 k0_t1 arg12_r0 arg13_r0 arg14_r0 = 1#1), ∀ (hinb : ∀ a, (k0_off35 arg12_r0 arg13_r0 arg14_r0) a + S1x8x1x1x1024x128.size a ≤ S2x16x2x1x4096x128.size a), (Rect.unit (s := S2x16x2x1x4096x128) (k0_off35 arg12_r0 arg13_r0 arg14_r0) S1x8x1x1x1024x128.size hinb).WholeWords (EltTy.packing .bf16))
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off8 arg6_r0) a + S1.size a ≤ S3.size a := fun k0_t1 arg6_r0 arg7_r0 arg8_r0 arg9_r0 arg10_r0 arg11_r0 arg12_r0 arg13_r0 arg14_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off9 arg6_r0) a + S1x1x1024x2048.size a ≤ S3x1x1024x2048.size a := fun k0_t1 arg6_r0 arg7_r0 arg8_r0 arg9_r0 arg10_r0 arg11_r0 arg12_r0 arg13_r0 arg14_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off10 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h2 => k0_hw1.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S2x4096x2048) (k0_off10 arg13_r0 arg14_r0) S1x1024x2048.size (k0_off10_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.1 k0_h2 (k0_off10_inb k0_t1 arg6_r0 arg7_r0 arg8_r0 arg9_r0 arg10_r0 arg11_r0 arg12_r0 arg13_r0 arg14_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S3x1x1024x2048) (k0_off9 arg6_r0) S1x1x1024x2048.size (k0_off9_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.2.1 k0_h2 (k0_off9_inb k0_t1 arg6_r0 arg7_r0 arg8_r0 arg9_r0 arg10_r0 arg11_r0 arg12_r0 arg13_r0 arg14_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off11 arg8_r0) a + S1.size a ≤ S2.size a := fun k0_t1 arg6_r0 arg7_r0 arg8_r0 arg9_r0 arg10_r0 arg11_r0 arg12_r0 arg13_r0 arg14_r0 k0_hw1 k0_h3 => k0_hw1.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off12 arg8_r0) a + S1x2048x1024.size a ≤ S2x2048x1024.size a := fun k0_t1 arg6_r0 arg7_r0 arg8_r0 arg9_r0 arg10_r0 arg11_r0 arg12_r0 arg13_r0 arg14_r0 k0_hw1 k0_h3 => k0_hw1.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off13 arg12_r0 arg13_r0 arg14_r0) a + S2048x1024.size a ≤ S2048x12288.size a := fun k0_t1 arg6_r0 arg7_r0 arg8_r0 arg9_r0 arg10_r0 arg11_r0 arg12_r0 arg13_r0 arg14_r0 k0_hw1 k0_h3 => k0_hw1.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off14 arg7_r0) a + S1.size a ≤ S3.size a := fun k0_t1 arg6_r0 arg7_r0 arg8_r0 arg9_r0 arg10_r0 arg11_r0 arg12_r0 arg13_r0 arg14_r0 k0_hw1 k0_h4 => k0_hw1.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off15 arg7_r0) a + S1x1x1024x2048.size a ≤ S3x1x1024x2048.size a := fun k0_t1 arg6_r0 arg7_r0 arg8_r0 arg9_r0 arg10_r0 arg11_r0 arg12_r0 arg13_r0 arg14_r0 k0_hw1 k0_h4 => k0_hw1.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off16 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h4 => k0_hw1.2.2.2.2.2.2.2.2.2.2.1 k0_h4
theorem k0_off16_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S2x4096x2048) (k0_off16 arg13_r0 arg14_r0) S1x1024x2048.size (k0_off16_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.1 k0_h4 (k0_off16_inb k0_t1 arg6_r0 arg7_r0 arg8_r0 arg9_r0 arg10_r0 arg11_r0 arg12_r0 arg13_r0 arg14_r0 k0_hw1 k0_h4)
theorem k0_off15_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S3x1x1024x2048) (k0_off15 arg7_r0) S1x1x1024x2048.size (k0_off15_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.2.1 k0_h4 (k0_off15_inb k0_t1 arg6_r0 arg7_r0 arg8_r0 arg9_r0 arg10_r0 arg11_r0 arg12_r0 arg13_r0 arg14_r0 k0_hw1 k0_h4)
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off17 arg9_r0) a + S1.size a ≤ S2.size a := fun k0_t1 arg6_r0 arg7_r0 arg8_r0 arg9_r0 arg10_r0 arg11_r0 arg12_r0 arg13_r0 arg14_r0 k0_hw1 k0_h5 => k0_hw1.2.2.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off18 arg9_r0) a + S1x2048x1024.size a ≤ S2x2048x1024.size a := fun k0_t1 arg6_r0 arg7_r0 arg8_r0 arg9_r0 arg10_r0 arg11_r0 arg12_r0 arg13_r0 arg14_r0 k0_hw1 k0_h5 => k0_hw1.2.2.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off19 arg12_r0) a + S2048x1024.size a ≤ S2048x12288.size a := fun k0_t1 arg6_r0 arg7_r0 arg8_r0 arg9_r0 arg10_r0 arg11_r0 arg12_r0 arg13_r0 arg14_r0 k0_hw1 k0_h5 => k0_hw1.2.2.2.2.2.2.2.2.2.2.2.2.2.2.2.1 k0_h5
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h7 : k0_cond7 arg13_r0 arg14_r0 = 1#1), ∀ a, (k0_off20 arg9_r0) a + S1x2048x1024.size a ≤ S2x2048x1024.size a := fun k0_t1 arg6_r0 arg7_r0 arg8_r0 arg9_r0 arg10_r0 arg11_r0 arg12_r0 arg13_r0 arg14_r0 k0_hw1 k0_h7 => k0_hw1.2.2.2.2.2.2.2.2.2.2.2.2.2.2.2.2.1 k0_h7
theorem k0_off31_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off31 arg10_r0) a + S1.size a ≤ S2.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.1 k0_h10
theorem k0_off32_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off32 arg12_r0 arg13_r0 arg14_r0) a + S1x8x1x1x1024x128.size a ≤ S2x16x2x1x4096x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.1 k0_h10
theorem k0_off33_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off33 arg10_r0) a + S1x1x8x1x1x1024x128.size a ≤ S2x1x8x1x1x1024x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.1 k0_h10
theorem k0_off33_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x1x8x1x1x1024x128) (k0_off33 arg10_r0) S1x1x8x1x1x1024x128.size (k0_off33_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.1 k0_h10 (k0_off33_inb k0_t1 arg6_r0 arg7_r0 arg8_r0 arg9_r0 arg10_r0 arg11_r0 arg12_r0 arg13_r0 arg14_r0 k0_hw1 k0_h10)
theorem k0_off32_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x16x2x1x4096x128) (k0_off32 arg12_r0 arg13_r0 arg14_r0) S1x8x1x1x1024x128.size (k0_off32_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.2.1 k0_h10 (k0_off32_inb k0_t1 arg6_r0 arg7_r0 arg8_r0 arg9_r0 arg10_r0 arg11_r0 arg12_r0 arg13_r0 arg14_r0 k0_hw1 k0_h10)
theorem k0_off34_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off34 arg11_r0) a + S1.size a ≤ S2.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.1 k0_h13
theorem k0_off35_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off35 arg12_r0 arg13_r0 arg14_r0) a + S1x8x1x1x1024x128.size a ≤ S2x16x2x1x4096x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.1 k0_h13
theorem k0_off36_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off36 arg11_r0) a + S1x1x8x1x1x1024x128.size a ≤ S2x1x8x1x1x1024x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.1 k0_h13
theorem k0_off36_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x1x8x1x1x1024x128) (k0_off36 arg11_r0) S1x1x8x1x1x1024x128.size (k0_off36_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.1 k0_h13 (k0_off36_inb k0_t1 arg6_r0 arg7_r0 arg8_r0 arg9_r0 arg10_r0 arg11_r0 arg12_r0 arg13_r0 arg14_r0 k0_hw1 k0_h13)
theorem k0_off35_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x16x2x1x4096x128) (k0_off35 arg12_r0 arg13_r0 arg14_r0) S1x8x1x1x1024x128.size (k0_off35_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.2 k0_h13 (k0_off35_inb k0_t1 arg6_r0 arg7_r0 arg8_r0 arg9_r0 arg10_r0 arg11_r0 arg12_r0 arg13_r0 arg14_r0 k0_hw1 k0_h13)

def k0_off37 (v81_5_r0 : BitVec 32) : Fin 1 → Nat :=
  let c2_i32_152_r0 : BitVec 32 := 2#32
  let v157_r0 : BitVec 32 := Scalar.remui v81_5_r0 c2_i32_152_r0
  ![v157_r0.toNat]

def k0_off38 (v81_8_r0 : BitVec 32) (v81_7_r0 : BitVec 32) (v81_6_r0 : BitVec 32) : Fin 6 → Nat :=
  let c1_i32_166_r0 : BitVec 32 := 1#32
  let true_88_r0 : BitVec 1 := 1#1
  let c1_i32_87_r0 : BitVec 32 := 1#32
  let v82_r0 : BitVec 32 := Scalar.subi v81_8_r0 c1_i32_87_r0
  let v83_r0 : BitVec 32 := Scalar.select true_88_r0 v82_r0 v81_8_r0
  let c_m1_i32_89_r0 : BitVec 32 := 4294967295#32
  let v84_r0 : BitVec 1 := Scalar.cmpi .eq v83_r0 c_m1_i32_89_r0
  let c1_i32_91_r0 : BitVec 32 := 1#32
  let v86_r0 : BitVec 32 := Scalar.subi v81_7_r0 c1_i32_91_r0
  let v87_r0 : BitVec 32 := Scalar.select v84_r0 v86_r0 v81_7_r0
  let c_m1_i32_92_r0 : BitVec 32 := 4294967295#32
  let v88_r0 : BitVec 1 := Scalar.cmpi .eq v87_r0 c_m1_i32_92_r0
  let c1_i32_93_r0 : BitVec 32 := 1#32
  let v89_r0 : BitVec 32 := Scalar.select v88_r0 c1_i32_93_r0 v87_r0
  let c0_i32_98_r0 : BitVec 32 := 0#32
  let v95_r0 : BitVec 32 := Scalar.addi v89_r0 c0_i32_98_r0
  let v185_r0 : BitVec 32 := Scalar.muli c1_i32_166_r0 v95_r0
  let c8_i32_r0 : BitVec 32 := 8#32
  let c1_i32_94_r0 : BitVec 32 := 1#32
  let v90_r0 : BitVec 32 := Scalar.subi v81_6_r0 c1_i32_94_r0
  let v91_r0 : BitVec 32 := Scalar.select v88_r0 v90_r0 v81_6_r0
  let c_m1_i32_95_r0 : BitVec 32 := 4294967295#32
  let v92_r0 : BitVec 1 := Scalar.cmpi .eq v91_r0 c_m1_i32_95_r0
  let c3_i32_96_r0 : BitVec 32 := 3#32
  let v93_r0 : BitVec 32 := Scalar.select v92_r0 c3_i32_96_r0 v91_r0
  let c0_i32_97_r0 : BitVec 32 := 0#32
  let v94_r0 : BitVec 32 := Scalar.addi v93_r0 c0_i32_97_r0
  let c2_i32_153_r0 : BitVec 32 := 2#32
  let c0_i32_154_r0 : BitVec 32 := 0#32
  let v158_r0 : BitVec 1 := Scalar.cmpi .eq c2_i32_153_r0 c0_i32_154_r0
  let c1_i32_155_r0 : BitVec 32 := 1#32
  let v159_r0 : BitVec 32 := Scalar.select v158_r0 c1_i32_155_r0 c2_i32_153_r0
  let v160_r0 : BitVec 32 := Scalar.remsi v94_r0 v159_r0
  let c0_i32_157_r0 : BitVec 32 := 0#32
  let v162_r0 : BitVec 1 := Scalar.cmpi .slt v160_r0 c0_i32_157_r0
  let c0_i32_158_r0 : BitVec 32 := 0#32
  let v163_r0 : BitVec 1 := Scalar.cmpi .slt v159_r0 c0_i32_158_r0
  let v164_r0 : BitVec 1 := Scalar.xori v162_r0 v163_r0
  let c0_i32_156_r0 : BitVec 32 := 0#32
  let v161_r0 : BitVec 1 := Scalar.cmpi .ne v160_r0 c0_i32_156_r0
  let v165_r0 : BitVec 1 := Scalar.andi v164_r0 v161_r0
  let v166_r0 : BitVec 32 := Scalar.addi v160_r0 v159_r0
  let v167_r0 : BitVec 32 := Scalar.select v165_r0 v166_r0 v160_r0
  let v186_r0 : BitVec 32 := Scalar.muli c8_i32_r0 v167_r0
  let c1_i32_167_r0 : BitVec 32 := 1#32
  let c0_i32_160_r0 : BitVec 32 := 0#32
  let v169_r0 : BitVec 1 := Scalar.cmpi .sgt v94_r0 c0_i32_160_r0
  let v170_r0 : BitVec 32 := Scalar.extui v169_r0
  let c0_i32_161_r0 : BitVec 32 := 0#32
  let v171_r0 : BitVec 1 := Scalar.cmpi .slt v94_r0 c0_i32_161_r0
  let v172_r0 : BitVec 32 := Scalar.extui v171_r0
  let v173_r0 : BitVec 32 := Scalar.subi v170_r0 v172_r0
  let c2_i32_159_r0 : BitVec 32 := 2#32
  let c0_i32_162_r0 : BitVec 32 := 0#32
  let v174_r0 : BitVec 1 := Scalar.cmpi .sgt c2_i32_159_r0 c0_i32_162_r0
  let v175_r0 : BitVec 32 := Scalar.extui v174_r0
  let c0_i32_163_r0 : BitVec 32 := 0#32
  let v176_r0 : BitVec 1 := Scalar.cmpi .slt c2_i32_159_r0 c0_i32_163_r0
  let v177_r0 : BitVec 32 := Scalar.extui v176_r0
  let v178_r0 : BitVec 32 := Scalar.subi v175_r0 v177_r0
  let v179_r0 : BitVec 1 := Scalar.cmpi .ne v173_r0 v178_r0
  let v180_r0 : BitVec 32 := Scalar.remsi v94_r0 c2_i32_159_r0
  let c0_i32_164_r0 : BitVec 32 := 0#32
  let v181_r0 : BitVec 1 := Scalar.cmpi .ne v180_r0 c0_i32_164_r0
  let v182_r0 : BitVec 1 := Scalar.andi v179_r0 v181_r0
  let v168_r0 : BitVec 32 := Scalar.divsi v94_r0 c2_i32_159_r0
  let c1_i32_165_r0 : BitVec 32 := 1#32
  let v183_r0 : BitVec 32 := Scalar.subi v168_r0 c1_i32_165_r0
  let v184_r0 : BitVec 32 := Scalar.select v182_r0 v183_r0 v168_r0
  let v187_r0 : BitVec 32 := Scalar.muli c1_i32_167_r0 v184_r0
  let c0_i32_168_r0 : BitVec 32 := 0#32
  let c1024_i32_r0 : BitVec 32 := 1024#32
  let c3_i32_90_r0 : BitVec 32 := 3#32
  let v85_r0 : BitVec 32 := Scalar.select v84_r0 c3_i32_90_r0 v83_r0
  let c0_i32_99_r0 : BitVec 32 := 0#32
  let v96_r0 : BitVec 32 := Scalar.addi v85_r0 c0_i32_99_r0
  let v188_r0 : BitVec 32 := Scalar.muli c1024_i32_r0 v96_r0
  let c0_i32_169_r0 : BitVec 32 := 0#32
  ![v185_r0.toNat, v186_r0.toNat, v187_r0.toNat, 0, v188_r0.toNat, 0]

def k0_off39 (v81_5_r0 : BitVec 32) : Fin 7 → Nat :=
  let c2_i32_152_r0 : BitVec 32 := 2#32
  let v157_r0 : BitVec 32 := Scalar.remui v81_5_r0 c2_i32_152_r0
  let c0_i32_170_r0 : BitVec 32 := 0#32
  let c0_i32_171_r0 : BitVec 32 := 0#32
  let c0_i32_172_r0 : BitVec 32 := 0#32
  let c0_i32_173_r0 : BitVec 32 := 0#32
  let c0_i32_174_r0 : BitVec 32 := 0#32
  let c0_i32_175_r0 : BitVec 32 := 0#32
  ![v157_r0.toNat, 0, 0, 0, 0, 0, 0]

def k0_chk4 (v81_5_r0 : BitVec 32) : Prop :=
  (∀ a, (k0_off37 v81_5_r0) a + S1.size a ≤ S2.size a) ∧
  (∀ a, (k0_off39 v81_5_r0) a + S1x1x8x1x1x1024x128.size a ≤ S2x1x8x1x1x1024x128.size a) ∧
  (∀ (hinb : ∀ a, (k0_off39 v81_5_r0) a + S1x1x8x1x1x1024x128.size a ≤ S2x1x8x1x1x1024x128.size a), (Rect.unit (s := S2x1x8x1x1x1024x128) (k0_off39 v81_5_r0) S1x1x8x1x1x1024x128.size hinb).WholeWords (EltTy.packing .bf16))
theorem k0_off37_inb : ∀ (v81_5_r0 : BitVec 32) (k0_hw4 : k0_chk4 v81_5_r0), ∀ a, (k0_off37 v81_5_r0) a + S1.size a ≤ S2.size a := fun v81_5_r0 k0_hw4 => k0_hw4.1
theorem k0_off39_inb : ∀ (v81_5_r0 : BitVec 32) (k0_hw4 : k0_chk4 v81_5_r0), ∀ a, (k0_off39 v81_5_r0) a + S1x1x8x1x1x1024x128.size a ≤ S2x1x8x1x1x1024x128.size a := fun v81_5_r0 k0_hw4 => k0_hw4.2.1
theorem k0_off39_wordsbf16 : ∀ (v81_5_r0 : BitVec 32) (k0_hw4 : k0_chk4 v81_5_r0), (Rect.unit (s := S2x1x8x1x1x1024x128) (k0_off39 v81_5_r0) S1x1x8x1x1x1024x128.size (k0_off39_inb v81_5_r0 k0_hw4)).WholeWords (EltTy.packing .bf16) := fun v81_5_r0 k0_hw4 => k0_hw4.2.2 (k0_off39_inb v81_5_r0 k0_hw4)

def k0_chk5 (v81_8_r0 : BitVec 32) (v81_7_r0 : BitVec 32) (v81_6_r0 : BitVec 32) : Prop :=
  (∀ a, (k0_off38 v81_8_r0 v81_7_r0 v81_6_r0) a + S1x8x1x1x1024x128.size a ≤ S2x16x2x1x4096x128.size a) ∧
  (∀ (hinb : ∀ a, (k0_off38 v81_8_r0 v81_7_r0 v81_6_r0) a + S1x8x1x1x1024x128.size a ≤ S2x16x2x1x4096x128.size a), (Rect.unit (s := S2x16x2x1x4096x128) (k0_off38 v81_8_r0 v81_7_r0 v81_6_r0) S1x8x1x1x1024x128.size hinb).WholeWords (EltTy.packing .bf16))
theorem k0_off38_inb : ∀ (v81_8_r0 : BitVec 32) (v81_7_r0 : BitVec 32) (v81_6_r0 : BitVec 32) (k0_hw5 : k0_chk5 v81_8_r0 v81_7_r0 v81_6_r0), ∀ a, (k0_off38 v81_8_r0 v81_7_r0 v81_6_r0) a + S1x8x1x1x1024x128.size a ≤ S2x16x2x1x4096x128.size a := fun v81_8_r0 v81_7_r0 v81_6_r0 k0_hw5 => k0_hw5.1
theorem k0_off38_wordsbf16 : ∀ (v81_8_r0 : BitVec 32) (v81_7_r0 : BitVec 32) (v81_6_r0 : BitVec 32) (k0_hw5 : k0_chk5 v81_8_r0 v81_7_r0 v81_6_r0), (Rect.unit (s := S2x16x2x1x4096x128) (k0_off38 v81_8_r0 v81_7_r0 v81_6_r0) S1x8x1x1x1024x128.size (k0_off38_inb v81_8_r0 v81_7_r0 v81_6_r0 k0_hw5)).WholeWords (EltTy.packing .bf16) := fun v81_8_r0 v81_7_r0 v81_6_r0 k0_hw5 => k0_hw5.2 (k0_off38_inb v81_8_r0 v81_7_r0 v81_6_r0 k0_hw5)
-- ==== ReferenceIdeal.lean ====
abbrev S2x4096x2048 : Shape := ⟨3, ![2, 4096, 2048]⟩
abbrev S2048x12288 : Shape := ⟨2, ![2048, 12288]⟩
abbrev S2x4096x12288 : Shape := ⟨3, ![2, 4096, 12288]⟩
abbrev S2x4096x1x16x128 : Shape := ⟨5, ![2, 4096, 1, 16, 128]⟩
abbrev S2x16x1x4096x128 : Shape := ⟨5, ![2, 16, 1, 4096, 128]⟩
abbrev S2x16x1x1x4096x128 : Shape := ⟨6, ![2, 16, 1, 1, 4096, 128]⟩
abbrev S2x16x2x1x4096x128 : Shape := ⟨6, ![2, 16, 2, 1, 4096, 128]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x12288, .f32⟩
  | .hbm, ⟨2, _⟩ => ⟨S2x4096x2048, .f32⟩
  | .hbm, ⟨3, _⟩ => ⟨S2x4096x12288, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x1x16x128, .f32⟩
  | .hbm, ⟨11, _⟩ => ⟨S2x16x1x4096x128, .f32⟩
  | .hbm, ⟨12, _⟩ => ⟨S2x4096x1x16x128, .f32⟩
  | .hbm, ⟨13, _⟩ => ⟨S2x16x1x4096x128, .f32⟩
  | .hbm, ⟨14, _⟩ => ⟨S2x16x1x1x4096x128, .f32⟩
  | .hbm, ⟨15, _⟩ => ⟨S2x16x1x1x4096x128, .f32⟩
  | .hbm, ⟨16, _⟩ => ⟨S2x16x2x1x4096x128, .f32⟩
  | .hbm, ⟨17, _⟩ => ⟨S2x16x2x1x4096x128, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel2.lean ====
abbrev S8192x2048 : Shape := ⟨2, ![8192, 2048]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S2048x6144 : Shape := ⟨2, ![2048, 6144]⟩
abbrev S8192x6144 : Shape := ⟨2, ![8192, 6144]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel3.lean ====
abbrev S2x16x4096x128 : Shape := ⟨4, ![2, 16, 4096, 128]⟩
abbrev S2048x2048 : Shape := ⟨2, ![2048, 2048]⟩
abbrev S2x4096x2048 : Shape := ⟨3, ![2, 4096, 2048]⟩
abbrev S2048 : Shape := ⟨1, ![2048]⟩
abbrev S1x2048 : Shape := ⟨2, ![1, 2048]⟩
abbrev S1x16x512x128 : Shape := ⟨4, ![1, 16, 512, 128]⟩
abbrev S1x512x2048 : Shape := ⟨3, ![1, 512, 2048]⟩
abbrev S1x1x512x128 : Shape := ⟨4, ![1, 1, 512, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x16x4096x128, .bf16⟩
  | .hbm, ⟨1, _⟩ => ⟨S2048x2048, .f32⟩
  | .hbm, ⟨2, _⟩ => ⟨S2x4096x2048, .f32⟩
  | .hbm, ⟨3, _⟩ => ⟨S2048, .f32⟩
  | .hbm, ⟨4, _⟩ => ⟨S1x2048, .f32⟩
  | .hbm, ⟨5, _⟩ => ⟨S2x4096x2048, .f32⟩
  | .local _ .vmem, ⟨0, _⟩ => ⟨S1x16x512x128, .bf16⟩
  | .local _ .vmem, ⟨1, _⟩ => ⟨S1x16x512x128, .bf16⟩
  | .local _ .vmem, ⟨2, _⟩ => ⟨S2048x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x2048, .f32⟩
  | .local _ .vmem, ⟨6, _⟩ => ⟨S1x512x2048, .f32⟩
  | .local _ .vmem, ⟨7, _⟩ => ⟨S1x512x2048, .f32⟩
  | .local _ .vmem, ⟨8, _⟩ => ⟨S2048x2048, .bf16⟩
  | _, _ => ⟨S2x16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x16x4096x128 : Shape := ⟨4, ![2, 16, 4096, 128]⟩
abbrev S2048x2048 : Shape := ⟨2, ![2048, 2048]⟩
abbrev S2x4096x2048 : Shape := ⟨3, ![2, 4096, 2048]⟩
abbrev S2048 : Shape := ⟨1, ![2048]⟩
abbrev S2x4096x16x128 : Shape := ⟨4, ![2, 4096, 16, 128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16x4096x128, .bf16⟩
  | .hbm, ⟨1, _⟩ => ⟨S2048x2048, .f32⟩
  | .hbm, ⟨2, _⟩ => ⟨S2x4096x2048, .f32⟩
  | .hbm, ⟨3, _⟩ => ⟨S2048, .f32⟩
  | .hbm, ⟨4, _⟩ => ⟨S2x16x4096x128, .f32⟩
  | .hbm, ⟨5, _⟩ => ⟨S2x4096x16x128, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | _, _ => ⟨S2x16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048x12288 : Shape := ⟨2, ![2048, 12288]⟩
abbrev S2x16x2x4x1024x128 : Shape := ⟨6, ![2, 16, 2, 4, 1024, 128]⟩
abbrev S2048x1024 : Shape := ⟨2, ![2048, 1024]⟩
abbrev S8x1024x128 : Shape := ⟨3, ![8, 1024, 128]⟩
abbrev S3x1x1024x2048 : Shape := ⟨4, ![3, 1, 1024, 2048]⟩
abbrev S3 : Shape := ⟨1, ![3]⟩
abbrev S2x2048x1024 : Shape := ⟨3, ![2, 2048, 1024]⟩
abbrev S2 : Shape := ⟨1, ![2]⟩
abbrev S2x1x8x1x4x256x128 : Shape := ⟨7, ![2, 1, 8, 1, 4, 256, 128]⟩
abbrev S1 : Shape := ⟨1, ![1]⟩
abbrev S_ : Shape := ⟨0, ![]⟩
abbrev S1x1x1024x2048 : Shape := ⟨4, ![1, 1, 1024, 2048]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S1024x1024 : Shape := ⟨2, ![1024, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x8x1x4x256x128 : Shape := ⟨7, ![1, 1, 8, 1, 4, 256, 128]⟩
abbrev S1x8x1x4x256x128 : Shape := ⟨6, ![1, 8, 1, 4, 256, 128]⟩
abbrev S1x1x1x1x256x128 : Shape := ⟨6, ![1, 1, 1, 1, 256, 128]⟩
abbrev S1x1x1x1x1x256x128 : Shape := ⟨7, ![1, 1, 1, 1, 1, 256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2048, .bf16⟩
  | .hbm, ⟨1, _⟩ => ⟨S2048x12288, .f32⟩
  | .hbm, ⟨2, _⟩ => ⟨S2x16x2x4x1024x128, .bf16⟩
  | .local _ .vmem, ⟨0, _⟩ => ⟨S2048x1024, .bf16⟩
  | .local _ .vmem, ⟨1, _⟩ => ⟨S8x1024x128, .f32⟩
  | .local _ .vmem, ⟨2, _⟩ => ⟨S3x1x1024x2048, .bf16⟩
  | .local _ .vmem, ⟨3, _⟩ => ⟨S2x2048x1024, .f32⟩
  | .local _ .vmem, ⟨4, _⟩ => ⟨S2x1x8x1x4x256x128, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_53_r0 : BitVec 32 := 0#32
  let c3_i32_54_r0 : BitVec 32 := 3#32
  let v57_r0 : BitVec 32 := Scalar.remui c0_i32_53_r0 c3_i32_54_r0
  ![v57_r0.toNat]
def k0_off2 : Fin 4 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  let c0_i32_57_r0 : BitVec 32 := 0#32
  ![v57_r0.toNat, 0, 0, 0]
def k0_off3 : Fin 1 → Nat :=
  let c0_i32_63_r0 : BitVec 32 := 0#32
  let c2_i32_64_r0 : BitVec 32 := 2#32
  let v64_r0 : BitVec 32 := Scalar.remui c0_i32_63_r0 c2_i32_64_r0
  ![v64_r0.toNat]
def k0_off4 : Fin 3 → Nat :=
  let c0_i32_63_r0 : BitVec 32 := 0#32
  let c2_i32_64_r0 : BitVec 32 := 2#32
  let v64_r0 : BitVec 32 := Scalar.remui c0_i32_63_r0 c2_i32_64_r0
  let c0_i32_65_r0 : BitVec 32 := 0#32
  let c0_i32_66_r0 : BitVec 32 := 0#32
  ![v64_r0.toNat, 0, 0]
def k0_cond1 : BitVec 1 :=
  let true_72_r0 : BitVec 1 := 1#1
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let c0_i32_70_r0 : BitVec 32 := 0#32
  let v71_r0 : BitVec 1 := Scalar.cmpi .ne v25_r0 c0_i32_70_r0
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let c0_i32_71_r0 : BitVec 32 := 0#32
  let v72_r0 : BitVec 1 := Scalar.cmpi .ne v26_r0 c0_i32_71_r0
  let v73_r0 : BitVec 1 := Scalar.ori v71_r0 v72_r0
  let v74_r0 : BitVec 1 := Scalar.andi true_72_r0 v73_r0
  let true_73_r0 : BitVec 1 := 1#1
  let v75_r0 : BitVec 1 := Scalar.andi v74_r0 true_73_r0
  let v76_r0 : BitVec 32 := Scalar.extui v75_r0
  let c0_i32_74_r0 : BitVec 32 := 0#32
  let v77_r0 : BitVec 1 := Scalar.cmpi .ne v76_r0 c0_i32_74_r0
  v77_r0

def k0_off5 : Fin 1 → Nat :=
  let c0_i32_61_r0 : BitVec 32 := 0#32
  let c1_i32_62_r0 : BitVec 32 := 1#32
  let v63_r0 : BitVec 32 := Scalar.addi c0_i32_61_r0 c1_i32_62_r0
  let c3_i32_175_r0 : BitVec 32 := 3#32
  let v194_r0 : BitVec 32 := Scalar.remui v63_r0 c3_i32_175_r0
  ![v194_r0.toNat]
def k0_off6 : Fin 4 → Nat :=
  let c0_i32_61_r0 : BitVec 32 := 0#32
  let c1_i32_62_r0 : BitVec 32 := 1#32
  let v63_r0 : BitVec 32 := Scalar.addi c0_i32_61_r0 c1_i32_62_r0
  let c3_i32_175_r0 : BitVec 32 := 3#32
  let v194_r0 : BitVec 32 := Scalar.remui v63_r0 c3_i32_175_r0
  let c0_i32_177_r0 : BitVec 32 := 0#32
  let c0_i32_178_r0 : BitVec 32 := 0#32
  let c0_i32_179_r0 : BitVec 32 := 0#32
  ![v194_r0.toNat, 0, 0, 0]
def k0_off7 : Fin 3 → Nat :=
  let c1_i32_176_r0 : BitVec 32 := 1#32
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let v195_r0 : BitVec 32 := Scalar.muli c1_i32_176_r0 v25_r0
  let c1024_i32_r0 : BitVec 32 := 1024#32
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let v196_r0 : BitVec 32 := Scalar.muli c1024_i32_r0 v26_r0
  let c0_i32_180_r0 : BitVec 32 := 0#32
  ![v195_r0.toNat, v196_r0.toNat, 0]
@[reducible] def k0_t1_loop : Scf.Loop 32 :=
  let c0_i32_83_r0 : BitVec 32 := 0#32
  let c32_i32_r0 : BitVec 32 := 32#32
  let v80_r0 : BitVec 32 := Scalar.addi c0_i32_83_r0 c32_i32_r0
  let c1_i32_84_r0 : BitVec 32 := 1#32
  ⟨c0_i32_83_r0, v80_r0, c1_i32_84_r0⟩
def k0_off8 (arg6_r0 : BitVec 32) : Fin 1 → Nat :=
  let c3_i32_830_r0 : BitVec 32 := 3#32
  let v778_r0 : BitVec 32 := Scalar.remui arg6_r0 c3_i32_830_r0
  ![v778_r0.toNat]
def k0_cond2 (k0_t1 : Fin k0_t1_loop.trips) (arg13_r0 : BitVec 32) (arg14_r0 : BitVec 32) : BitVec 1 :=
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c0_i32_203_r0 : BitVec 32 := 0#32
  let v227_r0 : BitVec 32 := Scalar.addi v221_r0 c0_i32_203_r0
  let true_206_r0 : BitVec 1 := 1#1
  let c0_i32_195_r0 : BitVec 32 := 0#32
  let v217_r0 : BitVec 32 := Scalar.select v216_r0 c0_i32_195_r0 v215_r0
  let c1_i32_205_r0 : BitVec 32 := 1#32
  let v229_r0 : BitVec 32 := Scalar.addi v217_r0 c1_i32_205_r0
  let v230_r0 : BitVec 32 := Scalar.select true_206_r0 v229_r0 v217_r0
  let c4_i32_207_r0 : BitVec 32 := 4#32
  let v231_r0 : BitVec 1 := Scalar.cmpi .eq v230_r0 c4_i32_207_r0
  let c1_i32_209_r0 : BitVec 32 := 1#32
  let v233_r0 : BitVec 32 := Scalar.addi v221_r0 c1_i32_209_r0
  let v234_r0 : BitVec 32 := Scalar.select v231_r0 v233_r0 v221_r0
  let c2_i32_210_r0 : BitVec 32 := 2#32
  let v235_r0 : BitVec 1 := Scalar.cmpi .eq v234_r0 c2_i32_210_r0
  let c0_i32_211_r0 : BitVec 32 := 0#32
  let v236_r0 : BitVec 32 := Scalar.select v235_r0 c0_i32_211_r0 v234_r0
  let c0_i32_216_r0 : BitVec 32 := 0#32
  let v242_r0 : BitVec 32 := Scalar.addi v236_r0 c0_i32_216_r0
  let v259_r0 : BitVec 1 := Scalar.cmpi .ne v227_r0 v242_r0
  let c0_i32_204_r0 : BitVec 32 := 0#32
  let v228_r0 : BitVec 32 := Scalar.addi v217_r0 c0_i32_204_r0
  let c0_i32_208_r0 : BitVec 32 := 0#32
  let v232_r0 : BitVec 32 := Scalar.select v231_r0 c0_i32_208_r0 v230_r0
  let c0_i32_217_r0 : BitVec 32 := 0#32
  let v243_r0 : BitVec 32 := Scalar.addi v232_r0 c0_i32_217_r0
  let v260_r0 : BitVec 1 := Scalar.cmpi .ne v228_r0 v243_r0
  let v261_r0 : BitVec 1 := Scalar.ori v259_r0 v260_r0
  let c0_i32_83_r0 : BitVec 32 := 0#32
  let c1_i32_84_r0 : BitVec 32 := 1#32
  let arg5_r0 : BitVec 32 := Scf.iv c0_i32_83_r0 c1_i32_84_r0 k0_t1
  let c30_i32_r0 : BitVec 32 := 30#32
  let v262_r0 : BitVec 1 := Scalar.cmpi .sge arg5_r0 c30_i32_r0
  let true_231_r0 : BitVec 1 := 1#1
  let v263_r0 : BitVec 1 := Scalar.xori v262_r0 true_231_r0
  let v264_r0 : BitVec 1 := Scalar.andi v261_r0 v263_r0
  let true_232_r0 : BitVec 1 := 1#1
  let v265_r0 : BitVec 1 := Scalar.andi v264_r0 true_232_r0
  let v266_r0 : BitVec 32 := Scalar.extui v265_r0
  let c0_i32_233_r0 : BitVec 32 := 0#32
  let v267_r0 : BitVec 1 := Scalar.cmpi .ne v266_r0 c0_i32_233_r0
  v267_r0

def k0_off9 (arg6_r0 : BitVec 32) : Fin 4 → Nat :=
  let c3_i32_830_r0 : BitVec 32 := 3#32
  let v778_r0 : BitVec 32 := Scalar.remui arg6_r0 c3_i32_830_r0
  let c0_i32_832_r0 : BitVec 32 := 0#32
  let c0_i32_833_r0 : BitVec 32 := 0#32
  let c0_i32_834_r0 : BitVec 32 := 0#32
  ![v778_r0.toNat, 0, 0, 0]
def k0_off10 (arg13_r0 : BitVec 32) (arg14_r0 : BitVec 32) : Fin 3 → Nat :=
  let c1_i32_831_r0 : BitVec 32 := 1#32
  let true_206_r0 : BitVec 1 := 1#1
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c0_i32_195_r0 : BitVec 32 := 0#32
  let v217_r0 : BitVec 32 := Scalar.select v216_r0 c0_i32_195_r0 v215_r0
  let c1_i32_205_r0 : BitVec 32 := 1#32
  let v229_r0 : BitVec 32 := Scalar.addi v217_r0 c1_i32_205_r0
  let v230_r0 : BitVec 32 := Scalar.select true_206_r0 v229_r0 v217_r0
  let c4_i32_207_r0 : BitVec 32 := 4#32
  let v231_r0 : BitVec 1 := Scalar.cmpi .eq v230_r0 c4_i32_207_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c1_i32_209_r0 : BitVec 32 := 1#32
  let v233_r0 : BitVec 32 := Scalar.addi v221_r0 c1_i32_209_r0
  let v234_r0 : BitVec 32 := Scalar.select v231_r0 v233_r0 v221_r0
  let c2_i32_210_r0 : BitVec 32 := 2#32
  let v235_r0 : BitVec 1 := Scalar.cmpi .eq v234_r0 c2_i32_210_r0
  let c0_i32_211_r0 : BitVec 32 := 0#32
  let v236_r0 : BitVec 32 := Scalar.select v235_r0 c0_i32_211_r0 v234_r0
  let c0_i32_216_r0 : BitVec 32 := 0#32
  let v242_r0 : BitVec 32 := Scalar.addi v236_r0 c0_i32_216_r0
  let v779_r0 : BitVec 32 := Scalar.muli c1_i32_831_r0 v242_r0
  let c1024_i32_r0 : BitVec 32 := 1024#32
  let c0_i32_208_r0 : BitVec 32 := 0#32
  let v232_r0 : BitVec 32 := Scalar.select v231_r0 c0_i32_208_r0 v230_r0
  let c0_i32_217_r0 : BitVec 32 := 0#32
  let v243_r0 : BitVec 32 := Scalar.addi v232_r0 c0_i32_217_r0
  let v780_r0 : BitVec 32 := Scalar.muli c1024_i32_r0 v243_r0
  let c0_i32_835_r0 : BitVec 32 := 0#32
  ![v779_r0.toNat, v780_r0.toNat, 0]
def k0_off11 (arg8_r0 : BitVec 32) : Fin 1 → Nat :=
  let c2_i32_830_r0 : BitVec 32 := 2#32
  let v778_r0 : BitVec 32 := Scalar.remui arg8_r0 c2_i32_830_r0
  ![v778_r0.toNat]
def k0_cond3 (k0_t1 : Fin k0_t1_loop.trips) (arg12_r0 : BitVec 32) (arg13_r0 : BitVec 32) (arg14_r0 : BitVec 32) : BitVec 1 :=
  let c4_i32_236_r0 : BitVec 32 := 4#32
  let c0_i32_176_r0 : BitVec 32 := 0#32
  let v196_r0 : BitVec 32 := Scalar.addi arg12_r0 c0_i32_176_r0
  let v271_r0 : BitVec 32 := Scalar.addi c4_i32_236_r0 v196_r0
  let c4_i32_237_r0 : BitVec 32 := 4#32
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c1_i32_199_r0 : BitVec 32 := 1#32
  let v222_r0 : BitVec 32 := Scalar.addi arg12_r0 c1_i32_199_r0
  let v223_r0 : BitVec 32 := Scalar.select v220_r0 v222_r0 arg12_r0
  let c4_i32_200_r0 : BitVec 32 := 4#32
  let v224_r0 : BitVec 1 := Scalar.cmpi .eq v223_r0 c4_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let v272_r0 : BitVec 32 := Scalar.addi c4_i32_237_r0 v226_r0
  let v273_r0 : BitVec 1 := Scalar.cmpi .ne v271_r0 v272_r0
  let c0_i32_83_r0 : BitVec 32 := 0#32
  let c1_i32_84_r0 : BitVec 32 := 1#32
  let arg5_r0 : BitVec 32 := Scf.iv c0_i32_83_r0 c1_i32_84_r0 k0_t1
  let c31_i32_238_r0 : BitVec 32 := 31#32
  let v274_r0 : BitVec 1 := Scalar.cmpi .sge arg5_r0 c31_i32_238_r0
  let true_239_r0 : BitVec 1 := 1#1
  let v275_r0 : BitVec 1 := Scalar.xori v274_r0 true_239_r0
  let v276_r0 : BitVec 1 := Scalar.andi v273_r0 v275_r0
  let true_240_r0 : BitVec 1 := 1#1
  let v277_r0 : BitVec 1 := Scalar.andi v276_r0 true_240_r0
  let v278_r0 : BitVec 32 := Scalar.extui v277_r0
  let c0_i32_241_r0 : BitVec 32 := 0#32
  let v279_r0 : BitVec 1 := Scalar.cmpi .ne v278_r0 c0_i32_241_r0
  v279_r0

def k0_off12 (arg8_r0 : BitVec 32) : Fin 3 → Nat :=
  let c2_i32_830_r0 : BitVec 32 := 2#32
  let v778_r0 : BitVec 32 := Scalar.remui arg8_r0 c2_i32_830_r0
  let c0_i32_832_r0 : BitVec 32 := 0#32
  let c0_i32_833_r0 : BitVec 32 := 0#32
  ![v778_r0.toNat, 0, 0]
def k0_off13 (arg12_r0 : BitVec 32) (arg13_r0 : BitVec 32) (arg14_r0 : BitVec 32) : Fin 2 → Nat :=
  let c0_i32_834_r0 : BitVec 32 := 0#32
  let c1024_i32_r0 : BitVec 32 := 1024#32
  let c4_i32_831_r0 : BitVec 32 := 4#32
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c1_i32_199_r0 : BitVec 32 := 1#32
  let v222_r0 : BitVec 32 := Scalar.addi arg12_r0 c1_i32_199_r0
  let v223_r0 : BitVec 32 := Scalar.select v220_r0 v222_r0 arg12_r0
  let c4_i32_200_r0 : BitVec 32 := 4#32
  let v224_r0 : BitVec 1 := Scalar.cmpi .eq v223_r0 c4_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let v779_r0 : BitVec 32 := Scalar.addi c4_i32_831_r0 v226_r0
  let v780_r0 : BitVec 32 := Scalar.muli c1024_i32_r0 v779_r0
  ![0, v780_r0.toNat]
def k0_off14 (arg7_r0 : BitVec 32) : Fin 1 → Nat :=
  let c3_i32_831_r0 : BitVec 32 := 3#32
  let v780_r0 : BitVec 32 := Scalar.remui arg7_r0 c3_i32_831_r0
  ![v780_r0.toNat]
def k0_cond4 (k0_t1 : Fin k0_t1_loop.trips) (arg13_r0 : BitVec 32) (arg14_r0 : BitVec 32) : BitVec 1 :=
  let c0_i32_177_r0 : BitVec 32 := 0#32
  let v197_r0 : BitVec 32 := Scalar.addi arg13_r0 c0_i32_177_r0
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v347_r0 : BitVec 1 := Scalar.cmpi .ne v197_r0 v212_r0
  let c0_i32_178_r0 : BitVec 32 := 0#32
  let v198_r0 : BitVec 32 := Scalar.addi arg14_r0 c0_i32_178_r0
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v348_r0 : BitVec 1 := Scalar.cmpi .ne v198_r0 v213_r0
  let v349_r0 : BitVec 1 := Scalar.ori v347_r0 v348_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let v350_r0 : BitVec 1 := Scalar.ori v349_r0 v194_r0
  let c0_i32_272_r0 : BitVec 32 := 0#32
  let v351_r0 : BitVec 1 := Scalar.cmpi .sge arg5_r0 c0_i32_272_r0
  let v352_r0 : BitVec 1 := Scalar.andi v350_r0 v351_r0
  let v353_r0 : BitVec 32 := Scalar.extui v352_r0
  let c0_i32_273_r0 : BitVec 32 := 0#32
  let v354_r0 : BitVec 1 := Scalar.cmpi .ne v353_r0 c0_i32_273_r0
  v354_r0

def k0_off15 (arg7_r0 : BitVec 32) : Fin 4 → Nat :=
  let c3_i32_831_r0 : BitVec 32 := 3#32
  let v780_r0 : BitVec 32 := Scalar.remui arg7_r0 c3_i32_831_r0
  let c0_i32_832_r0 : BitVec 32 := 0#32
  let c0_i32_833_r0 : BitVec 32 := 0#32
  let c0_i32_834_r0 : BitVec 32 := 0#32
  ![v780_r0.toNat, 0, 0, 0]
def k0_off16 (arg13_r0 : BitVec 32) (arg14_r0 : BitVec 32) : Fin 3 → Nat :=
  let c1_i32_830_r0 : BitVec 32 := 1#32
  let c0_i32_177_r0 : BitVec 32 := 0#32
  let v197_r0 : BitVec 32 := Scalar.addi arg13_r0 c0_i32_177_r0
  let v778_r0 : BitVec 32 := Scalar.muli c1_i32_830_r0 v197_r0
  let c1024_i32_r0 : BitVec 32 := 1024#32
  let c0_i32_178_r0 : BitVec 32 := 0#32
  let v198_r0 : BitVec 32 := Scalar.addi arg14_r0 c0_i32_178_r0
  let v779_r0 : BitVec 32 := Scalar.muli c1024_i32_r0 v198_r0
  let c0_i32_835_r0 : BitVec 32 := 0#32
  ![v778_r0.toNat, v779_r0.toNat, 0]
def k0_off17 (arg9_r0 : BitVec 32) : Fin 1 → Nat :=
  let c2_i32_831_r0 : BitVec 32 := 2#32
  let v780_r0 : BitVec 32 := Scalar.remui arg9_r0 c2_i32_831_r0
  ![v780_r0.toNat]
def k0_cond5 (k0_t1 : Fin k0_t1_loop.trips) (arg12_r0 : BitVec 32) (arg13_r0 : BitVec 32) (arg14_r0 : BitVec 32) : BitVec 1 :=
  let c4_i32_236_r0 : BitVec 32 := 4#32
  let c0_i32_176_r0 : BitVec 32 := 0#32
  let v196_r0 : BitVec 32 := Scalar.addi arg12_r0 c0_i32_176_r0
  let v271_r0 : BitVec 32 := Scalar.addi c4_i32_236_r0 v196_r0
  let c4_i32_274_r0 : BitVec 32 := 4#32
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c3_i32_188_r0 : BitVec 32 := 3#32
  let v210_r0 : BitVec 32 := Scalar.select v209_r0 c3_i32_188_r0 v208_r0
  let c0_i32_189_r0 : BitVec 32 := 0#32
  let v211_r0 : BitVec 32 := Scalar.addi v210_r0 c0_i32_189_r0
  let v355_r0 : BitVec 32 := Scalar.addi c4_i32_274_r0 v211_r0
  let v356_r0 : BitVec 1 := Scalar.cmpi .ne v271_r0 v355_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let v357_r0 : BitVec 1 := Scalar.ori v356_r0 v194_r0
  let c0_i32_275_r0 : BitVec 32 := 0#32
  let v358_r0 : BitVec 1 := Scalar.cmpi .sge arg5_r0 c0_i32_275_r0
  let v359_r0 : BitVec 1 := Scalar.andi v357_r0 v358_r0
  let v360_r0 : BitVec 32 := Scalar.extui v359_r0
  let c0_i32_276_r0 : BitVec 32 := 0#32
  let v361_r0 : BitVec 1 := Scalar.cmpi .ne v360_r0 c0_i32_276_r0
  v361_r0

def k0_off18 (arg9_r0 : BitVec 32) : Fin 3 → Nat :=
  let c2_i32_831_r0 : BitVec 32 := 2#32
  let v780_r0 : BitVec 32 := Scalar.remui arg9_r0 c2_i32_831_r0
  let c0_i32_832_r0 : BitVec 32 := 0#32
  let c0_i32_833_r0 : BitVec 32 := 0#32
  ![v780_r0.toNat, 0, 0]
def k0_off19 (arg12_r0 : BitVec 32) : Fin 2 → Nat :=
  let c0_i32_834_r0 : BitVec 32 := 0#32
  let c1024_i32_r0 : BitVec 32 := 1024#32
  let c4_i32_830_r0 : BitVec 32 := 4#32
  let c0_i32_176_r0 : BitVec 32 := 0#32
  let v196_r0 : BitVec 32 := Scalar.addi arg12_r0 c0_i32_176_r0
  let v778_r0 : BitVec 32 := Scalar.addi c4_i32_830_r0 v196_r0
  let v779_r0 : BitVec 32 := Scalar.muli c1024_i32_r0 v778_r0
  ![0, v779_r0.toNat]
def k0_off20 (arg9_r0 : BitVec 32) : Fin 3 → Nat :=
  let c2_i32_293_r0 : BitVec 32 := 2#32
  let v402_r0 : BitVec 32 := Scalar.remui arg9_r0 c2_i32_293_r0
  let v778_r0 : Index := Scalar.indexCast v402_r0
  let c0_830_r0 : Index := 0#32
  let c0_831_r0 : Index := 0#32
  ![v778_r0.toNat, 0, 0]
def k0_cond7 (arg13_r0 : BitVec 32) (arg14_r0 : BitVec 32) : BitVec 1 :=
  let c0_i32_177_r0 : BitVec 32 := 0#32
  let v197_r0 : BitVec 32 := Scalar.addi arg13_r0 c0_i32_177_r0
  let c0_i32_295_r0 : BitVec 32 := 0#32
  let v404_r0 : BitVec 1 := Scalar.cmpi .eq v197_r0 c0_i32_295_r0
  let c0_i32_178_r0 : BitVec 32 := 0#32
  let v198_r0 : BitVec 32 := Scalar.addi arg14_r0 c0_i32_178_r0
  let c0_i32_296_r0 : BitVec 32 := 0#32
  let v405_r0 : BitVec 1 := Scalar.cmpi .eq v198_r0 c0_i32_296_r0
  let v406_r0 : BitVec 1 := Scalar.andi v404_r0 v405_r0
  let v407_r0 : BitVec 32 := Scalar.extui v406_r0
  let c0_i32_297_r0 : BitVec 32 := 0#32
  let v408_r0 : BitVec 1 := Scalar.cmpi .ne v407_r0 c0_i32_297_r0
  v408_r0

def k0_off21 (arg7_r0 : BitVec 32) : Fin 4 → Nat :=
  let c3_i32_292_r0 : BitVec 32 := 3#32
  let v401_r0 : BitVec 32 := Scalar.remui arg7_r0 c3_i32_292_r0
  let c0_i32_298_r0 : BitVec 32 := 0#32
  let c0_i32_299_r0 : BitVec 32 := 0#32
  let c0_i32_300_r0 : BitVec 32 := 0#32
  ![v401_r0.toNat, 0, 0, 0]

def k0_chk2 (arg7_r0 : BitVec 32) : Prop :=
  (∀ a, (k0_off21 arg7_r0) a + S1x1x1024x2048.size a ≤ S3x1x1024x2048.size a)
theorem k0_off21_inb : ∀ (arg7_r0 : BitVec 32) (k0_hw2 : k0_chk2 arg7_r0), ∀ a, (k0_off21 arg7_r0) a + S1x1x1024x2048.size a ≤ S3x1x1024x2048.size a := fun arg7_r0 k0_hw2 => k0_hw2

def k0_off22 (arg10_r0 : BitVec 32) : Fin 7 → Nat :=
  let c2_i32_294_r0 : BitVec 32 := 2#32
  let v403_r0 : BitVec 32 := Scalar.remui arg10_r0 c2_i32_294_r0
  let c0_i32_325_r0 : BitVec 32 := 0#32
  let c0_i32_326_r0 : BitVec 32 := 0#32
  let c0_i32_327_r0 : BitVec 32 := 0#32
  let c0_i32_328_r0 : BitVec 32 := 0#32
  let c0_i32_329_r0 : BitVec 32 := 0#32
  let c0_i32_330_r0 : BitVec 32 := 0#32
  ![v403_r0.toNat, 0, 0, 0, 0, 0, 0]

def k0_off23 (arg10_r0 : BitVec 32) : Fin 7 → Nat :=
  let c2_i32_294_r0 : BitVec 32 := 2#32
  let v403_r0 : BitVec 32 := Scalar.remui arg10_r0 c2_i32_294_r0
  let c0_i32_325_r0 : BitVec 32 := 0#32
  let c0_i32_326_r0 : BitVec 32 := 0#32
  let c0_i32_327_r0 : BitVec 32 := 0#32
  let c0_i32_328_r0 : BitVec 32 := 0#32
  let c0_i32_329_r0 : BitVec 32 := 0#32
  let c0_i32_330_r0 : BitVec 32 := 0#32
  ![v403_r0.toNat, 0, 0, 0, 0, 0, 0]
def k0_off24 (arg10_r0 : BitVec 32) : Fin 7 → Nat :=
  let c2_i32_294_r0 : BitVec 32 := 2#32
  let v403_r0 : BitVec 32 := Scalar.remui arg10_r0 c2_i32_294_r0
  let c0_i32_340_r0 : BitVec 32 := 0#32
  let c0_i32_341_r0 : BitVec 32 := 0#32
  let c0_i32_342_r0 : BitVec 32 := 0#32
  let c0_i32_344_r0 : BitVec 32 := 0#32
  let c0_i32_345_r0 : BitVec 32 := 0#32
  ![v403_r0.toNat, 0, 0, 0, 1, 0, 0]
def k0_off25 (arg10_r0 : BitVec 32) : Fin 7 → Nat :=
  let c2_i32_294_r0 : BitVec 32 := 2#32
  let v403_r0 : BitVec 32 := Scalar.remui arg10_r0 c2_i32_294_r0
  let c0_i32_355_r0 : BitVec 32 := 0#32
  let c0_i32_356_r0 : BitVec 32 := 0#32
  let c0_i32_357_r0 : BitVec 32 := 0#32
  let c0_i32_359_r0 : BitVec 32 := 0#32
  let c0_i32_360_r0 : BitVec 32 := 0#32
  ![v403_r0.toNat, 0, 0, 0, 2, 0, 0]
def k0_off26 (arg10_r0 : BitVec 32) : Fin 7 → Nat :=
  let c2_i32_294_r0 : BitVec 32 := 2#32
  let v403_r0 : BitVec 32 := Scalar.remui arg10_r0 c2_i32_294_r0
  let c0_i32_370_r0 : BitVec 32 := 0#32
  let c0_i32_371_r0 : BitVec 32 := 0#32
  let c0_i32_372_r0 : BitVec 32 := 0#32
  let c0_i32_374_r0 : BitVec 32 := 0#32
  let c0_i32_375_r0 : BitVec 32 := 0#32
  ![v403_r0.toNat, 0, 0, 0, 3, 0, 0]
def k0_off27 (arg10_r0 : BitVec 32) : Fin 7 → Nat :=
  let c2_i32_294_r0 : BitVec 32 := 2#32
  let v403_r0 : BitVec 32 := Scalar.remui arg10_r0 c2_i32_294_r0
  let c0_i32_385_r0 : BitVec 32 := 0#32
  let c0_i32_387_r0 : BitVec 32 := 0#32
  let c0_i32_388_r0 : BitVec 32 := 0#32
  let c0_i32_389_r0 : BitVec 32 := 0#32
  let c0_i32_390_r0 : BitVec 32 := 0#32
  ![v403_r0.toNat, 0, 1, 0, 0, 0, 0]
def k0_off28 (arg10_r0 : BitVec 32) : Fin 7 → Nat :=
  let c2_i32_294_r0 : BitVec 32 := 2#32
  let v403_r0 : BitVec 32 := Scalar.remui arg10_r0 c2_i32_294_r0
  let c0_i32_400_r0 : BitVec 32 := 0#32
  let c0_i32_402_r0 : BitVec 32 := 0#32
  let c0_i32_404_r0 : BitVec 32 := 0#32
  let c0_i32_405_r0 : BitVec 32 := 0#32
  ![v403_r0.toNat, 0, 1, 0, 1, 0, 0]
def k0_off29 (arg10_r0 : BitVec 32) : Fin 7 → Nat :=
  let c2_i32_294_r0 : BitVec 32 := 2#32
  let v403_r0 : BitVec 32 := Scalar.remui arg10_r0 c2_i32_294_r0
  let c0_i32_415_r0 : BitVec 32 := 0#32
  let c0_i32_417_r0 : BitVec 32 := 0#32
  let c0_i32_419_r0 : BitVec 32 := 0#32
  let c0_i32_420_r0 : BitVec 32 := 0#32
  ![v403_r0.toNat, 0, 1, 0, 2, 0, 0]
def k0_off30 (arg10_r0 : BitVec 32) : Fin 7 → Nat :=
  let c2_i32_294_r0 : BitVec 32 := 2#32
  let v403_r0 : BitVec 32 := Scalar.remui arg10_r0 c2_i32_294_r0
  let c0_i32_430_r0 : BitVec 32 := 0#32
  let c0_i32_432_r0 : BitVec 32 := 0#32
  let c0_i32_434_r0 : BitVec 32 := 0#32
  let c0_i32_435_r0 : BitVec 32 := 0#32
  ![v403_r0.toNat, 0, 1, 0, 3, 0, 0]
def k0_off31 (arg10_r0 : BitVec 32) : Fin 7 → Nat :=
  let c2_i32_294_r0 : BitVec 32 := 2#32
  let v403_r0 : BitVec 32 := Scalar.remui arg10_r0 c2_i32_294_r0
  let c0_i32_445_r0 : BitVec 32 := 0#32
  let c0_i32_447_r0 : BitVec 32 := 0#32
  let c0_i32_448_r0 : BitVec 32 := 0#32
  let c0_i32_449_r0 : BitVec 32 := 0#32
  let c0_i32_450_r0 : BitVec 32 := 0#32
  ![v403_r0.toNat, 0, 2, 0, 0, 0, 0]
def k0_off32 (arg10_r0 : BitVec 32) : Fin 7 → Nat :=
  let c2_i32_294_r0 : BitVec 32 := 2#32
  let v403_r0 : BitVec 32 := Scalar.remui arg10_r0 c2_i32_294_r0
  let c0_i32_460_r0 : BitVec 32 := 0#32
  let c0_i32_462_r0 : BitVec 32 := 0#32
  let c0_i32_464_r0 : BitVec 32 := 0#32
  let c0_i32_465_r0 : BitVec 32 := 0#32
  ![v403_r0.toNat, 0, 2, 0, 1, 0, 0]
def k0_off33 (arg10_r0 : BitVec 32) : Fin 7 → Nat :=
  let c2_i32_294_r0 : BitVec 32 := 2#32
  let v403_r0 : BitVec 32 := Scalar.remui arg10_r0 c2_i32_294_r0
  let c0_i32_475_r0 : BitVec 32 := 0#32
  let c0_i32_477_r0 : BitVec 32 := 0#32
  let c0_i32_479_r0 : BitVec 32 := 0#32
  let c0_i32_480_r0 : BitVec 32 := 0#32
  ![v403_r0.toNat, 0, 2, 0, 2, 0, 0]
def k0_off34 (arg10_r0 : BitVec 32) : Fin 7 → Nat :=
  let c2_i32_294_r0 : BitVec 32 := 2#32
  let v403_r0 : BitVec 32 := Scalar.remui arg10_r0 c2_i32_294_r0
  let c0_i32_490_r0 : BitVec 32 := 0#32
  let c0_i32_492_r0 : BitVec 32 := 0#32
  let c0_i32_494_r0 : BitVec 32 := 0#32
  let c0_i32_495_r0 : BitVec 32 := 0#32
  ![v403_r0.toNat, 0, 2, 0, 3, 0, 0]
def k0_off35 (arg10_r0 : BitVec 32) : Fin 7 → Nat :=
  let c2_i32_294_r0 : BitVec 32 := 2#32
  let v403_r0 : BitVec 32 := Scalar.remui arg10_r0 c2_i32_294_r0
  let c0_i32_505_r0 : BitVec 32 := 0#32
  let c0_i32_507_r0 : BitVec 32 := 0#32
  let c0_i32_508_r0 : BitVec 32 := 0#32
  let c0_i32_509_r0 : BitVec 32 := 0#32
  let c0_i32_510_r0 : BitVec 32 := 0#32
  ![v403_r0.toNat, 0, 3, 0, 0, 0, 0]
def k0_off36 (arg10_r0 : BitVec 32) : Fin 7 → Nat :=
  let c2_i32_294_r0 : BitVec 32 := 2#32
  let v403_r0 : BitVec 32 := Scalar.remui arg10_r0 c2_i32_294_r0
  let c0_i32_520_r0 : BitVec 32 := 0#32
  let c0_i32_522_r0 : BitVec 32 := 0#32
  let c0_i32_524_r0 : BitVec 32 := 0#32
  let c0_i32_525_r0 : BitVec 32 := 0#32
  ![v403_r0.toNat, 0, 3, 0, 1, 0, 0]
def k0_off37 (arg10_r0 : BitVec 32) : Fin 7 → Nat :=
  let c2_i32_294_r0 : BitVec 32 := 2#32
  let v403_r0 : BitVec 32 := Scalar.remui arg10_r0 c2_i32_294_r0
  let c0_i32_535_r0 : BitVec 32 := 0#32
  let c0_i32_537_r0 : BitVec 32 := 0#32
  let c0_i32_539_r0 : BitVec 32 := 0#32
  let c0_i32_540_r0 : BitVec 32 := 0#32
  ![v403_r0.toNat, 0, 3, 0, 2, 0, 0]
def k0_off38 (arg10_r0 : BitVec 32) : Fin 7 → Nat :=
  let c2_i32_294_r0 : BitVec 32 := 2#32
  let v403_r0 : BitVec 32 := Scalar.remui arg10_r0 c2_i32_294_r0
  let c0_i32_550_r0 : BitVec 32 := 0#32
  let c0_i32_552_r0 : BitVec 32 := 0#32
  let c0_i32_554_r0 : BitVec 32 := 0#32
  let c0_i32_555_r0 : BitVec 32 := 0#32
  ![v403_r0.toNat, 0, 3, 0, 3, 0, 0]
def k0_off39 (arg10_r0 : BitVec 32) : Fin 7 → Nat :=
  let c2_i32_294_r0 : BitVec 32 := 2#32
  let v403_r0 : BitVec 32 := Scalar.remui arg10_r0 c2_i32_294_r0
  let c0_i32_565_r0 : BitVec 32 := 0#32
  let c0_i32_567_r0 : BitVec 32 := 0#32
  let c0_i32_568_r0 : BitVec 32 := 0#32
  let c0_i32_569_r0 : BitVec 32 := 0#32
  let c0_i32_570_r0 : BitVec 32 := 0#32
  ![v403_r0.toNat, 0, 4, 0, 0, 0, 0]
def k0_off40 (arg10_r0 : BitVec 32) : Fin 7 → Nat :=
  let c2_i32_294_r0 : BitVec 32 := 2#32
  let v403_r0 : BitVec 32 := Scalar.remui arg10_r0 c2_i32_294_r0
  let c0_i32_580_r0 : BitVec 32 := 0#32
  let c0_i32_582_r0 : BitVec 32 := 0#32
  let c0_i32_584_r0 : BitVec 32 := 0#32
  let c0_i32_585_r0 : BitVec 32 := 0#32
  ![v403_r0.toNat, 0, 4, 0, 1, 0, 0]
def k0_off41 (arg10_r0 : BitVec 32) : Fin 7 → Nat :=
  let c2_i32_294_r0 : BitVec 32 := 2#32
  let v403_r0 : BitVec 32 := Scalar.remui arg10_r0 c2_i32_294_r0
  let c0_i32_595_r0 : BitVec 32 := 0#32
  let c0_i32_597_r0 : BitVec 32 := 0#32
  let c0_i32_599_r0 : BitVec 32 := 0#32
  let c0_i32_600_r0 : BitVec 32 := 0#32
  ![v403_r0.toNat, 0, 4, 0, 2, 0, 0]
def k0_off42 (arg10_r0 : BitVec 32) : Fin 7 → Nat :=
  let c2_i32_294_r0 : BitVec 32 := 2#32
  let v403_r0 : BitVec 32 := Scalar.remui arg10_r0 c2_i32_294_r0
  let c0_i32_610_r0 : BitVec 32 := 0#32
  let c0_i32_612_r0 : BitVec 32 := 0#32
  let c0_i32_614_r0 : BitVec 32 := 0#32
  let c0_i32_615_r0 : BitVec 32 := 0#32
  ![v403_r0.toNat, 0, 4, 0, 3, 0, 0]
def k0_off43 (arg10_r0 : BitVec 32) : Fin 7 → Nat :=
  let c2_i32_294_r0 : BitVec 32 := 2#32
  let v403_r0 : BitVec 32 := Scalar.remui arg10_r0 c2_i32_294_r0
  let c0_i32_625_r0 : BitVec 32 := 0#32
  let c0_i32_627_r0 : BitVec 32 := 0#32
  let c0_i32_628_r0 : BitVec 32 := 0#32
  let c0_i32_629_r0 : BitVec 32 := 0#32
  let c0_i32_630_r0 : BitVec 32 := 0#32
  ![v403_r0.toNat, 0, 5, 0, 0, 0, 0]
def k0_off44 (arg10_r0 : BitVec 32) : Fin 7 → Nat :=
  let c2_i32_294_r0 : BitVec 32 := 2#32
  let v403_r0 : BitVec 32 := Scalar.remui arg10_r0 c2_i32_294_r0
  let c0_i32_640_r0 : BitVec 32 := 0#32
  let c0_i32_642_r0 : BitVec 32 := 0#32
  let c0_i32_644_r0 : BitVec 32 := 0#32
  let c0_i32_645_r0 : BitVec 32 := 0#32
  ![v403_r0.toNat, 0, 5, 0, 1, 0, 0]
def k0_off45 (arg10_r0 : BitVec 32) : Fin 7 → Nat :=
  let c2_i32_294_r0 : BitVec 32 := 2#32
  let v403_r0 : BitVec 32 := Scalar.remui arg10_r0 c2_i32_294_r0
  let c0_i32_655_r0 : BitVec 32 := 0#32
  let c0_i32_657_r0 : BitVec 32 := 0#32
  let c0_i32_659_r0 : BitVec 32 := 0#32
  let c0_i32_660_r0 : BitVec 32 := 0#32
  ![v403_r0.toNat, 0, 5, 0, 2, 0, 0]
def k0_off46 (arg10_r0 : BitVec 32) : Fin 7 → Nat :=
  let c2_i32_294_r0 : BitVec 32 := 2#32
  let v403_r0 : BitVec 32 := Scalar.remui arg10_r0 c2_i32_294_r0
  let c0_i32_670_r0 : BitVec 32 := 0#32
  let c0_i32_672_r0 : BitVec 32 := 0#32
  let c0_i32_674_r0 : BitVec 32 := 0#32
  let c0_i32_675_r0 : BitVec 32 := 0#32
  ![v403_r0.toNat, 0, 5, 0, 3, 0, 0]
def k0_off47 (arg10_r0 : BitVec 32) : Fin 7 → Nat :=
  let c2_i32_294_r0 : BitVec 32 := 2#32
  let v403_r0 : BitVec 32 := Scalar.remui arg10_r0 c2_i32_294_r0
  let c0_i32_685_r0 : BitVec 32 := 0#32
  let c0_i32_687_r0 : BitVec 32 := 0#32
  let c0_i32_688_r0 : BitVec 32 := 0#32
  let c0_i32_689_r0 : BitVec 32 := 0#32
  let c0_i32_690_r0 : BitVec 32 := 0#32
  ![v403_r0.toNat, 0, 6, 0, 0, 0, 0]
def k0_off48 (arg10_r0 : BitVec 32) : Fin 7 → Nat :=
  let c2_i32_294_r0 : BitVec 32 := 2#32
  let v403_r0 : BitVec 32 := Scalar.remui arg10_r0 c2_i32_294_r0
  let c0_i32_700_r0 : BitVec 32 := 0#32
  let c0_i32_702_r0 : BitVec 32 := 0#32
  let c0_i32_704_r0 : BitVec 32 := 0#32
  let c0_i32_705_r0 : BitVec 32 := 0#32
  ![v403_r0.toNat, 0, 6, 0, 1, 0, 0]
def k0_off49 (arg10_r0 : BitVec 32) : Fin 7 → Nat :=
  let c2_i32_294_r0 : BitVec 32 := 2#32
  let v403_r0 : BitVec 32 := Scalar.remui arg10_r0 c2_i32_294_r0
  let c0_i32_715_r0 : BitVec 32 := 0#32
  let c0_i32_717_r0 : BitVec 32 := 0#32
  let c0_i32_719_r0 : BitVec 32 := 0#32
  let c0_i32_720_r0 : BitVec 32 := 0#32
  ![v403_r0.toNat, 0, 6, 0, 2, 0, 0]
def k0_off50 (arg10_r0 : BitVec 32) : Fin 7 → Nat :=
  let c2_i32_294_r0 : BitVec 32 := 2#32
  let v403_r0 : BitVec 32 := Scalar.remui arg10_r0 c2_i32_294_r0
  let c0_i32_730_r0 : BitVec 32 := 0#32
  let c0_i32_732_r0 : BitVec 32 := 0#32
  let c0_i32_734_r0 : BitVec 32 := 0#32
  let c0_i32_735_r0 : BitVec 32 := 0#32
  ![v403_r0.toNat, 0, 6, 0, 3, 0, 0]
def k0_off51 (arg10_r0 : BitVec 32) : Fin 7 → Nat :=
  let c2_i32_294_r0 : BitVec 32 := 2#32
  let v403_r0 : BitVec 32 := Scalar.remui arg10_r0 c2_i32_294_r0
  let c0_i32_745_r0 : BitVec 32 := 0#32
  let c0_i32_747_r0 : BitVec 32 := 0#32
  let c0_i32_748_r0 : BitVec 32 := 0#32
  let c0_i32_749_r0 : BitVec 32 := 0#32
  let c0_i32_750_r0 : BitVec 32 := 0#32
  ![v403_r0.toNat, 0, 7, 0, 0, 0, 0]
def k0_off52 (arg10_r0 : BitVec 32) : Fin 7 → Nat :=
  let c2_i32_294_r0 : BitVec 32 := 2#32
  let v403_r0 : BitVec 32 := Scalar.remui arg10_r0 c2_i32_294_r0
  let c0_i32_760_r0 : BitVec 32 := 0#32
  let c0_i32_762_r0 : BitVec 32 := 0#32
  let c0_i32_764_r0 : BitVec 32 := 0#32
  let c0_i32_765_r0 : BitVec 32 := 0#32
  ![v403_r0.toNat, 0, 7, 0, 1, 0, 0]
def k0_off53 (arg10_r0 : BitVec 32) : Fin 7 → Nat :=
  let c2_i32_294_r0 : BitVec 32 := 2#32
  let v403_r0 : BitVec 32 := Scalar.remui arg10_r0 c2_i32_294_r0
  let c0_i32_775_r0 : BitVec 32 := 0#32
  let c0_i32_777_r0 : BitVec 32 := 0#32
  let c0_i32_779_r0 : BitVec 32 := 0#32
  let c0_i32_780_r0 : BitVec 32 := 0#32
  ![v403_r0.toNat, 0, 7, 0, 2, 0, 0]
def k0_off54 (arg10_r0 : BitVec 32) : Fin 7 → Nat :=
  let c2_i32_294_r0 : BitVec 32 := 2#32
  let v403_r0 : BitVec 32 := Scalar.remui arg10_r0 c2_i32_294_r0
  let c0_i32_790_r0 : BitVec 32 := 0#32
  let c0_i32_792_r0 : BitVec 32 := 0#32
  let c0_i32_794_r0 : BitVec 32 := 0#32
  let c0_i32_795_r0 : BitVec 32 := 0#32
  ![v403_r0.toNat, 0, 7, 0, 3, 0, 0]

def k0_chk3_0 (arg10_r0 : BitVec 32) : Prop :=
  (∀ a, (k0_off22 arg10_r0) a + S1x1x8x1x4x256x128.size a ≤ S2x1x8x1x4x256x128.size a) ∧
  (∀ a, (k0_off23 arg10_r0) a + S1x1x1x1x1x256x128.size a ≤ S2x1x8x1x4x256x128.size a) ∧
  (∀ (hinb : ∀ a, (k0_off23 arg10_r0) a + S1x1x1x1x1x256x128.size a ≤ S2x1x8x1x4x256x128.size a), (Rect.unit (s := S2x1x8x1x4x256x128) (k0_off23 arg10_r0) S1x1x1x1x1x256x128.size hinb).PackedRows (EltTy.packing .bf16)) ∧
  (∀ a, (k0_off24 arg10_r0) a + S1x1x1x1x1x256x128.size a ≤ S2x1x8x1x4x256x128.size a) ∧
  (∀ (hinb : ∀ a, (k0_off24 arg10_r0) a + S1x1x1x1x1x256x128.size a ≤ S2x1x8x1x4x256x128.size a), (Rect.unit (s := S2x1x8x1x4x256x128) (k0_off24 arg10_r0) S1x1x1x1x1x256x128.size hinb).PackedRows (EltTy.packing .bf16)) ∧
  (∀ a, (k0_off25 arg10_r0) a + S1x1x1x1x1x256x128.size a ≤ S2x1x8x1x4x256x128.size a) ∧
  (∀ (hinb : ∀ a, (k0_off25 arg10_r0) a + S1x1x1x1x1x256x128.size a ≤ S2x1x8x1x4x256x128.size a), (Rect.unit (s := S2x1x8x1x4x256x128) (k0_off25 arg10_r0) S1x1x1x1x1x256x128.size hinb).PackedRows (EltTy.packing .bf16)) ∧
  (∀ a, (k0_off26 arg10_r0) a + S1x1x1x1x1x256x128.size a ≤ S2x1x8x1x4x256x128.size a) ∧
  (∀ (hinb : ∀ a, (k0_off26 arg10_r0) a + S1x1x1x1x1x256x128.size a ≤ S2x1x8x1x4x256x128.size a), (Rect.unit (s := S2x1x8x1x4x256x128) (k0_off26 arg10_r0) S1x1x1x1x1x256x128.size hinb).PackedRows (EltTy.packing .bf16)) ∧
  (∀ a, (k0_off27 arg10_r0) a + S1x1x1x1x1x256x128.size a ≤ S2x1x8x1x4x256x128.size a) ∧
  (∀ (hinb : ∀ a, (k0_off27 arg10_r0) a + S1x1x1x1x1x256x128.size a ≤ S2x1x8x1x4x256x128.size a), (Rect.unit (s := S2x1x8x1x4x256x128) (k0_off27 arg10_r0) S1x1x1x1x1x256x128.size hinb).PackedRows (EltTy.packing .bf16)) ∧
  (∀ a, (k0_off28 arg10_r0) a + S1x1x1x1x1x256x128.size a ≤ S2x1x8x1x4x256x128.size a) ∧
  (∀ (hinb : ∀ a, (k0_off28 arg10_r0) a + S1x1x1x1x1x256x128.size a ≤ S2x1x8x1x4x256x128.size a), (Rect.unit (s := S2x1x8x1x4x256x128) (k0_off28 arg10_r0) S1x1x1x1x1x256x128.size hinb).PackedRows (EltTy.packing .bf16)) ∧
  (∀ a, (k0_off29 arg10_r0) a + S1x1x1x1x1x256x128.size a ≤ S2x1x8x1x4x256x128.size a) ∧
  (∀ (hinb : ∀ a, (k0_off29 arg10_r0) a + S1x1x1x1x1x256x128.size a ≤ S2x1x8x1x4x256x128.size a), (Rect.unit (s := S2x1x8x1x4x256x128) (k0_off29 arg10_r0) S1x1x1x1x1x256x128.size hinb).PackedRows (EltTy.packing .bf16)) ∧
  (∀ a, (k0_off30 arg10_r0) a + S1x1x1x1x1x256x128.size a ≤ S2x1x8x1x4x256x128.size a) ∧
  (∀ (hinb : ∀ a, (k0_off30 arg10_r0) a + S1x1x1x1x1x256x128.size a ≤ S2x1x8x1x4x256x128.size a), (Rect.unit (s := S2x1x8x1x4x256x128) (k0_off30 arg10_r0) S1x1x1x1x1x256x128.size hinb).PackedRows (EltTy.packing .bf16)) ∧
  (∀ a, (k0_off31 arg10_r0) a + S1x1x1x1x1x256x128.size a ≤ S2x1x8x1x4x256x128.size a) ∧
  (∀ (hinb : ∀ a, (k0_off31 arg10_r0) a + S1x1x1x1x1x256x128.size a ≤ S2x1x8x1x4x256x128.size a), (Rect.unit (s := S2x1x8x1x4x256x128) (k0_off31 arg10_r0) S1x1x1x1x1x256x128.size hinb).PackedRows (EltTy.packing .bf16)) ∧
  (∀ a, (k0_off32 arg10_r0) a + S1x1x1x1x1x256x128.size a ≤ S2x1x8x1x4x256x128.size a) ∧
  (∀ (hinb : ∀ a, (k0_off32 arg10_r0) a + S1x1x1x1x1x256x128.size a ≤ S2x1x8x1x4x256x128.size a), (Rect.unit (s := S2x1x8x1x4x256x128) (k0_off32 arg10_r0) S1x1x1x1x1x256x128.size hinb).PackedRows (EltTy.packing .bf16)) ∧
  (∀ a, (k0_off33 arg10_r0) a + S1x1x1x1x1x256x128.size a ≤ S2x1x8x1x4x256x128.size a) ∧
  (∀ (hinb : ∀ a, (k0_off33 arg10_r0) a + S1x1x1x1x1x256x128.size a ≤ S2x1x8x1x4x256x128.size a), (Rect.unit (s := S2x1x8x1x4x256x128) (k0_off33 arg10_r0) S1x1x1x1x1x256x128.size hinb).PackedRows (EltTy.packing .bf16)) ∧
  (∀ a, (k0_off34 arg10_r0) a + S1x1x1x1x1x256x128.size a ≤ S2x1x8x1x4x256x128.size a) ∧
  (∀ (hinb : ∀ a, (k0_off34 arg10_r0) a + S1x1x1x1x1x256x128.size a ≤ S2x1x8x1x4x256x128.size a), (Rect.unit (s := S2x1x8x1x4x256x128) (k0_off34 arg10_r0) S1x1x1x1x1x256x128.size hinb).PackedRows (EltTy.packing .bf16)) ∧
  (∀ a, (k0_off35 arg10_r0) a + S1x1x1x1x1x256x128.size a ≤ S2x1x8x1x4x256x128.size a) ∧
  (∀ (hinb : ∀ a, (k0_off35 arg10_r0) a + S1x1x1x1x1x256x128.size a ≤ S2x1x8x1x4x256x128.size a), (Rect.unit (s := S2x1x8x1x4x256x128) (k0_off35 arg10_r0) S1x1x1x1x1x256x128.size hinb).PackedRows (EltTy.packing .bf16)) ∧
  (∀ a, (k0_off36 arg10_r0) a + S1x1x1x1x1x256x128.size a ≤ S2x1x8x1x4x256x128.size a) ∧
  (∀ (hinb : ∀ a, (k0_off36 arg10_r0) a + S1x1x1x1x1x256x128.size a ≤ S2x1x8x1x4x256x128.size a), (Rect.unit (s := S2x1x8x1x4x256x128) (k0_off36 arg10_r0) S1x1x1x1x1x256x128.size hinb).PackedRows (EltTy.packing .bf16)) ∧
  (∀ a, (k0_off37 arg10_r0) a + S1x1x1x1x1x256x128.size a ≤ S2x1x8x1x4x256x128.size a) ∧
  (∀ (hinb : ∀ a, (k0_off37 arg10_r0) a + S1x1x1x1x1x256x128.size a ≤ S2x1x8x1x4x256x128.size a), (Rect.unit (s := S2x1x8x1x4x256x128) (k0_off37 arg10_r0) S1x1x1x1x1x256x128.size hinb).PackedRows (EltTy.packing .bf16)) ∧
  (∀ a, (k0_off38 arg10_r0) a + S1x1x1x1x1x256x128.size a ≤ S2x1x8x1x4x256x128.size a)
def k0_chk3_1 (arg10_r0 : BitVec 32) : Prop :=
  (∀ (hinb : ∀ a, (k0_off38 arg10_r0) a + S1x1x1x1x1x256x128.size a ≤ S2x1x8x1x4x256x128.size a), (Rect.unit (s := S2x1x8x1x4x256x128) (k0_off38 arg10_r0) S1x1x1x1x1x256x128.size hinb).PackedRows (EltTy.packing .bf16)) ∧
  (∀ a, (k0_off39 arg10_r0) a + S1x1x1x1x1x256x128.size a ≤ S2x1x8x1x4x256x128.size a) ∧
  (∀ (hinb : ∀ a, (k0_off39 arg10_r0) a + S1x1x1x1x1x256x128.size a ≤ S2x1x8x1x4x256x128.size a), (Rect.unit (s := S2x1x8x1x4x256x128) (k0_off39 arg10_r0) S1x1x1x1x1x256x128.size hinb).PackedRows (EltTy.packing .bf16)) ∧
  (∀ a, (k0_off40 arg10_r0) a + S1x1x1x1x1x256x128.size a ≤ S2x1x8x1x4x256x128.size a) ∧
  (∀ (hinb : ∀ a, (k0_off40 arg10_r0) a + S1x1x1x1x1x256x128.size a ≤ S2x1x8x1x4x256x128.size a), (Rect.unit (s := S2x1x8x1x4x256x128) (k0_off40 arg10_r0) S1x1x1x1x1x256x128.size hinb).PackedRows (EltTy.packing .bf16)) ∧
  (∀ a, (k0_off41 arg10_r0) a + S1x1x1x1x1x256x128.size a ≤ S2x1x8x1x4x256x128.size a) ∧
  (∀ (hinb : ∀ a, (k0_off41 arg10_r0) a + S1x1x1x1x1x256x128.size a ≤ S2x1x8x1x4x256x128.size a), (Rect.unit (s := S2x1x8x1x4x256x128) (k0_off41 arg10_r0) S1x1x1x1x1x256x128.size hinb).PackedRows (EltTy.packing .bf16)) ∧
  (∀ a, (k0_off42 arg10_r0) a + S1x1x1x1x1x256x128.size a ≤ S2x1x8x1x4x256x128.size a) ∧
  (∀ (hinb : ∀ a, (k0_off42 arg10_r0) a + S1x1x1x1x1x256x128.size a ≤ S2x1x8x1x4x256x128.size a), (Rect.unit (s := S2x1x8x1x4x256x128) (k0_off42 arg10_r0) S1x1x1x1x1x256x128.size hinb).PackedRows (EltTy.packing .bf16)) ∧
  (∀ a, (k0_off43 arg10_r0) a + S1x1x1x1x1x256x128.size a ≤ S2x1x8x1x4x256x128.size a) ∧
  (∀ (hinb : ∀ a, (k0_off43 arg10_r0) a + S1x1x1x1x1x256x128.size a ≤ S2x1x8x1x4x256x128.size a), (Rect.unit (s := S2x1x8x1x4x256x128) (k0_off43 arg10_r0) S1x1x1x1x1x256x128.size hinb).PackedRows (EltTy.packing .bf16)) ∧
  (∀ a, (k0_off44 arg10_r0) a + S1x1x1x1x1x256x128.size a ≤ S2x1x8x1x4x256x128.size a) ∧
  (∀ (hinb : ∀ a, (k0_off44 arg10_r0) a + S1x1x1x1x1x256x128.size a ≤ S2x1x8x1x4x256x128.size a), (Rect.unit (s := S2x1x8x1x4x256x128) (k0_off44 arg10_r0) S1x1x1x1x1x256x128.size hinb).PackedRows (EltTy.packing .bf16)) ∧
  (∀ a, (k0_off45 arg10_r0) a + S1x1x1x1x1x256x128.size a ≤ S2x1x8x1x4x256x128.size a) ∧
  (∀ (hinb : ∀ a, (k0_off45 arg10_r0) a + S1x1x1x1x1x256x128.size a ≤ S2x1x8x1x4x256x128.size a), (Rect.unit (s := S2x1x8x1x4x256x128) (k0_off45 arg10_r0) S1x1x1x1x1x256x128.size hinb).PackedRows (EltTy.packing .bf16)) ∧
  (∀ a, (k0_off46 arg10_r0) a + S1x1x1x1x1x256x128.size a ≤ S2x1x8x1x4x256x128.size a) ∧
  (∀ (hinb : ∀ a, (k0_off46 arg10_r0) a + S1x1x1x1x1x256x128.size a ≤ S2x1x8x1x4x256x128.size a), (Rect.unit (s := S2x1x8x1x4x256x128) (k0_off46 arg10_r0) S1x1x1x1x1x256x128.size hinb).PackedRows (EltTy.packing .bf16)) ∧
  (∀ a, (k0_off47 arg10_r0) a + S1x1x1x1x1x256x128.size a ≤ S2x1x8x1x4x256x128.size a) ∧
  (∀ (hinb : ∀ a, (k0_off47 arg10_r0) a + S1x1x1x1x1x256x128.size a ≤ S2x1x8x1x4x256x128.size a), (Rect.unit (s := S2x1x8x1x4x256x128) (k0_off47 arg10_r0) S1x1x1x1x1x256x128.size hinb).PackedRows (EltTy.packing .bf16)) ∧
  (∀ a, (k0_off48 arg10_r0) a + S1x1x1x1x1x256x128.size a ≤ S2x1x8x1x4x256x128.size a) ∧
  (∀ (hinb : ∀ a, (k0_off48 arg10_r0) a + S1x1x1x1x1x256x128.size a ≤ S2x1x8x1x4x256x128.size a), (Rect.unit (s := S2x1x8x1x4x256x128) (k0_off48 arg10_r0) S1x1x1x1x1x256x128.size hinb).PackedRows (EltTy.packing .bf16)) ∧
  (∀ a, (k0_off49 arg10_r0) a + S1x1x1x1x1x256x128.size a ≤ S2x1x8x1x4x256x128.size a) ∧
  (∀ (hinb : ∀ a, (k0_off49 arg10_r0) a + S1x1x1x1x1x256x128.size a ≤ S2x1x8x1x4x256x128.size a), (Rect.unit (s := S2x1x8x1x4x256x128) (k0_off49 arg10_r0) S1x1x1x1x1x256x128.size hinb).PackedRows (EltTy.packing .bf16)) ∧
  (∀ a, (k0_off50 arg10_r0) a + S1x1x1x1x1x256x128.size a ≤ S2x1x8x1x4x256x128.size a) ∧
  (∀ (hinb : ∀ a, (k0_off50 arg10_r0) a + S1x1x1x1x1x256x128.size a ≤ S2x1x8x1x4x256x128.size a), (Rect.unit (s := S2x1x8x1x4x256x128) (k0_off50 arg10_r0) S1x1x1x1x1x256x128.size hinb).PackedRows (EltTy.packing .bf16)) ∧
  (∀ a, (k0_off51 arg10_r0) a + S1x1x1x1x1x256x128.size a ≤ S2x1x8x1x4x256x128.size a) ∧
  (∀ (hinb : ∀ a, (k0_off51 arg10_r0) a + S1x1x1x1x1x256x128.size a ≤ S2x1x8x1x4x256x128.size a), (Rect.unit (s := S2x1x8x1x4x256x128) (k0_off51 arg10_r0) S1x1x1x1x1x256x128.size hinb).PackedRows (EltTy.packing .bf16)) ∧
  (∀ a, (k0_off52 arg10_r0) a + S1x1x1x1x1x256x128.size a ≤ S2x1x8x1x4x256x128.size a) ∧
  (∀ (hinb : ∀ a, (k0_off52 arg10_r0) a + S1x1x1x1x1x256x128.size a ≤ S2x1x8x1x4x256x128.size a), (Rect.unit (s := S2x1x8x1x4x256x128) (k0_off52 arg10_r0) S1x1x1x1x1x256x128.size hinb).PackedRows (EltTy.packing .bf16)) ∧
  (∀ a, (k0_off53 arg10_r0) a + S1x1x1x1x1x256x128.size a ≤ S2x1x8x1x4x256x128.size a) ∧
  (∀ (hinb : ∀ a, (k0_off53 arg10_r0) a + S1x1x1x1x1x256x128.size a ≤ S2x1x8x1x4x256x128.size a), (Rect.unit (s := S2x1x8x1x4x256x128) (k0_off53 arg10_r0) S1x1x1x1x1x256x128.size hinb).PackedRows (EltTy.packing .bf16)) ∧
  (∀ a, (k0_off54 arg10_r0) a + S1x1x1x1x1x256x128.size a ≤ S2x1x8x1x4x256x128.size a)
def k0_chk3_2 (arg10_r0 : BitVec 32) : Prop :=
  (∀ (hinb : ∀ a, (k0_off54 arg10_r0) a + S1x1x1x1x1x256x128.size a ≤ S2x1x8x1x4x256x128.size a), (Rect.unit (s := S2x1x8x1x4x256x128) (k0_off54 arg10_r0) S1x1x1x1x1x256x128.size hinb).PackedRows (EltTy.packing .bf16))
def k0_chk3 (arg10_r0 : BitVec 32) : Prop :=
  k0_chk3_0 arg10_r0 ∧
  k0_chk3_1 arg10_r0 ∧
  k0_chk3_2 arg10_r0
theorem k0_off22_inb : ∀ (arg10_r0 : BitVec 32) (k0_hw3 : k0_chk3 arg10_r0), ∀ a, (k0_off22 arg10_r0) a + S1x1x8x1x4x256x128.size a ≤ S2x1x8x1x4x256x128.size a := fun arg10_r0 k0_hw3 => k0_hw3.1.1
theorem k0_off23_inb : ∀ (arg10_r0 : BitVec 32) (k0_hw3 : k0_chk3 arg10_r0), ∀ a, (k0_off23 arg10_r0) a + S1x1x1x1x1x256x128.size a ≤ S2x1x8x1x4x256x128.size a := fun arg10_r0 k0_hw3 => k0_hw3.1.2.1
theorem k0_off23_packedbf16 : ∀ (arg10_r0 : BitVec 32) (k0_hw3 : k0_chk3 arg10_r0), (Rect.unit (s := S2x1x8x1x4x256x128) (k0_off23 arg10_r0) S1x1x1x1x1x256x128.size (k0_off23_inb arg10_r0 k0_hw3)).PackedRows (EltTy.packing .bf16) := fun arg10_r0 k0_hw3 => k0_hw3.1.2.2.1 (k0_off23_inb arg10_r0 k0_hw3)
theorem k0_off24_inb : ∀ (arg10_r0 : BitVec 32) (k0_hw3 : k0_chk3 arg10_r0), ∀ a, (k0_off24 arg10_r0) a + S1x1x1x1x1x256x128.size a ≤ S2x1x8x1x4x256x128.size a := fun arg10_r0 k0_hw3 => k0_hw3.1.2.2.2.1
theorem k0_off24_packedbf16 : ∀ (arg10_r0 : BitVec 32) (k0_hw3 : k0_chk3 arg10_r0), (Rect.unit (s := S2x1x8x1x4x256x128) (k0_off24 arg10_r0) S1x1x1x1x1x256x128.size (k0_off24_inb arg10_r0 k0_hw3)).PackedRows (EltTy.packing .bf16) := fun arg10_r0 k0_hw3 => k0_hw3.1.2.2.2.2.1 (k0_off24_inb arg10_r0 k0_hw3)
theorem k0_off25_inb : ∀ (arg10_r0 : BitVec 32) (k0_hw3 : k0_chk3 arg10_r0), ∀ a, (k0_off25 arg10_r0) a + S1x1x1x1x1x256x128.size a ≤ S2x1x8x1x4x256x128.size a := fun arg10_r0 k0_hw3 => k0_hw3.1.2.2.2.2.2.1
theorem k0_off25_packedbf16 : ∀ (arg10_r0 : BitVec 32) (k0_hw3 : k0_chk3 arg10_r0), (Rect.unit (s := S2x1x8x1x4x256x128) (k0_off25 arg10_r0) S1x1x1x1x1x256x128.size (k0_off25_inb arg10_r0 k0_hw3)).PackedRows (EltTy.packing .bf16) := fun arg10_r0 k0_hw3 => k0_hw3.1.2.2.2.2.2.2.1 (k0_off25_inb arg10_r0 k0_hw3)
theorem k0_off26_inb : ∀ (arg10_r0 : BitVec 32) (k0_hw3 : k0_chk3 arg10_r0), ∀ a, (k0_off26 arg10_r0) a + S1x1x1x1x1x256x128.size a ≤ S2x1x8x1x4x256x128.size a := fun arg10_r0 k0_hw3 => k0_hw3.1.2.2.2.2.2.2.2.1
theorem k0_off26_packedbf16 : ∀ (arg10_r0 : BitVec 32) (k0_hw3 : k0_chk3 arg10_r0), (Rect.unit (s := S2x1x8x1x4x256x128) (k0_off26 arg10_r0) S1x1x1x1x1x256x128.size (k0_off26_inb arg10_r0 k0_hw3)).PackedRows (EltTy.packing .bf16) := fun arg10_r0 k0_hw3 => k0_hw3.1.2.2.2.2.2.2.2.2.1 (k0_off26_inb arg10_r0 k0_hw3)
theorem k0_off27_inb : ∀ (arg10_r0 : BitVec 32) (k0_hw3 : k0_chk3 arg10_r0), ∀ a, (k0_off27 arg10_r0) a + S1x1x1x1x1x256x128.size a ≤ S2x1x8x1x4x256x128.size a := fun arg10_r0 k0_hw3 => k0_hw3.1.2.2.2.2.2.2.2.2.2.1
theorem k0_off27_packedbf16 : ∀ (arg10_r0 : BitVec 32) (k0_hw3 : k0_chk3 arg10_r0), (Rect.unit (s := S2x1x8x1x4x256x128) (k0_off27 arg10_r0) S1x1x1x1x1x256x128.size (k0_off27_inb arg10_r0 k0_hw3)).PackedRows (EltTy.packing .bf16) := fun arg10_r0 k0_hw3 => k0_hw3.1.2.2.2.2.2.2.2.2.2.2.1 (k0_off27_inb arg10_r0 k0_hw3)
theorem k0_off28_inb : ∀ (arg10_r0 : BitVec 32) (k0_hw3 : k0_chk3 arg10_r0), ∀ a, (k0_off28 arg10_r0) a + S1x1x1x1x1x256x128.size a ≤ S2x1x8x1x4x256x128.size a := fun arg10_r0 k0_hw3 => k0_hw3.1.2.2.2.2.2.2.2.2.2.2.2.1
theorem k0_off28_packedbf16 : ∀ (arg10_r0 : BitVec 32) (k0_hw3 : k0_chk3 arg10_r0), (Rect.unit (s := S2x1x8x1x4x256x128) (k0_off28 arg10_r0) S1x1x1x1x1x256x128.size (k0_off28_inb arg10_r0 k0_hw3)).PackedRows (EltTy.packing .bf16) := fun arg10_r0 k0_hw3 => k0_hw3.1.2.2.2.2.2.2.2.2.2.2.2.2.1 (k0_off28_inb arg10_r0 k0_hw3)
theorem k0_off29_inb : ∀ (arg10_r0 : BitVec 32) (k0_hw3 : k0_chk3 arg10_r0), ∀ a, (k0_off29 arg10_r0) a + S1x1x1x1x1x256x128.size a ≤ S2x1x8x1x4x256x128.size a := fun arg10_r0 k0_hw3 => k0_hw3.1.2.2.2.2.2.2.2.2.2.2.2.2.2.1
theorem k0_off29_packedbf16 : ∀ (arg10_r0 : BitVec 32) (k0_hw3 : k0_chk3 arg10_r0), (Rect.unit (s := S2x1x8x1x4x256x128) (k0_off29 arg10_r0) S1x1x1x1x1x256x128.size (k0_off29_inb arg10_r0 k0_hw3)).PackedRows (EltTy.packing .bf16) := fun arg10_r0 k0_hw3 => k0_hw3.1.2.2.2.2.2.2.2.2.2.2.2.2.2.2.1 (k0_off29_inb arg10_r0 k0_hw3)
theorem k0_off30_inb : ∀ (arg10_r0 : BitVec 32) (k0_hw3 : k0_chk3 arg10_r0), ∀ a, (k0_off30 arg10_r0) a + S1x1x1x1x1x256x128.size a ≤ S2x1x8x1x4x256x128.size a := fun arg10_r0 k0_hw3 => k0_hw3.1.2.2.2.2.2.2.2.2.2.2.2.2.2.2.2.1
theorem k0_off30_packedbf16 : ∀ (arg10_r0 : BitVec 32) (k0_hw3 : k0_chk3 arg10_r0), (Rect.unit (s := S2x1x8x1x4x256x128) (k0_off30 arg10_r0) S1x1x1x1x1x256x128.size (k0_off30_inb arg10_r0 k0_hw3)).PackedRows (EltTy.packing .bf16) := fun arg10_r0 k0_hw3 => k0_hw3.1.2.2.2.2.2.2.2.2.2.2.2.2.2.2.2.2.1 (k0_off30_inb arg10_r0 k0_hw3)
theorem k0_off31_inb : ∀ (arg10_r0 : BitVec 32) (k0_hw3 : k0_chk3 arg10_r0), ∀ a, (k0_off31 arg10_r0) a + S1x1x1x1x1x256x128.size a ≤ S2x1x8x1x4x256x128.size a := fun arg10_r0 k0_hw3 => k0_hw3.1.2.2.2.2.2.2.2.2.2.2.2.2.2.2.2.2.2.1
theorem k0_off31_packedbf16 : ∀ (arg10_r0 : BitVec 32) (k0_hw3 : k0_chk3 arg10_r0), (Rect.unit (s := S2x1x8x1x4x256x128) (k0_off31 arg10_r0) S1x1x1x1x1x256x128.size (k0_off31_inb arg10_r0 k0_hw3)).PackedRows (EltTy.packing .bf16) := fun arg10_r0 k0_hw3 => k0_hw3.1.2.2.2.2.2.2.2.2.2.2.2.2.2.2.2.2.2.2.1 (k0_off31_inb arg10_r0 k0_hw3)
theorem k0_off32_inb : ∀ (arg10_r0 : BitVec 32) (k0_hw3 : k0_chk3 arg10_r0), ∀ a, (k0_off32 arg10_r0) a + S1x1x1x1x1x256x128.size a ≤ S2x1x8x1x4x256x128.size a := fun arg10_r0 k0_hw3 => k0_hw3.1.2.2.2.2.2.2.2.2.2.2.2.2.2.2.2.2.2.2.2.1
theorem k0_off32_packedbf16 : ∀ (arg10_r0 : BitVec 32) (k0_hw3 : k0_chk3 arg10_r0), (Rect.unit (s := S2x1x8x1x4x256x128) (k0_off32 arg10_r0) S1x1x1x1x1x256x128.size (k0_off32_inb arg10_r0 k0_hw3)).PackedRows (EltTy.packing .bf16) := fun arg10_r0 k0_hw3 => k0_hw3.1.2.2.2.2.2.2.2.2.2.2.2.2.2.2.2.2.2.2.2.2.1 (k0_off32_inb arg10_r0 k0_hw3)
theorem k0_off33_inb : ∀ (arg10_r0 : BitVec 32) (k0_hw3 : k0_chk3 arg10_r0), ∀ a, (k0_off33 arg10_r0) a + S1x1x1x1x1x256x128.size a ≤ S2x1x8x1x4x256x128.size a := fun arg10_r0 k0_hw3 => k0_hw3.1.2.2.2.2.2.2.2.2.2.2.2.2.2.2.2.2.2.2.2.2.2.1
theorem k0_off33_packedbf16 : ∀ (arg10_r0 : BitVec 32) (k0_hw3 : k0_chk3 arg10_r0), (Rect.unit (s := S2x1x8x1x4x256x128) (k0_off33 arg10_r0) S1x1x1x1x1x256x128.size (k0_off33_inb arg10_r0 k0_hw3)).PackedRows (EltTy.packing .bf16) := fun arg10_r0 k0_hw3 => k0_hw3.1.2.2.2.2.2.2.2.2.2.2.2.2.2.2.2.2.2.2.2.2.2.2.1 (k0_off33_inb arg10_r0 k0_hw3)
theorem k0_off34_inb : ∀ (arg10_r0 : BitVec 32) (k0_hw3 : k0_chk3 arg10_r0), ∀ a, (k0_off34 arg10_r0) a + S1x1x1x1x1x256x128.size a ≤ S2x1x8x1x4x256x128.size a := fun arg10_r0 k0_hw3 => k0_hw3.1.2.2.2.2.2.2.2.2.2.2.2.2.2.2.2.2.2.2.2.2.2.2.2.1
theorem k0_off34_packedbf16 : ∀ (arg10_r0 : BitVec 32) (k0_hw3 : k0_chk3 arg10_r0), (Rect.unit (s := S2x1x8x1x4x256x128) (k0_off34 arg10_r0) S1x1x1x1x1x256x128.size (k0_off34_inb arg10_r0 k0_hw3)).PackedRows (EltTy.packing .bf16) := fun arg10_r0 k0_hw3 => k0_hw3.1.2.2.2.2.2.2.2.2.2.2.2.2.2.2.2.2.2.2.2.2.2.2.2.2.1 (k0_off34_inb arg10_r0 k0_hw3)
theorem k0_off35_inb : ∀ (arg10_r0 : BitVec 32) (k0_hw3 : k0_chk3 arg10_r0), ∀ a, (k0_off35 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.1
theorem k0_off35_packedbf16 : ∀ (arg10_r0 : BitVec 32) (k0_hw3 : k0_chk3 arg10_r0), (Rect.unit (s := S2x1x8x1x4x256x128) (k0_off35 arg10_r0) S1x1x1x1x1x256x128.size (k0_off35_inb arg10_r0 k0_hw3)).PackedRows (EltTy.packing .bf16) := fun arg10_r0 k0_hw3 => k0_hw3.1.2.2.2.2.2.2.2.2.2.2.2.2.2.2.2.2.2.2.2.2.2.2.2.2.2.2.1 (k0_off35_inb arg10_r0 k0_hw3)
theorem k0_off36_inb : ∀ (arg10_r0 : BitVec 32) (k0_hw3 : k0_chk3 arg10_r0), ∀ a, (k0_off36 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.2.2.1
theorem k0_off36_packedbf16 : ∀ (arg10_r0 : BitVec 32) (k0_hw3 : k0_chk3 arg10_r0), (Rect.unit (s := S2x1x8x1x4x256x128) (k0_off36 arg10_r0) S1x1x1x1x1x256x128.size (k0_off36_inb arg10_r0 k0_hw3)).PackedRows (EltTy.packing .bf16) := fun arg10_r0 k0_hw3 => k0_hw3.1.2.2.2.2.2.2.2.2.2.2.2.2.2.2.2.2.2.2.2.2.2.2.2.2.2.2.2.2.1 (k0_off36_inb arg10_r0 k0_hw3)
theorem k0_off37_inb : ∀ (arg10_r0 : BitVec 32) (k0_hw3 : k0_chk3 arg10_r0), ∀ a, (k0_off37 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.2.2.2.2.1
theorem k0_off37_packedbf16 : ∀ (arg10_r0 : BitVec 32) (k0_hw3 : k0_chk3 arg10_r0), (Rect.unit (s := S2x1x8x1x4x256x128) (k0_off37 arg10_r0) S1x1x1x1x1x256x128.size (k0_off37_inb arg10_r0 k0_hw3)).PackedRows (EltTy.packing .bf16) := fun arg10_r0 k0_hw3 => k0_hw3.1.2.2.2.2.2.2.2.2.2.2.2.2.2.2.2.2.2.2.2.2.2.2.2.2.2.2.2.2.2.2.1 (k0_off37_inb arg10_r0 k0_hw3)
theorem k0_off38_inb : ∀ (arg10_r0 : BitVec 32) (k0_hw3 : k0_chk3 arg10_r0), ∀ a, (k0_off38 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.2.2.2.2.2.2
theorem k0_off38_packedbf16 : ∀ (arg10_r0 : BitVec 32) (k0_hw3 : k0_chk3 arg10_r0), (Rect.unit (s := S2x1x8x1x4x256x128) (k0_off38 arg10_r0) S1x1x1x1x1x256x128.size (k0_off38_inb arg10_r0 k0_hw3)).PackedRows (EltTy.packing .bf16) := fun arg10_r0 k0_hw3 => k0_hw3.2.1.1 (k0_off38_inb arg10_r0 k0_hw3)
theorem k0_off39_inb : ∀ (arg10_r0 : BitVec 32) (k0_hw3 : k0_chk3 arg10_r0), ∀ a, (k0_off39 arg10_r0) a + S1x1x1x1x1x256x128.size a ≤ S2x1x8x1x4x256x128.size a := fun arg10_r0 k0_hw3 => k0_hw3.2.1.2.1
theorem k0_off39_packedbf16 : ∀ (arg10_r0 : BitVec 32) (k0_hw3 : k0_chk3 arg10_r0), (Rect.unit (s := S2x1x8x1x4x256x128) (k0_off39 arg10_r0) S1x1x1x1x1x256x128.size (k0_off39_inb arg10_r0 k0_hw3)).PackedRows (EltTy.packing .bf16) := fun arg10_r0 k0_hw3 => k0_hw3.2.1.2.2.1 (k0_off39_inb arg10_r0 k0_hw3)
theorem k0_off40_inb : ∀ (arg10_r0 : BitVec 32) (k0_hw3 : k0_chk3 arg10_r0), ∀ a, (k0_off40 arg10_r0) a + S1x1x1x1x1x256x128.size a ≤ S2x1x8x1x4x256x128.size a := fun arg10_r0 k0_hw3 => k0_hw3.2.1.2.2.2.1
theorem k0_off40_packedbf16 : ∀ (arg10_r0 : BitVec 32) (k0_hw3 : k0_chk3 arg10_r0), (Rect.unit (s := S2x1x8x1x4x256x128) (k0_off40 arg10_r0) S1x1x1x1x1x256x128.size (k0_off40_inb arg10_r0 k0_hw3)).PackedRows (EltTy.packing .bf16) := fun arg10_r0 k0_hw3 => k0_hw3.2.1.2.2.2.2.1 (k0_off40_inb arg10_r0 k0_hw3)
theorem k0_off41_inb : ∀ (arg10_r0 : BitVec 32) (k0_hw3 : k0_chk3 arg10_r0), ∀ a, (k0_off41 arg10_r0) a + S1x1x1x1x1x256x128.size a ≤ S2x1x8x1x4x256x128.size a := fun arg10_r0 k0_hw3 => k0_hw3.2.1.2.2.2.2.2.1
theorem k0_off41_packedbf16 : ∀ (arg10_r0 : BitVec 32) (k0_hw3 : k0_chk3 arg10_r0), (Rect.unit (s := S2x1x8x1x4x256x128) (k0_off41 arg10_r0) S1x1x1x1x1x256x128.size (k0_off41_inb arg10_r0 k0_hw3)).PackedRows (EltTy.packing .bf16) := fun arg10_r0 k0_hw3 => k0_hw3.2.1.2.2.2.2.2.2.1 (k0_off41_inb arg10_r0 k0_hw3)
theorem k0_off42_inb : ∀ (arg10_r0 : BitVec 32) (k0_hw3 : k0_chk3 arg10_r0), ∀ a, (k0_off42 arg10_r0) a + S1x1x1x1x1x256x128.size a ≤ S2x1x8x1x4x256x128.size a := fun arg10_r0 k0_hw3 => k0_hw3.2.1.2.2.2.2.2.2.2.1
theorem k0_off42_packedbf16 : ∀ (arg10_r0 : BitVec 32) (k0_hw3 : k0_chk3 arg10_r0), (Rect.unit (s := S2x1x8x1x4x256x128) (k0_off42 arg10_r0) S1x1x1x1x1x256x128.size (k0_off42_inb arg10_r0 k0_hw3)).PackedRows (EltTy.packing .bf16) := fun arg10_r0 k0_hw3 => k0_hw3.2.1.2.2.2.2.2.2.2.2.1 (k0_off42_inb arg10_r0 k0_hw3)
theorem k0_off43_inb : ∀ (arg10_r0 : BitVec 32) (k0_hw3 : k0_chk3 arg10_r0), ∀ a, (k0_off43 arg10_r0) a + S1x1x1x1x1x256x128.size a ≤ S2x1x8x1x4x256x128.size a := fun arg10_r0 k0_hw3 => k0_hw3.2.1.2.2.2.2.2.2.2.2.2.1
theorem k0_off43_packedbf16 : ∀ (arg10_r0 : BitVec 32) (k0_hw3 : k0_chk3 arg10_r0), (Rect.unit (s := S2x1x8x1x4x256x128) (k0_off43 arg10_r0) S1x1x1x1x1x256x128.size (k0_off43_inb arg10_r0 k0_hw3)).PackedRows (EltTy.packing .bf16) := fun arg10_r0 k0_hw3 => k0_hw3.2.1.2.2.2.2.2.2.2.2.2.2.1 (k0_off43_inb arg10_r0 k0_hw3)
theorem k0_off44_inb : ∀ (arg10_r0 : BitVec 32) (k0_hw3 : k0_chk3 arg10_r0), ∀ a, (k0_off44 arg10_r0) a + S1x1x1x1x1x256x128.size a ≤ S2x1x8x1x4x256x128.size a := fun arg10_r0 k0_hw3 => k0_hw3.2.1.2.2.2.2.2.2.2.2.2.2.2.1
theorem k0_off44_packedbf16 : ∀ (arg10_r0 : BitVec 32) (k0_hw3 : k0_chk3 arg10_r0), (Rect.unit (s := S2x1x8x1x4x256x128) (k0_off44 arg10_r0) S1x1x1x1x1x256x128.size (k0_off44_inb arg10_r0 k0_hw3)).PackedRows (EltTy.packing .bf16) := fun arg10_r0 k0_hw3 => k0_hw3.2.1.2.2.2.2.2.2.2.2.2.2.2.2.1 (k0_off44_inb arg10_r0 k0_hw3)
theorem k0_off45_inb : ∀ (arg10_r0 : BitVec 32) (k0_hw3 : k0_chk3 arg10_r0), ∀ a, (k0_off45 arg10_r0) a + S1x1x1x1x1x256x128.size a ≤ S2x1x8x1x4x256x128.size a := fun arg10_r0 k0_hw3 => k0_hw3.2.1.2.2.2.2.2.2.2.2.2.2.2.2.2.1
theorem k0_off45_packedbf16 : ∀ (arg10_r0 : BitVec 32) (k0_hw3 : k0_chk3 arg10_r0), (Rect.unit (s := S2x1x8x1x4x256x128) (k0_off45 arg10_r0) S1x1x1x1x1x256x128.size (k0_off45_inb arg10_r0 k0_hw3)).PackedRows (EltTy.packing .bf16) := fun arg10_r0 k0_hw3 => k0_hw3.2.1.2.2.2.2.2.2.2.2.2.2.2.2.2.2.1 (k0_off45_inb arg10_r0 k0_hw3)
theorem k0_off46_inb : ∀ (arg10_r0 : BitVec 32) (k0_hw3 : k0_chk3 arg10_r0), ∀ a, (k0_off46 arg10_r0) a + S1x1x1x1x1x256x128.size a ≤ S2x1x8x1x4x256x128.size a := fun arg10_r0 k0_hw3 => k0_hw3.2.1.2.2.2.2.2.2.2.2.2.2.2.2.2.2.2.1
theorem k0_off46_packedbf16 : ∀ (arg10_r0 : BitVec 32) (k0_hw3 : k0_chk3 arg10_r0), (Rect.unit (s := S2x1x8x1x4x256x128) (k0_off46 arg10_r0) S1x1x1x1x1x256x128.size (k0_off46_inb arg10_r0 k0_hw3)).PackedRows (EltTy.packing .bf16) := fun arg10_r0 k0_hw3 => k0_hw3.2.1.2.2.2.2.2.2.2.2.2.2.2.2.2.2.2.2.1 (k0_off46_inb arg10_r0 k0_hw3)
theorem k0_off47_inb : ∀ (arg10_r0 : BitVec 32) (k0_hw3 : k0_chk3 arg10_r0), ∀ a, (k0_off47 arg10_r0) a + S1x1x1x1x1x256x128.size a ≤ S2x1x8x1x4x256x128.size a := fun arg10_r0 k0_hw3 => k0_hw3.2.1.2.2.2.2.2.2.2.2.2.2.2.2.2.2.2.2.2.1
theorem k0_off47_packedbf16 : ∀ (arg10_r0 : BitVec 32) (k0_hw3 : k0_chk3 arg10_r0), (Rect.unit (s := S2x1x8x1x4x256x128) (k0_off47 arg10_r0) S1x1x1x1x1x256x128.size (k0_off47_inb arg10_r0 k0_hw3)).PackedRows (EltTy.packing .bf16) := fun arg10_r0 k0_hw3 => k0_hw3.2.1.2.2.2.2.2.2.2.2.2.2.2.2.2.2.2.2.2.2.1 (k0_off47_inb arg10_r0 k0_hw3)
theorem k0_off48_inb : ∀ (arg10_r0 : BitVec 32) (k0_hw3 : k0_chk3 arg10_r0), ∀ a, (k0_off48 arg10_r0) a + S1x1x1x1x1x256x128.size a ≤ S2x1x8x1x4x256x128.size a := fun arg10_r0 k0_hw3 => k0_hw3.2.1.2.2.2.2.2.2.2.2.2.2.2.2.2.2.2.2.2.2.2.1
theorem k0_off48_packedbf16 : ∀ (arg10_r0 : BitVec 32) (k0_hw3 : k0_chk3 arg10_r0), (Rect.unit (s := S2x1x8x1x4x256x128) (k0_off48 arg10_r0) S1x1x1x1x1x256x128.size (k0_off48_inb arg10_r0 k0_hw3)).PackedRows (EltTy.packing .bf16) := fun arg10_r0 k0_hw3 => k0_hw3.2.1.2.2.2.2.2.2.2.2.2.2.2.2.2.2.2.2.2.2.2.2.1 (k0_off48_inb arg10_r0 k0_hw3)
theorem k0_off49_inb : ∀ (arg10_r0 : BitVec 32) (k0_hw3 : k0_chk3 arg10_r0), ∀ a, (k0_off49 arg10_r0) a + S1x1x1x1x1x256x128.size a ≤ S2x1x8x1x4x256x128.size a := fun arg10_r0 k0_hw3 => k0_hw3.2.1.2.2.2.2.2.2.2.2.2.2.2.2.2.2.2.2.2.2.2.2.2.1
theorem k0_off49_packedbf16 : ∀ (arg10_r0 : BitVec 32) (k0_hw3 : k0_chk3 arg10_r0), (Rect.unit (s := S2x1x8x1x4x256x128) (k0_off49 arg10_r0) S1x1x1x1x1x256x128.size (k0_off49_inb arg10_r0 k0_hw3)).PackedRows (EltTy.packing .bf16) := fun arg10_r0 k0_hw3 => k0_hw3.2.1.2.2.2.2.2.2.2.2.2.2.2.2.2.2.2.2.2.2.2.2.2.2.1 (k0_off49_inb arg10_r0 k0_hw3)
theorem k0_off50_inb : ∀ (arg10_r0 : BitVec 32) (k0_hw3 : k0_chk3 arg10_r0), ∀ a, (k0_off50 arg10_r0) a + S1x1x1x1x1x256x128.size a ≤ S2x1x8x1x4x256x128.size a := fun arg10_r0 k0_hw3 => k0_hw3.2.1.2.2.2.2.2.2.2.2.2.2.2.2.2.2.2.2.2.2.2.2.2.2.2.1
theorem k0_off50_packedbf16 : ∀ (arg10_r0 : BitVec 32) (k0_hw3 : k0_chk3 arg10_r0), (Rect.unit (s := S2x1x8x1x4x256x128) (k0_off50 arg10_r0) S1x1x1x1x1x256x128.size (k0_off50_inb arg10_r0 k0_hw3)).PackedRows (EltTy.packing .bf16) := fun arg10_r0 k0_hw3 => k0_hw3.2.1.2.2.2.2.2.2.2.2.2.2.2.2.2.2.2.2.2.2.2.2.2.2.2.2.1 (k0_off50_inb arg10_r0 k0_hw3)
theorem k0_off51_inb : ∀ (arg10_r0 : BitVec 32) (k0_hw3 : k0_chk3 arg10_r0), ∀ a, (k0_off51 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.1
theorem k0_off51_packedbf16 : ∀ (arg10_r0 : BitVec 32) (k0_hw3 : k0_chk3 arg10_r0), (Rect.unit (s := S2x1x8x1x4x256x128) (k0_off51 arg10_r0) S1x1x1x1x1x256x128.size (k0_off51_inb arg10_r0 k0_hw3)).PackedRows (EltTy.packing .bf16) := fun arg10_r0 k0_hw3 => k0_hw3.2.1.2.2.2.2.2.2.2.2.2.2.2.2.2.2.2.2.2.2.2.2.2.2.2.2.2.2.1 (k0_off51_inb arg10_r0 k0_hw3)
theorem k0_off52_inb : ∀ (arg10_r0 : BitVec 32) (k0_hw3 : k0_chk3 arg10_r0), ∀ a, (k0_off52 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.2.2.1
theorem k0_off52_packedbf16 : ∀ (arg10_r0 : BitVec 32) (k0_hw3 : k0_chk3 arg10_r0), (Rect.unit (s := S2x1x8x1x4x256x128) (k0_off52 arg10_r0) S1x1x1x1x1x256x128.size (k0_off52_inb arg10_r0 k0_hw3)).PackedRows (EltTy.packing .bf16) := fun arg10_r0 k0_hw3 => k0_hw3.2.1.2.2.2.2.2.2.2.2.2.2.2.2.2.2.2.2.2.2.2.2.2.2.2.2.2.2.2.2.1 (k0_off52_inb arg10_r0 k0_hw3)
theorem k0_off53_inb : ∀ (arg10_r0 : BitVec 32) (k0_hw3 : k0_chk3 arg10_r0), ∀ a, (k0_off53 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.2.2.2.2.1
theorem k0_off53_packedbf16 : ∀ (arg10_r0 : BitVec 32) (k0_hw3 : k0_chk3 arg10_r0), (Rect.unit (s := S2x1x8x1x4x256x128) (k0_off53 arg10_r0) S1x1x1x1x1x256x128.size (k0_off53_inb arg10_r0 k0_hw3)).PackedRows (EltTy.packing .bf16) := fun arg10_r0 k0_hw3 => k0_hw3.2.1.2.2.2.2.2.2.2.2.2.2.2.2.2.2.2.2.2.2.2.2.2.2.2.2.2.2.2.2.2.2.1 (k0_off53_inb arg10_r0 k0_hw3)
theorem k0_off54_inb : ∀ (arg10_r0 : BitVec 32) (k0_hw3 : k0_chk3 arg10_r0), ∀ a, (k0_off54 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.2.2.2.2.2.2
theorem k0_off54_packedbf16 : ∀ (arg10_r0 : BitVec 32) (k0_hw3 : k0_chk3 arg10_r0), (Rect.unit (s := S2x1x8x1x4x256x128) (k0_off54 arg10_r0) S1x1x1x1x1x256x128.size (k0_off54_inb arg10_r0 k0_hw3)).PackedRows (EltTy.packing .bf16) := fun arg10_r0 k0_hw3 => k0_hw3.2.2 (k0_off54_inb arg10_r0 k0_hw3)

def k0_off55 (arg10_r0 : BitVec 32) : Fin 1 → Nat :=
  let c2_i32_830_r0 : BitVec 32 := 2#32
  let v778_r0 : BitVec 32 := Scalar.remui arg10_r0 c2_i32_830_r0
  ![v778_r0.toNat]
def k0_cond10 (k0_t1 : Fin k0_t1_loop.trips) (arg12_r0 : BitVec 32) (arg13_r0 : BitVec 32) (arg14_r0 : BitVec 32) : BitVec 1 :=
  let c0_i32_177_r0 : BitVec 32 := 0#32
  let v197_r0 : BitVec 32 := Scalar.addi arg13_r0 c0_i32_177_r0
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c0_i32_203_r0 : BitVec 32 := 0#32
  let v227_r0 : BitVec 32 := Scalar.addi v221_r0 c0_i32_203_r0
  let v715_r0 : BitVec 1 := Scalar.cmpi .ne v197_r0 v227_r0
  let c0_i32_176_r0 : BitVec 32 := 0#32
  let v196_r0 : BitVec 32 := Scalar.addi arg12_r0 c0_i32_176_r0
  let c2_i32_244_r0 : BitVec 32 := 2#32
  let c0_i32_245_r0 : BitVec 32 := 0#32
  let v283_r0 : BitVec 1 := Scalar.cmpi .eq c2_i32_244_r0 c0_i32_245_r0
  let c1_i32_246_r0 : BitVec 32 := 1#32
  let v284_r0 : BitVec 32 := Scalar.select v283_r0 c1_i32_246_r0 c2_i32_244_r0
  let v285_r0 : BitVec 32 := Scalar.remsi v196_r0 v284_r0
  let c0_i32_248_r0 : BitVec 32 := 0#32
  let v287_r0 : BitVec 1 := Scalar.cmpi .slt v285_r0 c0_i32_248_r0
  let c0_i32_249_r0 : BitVec 32 := 0#32
  let v288_r0 : BitVec 1 := Scalar.cmpi .slt v284_r0 c0_i32_249_r0
  let v289_r0 : BitVec 1 := Scalar.xori v287_r0 v288_r0
  let c0_i32_247_r0 : BitVec 32 := 0#32
  let v286_r0 : BitVec 1 := Scalar.cmpi .ne v285_r0 c0_i32_247_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_199_r0 : BitVec 32 := 1#32
  let v222_r0 : BitVec 32 := Scalar.addi arg12_r0 c1_i32_199_r0
  let v223_r0 : BitVec 32 := Scalar.select v220_r0 v222_r0 arg12_r0
  let c4_i32_200_r0 : BitVec 32 := 4#32
  let v224_r0 : BitVec 1 := Scalar.cmpi .eq v223_r0 c4_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let c2_i32_257_r0 : BitVec 32 := 2#32
  let c0_i32_258_r0 : BitVec 32 := 0#32
  let v310_r0 : BitVec 1 := Scalar.cmpi .eq c2_i32_257_r0 c0_i32_258_r0
  let c1_i32_259_r0 : BitVec 32 := 1#32
  let v311_r0 : BitVec 32 := Scalar.select v310_r0 c1_i32_259_r0 c2_i32_257_r0
  let v312_r0 : BitVec 32 := Scalar.remsi v226_r0 v311_r0
  let c0_i32_261_r0 : BitVec 32 := 0#32
  let v314_r0 : BitVec 1 := Scalar.cmpi .slt v312_r0 c0_i32_261_r0
  let c0_i32_262_r0 : BitVec 32 := 0#32
  let v315_r0 : BitVec 1 := Scalar.cmpi .slt v311_r0 c0_i32_262_r0
  let v316_r0 : BitVec 1 := Scalar.xori v314_r0 v315_r0
  let c0_i32_260_r0 : BitVec 32 := 0#32
  let v313_r0 : BitVec 1 := Scalar.cmpi .ne v312_r0 c0_i32_260_r0
  let v317_r0 : BitVec 1 := Scalar.andi v316_r0 v313_r0
  let v318_r0 : BitVec 32 := Scalar.addi v312_r0 v311_r0
  let v319_r0 : BitVec 32 := Scalar.select v317_r0 v318_r0 v312_r0
  let v716_r0 : BitVec 1 := Scalar.cmpi .ne v292_r0 v319_r0
  let v719_r0 : BitVec 1 := Scalar.ori v715_r0 v716_r0
  let c0_i32_251_r0 : BitVec 32 := 0#32
  let v294_r0 : BitVec 1 := Scalar.cmpi .sgt v196_r0 c0_i32_251_r0
  let v295_r0 : BitVec 32 := Scalar.extui v294_r0
  let c0_i32_252_r0 : BitVec 32 := 0#32
  let v296_r0 : BitVec 1 := Scalar.cmpi .slt v196_r0 c0_i32_252_r0
  let v297_r0 : BitVec 32 := Scalar.extui v296_r0
  let v298_r0 : BitVec 32 := Scalar.subi v295_r0 v297_r0
  let c2_i32_250_r0 : BitVec 32 := 2#32
  let c0_i32_253_r0 : BitVec 32 := 0#32
  let v299_r0 : BitVec 1 := Scalar.cmpi .sgt c2_i32_250_r0 c0_i32_253_r0
  let v300_r0 : BitVec 32 := Scalar.extui v299_r0
  let c0_i32_254_r0 : BitVec 32 := 0#32
  let v301_r0 : BitVec 1 := Scalar.cmpi .slt c2_i32_250_r0 c0_i32_254_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_250_r0
  let c0_i32_255_r0 : BitVec 32 := 0#32
  let v306_r0 : BitVec 1 := Scalar.cmpi .ne v305_r0 c0_i32_255_r0
  let v307_r0 : BitVec 1 := Scalar.andi v304_r0 v306_r0
  let v293_r0 : BitVec 32 := Scalar.divsi v196_r0 c2_i32_250_r0
  let c1_i32_256_r0 : BitVec 32 := 1#32
  let v308_r0 : BitVec 32 := Scalar.subi v293_r0 c1_i32_256_r0
  let v309_r0 : BitVec 32 := Scalar.select v307_r0 v308_r0 v293_r0
  let c0_i32_264_r0 : BitVec 32 := 0#32
  let v321_r0 : BitVec 1 := Scalar.cmpi .sgt v226_r0 c0_i32_264_r0
  let v322_r0 : BitVec 32 := Scalar.extui v321_r0
  let c0_i32_265_r0 : BitVec 32 := 0#32
  let v323_r0 : BitVec 1 := Scalar.cmpi .slt v226_r0 c0_i32_265_r0
  let v324_r0 : BitVec 32 := Scalar.extui v323_r0
  let v325_r0 : BitVec 32 := Scalar.subi v322_r0 v324_r0
  let c2_i32_263_r0 : BitVec 32 := 2#32
  let c0_i32_266_r0 : BitVec 32 := 0#32
  let v326_r0 : BitVec 1 := Scalar.cmpi .sgt c2_i32_263_r0 c0_i32_266_r0
  let v327_r0 : BitVec 32 := Scalar.extui v326_r0
  let c0_i32_267_r0 : BitVec 32 := 0#32
  let v328_r0 : BitVec 1 := Scalar.cmpi .slt c2_i32_263_r0 c0_i32_267_r0
  let v329_r0 : BitVec 32 := Scalar.extui v328_r0
  let v330_r0 : BitVec 32 := Scalar.subi v327_r0 v329_r0
  let v331_r0 : BitVec 1 := Scalar.cmpi .ne v325_r0 v330_r0
  let v332_r0 : BitVec 32 := Scalar.remsi v226_r0 c2_i32_263_r0
  let c0_i32_268_r0 : BitVec 32 := 0#32
  let v333_r0 : BitVec 1 := Scalar.cmpi .ne v332_r0 c0_i32_268_r0
  let v334_r0 : BitVec 1 := Scalar.andi v331_r0 v333_r0
  let v320_r0 : BitVec 32 := Scalar.divsi v226_r0 c2_i32_263_r0
  let c1_i32_269_r0 : BitVec 32 := 1#32
  let v335_r0 : BitVec 32 := Scalar.subi v320_r0 c1_i32_269_r0
  let v336_r0 : BitVec 32 := Scalar.select v334_r0 v335_r0 v320_r0
  let v717_r0 : BitVec 1 := Scalar.cmpi .ne v309_r0 v336_r0
  let v720_r0 : BitVec 1 := Scalar.ori v719_r0 v717_r0
  let c0_i32_178_r0 : BitVec 32 := 0#32
  let v198_r0 : BitVec 32 := Scalar.addi arg14_r0 c0_i32_178_r0
  let c0_i32_195_r0 : BitVec 32 := 0#32
  let v217_r0 : BitVec 32 := Scalar.select v216_r0 c0_i32_195_r0 v215_r0
  let c0_i32_204_r0 : BitVec 32 := 0#32
  let v228_r0 : BitVec 32 := Scalar.addi v217_r0 c0_i32_204_r0
  let v718_r0 : BitVec 1 := Scalar.cmpi .ne v198_r0 v228_r0
  let v721_r0 : BitVec 1 := Scalar.ori v720_r0 v718_r0
  let c0_i32_83_r0 : BitVec 32 := 0#32
  let c1_i32_84_r0 : BitVec 32 := 1#32
  let arg5_r0 : BitVec 32 := Scf.iv c0_i32_83_r0 c1_i32_84_r0 k0_t1
  let c31_i32_r0 : BitVec 32 := 31#32
  let v195_r0 : BitVec 1 := Scalar.cmpi .eq arg5_r0 c31_i32_r0
  let v722_r0 : BitVec 1 := Scalar.ori v721_r0 v195_r0
  let v723_r0 : BitVec 32 := Scalar.extui v722_r0
  let c0_i32_805_r0 : BitVec 32 := 0#32
  let v724_r0 : BitVec 1 := Scalar.cmpi .ne v723_r0 c0_i32_805_r0
  v724_r0

def k0_off56 (arg12_r0 : BitVec 32) (arg13_r0 : BitVec 32) (arg14_r0 : BitVec 32) : Fin 6 → Nat :=
  let c1_i32_844_r0 : BitVec 32 := 1#32
  let c0_i32_177_r0 : BitVec 32 := 0#32
  let v197_r0 : BitVec 32 := Scalar.addi arg13_r0 c0_i32_177_r0
  let v806_r0 : BitVec 32 := Scalar.muli c1_i32_844_r0 v197_r0
  let c8_i32_845_r0 : BitVec 32 := 8#32
  let c0_i32_176_r0 : BitVec 32 := 0#32
  let v196_r0 : BitVec 32 := Scalar.addi arg12_r0 c0_i32_176_r0
  let c2_i32_831_r0 : BitVec 32 := 2#32
  let c0_i32_832_r0 : BitVec 32 := 0#32
  let v779_r0 : BitVec 1 := Scalar.cmpi .eq c2_i32_831_r0 c0_i32_832_r0
  let c1_i32_833_r0 : BitVec 32 := 1#32
  let v780_r0 : BitVec 32 := Scalar.select v779_r0 c1_i32_833_r0 c2_i32_831_r0
  let v781_r0 : BitVec 32 := Scalar.remsi v196_r0 v780_r0
  let c0_i32_835_r0 : BitVec 32 := 0#32
  let v783_r0 : BitVec 1 := Scalar.cmpi .slt v781_r0 c0_i32_835_r0
  let c0_i32_836_r0 : BitVec 32 := 0#32
  let v784_r0 : BitVec 1 := Scalar.cmpi .slt v780_r0 c0_i32_836_r0
  let v785_r0 : BitVec 1 := Scalar.xori v783_r0 v784_r0
  let c0_i32_834_r0 : BitVec 32 := 0#32
  let v782_r0 : BitVec 1 := Scalar.cmpi .ne v781_r0 c0_i32_834_r0
  let v786_r0 : BitVec 1 := Scalar.andi v785_r0 v782_r0
  let v787_r0 : BitVec 32 := Scalar.addi v781_r0 v780_r0
  let v788_r0 : BitVec 32 := Scalar.select v786_r0 v787_r0 v781_r0
  let v807_r0 : BitVec 32 := Scalar.muli c8_i32_845_r0 v788_r0
  let c1_i32_846_r0 : BitVec 32 := 1#32
  let c0_i32_838_r0 : BitVec 32 := 0#32
  let v790_r0 : BitVec 1 := Scalar.cmpi .sgt v196_r0 c0_i32_838_r0
  let v791_r0 : BitVec 32 := Scalar.extui v790_r0
  let c0_i32_839_r0 : BitVec 32 := 0#32
  let v792_r0 : BitVec 1 := Scalar.cmpi .slt v196_r0 c0_i32_839_r0
  let v793_r0 : BitVec 32 := Scalar.extui v792_r0
  let v794_r0 : BitVec 32 := Scalar.subi v791_r0 v793_r0
  let c2_i32_837_r0 : BitVec 32 := 2#32
  let c0_i32_840_r0 : BitVec 32 := 0#32
  let v795_r0 : BitVec 1 := Scalar.cmpi .sgt c2_i32_837_r0 c0_i32_840_r0
  let v796_r0 : BitVec 32 := Scalar.extui v795_r0
  let c0_i32_841_r0 : BitVec 32 := 0#32
  let v797_r0 : BitVec 1 := Scalar.cmpi .slt c2_i32_837_r0 c0_i32_841_r0
  let v798_r0 : BitVec 32 := Scalar.extui v797_r0
  let v799_r0 : BitVec 32 := Scalar.subi v796_r0 v798_r0
  let v800_r0 : BitVec 1 := Scalar.cmpi .ne v794_r0 v799_r0
  let v801_r0 : BitVec 32 := Scalar.remsi v196_r0 c2_i32_837_r0
  let c0_i32_842_r0 : BitVec 32 := 0#32
  let v802_r0 : BitVec 1 := Scalar.cmpi .ne v801_r0 c0_i32_842_r0
  let v803_r0 : BitVec 1 := Scalar.andi v800_r0 v802_r0
  let v789_r0 : BitVec 32 := Scalar.divsi v196_r0 c2_i32_837_r0
  let c1_i32_843_r0 : BitVec 32 := 1#32
  let v804_r0 : BitVec 32 := Scalar.subi v789_r0 c1_i32_843_r0
  let v805_r0 : BitVec 32 := Scalar.select v803_r0 v804_r0 v789_r0
  let v808_r0 : BitVec 32 := Scalar.muli c1_i32_846_r0 v805_r0
  let c0_i32_848_r0 : BitVec 32 := 0#32
  let c256_i32_847_r0 : BitVec 32 := 256#32
  let c0_i32_178_r0 : BitVec 32 := 0#32
  let v198_r0 : BitVec 32 := Scalar.addi arg14_r0 c0_i32_178_r0
  let v809_r0 : BitVec 32 := Scalar.muli c256_i32_847_r0 v198_r0
  let c0_i32_849_r0 : BitVec 32 := 0#32
  ![v806_r0.toNat, v807_r0.toNat, v808_r0.toNat, 0, v809_r0.toNat, 0]
def k0_off57 (arg10_r0 : BitVec 32) : Fin 7 → Nat :=
  let c2_i32_830_r0 : BitVec 32 := 2#32
  let v778_r0 : BitVec 32 := Scalar.remui arg10_r0 c2_i32_830_r0
  let c0_i32_850_r0 : BitVec 32 := 0#32
  let c0_i32_851_r0 : BitVec 32 := 0#32
  let c0_i32_852_r0 : BitVec 32 := 0#32
  let c0_i32_853_r0 : BitVec 32 := 0#32
  let c0_i32_854_r0 : BitVec 32 := 0#32
  let c0_i32_855_r0 : BitVec 32 := 0#32
  ![v778_r0.toNat, 0, 0, 0, 0, 0, 0]
def k0_off58 (arg11_r0 : BitVec 32) : Fin 1 → Nat :=
  let c2_i32_830_r0 : BitVec 32 := 2#32
  let v778_r0 : BitVec 32 := Scalar.remui arg11_r0 c2_i32_830_r0
  ![v778_r0.toNat]
def k0_cond13 (k0_t1 : Fin k0_t1_loop.trips) (arg12_r0 : BitVec 32) (arg13_r0 : BitVec 32) (arg14_r0 : BitVec 32) : BitVec 1 :=
  let c0_i32_177_r0 : BitVec 32 := 0#32
  let v197_r0 : BitVec 32 := Scalar.addi arg13_r0 c0_i32_177_r0
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v742_r0 : BitVec 1 := Scalar.cmpi .ne v197_r0 v212_r0
  let c0_i32_176_r0 : BitVec 32 := 0#32
  let v196_r0 : BitVec 32 := Scalar.addi arg12_r0 c0_i32_176_r0
  let c2_i32_244_r0 : BitVec 32 := 2#32
  let c0_i32_245_r0 : BitVec 32 := 0#32
  let v283_r0 : BitVec 1 := Scalar.cmpi .eq c2_i32_244_r0 c0_i32_245_r0
  let c1_i32_246_r0 : BitVec 32 := 1#32
  let v284_r0 : BitVec 32 := Scalar.select v283_r0 c1_i32_246_r0 c2_i32_244_r0
  let v285_r0 : BitVec 32 := Scalar.remsi v196_r0 v284_r0
  let c0_i32_248_r0 : BitVec 32 := 0#32
  let v287_r0 : BitVec 1 := Scalar.cmpi .slt v285_r0 c0_i32_248_r0
  let c0_i32_249_r0 : BitVec 32 := 0#32
  let v288_r0 : BitVec 1 := Scalar.cmpi .slt v284_r0 c0_i32_249_r0
  let v289_r0 : BitVec 1 := Scalar.xori v287_r0 v288_r0
  let c0_i32_247_r0 : BitVec 32 := 0#32
  let v286_r0 : BitVec 1 := Scalar.cmpi .ne v285_r0 c0_i32_247_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c3_i32_188_r0 : BitVec 32 := 3#32
  let v210_r0 : BitVec 32 := Scalar.select v209_r0 c3_i32_188_r0 v208_r0
  let c0_i32_189_r0 : BitVec 32 := 0#32
  let v211_r0 : BitVec 32 := Scalar.addi v210_r0 c0_i32_189_r0
  let c2_i32_277_r0 : BitVec 32 := 2#32
  let c0_i32_278_r0 : BitVec 32 := 0#32
  let v362_r0 : BitVec 1 := Scalar.cmpi .eq c2_i32_277_r0 c0_i32_278_r0
  let c1_i32_279_r0 : BitVec 32 := 1#32
  let v363_r0 : BitVec 32 := Scalar.select v362_r0 c1_i32_279_r0 c2_i32_277_r0
  let v364_r0 : BitVec 32 := Scalar.remsi v211_r0 v363_r0
  let c0_i32_281_r0 : BitVec 32 := 0#32
  let v366_r0 : BitVec 1 := Scalar.cmpi .slt v364_r0 c0_i32_281_r0
  let c0_i32_282_r0 : BitVec 32 := 0#32
  let v367_r0 : BitVec 1 := Scalar.cmpi .slt v363_r0 c0_i32_282_r0
  let v368_r0 : BitVec 1 := Scalar.xori v366_r0 v367_r0
  let c0_i32_280_r0 : BitVec 32 := 0#32
  let v365_r0 : BitVec 1 := Scalar.cmpi .ne v364_r0 c0_i32_280_r0
  let v369_r0 : BitVec 1 := Scalar.andi v368_r0 v365_r0
  let v370_r0 : BitVec 32 := Scalar.addi v364_r0 v363_r0
  let v371_r0 : BitVec 32 := Scalar.select v369_r0 v370_r0 v364_r0
  let v743_r0 : BitVec 1 := Scalar.cmpi .ne v292_r0 v371_r0
  let v746_r0 : BitVec 1 := Scalar.ori v742_r0 v743_r0
  let c0_i32_251_r0 : BitVec 32 := 0#32
  let v294_r0 : BitVec 1 := Scalar.cmpi .sgt v196_r0 c0_i32_251_r0
  let v295_r0 : BitVec 32 := Scalar.extui v294_r0
  let c0_i32_252_r0 : BitVec 32 := 0#32
  let v296_r0 : BitVec 1 := Scalar.cmpi .slt v196_r0 c0_i32_252_r0
  let v297_r0 : BitVec 32 := Scalar.extui v296_r0
  let v298_r0 : BitVec 32 := Scalar.subi v295_r0 v297_r0
  let c2_i32_250_r0 : BitVec 32 := 2#32
  let c0_i32_253_r0 : BitVec 32 := 0#32
  let v299_r0 : BitVec 1 := Scalar.cmpi .sgt c2_i32_250_r0 c0_i32_253_r0
  let v300_r0 : BitVec 32 := Scalar.extui v299_r0
  let c0_i32_254_r0 : BitVec 32 := 0#32
  let v301_r0 : BitVec 1 := Scalar.cmpi .slt c2_i32_250_r0 c0_i32_254_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_250_r0
  let c0_i32_255_r0 : BitVec 32 := 0#32
  let v306_r0 : BitVec 1 := Scalar.cmpi .ne v305_r0 c0_i32_255_r0
  let v307_r0 : BitVec 1 := Scalar.andi v304_r0 v306_r0
  let v293_r0 : BitVec 32 := Scalar.divsi v196_r0 c2_i32_250_r0
  let c1_i32_256_r0 : BitVec 32 := 1#32
  let v308_r0 : BitVec 32 := Scalar.subi v293_r0 c1_i32_256_r0
  let v309_r0 : BitVec 32 := Scalar.select v307_r0 v308_r0 v293_r0
  let c0_i32_284_r0 : BitVec 32 := 0#32
  let v373_r0 : BitVec 1 := Scalar.cmpi .sgt v211_r0 c0_i32_284_r0
  let v374_r0 : BitVec 32 := Scalar.extui v373_r0
  let c0_i32_285_r0 : BitVec 32 := 0#32
  let v375_r0 : BitVec 1 := Scalar.cmpi .slt v211_r0 c0_i32_285_r0
  let v376_r0 : BitVec 32 := Scalar.extui v375_r0
  let v377_r0 : BitVec 32 := Scalar.subi v374_r0 v376_r0
  let c2_i32_283_r0 : BitVec 32 := 2#32
  let c0_i32_286_r0 : BitVec 32 := 0#32
  let v378_r0 : BitVec 1 := Scalar.cmpi .sgt c2_i32_283_r0 c0_i32_286_r0
  let v379_r0 : BitVec 32 := Scalar.extui v378_r0
  let c0_i32_287_r0 : BitVec 32 := 0#32
  let v380_r0 : BitVec 1 := Scalar.cmpi .slt c2_i32_283_r0 c0_i32_287_r0
  let v381_r0 : BitVec 32 := Scalar.extui v380_r0
  let v382_r0 : BitVec 32 := Scalar.subi v379_r0 v381_r0
  let v383_r0 : BitVec 1 := Scalar.cmpi .ne v377_r0 v382_r0
  let v384_r0 : BitVec 32 := Scalar.remsi v211_r0 c2_i32_283_r0
  let c0_i32_288_r0 : BitVec 32 := 0#32
  let v385_r0 : BitVec 1 := Scalar.cmpi .ne v384_r0 c0_i32_288_r0
  let v386_r0 : BitVec 1 := Scalar.andi v383_r0 v385_r0
  let v372_r0 : BitVec 32 := Scalar.divsi v211_r0 c2_i32_283_r0
  let c1_i32_289_r0 : BitVec 32 := 1#32
  let v387_r0 : BitVec 32 := Scalar.subi v372_r0 c1_i32_289_r0
  let v388_r0 : BitVec 32 := Scalar.select v386_r0 v387_r0 v372_r0
  let v744_r0 : BitVec 1 := Scalar.cmpi .ne v309_r0 v388_r0
  let v747_r0 : BitVec 1 := Scalar.ori v746_r0 v744_r0
  let c0_i32_178_r0 : BitVec 32 := 0#32
  let v198_r0 : BitVec 32 := Scalar.addi arg14_r0 c0_i32_178_r0
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v745_r0 : BitVec 1 := Scalar.cmpi .ne v198_r0 v213_r0
  let v748_r0 : BitVec 1 := Scalar.ori v747_r0 v745_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let true_814_r0 : BitVec 1 := 1#1
  let v749_r0 : BitVec 1 := Scalar.xori v194_r0 true_814_r0
  let v750_r0 : BitVec 1 := Scalar.andi v748_r0 v749_r0
  let v751_r0 : BitVec 32 := Scalar.extui v750_r0
  let c0_i32_815_r0 : BitVec 32 := 0#32
  let v752_r0 : BitVec 1 := Scalar.cmpi .ne v751_r0 c0_i32_815_r0
  v752_r0

def k0_off59 (arg12_r0 : BitVec 32) (arg13_r0 : BitVec 32) (arg14_r0 : BitVec 32) : Fin 6 → Nat :=
  let c1_i32_844_r0 : BitVec 32 := 1#32
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v806_r0 : BitVec 32 := Scalar.muli c1_i32_844_r0 v212_r0
  let c8_i32_845_r0 : BitVec 32 := 8#32
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c3_i32_188_r0 : BitVec 32 := 3#32
  let v210_r0 : BitVec 32 := Scalar.select v209_r0 c3_i32_188_r0 v208_r0
  let c0_i32_189_r0 : BitVec 32 := 0#32
  let v211_r0 : BitVec 32 := Scalar.addi v210_r0 c0_i32_189_r0
  let c2_i32_831_r0 : BitVec 32 := 2#32
  let c0_i32_832_r0 : BitVec 32 := 0#32
  let v779_r0 : BitVec 1 := Scalar.cmpi .eq c2_i32_831_r0 c0_i32_832_r0
  let c1_i32_833_r0 : BitVec 32 := 1#32
  let v780_r0 : BitVec 32 := Scalar.select v779_r0 c1_i32_833_r0 c2_i32_831_r0
  let v781_r0 : BitVec 32 := Scalar.remsi v211_r0 v780_r0
  let c0_i32_835_r0 : BitVec 32 := 0#32
  let v783_r0 : BitVec 1 := Scalar.cmpi .slt v781_r0 c0_i32_835_r0
  let c0_i32_836_r0 : BitVec 32 := 0#32
  let v784_r0 : BitVec 1 := Scalar.cmpi .slt v780_r0 c0_i32_836_r0
  let v785_r0 : BitVec 1 := Scalar.xori v783_r0 v784_r0
  let c0_i32_834_r0 : BitVec 32 := 0#32
  let v782_r0 : BitVec 1 := Scalar.cmpi .ne v781_r0 c0_i32_834_r0
  let v786_r0 : BitVec 1 := Scalar.andi v785_r0 v782_r0
  let v787_r0 : BitVec 32 := Scalar.addi v781_r0 v780_r0
  let v788_r0 : BitVec 32 := Scalar.select v786_r0 v787_r0 v781_r0
  let v807_r0 : BitVec 32 := Scalar.muli c8_i32_845_r0 v788_r0
  let c1_i32_846_r0 : BitVec 32 := 1#32
  let c0_i32_838_r0 : BitVec 32 := 0#32
  let v790_r0 : BitVec 1 := Scalar.cmpi .sgt v211_r0 c0_i32_838_r0
  let v791_r0 : BitVec 32 := Scalar.extui v790_r0
  let c0_i32_839_r0 : BitVec 32 := 0#32
  let v792_r0 : BitVec 1 := Scalar.cmpi .slt v211_r0 c0_i32_839_r0
  let v793_r0 : BitVec 32 := Scalar.extui v792_r0
  let v794_r0 : BitVec 32 := Scalar.subi v791_r0 v793_r0
  let c2_i32_837_r0 : BitVec 32 := 2#32
  let c0_i32_840_r0 : BitVec 32 := 0#32
  let v795_r0 : BitVec 1 := Scalar.cmpi .sgt c2_i32_837_r0 c0_i32_840_r0
  let v796_r0 : BitVec 32 := Scalar.extui v795_r0
  let c0_i32_841_r0 : BitVec 32 := 0#32
  let v797_r0 : BitVec 1 := Scalar.cmpi .slt c2_i32_837_r0 c0_i32_841_r0
  let v798_r0 : BitVec 32 := Scalar.extui v797_r0
  let v799_r0 : BitVec 32 := Scalar.subi v796_r0 v798_r0
  let v800_r0 : BitVec 1 := Scalar.cmpi .ne v794_r0 v799_r0
  let v801_r0 : BitVec 32 := Scalar.remsi v211_r0 c2_i32_837_r0
  let c0_i32_842_r0 : BitVec 32 := 0#32
  let v802_r0 : BitVec 1 := Scalar.cmpi .ne v801_r0 c0_i32_842_r0
  let v803_r0 : BitVec 1 := Scalar.andi v800_r0 v802_r0
  let v789_r0 : BitVec 32 := Scalar.divsi v211_r0 c2_i32_837_r0
  let c1_i32_843_r0 : BitVec 32 := 1#32
  let v804_r0 : BitVec 32 := Scalar.subi v789_r0 c1_i32_843_r0
  let v805_r0 : BitVec 32 := Scalar.select v803_r0 v804_r0 v789_r0
  let v808_r0 : BitVec 32 := Scalar.muli c1_i32_846_r0 v805_r0
  let c0_i32_848_r0 : BitVec 32 := 0#32
  let c256_i32_847_r0 : BitVec 32 := 256#32
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v809_r0 : BitVec 32 := Scalar.muli c256_i32_847_r0 v213_r0
  let c0_i32_849_r0 : BitVec 32 := 0#32
  ![v806_r0.toNat, v807_r0.toNat, v808_r0.toNat, 0, v809_r0.toNat, 0]
def k0_off60 (arg11_r0 : BitVec 32) : Fin 7 → Nat :=
  let c2_i32_830_r0 : BitVec 32 := 2#32
  let v778_r0 : BitVec 32 := Scalar.remui arg11_r0 c2_i32_830_r0
  let c0_i32_850_r0 : BitVec 32 := 0#32
  let c0_i32_851_r0 : BitVec 32 := 0#32
  let c0_i32_852_r0 : BitVec 32 := 0#32
  let c0_i32_853_r0 : BitVec 32 := 0#32
  let c0_i32_854_r0 : BitVec 32 := 0#32
  let c0_i32_855_r0 : BitVec 32 := 0#32
  ![v778_r0.toNat, 0, 0, 0, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h2 : k0_cond2 k0_t1 arg13_r0 arg14_r0 = 1#1), ∀ a, (k0_off8 arg6_r0) a + S1.size a ≤ S3.size a) ∧
  (∀ (k0_h2 : k0_cond2 k0_t1 arg13_r0 arg14_r0 = 1#1), ∀ a, (k0_off9 arg6_r0) a + S1x1x1024x2048.size a ≤ S3x1x1024x2048.size a) ∧
  (∀ (k0_h2 : k0_cond2 k0_t1 arg13_r0 arg14_r0 = 1#1), ∀ a, (k0_off10 arg13_r0 arg14_r0) a + S1x1024x2048.size a ≤ S2x4096x2048.size a) ∧
  (∀ (k0_h2 : k0_cond2 k0_t1 arg13_r0 arg14_r0 = 1#1), ∀ (hinb : ∀ a, (k0_off10 arg13_r0 arg14_r0) a + S1x1024x2048.size a ≤ S2x4096x2048.size a), (Rect.unit (s := S2x4096x2048) (k0_off10 arg13_r0 arg14_r0) S1x1024x2048.size hinb).WholeWords (EltTy.packing .bf16)) ∧
  (∀ (k0_h2 : k0_cond2 k0_t1 arg13_r0 arg14_r0 = 1#1), ∀ (hinb : ∀ a, (k0_off9 arg6_r0) a + S1x1x1024x2048.size a ≤ S3x1x1024x2048.size a), (Rect.unit (s := S3x1x1024x2048) (k0_off9 arg6_r0) S1x1x1024x2048.size hinb).WholeWords (EltTy.packing .bf16)) ∧
  (∀ (k0_h3 : k0_cond3 k0_t1 arg12_r0 arg13_r0 arg14_r0 = 1#1), ∀ a, (k0_off11 arg8_r0) a + S1.size a ≤ S2.size a) ∧
  (∀ (k0_h3 : k0_cond3 k0_t1 arg12_r0 arg13_r0 arg14_r0 = 1#1), ∀ a, (k0_off12 arg8_r0) a + S1x2048x1024.size a ≤ S2x2048x1024.size a) ∧
  (∀ (k0_h3 : k0_cond3 k0_t1 arg12_r0 arg13_r0 arg14_r0 = 1#1), ∀ a, (k0_off13 arg12_r0 arg13_r0 arg14_r0) a + S2048x1024.size a ≤ S2048x12288.size a) ∧
  (∀ (k0_h4 : k0_cond4 k0_t1 arg13_r0 arg14_r0 = 1#1), ∀ a, (k0_off14 arg7_r0) a + S1.size a ≤ S3.size a) ∧
  (∀ (k0_h4 : k0_cond4 k0_t1 arg13_r0 arg14_r0 = 1#1), ∀ a, (k0_off15 arg7_r0) a + S1x1x1024x2048.size a ≤ S3x1x1024x2048.size a) ∧
  (∀ (k0_h4 : k0_cond4 k0_t1 arg13_r0 arg14_r0 = 1#1), ∀ a, (k0_off16 arg13_r0 arg14_r0) a + S1x1024x2048.size a ≤ S2x4096x2048.size a) ∧
  (∀ (k0_h4 : k0_cond4 k0_t1 arg13_r0 arg14_r0 = 1#1), ∀ (hinb : ∀ a, (k0_off16 arg13_r0 arg14_r0) a + S1x1024x2048.size a ≤ S2x4096x2048.size a), (Rect.unit (s := S2x4096x2048) (k0_off16 arg13_r0 arg14_r0) S1x1024x2048.size hinb).WholeWords (EltTy.packing .bf16)) ∧
  (∀ (k0_h4 : k0_cond4 k0_t1 arg13_r0 arg14_r0 = 1#1), ∀ (hinb : ∀ a, (k0_off15 arg7_r0) a + S1x1x1024x2048.size a ≤ S3x1x1024x2048.size a), (Rect.unit (s := S3x1x1024x2048) (k0_off15 arg7_r0) S1x1x1024x2048.size hinb).WholeWords (EltTy.packing .bf16)) ∧
  (∀ (k0_h5 : k0_cond5 k0_t1 arg12_r0 arg13_r0 arg14_r0 = 1#1), ∀ a, (k0_off17 arg9_r0) a + S1.size a ≤ S2.size a) ∧
  (∀ (k0_h5 : k0_cond5 k0_t1 arg12_r0 arg13_r0 arg14_r0 = 1#1), ∀ a, (k0_off18 arg9_r0) a + S1x2048x1024.size a ≤ S2x2048x1024.size a) ∧
  (∀ (k0_h5 : k0_cond5 k0_t1 arg12_r0 arg13_r0 arg14_r0 = 1#1), ∀ a, (k0_off19 arg12_r0) a + S2048x1024.size a ≤ S2048x12288.size a) ∧
  (∀ (k0_h7 : k0_cond7 arg13_r0 arg14_r0 = 1#1), ∀ a, (k0_off20 arg9_r0) a + S1x2048x1024.size a ≤ S2x2048x1024.size a) ∧
  (∀ (k0_h10 : k0_cond10 k0_t1 arg12_r0 arg13_r0 arg14_r0 = 1#1), ∀ a, (k0_off55 arg10_r0) a + S1.size a ≤ S2.size a) ∧
  (∀ (k0_h10 : k0_cond10 k0_t1 arg12_r0 arg13_r0 arg14_r0 = 1#1), ∀ a, (k0_off56 arg12_r0 arg13_r0 arg14_r0) a + S1x8x1x4x256x128.size a ≤ S2x16x2x4x1024x128.size a) ∧
  (∀ (k0_h10 : k0_cond10 k0_t1 arg12_r0 arg13_r0 arg14_r0 = 1#1), ∀ a, (k0_off57 arg10_r0) a + S1x1x8x1x4x256x128.size a ≤ S2x1x8x1x4x256x128.size a) ∧
  (∀ (k0_h10 : k0_cond10 k0_t1 arg12_r0 arg13_r0 arg14_r0 = 1#1), ∀ (hinb : ∀ a, (k0_off57 arg10_r0) a + S1x1x8x1x4x256x128.size a ≤ S2x1x8x1x4x256x128.size a), (Rect.unit (s := S2x1x8x1x4x256x128) (k0_off57 arg10_r0) S1x1x8x1x4x256x128.size hinb).WholeWords (EltTy.packing .bf16)) ∧
  (∀ (k0_h10 : k0_cond10 k0_t1 arg12_r0 arg13_r0 arg14_r0 = 1#1), ∀ (hinb : ∀ a, (k0_off56 arg12_r0 arg13_r0 arg14_r0) a + S1x8x1x4x256x128.size a ≤ S2x16x2x4x1024x128.size a), (Rect.unit (s := S2x16x2x4x1024x128) (k0_off56 arg12_r0 arg13_r0 arg14_r0) S1x8x1x4x256x128.size hinb).WholeWords (EltTy.packing .bf16)) ∧
  (∀ (k0_h13 : k0_cond13 k0_t1 arg12_r0 arg13_r0 arg14_r0 = 1#1), ∀ a, (k0_off58 arg11_r0) a + S1.size a ≤ S2.size a) ∧
  (∀ (k0_h13 : k0_cond13 k0_t1 arg12_r0 arg13_r0 arg14_r0 = 1#1), ∀ a, (k0_off59 arg12_r0 arg13_r0 arg14_r0) a + S1x8x1x4x256x128.size a ≤ S2x16x2x4x1024x128.size a) ∧
  (∀ (k0_h13 : k0_cond13 k0_t1 arg12_r0 arg13_r0 arg14_r0 = 1#1), ∀ a, (k0_off60 arg11_r0) a + S1x1x8x1x4x256x128.size a ≤ S2x1x8x1x4x256x128.size a) ∧
  (∀ (k0_h13 : k0_cond13 k0_t1 arg12_r0 arg13_r0 arg14_r0 = 1#1), ∀ (hinb : ∀ a, (k0_off60 arg11_r0) a + S1x1x8x1x4x256x128.size a ≤ S2x1x8x1x4x256x128.size a), (Rect.unit (s := S2x1x8x1x4x256x128) (k0_off60 arg11_r0) S1x1x8x1x4x256x128.size hinb).WholeWords (EltTy.packing .bf16)) ∧
  (∀ (k0_h13 : k0_cond13 k0_t1 arg12_r0 arg13_r0 arg14_r0 = 1#1), ∀ (hinb : ∀ a, (k0_off59 arg12_r0 arg13_r0 arg14_r0) a + S1x8x1x4x256x128.size a ≤ S2x16x2x4x1024x128.size a), (Rect.unit (s := S2x16x2x4x1024x128) (k0_off59 arg12_r0 arg13_r0 arg14_r0) S1x8x1x4x256x128.size hinb).WholeWords (EltTy.packing .bf16))
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off8 arg6_r0) a + S1.size a ≤ S3.size a := fun k0_t1 arg6_r0 arg7_r0 arg8_r0 arg9_r0 arg10_r0 arg11_r0 arg12_r0 arg13_r0 arg14_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off9 arg6_r0) a + S1x1x1024x2048.size a ≤ S3x1x1024x2048.size a := fun k0_t1 arg6_r0 arg7_r0 arg8_r0 arg9_r0 arg10_r0 arg11_r0 arg12_r0 arg13_r0 arg14_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off10 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h2 => k0_hw1.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S2x4096x2048) (k0_off10 arg13_r0 arg14_r0) S1x1024x2048.size (k0_off10_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.1 k0_h2 (k0_off10_inb k0_t1 arg6_r0 arg7_r0 arg8_r0 arg9_r0 arg10_r0 arg11_r0 arg12_r0 arg13_r0 arg14_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S3x1x1024x2048) (k0_off9 arg6_r0) S1x1x1024x2048.size (k0_off9_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.2.1 k0_h2 (k0_off9_inb k0_t1 arg6_r0 arg7_r0 arg8_r0 arg9_r0 arg10_r0 arg11_r0 arg12_r0 arg13_r0 arg14_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off11 arg8_r0) a + S1.size a ≤ S2.size a := fun k0_t1 arg6_r0 arg7_r0 arg8_r0 arg9_r0 arg10_r0 arg11_r0 arg12_r0 arg13_r0 arg14_r0 k0_hw1 k0_h3 => k0_hw1.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off12 arg8_r0) a + S1x2048x1024.size a ≤ S2x2048x1024.size a := fun k0_t1 arg6_r0 arg7_r0 arg8_r0 arg9_r0 arg10_r0 arg11_r0 arg12_r0 arg13_r0 arg14_r0 k0_hw1 k0_h3 => k0_hw1.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off13 arg12_r0 arg13_r0 arg14_r0) a + S2048x1024.size a ≤ S2048x12288.size a := fun k0_t1 arg6_r0 arg7_r0 arg8_r0 arg9_r0 arg10_r0 arg11_r0 arg12_r0 arg13_r0 arg14_r0 k0_hw1 k0_h3 => k0_hw1.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off14 arg7_r0) a + S1.size a ≤ S3.size a := fun k0_t1 arg6_r0 arg7_r0 arg8_r0 arg9_r0 arg10_r0 arg11_r0 arg12_r0 arg13_r0 arg14_r0 k0_hw1 k0_h4 => k0_hw1.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off15 arg7_r0) a + S1x1x1024x2048.size a ≤ S3x1x1024x2048.size a := fun k0_t1 arg6_r0 arg7_r0 arg8_r0 arg9_r0 arg10_r0 arg11_r0 arg12_r0 arg13_r0 arg14_r0 k0_hw1 k0_h4 => k0_hw1.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off16 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h4 => k0_hw1.2.2.2.2.2.2.2.2.2.2.1 k0_h4
theorem k0_off16_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S2x4096x2048) (k0_off16 arg13_r0 arg14_r0) S1x1024x2048.size (k0_off16_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.1 k0_h4 (k0_off16_inb k0_t1 arg6_r0 arg7_r0 arg8_r0 arg9_r0 arg10_r0 arg11_r0 arg12_r0 arg13_r0 arg14_r0 k0_hw1 k0_h4)
theorem k0_off15_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S3x1x1024x2048) (k0_off15 arg7_r0) S1x1x1024x2048.size (k0_off15_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.2.1 k0_h4 (k0_off15_inb k0_t1 arg6_r0 arg7_r0 arg8_r0 arg9_r0 arg10_r0 arg11_r0 arg12_r0 arg13_r0 arg14_r0 k0_hw1 k0_h4)
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off17 arg9_r0) a + S1.size a ≤ S2.size a := fun k0_t1 arg6_r0 arg7_r0 arg8_r0 arg9_r0 arg10_r0 arg11_r0 arg12_r0 arg13_r0 arg14_r0 k0_hw1 k0_h5 => k0_hw1.2.2.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off18 arg9_r0) a + S1x2048x1024.size a ≤ S2x2048x1024.size a := fun k0_t1 arg6_r0 arg7_r0 arg8_r0 arg9_r0 arg10_r0 arg11_r0 arg12_r0 arg13_r0 arg14_r0 k0_hw1 k0_h5 => k0_hw1.2.2.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off19 arg12_r0) a + S2048x1024.size a ≤ S2048x12288.size a := fun k0_t1 arg6_r0 arg7_r0 arg8_r0 arg9_r0 arg10_r0 arg11_r0 arg12_r0 arg13_r0 arg14_r0 k0_hw1 k0_h5 => k0_hw1.2.2.2.2.2.2.2.2.2.2.2.2.2.2.2.1 k0_h5
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h7 : k0_cond7 arg13_r0 arg14_r0 = 1#1), ∀ a, (k0_off20 arg9_r0) a + S1x2048x1024.size a ≤ S2x2048x1024.size a := fun k0_t1 arg6_r0 arg7_r0 arg8_r0 arg9_r0 arg10_r0 arg11_r0 arg12_r0 arg13_r0 arg14_r0 k0_hw1 k0_h7 => k0_hw1.2.2.2.2.2.2.2.2.2.2.2.2.2.2.2.2.1 k0_h7
theorem k0_off55_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off55 arg10_r0) a + S1.size a ≤ S2.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.1 k0_h10
theorem k0_off56_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off56 arg12_r0 arg13_r0 arg14_r0) a + S1x8x1x4x256x128.size a ≤ S2x16x2x4x1024x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.1 k0_h10
theorem k0_off57_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off57 arg10_r0) a + S1x1x8x1x4x256x128.size a ≤ S2x1x8x1x4x256x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.1 k0_h10
theorem k0_off57_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x1x8x1x4x256x128) (k0_off57 arg10_r0) S1x1x8x1x4x256x128.size (k0_off57_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.1 k0_h10 (k0_off57_inb k0_t1 arg6_r0 arg7_r0 arg8_r0 arg9_r0 arg10_r0 arg11_r0 arg12_r0 arg13_r0 arg14_r0 k0_hw1 k0_h10)
theorem k0_off56_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x16x2x4x1024x128) (k0_off56 arg12_r0 arg13_r0 arg14_r0) S1x8x1x4x256x128.size (k0_off56_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.2.1 k0_h10 (k0_off56_inb k0_t1 arg6_r0 arg7_r0 arg8_r0 arg9_r0 arg10_r0 arg11_r0 arg12_r0 arg13_r0 arg14_r0 k0_hw1 k0_h10)
theorem k0_off58_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off58 arg11_r0) a + S1.size a ≤ S2.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.1 k0_h13
theorem k0_off59_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off59 arg12_r0 arg13_r0 arg14_r0) a + S1x8x1x4x256x128.size a ≤ S2x16x2x4x1024x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.1 k0_h13
theorem k0_off60_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off60 arg11_r0) a + S1x1x8x1x4x256x128.size a ≤ S2x1x8x1x4x256x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.1 k0_h13
theorem k0_off60_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x1x8x1x4x256x128) (k0_off60 arg11_r0) S1x1x8x1x4x256x128.size (k0_off60_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.1 k0_h13 (k0_off60_inb k0_t1 arg6_r0 arg7_r0 arg8_r0 arg9_r0 arg10_r0 arg11_r0 arg12_r0 arg13_r0 arg14_r0 k0_hw1 k0_h13)
theorem k0_off59_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x16x2x4x1024x128) (k0_off59 arg12_r0 arg13_r0 arg14_r0) S1x8x1x4x256x128.size (k0_off59_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.2 k0_h13 (k0_off59_inb k0_t1 arg6_r0 arg7_r0 arg8_r0 arg9_r0 arg10_r0 arg11_r0 arg12_r0 arg13_r0 arg14_r0 k0_hw1 k0_h13)

def k0_off61 (v81_5_r0 : BitVec 32) : Fin 1 → Nat :=
  let c2_i32_151_r0 : BitVec 32 := 2#32
  let v157_r0 : BitVec 32 := Scalar.remui v81_5_r0 c2_i32_151_r0
  ![v157_r0.toNat]

def k0_off62 (v81_8_r0 : BitVec 32) (v81_7_r0 : BitVec 32) (v81_6_r0 : BitVec 32) : Fin 6 → Nat :=
  let c1_i32_165_r0 : BitVec 32 := 1#32
  let true_87_r0 : BitVec 1 := 1#1
  let c1_i32_86_r0 : BitVec 32 := 1#32
  let v82_r0 : BitVec 32 := Scalar.subi v81_8_r0 c1_i32_86_r0
  let v83_r0 : BitVec 32 := Scalar.select true_87_r0 v82_r0 v81_8_r0
  let c_m1_i32_88_r0 : BitVec 32 := 4294967295#32
  let v84_r0 : BitVec 1 := Scalar.cmpi .eq v83_r0 c_m1_i32_88_r0
  let c1_i32_90_r0 : BitVec 32 := 1#32
  let v86_r0 : BitVec 32 := Scalar.subi v81_7_r0 c1_i32_90_r0
  let v87_r0 : BitVec 32 := Scalar.select v84_r0 v86_r0 v81_7_r0
  let c_m1_i32_91_r0 : BitVec 32 := 4294967295#32
  let v88_r0 : BitVec 1 := Scalar.cmpi .eq v87_r0 c_m1_i32_91_r0
  let c1_i32_92_r0 : BitVec 32 := 1#32
  let v89_r0 : BitVec 32 := Scalar.select v88_r0 c1_i32_92_r0 v87_r0
  let c0_i32_97_r0 : BitVec 32 := 0#32
  let v95_r0 : BitVec 32 := Scalar.addi v89_r0 c0_i32_97_r0
  let v185_r0 : BitVec 32 := Scalar.muli c1_i32_165_r0 v95_r0
  let c8_i32_r0 : BitVec 32 := 8#32
  let c1_i32_93_r0 : BitVec 32 := 1#32
  let v90_r0 : BitVec 32 := Scalar.subi v81_6_r0 c1_i32_93_r0
  let v91_r0 : BitVec 32 := Scalar.select v88_r0 v90_r0 v81_6_r0
  let c_m1_i32_94_r0 : BitVec 32 := 4294967295#32
  let v92_r0 : BitVec 1 := Scalar.cmpi .eq v91_r0 c_m1_i32_94_r0
  let c3_i32_95_r0 : BitVec 32 := 3#32
  let v93_r0 : BitVec 32 := Scalar.select v92_r0 c3_i32_95_r0 v91_r0
  let c0_i32_96_r0 : BitVec 32 := 0#32
  let v94_r0 : BitVec 32 := Scalar.addi v93_r0 c0_i32_96_r0
  let c2_i32_152_r0 : BitVec 32 := 2#32
  let c0_i32_153_r0 : BitVec 32 := 0#32
  let v158_r0 : BitVec 1 := Scalar.cmpi .eq c2_i32_152_r0 c0_i32_153_r0
  let c1_i32_154_r0 : BitVec 32 := 1#32
  let v159_r0 : BitVec 32 := Scalar.select v158_r0 c1_i32_154_r0 c2_i32_152_r0
  let v160_r0 : BitVec 32 := Scalar.remsi v94_r0 v159_r0
  let c0_i32_156_r0 : BitVec 32 := 0#32
  let v162_r0 : BitVec 1 := Scalar.cmpi .slt v160_r0 c0_i32_156_r0
  let c0_i32_157_r0 : BitVec 32 := 0#32
  let v163_r0 : BitVec 1 := Scalar.cmpi .slt v159_r0 c0_i32_157_r0
  let v164_r0 : BitVec 1 := Scalar.xori v162_r0 v163_r0
  let c0_i32_155_r0 : BitVec 32 := 0#32
  let v161_r0 : BitVec 1 := Scalar.cmpi .ne v160_r0 c0_i32_155_r0
  let v165_r0 : BitVec 1 := Scalar.andi v164_r0 v161_r0
  let v166_r0 : BitVec 32 := Scalar.addi v160_r0 v159_r0
  let v167_r0 : BitVec 32 := Scalar.select v165_r0 v166_r0 v160_r0
  let v186_r0 : BitVec 32 := Scalar.muli c8_i32_r0 v167_r0
  let c1_i32_166_r0 : BitVec 32 := 1#32
  let c0_i32_159_r0 : BitVec 32 := 0#32
  let v169_r0 : BitVec 1 := Scalar.cmpi .sgt v94_r0 c0_i32_159_r0
  let v170_r0 : BitVec 32 := Scalar.extui v169_r0
  let c0_i32_160_r0 : BitVec 32 := 0#32
  let v171_r0 : BitVec 1 := Scalar.cmpi .slt v94_r0 c0_i32_160_r0
  let v172_r0 : BitVec 32 := Scalar.extui v171_r0
  let v173_r0 : BitVec 32 := Scalar.subi v170_r0 v172_r0
  let c2_i32_158_r0 : BitVec 32 := 2#32
  let c0_i32_161_r0 : BitVec 32 := 0#32
  let v174_r0 : BitVec 1 := Scalar.cmpi .sgt c2_i32_158_r0 c0_i32_161_r0
  let v175_r0 : BitVec 32 := Scalar.extui v174_r0
  let c0_i32_162_r0 : BitVec 32 := 0#32
  let v176_r0 : BitVec 1 := Scalar.cmpi .slt c2_i32_158_r0 c0_i32_162_r0
  let v177_r0 : BitVec 32 := Scalar.extui v176_r0
  let v178_r0 : BitVec 32 := Scalar.subi v175_r0 v177_r0
  let v179_r0 : BitVec 1 := Scalar.cmpi .ne v173_r0 v178_r0
  let v180_r0 : BitVec 32 := Scalar.remsi v94_r0 c2_i32_158_r0
  let c0_i32_163_r0 : BitVec 32 := 0#32
  let v181_r0 : BitVec 1 := Scalar.cmpi .ne v180_r0 c0_i32_163_r0
  let v182_r0 : BitVec 1 := Scalar.andi v179_r0 v181_r0
  let v168_r0 : BitVec 32 := Scalar.divsi v94_r0 c2_i32_158_r0
  let c1_i32_164_r0 : BitVec 32 := 1#32
  let v183_r0 : BitVec 32 := Scalar.subi v168_r0 c1_i32_164_r0
  let v184_r0 : BitVec 32 := Scalar.select v182_r0 v183_r0 v168_r0
  let v187_r0 : BitVec 32 := Scalar.muli c1_i32_166_r0 v184_r0
  let c0_i32_167_r0 : BitVec 32 := 0#32
  let c256_i32_r0 : BitVec 32 := 256#32
  let c3_i32_89_r0 : BitVec 32 := 3#32
  let v85_r0 : BitVec 32 := Scalar.select v84_r0 c3_i32_89_r0 v83_r0
  let c0_i32_98_r0 : BitVec 32 := 0#32
  let v96_r0 : BitVec 32 := Scalar.addi v85_r0 c0_i32_98_r0
  let v188_r0 : BitVec 32 := Scalar.muli c256_i32_r0 v96_r0
  let c0_i32_168_r0 : BitVec 32 := 0#32
  ![v185_r0.toNat, v186_r0.toNat, v187_r0.toNat, 0, v188_r0.toNat, 0]

def k0_off63 (v81_5_r0 : BitVec 32) : Fin 7 → Nat :=
  let c2_i32_151_r0 : BitVec 32 := 2#32
  let v157_r0 : BitVec 32 := Scalar.remui v81_5_r0 c2_i32_151_r0
  let c0_i32_169_r0 : BitVec 32 := 0#32
  let c0_i32_170_r0 : BitVec 32 := 0#32
  let c0_i32_171_r0 : BitVec 32 := 0#32
  let c0_i32_172_r0 : BitVec 32 := 0#32
  let c0_i32_173_r0 : BitVec 32 := 0#32
  let c0_i32_174_r0 : BitVec 32 := 0#32
  ![v157_r0.toNat, 0, 0, 0, 0, 0, 0]

def k0_chk4 (v81_5_r0 : BitVec 32) : Prop :=
  (∀ a, (k0_off61 v81_5_r0) a + S1.size a ≤ S2.size a) ∧
  (∀ a, (k0_off63 v81_5_r0) a + S1x1x8x1x4x256x128.size a ≤ S2x1x8x1x4x256x128.size a) ∧
  (∀ (hinb : ∀ a, (k0_off63 v81_5_r0) a + S1x1x8x1x4x256x128.size a ≤ S2x1x8x1x4x256x128.size a), (Rect.unit (s := S2x1x8x1x4x256x128) (k0_off63 v81_5_r0) S1x1x8x1x4x256x128.size hinb).WholeWords (EltTy.packing .bf16))
theorem k0_off61_inb : ∀ (v81_5_r0 : BitVec 32) (k0_hw4 : k0_chk4 v81_5_r0), ∀ a, (k0_off61 v81_5_r0) a + S1.size a ≤ S2.size a := fun v81_5_r0 k0_hw4 => k0_hw4.1
theorem k0_off63_inb : ∀ (v81_5_r0 : BitVec 32) (k0_hw4 : k0_chk4 v81_5_r0), ∀ a, (k0_off63 v81_5_r0) a + S1x1x8x1x4x256x128.size a ≤ S2x1x8x1x4x256x128.size a := fun v81_5_r0 k0_hw4 => k0_hw4.2.1
theorem k0_off63_wordsbf16 : ∀ (v81_5_r0 : BitVec 32) (k0_hw4 : k0_chk4 v81_5_r0), (Rect.unit (s := S2x1x8x1x4x256x128) (k0_off63 v81_5_r0) S1x1x8x1x4x256x128.size (k0_off63_inb v81_5_r0 k0_hw4)).WholeWords (EltTy.packing .bf16) := fun v81_5_r0 k0_hw4 => k0_hw4.2.2 (k0_off63_inb v81_5_r0 k0_hw4)

def k0_chk5 (v81_8_r0 : BitVec 32) (v81_7_r0 : BitVec 32) (v81_6_r0 : BitVec 32) : Prop :=
  (∀ a, (k0_off62 v81_8_r0 v81_7_r0 v81_6_r0) a + S1x8x1x4x256x128.size a ≤ S2x16x2x4x1024x128.size a) ∧
  (∀ (hinb : ∀ a, (k0_off62 v81_8_r0 v81_7_r0 v81_6_r0) a + S1x8x1x4x256x128.size a ≤ S2x16x2x4x1024x128.size a), (Rect.unit (s := S2x16x2x4x1024x128) (k0_off62 v81_8_r0 v81_7_r0 v81_6_r0) S1x8x1x4x256x128.size hinb).WholeWords (EltTy.packing .bf16))
theorem k0_off62_inb : ∀ (v81_8_r0 : BitVec 32) (v81_7_r0 : BitVec 32) (v81_6_r0 : BitVec 32) (k0_hw5 : k0_chk5 v81_8_r0 v81_7_r0 v81_6_r0), ∀ a, (k0_off62 v81_8_r0 v81_7_r0 v81_6_r0) a + S1x8x1x4x256x128.size a ≤ S2x16x2x4x1024x128.size a := fun v81_8_r0 v81_7_r0 v81_6_r0 k0_hw5 => k0_hw5.1
theorem k0_off62_wordsbf16 : ∀ (v81_8_r0 : BitVec 32) (v81_7_r0 : BitVec 32) (v81_6_r0 : BitVec 32) (k0_hw5 : k0_chk5 v81_8_r0 v81_7_r0 v81_6_r0), (Rect.unit (s := S2x16x2x4x1024x128) (k0_off62 v81_8_r0 v81_7_r0 v81_6_r0) S1x8x1x4x256x128.size (k0_off62_inb v81_8_r0 v81_7_r0 v81_6_r0 k0_hw5)).WholeWords (EltTy.packing .bf16) := fun v81_8_r0 v81_7_r0 v81_6_r0 k0_hw5 => k0_hw5.2 (k0_off62_inb v81_8_r0 v81_7_r0 v81_6_r0 k0_hw5)
-- ==== Reference4Ideal.lean ====
abbrev S2x4096x2048 : Shape := ⟨3, ![2, 4096, 2048]⟩
abbrev S2048x12288 : Shape := ⟨2, ![2048, 12288]⟩
abbrev S2x4096x12288 : Shape := ⟨3, ![2, 4096, 12288]⟩
abbrev S2x1024x4x16x128 : Shape := ⟨5, ![2, 1024, 4, 16, 128]⟩
abbrev S2x16x4x1024x128 : Shape := ⟨5, ![2, 16, 4, 1024, 128]⟩
abbrev S2x16x1x4x1024x128 : Shape := ⟨6, ![2, 16, 1, 4, 1024, 128]⟩
abbrev S2x16x2x4x1024x128 : Shape := ⟨6, ![2, 16, 2, 4, 1024, 128]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x12288, .f32⟩
  | .hbm, ⟨2, _⟩ => ⟨S2x4096x2048, .f32⟩
  | .hbm, ⟨3, _⟩ => ⟨S2x4096x12288, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x1024x4x16x128, .f32⟩
  | .hbm, ⟨11, _⟩ => ⟨S2x16x4x1024x128, .f32⟩
  | .hbm, ⟨12, _⟩ => ⟨S2x1024x4x16x128, .f32⟩
  | .hbm, ⟨13, _⟩ => ⟨S2x16x4x1024x128, .f32⟩
  | .hbm, ⟨14, _⟩ => ⟨S2x16x1x4x1024x128, .f32⟩
  | .hbm, ⟨15, _⟩ => ⟨S2x16x1x4x1024x128, .f32⟩
  | .hbm, ⟨16, _⟩ => ⟨S2x16x2x4x1024x128, .f32⟩
  | .hbm, ⟨17, _⟩ => ⟨S2x16x2x4x1024x128, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048x8192 : Shape := ⟨2, ![2048, 8192]⟩
abbrev S2x16x1x1x4096x128 : Shape := ⟨6, ![2, 16, 1, 1, 4096, 128]⟩
abbrev S2048x1024 : Shape := ⟨2, ![2048, 1024]⟩
abbrev S8x1024x128 : Shape := ⟨3, ![8, 1024, 128]⟩
abbrev S3x1x1024x2048 : Shape := ⟨4, ![3, 1, 1024, 2048]⟩
abbrev S3 : Shape := ⟨1, ![3]⟩
abbrev S2x2048x1024 : Shape := ⟨3, ![2, 2048, 1024]⟩
abbrev S2 : Shape := ⟨1, ![2]⟩
abbrev S2x1x8x1x1x1024x128 : Shape := ⟨7, ![2, 1, 8, 1, 1, 1024, 128]⟩
abbrev S1 : Shape := ⟨1, ![1]⟩
abbrev S_ : Shape := ⟨0, ![]⟩
abbrev S1x1x1024x2048 : Shape := ⟨4, ![1, 1, 1024, 2048]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S1024x1024 : Shape := ⟨2, ![1024, 1024]⟩
abbrev S1024x128 : Shape := ⟨2, ![1024, 128]⟩
abbrev S1x1x8x1x1x1024x128 : Shape := ⟨7, ![1, 1, 8, 1, 1, 1024, 128]⟩
abbrev S1x8x1x1x1024x128 : Shape := ⟨6, ![1, 8, 1, 1, 1024, 128]⟩
abbrev S1x1x1x1x1024x128 : Shape := ⟨6, ![1, 1, 1, 1, 1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2048, .bf16⟩
  | .hbm, ⟨1, _⟩ => ⟨S2048x8192, .f32⟩
  | .hbm, ⟨2, _⟩ => ⟨S2x16x1x1x4096x128, .f32⟩
  | .local _ .vmem, ⟨0, _⟩ => ⟨S2048x1024, .bf16⟩
  | .local _ .vmem, ⟨1, _⟩ => ⟨S8x1024x128, .f32⟩
  | .local _ .vmem, ⟨2, _⟩ => ⟨S3x1x1024x2048, .bf16⟩
  | .local _ .vmem, ⟨3, _⟩ => ⟨S2x2048x1024, .f32⟩
  | .local _ .vmem, ⟨4, _⟩ => ⟨S2x1x8x1x1x1024x128, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_53_r0 : BitVec 32 := 0#32
  let c3_i32_54_r0 : BitVec 32 := 3#32
  let v57_r0 : BitVec 32 := Scalar.remui c0_i32_53_r0 c3_i32_54_r0
  ![v57_r0.toNat]
def k0_off2 : Fin 4 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  let c0_i32_57_r0 : BitVec 32 := 0#32
  ![v57_r0.toNat, 0, 0, 0]
def k0_off3 : Fin 1 → Nat :=
  let c0_i32_63_r0 : BitVec 32 := 0#32
  let c2_i32_64_r0 : BitVec 32 := 2#32
  let v64_r0 : BitVec 32 := Scalar.remui c0_i32_63_r0 c2_i32_64_r0
  ![v64_r0.toNat]
def k0_off4 : Fin 3 → Nat :=
  let c0_i32_63_r0 : BitVec 32 := 0#32
  let c2_i32_64_r0 : BitVec 32 := 2#32
  let v64_r0 : BitVec 32 := Scalar.remui c0_i32_63_r0 c2_i32_64_r0
  let c0_i32_65_r0 : BitVec 32 := 0#32
  let c0_i32_66_r0 : BitVec 32 := 0#32
  ![v64_r0.toNat, 0, 0]
def k0_cond1 : BitVec 1 :=
  let true_72_r0 : BitVec 1 := 1#1
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let c0_i32_70_r0 : BitVec 32 := 0#32
  let v71_r0 : BitVec 1 := Scalar.cmpi .ne v25_r0 c0_i32_70_r0
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let c0_i32_71_r0 : BitVec 32 := 0#32
  let v72_r0 : BitVec 1 := Scalar.cmpi .ne v26_r0 c0_i32_71_r0
  let v73_r0 : BitVec 1 := Scalar.ori v71_r0 v72_r0
  let v74_r0 : BitVec 1 := Scalar.andi true_72_r0 v73_r0
  let true_73_r0 : BitVec 1 := 1#1
  let v75_r0 : BitVec 1 := Scalar.andi v74_r0 true_73_r0
  let v76_r0 : BitVec 32 := Scalar.extui v75_r0
  let c0_i32_74_r0 : BitVec 32 := 0#32
  let v77_r0 : BitVec 1 := Scalar.cmpi .ne v76_r0 c0_i32_74_r0
  v77_r0

def k0_off5 : Fin 1 → Nat :=
  let c0_i32_61_r0 : BitVec 32 := 0#32
  let c1_i32_62_r0 : BitVec 32 := 1#32
  let v63_r0 : BitVec 32 := Scalar.addi c0_i32_61_r0 c1_i32_62_r0
  let c3_i32_175_r0 : BitVec 32 := 3#32
  let v194_r0 : BitVec 32 := Scalar.remui v63_r0 c3_i32_175_r0
  ![v194_r0.toNat]
def k0_off6 : Fin 4 → Nat :=
  let c0_i32_61_r0 : BitVec 32 := 0#32
  let c1_i32_62_r0 : BitVec 32 := 1#32
  let v63_r0 : BitVec 32 := Scalar.addi c0_i32_61_r0 c1_i32_62_r0
  let c3_i32_175_r0 : BitVec 32 := 3#32
  let v194_r0 : BitVec 32 := Scalar.remui v63_r0 c3_i32_175_r0
  let c0_i32_178_r0 : BitVec 32 := 0#32
  let c0_i32_179_r0 : BitVec 32 := 0#32
  let c0_i32_180_r0 : BitVec 32 := 0#32
  ![v194_r0.toNat, 0, 0, 0]
def k0_off7 : Fin 3 → Nat :=
  let c1_i32_176_r0 : BitVec 32 := 1#32
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let v195_r0 : BitVec 32 := Scalar.muli c1_i32_176_r0 v25_r0
  let c1024_i32_177_r0 : BitVec 32 := 1024#32
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let v196_r0 : BitVec 32 := Scalar.muli c1024_i32_177_r0 v26_r0
  let c0_i32_181_r0 : BitVec 32 := 0#32
  ![v195_r0.toNat, v196_r0.toNat, 0]
@[reducible] def k0_t1_loop : Scf.Loop 32 :=
  let c0_i32_83_r0 : BitVec 32 := 0#32
  let c16_i32_r0 : BitVec 32 := 16#32
  let v80_r0 : BitVec 32 := Scalar.addi c0_i32_83_r0 c16_i32_r0
  let c1_i32_84_r0 : BitVec 32 := 1#32
  ⟨c0_i32_83_r0, v80_r0, c1_i32_84_r0⟩
def k0_off8 (arg6_r0 : BitVec 32) : Fin 1 → Nat :=
  let c3_i32_424_r0 : BitVec 32 := 3#32
  let v546_r0 : BitVec 32 := Scalar.remui arg6_r0 c3_i32_424_r0
  ![v546_r0.toNat]
def k0_cond2 (k0_t1 : Fin k0_t1_loop.trips) (arg13_r0 : BitVec 32) (arg14_r0 : BitVec 32) : BitVec 1 :=
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c0_i32_203_r0 : BitVec 32 := 0#32
  let v227_r0 : BitVec 32 := Scalar.addi v221_r0 c0_i32_203_r0
  let true_206_r0 : BitVec 1 := 1#1
  let c0_i32_195_r0 : BitVec 32 := 0#32
  let v217_r0 : BitVec 32 := Scalar.select v216_r0 c0_i32_195_r0 v215_r0
  let c1_i32_205_r0 : BitVec 32 := 1#32
  let v229_r0 : BitVec 32 := Scalar.addi v217_r0 c1_i32_205_r0
  let v230_r0 : BitVec 32 := Scalar.select true_206_r0 v229_r0 v217_r0
  let c4_i32_207_r0 : BitVec 32 := 4#32
  let v231_r0 : BitVec 1 := Scalar.cmpi .eq v230_r0 c4_i32_207_r0
  let c1_i32_209_r0 : BitVec 32 := 1#32
  let v233_r0 : BitVec 32 := Scalar.addi v221_r0 c1_i32_209_r0
  let v234_r0 : BitVec 32 := Scalar.select v231_r0 v233_r0 v221_r0
  let c2_i32_210_r0 : BitVec 32 := 2#32
  let v235_r0 : BitVec 1 := Scalar.cmpi .eq v234_r0 c2_i32_210_r0
  let c0_i32_211_r0 : BitVec 32 := 0#32
  let v236_r0 : BitVec 32 := Scalar.select v235_r0 c0_i32_211_r0 v234_r0
  let c0_i32_216_r0 : BitVec 32 := 0#32
  let v242_r0 : BitVec 32 := Scalar.addi v236_r0 c0_i32_216_r0
  let v259_r0 : BitVec 1 := Scalar.cmpi .ne v227_r0 v242_r0
  let c0_i32_204_r0 : BitVec 32 := 0#32
  let v228_r0 : BitVec 32 := Scalar.addi v217_r0 c0_i32_204_r0
  let c0_i32_208_r0 : BitVec 32 := 0#32
  let v232_r0 : BitVec 32 := Scalar.select v231_r0 c0_i32_208_r0 v230_r0
  let c0_i32_217_r0 : BitVec 32 := 0#32
  let v243_r0 : BitVec 32 := Scalar.addi v232_r0 c0_i32_217_r0
  let v260_r0 : BitVec 1 := Scalar.cmpi .ne v228_r0 v243_r0
  let v261_r0 : BitVec 1 := Scalar.ori v259_r0 v260_r0
  let c0_i32_83_r0 : BitVec 32 := 0#32
  let c1_i32_84_r0 : BitVec 32 := 1#32
  let arg5_r0 : BitVec 32 := Scf.iv c0_i32_83_r0 c1_i32_84_r0 k0_t1
  let c14_i32_r0 : BitVec 32 := 14#32
  let v262_r0 : BitVec 1 := Scalar.cmpi .sge arg5_r0 c14_i32_r0
  let true_231_r0 : BitVec 1 := 1#1
  let v263_r0 : BitVec 1 := Scalar.xori v262_r0 true_231_r0
  let v264_r0 : BitVec 1 := Scalar.andi v261_r0 v263_r0
  let true_232_r0 : BitVec 1 := 1#1
  let v265_r0 : BitVec 1 := Scalar.andi v264_r0 true_232_r0
  let v266_r0 : BitVec 32 := Scalar.extui v265_r0
  let c0_i32_233_r0 : BitVec 32 := 0#32
  let v267_r0 : BitVec 1 := Scalar.cmpi .ne v266_r0 c0_i32_233_r0
  v267_r0

def k0_off9 (arg6_r0 : BitVec 32) : Fin 4 → Nat :=
  let c3_i32_424_r0 : BitVec 32 := 3#32
  let v546_r0 : BitVec 32 := Scalar.remui arg6_r0 c3_i32_424_r0
  let c0_i32_427_r0 : BitVec 32 := 0#32
  let c0_i32_428_r0 : BitVec 32 := 0#32
  let c0_i32_429_r0 : BitVec 32 := 0#32
  ![v546_r0.toNat, 0, 0, 0]
def k0_off10 (arg13_r0 : BitVec 32) (arg14_r0 : BitVec 32) : Fin 3 → Nat :=
  let c1_i32_425_r0 : BitVec 32 := 1#32
  let true_206_r0 : BitVec 1 := 1#1
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c0_i32_195_r0 : BitVec 32 := 0#32
  let v217_r0 : BitVec 32 := Scalar.select v216_r0 c0_i32_195_r0 v215_r0
  let c1_i32_205_r0 : BitVec 32 := 1#32
  let v229_r0 : BitVec 32 := Scalar.addi v217_r0 c1_i32_205_r0
  let v230_r0 : BitVec 32 := Scalar.select true_206_r0 v229_r0 v217_r0
  let c4_i32_207_r0 : BitVec 32 := 4#32
  let v231_r0 : BitVec 1 := Scalar.cmpi .eq v230_r0 c4_i32_207_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c1_i32_209_r0 : BitVec 32 := 1#32
  let v233_r0 : BitVec 32 := Scalar.addi v221_r0 c1_i32_209_r0
  let v234_r0 : BitVec 32 := Scalar.select v231_r0 v233_r0 v221_r0
  let c2_i32_210_r0 : BitVec 32 := 2#32
  let v235_r0 : BitVec 1 := Scalar.cmpi .eq v234_r0 c2_i32_210_r0
  let c0_i32_211_r0 : BitVec 32 := 0#32
  let v236_r0 : BitVec 32 := Scalar.select v235_r0 c0_i32_211_r0 v234_r0
  let c0_i32_216_r0 : BitVec 32 := 0#32
  let v242_r0 : BitVec 32 := Scalar.addi v236_r0 c0_i32_216_r0
  let v547_r0 : BitVec 32 := Scalar.muli c1_i32_425_r0 v242_r0
  let c1024_i32_426_r0 : BitVec 32 := 1024#32
  let c0_i32_208_r0 : BitVec 32 := 0#32
  let v232_r0 : BitVec 32 := Scalar.select v231_r0 c0_i32_208_r0 v230_r0
  let c0_i32_217_r0 : BitVec 32 := 0#32
  let v243_r0 : BitVec 32 := Scalar.addi v232_r0 c0_i32_217_r0
  let v548_r0 : BitVec 32 := Scalar.muli c1024_i32_426_r0 v243_r0
  let c0_i32_430_r0 : BitVec 32 := 0#32
  ![v547_r0.toNat, v548_r0.toNat, 0]
def k0_off11 (arg8_r0 : BitVec 32) : Fin 1 → Nat :=
  let c2_i32_424_r0 : BitVec 32 := 2#32
  let v546_r0 : BitVec 32 := Scalar.remui arg8_r0 c2_i32_424_r0
  ![v546_r0.toNat]
def k0_cond3 (k0_t1 : Fin k0_t1_loop.trips) (arg12_r0 : BitVec 32) (arg13_r0 : BitVec 32) (arg14_r0 : BitVec 32) : BitVec 1 :=
  let c6_i32_r0 : BitVec 32 := 6#32
  let c0_i32_176_r0 : BitVec 32 := 0#32
  let v196_r0 : BitVec 32 := Scalar.addi arg12_r0 c0_i32_176_r0
  let v271_r0 : BitVec 32 := Scalar.addi c6_i32_r0 v196_r0
  let c6_i32_236_r0 : BitVec 32 := 6#32
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c1_i32_199_r0 : BitVec 32 := 1#32
  let v222_r0 : BitVec 32 := Scalar.addi arg12_r0 c1_i32_199_r0
  let v223_r0 : BitVec 32 := Scalar.select v220_r0 v222_r0 arg12_r0
  let c2_i32_200_r0 : BitVec 32 := 2#32
  let v224_r0 : BitVec 1 := Scalar.cmpi .eq v223_r0 c2_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let v272_r0 : BitVec 32 := Scalar.addi c6_i32_236_r0 v226_r0
  let v273_r0 : BitVec 1 := Scalar.cmpi .ne v271_r0 v272_r0
  let c0_i32_83_r0 : BitVec 32 := 0#32
  let c1_i32_84_r0 : BitVec 32 := 1#32
  let arg5_r0 : BitVec 32 := Scf.iv c0_i32_83_r0 c1_i32_84_r0 k0_t1
  let c15_i32_237_r0 : BitVec 32 := 15#32
  let v274_r0 : BitVec 1 := Scalar.cmpi .sge arg5_r0 c15_i32_237_r0
  let true_238_r0 : BitVec 1 := 1#1
  let v275_r0 : BitVec 1 := Scalar.xori v274_r0 true_238_r0
  let v276_r0 : BitVec 1 := Scalar.andi v273_r0 v275_r0
  let true_239_r0 : BitVec 1 := 1#1
  let v277_r0 : BitVec 1 := Scalar.andi v276_r0 true_239_r0
  let v278_r0 : BitVec 32 := Scalar.extui v277_r0
  let c0_i32_240_r0 : BitVec 32 := 0#32
  let v279_r0 : BitVec 1 := Scalar.cmpi .ne v278_r0 c0_i32_240_r0
  v279_r0

def k0_off12 (arg8_r0 : BitVec 32) : Fin 3 → Nat :=
  let c2_i32_424_r0 : BitVec 32 := 2#32
  let v546_r0 : BitVec 32 := Scalar.remui arg8_r0 c2_i32_424_r0
  let c0_i32_427_r0 : BitVec 32 := 0#32
  let c0_i32_428_r0 : BitVec 32 := 0#32
  ![v546_r0.toNat, 0, 0]
def k0_off13 (arg12_r0 : BitVec 32) (arg13_r0 : BitVec 32) (arg14_r0 : BitVec 32) : Fin 2 → Nat :=
  let c0_i32_429_r0 : BitVec 32 := 0#32
  let c1024_i32_426_r0 : BitVec 32 := 1024#32
  let c6_i32_425_r0 : BitVec 32 := 6#32
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c1_i32_199_r0 : BitVec 32 := 1#32
  let v222_r0 : BitVec 32 := Scalar.addi arg12_r0 c1_i32_199_r0
  let v223_r0 : BitVec 32 := Scalar.select v220_r0 v222_r0 arg12_r0
  let c2_i32_200_r0 : BitVec 32 := 2#32
  let v224_r0 : BitVec 1 := Scalar.cmpi .eq v223_r0 c2_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let v547_r0 : BitVec 32 := Scalar.addi c6_i32_425_r0 v226_r0
  let v548_r0 : BitVec 32 := Scalar.muli c1024_i32_426_r0 v547_r0
  ![0, v548_r0.toNat]
def k0_off14 (arg7_r0 : BitVec 32) : Fin 1 → Nat :=
  let c3_i32_426_r0 : BitVec 32 := 3#32
  let v548_r0 : BitVec 32 := Scalar.remui arg7_r0 c3_i32_426_r0
  ![v548_r0.toNat]
def k0_cond4 (k0_t1 : Fin k0_t1_loop.trips) (arg13_r0 : BitVec 32) (arg14_r0 : BitVec 32) : BitVec 1 :=
  let c0_i32_177_r0 : BitVec 32 := 0#32
  let v197_r0 : BitVec 32 := Scalar.addi arg13_r0 c0_i32_177_r0
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v347_r0 : BitVec 1 := Scalar.cmpi .ne v197_r0 v212_r0
  let c0_i32_178_r0 : BitVec 32 := 0#32
  let v198_r0 : BitVec 32 := Scalar.addi arg14_r0 c0_i32_178_r0
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v348_r0 : BitVec 1 := Scalar.cmpi .ne v198_r0 v213_r0
  let v349_r0 : BitVec 1 := Scalar.ori v347_r0 v348_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let v350_r0 : BitVec 1 := Scalar.ori v349_r0 v194_r0
  let c0_i32_271_r0 : BitVec 32 := 0#32
  let v351_r0 : BitVec 1 := Scalar.cmpi .sge arg5_r0 c0_i32_271_r0
  let v352_r0 : BitVec 1 := Scalar.andi v350_r0 v351_r0
  let v353_r0 : BitVec 32 := Scalar.extui v352_r0
  let c0_i32_272_r0 : BitVec 32 := 0#32
  let v354_r0 : BitVec 1 := Scalar.cmpi .ne v353_r0 c0_i32_272_r0
  v354_r0

def k0_off15 (arg7_r0 : BitVec 32) : Fin 4 → Nat :=
  let c3_i32_426_r0 : BitVec 32 := 3#32
  let v548_r0 : BitVec 32 := Scalar.remui arg7_r0 c3_i32_426_r0
  let c0_i32_427_r0 : BitVec 32 := 0#32
  let c0_i32_428_r0 : BitVec 32 := 0#32
  let c0_i32_429_r0 : BitVec 32 := 0#32
  ![v548_r0.toNat, 0, 0, 0]
def k0_off16 (arg13_r0 : BitVec 32) (arg14_r0 : BitVec 32) : Fin 3 → Nat :=
  let c1_i32_424_r0 : BitVec 32 := 1#32
  let c0_i32_177_r0 : BitVec 32 := 0#32
  let v197_r0 : BitVec 32 := Scalar.addi arg13_r0 c0_i32_177_r0
  let v546_r0 : BitVec 32 := Scalar.muli c1_i32_424_r0 v197_r0
  let c1024_i32_425_r0 : BitVec 32 := 1024#32
  let c0_i32_178_r0 : BitVec 32 := 0#32
  let v198_r0 : BitVec 32 := Scalar.addi arg14_r0 c0_i32_178_r0
  let v547_r0 : BitVec 32 := Scalar.muli c1024_i32_425_r0 v198_r0
  let c0_i32_430_r0 : BitVec 32 := 0#32
  ![v546_r0.toNat, v547_r0.toNat, 0]
def k0_off17 (arg9_r0 : BitVec 32) : Fin 1 → Nat :=
  let c2_i32_426_r0 : BitVec 32 := 2#32
  let v548_r0 : BitVec 32 := Scalar.remui arg9_r0 c2_i32_426_r0
  ![v548_r0.toNat]
def k0_cond5 (k0_t1 : Fin k0_t1_loop.trips) (arg12_r0 : BitVec 32) (arg13_r0 : BitVec 32) (arg14_r0 : BitVec 32) : BitVec 1 :=
  let c6_i32_r0 : BitVec 32 := 6#32
  let c0_i32_176_r0 : BitVec 32 := 0#32
  let v196_r0 : BitVec 32 := Scalar.addi arg12_r0 c0_i32_176_r0
  let v271_r0 : BitVec 32 := Scalar.addi c6_i32_r0 v196_r0
  let c6_i32_273_r0 : BitVec 32 := 6#32
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c1_i32_188_r0 : BitVec 32 := 1#32
  let v210_r0 : BitVec 32 := Scalar.select v209_r0 c1_i32_188_r0 v208_r0
  let c0_i32_189_r0 : BitVec 32 := 0#32
  let v211_r0 : BitVec 32 := Scalar.addi v210_r0 c0_i32_189_r0
  let v355_r0 : BitVec 32 := Scalar.addi c6_i32_273_r0 v211_r0
  let v356_r0 : BitVec 1 := Scalar.cmpi .ne v271_r0 v355_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let v357_r0 : BitVec 1 := Scalar.ori v356_r0 v194_r0
  let c0_i32_274_r0 : BitVec 32 := 0#32
  let v358_r0 : BitVec 1 := Scalar.cmpi .sge arg5_r0 c0_i32_274_r0
  let v359_r0 : BitVec 1 := Scalar.andi v357_r0 v358_r0
  let v360_r0 : BitVec 32 := Scalar.extui v359_r0
  let c0_i32_275_r0 : BitVec 32 := 0#32
  let v361_r0 : BitVec 1 := Scalar.cmpi .ne v360_r0 c0_i32_275_r0
  v361_r0

def k0_off18 (arg9_r0 : BitVec 32) : Fin 3 → Nat :=
  let c2_i32_426_r0 : BitVec 32 := 2#32
  let v548_r0 : BitVec 32 := Scalar.remui arg9_r0 c2_i32_426_r0
  let c0_i32_427_r0 : BitVec 32 := 0#32
  let c0_i32_428_r0 : BitVec 32 := 0#32
  ![v548_r0.toNat, 0, 0]
def k0_off19 (arg12_r0 : BitVec 32) : Fin 2 → Nat :=
  let c0_i32_429_r0 : BitVec 32 := 0#32
  let c1024_i32_425_r0 : BitVec 32 := 1024#32
  let c6_i32_424_r0 : BitVec 32 := 6#32
  let c0_i32_176_r0 : BitVec 32 := 0#32
  let v196_r0 : BitVec 32 := Scalar.addi arg12_r0 c0_i32_176_r0
  let v546_r0 : BitVec 32 := Scalar.addi c6_i32_424_r0 v196_r0
  let v547_r0 : BitVec 32 := Scalar.muli c1024_i32_425_r0 v546_r0
  ![0, v547_r0.toNat]
def k0_off20 (arg9_r0 : BitVec 32) : Fin 3 → Nat :=
  let c2_i32_292_r0 : BitVec 32 := 2#32
  let v402_r0 : BitVec 32 := Scalar.remui arg9_r0 c2_i32_292_r0
  let v546_r0 : Index := Scalar.indexCast v402_r0
  let c0_424_r0 : Index := 0#32
  let c0_425_r0 : Index := 0#32
  ![v546_r0.toNat, 0, 0]
def k0_cond7 (arg13_r0 : BitVec 32) (arg14_r0 : BitVec 32) : BitVec 1 :=
  let c0_i32_177_r0 : BitVec 32 := 0#32
  let v197_r0 : BitVec 32 := Scalar.addi arg13_r0 c0_i32_177_r0
  let c0_i32_294_r0 : BitVec 32 := 0#32
  let v404_r0 : BitVec 1 := Scalar.cmpi .eq v197_r0 c0_i32_294_r0
  let c0_i32_178_r0 : BitVec 32 := 0#32
  let v198_r0 : BitVec 32 := Scalar.addi arg14_r0 c0_i32_178_r0
  let c0_i32_295_r0 : BitVec 32 := 0#32
  let v405_r0 : BitVec 1 := Scalar.cmpi .eq v198_r0 c0_i32_295_r0
  let v406_r0 : BitVec 1 := Scalar.andi v404_r0 v405_r0
  let v407_r0 : BitVec 32 := Scalar.extui v406_r0
  let c0_i32_296_r0 : BitVec 32 := 0#32
  let v408_r0 : BitVec 1 := Scalar.cmpi .ne v407_r0 c0_i32_296_r0
  v408_r0

def k0_off21 (arg7_r0 : BitVec 32) : Fin 4 → Nat :=
  let c3_i32_291_r0 : BitVec 32 := 3#32
  let v401_r0 : BitVec 32 := Scalar.remui arg7_r0 c3_i32_291_r0
  let c0_i32_297_r0 : BitVec 32 := 0#32
  let c0_i32_298_r0 : BitVec 32 := 0#32
  let c0_i32_299_r0 : BitVec 32 := 0#32
  ![v401_r0.toNat, 0, 0, 0]

def k0_chk2 (arg7_r0 : BitVec 32) : Prop :=
  (∀ a, (k0_off21 arg7_r0) a + S1x1x1024x2048.size a ≤ S3x1x1024x2048.size a)
theorem k0_off21_inb : ∀ (arg7_r0 : BitVec 32) (k0_hw2 : k0_chk2 arg7_r0), ∀ a, (k0_off21 arg7_r0) a + S1x1x1024x2048.size a ≤ S3x1x1024x2048.size a := fun arg7_r0 k0_hw2 => k0_hw2

def k0_off22 (arg10_r0 : BitVec 32) : Fin 7 → Nat :=
  let c2_i32_293_r0 : BitVec 32 := 2#32
  let v403_r0 : BitVec 32 := Scalar.remui arg10_r0 c2_i32_293_r0
  let c0_i32_307_r0 : BitVec 32 := 0#32
  let c0_i32_308_r0 : BitVec 32 := 0#32
  let c0_i32_309_r0 : BitVec 32 := 0#32
  let c0_i32_310_r0 : BitVec 32 := 0#32
  let c0_i32_311_r0 : BitVec 32 := 0#32
  let c0_i32_312_r0 : BitVec 32 := 0#32
  ![v403_r0.toNat, 0, 0, 0, 0, 0, 0]

def k0_chk3 (arg10_r0 : BitVec 32) : Prop :=
  (∀ a, (k0_off22 arg10_r0) a + S1x1x8x1x1x1024x128.size a ≤ S2x1x8x1x1x1024x128.size a)
theorem k0_off22_inb : ∀ (arg10_r0 : BitVec 32) (k0_hw3 : k0_chk3 arg10_r0), ∀ a, (k0_off22 arg10_r0) a + S1x1x8x1x1x1024x128.size a ≤ S2x1x8x1x1x1024x128.size a := fun arg10_r0 k0_hw3 => k0_hw3

def k0_off23 (arg10_r0 : BitVec 32) : Fin 1 → Nat :=
  let c2_i32_424_r0 : BitVec 32 := 2#32
  let v546_r0 : BitVec 32 := Scalar.remui arg10_r0 c2_i32_424_r0
  ![v546_r0.toNat]
def k0_cond10 (k0_t1 : Fin k0_t1_loop.trips) (arg12_r0 : BitVec 32) (arg13_r0 : BitVec 32) (arg14_r0 : BitVec 32) : BitVec 1 :=
  let c0_i32_177_r0 : BitVec 32 := 0#32
  let v197_r0 : BitVec 32 := Scalar.addi arg13_r0 c0_i32_177_r0
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c0_i32_203_r0 : BitVec 32 := 0#32
  let v227_r0 : BitVec 32 := Scalar.addi v221_r0 c0_i32_203_r0
  let v483_r0 : BitVec 1 := Scalar.cmpi .ne v197_r0 v227_r0
  let c0_i32_176_r0 : BitVec 32 := 0#32
  let v196_r0 : BitVec 32 := Scalar.addi arg12_r0 c0_i32_176_r0
  let c2_i32_243_r0 : BitVec 32 := 2#32
  let c0_i32_244_r0 : BitVec 32 := 0#32
  let v283_r0 : BitVec 1 := Scalar.cmpi .eq c2_i32_243_r0 c0_i32_244_r0
  let c1_i32_245_r0 : BitVec 32 := 1#32
  let v284_r0 : BitVec 32 := Scalar.select v283_r0 c1_i32_245_r0 c2_i32_243_r0
  let v285_r0 : BitVec 32 := Scalar.remsi v196_r0 v284_r0
  let c0_i32_247_r0 : BitVec 32 := 0#32
  let v287_r0 : BitVec 1 := Scalar.cmpi .slt v285_r0 c0_i32_247_r0
  let c0_i32_248_r0 : BitVec 32 := 0#32
  let v288_r0 : BitVec 1 := Scalar.cmpi .slt v284_r0 c0_i32_248_r0
  let v289_r0 : BitVec 1 := Scalar.xori v287_r0 v288_r0
  let c0_i32_246_r0 : BitVec 32 := 0#32
  let v286_r0 : BitVec 1 := Scalar.cmpi .ne v285_r0 c0_i32_246_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_199_r0 : BitVec 32 := 1#32
  let v222_r0 : BitVec 32 := Scalar.addi arg12_r0 c1_i32_199_r0
  let v223_r0 : BitVec 32 := Scalar.select v220_r0 v222_r0 arg12_r0
  let c2_i32_200_r0 : BitVec 32 := 2#32
  let v224_r0 : BitVec 1 := Scalar.cmpi .eq v223_r0 c2_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let c2_i32_256_r0 : BitVec 32 := 2#32
  let c0_i32_257_r0 : BitVec 32 := 0#32
  let v310_r0 : BitVec 1 := Scalar.cmpi .eq c2_i32_256_r0 c0_i32_257_r0
  let c1_i32_258_r0 : BitVec 32 := 1#32
  let v311_r0 : BitVec 32 := Scalar.select v310_r0 c1_i32_258_r0 c2_i32_256_r0
  let v312_r0 : BitVec 32 := Scalar.remsi v226_r0 v311_r0
  let c0_i32_260_r0 : BitVec 32 := 0#32
  let v314_r0 : BitVec 1 := Scalar.cmpi .slt v312_r0 c0_i32_260_r0
  let c0_i32_261_r0 : BitVec 32 := 0#32
  let v315_r0 : BitVec 1 := Scalar.cmpi .slt v311_r0 c0_i32_261_r0
  let v316_r0 : BitVec 1 := Scalar.xori v314_r0 v315_r0
  let c0_i32_259_r0 : BitVec 32 := 0#32
  let v313_r0 : BitVec 1 := Scalar.cmpi .ne v312_r0 c0_i32_259_r0
  let v317_r0 : BitVec 1 := Scalar.andi v316_r0 v313_r0
  let v318_r0 : BitVec 32 := Scalar.addi v312_r0 v311_r0
  let v319_r0 : BitVec 32 := Scalar.select v317_r0 v318_r0 v312_r0
  let v484_r0 : BitVec 1 := Scalar.cmpi .ne v292_r0 v319_r0
  let v487_r0 : BitVec 1 := Scalar.ori v483_r0 v484_r0
  let c0_i32_250_r0 : BitVec 32 := 0#32
  let v294_r0 : BitVec 1 := Scalar.cmpi .sgt v196_r0 c0_i32_250_r0
  let v295_r0 : BitVec 32 := Scalar.extui v294_r0
  let c0_i32_251_r0 : BitVec 32 := 0#32
  let v296_r0 : BitVec 1 := Scalar.cmpi .slt v196_r0 c0_i32_251_r0
  let v297_r0 : BitVec 32 := Scalar.extui v296_r0
  let v298_r0 : BitVec 32 := Scalar.subi v295_r0 v297_r0
  let c2_i32_249_r0 : BitVec 32 := 2#32
  let c0_i32_252_r0 : BitVec 32 := 0#32
  let v299_r0 : BitVec 1 := Scalar.cmpi .sgt c2_i32_249_r0 c0_i32_252_r0
  let v300_r0 : BitVec 32 := Scalar.extui v299_r0
  let c0_i32_253_r0 : BitVec 32 := 0#32
  let v301_r0 : BitVec 1 := Scalar.cmpi .slt c2_i32_249_r0 c0_i32_253_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_249_r0
  let c0_i32_254_r0 : BitVec 32 := 0#32
  let v306_r0 : BitVec 1 := Scalar.cmpi .ne v305_r0 c0_i32_254_r0
  let v307_r0 : BitVec 1 := Scalar.andi v304_r0 v306_r0
  let v293_r0 : BitVec 32 := Scalar.divsi v196_r0 c2_i32_249_r0
  let c1_i32_255_r0 : BitVec 32 := 1#32
  let v308_r0 : BitVec 32 := Scalar.subi v293_r0 c1_i32_255_r0
  let v309_r0 : BitVec 32 := Scalar.select v307_r0 v308_r0 v293_r0
  let c0_i32_263_r0 : BitVec 32 := 0#32
  let v321_r0 : BitVec 1 := Scalar.cmpi .sgt v226_r0 c0_i32_263_r0
  let v322_r0 : BitVec 32 := Scalar.extui v321_r0
  let c0_i32_264_r0 : BitVec 32 := 0#32
  let v323_r0 : BitVec 1 := Scalar.cmpi .slt v226_r0 c0_i32_264_r0
  let v324_r0 : BitVec 32 := Scalar.extui v323_r0
  let v325_r0 : BitVec 32 := Scalar.subi v322_r0 v324_r0
  let c2_i32_262_r0 : BitVec 32 := 2#32
  let c0_i32_265_r0 : BitVec 32 := 0#32
  let v326_r0 : BitVec 1 := Scalar.cmpi .sgt c2_i32_262_r0 c0_i32_265_r0
  let v327_r0 : BitVec 32 := Scalar.extui v326_r0
  let c0_i32_266_r0 : BitVec 32 := 0#32
  let v328_r0 : BitVec 1 := Scalar.cmpi .slt c2_i32_262_r0 c0_i32_266_r0
  let v329_r0 : BitVec 32 := Scalar.extui v328_r0
  let v330_r0 : BitVec 32 := Scalar.subi v327_r0 v329_r0
  let v331_r0 : BitVec 1 := Scalar.cmpi .ne v325_r0 v330_r0
  let v332_r0 : BitVec 32 := Scalar.remsi v226_r0 c2_i32_262_r0
  let c0_i32_267_r0 : BitVec 32 := 0#32
  let v333_r0 : BitVec 1 := Scalar.cmpi .ne v332_r0 c0_i32_267_r0
  let v334_r0 : BitVec 1 := Scalar.andi v331_r0 v333_r0
  let v320_r0 : BitVec 32 := Scalar.divsi v226_r0 c2_i32_262_r0
  let c1_i32_268_r0 : BitVec 32 := 1#32
  let v335_r0 : BitVec 32 := Scalar.subi v320_r0 c1_i32_268_r0
  let v336_r0 : BitVec 32 := Scalar.select v334_r0 v335_r0 v320_r0
  let v485_r0 : BitVec 1 := Scalar.cmpi .ne v309_r0 v336_r0
  let v488_r0 : BitVec 1 := Scalar.ori v487_r0 v485_r0
  let c0_i32_178_r0 : BitVec 32 := 0#32
  let v198_r0 : BitVec 32 := Scalar.addi arg14_r0 c0_i32_178_r0
  let c0_i32_195_r0 : BitVec 32 := 0#32
  let v217_r0 : BitVec 32 := Scalar.select v216_r0 c0_i32_195_r0 v215_r0
  let c0_i32_204_r0 : BitVec 32 := 0#32
  let v228_r0 : BitVec 32 := Scalar.addi v217_r0 c0_i32_204_r0
  let v486_r0 : BitVec 1 := Scalar.cmpi .ne v198_r0 v228_r0
  let v489_r0 : BitVec 1 := Scalar.ori v488_r0 v486_r0
  let c0_i32_83_r0 : BitVec 32 := 0#32
  let c1_i32_84_r0 : BitVec 32 := 1#32
  let arg5_r0 : BitVec 32 := Scf.iv c0_i32_83_r0 c1_i32_84_r0 k0_t1
  let c15_i32_r0 : BitVec 32 := 15#32
  let v195_r0 : BitVec 1 := Scalar.cmpi .eq arg5_r0 c15_i32_r0
  let v490_r0 : BitVec 1 := Scalar.ori v489_r0 v195_r0
  let v491_r0 : BitVec 32 := Scalar.extui v490_r0
  let c0_i32_399_r0 : BitVec 32 := 0#32
  let v492_r0 : BitVec 1 := Scalar.cmpi .ne v491_r0 c0_i32_399_r0
  v492_r0

def k0_off24 (arg12_r0 : BitVec 32) (arg13_r0 : BitVec 32) (arg14_r0 : BitVec 32) : Fin 6 → Nat :=
  let c1_i32_438_r0 : BitVec 32 := 1#32
  let c0_i32_177_r0 : BitVec 32 := 0#32
  let v197_r0 : BitVec 32 := Scalar.addi arg13_r0 c0_i32_177_r0
  let v574_r0 : BitVec 32 := Scalar.muli c1_i32_438_r0 v197_r0
  let c8_i32_439_r0 : BitVec 32 := 8#32
  let c0_i32_176_r0 : BitVec 32 := 0#32
  let v196_r0 : BitVec 32 := Scalar.addi arg12_r0 c0_i32_176_r0
  let c2_i32_425_r0 : BitVec 32 := 2#32
  let c0_i32_426_r0 : BitVec 32 := 0#32
  let v547_r0 : BitVec 1 := Scalar.cmpi .eq c2_i32_425_r0 c0_i32_426_r0
  let c1_i32_427_r0 : BitVec 32 := 1#32
  let v548_r0 : BitVec 32 := Scalar.select v547_r0 c1_i32_427_r0 c2_i32_425_r0
  let v549_r0 : BitVec 32 := Scalar.remsi v196_r0 v548_r0
  let c0_i32_429_r0 : BitVec 32 := 0#32
  let v551_r0 : BitVec 1 := Scalar.cmpi .slt v549_r0 c0_i32_429_r0
  let c0_i32_430_r0 : BitVec 32 := 0#32
  let v552_r0 : BitVec 1 := Scalar.cmpi .slt v548_r0 c0_i32_430_r0
  let v553_r0 : BitVec 1 := Scalar.xori v551_r0 v552_r0
  let c0_i32_428_r0 : BitVec 32 := 0#32
  let v550_r0 : BitVec 1 := Scalar.cmpi .ne v549_r0 c0_i32_428_r0
  let v554_r0 : BitVec 1 := Scalar.andi v553_r0 v550_r0
  let v555_r0 : BitVec 32 := Scalar.addi v549_r0 v548_r0
  let v556_r0 : BitVec 32 := Scalar.select v554_r0 v555_r0 v549_r0
  let v575_r0 : BitVec 32 := Scalar.muli c8_i32_439_r0 v556_r0
  let c1_i32_440_r0 : BitVec 32 := 1#32
  let c0_i32_432_r0 : BitVec 32 := 0#32
  let v558_r0 : BitVec 1 := Scalar.cmpi .sgt v196_r0 c0_i32_432_r0
  let v559_r0 : BitVec 32 := Scalar.extui v558_r0
  let c0_i32_433_r0 : BitVec 32 := 0#32
  let v560_r0 : BitVec 1 := Scalar.cmpi .slt v196_r0 c0_i32_433_r0
  let v561_r0 : BitVec 32 := Scalar.extui v560_r0
  let v562_r0 : BitVec 32 := Scalar.subi v559_r0 v561_r0
  let c2_i32_431_r0 : BitVec 32 := 2#32
  let c0_i32_434_r0 : BitVec 32 := 0#32
  let v563_r0 : BitVec 1 := Scalar.cmpi .sgt c2_i32_431_r0 c0_i32_434_r0
  let v564_r0 : BitVec 32 := Scalar.extui v563_r0
  let c0_i32_435_r0 : BitVec 32 := 0#32
  let v565_r0 : BitVec 1 := Scalar.cmpi .slt c2_i32_431_r0 c0_i32_435_r0
  let v566_r0 : BitVec 32 := Scalar.extui v565_r0
  let v567_r0 : BitVec 32 := Scalar.subi v564_r0 v566_r0
  let v568_r0 : BitVec 1 := Scalar.cmpi .ne v562_r0 v567_r0
  let v569_r0 : BitVec 32 := Scalar.remsi v196_r0 c2_i32_431_r0
  let c0_i32_436_r0 : BitVec 32 := 0#32
  let v570_r0 : BitVec 1 := Scalar.cmpi .ne v569_r0 c0_i32_436_r0
  let v571_r0 : BitVec 1 := Scalar.andi v568_r0 v570_r0
  let v557_r0 : BitVec 32 := Scalar.divsi v196_r0 c2_i32_431_r0
  let c1_i32_437_r0 : BitVec 32 := 1#32
  let v572_r0 : BitVec 32 := Scalar.subi v557_r0 c1_i32_437_r0
  let v573_r0 : BitVec 32 := Scalar.select v571_r0 v572_r0 v557_r0
  let v576_r0 : BitVec 32 := Scalar.muli c1_i32_440_r0 v573_r0
  let c0_i32_442_r0 : BitVec 32 := 0#32
  let c1024_i32_441_r0 : BitVec 32 := 1024#32
  let c0_i32_178_r0 : BitVec 32 := 0#32
  let v198_r0 : BitVec 32 := Scalar.addi arg14_r0 c0_i32_178_r0
  let v577_r0 : BitVec 32 := Scalar.muli c1024_i32_441_r0 v198_r0
  let c0_i32_443_r0 : BitVec 32 := 0#32
  ![v574_r0.toNat, v575_r0.toNat, v576_r0.toNat, 0, v577_r0.toNat, 0]
def k0_off25 (arg10_r0 : BitVec 32) : Fin 7 → Nat :=
  let c2_i32_424_r0 : BitVec 32 := 2#32
  let v546_r0 : BitVec 32 := Scalar.remui arg10_r0 c2_i32_424_r0
  let c0_i32_444_r0 : BitVec 32 := 0#32
  let c0_i32_445_r0 : BitVec 32 := 0#32
  let c0_i32_446_r0 : BitVec 32 := 0#32
  let c0_i32_447_r0 : BitVec 32 := 0#32
  let c0_i32_448_r0 : BitVec 32 := 0#32
  let c0_i32_449_r0 : BitVec 32 := 0#32
  ![v546_r0.toNat, 0, 0, 0, 0, 0, 0]
def k0_off26 (arg11_r0 : BitVec 32) : Fin 1 → Nat :=
  let c2_i32_424_r0 : BitVec 32 := 2#32
  let v546_r0 : BitVec 32 := Scalar.remui arg11_r0 c2_i32_424_r0
  ![v546_r0.toNat]
def k0_cond13 (k0_t1 : Fin k0_t1_loop.trips) (arg12_r0 : BitVec 32) (arg13_r0 : BitVec 32) (arg14_r0 : BitVec 32) : BitVec 1 :=
  let c0_i32_177_r0 : BitVec 32 := 0#32
  let v197_r0 : BitVec 32 := Scalar.addi arg13_r0 c0_i32_177_r0
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v510_r0 : BitVec 1 := Scalar.cmpi .ne v197_r0 v212_r0
  let c0_i32_176_r0 : BitVec 32 := 0#32
  let v196_r0 : BitVec 32 := Scalar.addi arg12_r0 c0_i32_176_r0
  let c2_i32_243_r0 : BitVec 32 := 2#32
  let c0_i32_244_r0 : BitVec 32 := 0#32
  let v283_r0 : BitVec 1 := Scalar.cmpi .eq c2_i32_243_r0 c0_i32_244_r0
  let c1_i32_245_r0 : BitVec 32 := 1#32
  let v284_r0 : BitVec 32 := Scalar.select v283_r0 c1_i32_245_r0 c2_i32_243_r0
  let v285_r0 : BitVec 32 := Scalar.remsi v196_r0 v284_r0
  let c0_i32_247_r0 : BitVec 32 := 0#32
  let v287_r0 : BitVec 1 := Scalar.cmpi .slt v285_r0 c0_i32_247_r0
  let c0_i32_248_r0 : BitVec 32 := 0#32
  let v288_r0 : BitVec 1 := Scalar.cmpi .slt v284_r0 c0_i32_248_r0
  let v289_r0 : BitVec 1 := Scalar.xori v287_r0 v288_r0
  let c0_i32_246_r0 : BitVec 32 := 0#32
  let v286_r0 : BitVec 1 := Scalar.cmpi .ne v285_r0 c0_i32_246_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c1_i32_188_r0 : BitVec 32 := 1#32
  let v210_r0 : BitVec 32 := Scalar.select v209_r0 c1_i32_188_r0 v208_r0
  let c0_i32_189_r0 : BitVec 32 := 0#32
  let v211_r0 : BitVec 32 := Scalar.addi v210_r0 c0_i32_189_r0
  let c2_i32_276_r0 : BitVec 32 := 2#32
  let c0_i32_277_r0 : BitVec 32 := 0#32
  let v362_r0 : BitVec 1 := Scalar.cmpi .eq c2_i32_276_r0 c0_i32_277_r0
  let c1_i32_278_r0 : BitVec 32 := 1#32
  let v363_r0 : BitVec 32 := Scalar.select v362_r0 c1_i32_278_r0 c2_i32_276_r0
  let v364_r0 : BitVec 32 := Scalar.remsi v211_r0 v363_r0
  let c0_i32_280_r0 : BitVec 32 := 0#32
  let v366_r0 : BitVec 1 := Scalar.cmpi .slt v364_r0 c0_i32_280_r0
  let c0_i32_281_r0 : BitVec 32 := 0#32
  let v367_r0 : BitVec 1 := Scalar.cmpi .slt v363_r0 c0_i32_281_r0
  let v368_r0 : BitVec 1 := Scalar.xori v366_r0 v367_r0
  let c0_i32_279_r0 : BitVec 32 := 0#32
  let v365_r0 : BitVec 1 := Scalar.cmpi .ne v364_r0 c0_i32_279_r0
  let v369_r0 : BitVec 1 := Scalar.andi v368_r0 v365_r0
  let v370_r0 : BitVec 32 := Scalar.addi v364_r0 v363_r0
  let v371_r0 : BitVec 32 := Scalar.select v369_r0 v370_r0 v364_r0
  let v511_r0 : BitVec 1 := Scalar.cmpi .ne v292_r0 v371_r0
  let v514_r0 : BitVec 1 := Scalar.ori v510_r0 v511_r0
  let c0_i32_250_r0 : BitVec 32 := 0#32
  let v294_r0 : BitVec 1 := Scalar.cmpi .sgt v196_r0 c0_i32_250_r0
  let v295_r0 : BitVec 32 := Scalar.extui v294_r0
  let c0_i32_251_r0 : BitVec 32 := 0#32
  let v296_r0 : BitVec 1 := Scalar.cmpi .slt v196_r0 c0_i32_251_r0
  let v297_r0 : BitVec 32 := Scalar.extui v296_r0
  let v298_r0 : BitVec 32 := Scalar.subi v295_r0 v297_r0
  let c2_i32_249_r0 : BitVec 32 := 2#32
  let c0_i32_252_r0 : BitVec 32 := 0#32
  let v299_r0 : BitVec 1 := Scalar.cmpi .sgt c2_i32_249_r0 c0_i32_252_r0
  let v300_r0 : BitVec 32 := Scalar.extui v299_r0
  let c0_i32_253_r0 : BitVec 32 := 0#32
  let v301_r0 : BitVec 1 := Scalar.cmpi .slt c2_i32_249_r0 c0_i32_253_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_249_r0
  let c0_i32_254_r0 : BitVec 32 := 0#32
  let v306_r0 : BitVec 1 := Scalar.cmpi .ne v305_r0 c0_i32_254_r0
  let v307_r0 : BitVec 1 := Scalar.andi v304_r0 v306_r0
  let v293_r0 : BitVec 32 := Scalar.divsi v196_r0 c2_i32_249_r0
  let c1_i32_255_r0 : BitVec 32 := 1#32
  let v308_r0 : BitVec 32 := Scalar.subi v293_r0 c1_i32_255_r0
  let v309_r0 : BitVec 32 := Scalar.select v307_r0 v308_r0 v293_r0
  let c0_i32_283_r0 : BitVec 32 := 0#32
  let v373_r0 : BitVec 1 := Scalar.cmpi .sgt v211_r0 c0_i32_283_r0
  let v374_r0 : BitVec 32 := Scalar.extui v373_r0
  let c0_i32_284_r0 : BitVec 32 := 0#32
  let v375_r0 : BitVec 1 := Scalar.cmpi .slt v211_r0 c0_i32_284_r0
  let v376_r0 : BitVec 32 := Scalar.extui v375_r0
  let v377_r0 : BitVec 32 := Scalar.subi v374_r0 v376_r0
  let c2_i32_282_r0 : BitVec 32 := 2#32
  let c0_i32_285_r0 : BitVec 32 := 0#32
  let v378_r0 : BitVec 1 := Scalar.cmpi .sgt c2_i32_282_r0 c0_i32_285_r0
  let v379_r0 : BitVec 32 := Scalar.extui v378_r0
  let c0_i32_286_r0 : BitVec 32 := 0#32
  let v380_r0 : BitVec 1 := Scalar.cmpi .slt c2_i32_282_r0 c0_i32_286_r0
  let v381_r0 : BitVec 32 := Scalar.extui v380_r0
  let v382_r0 : BitVec 32 := Scalar.subi v379_r0 v381_r0
  let v383_r0 : BitVec 1 := Scalar.cmpi .ne v377_r0 v382_r0
  let v384_r0 : BitVec 32 := Scalar.remsi v211_r0 c2_i32_282_r0
  let c0_i32_287_r0 : BitVec 32 := 0#32
  let v385_r0 : BitVec 1 := Scalar.cmpi .ne v384_r0 c0_i32_287_r0
  let v386_r0 : BitVec 1 := Scalar.andi v383_r0 v385_r0
  let v372_r0 : BitVec 32 := Scalar.divsi v211_r0 c2_i32_282_r0
  let c1_i32_288_r0 : BitVec 32 := 1#32
  let v387_r0 : BitVec 32 := Scalar.subi v372_r0 c1_i32_288_r0
  let v388_r0 : BitVec 32 := Scalar.select v386_r0 v387_r0 v372_r0
  let v512_r0 : BitVec 1 := Scalar.cmpi .ne v309_r0 v388_r0
  let v515_r0 : BitVec 1 := Scalar.ori v514_r0 v512_r0
  let c0_i32_178_r0 : BitVec 32 := 0#32
  let v198_r0 : BitVec 32 := Scalar.addi arg14_r0 c0_i32_178_r0
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v513_r0 : BitVec 1 := Scalar.cmpi .ne v198_r0 v213_r0
  let v516_r0 : BitVec 1 := Scalar.ori v515_r0 v513_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let true_408_r0 : BitVec 1 := 1#1
  let v517_r0 : BitVec 1 := Scalar.xori v194_r0 true_408_r0
  let v518_r0 : BitVec 1 := Scalar.andi v516_r0 v517_r0
  let v519_r0 : BitVec 32 := Scalar.extui v518_r0
  let c0_i32_409_r0 : BitVec 32 := 0#32
  let v520_r0 : BitVec 1 := Scalar.cmpi .ne v519_r0 c0_i32_409_r0
  v520_r0

def k0_off27 (arg12_r0 : BitVec 32) (arg13_r0 : BitVec 32) (arg14_r0 : BitVec 32) : Fin 6 → Nat :=
  let c1_i32_438_r0 : BitVec 32 := 1#32
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v574_r0 : BitVec 32 := Scalar.muli c1_i32_438_r0 v212_r0
  let c8_i32_439_r0 : BitVec 32 := 8#32
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c1_i32_188_r0 : BitVec 32 := 1#32
  let v210_r0 : BitVec 32 := Scalar.select v209_r0 c1_i32_188_r0 v208_r0
  let c0_i32_189_r0 : BitVec 32 := 0#32
  let v211_r0 : BitVec 32 := Scalar.addi v210_r0 c0_i32_189_r0
  let c2_i32_425_r0 : BitVec 32 := 2#32
  let c0_i32_426_r0 : BitVec 32 := 0#32
  let v547_r0 : BitVec 1 := Scalar.cmpi .eq c2_i32_425_r0 c0_i32_426_r0
  let c1_i32_427_r0 : BitVec 32 := 1#32
  let v548_r0 : BitVec 32 := Scalar.select v547_r0 c1_i32_427_r0 c2_i32_425_r0
  let v549_r0 : BitVec 32 := Scalar.remsi v211_r0 v548_r0
  let c0_i32_429_r0 : BitVec 32 := 0#32
  let v551_r0 : BitVec 1 := Scalar.cmpi .slt v549_r0 c0_i32_429_r0
  let c0_i32_430_r0 : BitVec 32 := 0#32
  let v552_r0 : BitVec 1 := Scalar.cmpi .slt v548_r0 c0_i32_430_r0
  let v553_r0 : BitVec 1 := Scalar.xori v551_r0 v552_r0
  let c0_i32_428_r0 : BitVec 32 := 0#32
  let v550_r0 : BitVec 1 := Scalar.cmpi .ne v549_r0 c0_i32_428_r0
  let v554_r0 : BitVec 1 := Scalar.andi v553_r0 v550_r0
  let v555_r0 : BitVec 32 := Scalar.addi v549_r0 v548_r0
  let v556_r0 : BitVec 32 := Scalar.select v554_r0 v555_r0 v549_r0
  let v575_r0 : BitVec 32 := Scalar.muli c8_i32_439_r0 v556_r0
  let c1_i32_440_r0 : BitVec 32 := 1#32
  let c0_i32_432_r0 : BitVec 32 := 0#32
  let v558_r0 : BitVec 1 := Scalar.cmpi .sgt v211_r0 c0_i32_432_r0
  let v559_r0 : BitVec 32 := Scalar.extui v558_r0
  let c0_i32_433_r0 : BitVec 32 := 0#32
  let v560_r0 : BitVec 1 := Scalar.cmpi .slt v211_r0 c0_i32_433_r0
  let v561_r0 : BitVec 32 := Scalar.extui v560_r0
  let v562_r0 : BitVec 32 := Scalar.subi v559_r0 v561_r0
  let c2_i32_431_r0 : BitVec 32 := 2#32
  let c0_i32_434_r0 : BitVec 32 := 0#32
  let v563_r0 : BitVec 1 := Scalar.cmpi .sgt c2_i32_431_r0 c0_i32_434_r0
  let v564_r0 : BitVec 32 := Scalar.extui v563_r0
  let c0_i32_435_r0 : BitVec 32 := 0#32
  let v565_r0 : BitVec 1 := Scalar.cmpi .slt c2_i32_431_r0 c0_i32_435_r0
  let v566_r0 : BitVec 32 := Scalar.extui v565_r0
  let v567_r0 : BitVec 32 := Scalar.subi v564_r0 v566_r0
  let v568_r0 : BitVec 1 := Scalar.cmpi .ne v562_r0 v567_r0
  let v569_r0 : BitVec 32 := Scalar.remsi v211_r0 c2_i32_431_r0
  let c0_i32_436_r0 : BitVec 32 := 0#32
  let v570_r0 : BitVec 1 := Scalar.cmpi .ne v569_r0 c0_i32_436_r0
  let v571_r0 : BitVec 1 := Scalar.andi v568_r0 v570_r0
  let v557_r0 : BitVec 32 := Scalar.divsi v211_r0 c2_i32_431_r0
  let c1_i32_437_r0 : BitVec 32 := 1#32
  let v572_r0 : BitVec 32 := Scalar.subi v557_r0 c1_i32_437_r0
  let v573_r0 : BitVec 32 := Scalar.select v571_r0 v572_r0 v557_r0
  let v576_r0 : BitVec 32 := Scalar.muli c1_i32_440_r0 v573_r0
  let c0_i32_442_r0 : BitVec 32 := 0#32
  let c1024_i32_441_r0 : BitVec 32 := 1024#32
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v577_r0 : BitVec 32 := Scalar.muli c1024_i32_441_r0 v213_r0
  let c0_i32_443_r0 : BitVec 32 := 0#32
  ![v574_r0.toNat, v575_r0.toNat, v576_r0.toNat, 0, v577_r0.toNat, 0]
def k0_off28 (arg11_r0 : BitVec 32) : Fin 7 → Nat :=
  let c2_i32_424_r0 : BitVec 32 := 2#32
  let v546_r0 : BitVec 32 := Scalar.remui arg11_r0 c2_i32_424_r0
  let c0_i32_444_r0 : BitVec 32 := 0#32
  let c0_i32_445_r0 : BitVec 32 := 0#32
  let c0_i32_446_r0 : BitVec 32 := 0#32
  let c0_i32_447_r0 : BitVec 32 := 0#32
  let c0_i32_448_r0 : BitVec 32 := 0#32
  let c0_i32_449_r0 : BitVec 32 := 0#32
  ![v546_r0.toNat, 0, 0, 0, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h2 : k0_cond2 k0_t1 arg13_r0 arg14_r0 = 1#1), ∀ a, (k0_off8 arg6_r0) a + S1.size a ≤ S3.size a) ∧
  (∀ (k0_h2 : k0_cond2 k0_t1 arg13_r0 arg14_r0 = 1#1), ∀ a, (k0_off9 arg6_r0) a + S1x1x1024x2048.size a ≤ S3x1x1024x2048.size a) ∧
  (∀ (k0_h2 : k0_cond2 k0_t1 arg13_r0 arg14_r0 = 1#1), ∀ a, (k0_off10 arg13_r0 arg14_r0) a + S1x1024x2048.size a ≤ S2x4096x2048.size a) ∧
  (∀ (k0_h2 : k0_cond2 k0_t1 arg13_r0 arg14_r0 = 1#1), ∀ (hinb : ∀ a, (k0_off10 arg13_r0 arg14_r0) a + S1x1024x2048.size a ≤ S2x4096x2048.size a), (Rect.unit (s := S2x4096x2048) (k0_off10 arg13_r0 arg14_r0) S1x1024x2048.size hinb).WholeWords (EltTy.packing .bf16)) ∧
  (∀ (k0_h2 : k0_cond2 k0_t1 arg13_r0 arg14_r0 = 1#1), ∀ (hinb : ∀ a, (k0_off9 arg6_r0) a + S1x1x1024x2048.size a ≤ S3x1x1024x2048.size a), (Rect.unit (s := S3x1x1024x2048) (k0_off9 arg6_r0) S1x1x1024x2048.size hinb).WholeWords (EltTy.packing .bf16)) ∧
  (∀ (k0_h3 : k0_cond3 k0_t1 arg12_r0 arg13_r0 arg14_r0 = 1#1), ∀ a, (k0_off11 arg8_r0) a + S1.size a ≤ S2.size a) ∧
  (∀ (k0_h3 : k0_cond3 k0_t1 arg12_r0 arg13_r0 arg14_r0 = 1#1), ∀ a, (k0_off12 arg8_r0) a + S1x2048x1024.size a ≤ S2x2048x1024.size a) ∧
  (∀ (k0_h3 : k0_cond3 k0_t1 arg12_r0 arg13_r0 arg14_r0 = 1#1), ∀ a, (k0_off13 arg12_r0 arg13_r0 arg14_r0) a + S2048x1024.size a ≤ S2048x8192.size a) ∧
  (∀ (k0_h4 : k0_cond4 k0_t1 arg13_r0 arg14_r0 = 1#1), ∀ a, (k0_off14 arg7_r0) a + S1.size a ≤ S3.size a) ∧
  (∀ (k0_h4 : k0_cond4 k0_t1 arg13_r0 arg14_r0 = 1#1), ∀ a, (k0_off15 arg7_r0) a + S1x1x1024x2048.size a ≤ S3x1x1024x2048.size a) ∧
  (∀ (k0_h4 : k0_cond4 k0_t1 arg13_r0 arg14_r0 = 1#1), ∀ a, (k0_off16 arg13_r0 arg14_r0) a + S1x1024x2048.size a ≤ S2x4096x2048.size a) ∧
  (∀ (k0_h4 : k0_cond4 k0_t1 arg13_r0 arg14_r0 = 1#1), ∀ (hinb : ∀ a, (k0_off16 arg13_r0 arg14_r0) a + S1x1024x2048.size a ≤ S2x4096x2048.size a), (Rect.unit (s := S2x4096x2048) (k0_off16 arg13_r0 arg14_r0) S1x1024x2048.size hinb).WholeWords (EltTy.packing .bf16)) ∧
  (∀ (k0_h4 : k0_cond4 k0_t1 arg13_r0 arg14_r0 = 1#1), ∀ (hinb : ∀ a, (k0_off15 arg7_r0) a + S1x1x1024x2048.size a ≤ S3x1x1024x2048.size a), (Rect.unit (s := S3x1x1024x2048) (k0_off15 arg7_r0) S1x1x1024x2048.size hinb).WholeWords (EltTy.packing .bf16)) ∧
  (∀ (k0_h5 : k0_cond5 k0_t1 arg12_r0 arg13_r0 arg14_r0 = 1#1), ∀ a, (k0_off17 arg9_r0) a + S1.size a ≤ S2.size a) ∧
  (∀ (k0_h5 : k0_cond5 k0_t1 arg12_r0 arg13_r0 arg14_r0 = 1#1), ∀ a, (k0_off18 arg9_r0) a + S1x2048x1024.size a ≤ S2x2048x1024.size a) ∧
  (∀ (k0_h5 : k0_cond5 k0_t1 arg12_r0 arg13_r0 arg14_r0 = 1#1), ∀ a, (k0_off19 arg12_r0) a + S2048x1024.size a ≤ S2048x8192.size a) ∧
  (∀ (k0_h7 : k0_cond7 arg13_r0 arg14_r0 = 1#1), ∀ a, (k0_off20 arg9_r0) a + S1x2048x1024.size a ≤ S2x2048x1024.size a) ∧
  (∀ (k0_h10 : k0_cond10 k0_t1 arg12_r0 arg13_r0 arg14_r0 = 1#1), ∀ a, (k0_off23 arg10_r0) a + S1.size a ≤ S2.size a) ∧
  (∀ (k0_h10 : k0_cond10 k0_t1 arg12_r0 arg13_r0 arg14_r0 = 1#1), ∀ a, (k0_off24 arg12_r0 arg13_r0 arg14_r0) a + S1x8x1x1x1024x128.size a ≤ S2x16x1x1x4096x128.size a) ∧
  (∀ (k0_h10 : k0_cond10 k0_t1 arg12_r0 arg13_r0 arg14_r0 = 1#1), ∀ a, (k0_off25 arg10_r0) a + S1x1x8x1x1x1024x128.size a ≤ S2x1x8x1x1x1024x128.size a) ∧
  (∀ (k0_h13 : k0_cond13 k0_t1 arg12_r0 arg13_r0 arg14_r0 = 1#1), ∀ a, (k0_off26 arg11_r0) a + S1.size a ≤ S2.size a) ∧
  (∀ (k0_h13 : k0_cond13 k0_t1 arg12_r0 arg13_r0 arg14_r0 = 1#1), ∀ a, (k0_off27 arg12_r0 arg13_r0 arg14_r0) a + S1x8x1x1x1024x128.size a ≤ S2x16x1x1x4096x128.size a) ∧
  (∀ (k0_h13 : k0_cond13 k0_t1 arg12_r0 arg13_r0 arg14_r0 = 1#1), ∀ a, (k0_off28 arg11_r0) a + S1x1x8x1x1x1024x128.size a ≤ S2x1x8x1x1x1024x128.size a)
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off8 arg6_r0) a + S1.size a ≤ S3.size a := fun k0_t1 arg6_r0 arg7_r0 arg8_r0 arg9_r0 arg10_r0 arg11_r0 arg12_r0 arg13_r0 arg14_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off9 arg6_r0) a + S1x1x1024x2048.size a ≤ S3x1x1024x2048.size a := fun k0_t1 arg6_r0 arg7_r0 arg8_r0 arg9_r0 arg10_r0 arg11_r0 arg12_r0 arg13_r0 arg14_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off10 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h2 => k0_hw1.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S2x4096x2048) (k0_off10 arg13_r0 arg14_r0) S1x1024x2048.size (k0_off10_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.1 k0_h2 (k0_off10_inb k0_t1 arg6_r0 arg7_r0 arg8_r0 arg9_r0 arg10_r0 arg11_r0 arg12_r0 arg13_r0 arg14_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S3x1x1024x2048) (k0_off9 arg6_r0) S1x1x1024x2048.size (k0_off9_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.2.1 k0_h2 (k0_off9_inb k0_t1 arg6_r0 arg7_r0 arg8_r0 arg9_r0 arg10_r0 arg11_r0 arg12_r0 arg13_r0 arg14_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off11 arg8_r0) a + S1.size a ≤ S2.size a := fun k0_t1 arg6_r0 arg7_r0 arg8_r0 arg9_r0 arg10_r0 arg11_r0 arg12_r0 arg13_r0 arg14_r0 k0_hw1 k0_h3 => k0_hw1.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off12 arg8_r0) a + S1x2048x1024.size a ≤ S2x2048x1024.size a := fun k0_t1 arg6_r0 arg7_r0 arg8_r0 arg9_r0 arg10_r0 arg11_r0 arg12_r0 arg13_r0 arg14_r0 k0_hw1 k0_h3 => k0_hw1.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off13 arg12_r0 arg13_r0 arg14_r0) a + S2048x1024.size a ≤ S2048x8192.size a := fun k0_t1 arg6_r0 arg7_r0 arg8_r0 arg9_r0 arg10_r0 arg11_r0 arg12_r0 arg13_r0 arg14_r0 k0_hw1 k0_h3 => k0_hw1.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off14 arg7_r0) a + S1.size a ≤ S3.size a := fun k0_t1 arg6_r0 arg7_r0 arg8_r0 arg9_r0 arg10_r0 arg11_r0 arg12_r0 arg13_r0 arg14_r0 k0_hw1 k0_h4 => k0_hw1.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off15 arg7_r0) a + S1x1x1024x2048.size a ≤ S3x1x1024x2048.size a := fun k0_t1 arg6_r0 arg7_r0 arg8_r0 arg9_r0 arg10_r0 arg11_r0 arg12_r0 arg13_r0 arg14_r0 k0_hw1 k0_h4 => k0_hw1.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off16 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h4 => k0_hw1.2.2.2.2.2.2.2.2.2.2.1 k0_h4
theorem k0_off16_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S2x4096x2048) (k0_off16 arg13_r0 arg14_r0) S1x1024x2048.size (k0_off16_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.1 k0_h4 (k0_off16_inb k0_t1 arg6_r0 arg7_r0 arg8_r0 arg9_r0 arg10_r0 arg11_r0 arg12_r0 arg13_r0 arg14_r0 k0_hw1 k0_h4)
theorem k0_off15_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S3x1x1024x2048) (k0_off15 arg7_r0) S1x1x1024x2048.size (k0_off15_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.2.1 k0_h4 (k0_off15_inb k0_t1 arg6_r0 arg7_r0 arg8_r0 arg9_r0 arg10_r0 arg11_r0 arg12_r0 arg13_r0 arg14_r0 k0_hw1 k0_h4)
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off17 arg9_r0) a + S1.size a ≤ S2.size a := fun k0_t1 arg6_r0 arg7_r0 arg8_r0 arg9_r0 arg10_r0 arg11_r0 arg12_r0 arg13_r0 arg14_r0 k0_hw1 k0_h5 => k0_hw1.2.2.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off18 arg9_r0) a + S1x2048x1024.size a ≤ S2x2048x1024.size a := fun k0_t1 arg6_r0 arg7_r0 arg8_r0 arg9_r0 arg10_r0 arg11_r0 arg12_r0 arg13_r0 arg14_r0 k0_hw1 k0_h5 => k0_hw1.2.2.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off19 arg12_r0) a + S2048x1024.size a ≤ S2048x8192.size a := fun k0_t1 arg6_r0 arg7_r0 arg8_r0 arg9_r0 arg10_r0 arg11_r0 arg12_r0 arg13_r0 arg14_r0 k0_hw1 k0_h5 => k0_hw1.2.2.2.2.2.2.2.2.2.2.2.2.2.2.2.1 k0_h5
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h7 : k0_cond7 arg13_r0 arg14_r0 = 1#1), ∀ a, (k0_off20 arg9_r0) a + S1x2048x1024.size a ≤ S2x2048x1024.size a := fun k0_t1 arg6_r0 arg7_r0 arg8_r0 arg9_r0 arg10_r0 arg11_r0 arg12_r0 arg13_r0 arg14_r0 k0_hw1 k0_h7 => k0_hw1.2.2.2.2.2.2.2.2.2.2.2.2.2.2.2.2.1 k0_h7
theorem k0_off23_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off23 arg10_r0) a + S1.size a ≤ S2.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.1 k0_h10
theorem k0_off24_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off24 arg12_r0 arg13_r0 arg14_r0) a + S1x8x1x1x1024x128.size a ≤ S2x16x1x1x4096x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.1 k0_h10
theorem k0_off25_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off25 arg10_r0) a + S1x1x8x1x1x1024x128.size a ≤ S2x1x8x1x1x1024x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.1 k0_h10
theorem k0_off26_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off26 arg11_r0) a + S1.size a ≤ S2.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.1 k0_h13
theorem k0_off27_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off27 arg12_r0 arg13_r0 arg14_r0) a + S1x8x1x1x1024x128.size a ≤ S2x16x1x1x4096x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.1 k0_h13
theorem k0_off28_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off28 arg11_r0) a + S1x1x8x1x1x1024x128.size a ≤ S2x1x8x1x1x1024x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2 k0_h13

def k0_off29 (v81_5_r0 : BitVec 32) : Fin 1 → Nat :=
  let c2_i32_151_r0 : BitVec 32 := 2#32
  let v157_r0 : BitVec 32 := Scalar.remui v81_5_r0 c2_i32_151_r0
  ![v157_r0.toNat]

def k0_off30 (v81_8_r0 : BitVec 32) (v81_7_r0 : BitVec 32) (v81_6_r0 : BitVec 32) : Fin 6 → Nat :=
  let c1_i32_165_r0 : BitVec 32 := 1#32
  let true_87_r0 : BitVec 1 := 1#1
  let c1_i32_86_r0 : BitVec 32 := 1#32
  let v82_r0 : BitVec 32 := Scalar.subi v81_8_r0 c1_i32_86_r0
  let v83_r0 : BitVec 32 := Scalar.select true_87_r0 v82_r0 v81_8_r0
  let c_m1_i32_88_r0 : BitVec 32 := 4294967295#32
  let v84_r0 : BitVec 1 := Scalar.cmpi .eq v83_r0 c_m1_i32_88_r0
  let c1_i32_90_r0 : BitVec 32 := 1#32
  let v86_r0 : BitVec 32 := Scalar.subi v81_7_r0 c1_i32_90_r0
  let v87_r0 : BitVec 32 := Scalar.select v84_r0 v86_r0 v81_7_r0
  let c_m1_i32_91_r0 : BitVec 32 := 4294967295#32
  let v88_r0 : BitVec 1 := Scalar.cmpi .eq v87_r0 c_m1_i32_91_r0
  let c1_i32_92_r0 : BitVec 32 := 1#32
  let v89_r0 : BitVec 32 := Scalar.select v88_r0 c1_i32_92_r0 v87_r0
  let c0_i32_97_r0 : BitVec 32 := 0#32
  let v95_r0 : BitVec 32 := Scalar.addi v89_r0 c0_i32_97_r0
  let v185_r0 : BitVec 32 := Scalar.muli c1_i32_165_r0 v95_r0
  let c8_i32_r0 : BitVec 32 := 8#32
  let c1_i32_93_r0 : BitVec 32 := 1#32
  let v90_r0 : BitVec 32 := Scalar.subi v81_6_r0 c1_i32_93_r0
  let v91_r0 : BitVec 32 := Scalar.select v88_r0 v90_r0 v81_6_r0
  let c_m1_i32_94_r0 : BitVec 32 := 4294967295#32
  let v92_r0 : BitVec 1 := Scalar.cmpi .eq v91_r0 c_m1_i32_94_r0
  let c1_i32_95_r0 : BitVec 32 := 1#32
  let v93_r0 : BitVec 32 := Scalar.select v92_r0 c1_i32_95_r0 v91_r0
  let c0_i32_96_r0 : BitVec 32 := 0#32
  let v94_r0 : BitVec 32 := Scalar.addi v93_r0 c0_i32_96_r0
  let c2_i32_152_r0 : BitVec 32 := 2#32
  let c0_i32_153_r0 : BitVec 32 := 0#32
  let v158_r0 : BitVec 1 := Scalar.cmpi .eq c2_i32_152_r0 c0_i32_153_r0
  let c1_i32_154_r0 : BitVec 32 := 1#32
  let v159_r0 : BitVec 32 := Scalar.select v158_r0 c1_i32_154_r0 c2_i32_152_r0
  let v160_r0 : BitVec 32 := Scalar.remsi v94_r0 v159_r0
  let c0_i32_156_r0 : BitVec 32 := 0#32
  let v162_r0 : BitVec 1 := Scalar.cmpi .slt v160_r0 c0_i32_156_r0
  let c0_i32_157_r0 : BitVec 32 := 0#32
  let v163_r0 : BitVec 1 := Scalar.cmpi .slt v159_r0 c0_i32_157_r0
  let v164_r0 : BitVec 1 := Scalar.xori v162_r0 v163_r0
  let c0_i32_155_r0 : BitVec 32 := 0#32
  let v161_r0 : BitVec 1 := Scalar.cmpi .ne v160_r0 c0_i32_155_r0
  let v165_r0 : BitVec 1 := Scalar.andi v164_r0 v161_r0
  let v166_r0 : BitVec 32 := Scalar.addi v160_r0 v159_r0
  let v167_r0 : BitVec 32 := Scalar.select v165_r0 v166_r0 v160_r0
  let v186_r0 : BitVec 32 := Scalar.muli c8_i32_r0 v167_r0
  let c1_i32_166_r0 : BitVec 32 := 1#32
  let c0_i32_159_r0 : BitVec 32 := 0#32
  let v169_r0 : BitVec 1 := Scalar.cmpi .sgt v94_r0 c0_i32_159_r0
  let v170_r0 : BitVec 32 := Scalar.extui v169_r0
  let c0_i32_160_r0 : BitVec 32 := 0#32
  let v171_r0 : BitVec 1 := Scalar.cmpi .slt v94_r0 c0_i32_160_r0
  let v172_r0 : BitVec 32 := Scalar.extui v171_r0
  let v173_r0 : BitVec 32 := Scalar.subi v170_r0 v172_r0
  let c2_i32_158_r0 : BitVec 32 := 2#32
  let c0_i32_161_r0 : BitVec 32 := 0#32
  let v174_r0 : BitVec 1 := Scalar.cmpi .sgt c2_i32_158_r0 c0_i32_161_r0
  let v175_r0 : BitVec 32 := Scalar.extui v174_r0
  let c0_i32_162_r0 : BitVec 32 := 0#32
  let v176_r0 : BitVec 1 := Scalar.cmpi .slt c2_i32_158_r0 c0_i32_162_r0
  let v177_r0 : BitVec 32 := Scalar.extui v176_r0
  let v178_r0 : BitVec 32 := Scalar.subi v175_r0 v177_r0
  let v179_r0 : BitVec 1 := Scalar.cmpi .ne v173_r0 v178_r0
  let v180_r0 : BitVec 32 := Scalar.remsi v94_r0 c2_i32_158_r0
  let c0_i32_163_r0 : BitVec 32 := 0#32
  let v181_r0 : BitVec 1 := Scalar.cmpi .ne v180_r0 c0_i32_163_r0
  let v182_r0 : BitVec 1 := Scalar.andi v179_r0 v181_r0
  let v168_r0 : BitVec 32 := Scalar.divsi v94_r0 c2_i32_158_r0
  let c1_i32_164_r0 : BitVec 32 := 1#32
  let v183_r0 : BitVec 32 := Scalar.subi v168_r0 c1_i32_164_r0
  let v184_r0 : BitVec 32 := Scalar.select v182_r0 v183_r0 v168_r0
  let v187_r0 : BitVec 32 := Scalar.muli c1_i32_166_r0 v184_r0
  let c0_i32_167_r0 : BitVec 32 := 0#32
  let c1024_i32_r0 : BitVec 32 := 1024#32
  let c3_i32_89_r0 : BitVec 32 := 3#32
  let v85_r0 : BitVec 32 := Scalar.select v84_r0 c3_i32_89_r0 v83_r0
  let c0_i32_98_r0 : BitVec 32 := 0#32
  let v96_r0 : BitVec 32 := Scalar.addi v85_r0 c0_i32_98_r0
  let v188_r0 : BitVec 32 := Scalar.muli c1024_i32_r0 v96_r0
  let c0_i32_168_r0 : BitVec 32 := 0#32
  ![v185_r0.toNat, v186_r0.toNat, v187_r0.toNat, 0, v188_r0.toNat, 0]

def k0_chk5 (v81_8_r0 : BitVec 32) (v81_7_r0 : BitVec 32) (v81_6_r0 : BitVec 32) : Prop :=
  (∀ a, (k0_off30 v81_8_r0 v81_7_r0 v81_6_r0) a + S1x8x1x1x1024x128.size a ≤ S2x16x1x1x4096x128.size a)
theorem k0_off30_inb : ∀ (v81_8_r0 : BitVec 32) (v81_7_r0 : BitVec 32) (v81_6_r0 : BitVec 32) (k0_hw5 : k0_chk5 v81_8_r0 v81_7_r0 v81_6_r0), ∀ a, (k0_off30 v81_8_r0 v81_7_r0 v81_6_r0) a + S1x8x1x1x1024x128.size a ≤ S2x16x1x1x4096x128.size a := fun v81_8_r0 v81_7_r0 v81_6_r0 k0_hw5 => k0_hw5

def k0_off31 (v81_5_r0 : BitVec 32) : Fin 7 → Nat :=
  let c2_i32_151_r0 : BitVec 32 := 2#32
  let v157_r0 : BitVec 32 := Scalar.remui v81_5_r0 c2_i32_151_r0
  let c0_i32_169_r0 : BitVec 32 := 0#32
  let c0_i32_170_r0 : BitVec 32 := 0#32
  let c0_i32_171_r0 : BitVec 32 := 0#32
  let c0_i32_172_r0 : BitVec 32 := 0#32
  let c0_i32_173_r0 : BitVec 32 := 0#32
  let c0_i32_174_r0 : BitVec 32 := 0#32
  ![v157_r0.toNat, 0, 0, 0, 0, 0, 0]

def k0_chk4 (v81_5_r0 : BitVec 32) : Prop :=
  (∀ a, (k0_off29 v81_5_r0) a + S1.size a ≤ S2.size a) ∧
  (∀ a, (k0_off31 v81_5_r0) a + S1x1x8x1x1x1024x128.size a ≤ S2x1x8x1x1x1024x128.size a)
theorem k0_off29_inb : ∀ (v81_5_r0 : BitVec 32) (k0_hw4 : k0_chk4 v81_5_r0), ∀ a, (k0_off29 v81_5_r0) a + S1.size a ≤ S2.size a := fun v81_5_r0 k0_hw4 => k0_hw4.1
theorem k0_off31_inb : ∀ (v81_5_r0 : BitVec 32) (k0_hw4 : k0_chk4 v81_5_r0), ∀ a, (k0_off31 v81_5_r0) a + S1x1x8x1x1x1024x128.size a ≤ S2x1x8x1x1x1024x128.size a := fun v81_5_r0 k0_hw4 => k0_hw4.2
-- ==== Reference5Ideal.lean ====
abbrev S2x4096x2048 : Shape := ⟨3, ![2, 4096, 2048]⟩
abbrev S2048x8192 : Shape := ⟨2, ![2048, 8192]⟩
abbrev S2x4096x8192 : Shape := ⟨3, ![2, 4096, 8192]⟩
abbrev S_ : Shape := ⟨0, ![]⟩
abbrev S2x4096x16x128 : Shape := ⟨4, ![2, 4096, 16, 128]⟩
abbrev S2x16x4096x128 : Shape := ⟨4, ![2, 16, 4096, 128]⟩
abbrev S2x16x1x1x4096x128 : Shape := ⟨6, ![2, 16, 1, 1, 4096, 128]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x8192, .f32⟩
  | .hbm, ⟨2, _⟩ => ⟨S2x4096x2048, .f32⟩
  | .hbm, ⟨3, _⟩ => ⟨S2x4096x8192, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S_, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x16x128, .f32⟩
  | .hbm, ⟨18, _⟩ => ⟨S2x16x4096x128, .f32⟩
  | .hbm, ⟨19, _⟩ => ⟨S2x16x1x1x4096x128, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S2x4096x2048 : Shape := ⟨3, ![2, 4096, 2048]⟩
abbrev S2048x8192 : Shape := ⟨2, ![2048, 8192]⟩
abbrev S2x16x1x1x4096x128 : Shape := ⟨6, ![2, 16, 1, 1, 4096, 128]⟩
abbrev S2048x1024 : Shape := ⟨2, ![2048, 1024]⟩
abbrev S8x1024x128 : Shape := ⟨3, ![8, 1024, 128]⟩
abbrev S3x1x1024x2048 : Shape := ⟨4, ![3, 1, 1024, 2048]⟩
abbrev S3 : Shape := ⟨1, ![3]⟩
abbrev S2x2048x1024 : Shape := ⟨3, ![2, 2048, 1024]⟩
abbrev S2 : Shape := ⟨1, ![2]⟩
abbrev S2x1x8x1x1x1024x128 : Shape := ⟨7, ![2, 1, 8, 1, 1, 1024, 128]⟩
abbrev S1 : Shape := ⟨1, ![1]⟩
abbrev S_ : Shape := ⟨0, ![]⟩
abbrev S1x1x1024x2048 : Shape := ⟨4, ![1, 1, 1024, 2048]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S1024x1024 : Shape := ⟨2, ![1024, 1024]⟩
abbrev S1024x128 : Shape := ⟨2, ![1024, 128]⟩
abbrev S1x1x8x1x1x1024x128 : Shape := ⟨7, ![1, 1, 8, 1, 1, 1024, 128]⟩
abbrev S1x8x1x1x1024x128 : Shape := ⟨6, ![1, 8, 1, 1, 1024, 128]⟩
abbrev S1x1x1x1x1024x128 : Shape := ⟨6, ![1, 1, 1, 1, 1024, 128]⟩
abbrev S1x1x1x1x1x1024x128 : Shape := ⟨7, ![1, 1, 1, 1, 1, 1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2048, .bf16⟩
  | .hbm, ⟨1, _⟩ => ⟨S2048x8192, .f32⟩
  | .hbm, ⟨2, _⟩ => ⟨S2x16x1x1x4096x128, .bf16⟩
  | .local _ .vmem, ⟨0, _⟩ => ⟨S2048x1024, .bf16⟩
  | .local _ .vmem, ⟨1, _⟩ => ⟨S8x1024x128, .f32⟩
  | .local _ .vmem, ⟨2, _⟩ => ⟨S3x1x1024x2048, .bf16⟩
  | .local _ .vmem, ⟨3, _⟩ => ⟨S2x2048x1024, .f32⟩
  | .local _ .vmem, ⟨4, _⟩ => ⟨S2x1x8x1x1x1024x128, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_53_r0 : BitVec 32 := 0#32
  let c3_i32_54_r0 : BitVec 32 := 3#32
  let v57_r0 : BitVec 32 := Scalar.remui c0_i32_53_r0 c3_i32_54_r0
  ![v57_r0.toNat]
def k0_off2 : Fin 4 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  let c0_i32_57_r0 : BitVec 32 := 0#32
  ![v57_r0.toNat, 0, 0, 0]
def k0_off3 : Fin 1 → Nat :=
  let c0_i32_63_r0 : BitVec 32 := 0#32
  let c2_i32_64_r0 : BitVec 32 := 2#32
  let v64_r0 : BitVec 32 := Scalar.remui c0_i32_63_r0 c2_i32_64_r0
  ![v64_r0.toNat]
def k0_off4 : Fin 3 → Nat :=
  let c0_i32_63_r0 : BitVec 32 := 0#32
  let c2_i32_64_r0 : BitVec 32 := 2#32
  let v64_r0 : BitVec 32 := Scalar.remui c0_i32_63_r0 c2_i32_64_r0
  let c0_i32_65_r0 : BitVec 32 := 0#32
  let c0_i32_66_r0 : BitVec 32 := 0#32
  ![v64_r0.toNat, 0, 0]
def k0_cond1 : BitVec 1 :=
  let true_73_r0 : BitVec 1 := 1#1
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let c0_i32_71_r0 : BitVec 32 := 0#32
  let v71_r0 : BitVec 1 := Scalar.cmpi .ne v25_r0 c0_i32_71_r0
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let c0_i32_72_r0 : BitVec 32 := 0#32
  let v72_r0 : BitVec 1 := Scalar.cmpi .ne v26_r0 c0_i32_72_r0
  let v73_r0 : BitVec 1 := Scalar.ori v71_r0 v72_r0
  let v74_r0 : BitVec 1 := Scalar.andi true_73_r0 v73_r0
  let true_74_r0 : BitVec 1 := 1#1
  let v75_r0 : BitVec 1 := Scalar.andi v74_r0 true_74_r0
  let v76_r0 : BitVec 32 := Scalar.extui v75_r0
  let c0_i32_75_r0 : BitVec 32 := 0#32
  let v77_r0 : BitVec 1 := Scalar.cmpi .ne v76_r0 c0_i32_75_r0
  v77_r0

def k0_off5 : Fin 1 → Nat :=
  let c0_i32_61_r0 : BitVec 32 := 0#32
  let c1_i32_62_r0 : BitVec 32 := 1#32
  let v63_r0 : BitVec 32 := Scalar.addi c0_i32_61_r0 c1_i32_62_r0
  let c3_i32_176_r0 : BitVec 32 := 3#32
  let v194_r0 : BitVec 32 := Scalar.remui v63_r0 c3_i32_176_r0
  ![v194_r0.toNat]
def k0_off6 : Fin 4 → Nat :=
  let c0_i32_61_r0 : BitVec 32 := 0#32
  let c1_i32_62_r0 : BitVec 32 := 1#32
  let v63_r0 : BitVec 32 := Scalar.addi c0_i32_61_r0 c1_i32_62_r0
  let c3_i32_176_r0 : BitVec 32 := 3#32
  let v194_r0 : BitVec 32 := Scalar.remui v63_r0 c3_i32_176_r0
  let c0_i32_179_r0 : BitVec 32 := 0#32
  let c0_i32_180_r0 : BitVec 32 := 0#32
  let c0_i32_181_r0 : BitVec 32 := 0#32
  ![v194_r0.toNat, 0, 0, 0]
def k0_off7 : Fin 3 → Nat :=
  let c1_i32_177_r0 : BitVec 32 := 1#32
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let v195_r0 : BitVec 32 := Scalar.muli c1_i32_177_r0 v25_r0
  let c1024_i32_178_r0 : BitVec 32 := 1024#32
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let v196_r0 : BitVec 32 := Scalar.muli c1024_i32_178_r0 v26_r0
  let c0_i32_182_r0 : BitVec 32 := 0#32
  ![v195_r0.toNat, v196_r0.toNat, 0]
@[reducible] def k0_t1_loop : Scf.Loop 32 :=
  let c0_i32_84_r0 : BitVec 32 := 0#32
  let c16_i32_r0 : BitVec 32 := 16#32
  let v80_r0 : BitVec 32 := Scalar.addi c0_i32_84_r0 c16_i32_r0
  let c1_i32_85_r0 : BitVec 32 := 1#32
  ⟨c0_i32_84_r0, v80_r0, c1_i32_85_r0⟩
def k0_off8 (arg6_r0 : BitVec 32) : Fin 1 → Nat :=
  let c3_i32_424_r0 : BitVec 32 := 3#32
  let v548_r0 : BitVec 32 := Scalar.remui arg6_r0 c3_i32_424_r0
  ![v548_r0.toNat]
def k0_cond2 (k0_t1 : Fin k0_t1_loop.trips) (arg13_r0 : BitVec 32) (arg14_r0 : BitVec 32) : BitVec 1 :=
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c0_i32_199_r0 : BitVec 32 := 0#32
  let v221_r0 : BitVec 32 := Scalar.select v220_r0 c0_i32_199_r0 v219_r0
  let c0_i32_204_r0 : BitVec 32 := 0#32
  let v227_r0 : BitVec 32 := Scalar.addi v221_r0 c0_i32_204_r0
  let true_207_r0 : BitVec 1 := 1#1
  let c0_i32_196_r0 : BitVec 32 := 0#32
  let v217_r0 : BitVec 32 := Scalar.select v216_r0 c0_i32_196_r0 v215_r0
  let c1_i32_206_r0 : BitVec 32 := 1#32
  let v229_r0 : BitVec 32 := Scalar.addi v217_r0 c1_i32_206_r0
  let v230_r0 : BitVec 32 := Scalar.select true_207_r0 v229_r0 v217_r0
  let c4_i32_208_r0 : BitVec 32 := 4#32
  let v231_r0 : BitVec 1 := Scalar.cmpi .eq v230_r0 c4_i32_208_r0
  let c1_i32_210_r0 : BitVec 32 := 1#32
  let v233_r0 : BitVec 32 := Scalar.addi v221_r0 c1_i32_210_r0
  let v234_r0 : BitVec 32 := Scalar.select v231_r0 v233_r0 v221_r0
  let c2_i32_211_r0 : BitVec 32 := 2#32
  let v235_r0 : BitVec 1 := Scalar.cmpi .eq v234_r0 c2_i32_211_r0
  let c0_i32_212_r0 : BitVec 32 := 0#32
  let v236_r0 : BitVec 32 := Scalar.select v235_r0 c0_i32_212_r0 v234_r0
  let c0_i32_217_r0 : BitVec 32 := 0#32
  let v242_r0 : BitVec 32 := Scalar.addi v236_r0 c0_i32_217_r0
  let v259_r0 : BitVec 1 := Scalar.cmpi .ne v227_r0 v242_r0
  let c0_i32_205_r0 : BitVec 32 := 0#32
  let v228_r0 : BitVec 32 := Scalar.addi v217_r0 c0_i32_205_r0
  let c0_i32_209_r0 : BitVec 32 := 0#32
  let v232_r0 : BitVec 32 := Scalar.select v231_r0 c0_i32_209_r0 v230_r0
  let c0_i32_218_r0 : BitVec 32 := 0#32
  let v243_r0 : BitVec 32 := Scalar.addi v232_r0 c0_i32_218_r0
  let v260_r0 : BitVec 1 := Scalar.cmpi .ne v228_r0 v243_r0
  let v261_r0 : BitVec 1 := Scalar.ori v259_r0 v260_r0
  let c0_i32_84_r0 : BitVec 32 := 0#32
  let c1_i32_85_r0 : BitVec 32 := 1#32
  let arg5_r0 : BitVec 32 := Scf.iv c0_i32_84_r0 c1_i32_85_r0 k0_t1
  let c14_i32_r0 : BitVec 32 := 14#32
  let v262_r0 : BitVec 1 := Scalar.cmpi .sge arg5_r0 c14_i32_r0
  let true_232_r0 : BitVec 1 := 1#1
  let v263_r0 : BitVec 1 := Scalar.xori v262_r0 true_232_r0
  let v264_r0 : BitVec 1 := Scalar.andi v261_r0 v263_r0
  let true_233_r0 : BitVec 1 := 1#1
  let v265_r0 : BitVec 1 := Scalar.andi v264_r0 true_233_r0
  let v266_r0 : BitVec 32 := Scalar.extui v265_r0
  let c0_i32_234_r0 : BitVec 32 := 0#32
  let v267_r0 : BitVec 1 := Scalar.cmpi .ne v266_r0 c0_i32_234_r0
  v267_r0

def k0_off9 (arg6_r0 : BitVec 32) : Fin 4 → Nat :=
  let c3_i32_424_r0 : BitVec 32 := 3#32
  let v548_r0 : BitVec 32 := Scalar.remui arg6_r0 c3_i32_424_r0
  let c0_i32_427_r0 : BitVec 32 := 0#32
  let c0_i32_428_r0 : BitVec 32 := 0#32
  let c0_i32_429_r0 : BitVec 32 := 0#32
  ![v548_r0.toNat, 0, 0, 0]
def k0_off10 (arg13_r0 : BitVec 32) (arg14_r0 : BitVec 32) : Fin 3 → Nat :=
  let c1_i32_425_r0 : BitVec 32 := 1#32
  let true_207_r0 : BitVec 1 := 1#1
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c0_i32_196_r0 : BitVec 32 := 0#32
  let v217_r0 : BitVec 32 := Scalar.select v216_r0 c0_i32_196_r0 v215_r0
  let c1_i32_206_r0 : BitVec 32 := 1#32
  let v229_r0 : BitVec 32 := Scalar.addi v217_r0 c1_i32_206_r0
  let v230_r0 : BitVec 32 := Scalar.select true_207_r0 v229_r0 v217_r0
  let c4_i32_208_r0 : BitVec 32 := 4#32
  let v231_r0 : BitVec 1 := Scalar.cmpi .eq v230_r0 c4_i32_208_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c0_i32_199_r0 : BitVec 32 := 0#32
  let v221_r0 : BitVec 32 := Scalar.select v220_r0 c0_i32_199_r0 v219_r0
  let c1_i32_210_r0 : BitVec 32 := 1#32
  let v233_r0 : BitVec 32 := Scalar.addi v221_r0 c1_i32_210_r0
  let v234_r0 : BitVec 32 := Scalar.select v231_r0 v233_r0 v221_r0
  let c2_i32_211_r0 : BitVec 32 := 2#32
  let v235_r0 : BitVec 1 := Scalar.cmpi .eq v234_r0 c2_i32_211_r0
  let c0_i32_212_r0 : BitVec 32 := 0#32
  let v236_r0 : BitVec 32 := Scalar.select v235_r0 c0_i32_212_r0 v234_r0
  let c0_i32_217_r0 : BitVec 32 := 0#32
  let v242_r0 : BitVec 32 := Scalar.addi v236_r0 c0_i32_217_r0
  let v549_r0 : BitVec 32 := Scalar.muli c1_i32_425_r0 v242_r0
  let c1024_i32_426_r0 : BitVec 32 := 1024#32
  let c0_i32_209_r0 : BitVec 32 := 0#32
  let v232_r0 : BitVec 32 := Scalar.select v231_r0 c0_i32_209_r0 v230_r0
  let c0_i32_218_r0 : BitVec 32 := 0#32
  let v243_r0 : BitVec 32 := Scalar.addi v232_r0 c0_i32_218_r0
  let v550_r0 : BitVec 32 := Scalar.muli c1024_i32_426_r0 v243_r0
  let c0_i32_430_r0 : BitVec 32 := 0#32
  ![v549_r0.toNat, v550_r0.toNat, 0]
def k0_off11 (arg8_r0 : BitVec 32) : Fin 1 → Nat :=
  let c2_i32_424_r0 : BitVec 32 := 2#32
  let v548_r0 : BitVec 32 := Scalar.remui arg8_r0 c2_i32_424_r0
  ![v548_r0.toNat]
def k0_cond3 (k0_t1 : Fin k0_t1_loop.trips) (arg12_r0 : BitVec 32) (arg13_r0 : BitVec 32) (arg14_r0 : BitVec 32) : BitVec 1 :=
  let c0_i32_237_r0 : BitVec 32 := 0#32
  let c0_i32_177_r0 : BitVec 32 := 0#32
  let v196_r0 : BitVec 32 := Scalar.addi arg12_r0 c0_i32_177_r0
  let v271_r0 : BitVec 32 := Scalar.addi c0_i32_237_r0 v196_r0
  let c0_i32_238_r0 : BitVec 32 := 0#32
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c1_i32_200_r0 : BitVec 32 := 1#32
  let v222_r0 : BitVec 32 := Scalar.addi arg12_r0 c1_i32_200_r0
  let v223_r0 : BitVec 32 := Scalar.select v220_r0 v222_r0 arg12_r0
  let c2_i32_201_r0 : BitVec 32 := 2#32
  let v224_r0 : BitVec 1 := Scalar.cmpi .eq v223_r0 c2_i32_201_r0
  let c0_i32_202_r0 : BitVec 32 := 0#32
  let v225_r0 : BitVec 32 := Scalar.select v224_r0 c0_i32_202_r0 v223_r0
  let c0_i32_203_r0 : BitVec 32 := 0#32
  let v226_r0 : BitVec 32 := Scalar.addi v225_r0 c0_i32_203_r0
  let v272_r0 : BitVec 32 := Scalar.addi c0_i32_238_r0 v226_r0
  let v273_r0 : BitVec 1 := Scalar.cmpi .ne v271_r0 v272_r0
  let c0_i32_84_r0 : BitVec 32 := 0#32
  let c1_i32_85_r0 : BitVec 32 := 1#32
  let arg5_r0 : BitVec 32 := Scf.iv c0_i32_84_r0 c1_i32_85_r0 k0_t1
  let c15_i32_239_r0 : BitVec 32 := 15#32
  let v274_r0 : BitVec 1 := Scalar.cmpi .sge arg5_r0 c15_i32_239_r0
  let true_240_r0 : BitVec 1 := 1#1
  let v275_r0 : BitVec 1 := Scalar.xori v274_r0 true_240_r0
  let v276_r0 : BitVec 1 := Scalar.andi v273_r0 v275_r0
  let true_241_r0 : BitVec 1 := 1#1
  let v277_r0 : BitVec 1 := Scalar.andi v276_r0 true_241_r0
  let v278_r0 : BitVec 32 := Scalar.extui v277_r0
  let c0_i32_242_r0 : BitVec 32 := 0#32
  let v279_r0 : BitVec 1 := Scalar.cmpi .ne v278_r0 c0_i32_242_r0
  v279_r0

def k0_off12 (arg8_r0 : BitVec 32) : Fin 3 → Nat :=
  let c2_i32_424_r0 : BitVec 32 := 2#32
  let v548_r0 : BitVec 32 := Scalar.remui arg8_r0 c2_i32_424_r0
  let c0_i32_427_r0 : BitVec 32 := 0#32
  let c0_i32_428_r0 : BitVec 32 := 0#32
  ![v548_r0.toNat, 0, 0]
def k0_off13 (arg12_r0 : BitVec 32) (arg13_r0 : BitVec 32) (arg14_r0 : BitVec 32) : Fin 2 → Nat :=
  let c0_i32_429_r0 : BitVec 32 := 0#32
  let c1024_i32_426_r0 : BitVec 32 := 1024#32
  let c0_i32_425_r0 : BitVec 32 := 0#32
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c1_i32_200_r0 : BitVec 32 := 1#32
  let v222_r0 : BitVec 32 := Scalar.addi arg12_r0 c1_i32_200_r0
  let v223_r0 : BitVec 32 := Scalar.select v220_r0 v222_r0 arg12_r0
  let c2_i32_201_r0 : BitVec 32 := 2#32
  let v224_r0 : BitVec 1 := Scalar.cmpi .eq v223_r0 c2_i32_201_r0
  let c0_i32_202_r0 : BitVec 32 := 0#32
  let v225_r0 : BitVec 32 := Scalar.select v224_r0 c0_i32_202_r0 v223_r0
  let c0_i32_203_r0 : BitVec 32 := 0#32
  let v226_r0 : BitVec 32 := Scalar.addi v225_r0 c0_i32_203_r0
  let v549_r0 : BitVec 32 := Scalar.addi c0_i32_425_r0 v226_r0
  let v550_r0 : BitVec 32 := Scalar.muli c1024_i32_426_r0 v549_r0
  ![0, v550_r0.toNat]
def k0_off14 (arg7_r0 : BitVec 32) : Fin 1 → Nat :=
  let c3_i32_426_r0 : BitVec 32 := 3#32
  let v550_r0 : BitVec 32 := Scalar.remui arg7_r0 c3_i32_426_r0
  ![v550_r0.toNat]
def k0_cond4 (k0_t1 : Fin k0_t1_loop.trips) (arg13_r0 : BitVec 32) (arg14_r0 : BitVec 32) : BitVec 1 :=
  let c0_i32_178_r0 : BitVec 32 := 0#32
  let v197_r0 : BitVec 32 := Scalar.addi arg13_r0 c0_i32_178_r0
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_186_r0 : BitVec 32 := 1#32
  let v206_r0 : BitVec 32 := Scalar.select v205_r0 c1_i32_186_r0 v204_r0
  let c0_i32_191_r0 : BitVec 32 := 0#32
  let v212_r0 : BitVec 32 := Scalar.addi v206_r0 c0_i32_191_r0
  let v347_r0 : BitVec 1 := Scalar.cmpi .ne v197_r0 v212_r0
  let c0_i32_179_r0 : BitVec 32 := 0#32
  let v198_r0 : BitVec 32 := Scalar.addi arg14_r0 c0_i32_179_r0
  let c3_i32_183_r0 : BitVec 32 := 3#32
  let v202_r0 : BitVec 32 := Scalar.select v201_r0 c3_i32_183_r0 v200_r0
  let c0_i32_192_r0 : BitVec 32 := 0#32
  let v213_r0 : BitVec 32 := Scalar.addi v202_r0 c0_i32_192_r0
  let v348_r0 : BitVec 1 := Scalar.cmpi .ne v198_r0 v213_r0
  let v349_r0 : BitVec 1 := Scalar.ori v347_r0 v348_r0
  let c0_i32_84_r0 : BitVec 32 := 0#32
  let c1_i32_85_r0 : BitVec 32 := 1#32
  let arg5_r0 : BitVec 32 := Scf.iv c0_i32_84_r0 c1_i32_85_r0 k0_t1
  let c0_i32_176_r0 : BitVec 32 := 0#32
  let v194_r0 : BitVec 1 := Scalar.cmpi .eq arg5_r0 c0_i32_176_r0
  let v350_r0 : BitVec 1 := Scalar.ori v349_r0 v194_r0
  let c0_i32_273_r0 : BitVec 32 := 0#32
  let v351_r0 : BitVec 1 := Scalar.cmpi .sge arg5_r0 c0_i32_273_r0
  let v352_r0 : BitVec 1 := Scalar.andi v350_r0 v351_r0
  let v353_r0 : BitVec 32 := Scalar.extui v352_r0
  let c0_i32_274_r0 : BitVec 32 := 0#32
  let v354_r0 : BitVec 1 := Scalar.cmpi .ne v353_r0 c0_i32_274_r0
  v354_r0

def k0_off15 (arg7_r0 : BitVec 32) : Fin 4 → Nat :=
  let c3_i32_426_r0 : BitVec 32 := 3#32
  let v550_r0 : BitVec 32 := Scalar.remui arg7_r0 c3_i32_426_r0
  let c0_i32_427_r0 : BitVec 32 := 0#32
  let c0_i32_428_r0 : BitVec 32 := 0#32
  let c0_i32_429_r0 : BitVec 32 := 0#32
  ![v550_r0.toNat, 0, 0, 0]
def k0_off16 (arg13_r0 : BitVec 32) (arg14_r0 : BitVec 32) : Fin 3 → Nat :=
  let c1_i32_424_r0 : BitVec 32 := 1#32
  let c0_i32_178_r0 : BitVec 32 := 0#32
  let v197_r0 : BitVec 32 := Scalar.addi arg13_r0 c0_i32_178_r0
  let v548_r0 : BitVec 32 := Scalar.muli c1_i32_424_r0 v197_r0
  let c1024_i32_425_r0 : BitVec 32 := 1024#32
  let c0_i32_179_r0 : BitVec 32 := 0#32
  let v198_r0 : BitVec 32 := Scalar.addi arg14_r0 c0_i32_179_r0
  let v549_r0 : BitVec 32 := Scalar.muli c1024_i32_425_r0 v198_r0
  let c0_i32_430_r0 : BitVec 32 := 0#32
  ![v548_r0.toNat, v549_r0.toNat, 0]
def k0_off17 (arg9_r0 : BitVec 32) : Fin 1 → Nat :=
  let c2_i32_426_r0 : BitVec 32 := 2#32
  let v550_r0 : BitVec 32 := Scalar.remui arg9_r0 c2_i32_426_r0
  ![v550_r0.toNat]
def k0_cond5 (k0_t1 : Fin k0_t1_loop.trips) (arg12_r0 : BitVec 32) (arg13_r0 : BitVec 32) (arg14_r0 : BitVec 32) : BitVec 1 :=
  let c0_i32_237_r0 : BitVec 32 := 0#32
  let c0_i32_177_r0 : BitVec 32 := 0#32
  let v196_r0 : BitVec 32 := Scalar.addi arg12_r0 c0_i32_177_r0
  let v271_r0 : BitVec 32 := Scalar.addi c0_i32_237_r0 v196_r0
  let c0_i32_275_r0 : BitVec 32 := 0#32
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_187_r0 : BitVec 32 := 1#32
  let v207_r0 : BitVec 32 := Scalar.subi arg12_r0 c1_i32_187_r0
  let v208_r0 : BitVec 32 := Scalar.select v205_r0 v207_r0 arg12_r0
  let c_m1_i32_188_r0 : BitVec 32 := 4294967295#32
  let v209_r0 : BitVec 1 := Scalar.cmpi .eq v208_r0 c_m1_i32_188_r0
  let c1_i32_189_r0 : BitVec 32 := 1#32
  let v210_r0 : BitVec 32 := Scalar.select v209_r0 c1_i32_189_r0 v208_r0
  let c0_i32_190_r0 : BitVec 32 := 0#32
  let v211_r0 : BitVec 32 := Scalar.addi v210_r0 c0_i32_190_r0
  let v355_r0 : BitVec 32 := Scalar.addi c0_i32_275_r0 v211_r0
  let v356_r0 : BitVec 1 := Scalar.cmpi .ne v271_r0 v355_r0
  let c0_i32_84_r0 : BitVec 32 := 0#32
  let c1_i32_85_r0 : BitVec 32 := 1#32
  let arg5_r0 : BitVec 32 := Scf.iv c0_i32_84_r0 c1_i32_85_r0 k0_t1
  let c0_i32_176_r0 : BitVec 32 := 0#32
  let v194_r0 : BitVec 1 := Scalar.cmpi .eq arg5_r0 c0_i32_176_r0
  let v357_r0 : BitVec 1 := Scalar.ori v356_r0 v194_r0
  let c0_i32_276_r0 : BitVec 32 := 0#32
  let v358_r0 : BitVec 1 := Scalar.cmpi .sge arg5_r0 c0_i32_276_r0
  let v359_r0 : BitVec 1 := Scalar.andi v357_r0 v358_r0
  let v360_r0 : BitVec 32 := Scalar.extui v359_r0
  let c0_i32_277_r0 : BitVec 32 := 0#32
  let v361_r0 : BitVec 1 := Scalar.cmpi .ne v360_r0 c0_i32_277_r0
  v361_r0

def k0_off18 (arg9_r0 : BitVec 32) : Fin 3 → Nat :=
  let c2_i32_426_r0 : BitVec 32 := 2#32
  let v550_r0 : BitVec 32 := Scalar.remui arg9_r0 c2_i32_426_r0
  let c0_i32_427_r0 : BitVec 32 := 0#32
  let c0_i32_428_r0 : BitVec 32 := 0#32
  ![v550_r0.toNat, 0, 0]
def k0_off19 (arg12_r0 : BitVec 32) : Fin 2 → Nat :=
  let c0_i32_429_r0 : BitVec 32 := 0#32
  let c1024_i32_425_r0 : BitVec 32 := 1024#32
  let c0_i32_424_r0 : BitVec 32 := 0#32
  let c0_i32_177_r0 : BitVec 32 := 0#32
  let v196_r0 : BitVec 32 := Scalar.addi arg12_r0 c0_i32_177_r0
  let v548_r0 : BitVec 32 := Scalar.addi c0_i32_424_r0 v196_r0
  let v549_r0 : BitVec 32 := Scalar.muli c1024_i32_425_r0 v548_r0
  ![0, v549_r0.toNat]
def k0_off20 (arg9_r0 : BitVec 32) : Fin 3 → Nat :=
  let c2_i32_294_r0 : BitVec 32 := 2#32
  let v402_r0 : BitVec 32 := Scalar.remui arg9_r0 c2_i32_294_r0
  let v548_r0 : Index := Scalar.indexCast v402_r0
  let c0_424_r0 : Index := 0#32
  let c0_425_r0 : Index := 0#32
  ![v548_r0.toNat, 0, 0]
def k0_cond7 (arg13_r0 : BitVec 32) (arg14_r0 : BitVec 32) : BitVec 1 :=
  let c0_i32_178_r0 : BitVec 32 := 0#32
  let v197_r0 : BitVec 32 := Scalar.addi arg13_r0 c0_i32_178_r0
  let c0_i32_296_r0 : BitVec 32 := 0#32
  let v404_r0 : BitVec 1 := Scalar.cmpi .eq v197_r0 c0_i32_296_r0
  let c0_i32_179_r0 : BitVec 32 := 0#32
  let v198_r0 : BitVec 32 := Scalar.addi arg14_r0 c0_i32_179_r0
  let c0_i32_297_r0 : BitVec 32 := 0#32
  let v405_r0 : BitVec 1 := Scalar.cmpi .eq v198_r0 c0_i32_297_r0
  let v406_r0 : BitVec 1 := Scalar.andi v404_r0 v405_r0
  let v407_r0 : BitVec 32 := Scalar.extui v406_r0
  let c0_i32_298_r0 : BitVec 32 := 0#32
  let v408_r0 : BitVec 1 := Scalar.cmpi .ne v407_r0 c0_i32_298_r0
  v408_r0

def k0_off21 (arg7_r0 : BitVec 32) : Fin 4 → Nat :=
  let c3_i32_293_r0 : BitVec 32 := 3#32
  let v401_r0 : BitVec 32 := Scalar.remui arg7_r0 c3_i32_293_r0
  let c0_i32_299_r0 : BitVec 32 := 0#32
  let c0_i32_300_r0 : BitVec 32 := 0#32
  let c0_i32_301_r0 : BitVec 32 := 0#32
  ![v401_r0.toNat, 0, 0, 0]

def k0_chk2 (arg7_r0 : BitVec 32) : Prop :=
  (∀ a, (k0_off21 arg7_r0) a + S1x1x1024x2048.size a ≤ S3x1x1024x2048.size a)
theorem k0_off21_inb : ∀ (arg7_r0 : BitVec 32) (k0_hw2 : k0_chk2 arg7_r0), ∀ a, (k0_off21 arg7_r0) a + S1x1x1024x2048.size a ≤ S3x1x1024x2048.size a := fun arg7_r0 k0_hw2 => k0_hw2

def k0_off22 (arg10_r0 : BitVec 32) : Fin 7 → Nat :=
  let c2_i32_295_r0 : BitVec 32 := 2#32
  let v403_r0 : BitVec 32 := Scalar.remui arg10_r0 c2_i32_295_r0
  let c0_i32_307_r0 : BitVec 32 := 0#32
  let c0_i32_308_r0 : BitVec 32 := 0#32
  let c0_i32_309_r0 : BitVec 32 := 0#32
  let c0_i32_310_r0 : BitVec 32 := 0#32
  let c0_i32_311_r0 : BitVec 32 := 0#32
  let c0_i32_312_r0 : BitVec 32 := 0#32
  ![v403_r0.toNat, 0, 0, 0, 0, 0, 0]

def k0_off23 (arg10_r0 : BitVec 32) : Fin 7 → Nat :=
  let c2_i32_295_r0 : BitVec 32 := 2#32
  let v403_r0 : BitVec 32 := Scalar.remui arg10_r0 c2_i32_295_r0
  let c0_i32_307_r0 : BitVec 32 := 0#32
  let c0_i32_308_r0 : BitVec 32 := 0#32
  let c0_i32_309_r0 : BitVec 32 := 0#32
  let c0_i32_310_r0 : BitVec 32 := 0#32
  let c0_i32_311_r0 : BitVec 32 := 0#32
  let c0_i32_312_r0 : BitVec 32 := 0#32
  ![v403_r0.toNat, 0, 0, 0, 0, 0, 0]
def k0_off24 (arg10_r0 : BitVec 32) : Fin 7 → Nat :=
  let c2_i32_295_r0 : BitVec 32 := 2#32
  let v403_r0 : BitVec 32 := Scalar.remui arg10_r0 c2_i32_295_r0
  let c0_i32_319_r0 : BitVec 32 := 0#32
  let c0_i32_321_r0 : BitVec 32 := 0#32
  let c0_i32_322_r0 : BitVec 32 := 0#32
  let c0_i32_323_r0 : BitVec 32 := 0#32
  let c0_i32_324_r0 : BitVec 32 := 0#32
  ![v403_r0.toNat, 0, 1, 0, 0, 0, 0]
def k0_off25 (arg10_r0 : BitVec 32) : Fin 7 → Nat :=
  let c2_i32_295_r0 : BitVec 32 := 2#32
  let v403_r0 : BitVec 32 := Scalar.remui arg10_r0 c2_i32_295_r0
  let c0_i32_330_r0 : BitVec 32 := 0#32
  let c0_i32_332_r0 : BitVec 32 := 0#32
  let c0_i32_333_r0 : BitVec 32 := 0#32
  let c0_i32_334_r0 : BitVec 32 := 0#32
  let c0_i32_335_r0 : BitVec 32 := 0#32
  ![v403_r0.toNat, 0, 2, 0, 0, 0, 0]
def k0_off26 (arg10_r0 : BitVec 32) : Fin 7 → Nat :=
  let c2_i32_295_r0 : BitVec 32 := 2#32
  let v403_r0 : BitVec 32 := Scalar.remui arg10_r0 c2_i32_295_r0
  let c0_i32_341_r0 : BitVec 32 := 0#32
  let c0_i32_343_r0 : BitVec 32 := 0#32
  let c0_i32_344_r0 : BitVec 32 := 0#32
  let c0_i32_345_r0 : BitVec 32 := 0#32
  let c0_i32_346_r0 : BitVec 32 := 0#32
  ![v403_r0.toNat, 0, 3, 0, 0, 0, 0]
def k0_off27 (arg10_r0 : BitVec 32) : Fin 7 → Nat :=
  let c2_i32_295_r0 : BitVec 32 := 2#32
  let v403_r0 : BitVec 32 := Scalar.remui arg10_r0 c2_i32_295_r0
  let c0_i32_352_r0 : BitVec 32 := 0#32
  let c0_i32_354_r0 : BitVec 32 := 0#32
  let c0_i32_355_r0 : BitVec 32 := 0#32
  let c0_i32_356_r0 : BitVec 32 := 0#32
  let c0_i32_357_r0 : BitVec 32 := 0#32
  ![v403_r0.toNat, 0, 4, 0, 0, 0, 0]
def k0_off28 (arg10_r0 : BitVec 32) : Fin 7 → Nat :=
  let c2_i32_295_r0 : BitVec 32 := 2#32
  let v403_r0 : BitVec 32 := Scalar.remui arg10_r0 c2_i32_295_r0
  let c0_i32_363_r0 : BitVec 32 := 0#32
  let c0_i32_365_r0 : BitVec 32 := 0#32
  let c0_i32_366_r0 : BitVec 32 := 0#32
  let c0_i32_367_r0 : BitVec 32 := 0#32
  let c0_i32_368_r0 : BitVec 32 := 0#32
  ![v403_r0.toNat, 0, 5, 0, 0, 0, 0]
def k0_off29 (arg10_r0 : BitVec 32) : Fin 7 → Nat :=
  let c2_i32_295_r0 : BitVec 32 := 2#32
  let v403_r0 : BitVec 32 := Scalar.remui arg10_r0 c2_i32_295_r0
  let c0_i32_374_r0 : BitVec 32 := 0#32
  let c0_i32_376_r0 : BitVec 32 := 0#32
  let c0_i32_377_r0 : BitVec 32 := 0#32
  let c0_i32_378_r0 : BitVec 32 := 0#32
  let c0_i32_379_r0 : BitVec 32 := 0#32
  ![v403_r0.toNat, 0, 6, 0, 0, 0, 0]
def k0_off30 (arg10_r0 : BitVec 32) : Fin 7 → Nat :=
  let c2_i32_295_r0 : BitVec 32 := 2#32
  let v403_r0 : BitVec 32 := Scalar.remui arg10_r0 c2_i32_295_r0
  let c0_i32_385_r0 : BitVec 32 := 0#32
  let c0_i32_387_r0 : BitVec 32 := 0#32
  let c0_i32_388_r0 : BitVec 32 := 0#32
  let c0_i32_389_r0 : BitVec 32 := 0#32
  let c0_i32_390_r0 : BitVec 32 := 0#32
  ![v403_r0.toNat, 0, 7, 0, 0, 0, 0]

def k0_chk3 (arg10_r0 : BitVec 32) : Prop :=
  (∀ a, (k0_off22 arg10_r0) a + S1x1x8x1x1x1024x128.size a ≤ S2x1x8x1x1x1024x128.size a) ∧
  (∀ a, (k0_off23 arg10_r0) a + S1x1x1x1x1x1024x128.size a ≤ S2x1x8x1x1x1024x128.size a) ∧
  (∀ (hinb : ∀ a, (k0_off23 arg10_r0) a + S1x1x1x1x1x1024x128.size a ≤ S2x1x8x1x1x1024x128.size a), (Rect.unit (s := S2x1x8x1x1x1024x128) (k0_off23 arg10_r0) S1x1x1x1x1x1024x128.size hinb).PackedRows (EltTy.packing .bf16)) ∧
  (∀ a, (k0_off24 arg10_r0) a + S1x1x1x1x1x1024x128.size a ≤ S2x1x8x1x1x1024x128.size a) ∧
  (∀ (hinb : ∀ a, (k0_off24 arg10_r0) a + S1x1x1x1x1x1024x128.size a ≤ S2x1x8x1x1x1024x128.size a), (Rect.unit (s := S2x1x8x1x1x1024x128) (k0_off24 arg10_r0) S1x1x1x1x1x1024x128.size hinb).PackedRows (EltTy.packing .bf16)) ∧
  (∀ a, (k0_off25 arg10_r0) a + S1x1x1x1x1x1024x128.size a ≤ S2x1x8x1x1x1024x128.size a) ∧
  (∀ (hinb : ∀ a, (k0_off25 arg10_r0) a + S1x1x1x1x1x1024x128.size a ≤ S2x1x8x1x1x1024x128.size a), (Rect.unit (s := S2x1x8x1x1x1024x128) (k0_off25 arg10_r0) S1x1x1x1x1x1024x128.size hinb).PackedRows (EltTy.packing .bf16)) ∧
  (∀ a, (k0_off26 arg10_r0) a + S1x1x1x1x1x1024x128.size a ≤ S2x1x8x1x1x1024x128.size a) ∧
  (∀ (hinb : ∀ a, (k0_off26 arg10_r0) a + S1x1x1x1x1x1024x128.size a ≤ S2x1x8x1x1x1024x128.size a), (Rect.unit (s := S2x1x8x1x1x1024x128) (k0_off26 arg10_r0) S1x1x1x1x1x1024x128.size hinb).PackedRows (EltTy.packing .bf16)) ∧
  (∀ a, (k0_off27 arg10_r0) a + S1x1x1x1x1x1024x128.size a ≤ S2x1x8x1x1x1024x128.size a) ∧
  (∀ (hinb : ∀ a, (k0_off27 arg10_r0) a + S1x1x1x1x1x1024x128.size a ≤ S2x1x8x1x1x1024x128.size a), (Rect.unit (s := S2x1x8x1x1x1024x128) (k0_off27 arg10_r0) S1x1x1x1x1x1024x128.size hinb).PackedRows (EltTy.packing .bf16)) ∧
  (∀ a, (k0_off28 arg10_r0) a + S1x1x1x1x1x1024x128.size a ≤ S2x1x8x1x1x1024x128.size a) ∧
  (∀ (hinb : ∀ a, (k0_off28 arg10_r0) a + S1x1x1x1x1x1024x128.size a ≤ S2x1x8x1x1x1024x128.size a), (Rect.unit (s := S2x1x8x1x1x1024x128) (k0_off28 arg10_r0) S1x1x1x1x1x1024x128.size hinb).PackedRows (EltTy.packing .bf16)) ∧
  (∀ a, (k0_off29 arg10_r0) a + S1x1x1x1x1x1024x128.size a ≤ S2x1x8x1x1x1024x128.size a) ∧
  (∀ (hinb : ∀ a, (k0_off29 arg10_r0) a + S1x1x1x1x1x1024x128.size a ≤ S2x1x8x1x1x1024x128.size a), (Rect.unit (s := S2x1x8x1x1x1024x128) (k0_off29 arg10_r0) S1x1x1x1x1x1024x128.size hinb).PackedRows (EltTy.packing .bf16)) ∧
  (∀ a, (k0_off30 arg10_r0) a + S1x1x1x1x1x1024x128.size a ≤ S2x1x8x1x1x1024x128.size a) ∧
  (∀ (hinb : ∀ a, (k0_off30 arg10_r0) a + S1x1x1x1x1x1024x128.size a ≤ S2x1x8x1x1x1024x128.size a), (Rect.unit (s := S2x1x8x1x1x1024x128) (k0_off30 arg10_r0) S1x1x1x1x1x1024x128.size hinb).PackedRows (EltTy.packing .bf16))
theorem k0_off22_inb : ∀ (arg10_r0 : BitVec 32) (k0_hw3 : k0_chk3 arg10_r0), ∀ a, (k0_off22 arg10_r0) a + S1x1x8x1x1x1024x128.size a ≤ S2x1x8x1x1x1024x128.size a := fun arg10_r0 k0_hw3 => k0_hw3.1
theorem k0_off23_inb : ∀ (arg10_r0 : BitVec 32) (k0_hw3 : k0_chk3 arg10_r0), ∀ a, (k0_off23 arg10_r0) a + S1x1x1x1x1x1024x128.size a ≤ S2x1x8x1x1x1024x128.size a := fun arg10_r0 k0_hw3 => k0_hw3.2.1
theorem k0_off23_packedbf16 : ∀ (arg10_r0 : BitVec 32) (k0_hw3 : k0_chk3 arg10_r0), (Rect.unit (s := S2x1x8x1x1x1024x128) (k0_off23 arg10_r0) S1x1x1x1x1x1024x128.size (k0_off23_inb arg10_r0 k0_hw3)).PackedRows (EltTy.packing .bf16) := fun arg10_r0 k0_hw3 => k0_hw3.2.2.1 (k0_off23_inb arg10_r0 k0_hw3)
theorem k0_off24_inb : ∀ (arg10_r0 : BitVec 32) (k0_hw3 : k0_chk3 arg10_r0), ∀ a, (k0_off24 arg10_r0) a + S1x1x1x1x1x1024x128.size a ≤ S2x1x8x1x1x1024x128.size a := fun arg10_r0 k0_hw3 => k0_hw3.2.2.2.1
theorem k0_off24_packedbf16 : ∀ (arg10_r0 : BitVec 32) (k0_hw3 : k0_chk3 arg10_r0), (Rect.unit (s := S2x1x8x1x1x1024x128) (k0_off24 arg10_r0) S1x1x1x1x1x1024x128.size (k0_off24_inb arg10_r0 k0_hw3)).PackedRows (EltTy.packing .bf16) := fun arg10_r0 k0_hw3 => k0_hw3.2.2.2.2.1 (k0_off24_inb arg10_r0 k0_hw3)
theorem k0_off25_inb : ∀ (arg10_r0 : BitVec 32) (k0_hw3 : k0_chk3 arg10_r0), ∀ a, (k0_off25 arg10_r0) a + S1x1x1x1x1x1024x128.size a ≤ S2x1x8x1x1x1024x128.size a := fun arg10_r0 k0_hw3 => k0_hw3.2.2.2.2.2.1
theorem k0_off25_packedbf16 : ∀ (arg10_r0 : BitVec 32) (k0_hw3 : k0_chk3 arg10_r0), (Rect.unit (s := S2x1x8x1x1x1024x128) (k0_off25 arg10_r0) S1x1x1x1x1x1024x128.size (k0_off25_inb arg10_r0 k0_hw3)).PackedRows (EltTy.packing .bf16) := fun arg10_r0 k0_hw3 => k0_hw3.2.2.2.2.2.2.1 (k0_off25_inb arg10_r0 k0_hw3)
theorem k0_off26_inb : ∀ (arg10_r0 : BitVec 32) (k0_hw3 : k0_chk3 arg10_r0), ∀ a, (k0_off26 arg10_r0) a + S1x1x1x1x1x1024x128.size a ≤ S2x1x8x1x1x1024x128.size a := fun arg10_r0 k0_hw3 => k0_hw3.2.2.2.2.2.2.2.1
theorem k0_off26_packedbf16 : ∀ (arg10_r0 : BitVec 32) (k0_hw3 : k0_chk3 arg10_r0), (Rect.unit (s := S2x1x8x1x1x1024x128) (k0_off26 arg10_r0) S1x1x1x1x1x1024x128.size (k0_off26_inb arg10_r0 k0_hw3)).PackedRows (EltTy.packing .bf16) := fun arg10_r0 k0_hw3 => k0_hw3.2.2.2.2.2.2.2.2.1 (k0_off26_inb arg10_r0 k0_hw3)
theorem k0_off27_inb : ∀ (arg10_r0 : BitVec 32) (k0_hw3 : k0_chk3 arg10_r0), ∀ a, (k0_off27 arg10_r0) a + S1x1x1x1x1x1024x128.size a ≤ S2x1x8x1x1x1024x128.size a := fun arg10_r0 k0_hw3 => k0_hw3.2.2.2.2.2.2.2.2.2.1
theorem k0_off27_packedbf16 : ∀ (arg10_r0 : BitVec 32) (k0_hw3 : k0_chk3 arg10_r0), (Rect.unit (s := S2x1x8x1x1x1024x128) (k0_off27 arg10_r0) S1x1x1x1x1x1024x128.size (k0_off27_inb arg10_r0 k0_hw3)).PackedRows (EltTy.packing .bf16) := fun arg10_r0 k0_hw3 => k0_hw3.2.2.2.2.2.2.2.2.2.2.1 (k0_off27_inb arg10_r0 k0_hw3)
theorem k0_off28_inb : ∀ (arg10_r0 : BitVec 32) (k0_hw3 : k0_chk3 arg10_r0), ∀ a, (k0_off28 arg10_r0) a + S1x1x1x1x1x1024x128.size a ≤ S2x1x8x1x1x1024x128.size a := fun arg10_r0 k0_hw3 => k0_hw3.2.2.2.2.2.2.2.2.2.2.2.1
theorem k0_off28_packedbf16 : ∀ (arg10_r0 : BitVec 32) (k0_hw3 : k0_chk3 arg10_r0), (Rect.unit (s := S2x1x8x1x1x1024x128) (k0_off28 arg10_r0) S1x1x1x1x1x1024x128.size (k0_off28_inb arg10_r0 k0_hw3)).PackedRows (EltTy.packing .bf16) := fun arg10_r0 k0_hw3 => k0_hw3.2.2.2.2.2.2.2.2.2.2.2.2.1 (k0_off28_inb arg10_r0 k0_hw3)
theorem k0_off29_inb : ∀ (arg10_r0 : BitVec 32) (k0_hw3 : k0_chk3 arg10_r0), ∀ a, (k0_off29 arg10_r0) a + S1x1x1x1x1x1024x128.size a ≤ S2x1x8x1x1x1024x128.size a := fun arg10_r0 k0_hw3 => k0_hw3.2.2.2.2.2.2.2.2.2.2.2.2.2.1
theorem k0_off29_packedbf16 : ∀ (arg10_r0 : BitVec 32) (k0_hw3 : k0_chk3 arg10_r0), (Rect.unit (s := S2x1x8x1x1x1024x128) (k0_off29 arg10_r0) S1x1x1x1x1x1024x128.size (k0_off29_inb arg10_r0 k0_hw3)).PackedRows (EltTy.packing .bf16) := fun arg10_r0 k0_hw3 => k0_hw3.2.2.2.2.2.2.2.2.2.2.2.2.2.2.1 (k0_off29_inb arg10_r0 k0_hw3)
theorem k0_off30_inb : ∀ (arg10_r0 : BitVec 32) (k0_hw3 : k0_chk3 arg10_r0), ∀ a, (k0_off30 arg10_r0) a + S1x1x1x1x1x1024x128.size a ≤ S2x1x8x1x1x1024x128.size a := fun arg10_r0 k0_hw3 => k0_hw3.2.2.2.2.2.2.2.2.2.2.2.2.2.2.2.1
theorem k0_off30_packedbf16 : ∀ (arg10_r0 : BitVec 32) (k0_hw3 : k0_chk3 arg10_r0), (Rect.unit (s := S2x1x8x1x1x1024x128) (k0_off30 arg10_r0) S1x1x1x1x1x1024x128.size (k0_off30_inb arg10_r0 k0_hw3)).PackedRows (EltTy.packing .bf16) := fun arg10_r0 k0_hw3 => k0_hw3.2.2.2.2.2.2.2.2.2.2.2.2.2.2.2.2 (k0_off30_inb arg10_r0 k0_hw3)

def k0_off31 (arg10_r0 : BitVec 32) : Fin 1 → Nat :=
  let c2_i32_424_r0 : BitVec 32 := 2#32
  let v548_r0 : BitVec 32 := Scalar.remui arg10_r0 c2_i32_424_r0
  ![v548_r0.toNat]
def k0_cond10 (k0_t1 : Fin k0_t1_loop.trips) (arg12_r0 : BitVec 32) (arg13_r0 : BitVec 32) (arg14_r0 : BitVec 32) : BitVec 1 :=
  let c0_i32_178_r0 : BitVec 32 := 0#32
  let v197_r0 : BitVec 32 := Scalar.addi arg13_r0 c0_i32_178_r0
  let true_194_r0 : BitVec 1 := 1#1
  let c1_i32_193_r0 : BitVec 32 := 1#32
  let v214_r0 : BitVec 32 := Scalar.addi arg14_r0 c1_i32_193_r0
  let v215_r0 : BitVec 32 := Scalar.select true_194_r0 v214_r0 arg14_r0
  let c4_i32_195_r0 : BitVec 32 := 4#32
  let v216_r0 : BitVec 1 := Scalar.cmpi .eq v215_r0 c4_i32_195_r0
  let c1_i32_197_r0 : BitVec 32 := 1#32
  let v218_r0 : BitVec 32 := Scalar.addi arg13_r0 c1_i32_197_r0
  let v219_r0 : BitVec 32 := Scalar.select v216_r0 v218_r0 arg13_r0
  let c2_i32_198_r0 : BitVec 32 := 2#32
  let v220_r0 : BitVec 1 := Scalar.cmpi .eq v219_r0 c2_i32_198_r0
  let c0_i32_199_r0 : BitVec 32 := 0#32
  let v221_r0 : BitVec 32 := Scalar.select v220_r0 c0_i32_199_r0 v219_r0
  let c0_i32_204_r0 : BitVec 32 := 0#32
  let v227_r0 : BitVec 32 := Scalar.addi v221_r0 c0_i32_204_r0
  let v485_r0 : BitVec 1 := Scalar.cmpi .ne v197_r0 v227_r0
  let c0_i32_177_r0 : BitVec 32 := 0#32
  let v196_r0 : BitVec 32 := Scalar.addi arg12_r0 c0_i32_177_r0
  let c2_i32_245_r0 : BitVec 32 := 2#32
  let c0_i32_246_r0 : BitVec 32 := 0#32
  let v283_r0 : BitVec 1 := Scalar.cmpi .eq c2_i32_245_r0 c0_i32_246_r0
  let c1_i32_247_r0 : BitVec 32 := 1#32
  let v284_r0 : BitVec 32 := Scalar.select v283_r0 c1_i32_247_r0 c2_i32_245_r0
  let v285_r0 : BitVec 32 := Scalar.remsi v196_r0 v284_r0
  let c0_i32_249_r0 : BitVec 32 := 0#32
  let v287_r0 : BitVec 1 := Scalar.cmpi .slt v285_r0 c0_i32_249_r0
  let c0_i32_250_r0 : BitVec 32 := 0#32
  let v288_r0 : BitVec 1 := Scalar.cmpi .slt v284_r0 c0_i32_250_r0
  let v289_r0 : BitVec 1 := Scalar.xori v287_r0 v288_r0
  let c0_i32_248_r0 : BitVec 32 := 0#32
  let v286_r0 : BitVec 1 := Scalar.cmpi .ne v285_r0 c0_i32_248_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_200_r0 : BitVec 32 := 1#32
  let v222_r0 : BitVec 32 := Scalar.addi arg12_r0 c1_i32_200_r0
  let v223_r0 : BitVec 32 := Scalar.select v220_r0 v222_r0 arg12_r0
  let c2_i32_201_r0 : BitVec 32 := 2#32
  let v224_r0 : BitVec 1 := Scalar.cmpi .eq v223_r0 c2_i32_201_r0
  let c0_i32_202_r0 : BitVec 32 := 0#32
  let v225_r0 : BitVec 32 := Scalar.select v224_r0 c0_i32_202_r0 v223_r0
  let c0_i32_203_r0 : BitVec 32 := 0#32
  let v226_r0 : BitVec 32 := Scalar.addi v225_r0 c0_i32_203_r0
  let c2_i32_258_r0 : BitVec 32 := 2#32
  let c0_i32_259_r0 : BitVec 32 := 0#32
  let v310_r0 : BitVec 1 := Scalar.cmpi .eq c2_i32_258_r0 c0_i32_259_r0
  let c1_i32_260_r0 : BitVec 32 := 1#32
  let v311_r0 : BitVec 32 := Scalar.select v310_r0 c1_i32_260_r0 c2_i32_258_r0
  let v312_r0 : BitVec 32 := Scalar.remsi v226_r0 v311_r0
  let c0_i32_262_r0 : BitVec 32 := 0#32
  let v314_r0 : BitVec 1 := Scalar.cmpi .slt v312_r0 c0_i32_262_r0
  let c0_i32_263_r0 : BitVec 32 := 0#32
  let v315_r0 : BitVec 1 := Scalar.cmpi .slt v311_r0 c0_i32_263_r0
  let v316_r0 : BitVec 1 := Scalar.xori v314_r0 v315_r0
  let c0_i32_261_r0 : BitVec 32 := 0#32
  let v313_r0 : BitVec 1 := Scalar.cmpi .ne v312_r0 c0_i32_261_r0
  let v317_r0 : BitVec 1 := Scalar.andi v316_r0 v313_r0
  let v318_r0 : BitVec 32 := Scalar.addi v312_r0 v311_r0
  let v319_r0 : BitVec 32 := Scalar.select v317_r0 v318_r0 v312_r0
  let v486_r0 : BitVec 1 := Scalar.cmpi .ne v292_r0 v319_r0
  let v489_r0 : BitVec 1 := Scalar.ori v485_r0 v486_r0
  let c0_i32_252_r0 : BitVec 32 := 0#32
  let v294_r0 : BitVec 1 := Scalar.cmpi .sgt v196_r0 c0_i32_252_r0
  let v295_r0 : BitVec 32 := Scalar.extui v294_r0
  let c0_i32_253_r0 : BitVec 32 := 0#32
  let v296_r0 : BitVec 1 := Scalar.cmpi .slt v196_r0 c0_i32_253_r0
  let v297_r0 : BitVec 32 := Scalar.extui v296_r0
  let v298_r0 : BitVec 32 := Scalar.subi v295_r0 v297_r0
  let c2_i32_251_r0 : BitVec 32 := 2#32
  let c0_i32_254_r0 : BitVec 32 := 0#32
  let v299_r0 : BitVec 1 := Scalar.cmpi .sgt c2_i32_251_r0 c0_i32_254_r0
  let v300_r0 : BitVec 32 := Scalar.extui v299_r0
  let c0_i32_255_r0 : BitVec 32 := 0#32
  let v301_r0 : BitVec 1 := Scalar.cmpi .slt c2_i32_251_r0 c0_i32_255_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_251_r0
  let c0_i32_256_r0 : BitVec 32 := 0#32
  let v306_r0 : BitVec 1 := Scalar.cmpi .ne v305_r0 c0_i32_256_r0
  let v307_r0 : BitVec 1 := Scalar.andi v304_r0 v306_r0
  let v293_r0 : BitVec 32 := Scalar.divsi v196_r0 c2_i32_251_r0
  let c1_i32_257_r0 : BitVec 32 := 1#32
  let v308_r0 : BitVec 32 := Scalar.subi v293_r0 c1_i32_257_r0
  let v309_r0 : BitVec 32 := Scalar.select v307_r0 v308_r0 v293_r0
  let c0_i32_265_r0 : BitVec 32 := 0#32
  let v321_r0 : BitVec 1 := Scalar.cmpi .sgt v226_r0 c0_i32_265_r0
  let v322_r0 : BitVec 32 := Scalar.extui v321_r0
  let c0_i32_266_r0 : BitVec 32 := 0#32
  let v323_r0 : BitVec 1 := Scalar.cmpi .slt v226_r0 c0_i32_266_r0
  let v324_r0 : BitVec 32 := Scalar.extui v323_r0
  let v325_r0 : BitVec 32 := Scalar.subi v322_r0 v324_r0
  let c2_i32_264_r0 : BitVec 32 := 2#32
  let c0_i32_267_r0 : BitVec 32 := 0#32
  let v326_r0 : BitVec 1 := Scalar.cmpi .sgt c2_i32_264_r0 c0_i32_267_r0
  let v327_r0 : BitVec 32 := Scalar.extui v326_r0
  let c0_i32_268_r0 : BitVec 32 := 0#32
  let v328_r0 : BitVec 1 := Scalar.cmpi .slt c2_i32_264_r0 c0_i32_268_r0
  let v329_r0 : BitVec 32 := Scalar.extui v328_r0
  let v330_r0 : BitVec 32 := Scalar.subi v327_r0 v329_r0
  let v331_r0 : BitVec 1 := Scalar.cmpi .ne v325_r0 v330_r0
  let v332_r0 : BitVec 32 := Scalar.remsi v226_r0 c2_i32_264_r0
  let c0_i32_269_r0 : BitVec 32 := 0#32
  let v333_r0 : BitVec 1 := Scalar.cmpi .ne v332_r0 c0_i32_269_r0
  let v334_r0 : BitVec 1 := Scalar.andi v331_r0 v333_r0
  let v320_r0 : BitVec 32 := Scalar.divsi v226_r0 c2_i32_264_r0
  let c1_i32_270_r0 : BitVec 32 := 1#32
  let v335_r0 : BitVec 32 := Scalar.subi v320_r0 c1_i32_270_r0
  let v336_r0 : BitVec 32 := Scalar.select v334_r0 v335_r0 v320_r0
  let v487_r0 : BitVec 1 := Scalar.cmpi .ne v309_r0 v336_r0
  let v490_r0 : BitVec 1 := Scalar.ori v489_r0 v487_r0
  let c0_i32_179_r0 : BitVec 32 := 0#32
  let v198_r0 : BitVec 32 := Scalar.addi arg14_r0 c0_i32_179_r0
  let c0_i32_196_r0 : BitVec 32 := 0#32
  let v217_r0 : BitVec 32 := Scalar.select v216_r0 c0_i32_196_r0 v215_r0
  let c0_i32_205_r0 : BitVec 32 := 0#32
  let v228_r0 : BitVec 32 := Scalar.addi v217_r0 c0_i32_205_r0
  let v488_r0 : BitVec 1 := Scalar.cmpi .ne v198_r0 v228_r0
  let v491_r0 : BitVec 1 := Scalar.ori v490_r0 v488_r0
  let c0_i32_84_r0 : BitVec 32 := 0#32
  let c1_i32_85_r0 : BitVec 32 := 1#32
  let arg5_r0 : BitVec 32 := Scf.iv c0_i32_84_r0 c1_i32_85_r0 k0_t1
  let c15_i32_r0 : BitVec 32 := 15#32
  let v195_r0 : BitVec 1 := Scalar.cmpi .eq arg5_r0 c15_i32_r0
  let v492_r0 : BitVec 1 := Scalar.ori v491_r0 v195_r0
  let v493_r0 : BitVec 32 := Scalar.extui v492_r0
  let c0_i32_399_r0 : BitVec 32 := 0#32
  let v494_r0 : BitVec 1 := Scalar.cmpi .ne v493_r0 c0_i32_399_r0
  v494_r0

def k0_off32 (arg12_r0 : BitVec 32) (arg13_r0 : BitVec 32) (arg14_r0 : BitVec 32) : Fin 6 → Nat :=
  let c1_i32_438_r0 : BitVec 32 := 1#32
  let c0_i32_178_r0 : BitVec 32 := 0#32
  let v197_r0 : BitVec 32 := Scalar.addi arg13_r0 c0_i32_178_r0
  let v576_r0 : BitVec 32 := Scalar.muli c1_i32_438_r0 v197_r0
  let c8_i32_439_r0 : BitVec 32 := 8#32
  let c0_i32_177_r0 : BitVec 32 := 0#32
  let v196_r0 : BitVec 32 := Scalar.addi arg12_r0 c0_i32_177_r0
  let c2_i32_425_r0 : BitVec 32 := 2#32
  let c0_i32_426_r0 : BitVec 32 := 0#32
  let v549_r0 : BitVec 1 := Scalar.cmpi .eq c2_i32_425_r0 c0_i32_426_r0
  let c1_i32_427_r0 : BitVec 32 := 1#32
  let v550_r0 : BitVec 32 := Scalar.select v549_r0 c1_i32_427_r0 c2_i32_425_r0
  let v551_r0 : BitVec 32 := Scalar.remsi v196_r0 v550_r0
  let c0_i32_429_r0 : BitVec 32 := 0#32
  let v553_r0 : BitVec 1 := Scalar.cmpi .slt v551_r0 c0_i32_429_r0
  let c0_i32_430_r0 : BitVec 32 := 0#32
  let v554_r0 : BitVec 1 := Scalar.cmpi .slt v550_r0 c0_i32_430_r0
  let v555_r0 : BitVec 1 := Scalar.xori v553_r0 v554_r0
  let c0_i32_428_r0 : BitVec 32 := 0#32
  let v552_r0 : BitVec 1 := Scalar.cmpi .ne v551_r0 c0_i32_428_r0
  let v556_r0 : BitVec 1 := Scalar.andi v555_r0 v552_r0
  let v557_r0 : BitVec 32 := Scalar.addi v551_r0 v550_r0
  let v558_r0 : BitVec 32 := Scalar.select v556_r0 v557_r0 v551_r0
  let v577_r0 : BitVec 32 := Scalar.muli c8_i32_439_r0 v558_r0
  let c1_i32_440_r0 : BitVec 32 := 1#32
  let c0_i32_432_r0 : BitVec 32 := 0#32
  let v560_r0 : BitVec 1 := Scalar.cmpi .sgt v196_r0 c0_i32_432_r0
  let v561_r0 : BitVec 32 := Scalar.extui v560_r0
  let c0_i32_433_r0 : BitVec 32 := 0#32
  let v562_r0 : BitVec 1 := Scalar.cmpi .slt v196_r0 c0_i32_433_r0
  let v563_r0 : BitVec 32 := Scalar.extui v562_r0
  let v564_r0 : BitVec 32 := Scalar.subi v561_r0 v563_r0
  let c2_i32_431_r0 : BitVec 32 := 2#32
  let c0_i32_434_r0 : BitVec 32 := 0#32
  let v565_r0 : BitVec 1 := Scalar.cmpi .sgt c2_i32_431_r0 c0_i32_434_r0
  let v566_r0 : BitVec 32 := Scalar.extui v565_r0
  let c0_i32_435_r0 : BitVec 32 := 0#32
  let v567_r0 : BitVec 1 := Scalar.cmpi .slt c2_i32_431_r0 c0_i32_435_r0
  let v568_r0 : BitVec 32 := Scalar.extui v567_r0
  let v569_r0 : BitVec 32 := Scalar.subi v566_r0 v568_r0
  let v570_r0 : BitVec 1 := Scalar.cmpi .ne v564_r0 v569_r0
  let v571_r0 : BitVec 32 := Scalar.remsi v196_r0 c2_i32_431_r0
  let c0_i32_436_r0 : BitVec 32 := 0#32
  let v572_r0 : BitVec 1 := Scalar.cmpi .ne v571_r0 c0_i32_436_r0
  let v573_r0 : BitVec 1 := Scalar.andi v570_r0 v572_r0
  let v559_r0 : BitVec 32 := Scalar.divsi v196_r0 c2_i32_431_r0
  let c1_i32_437_r0 : BitVec 32 := 1#32
  let v574_r0 : BitVec 32 := Scalar.subi v559_r0 c1_i32_437_r0
  let v575_r0 : BitVec 32 := Scalar.select v573_r0 v574_r0 v559_r0
  let v578_r0 : BitVec 32 := Scalar.muli c1_i32_440_r0 v575_r0
  let c0_i32_442_r0 : BitVec 32 := 0#32
  let c1024_i32_441_r0 : BitVec 32 := 1024#32
  let c0_i32_179_r0 : BitVec 32 := 0#32
  let v198_r0 : BitVec 32 := Scalar.addi arg14_r0 c0_i32_179_r0
  let v579_r0 : BitVec 32 := Scalar.muli c1024_i32_441_r0 v198_r0
  let c0_i32_443_r0 : BitVec 32 := 0#32
  ![v576_r0.toNat, v577_r0.toNat, v578_r0.toNat, 0, v579_r0.toNat, 0]
def k0_off33 (arg10_r0 : BitVec 32) : Fin 7 → Nat :=
  let c2_i32_424_r0 : BitVec 32 := 2#32
  let v548_r0 : BitVec 32 := Scalar.remui arg10_r0 c2_i32_424_r0
  let c0_i32_444_r0 : BitVec 32 := 0#32
  let c0_i32_445_r0 : BitVec 32 := 0#32
  let c0_i32_446_r0 : BitVec 32 := 0#32
  let c0_i32_447_r0 : BitVec 32 := 0#32
  let c0_i32_448_r0 : BitVec 32 := 0#32
  let c0_i32_449_r0 : BitVec 32 := 0#32
  ![v548_r0.toNat, 0, 0, 0, 0, 0, 0]
def k0_off34 (arg11_r0 : BitVec 32) : Fin 1 → Nat :=
  let c2_i32_424_r0 : BitVec 32 := 2#32
  let v548_r0 : BitVec 32 := Scalar.remui arg11_r0 c2_i32_424_r0
  ![v548_r0.toNat]
def k0_cond13 (k0_t1 : Fin k0_t1_loop.trips) (arg12_r0 : BitVec 32) (arg13_r0 : BitVec 32) (arg14_r0 : BitVec 32) : BitVec 1 :=
  let c0_i32_178_r0 : BitVec 32 := 0#32
  let v197_r0 : BitVec 32 := Scalar.addi arg13_r0 c0_i32_178_r0
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_186_r0 : BitVec 32 := 1#32
  let v206_r0 : BitVec 32 := Scalar.select v205_r0 c1_i32_186_r0 v204_r0
  let c0_i32_191_r0 : BitVec 32 := 0#32
  let v212_r0 : BitVec 32 := Scalar.addi v206_r0 c0_i32_191_r0
  let v512_r0 : BitVec 1 := Scalar.cmpi .ne v197_r0 v212_r0
  let c0_i32_177_r0 : BitVec 32 := 0#32
  let v196_r0 : BitVec 32 := Scalar.addi arg12_r0 c0_i32_177_r0
  let c2_i32_245_r0 : BitVec 32 := 2#32
  let c0_i32_246_r0 : BitVec 32 := 0#32
  let v283_r0 : BitVec 1 := Scalar.cmpi .eq c2_i32_245_r0 c0_i32_246_r0
  let c1_i32_247_r0 : BitVec 32 := 1#32
  let v284_r0 : BitVec 32 := Scalar.select v283_r0 c1_i32_247_r0 c2_i32_245_r0
  let v285_r0 : BitVec 32 := Scalar.remsi v196_r0 v284_r0
  let c0_i32_249_r0 : BitVec 32 := 0#32
  let v287_r0 : BitVec 1 := Scalar.cmpi .slt v285_r0 c0_i32_249_r0
  let c0_i32_250_r0 : BitVec 32 := 0#32
  let v288_r0 : BitVec 1 := Scalar.cmpi .slt v284_r0 c0_i32_250_r0
  let v289_r0 : BitVec 1 := Scalar.xori v287_r0 v288_r0
  let c0_i32_248_r0 : BitVec 32 := 0#32
  let v286_r0 : BitVec 1 := Scalar.cmpi .ne v285_r0 c0_i32_248_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_187_r0 : BitVec 32 := 1#32
  let v207_r0 : BitVec 32 := Scalar.subi arg12_r0 c1_i32_187_r0
  let v208_r0 : BitVec 32 := Scalar.select v205_r0 v207_r0 arg12_r0
  let c_m1_i32_188_r0 : BitVec 32 := 4294967295#32
  let v209_r0 : BitVec 1 := Scalar.cmpi .eq v208_r0 c_m1_i32_188_r0
  let c1_i32_189_r0 : BitVec 32 := 1#32
  let v210_r0 : BitVec 32 := Scalar.select v209_r0 c1_i32_189_r0 v208_r0
  let c0_i32_190_r0 : BitVec 32 := 0#32
  let v211_r0 : BitVec 32 := Scalar.addi v210_r0 c0_i32_190_r0
  let c2_i32_278_r0 : BitVec 32 := 2#32
  let c0_i32_279_r0 : BitVec 32 := 0#32
  let v362_r0 : BitVec 1 := Scalar.cmpi .eq c2_i32_278_r0 c0_i32_279_r0
  let c1_i32_280_r0 : BitVec 32 := 1#32
  let v363_r0 : BitVec 32 := Scalar.select v362_r0 c1_i32_280_r0 c2_i32_278_r0
  let v364_r0 : BitVec 32 := Scalar.remsi v211_r0 v363_r0
  let c0_i32_282_r0 : BitVec 32 := 0#32
  let v366_r0 : BitVec 1 := Scalar.cmpi .slt v364_r0 c0_i32_282_r0
  let c0_i32_283_r0 : BitVec 32 := 0#32
  let v367_r0 : BitVec 1 := Scalar.cmpi .slt v363_r0 c0_i32_283_r0
  let v368_r0 : BitVec 1 := Scalar.xori v366_r0 v367_r0
  let c0_i32_281_r0 : BitVec 32 := 0#32
  let v365_r0 : BitVec 1 := Scalar.cmpi .ne v364_r0 c0_i32_281_r0
  let v369_r0 : BitVec 1 := Scalar.andi v368_r0 v365_r0
  let v370_r0 : BitVec 32 := Scalar.addi v364_r0 v363_r0
  let v371_r0 : BitVec 32 := Scalar.select v369_r0 v370_r0 v364_r0
  let v513_r0 : BitVec 1 := Scalar.cmpi .ne v292_r0 v371_r0
  let v516_r0 : BitVec 1 := Scalar.ori v512_r0 v513_r0
  let c0_i32_252_r0 : BitVec 32 := 0#32
  let v294_r0 : BitVec 1 := Scalar.cmpi .sgt v196_r0 c0_i32_252_r0
  let v295_r0 : BitVec 32 := Scalar.extui v294_r0
  let c0_i32_253_r0 : BitVec 32 := 0#32
  let v296_r0 : BitVec 1 := Scalar.cmpi .slt v196_r0 c0_i32_253_r0
  let v297_r0 : BitVec 32 := Scalar.extui v296_r0
  let v298_r0 : BitVec 32 := Scalar.subi v295_r0 v297_r0
  let c2_i32_251_r0 : BitVec 32 := 2#32
  let c0_i32_254_r0 : BitVec 32 := 0#32
  let v299_r0 : BitVec 1 := Scalar.cmpi .sgt c2_i32_251_r0 c0_i32_254_r0
  let v300_r0 : BitVec 32 := Scalar.extui v299_r0
  let c0_i32_255_r0 : BitVec 32 := 0#32
  let v301_r0 : BitVec 1 := Scalar.cmpi .slt c2_i32_251_r0 c0_i32_255_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_251_r0
  let c0_i32_256_r0 : BitVec 32 := 0#32
  let v306_r0 : BitVec 1 := Scalar.cmpi .ne v305_r0 c0_i32_256_r0
  let v307_r0 : BitVec 1 := Scalar.andi v304_r0 v306_r0
  let v293_r0 : BitVec 32 := Scalar.divsi v196_r0 c2_i32_251_r0
  let c1_i32_257_r0 : BitVec 32 := 1#32
  let v308_r0 : BitVec 32 := Scalar.subi v293_r0 c1_i32_257_r0
  let v309_r0 : BitVec 32 := Scalar.select v307_r0 v308_r0 v293_r0
  let c0_i32_285_r0 : BitVec 32 := 0#32
  let v373_r0 : BitVec 1 := Scalar.cmpi .sgt v211_r0 c0_i32_285_r0
  let v374_r0 : BitVec 32 := Scalar.extui v373_r0
  let c0_i32_286_r0 : BitVec 32 := 0#32
  let v375_r0 : BitVec 1 := Scalar.cmpi .slt v211_r0 c0_i32_286_r0
  let v376_r0 : BitVec 32 := Scalar.extui v375_r0
  let v377_r0 : BitVec 32 := Scalar.subi v374_r0 v376_r0
  let c2_i32_284_r0 : BitVec 32 := 2#32
  let c0_i32_287_r0 : BitVec 32 := 0#32
  let v378_r0 : BitVec 1 := Scalar.cmpi .sgt c2_i32_284_r0 c0_i32_287_r0
  let v379_r0 : BitVec 32 := Scalar.extui v378_r0
  let c0_i32_288_r0 : BitVec 32 := 0#32
  let v380_r0 : BitVec 1 := Scalar.cmpi .slt c2_i32_284_r0 c0_i32_288_r0
  let v381_r0 : BitVec 32 := Scalar.extui v380_r0
  let v382_r0 : BitVec 32 := Scalar.subi v379_r0 v381_r0
  let v383_r0 : BitVec 1 := Scalar.cmpi .ne v377_r0 v382_r0
  let v384_r0 : BitVec 32 := Scalar.remsi v211_r0 c2_i32_284_r0
  let c0_i32_289_r0 : BitVec 32 := 0#32
  let v385_r0 : BitVec 1 := Scalar.cmpi .ne v384_r0 c0_i32_289_r0
  let v386_r0 : BitVec 1 := Scalar.andi v383_r0 v385_r0
  let v372_r0 : BitVec 32 := Scalar.divsi v211_r0 c2_i32_284_r0
  let c1_i32_290_r0 : BitVec 32 := 1#32
  let v387_r0 : BitVec 32 := Scalar.subi v372_r0 c1_i32_290_r0
  let v388_r0 : BitVec 32 := Scalar.select v386_r0 v387_r0 v372_r0
  let v514_r0 : BitVec 1 := Scalar.cmpi .ne v309_r0 v388_r0
  let v517_r0 : BitVec 1 := Scalar.ori v516_r0 v514_r0
  let c0_i32_179_r0 : BitVec 32 := 0#32
  let v198_r0 : BitVec 32 := Scalar.addi arg14_r0 c0_i32_179_r0
  let c3_i32_183_r0 : BitVec 32 := 3#32
  let v202_r0 : BitVec 32 := Scalar.select v201_r0 c3_i32_183_r0 v200_r0
  let c0_i32_192_r0 : BitVec 32 := 0#32
  let v213_r0 : BitVec 32 := Scalar.addi v202_r0 c0_i32_192_r0
  let v515_r0 : BitVec 1 := Scalar.cmpi .ne v198_r0 v213_r0
  let v518_r0 : BitVec 1 := Scalar.ori v517_r0 v515_r0
  let c0_i32_84_r0 : BitVec 32 := 0#32
  let c1_i32_85_r0 : BitVec 32 := 1#32
  let arg5_r0 : BitVec 32 := Scf.iv c0_i32_84_r0 c1_i32_85_r0 k0_t1
  let c0_i32_176_r0 : BitVec 32 := 0#32
  let v194_r0 : BitVec 1 := Scalar.cmpi .eq arg5_r0 c0_i32_176_r0
  let true_408_r0 : BitVec 1 := 1#1
  let v519_r0 : BitVec 1 := Scalar.xori v194_r0 true_408_r0
  let v520_r0 : BitVec 1 := Scalar.andi v518_r0 v519_r0
  let v521_r0 : BitVec 32 := Scalar.extui v520_r0
  let c0_i32_409_r0 : BitVec 32 := 0#32
  let v522_r0 : BitVec 1 := Scalar.cmpi .ne v521_r0 c0_i32_409_r0
  v522_r0

def k0_off35 (arg12_r0 : BitVec 32) (arg13_r0 : BitVec 32) (arg14_r0 : BitVec 32) : Fin 6 → Nat :=
  let c1_i32_438_r0 : BitVec 32 := 1#32
  let true_181_r0 : BitVec 1 := 1#1
  let c1_i32_180_r0 : BitVec 32 := 1#32
  let v199_r0 : BitVec 32 := Scalar.subi arg14_r0 c1_i32_180_r0
  let v200_r0 : BitVec 32 := Scalar.select true_181_r0 v199_r0 arg14_r0
  let c_m1_i32_182_r0 : BitVec 32 := 4294967295#32
  let v201_r0 : BitVec 1 := Scalar.cmpi .eq v200_r0 c_m1_i32_182_r0
  let c1_i32_184_r0 : BitVec 32 := 1#32
  let v203_r0 : BitVec 32 := Scalar.subi arg13_r0 c1_i32_184_r0
  let v204_r0 : BitVec 32 := Scalar.select v201_r0 v203_r0 arg13_r0
  let c_m1_i32_185_r0 : BitVec 32 := 4294967295#32
  let v205_r0 : BitVec 1 := Scalar.cmpi .eq v204_r0 c_m1_i32_185_r0
  let c1_i32_186_r0 : BitVec 32 := 1#32
  let v206_r0 : BitVec 32 := Scalar.select v205_r0 c1_i32_186_r0 v204_r0
  let c0_i32_191_r0 : BitVec 32 := 0#32
  let v212_r0 : BitVec 32 := Scalar.addi v206_r0 c0_i32_191_r0
  let v576_r0 : BitVec 32 := Scalar.muli c1_i32_438_r0 v212_r0
  let c8_i32_439_r0 : BitVec 32 := 8#32
  let c1_i32_187_r0 : BitVec 32 := 1#32
  let v207_r0 : BitVec 32 := Scalar.subi arg12_r0 c1_i32_187_r0
  let v208_r0 : BitVec 32 := Scalar.select v205_r0 v207_r0 arg12_r0
  let c_m1_i32_188_r0 : BitVec 32 := 4294967295#32
  let v209_r0 : BitVec 1 := Scalar.cmpi .eq v208_r0 c_m1_i32_188_r0
  let c1_i32_189_r0 : BitVec 32 := 1#32
  let v210_r0 : BitVec 32 := Scalar.select v209_r0 c1_i32_189_r0 v208_r0
  let c0_i32_190_r0 : BitVec 32 := 0#32
  let v211_r0 : BitVec 32 := Scalar.addi v210_r0 c0_i32_190_r0
  let c2_i32_425_r0 : BitVec 32 := 2#32
  let c0_i32_426_r0 : BitVec 32 := 0#32
  let v549_r0 : BitVec 1 := Scalar.cmpi .eq c2_i32_425_r0 c0_i32_426_r0
  let c1_i32_427_r0 : BitVec 32 := 1#32
  let v550_r0 : BitVec 32 := Scalar.select v549_r0 c1_i32_427_r0 c2_i32_425_r0
  let v551_r0 : BitVec 32 := Scalar.remsi v211_r0 v550_r0
  let c0_i32_429_r0 : BitVec 32 := 0#32
  let v553_r0 : BitVec 1 := Scalar.cmpi .slt v551_r0 c0_i32_429_r0
  let c0_i32_430_r0 : BitVec 32 := 0#32
  let v554_r0 : BitVec 1 := Scalar.cmpi .slt v550_r0 c0_i32_430_r0
  let v555_r0 : BitVec 1 := Scalar.xori v553_r0 v554_r0
  let c0_i32_428_r0 : BitVec 32 := 0#32
  let v552_r0 : BitVec 1 := Scalar.cmpi .ne v551_r0 c0_i32_428_r0
  let v556_r0 : BitVec 1 := Scalar.andi v555_r0 v552_r0
  let v557_r0 : BitVec 32 := Scalar.addi v551_r0 v550_r0
  let v558_r0 : BitVec 32 := Scalar.select v556_r0 v557_r0 v551_r0
  let v577_r0 : BitVec 32 := Scalar.muli c8_i32_439_r0 v558_r0
  let c1_i32_440_r0 : BitVec 32 := 1#32
  let c0_i32_432_r0 : BitVec 32 := 0#32
  let v560_r0 : BitVec 1 := Scalar.cmpi .sgt v211_r0 c0_i32_432_r0
  let v561_r0 : BitVec 32 := Scalar.extui v560_r0
  let c0_i32_433_r0 : BitVec 32 := 0#32
  let v562_r0 : BitVec 1 := Scalar.cmpi .slt v211_r0 c0_i32_433_r0
  let v563_r0 : BitVec 32 := Scalar.extui v562_r0
  let v564_r0 : BitVec 32 := Scalar.subi v561_r0 v563_r0
  let c2_i32_431_r0 : BitVec 32 := 2#32
  let c0_i32_434_r0 : BitVec 32 := 0#32
  let v565_r0 : BitVec 1 := Scalar.cmpi .sgt c2_i32_431_r0 c0_i32_434_r0
  let v566_r0 : BitVec 32 := Scalar.extui v565_r0
  let c0_i32_435_r0 : BitVec 32 := 0#32
  let v567_r0 : BitVec 1 := Scalar.cmpi .slt c2_i32_431_r0 c0_i32_435_r0
  let v568_r0 : BitVec 32 := Scalar.extui v567_r0
  let v569_r0 : BitVec 32 := Scalar.subi v566_r0 v568_r0
  let v570_r0 : BitVec 1 := Scalar.cmpi .ne v564_r0 v569_r0
  let v571_r0 : BitVec 32 := Scalar.remsi v211_r0 c2_i32_431_r0
  let c0_i32_436_r0 : BitVec 32 := 0#32
  let v572_r0 : BitVec 1 := Scalar.cmpi .ne v571_r0 c0_i32_436_r0
  let v573_r0 : BitVec 1 := Scalar.andi v570_r0 v572_r0
  let v559_r0 : BitVec 32 := Scalar.divsi v211_r0 c2_i32_431_r0
  let c1_i32_437_r0 : BitVec 32 := 1#32
  let v574_r0 : BitVec 32 := Scalar.subi v559_r0 c1_i32_437_r0
  let v575_r0 : BitVec 32 := Scalar.select v573_r0 v574_r0 v559_r0
  let v578_r0 : BitVec 32 := Scalar.muli c1_i32_440_r0 v575_r0
  let c0_i32_442_r0 : BitVec 32 := 0#32
  let c1024_i32_441_r0 : BitVec 32 := 1024#32
  let c3_i32_183_r0 : BitVec 32 := 3#32
  let v202_r0 : BitVec 32 := Scalar.select v201_r0 c3_i32_183_r0 v200_r0
  let c0_i32_192_r0 : BitVec 32 := 0#32
  let v213_r0 : BitVec 32 := Scalar.addi v202_r0 c0_i32_192_r0
  let v579_r0 : BitVec 32 := Scalar.muli c1024_i32_441_r0 v213_r0
  let c0_i32_443_r0 : BitVec 32 := 0#32
  ![v576_r0.toNat, v577_r0.toNat, v578_r0.toNat, 0, v579_r0.toNat, 0]
def k0_off36 (arg11_r0 : BitVec 32) : Fin 7 → Nat :=
  let c2_i32_424_r0 : BitVec 32 := 2#32
  let v548_r0 : BitVec 32 := Scalar.remui arg11_r0 c2_i32_424_r0
  let c0_i32_444_r0 : BitVec 32 := 0#32
  let c0_i32_445_r0 : BitVec 32 := 0#32
  let c0_i32_446_r0 : BitVec 32 := 0#32
  let c0_i32_447_r0 : BitVec 32 := 0#32
  let c0_i32_448_r0 : BitVec 32 := 0#32
  let c0_i32_449_r0 : BitVec 32 := 0#32
  ![v548_r0.toNat, 0, 0, 0, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h2 : k0_cond2 k0_t1 arg13_r0 arg14_r0 = 1#1), ∀ a, (k0_off8 arg6_r0) a + S1.size a ≤ S3.size a) ∧
  (∀ (k0_h2 : k0_cond2 k0_t1 arg13_r0 arg14_r0 = 1#1), ∀ a, (k0_off9 arg6_r0) a + S1x1x1024x2048.size a ≤ S3x1x1024x2048.size a) ∧
  (∀ (k0_h2 : k0_cond2 k0_t1 arg13_r0 arg14_r0 = 1#1), ∀ a, (k0_off10 arg13_r0 arg14_r0) a + S1x1024x2048.size a ≤ S2x4096x2048.size a) ∧
  (∀ (k0_h2 : k0_cond2 k0_t1 arg13_r0 arg14_r0 = 1#1), ∀ (hinb : ∀ a, (k0_off10 arg13_r0 arg14_r0) a + S1x1024x2048.size a ≤ S2x4096x2048.size a), (Rect.unit (s := S2x4096x2048) (k0_off10 arg13_r0 arg14_r0) S1x1024x2048.size hinb).WholeWords (EltTy.packing .bf16)) ∧
  (∀ (k0_h2 : k0_cond2 k0_t1 arg13_r0 arg14_r0 = 1#1), ∀ (hinb : ∀ a, (k0_off9 arg6_r0) a + S1x1x1024x2048.size a ≤ S3x1x1024x2048.size a), (Rect.unit (s := S3x1x1024x2048) (k0_off9 arg6_r0) S1x1x1024x2048.size hinb).WholeWords (EltTy.packing .bf16)) ∧
  (∀ (k0_h3 : k0_cond3 k0_t1 arg12_r0 arg13_r0 arg14_r0 = 1#1), ∀ a, (k0_off11 arg8_r0) a + S1.size a ≤ S2.size a) ∧
  (∀ (k0_h3 : k0_cond3 k0_t1 arg12_r0 arg13_r0 arg14_r0 = 1#1), ∀ a, (k0_off12 arg8_r0) a + S1x2048x1024.size a ≤ S2x2048x1024.size a) ∧
  (∀ (k0_h3 : k0_cond3 k0_t1 arg12_r0 arg13_r0 arg14_r0 = 1#1), ∀ a, (k0_off13 arg12_r0 arg13_r0 arg14_r0) a + S2048x1024.size a ≤ S2048x8192.size a) ∧
  (∀ (k0_h4 : k0_cond4 k0_t1 arg13_r0 arg14_r0 = 1#1), ∀ a, (k0_off14 arg7_r0) a + S1.size a ≤ S3.size a) ∧
  (∀ (k0_h4 : k0_cond4 k0_t1 arg13_r0 arg14_r0 = 1#1), ∀ a, (k0_off15 arg7_r0) a + S1x1x1024x2048.size a ≤ S3x1x1024x2048.size a) ∧
  (∀ (k0_h4 : k0_cond4 k0_t1 arg13_r0 arg14_r0 = 1#1), ∀ a, (k0_off16 arg13_r0 arg14_r0) a + S1x1024x2048.size a ≤ S2x4096x2048.size a) ∧
  (∀ (k0_h4 : k0_cond4 k0_t1 arg13_r0 arg14_r0 = 1#1), ∀ (hinb : ∀ a, (k0_off16 arg13_r0 arg14_r0) a + S1x1024x2048.size a ≤ S2x4096x2048.size a), (Rect.unit (s := S2x4096x2048) (k0_off16 arg13_r0 arg14_r0) S1x1024x2048.size hinb).WholeWords (EltTy.packing .bf16)) ∧
  (∀ (k0_h4 : k0_cond4 k0_t1 arg13_r0 arg14_r0 = 1#1), ∀ (hinb : ∀ a, (k0_off15 arg7_r0) a + S1x1x1024x2048.size a ≤ S3x1x1024x2048.size a), (Rect.unit (s := S3x1x1024x2048) (k0_off15 arg7_r0) S1x1x1024x2048.size hinb).WholeWords (EltTy.packing .bf16)) ∧
  (∀ (k0_h5 : k0_cond5 k0_t1 arg12_r0 arg13_r0 arg14_r0 = 1#1), ∀ a, (k0_off17 arg9_r0) a + S1.size a ≤ S2.size a) ∧
  (∀ (k0_h5 : k0_cond5 k0_t1 arg12_r0 arg13_r0 arg14_r0 = 1#1), ∀ a, (k0_off18 arg9_r0) a + S1x2048x1024.size a ≤ S2x2048x1024.size a) ∧
  (∀ (k0_h5 : k0_cond5 k0_t1 arg12_r0 arg13_r0 arg14_r0 = 1#1), ∀ a, (k0_off19 arg12_r0) a + S2048x1024.size a ≤ S2048x8192.size a) ∧
  (∀ (k0_h7 : k0_cond7 arg13_r0 arg14_r0 = 1#1), ∀ a, (k0_off20 arg9_r0) a + S1x2048x1024.size a ≤ S2x2048x1024.size a) ∧
  (∀ (k0_h10 : k0_cond10 k0_t1 arg12_r0 arg13_r0 arg14_r0 = 1#1), ∀ a, (k0_off31 arg10_r0) a + S1.size a ≤ S2.size a) ∧
  (∀ (k0_h10 : k0_cond10 k0_t1 arg12_r0 arg13_r0 arg14_r0 = 1#1), ∀ a, (k0_off32 arg12_r0 arg13_r0 arg14_r0) a + S1x8x1x1x1024x128.size a ≤ S2x16x1x1x4096x128.size a) ∧
  (∀ (k0_h10 : k0_cond10 k0_t1 arg12_r0 arg13_r0 arg14_r0 = 1#1), ∀ a, (k0_off33 arg10_r0) a + S1x1x8x1x1x1024x128.size a ≤ S2x1x8x1x1x1024x128.size a) ∧
  (∀ (k0_h10 : k0_cond10 k0_t1 arg12_r0 arg13_r0 arg14_r0 = 1#1), ∀ (hinb : ∀ a, (k0_off33 arg10_r0) a + S1x1x8x1x1x1024x128.size a ≤ S2x1x8x1x1x1024x128.size a), (Rect.unit (s := S2x1x8x1x1x1024x128) (k0_off33 arg10_r0) S1x1x8x1x1x1024x128.size hinb).WholeWords (EltTy.packing .bf16)) ∧
  (∀ (k0_h10 : k0_cond10 k0_t1 arg12_r0 arg13_r0 arg14_r0 = 1#1), ∀ (hinb : ∀ a, (k0_off32 arg12_r0 arg13_r0 arg14_r0) a + S1x8x1x1x1024x128.size a ≤ S2x16x1x1x4096x128.size a), (Rect.unit (s := S2x16x1x1x4096x128) (k0_off32 arg12_r0 arg13_r0 arg14_r0) S1x8x1x1x1024x128.size hinb).WholeWords (EltTy.packing .bf16)) ∧
  (∀ (k0_h13 : k0_cond13 k0_t1 arg12_r0 arg13_r0 arg14_r0 = 1#1), ∀ a, (k0_off34 arg11_r0) a + S1.size a ≤ S2.size a) ∧
  (∀ (k0_h13 : k0_cond13 k0_t1 arg12_r0 arg13_r0 arg14_r0 = 1#1), ∀ a, (k0_off35 arg12_r0 arg13_r0 arg14_r0) a + S1x8x1x1x1024x128.size a ≤ S2x16x1x1x4096x128.size a) ∧
  (∀ (k0_h13 : k0_cond13 k0_t1 arg12_r0 arg13_r0 arg14_r0 = 1#1), ∀ a, (k0_off36 arg11_r0) a + S1x1x8x1x1x1024x128.size a ≤ S2x1x8x1x1x1024x128.size a) ∧
  (∀ (k0_h13 : k0_cond13 k0_t1 arg12_r0 arg13_r0 arg14_r0 = 1#1), ∀ (hinb : ∀ a, (k0_off36 arg11_r0) a + S1x1x8x1x1x1024x128.size a ≤ S2x1x8x1x1x1024x128.size a), (Rect.unit (s := S2x1x8x1x1x1024x128) (k0_off36 arg11_r0) S1x1x8x1x1x1024x128.size hinb).WholeWords (EltTy.packing .bf16)) ∧
  (∀ (k0_h13 : k0_cond13 k0_t1 arg12_r0 arg13_r0 arg14_r0 = 1#1), ∀ (hinb : ∀ a, (k0_off35 arg12_r0 arg13_r0 arg14_r0) a + S1x8x1x1x1024x128.size a ≤ S2x16x1x1x4096x128.size a), (Rect.unit (s := S2x16x1x1x4096x128) (k0_off35 arg12_r0 arg13_r0 arg14_r0) S1x8x1x1x1024x128.size hinb).WholeWords (EltTy.packing .bf16))
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off8 arg6_r0) a + S1.size a ≤ S3.size a := fun k0_t1 arg6_r0 arg7_r0 arg8_r0 arg9_r0 arg10_r0 arg11_r0 arg12_r0 arg13_r0 arg14_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off9 arg6_r0) a + S1x1x1024x2048.size a ≤ S3x1x1024x2048.size a := fun k0_t1 arg6_r0 arg7_r0 arg8_r0 arg9_r0 arg10_r0 arg11_r0 arg12_r0 arg13_r0 arg14_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off10 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h2 => k0_hw1.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S2x4096x2048) (k0_off10 arg13_r0 arg14_r0) S1x1024x2048.size (k0_off10_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.1 k0_h2 (k0_off10_inb k0_t1 arg6_r0 arg7_r0 arg8_r0 arg9_r0 arg10_r0 arg11_r0 arg12_r0 arg13_r0 arg14_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S3x1x1024x2048) (k0_off9 arg6_r0) S1x1x1024x2048.size (k0_off9_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.2.1 k0_h2 (k0_off9_inb k0_t1 arg6_r0 arg7_r0 arg8_r0 arg9_r0 arg10_r0 arg11_r0 arg12_r0 arg13_r0 arg14_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off11 arg8_r0) a + S1.size a ≤ S2.size a := fun k0_t1 arg6_r0 arg7_r0 arg8_r0 arg9_r0 arg10_r0 arg11_r0 arg12_r0 arg13_r0 arg14_r0 k0_hw1 k0_h3 => k0_hw1.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off12 arg8_r0) a + S1x2048x1024.size a ≤ S2x2048x1024.size a := fun k0_t1 arg6_r0 arg7_r0 arg8_r0 arg9_r0 arg10_r0 arg11_r0 arg12_r0 arg13_r0 arg14_r0 k0_hw1 k0_h3 => k0_hw1.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off13 arg12_r0 arg13_r0 arg14_r0) a + S2048x1024.size a ≤ S2048x8192.size a := fun k0_t1 arg6_r0 arg7_r0 arg8_r0 arg9_r0 arg10_r0 arg11_r0 arg12_r0 arg13_r0 arg14_r0 k0_hw1 k0_h3 => k0_hw1.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off14 arg7_r0) a + S1.size a ≤ S3.size a := fun k0_t1 arg6_r0 arg7_r0 arg8_r0 arg9_r0 arg10_r0 arg11_r0 arg12_r0 arg13_r0 arg14_r0 k0_hw1 k0_h4 => k0_hw1.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off15 arg7_r0) a + S1x1x1024x2048.size a ≤ S3x1x1024x2048.size a := fun k0_t1 arg6_r0 arg7_r0 arg8_r0 arg9_r0 arg10_r0 arg11_r0 arg12_r0 arg13_r0 arg14_r0 k0_hw1 k0_h4 => k0_hw1.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off16 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h4 => k0_hw1.2.2.2.2.2.2.2.2.2.2.1 k0_h4
theorem k0_off16_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S2x4096x2048) (k0_off16 arg13_r0 arg14_r0) S1x1024x2048.size (k0_off16_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.1 k0_h4 (k0_off16_inb k0_t1 arg6_r0 arg7_r0 arg8_r0 arg9_r0 arg10_r0 arg11_r0 arg12_r0 arg13_r0 arg14_r0 k0_hw1 k0_h4)
theorem k0_off15_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S3x1x1024x2048) (k0_off15 arg7_r0) S1x1x1024x2048.size (k0_off15_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.2.1 k0_h4 (k0_off15_inb k0_t1 arg6_r0 arg7_r0 arg8_r0 arg9_r0 arg10_r0 arg11_r0 arg12_r0 arg13_r0 arg14_r0 k0_hw1 k0_h4)
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off17 arg9_r0) a + S1.size a ≤ S2.size a := fun k0_t1 arg6_r0 arg7_r0 arg8_r0 arg9_r0 arg10_r0 arg11_r0 arg12_r0 arg13_r0 arg14_r0 k0_hw1 k0_h5 => k0_hw1.2.2.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off18 arg9_r0) a + S1x2048x1024.size a ≤ S2x2048x1024.size a := fun k0_t1 arg6_r0 arg7_r0 arg8_r0 arg9_r0 arg10_r0 arg11_r0 arg12_r0 arg13_r0 arg14_r0 k0_hw1 k0_h5 => k0_hw1.2.2.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off19 arg12_r0) a + S2048x1024.size a ≤ S2048x8192.size a := fun k0_t1 arg6_r0 arg7_r0 arg8_r0 arg9_r0 arg10_r0 arg11_r0 arg12_r0 arg13_r0 arg14_r0 k0_hw1 k0_h5 => k0_hw1.2.2.2.2.2.2.2.2.2.2.2.2.2.2.2.1 k0_h5
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h7 : k0_cond7 arg13_r0 arg14_r0 = 1#1), ∀ a, (k0_off20 arg9_r0) a + S1x2048x1024.size a ≤ S2x2048x1024.size a := fun k0_t1 arg6_r0 arg7_r0 arg8_r0 arg9_r0 arg10_r0 arg11_r0 arg12_r0 arg13_r0 arg14_r0 k0_hw1 k0_h7 => k0_hw1.2.2.2.2.2.2.2.2.2.2.2.2.2.2.2.2.1 k0_h7
theorem k0_off31_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off31 arg10_r0) a + S1.size a ≤ S2.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.1 k0_h10
theorem k0_off32_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off32 arg12_r0 arg13_r0 arg14_r0) a + S1x8x1x1x1024x128.size a ≤ S2x16x1x1x4096x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.1 k0_h10
theorem k0_off33_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off33 arg10_r0) a + S1x1x8x1x1x1024x128.size a ≤ S2x1x8x1x1x1024x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.1 k0_h10
theorem k0_off33_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x1x8x1x1x1024x128) (k0_off33 arg10_r0) S1x1x8x1x1x1024x128.size (k0_off33_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.1 k0_h10 (k0_off33_inb k0_t1 arg6_r0 arg7_r0 arg8_r0 arg9_r0 arg10_r0 arg11_r0 arg12_r0 arg13_r0 arg14_r0 k0_hw1 k0_h10)
theorem k0_off32_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x16x1x1x4096x128) (k0_off32 arg12_r0 arg13_r0 arg14_r0) S1x8x1x1x1024x128.size (k0_off32_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.2.1 k0_h10 (k0_off32_inb k0_t1 arg6_r0 arg7_r0 arg8_r0 arg9_r0 arg10_r0 arg11_r0 arg12_r0 arg13_r0 arg14_r0 k0_hw1 k0_h10)
theorem k0_off34_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off34 arg11_r0) a + S1.size a ≤ S2.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.1 k0_h13
theorem k0_off35_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off35 arg12_r0 arg13_r0 arg14_r0) a + S1x8x1x1x1024x128.size a ≤ S2x16x1x1x4096x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.1 k0_h13
theorem k0_off36_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off36 arg11_r0) a + S1x1x8x1x1x1024x128.size a ≤ S2x1x8x1x1x1024x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.1 k0_h13
theorem k0_off36_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x1x8x1x1x1024x128) (k0_off36 arg11_r0) S1x1x8x1x1x1024x128.size (k0_off36_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.1 k0_h13 (k0_off36_inb k0_t1 arg6_r0 arg7_r0 arg8_r0 arg9_r0 arg10_r0 arg11_r0 arg12_r0 arg13_r0 arg14_r0 k0_hw1 k0_h13)
theorem k0_off35_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x16x1x1x4096x128) (k0_off35 arg12_r0 arg13_r0 arg14_r0) S1x8x1x1x1024x128.size (k0_off35_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.2 k0_h13 (k0_off35_inb k0_t1 arg6_r0 arg7_r0 arg8_r0 arg9_r0 arg10_r0 arg11_r0 arg12_r0 arg13_r0 arg14_r0 k0_hw1 k0_h13)

def k0_off37 (v81_5_r0 : BitVec 32) : Fin 1 → Nat :=
  let c2_i32_152_r0 : BitVec 32 := 2#32
  let v157_r0 : BitVec 32 := Scalar.remui v81_5_r0 c2_i32_152_r0
  ![v157_r0.toNat]

def k0_off38 (v81_8_r0 : BitVec 32) (v81_7_r0 : BitVec 32) (v81_6_r0 : BitVec 32) : Fin 6 → Nat :=
  let c1_i32_166_r0 : BitVec 32 := 1#32
  let true_88_r0 : BitVec 1 := 1#1
  let c1_i32_87_r0 : BitVec 32 := 1#32
  let v82_r0 : BitVec 32 := Scalar.subi v81_8_r0 c1_i32_87_r0
  let v83_r0 : BitVec 32 := Scalar.select true_88_r0 v82_r0 v81_8_r0
  let c_m1_i32_89_r0 : BitVec 32 := 4294967295#32
  let v84_r0 : BitVec 1 := Scalar.cmpi .eq v83_r0 c_m1_i32_89_r0
  let c1_i32_91_r0 : BitVec 32 := 1#32
  let v86_r0 : BitVec 32 := Scalar.subi v81_7_r0 c1_i32_91_r0
  let v87_r0 : BitVec 32 := Scalar.select v84_r0 v86_r0 v81_7_r0
  let c_m1_i32_92_r0 : BitVec 32 := 4294967295#32
  let v88_r0 : BitVec 1 := Scalar.cmpi .eq v87_r0 c_m1_i32_92_r0
  let c1_i32_93_r0 : BitVec 32 := 1#32
  let v89_r0 : BitVec 32 := Scalar.select v88_r0 c1_i32_93_r0 v87_r0
  let c0_i32_98_r0 : BitVec 32 := 0#32
  let v95_r0 : BitVec 32 := Scalar.addi v89_r0 c0_i32_98_r0
  let v185_r0 : BitVec 32 := Scalar.muli c1_i32_166_r0 v95_r0
  let c8_i32_r0 : BitVec 32 := 8#32
  let c1_i32_94_r0 : BitVec 32 := 1#32
  let v90_r0 : BitVec 32 := Scalar.subi v81_6_r0 c1_i32_94_r0
  let v91_r0 : BitVec 32 := Scalar.select v88_r0 v90_r0 v81_6_r0
  let c_m1_i32_95_r0 : BitVec 32 := 4294967295#32
  let v92_r0 : BitVec 1 := Scalar.cmpi .eq v91_r0 c_m1_i32_95_r0
  let c1_i32_96_r0 : BitVec 32 := 1#32
  let v93_r0 : BitVec 32 := Scalar.select v92_r0 c1_i32_96_r0 v91_r0
  let c0_i32_97_r0 : BitVec 32 := 0#32
  let v94_r0 : BitVec 32 := Scalar.addi v93_r0 c0_i32_97_r0
  let c2_i32_153_r0 : BitVec 32 := 2#32
  let c0_i32_154_r0 : BitVec 32 := 0#32
  let v158_r0 : BitVec 1 := Scalar.cmpi .eq c2_i32_153_r0 c0_i32_154_r0
  let c1_i32_155_r0 : BitVec 32 := 1#32
  let v159_r0 : BitVec 32 := Scalar.select v158_r0 c1_i32_155_r0 c2_i32_153_r0
  let v160_r0 : BitVec 32 := Scalar.remsi v94_r0 v159_r0
  let c0_i32_157_r0 : BitVec 32 := 0#32
  let v162_r0 : BitVec 1 := Scalar.cmpi .slt v160_r0 c0_i32_157_r0
  let c0_i32_158_r0 : BitVec 32 := 0#32
  let v163_r0 : BitVec 1 := Scalar.cmpi .slt v159_r0 c0_i32_158_r0
  let v164_r0 : BitVec 1 := Scalar.xori v162_r0 v163_r0
  let c0_i32_156_r0 : BitVec 32 := 0#32
  let v161_r0 : BitVec 1 := Scalar.cmpi .ne v160_r0 c0_i32_156_r0
  let v165_r0 : BitVec 1 := Scalar.andi v164_r0 v161_r0
  let v166_r0 : BitVec 32 := Scalar.addi v160_r0 v159_r0
  let v167_r0 : BitVec 32 := Scalar.select v165_r0 v166_r0 v160_r0
  let v186_r0 : BitVec 32 := Scalar.muli c8_i32_r0 v167_r0
  let c1_i32_167_r0 : BitVec 32 := 1#32
  let c0_i32_160_r0 : BitVec 32 := 0#32
  let v169_r0 : BitVec 1 := Scalar.cmpi .sgt v94_r0 c0_i32_160_r0
  let v170_r0 : BitVec 32 := Scalar.extui v169_r0
  let c0_i32_161_r0 : BitVec 32 := 0#32
  let v171_r0 : BitVec 1 := Scalar.cmpi .slt v94_r0 c0_i32_161_r0
  let v172_r0 : BitVec 32 := Scalar.extui v171_r0
  let v173_r0 : BitVec 32 := Scalar.subi v170_r0 v172_r0
  let c2_i32_159_r0 : BitVec 32 := 2#32
  let c0_i32_162_r0 : BitVec 32 := 0#32
  let v174_r0 : BitVec 1 := Scalar.cmpi .sgt c2_i32_159_r0 c0_i32_162_r0
  let v175_r0 : BitVec 32 := Scalar.extui v174_r0
  let c0_i32_163_r0 : BitVec 32 := 0#32
  let v176_r0 : BitVec 1 := Scalar.cmpi .slt c2_i32_159_r0 c0_i32_163_r0
  let v177_r0 : BitVec 32 := Scalar.extui v176_r0
  let v178_r0 : BitVec 32 := Scalar.subi v175_r0 v177_r0
  let v179_r0 : BitVec 1 := Scalar.cmpi .ne v173_r0 v178_r0
  let v180_r0 : BitVec 32 := Scalar.remsi v94_r0 c2_i32_159_r0
  let c0_i32_164_r0 : BitVec 32 := 0#32
  let v181_r0 : BitVec 1 := Scalar.cmpi .ne v180_r0 c0_i32_164_r0
  let v182_r0 : BitVec 1 := Scalar.andi v179_r0 v181_r0
  let v168_r0 : BitVec 32 := Scalar.divsi v94_r0 c2_i32_159_r0
  let c1_i32_165_r0 : BitVec 32 := 1#32
  let v183_r0 : BitVec 32 := Scalar.subi v168_r0 c1_i32_165_r0
  let v184_r0 : BitVec 32 := Scalar.select v182_r0 v183_r0 v168_r0
  let v187_r0 : BitVec 32 := Scalar.muli c1_i32_167_r0 v184_r0
  let c0_i32_168_r0 : BitVec 32 := 0#32
  let c1024_i32_r0 : BitVec 32 := 1024#32
  let c3_i32_90_r0 : BitVec 32 := 3#32
  let v85_r0 : BitVec 32 := Scalar.select v84_r0 c3_i32_90_r0 v83_r0
  let c0_i32_99_r0 : BitVec 32 := 0#32
  let v96_r0 : BitVec 32 := Scalar.addi v85_r0 c0_i32_99_r0
  let v188_r0 : BitVec 32 := Scalar.muli c1024_i32_r0 v96_r0
  let c0_i32_169_r0 : BitVec 32 := 0#32
  ![v185_r0.toNat, v186_r0.toNat, v187_r0.toNat, 0, v188_r0.toNat, 0]

def k0_off39 (v81_5_r0 : BitVec 32) : Fin 7 → Nat :=
  let c2_i32_152_r0 : BitVec 32 := 2#32
  let v157_r0 : BitVec 32 := Scalar.remui v81_5_r0 c2_i32_152_r0
  let c0_i32_170_r0 : BitVec 32 := 0#32
  let c0_i32_171_r0 : BitVec 32 := 0#32
  let c0_i32_172_r0 : BitVec 32 := 0#32
  let c0_i32_173_r0 : BitVec 32 := 0#32
  let c0_i32_174_r0 : BitVec 32 := 0#32
  let c0_i32_175_r0 : BitVec 32 := 0#32
  ![v157_r0.toNat, 0, 0, 0, 0, 0, 0]

def k0_chk4 (v81_5_r0 : BitVec 32) : Prop :=
  (∀ a, (k0_off37 v81_5_r0) a + S1.size a ≤ S2.size a) ∧
  (∀ a, (k0_off39 v81_5_r0) a + S1x1x8x1x1x1024x128.size a ≤ S2x1x8x1x1x1024x128.size a) ∧
  (∀ (hinb : ∀ a, (k0_off39 v81_5_r0) a + S1x1x8x1x1x1024x128.size a ≤ S2x1x8x1x1x1024x128.size a), (Rect.unit (s := S2x1x8x1x1x1024x128) (k0_off39 v81_5_r0) S1x1x8x1x1x1024x128.size hinb).WholeWords (EltTy.packing .bf16))
theorem k0_off37_inb : ∀ (v81_5_r0 : BitVec 32) (k0_hw4 : k0_chk4 v81_5_r0), ∀ a, (k0_off37 v81_5_r0) a + S1.size a ≤ S2.size a := fun v81_5_r0 k0_hw4 => k0_hw4.1
theorem k0_off39_inb : ∀ (v81_5_r0 : BitVec 32) (k0_hw4 : k0_chk4 v81_5_r0), ∀ a, (k0_off39 v81_5_r0) a + S1x1x8x1x1x1024x128.size a ≤ S2x1x8x1x1x1024x128.size a := fun v81_5_r0 k0_hw4 => k0_hw4.2.1
theorem k0_off39_wordsbf16 : ∀ (v81_5_r0 : BitVec 32) (k0_hw4 : k0_chk4 v81_5_r0), (Rect.unit (s := S2x1x8x1x1x1024x128) (k0_off39 v81_5_r0) S1x1x8x1x1x1024x128.size (k0_off39_inb v81_5_r0 k0_hw4)).WholeWords (EltTy.packing .bf16) := fun v81_5_r0 k0_hw4 => k0_hw4.2.2 (k0_off39_inb v81_5_r0 k0_hw4)

def k0_chk5 (v81_8_r0 : BitVec 32) (v81_7_r0 : BitVec 32) (v81_6_r0 : BitVec 32) : Prop :=
  (∀ a, (k0_off38 v81_8_r0 v81_7_r0 v81_6_r0) a + S1x8x1x1x1024x128.size a ≤ S2x16x1x1x4096x128.size a) ∧
  (∀ (hinb : ∀ a, (k0_off38 v81_8_r0 v81_7_r0 v81_6_r0) a + S1x8x1x1x1024x128.size a ≤ S2x16x1x1x4096x128.size a), (Rect.unit (s := S2x16x1x1x4096x128) (k0_off38 v81_8_r0 v81_7_r0 v81_6_r0) S1x8x1x1x1024x128.size hinb).WholeWords (EltTy.packing .bf16))
theorem k0_off38_inb : ∀ (v81_8_r0 : BitVec 32) (v81_7_r0 : BitVec 32) (v81_6_r0 : BitVec 32) (k0_hw5 : k0_chk5 v81_8_r0 v81_7_r0 v81_6_r0), ∀ a, (k0_off38 v81_8_r0 v81_7_r0 v81_6_r0) a + S1x8x1x1x1024x128.size a ≤ S2x16x1x1x4096x128.size a := fun v81_8_r0 v81_7_r0 v81_6_r0 k0_hw5 => k0_hw5.1
theorem k0_off38_wordsbf16 : ∀ (v81_8_r0 : BitVec 32) (v81_7_r0 : BitVec 32) (v81_6_r0 : BitVec 32) (k0_hw5 : k0_chk5 v81_8_r0 v81_7_r0 v81_6_r0), (Rect.unit (s := S2x16x1x1x4096x128) (k0_off38 v81_8_r0 v81_7_r0 v81_6_r0) S1x8x1x1x1024x128.size (k0_off38_inb v81_8_r0 v81_7_r0 v81_6_r0 k0_hw5)).WholeWords (EltTy.packing .bf16) := fun v81_8_r0 v81_7_r0 v81_6_r0 k0_hw5 => k0_hw5.2 (k0_off38_inb v81_8_r0 v81_7_r0 v81_6_r0 k0_hw5)
-- ==== Kernel7Ideal.lean ====
variable {F : FTy → Type} [FloatOps F] [Named F]
def κ : String → Option EReal := fun
  | "qk_scale" => some (((Real.sqrt 128)⁻¹ * (Real.log 2)⁻¹ : ℝ) : EReal)
  | _ => none
-- ==== Reference7Ideal.lean ====
abbrev S2x4096x2048 : Shape := ⟨3, ![2, 4096, 2048]⟩
abbrev S2048x8192 : Shape := ⟨2, ![2048, 8192]⟩
abbrev S2x4096x8192 : Shape := ⟨3, ![2, 4096, 8192]⟩
abbrev S2x4096x16x128 : Shape := ⟨4, ![2, 4096, 16, 128]⟩
abbrev S2x16x4096x128 : Shape := ⟨4, ![2, 16, 4096, 128]⟩
abbrev S_ : Shape := ⟨0, ![]⟩
abbrev S2x16x1x1x4096x128 : Shape := ⟨6, ![2, 16, 1, 1, 4096, 128]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x8192, .f32⟩
  | .hbm, ⟨2, _⟩ => ⟨S2x4096x2048, .f32⟩
  | .hbm, ⟨3, _⟩ => ⟨S2x4096x8192, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x16x128, .f32⟩
  | .hbm, ⟨9, _⟩ => ⟨S2x16x4096x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x16x4096x128, .f32⟩
  | .hbm, ⟨16, _⟩ => ⟨S2x16x4096x128, .f32⟩
  | .hbm, ⟨17, _⟩ => ⟨S2x16x1x1x4096x128, .f32⟩
  | .hbm, ⟨18, _⟩ => ⟨S2x16x1x1x4096x128, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel8.lean ====
abbrev S2x4096x2048 : Shape := ⟨3, ![2, 4096, 2048]⟩
abbrev S2048x8192 : Shape := ⟨2, ![2048, 8192]⟩
abbrev S2x16x1x4x1024x128 : Shape := ⟨6, ![2, 16, 1, 4, 1024, 128]⟩
abbrev S2048x1024 : Shape := ⟨2, ![2048, 1024]⟩
abbrev S8x1024x128 : Shape := ⟨3, ![8, 1024, 128]⟩
abbrev S3x1x1024x2048 : Shape := ⟨4, ![3, 1, 1024, 2048]⟩
abbrev S3 : Shape := ⟨1, ![3]⟩
abbrev S2x2048x1024 : Shape := ⟨3, ![2, 2048, 1024]⟩
abbrev S2 : Shape := ⟨1, ![2]⟩
abbrev S2x1x8x1x4x256x128 : Shape := ⟨7, ![2, 1, 8, 1, 4, 256, 128]⟩
abbrev S1 : Shape := ⟨1, ![1]⟩
abbrev S_ : Shape := ⟨0, ![]⟩
abbrev S1x1x1024x2048 : Shape := ⟨4, ![1, 1, 1024, 2048]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S1024x1024 : Shape := ⟨2, ![1024, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x8x1x4x256x128 : Shape := ⟨7, ![1, 1, 8, 1, 4, 256, 128]⟩
abbrev S1x8x1x4x256x128 : Shape := ⟨6, ![1, 8, 1, 4, 256, 128]⟩
abbrev S1x1x1x1x256x128 : Shape := ⟨6, ![1, 1, 1, 1, 256, 128]⟩
abbrev S1x1x1x1x1x256x128 : Shape := ⟨7, ![1, 1, 1, 1, 1, 256, 128]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2048, .bf16⟩
  | .hbm, ⟨1, _⟩ => ⟨S2048x8192, .f32⟩
  | .hbm, ⟨2, _⟩ => ⟨S2x16x1x4x1024x128, .bf16⟩
  | .local _ .vmem, ⟨0, _⟩ => ⟨S2048x1024, .bf16⟩
  | .local _ .vmem, ⟨1, _⟩ => ⟨S8x1024x128, .f32⟩
  | .local _ .vmem, ⟨2, _⟩ => ⟨S3x1x1024x2048, .bf16⟩
  | .local _ .vmem, ⟨3, _⟩ => ⟨S2x2048x1024, .f32⟩
  | .local _ .vmem, ⟨4, _⟩ => ⟨S2x1x8x1x4x256x128, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_53_r0 : BitVec 32 := 0#32
  let c3_i32_54_r0 : BitVec 32 := 3#32
  let v57_r0 : BitVec 32 := Scalar.remui c0_i32_53_r0 c3_i32_54_r0
  ![v57_r0.toNat]
def k0_off2 : Fin 4 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  let c0_i32_57_r0 : BitVec 32 := 0#32
  ![v57_r0.toNat, 0, 0, 0]
def k0_off3 : Fin 1 → Nat :=
  let c0_i32_63_r0 : BitVec 32 := 0#32
  let c2_i32_64_r0 : BitVec 32 := 2#32
  let v64_r0 : BitVec 32 := Scalar.remui c0_i32_63_r0 c2_i32_64_r0
  ![v64_r0.toNat]
def k0_off4 : Fin 3 → Nat :=
  let c0_i32_63_r0 : BitVec 32 := 0#32
  let c2_i32_64_r0 : BitVec 32 := 2#32
  let v64_r0 : BitVec 32 := Scalar.remui c0_i32_63_r0 c2_i32_64_r0
  let c0_i32_65_r0 : BitVec 32 := 0#32
  let c0_i32_66_r0 : BitVec 32 := 0#32
  ![v64_r0.toNat, 0, 0]
def k0_cond1 : BitVec 1 :=
  let true_72_r0 : BitVec 1 := 1#1
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let c0_i32_70_r0 : BitVec 32 := 0#32
  let v71_r0 : BitVec 1 := Scalar.cmpi .ne v25_r0 c0_i32_70_r0
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let c0_i32_71_r0 : BitVec 32 := 0#32
  let v72_r0 : BitVec 1 := Scalar.cmpi .ne v26_r0 c0_i32_71_r0
  let v73_r0 : BitVec 1 := Scalar.ori v71_r0 v72_r0
  let v74_r0 : BitVec 1 := Scalar.andi true_72_r0 v73_r0
  let true_73_r0 : BitVec 1 := 1#1
  let v75_r0 : BitVec 1 := Scalar.andi v74_r0 true_73_r0
  let v76_r0 : BitVec 32 := Scalar.extui v75_r0
  let c0_i32_74_r0 : BitVec 32 := 0#32
  let v77_r0 : BitVec 1 := Scalar.cmpi .ne v76_r0 c0_i32_74_r0
  v77_r0

def k0_off5 : Fin 1 → Nat :=
  let c0_i32_61_r0 : BitVec 32 := 0#32
  let c1_i32_62_r0 : BitVec 32 := 1#32
  let v63_r0 : BitVec 32 := Scalar.addi c0_i32_61_r0 c1_i32_62_r0
  let c3_i32_175_r0 : BitVec 32 := 3#32
  let v194_r0 : BitVec 32 := Scalar.remui v63_r0 c3_i32_175_r0
  ![v194_r0.toNat]
def k0_off6 : Fin 4 → Nat :=
  let c0_i32_61_r0 : BitVec 32 := 0#32
  let c1_i32_62_r0 : BitVec 32 := 1#32
  let v63_r0 : BitVec 32 := Scalar.addi c0_i32_61_r0 c1_i32_62_r0
  let c3_i32_175_r0 : BitVec 32 := 3#32
  let v194_r0 : BitVec 32 := Scalar.remui v63_r0 c3_i32_175_r0
  let c0_i32_177_r0 : BitVec 32 := 0#32
  let c0_i32_178_r0 : BitVec 32 := 0#32
  let c0_i32_179_r0 : BitVec 32 := 0#32
  ![v194_r0.toNat, 0, 0, 0]
def k0_off7 : Fin 3 → Nat :=
  let c1_i32_176_r0 : BitVec 32 := 1#32
  let true_13_r0 : BitVec 1 := 1#1
  let c1_i32_15_r0 : BitVec 32 := 1#32
  let c0_i32_14_r0 : BitVec 32 := 0#32
  let v15_r0 : BitVec 32 := Scalar.select true_13_r0 c1_i32_15_r0 c0_i32_14_r0
  let c4_i32_r0 : BitVec 32 := 4#32
  let v16_r0 : BitVec 1 := Scalar.cmpi .eq v15_r0 c4_i32_r0
  let c1_i32_18_r0 : BitVec 32 := 1#32
  let c0_i32_17_r0 : BitVec 32 := 0#32
  let v18_r0 : BitVec 32 := Scalar.select v16_r0 c1_i32_18_r0 c0_i32_17_r0
  let c2_i32_r0 : BitVec 32 := 2#32
  let v19_r0 : BitVec 1 := Scalar.cmpi .eq v18_r0 c2_i32_r0
  let c0_i32_19_r0 : BitVec 32 := 0#32
  let v20_r0 : BitVec 32 := Scalar.select v19_r0 c0_i32_19_r0 v18_r0
  let c0_i32_25_r0 : BitVec 32 := 0#32
  let v25_r0 : BitVec 32 := Scalar.addi v20_r0 c0_i32_25_r0
  let v195_r0 : BitVec 32 := Scalar.muli c1_i32_176_r0 v25_r0
  let c1024_i32_r0 : BitVec 32 := 1024#32
  let c0_i32_16_r0 : BitVec 32 := 0#32
  let v17_r0 : BitVec 32 := Scalar.select v16_r0 c0_i32_16_r0 v15_r0
  let c0_i32_26_r0 : BitVec 32 := 0#32
  let v26_r0 : BitVec 32 := Scalar.addi v17_r0 c0_i32_26_r0
  let v196_r0 : BitVec 32 := Scalar.muli c1024_i32_r0 v26_r0
  let c0_i32_180_r0 : BitVec 32 := 0#32
  ![v195_r0.toNat, v196_r0.toNat, 0]
@[reducible] def k0_t1_loop : Scf.Loop 32 :=
  let c0_i32_83_r0 : BitVec 32 := 0#32
  let c16_i32_r0 : BitVec 32 := 16#32
  let v80_r0 : BitVec 32 := Scalar.addi c0_i32_83_r0 c16_i32_r0
  let c1_i32_84_r0 : BitVec 32 := 1#32
  ⟨c0_i32_83_r0, v80_r0, c1_i32_84_r0⟩
def k0_off8 (arg6_r0 : BitVec 32) : Fin 1 → Nat :=
  let c3_i32_831_r0 : BitVec 32 := 3#32
  let v780_r0 : BitVec 32 := Scalar.remui arg6_r0 c3_i32_831_r0
  ![v780_r0.toNat]
def k0_cond2 (k0_t1 : Fin k0_t1_loop.trips) (arg13_r0 : BitVec 32) (arg14_r0 : BitVec 32) : BitVec 1 :=
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c0_i32_203_r0 : BitVec 32 := 0#32
  let v227_r0 : BitVec 32 := Scalar.addi v221_r0 c0_i32_203_r0
  let true_206_r0 : BitVec 1 := 1#1
  let c0_i32_195_r0 : BitVec 32 := 0#32
  let v217_r0 : BitVec 32 := Scalar.select v216_r0 c0_i32_195_r0 v215_r0
  let c1_i32_205_r0 : BitVec 32 := 1#32
  let v229_r0 : BitVec 32 := Scalar.addi v217_r0 c1_i32_205_r0
  let v230_r0 : BitVec 32 := Scalar.select true_206_r0 v229_r0 v217_r0
  let c4_i32_207_r0 : BitVec 32 := 4#32
  let v231_r0 : BitVec 1 := Scalar.cmpi .eq v230_r0 c4_i32_207_r0
  let c1_i32_209_r0 : BitVec 32 := 1#32
  let v233_r0 : BitVec 32 := Scalar.addi v221_r0 c1_i32_209_r0
  let v234_r0 : BitVec 32 := Scalar.select v231_r0 v233_r0 v221_r0
  let c2_i32_210_r0 : BitVec 32 := 2#32
  let v235_r0 : BitVec 1 := Scalar.cmpi .eq v234_r0 c2_i32_210_r0
  let c0_i32_211_r0 : BitVec 32 := 0#32
  let v236_r0 : BitVec 32 := Scalar.select v235_r0 c0_i32_211_r0 v234_r0
  let c0_i32_216_r0 : BitVec 32 := 0#32
  let v242_r0 : BitVec 32 := Scalar.addi v236_r0 c0_i32_216_r0
  let v259_r0 : BitVec 1 := Scalar.cmpi .ne v227_r0 v242_r0
  let c0_i32_204_r0 : BitVec 32 := 0#32
  let v228_r0 : BitVec 32 := Scalar.addi v217_r0 c0_i32_204_r0
  let c0_i32_208_r0 : BitVec 32 := 0#32
  let v232_r0 : BitVec 32 := Scalar.select v231_r0 c0_i32_208_r0 v230_r0
  let c0_i32_217_r0 : BitVec 32 := 0#32
  let v243_r0 : BitVec 32 := Scalar.addi v232_r0 c0_i32_217_r0
  let v260_r0 : BitVec 1 := Scalar.cmpi .ne v228_r0 v243_r0
  let v261_r0 : BitVec 1 := Scalar.ori v259_r0 v260_r0
  let c0_i32_83_r0 : BitVec 32 := 0#32
  let c1_i32_84_r0 : BitVec 32 := 1#32
  let arg5_r0 : BitVec 32 := Scf.iv c0_i32_83_r0 c1_i32_84_r0 k0_t1
  let c14_i32_r0 : BitVec 32 := 14#32
  let v262_r0 : BitVec 1 := Scalar.cmpi .sge arg5_r0 c14_i32_r0
  let true_231_r0 : BitVec 1 := 1#1
  let v263_r0 : BitVec 1 := Scalar.xori v262_r0 true_231_r0
  let v264_r0 : BitVec 1 := Scalar.andi v261_r0 v263_r0
  let true_232_r0 : BitVec 1 := 1#1
  let v265_r0 : BitVec 1 := Scalar.andi v264_r0 true_232_r0
  let v266_r0 : BitVec 32 := Scalar.extui v265_r0
  let c0_i32_233_r0 : BitVec 32 := 0#32
  let v267_r0 : BitVec 1 := Scalar.cmpi .ne v266_r0 c0_i32_233_r0
  v267_r0

def k0_off9 (arg6_r0 : BitVec 32) : Fin 4 → Nat :=
  let c3_i32_831_r0 : BitVec 32 := 3#32
  let v780_r0 : BitVec 32 := Scalar.remui arg6_r0 c3_i32_831_r0
  let c0_i32_833_r0 : BitVec 32 := 0#32
  let c0_i32_834_r0 : BitVec 32 := 0#32
  let c0_i32_835_r0 : BitVec 32 := 0#32
  ![v780_r0.toNat, 0, 0, 0]
def k0_off10 (arg13_r0 : BitVec 32) (arg14_r0 : BitVec 32) : Fin 3 → Nat :=
  let c1_i32_832_r0 : BitVec 32 := 1#32
  let true_206_r0 : BitVec 1 := 1#1
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c0_i32_195_r0 : BitVec 32 := 0#32
  let v217_r0 : BitVec 32 := Scalar.select v216_r0 c0_i32_195_r0 v215_r0
  let c1_i32_205_r0 : BitVec 32 := 1#32
  let v229_r0 : BitVec 32 := Scalar.addi v217_r0 c1_i32_205_r0
  let v230_r0 : BitVec 32 := Scalar.select true_206_r0 v229_r0 v217_r0
  let c4_i32_207_r0 : BitVec 32 := 4#32
  let v231_r0 : BitVec 1 := Scalar.cmpi .eq v230_r0 c4_i32_207_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c1_i32_209_r0 : BitVec 32 := 1#32
  let v233_r0 : BitVec 32 := Scalar.addi v221_r0 c1_i32_209_r0
  let v234_r0 : BitVec 32 := Scalar.select v231_r0 v233_r0 v221_r0
  let c2_i32_210_r0 : BitVec 32 := 2#32
  let v235_r0 : BitVec 1 := Scalar.cmpi .eq v234_r0 c2_i32_210_r0
  let c0_i32_211_r0 : BitVec 32 := 0#32
  let v236_r0 : BitVec 32 := Scalar.select v235_r0 c0_i32_211_r0 v234_r0
  let c0_i32_216_r0 : BitVec 32 := 0#32
  let v242_r0 : BitVec 32 := Scalar.addi v236_r0 c0_i32_216_r0
  let v781_r0 : BitVec 32 := Scalar.muli c1_i32_832_r0 v242_r0
  let c1024_i32_r0 : BitVec 32 := 1024#32
  let c0_i32_208_r0 : BitVec 32 := 0#32
  let v232_r0 : BitVec 32 := Scalar.select v231_r0 c0_i32_208_r0 v230_r0
  let c0_i32_217_r0 : BitVec 32 := 0#32
  let v243_r0 : BitVec 32 := Scalar.addi v232_r0 c0_i32_217_r0
  let v782_r0 : BitVec 32 := Scalar.muli c1024_i32_r0 v243_r0
  let c0_i32_836_r0 : BitVec 32 := 0#32
  ![v781_r0.toNat, v782_r0.toNat, 0]
def k0_off11 (arg8_r0 : BitVec 32) : Fin 1 → Nat :=
  let c2_i32_831_r0 : BitVec 32 := 2#32
  let v780_r0 : BitVec 32 := Scalar.remui arg8_r0 c2_i32_831_r0
  ![v780_r0.toNat]
def k0_cond3 (k0_t1 : Fin k0_t1_loop.trips) (arg12_r0 : BitVec 32) (arg13_r0 : BitVec 32) (arg14_r0 : BitVec 32) : BitVec 1 :=
  let c2_i32_236_r0 : BitVec 32 := 2#32
  let c0_i32_176_r0 : BitVec 32 := 0#32
  let v196_r0 : BitVec 32 := Scalar.addi arg12_r0 c0_i32_176_r0
  let v271_r0 : BitVec 32 := Scalar.addi c2_i32_236_r0 v196_r0
  let c2_i32_237_r0 : BitVec 32 := 2#32
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c1_i32_199_r0 : BitVec 32 := 1#32
  let v222_r0 : BitVec 32 := Scalar.addi arg12_r0 c1_i32_199_r0
  let v223_r0 : BitVec 32 := Scalar.select v220_r0 v222_r0 arg12_r0
  let c2_i32_200_r0 : BitVec 32 := 2#32
  let v224_r0 : BitVec 1 := Scalar.cmpi .eq v223_r0 c2_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let v272_r0 : BitVec 32 := Scalar.addi c2_i32_237_r0 v226_r0
  let v273_r0 : BitVec 1 := Scalar.cmpi .ne v271_r0 v272_r0
  let c0_i32_83_r0 : BitVec 32 := 0#32
  let c1_i32_84_r0 : BitVec 32 := 1#32
  let arg5_r0 : BitVec 32 := Scf.iv c0_i32_83_r0 c1_i32_84_r0 k0_t1
  let c15_i32_238_r0 : BitVec 32 := 15#32
  let v274_r0 : BitVec 1 := Scalar.cmpi .sge arg5_r0 c15_i32_238_r0
  let true_239_r0 : BitVec 1 := 1#1
  let v275_r0 : BitVec 1 := Scalar.xori v274_r0 true_239_r0
  let v276_r0 : BitVec 1 := Scalar.andi v273_r0 v275_r0
  let true_240_r0 : BitVec 1 := 1#1
  let v277_r0 : BitVec 1 := Scalar.andi v276_r0 true_240_r0
  let v278_r0 : BitVec 32 := Scalar.extui v277_r0
  let c0_i32_241_r0 : BitVec 32 := 0#32
  let v279_r0 : BitVec 1 := Scalar.cmpi .ne v278_r0 c0_i32_241_r0
  v279_r0

def k0_off12 (arg8_r0 : BitVec 32) : Fin 3 → Nat :=
  let c2_i32_831_r0 : BitVec 32 := 2#32
  let v780_r0 : BitVec 32 := Scalar.remui arg8_r0 c2_i32_831_r0
  let c0_i32_833_r0 : BitVec 32 := 0#32
  let c0_i32_834_r0 : BitVec 32 := 0#32
  ![v780_r0.toNat, 0, 0]
def k0_off13 (arg12_r0 : BitVec 32) (arg13_r0 : BitVec 32) (arg14_r0 : BitVec 32) : Fin 2 → Nat :=
  let c0_i32_835_r0 : BitVec 32 := 0#32
  let c1024_i32_r0 : BitVec 32 := 1024#32
  let c2_i32_832_r0 : BitVec 32 := 2#32
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c1_i32_199_r0 : BitVec 32 := 1#32
  let v222_r0 : BitVec 32 := Scalar.addi arg12_r0 c1_i32_199_r0
  let v223_r0 : BitVec 32 := Scalar.select v220_r0 v222_r0 arg12_r0
  let c2_i32_200_r0 : BitVec 32 := 2#32
  let v224_r0 : BitVec 1 := Scalar.cmpi .eq v223_r0 c2_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let v781_r0 : BitVec 32 := Scalar.addi c2_i32_832_r0 v226_r0
  let v782_r0 : BitVec 32 := Scalar.muli c1024_i32_r0 v781_r0
  ![0, v782_r0.toNat]
def k0_off14 (arg7_r0 : BitVec 32) : Fin 1 → Nat :=
  let c3_i32_832_r0 : BitVec 32 := 3#32
  let v782_r0 : BitVec 32 := Scalar.remui arg7_r0 c3_i32_832_r0
  ![v782_r0.toNat]
def k0_cond4 (k0_t1 : Fin k0_t1_loop.trips) (arg13_r0 : BitVec 32) (arg14_r0 : BitVec 32) : BitVec 1 :=
  let c0_i32_177_r0 : BitVec 32 := 0#32
  let v197_r0 : BitVec 32 := Scalar.addi arg13_r0 c0_i32_177_r0
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v347_r0 : BitVec 1 := Scalar.cmpi .ne v197_r0 v212_r0
  let c0_i32_178_r0 : BitVec 32 := 0#32
  let v198_r0 : BitVec 32 := Scalar.addi arg14_r0 c0_i32_178_r0
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v348_r0 : BitVec 1 := Scalar.cmpi .ne v198_r0 v213_r0
  let v349_r0 : BitVec 1 := Scalar.ori v347_r0 v348_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let v350_r0 : BitVec 1 := Scalar.ori v349_r0 v194_r0
  let c0_i32_272_r0 : BitVec 32 := 0#32
  let v351_r0 : BitVec 1 := Scalar.cmpi .sge arg5_r0 c0_i32_272_r0
  let v352_r0 : BitVec 1 := Scalar.andi v350_r0 v351_r0
  let v353_r0 : BitVec 32 := Scalar.extui v352_r0
  let c0_i32_273_r0 : BitVec 32 := 0#32
  let v354_r0 : BitVec 1 := Scalar.cmpi .ne v353_r0 c0_i32_273_r0
  v354_r0

def k0_off15 (arg7_r0 : BitVec 32) : Fin 4 → Nat :=
  let c3_i32_832_r0 : BitVec 32 := 3#32
  let v782_r0 : BitVec 32 := Scalar.remui arg7_r0 c3_i32_832_r0
  let c0_i32_833_r0 : BitVec 32 := 0#32
  let c0_i32_834_r0 : BitVec 32 := 0#32
  let c0_i32_835_r0 : BitVec 32 := 0#32
  ![v782_r0.toNat, 0, 0, 0]
def k0_off16 (arg13_r0 : BitVec 32) (arg14_r0 : BitVec 32) : Fin 3 → Nat :=
  let c1_i32_831_r0 : BitVec 32 := 1#32
  let c0_i32_177_r0 : BitVec 32 := 0#32
  let v197_r0 : BitVec 32 := Scalar.addi arg13_r0 c0_i32_177_r0
  let v780_r0 : BitVec 32 := Scalar.muli c1_i32_831_r0 v197_r0
  let c1024_i32_r0 : BitVec 32 := 1024#32
  let c0_i32_178_r0 : BitVec 32 := 0#32
  let v198_r0 : BitVec 32 := Scalar.addi arg14_r0 c0_i32_178_r0
  let v781_r0 : BitVec 32 := Scalar.muli c1024_i32_r0 v198_r0
  let c0_i32_836_r0 : BitVec 32 := 0#32
  ![v780_r0.toNat, v781_r0.toNat, 0]
def k0_off17 (arg9_r0 : BitVec 32) : Fin 1 → Nat :=
  let c2_i32_832_r0 : BitVec 32 := 2#32
  let v782_r0 : BitVec 32 := Scalar.remui arg9_r0 c2_i32_832_r0
  ![v782_r0.toNat]
def k0_cond5 (k0_t1 : Fin k0_t1_loop.trips) (arg12_r0 : BitVec 32) (arg13_r0 : BitVec 32) (arg14_r0 : BitVec 32) : BitVec 1 :=
  let c2_i32_236_r0 : BitVec 32 := 2#32
  let c0_i32_176_r0 : BitVec 32 := 0#32
  let v196_r0 : BitVec 32 := Scalar.addi arg12_r0 c0_i32_176_r0
  let v271_r0 : BitVec 32 := Scalar.addi c2_i32_236_r0 v196_r0
  let c2_i32_274_r0 : BitVec 32 := 2#32
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c1_i32_188_r0 : BitVec 32 := 1#32
  let v210_r0 : BitVec 32 := Scalar.select v209_r0 c1_i32_188_r0 v208_r0
  let c0_i32_189_r0 : BitVec 32 := 0#32
  let v211_r0 : BitVec 32 := Scalar.addi v210_r0 c0_i32_189_r0
  let v355_r0 : BitVec 32 := Scalar.addi c2_i32_274_r0 v211_r0
  let v356_r0 : BitVec 1 := Scalar.cmpi .ne v271_r0 v355_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let v357_r0 : BitVec 1 := Scalar.ori v356_r0 v194_r0
  let c0_i32_275_r0 : BitVec 32 := 0#32
  let v358_r0 : BitVec 1 := Scalar.cmpi .sge arg5_r0 c0_i32_275_r0
  let v359_r0 : BitVec 1 := Scalar.andi v357_r0 v358_r0
  let v360_r0 : BitVec 32 := Scalar.extui v359_r0
  let c0_i32_276_r0 : BitVec 32 := 0#32
  let v361_r0 : BitVec 1 := Scalar.cmpi .ne v360_r0 c0_i32_276_r0
  v361_r0

def k0_off18 (arg9_r0 : BitVec 32) : Fin 3 → Nat :=
  let c2_i32_832_r0 : BitVec 32 := 2#32
  let v782_r0 : BitVec 32 := Scalar.remui arg9_r0 c2_i32_832_r0
  let c0_i32_833_r0 : BitVec 32 := 0#32
  let c0_i32_834_r0 : BitVec 32 := 0#32
  ![v782_r0.toNat, 0, 0]
def k0_off19 (arg12_r0 : BitVec 32) : Fin 2 → Nat :=
  let c0_i32_835_r0 : BitVec 32 := 0#32
  let c1024_i32_r0 : BitVec 32 := 1024#32
  let c2_i32_831_r0 : BitVec 32 := 2#32
  let c0_i32_176_r0 : BitVec 32 := 0#32
  let v196_r0 : BitVec 32 := Scalar.addi arg12_r0 c0_i32_176_r0
  let v780_r0 : BitVec 32 := Scalar.addi c2_i32_831_r0 v196_r0
  let v781_r0 : BitVec 32 := Scalar.muli c1024_i32_r0 v780_r0
  ![0, v781_r0.toNat]
def k0_off20 (arg9_r0 : BitVec 32) : Fin 3 → Nat :=
  let c2_i32_293_r0 : BitVec 32 := 2#32
  let v402_r0 : BitVec 32 := Scalar.remui arg9_r0 c2_i32_293_r0
  let v780_r0 : Index := Scalar.indexCast v402_r0
  let c0_831_r0 : Index := 0#32
  let c0_832_r0 : Index := 0#32
  ![v780_r0.toNat, 0, 0]
def k0_cond7 (arg13_r0 : BitVec 32) (arg14_r0 : BitVec 32) : BitVec 1 :=
  let c0_i32_177_r0 : BitVec 32 := 0#32
  let v197_r0 : BitVec 32 := Scalar.addi arg13_r0 c0_i32_177_r0
  let c0_i32_295_r0 : BitVec 32 := 0#32
  let v404_r0 : BitVec 1 := Scalar.cmpi .eq v197_r0 c0_i32_295_r0
  let c0_i32_178_r0 : BitVec 32 := 0#32
  let v198_r0 : BitVec 32 := Scalar.addi arg14_r0 c0_i32_178_r0
  let c0_i32_296_r0 : BitVec 32 := 0#32
  let v405_r0 : BitVec 1 := Scalar.cmpi .eq v198_r0 c0_i32_296_r0
  let v406_r0 : BitVec 1 := Scalar.andi v404_r0 v405_r0
  let v407_r0 : BitVec 32 := Scalar.extui v406_r0
  let c0_i32_297_r0 : BitVec 32 := 0#32
  let v408_r0 : BitVec 1 := Scalar.cmpi .ne v407_r0 c0_i32_297_r0
  v408_r0

def k0_off21 (arg7_r0 : BitVec 32) : Fin 4 → Nat :=
  let c3_i32_292_r0 : BitVec 32 := 3#32
  let v401_r0 : BitVec 32 := Scalar.remui arg7_r0 c3_i32_292_r0
  let c0_i32_298_r0 : BitVec 32 := 0#32
  let c0_i32_299_r0 : BitVec 32 := 0#32
  let c0_i32_300_r0 : BitVec 32 := 0#32
  ![v401_r0.toNat, 0, 0, 0]

def k0_chk2 (arg7_r0 : BitVec 32) : Prop :=
  (∀ a, (k0_off21 arg7_r0) a + S1x1x1024x2048.size a ≤ S3x1x1024x2048.size a)
theorem k0_off21_inb : ∀ (arg7_r0 : BitVec 32) (k0_hw2 : k0_chk2 arg7_r0), ∀ a, (k0_off21 arg7_r0) a + S1x1x1024x2048.size a ≤ S3x1x1024x2048.size a := fun arg7_r0 k0_hw2 => k0_hw2

def k0_off22 (arg10_r0 : BitVec 32) : Fin 7 → Nat :=
  let c2_i32_294_r0 : BitVec 32 := 2#32
  let v403_r0 : BitVec 32 := Scalar.remui arg10_r0 c2_i32_294_r0
  let c0_i32_326_r0 : BitVec 32 := 0#32
  let c0_i32_327_r0 : BitVec 32 := 0#32
  let c0_i32_328_r0 : BitVec 32 := 0#32
  let c0_i32_329_r0 : BitVec 32 := 0#32
  let c0_i32_330_r0 : BitVec 32 := 0#32
  let c0_i32_331_r0 : BitVec 32 := 0#32
  ![v403_r0.toNat, 0, 0, 0, 0, 0, 0]

def k0_off23 (arg10_r0 : BitVec 32) : Fin 7 → Nat :=
  let c2_i32_294_r0 : BitVec 32 := 2#32
  let v403_r0 : BitVec 32 := Scalar.remui arg10_r0 c2_i32_294_r0
  let c0_i32_326_r0 : BitVec 32 := 0#32
  let c0_i32_327_r0 : BitVec 32 := 0#32
  let c0_i32_328_r0 : BitVec 32 := 0#32
  let c0_i32_329_r0 : BitVec 32 := 0#32
  let c0_i32_330_r0 : BitVec 32 := 0#32
  let c0_i32_331_r0 : BitVec 32 := 0#32
  ![v403_r0.toNat, 0, 0, 0, 0, 0, 0]
def k0_off24 (arg10_r0 : BitVec 32) : Fin 7 → Nat :=
  let c2_i32_294_r0 : BitVec 32 := 2#32
  let v403_r0 : BitVec 32 := Scalar.remui arg10_r0 c2_i32_294_r0
  let c0_i32_341_r0 : BitVec 32 := 0#32
  let c0_i32_342_r0 : BitVec 32 := 0#32
  let c0_i32_343_r0 : BitVec 32 := 0#32
  let c0_i32_345_r0 : BitVec 32 := 0#32
  let c0_i32_346_r0 : BitVec 32 := 0#32
  ![v403_r0.toNat, 0, 0, 0, 1, 0, 0]
def k0_off25 (arg10_r0 : BitVec 32) : Fin 7 → Nat :=
  let c2_i32_294_r0 : BitVec 32 := 2#32
  let v403_r0 : BitVec 32 := Scalar.remui arg10_r0 c2_i32_294_r0
  let c0_i32_356_r0 : BitVec 32 := 0#32
  let c0_i32_357_r0 : BitVec 32 := 0#32
  let c0_i32_358_r0 : BitVec 32 := 0#32
  let c0_i32_360_r0 : BitVec 32 := 0#32
  let c0_i32_361_r0 : BitVec 32 := 0#32
  ![v403_r0.toNat, 0, 0, 0, 2, 0, 0]
def k0_off26 (arg10_r0 : BitVec 32) : Fin 7 → Nat :=
  let c2_i32_294_r0 : BitVec 32 := 2#32
  let v403_r0 : BitVec 32 := Scalar.remui arg10_r0 c2_i32_294_r0
  let c0_i32_371_r0 : BitVec 32 := 0#32
  let c0_i32_372_r0 : BitVec 32 := 0#32
  let c0_i32_373_r0 : BitVec 32 := 0#32
  let c0_i32_375_r0 : BitVec 32 := 0#32
  let c0_i32_376_r0 : BitVec 32 := 0#32
  ![v403_r0.toNat, 0, 0, 0, 3, 0, 0]
def k0_off27 (arg10_r0 : BitVec 32) : Fin 7 → Nat :=
  let c2_i32_294_r0 : BitVec 32 := 2#32
  let v403_r0 : BitVec 32 := Scalar.remui arg10_r0 c2_i32_294_r0
  let c0_i32_386_r0 : BitVec 32 := 0#32
  let c0_i32_388_r0 : BitVec 32 := 0#32
  let c0_i32_389_r0 : BitVec 32 := 0#32
  let c0_i32_390_r0 : BitVec 32 := 0#32
  let c0_i32_391_r0 : BitVec 32 := 0#32
  ![v403_r0.toNat, 0, 1, 0, 0, 0, 0]
def k0_off28 (arg10_r0 : BitVec 32) : Fin 7 → Nat :=
  let c2_i32_294_r0 : BitVec 32 := 2#32
  let v403_r0 : BitVec 32 := Scalar.remui arg10_r0 c2_i32_294_r0
  let c0_i32_401_r0 : BitVec 32 := 0#32
  let c0_i32_403_r0 : BitVec 32 := 0#32
  let c0_i32_405_r0 : BitVec 32 := 0#32
  let c0_i32_406_r0 : BitVec 32 := 0#32
  ![v403_r0.toNat, 0, 1, 0, 1, 0, 0]
def k0_off29 (arg10_r0 : BitVec 32) : Fin 7 → Nat :=
  let c2_i32_294_r0 : BitVec 32 := 2#32
  let v403_r0 : BitVec 32 := Scalar.remui arg10_r0 c2_i32_294_r0
  let c0_i32_416_r0 : BitVec 32 := 0#32
  let c0_i32_418_r0 : BitVec 32 := 0#32
  let c0_i32_420_r0 : BitVec 32 := 0#32
  let c0_i32_421_r0 : BitVec 32 := 0#32
  ![v403_r0.toNat, 0, 1, 0, 2, 0, 0]
def k0_off30 (arg10_r0 : BitVec 32) : Fin 7 → Nat :=
  let c2_i32_294_r0 : BitVec 32 := 2#32
  let v403_r0 : BitVec 32 := Scalar.remui arg10_r0 c2_i32_294_r0
  let c0_i32_431_r0 : BitVec 32 := 0#32
  let c0_i32_433_r0 : BitVec 32 := 0#32
  let c0_i32_435_r0 : BitVec 32 := 0#32
  let c0_i32_436_r0 : BitVec 32 := 0#32
  ![v403_r0.toNat, 0, 1, 0, 3, 0, 0]
def k0_off31 (arg10_r0 : BitVec 32) : Fin 7 → Nat :=
  let c2_i32_294_r0 : BitVec 32 := 2#32
  let v403_r0 : BitVec 32 := Scalar.remui arg10_r0 c2_i32_294_r0
  let c0_i32_446_r0 : BitVec 32 := 0#32
  let c0_i32_448_r0 : BitVec 32 := 0#32
  let c0_i32_449_r0 : BitVec 32 := 0#32
  let c0_i32_450_r0 : BitVec 32 := 0#32
  let c0_i32_451_r0 : BitVec 32 := 0#32
  ![v403_r0.toNat, 0, 2, 0, 0, 0, 0]
def k0_off32 (arg10_r0 : BitVec 32) : Fin 7 → Nat :=
  let c2_i32_294_r0 : BitVec 32 := 2#32
  let v403_r0 : BitVec 32 := Scalar.remui arg10_r0 c2_i32_294_r0
  let c0_i32_461_r0 : BitVec 32 := 0#32
  let c0_i32_463_r0 : BitVec 32 := 0#32
  let c0_i32_465_r0 : BitVec 32 := 0#32
  let c0_i32_466_r0 : BitVec 32 := 0#32
  ![v403_r0.toNat, 0, 2, 0, 1, 0, 0]
def k0_off33 (arg10_r0 : BitVec 32) : Fin 7 → Nat :=
  let c2_i32_294_r0 : BitVec 32 := 2#32
  let v403_r0 : BitVec 32 := Scalar.remui arg10_r0 c2_i32_294_r0
  let c0_i32_476_r0 : BitVec 32 := 0#32
  let c0_i32_478_r0 : BitVec 32 := 0#32
  let c0_i32_480_r0 : BitVec 32 := 0#32
  let c0_i32_481_r0 : BitVec 32 := 0#32
  ![v403_r0.toNat, 0, 2, 0, 2, 0, 0]
def k0_off34 (arg10_r0 : BitVec 32) : Fin 7 → Nat :=
  let c2_i32_294_r0 : BitVec 32 := 2#32
  let v403_r0 : BitVec 32 := Scalar.remui arg10_r0 c2_i32_294_r0
  let c0_i32_491_r0 : BitVec 32 := 0#32
  let c0_i32_493_r0 : BitVec 32 := 0#32
  let c0_i32_495_r0 : BitVec 32 := 0#32
  let c0_i32_496_r0 : BitVec 32 := 0#32
  ![v403_r0.toNat, 0, 2, 0, 3, 0, 0]
def k0_off35 (arg10_r0 : BitVec 32) : Fin 7 → Nat :=
  let c2_i32_294_r0 : BitVec 32 := 2#32
  let v403_r0 : BitVec 32 := Scalar.remui arg10_r0 c2_i32_294_r0
  let c0_i32_506_r0 : BitVec 32 := 0#32
  let c0_i32_508_r0 : BitVec 32 := 0#32
  let c0_i32_509_r0 : BitVec 32 := 0#32
  let c0_i32_510_r0 : BitVec 32 := 0#32
  let c0_i32_511_r0 : BitVec 32 := 0#32
  ![v403_r0.toNat, 0, 3, 0, 0, 0, 0]
def k0_off36 (arg10_r0 : BitVec 32) : Fin 7 → Nat :=
  let c2_i32_294_r0 : BitVec 32 := 2#32
  let v403_r0 : BitVec 32 := Scalar.remui arg10_r0 c2_i32_294_r0
  let c0_i32_521_r0 : BitVec 32 := 0#32
  let c0_i32_523_r0 : BitVec 32 := 0#32
  let c0_i32_525_r0 : BitVec 32 := 0#32
  let c0_i32_526_r0 : BitVec 32 := 0#32
  ![v403_r0.toNat, 0, 3, 0, 1, 0, 0]
def k0_off37 (arg10_r0 : BitVec 32) : Fin 7 → Nat :=
  let c2_i32_294_r0 : BitVec 32 := 2#32
  let v403_r0 : BitVec 32 := Scalar.remui arg10_r0 c2_i32_294_r0
  let c0_i32_536_r0 : BitVec 32 := 0#32
  let c0_i32_538_r0 : BitVec 32 := 0#32
  let c0_i32_540_r0 : BitVec 32 := 0#32
  let c0_i32_541_r0 : BitVec 32 := 0#32
  ![v403_r0.toNat, 0, 3, 0, 2, 0, 0]
def k0_off38 (arg10_r0 : BitVec 32) : Fin 7 → Nat :=
  let c2_i32_294_r0 : BitVec 32 := 2#32
  let v403_r0 : BitVec 32 := Scalar.remui arg10_r0 c2_i32_294_r0
  let c0_i32_551_r0 : BitVec 32 := 0#32
  let c0_i32_553_r0 : BitVec 32 := 0#32
  let c0_i32_555_r0 : BitVec 32 := 0#32
  let c0_i32_556_r0 : BitVec 32 := 0#32
  ![v403_r0.toNat, 0, 3, 0, 3, 0, 0]
def k0_off39 (arg10_r0 : BitVec 32) : Fin 7 → Nat :=
  let c2_i32_294_r0 : BitVec 32 := 2#32
  let v403_r0 : BitVec 32 := Scalar.remui arg10_r0 c2_i32_294_r0
  let c0_i32_566_r0 : BitVec 32 := 0#32
  let c0_i32_568_r0 : BitVec 32 := 0#32
  let c0_i32_569_r0 : BitVec 32 := 0#32
  let c0_i32_570_r0 : BitVec 32 := 0#32
  let c0_i32_571_r0 : BitVec 32 := 0#32
  ![v403_r0.toNat, 0, 4, 0, 0, 0, 0]
def k0_off40 (arg10_r0 : BitVec 32) : Fin 7 → Nat :=
  let c2_i32_294_r0 : BitVec 32 := 2#32
  let v403_r0 : BitVec 32 := Scalar.remui arg10_r0 c2_i32_294_r0
  let c0_i32_581_r0 : BitVec 32 := 0#32
  let c0_i32_583_r0 : BitVec 32 := 0#32
  let c0_i32_585_r0 : BitVec 32 := 0#32
  let c0_i32_586_r0 : BitVec 32 := 0#32
  ![v403_r0.toNat, 0, 4, 0, 1, 0, 0]
def k0_off41 (arg10_r0 : BitVec 32) : Fin 7 → Nat :=
  let c2_i32_294_r0 : BitVec 32 := 2#32
  let v403_r0 : BitVec 32 := Scalar.remui arg10_r0 c2_i32_294_r0
  let c0_i32_596_r0 : BitVec 32 := 0#32
  let c0_i32_598_r0 : BitVec 32 := 0#32
  let c0_i32_600_r0 : BitVec 32 := 0#32
  let c0_i32_601_r0 : BitVec 32 := 0#32
  ![v403_r0.toNat, 0, 4, 0, 2, 0, 0]
def k0_off42 (arg10_r0 : BitVec 32) : Fin 7 → Nat :=
  let c2_i32_294_r0 : BitVec 32 := 2#32
  let v403_r0 : BitVec 32 := Scalar.remui arg10_r0 c2_i32_294_r0
  let c0_i32_611_r0 : BitVec 32 := 0#32
  let c0_i32_613_r0 : BitVec 32 := 0#32
  let c0_i32_615_r0 : BitVec 32 := 0#32
  let c0_i32_616_r0 : BitVec 32 := 0#32
  ![v403_r0.toNat, 0, 4, 0, 3, 0, 0]
def k0_off43 (arg10_r0 : BitVec 32) : Fin 7 → Nat :=
  let c2_i32_294_r0 : BitVec 32 := 2#32
  let v403_r0 : BitVec 32 := Scalar.remui arg10_r0 c2_i32_294_r0
  let c0_i32_626_r0 : BitVec 32 := 0#32
  let c0_i32_628_r0 : BitVec 32 := 0#32
  let c0_i32_629_r0 : BitVec 32 := 0#32
  let c0_i32_630_r0 : BitVec 32 := 0#32
  let c0_i32_631_r0 : BitVec 32 := 0#32
  ![v403_r0.toNat, 0, 5, 0, 0, 0, 0]
def k0_off44 (arg10_r0 : BitVec 32) : Fin 7 → Nat :=
  let c2_i32_294_r0 : BitVec 32 := 2#32
  let v403_r0 : BitVec 32 := Scalar.remui arg10_r0 c2_i32_294_r0
  let c0_i32_641_r0 : BitVec 32 := 0#32
  let c0_i32_643_r0 : BitVec 32 := 0#32
  let c0_i32_645_r0 : BitVec 32 := 0#32
  let c0_i32_646_r0 : BitVec 32 := 0#32
  ![v403_r0.toNat, 0, 5, 0, 1, 0, 0]
def k0_off45 (arg10_r0 : BitVec 32) : Fin 7 → Nat :=
  let c2_i32_294_r0 : BitVec 32 := 2#32
  let v403_r0 : BitVec 32 := Scalar.remui arg10_r0 c2_i32_294_r0
  let c0_i32_656_r0 : BitVec 32 := 0#32
  let c0_i32_658_r0 : BitVec 32 := 0#32
  let c0_i32_660_r0 : BitVec 32 := 0#32
  let c0_i32_661_r0 : BitVec 32 := 0#32
  ![v403_r0.toNat, 0, 5, 0, 2, 0, 0]
def k0_off46 (arg10_r0 : BitVec 32) : Fin 7 → Nat :=
  let c2_i32_294_r0 : BitVec 32 := 2#32
  let v403_r0 : BitVec 32 := Scalar.remui arg10_r0 c2_i32_294_r0
  let c0_i32_671_r0 : BitVec 32 := 0#32
  let c0_i32_673_r0 : BitVec 32 := 0#32
  let c0_i32_675_r0 : BitVec 32 := 0#32
  let c0_i32_676_r0 : BitVec 32 := 0#32
  ![v403_r0.toNat, 0, 5, 0, 3, 0, 0]
def k0_off47 (arg10_r0 : BitVec 32) : Fin 7 → Nat :=
  let c2_i32_294_r0 : BitVec 32 := 2#32
  let v403_r0 : BitVec 32 := Scalar.remui arg10_r0 c2_i32_294_r0
  let c0_i32_686_r0 : BitVec 32 := 0#32
  let c0_i32_688_r0 : BitVec 32 := 0#32
  let c0_i32_689_r0 : BitVec 32 := 0#32
  let c0_i32_690_r0 : BitVec 32 := 0#32
  let c0_i32_691_r0 : BitVec 32 := 0#32
  ![v403_r0.toNat, 0, 6, 0, 0, 0, 0]
def k0_off48 (arg10_r0 : BitVec 32) : Fin 7 → Nat :=
  let c2_i32_294_r0 : BitVec 32 := 2#32
  let v403_r0 : BitVec 32 := Scalar.remui arg10_r0 c2_i32_294_r0
  let c0_i32_701_r0 : BitVec 32 := 0#32
  let c0_i32_703_r0 : BitVec 32 := 0#32
  let c0_i32_705_r0 : BitVec 32 := 0#32
  let c0_i32_706_r0 : BitVec 32 := 0#32
  ![v403_r0.toNat, 0, 6, 0, 1, 0, 0]
def k0_off49 (arg10_r0 : BitVec 32) : Fin 7 → Nat :=
  let c2_i32_294_r0 : BitVec 32 := 2#32
  let v403_r0 : BitVec 32 := Scalar.remui arg10_r0 c2_i32_294_r0
  let c0_i32_716_r0 : BitVec 32 := 0#32
  let c0_i32_718_r0 : BitVec 32 := 0#32
  let c0_i32_720_r0 : BitVec 32 := 0#32
  let c0_i32_721_r0 : BitVec 32 := 0#32
  ![v403_r0.toNat, 0, 6, 0, 2, 0, 0]
def k0_off50 (arg10_r0 : BitVec 32) : Fin 7 → Nat :=
  let c2_i32_294_r0 : BitVec 32 := 2#32
  let v403_r0 : BitVec 32 := Scalar.remui arg10_r0 c2_i32_294_r0
  let c0_i32_731_r0 : BitVec 32 := 0#32
  let c0_i32_733_r0 : BitVec 32 := 0#32
  let c0_i32_735_r0 : BitVec 32 := 0#32
  let c0_i32_736_r0 : BitVec 32 := 0#32
  ![v403_r0.toNat, 0, 6, 0, 3, 0, 0]
def k0_off51 (arg10_r0 : BitVec 32) : Fin 7 → Nat :=
  let c2_i32_294_r0 : BitVec 32 := 2#32
  let v403_r0 : BitVec 32 := Scalar.remui arg10_r0 c2_i32_294_r0
  let c0_i32_746_r0 : BitVec 32 := 0#32
  let c0_i32_748_r0 : BitVec 32 := 0#32
  let c0_i32_749_r0 : BitVec 32 := 0#32
  let c0_i32_750_r0 : BitVec 32 := 0#32
  let c0_i32_751_r0 : BitVec 32 := 0#32
  ![v403_r0.toNat, 0, 7, 0, 0, 0, 0]
def k0_off52 (arg10_r0 : BitVec 32) : Fin 7 → Nat :=
  let c2_i32_294_r0 : BitVec 32 := 2#32
  let v403_r0 : BitVec 32 := Scalar.remui arg10_r0 c2_i32_294_r0
  let c0_i32_761_r0 : BitVec 32 := 0#32
  let c0_i32_763_r0 : BitVec 32 := 0#32
  let c0_i32_765_r0 : BitVec 32 := 0#32
  let c0_i32_766_r0 : BitVec 32 := 0#32
  ![v403_r0.toNat, 0, 7, 0, 1, 0, 0]
def k0_off53 (arg10_r0 : BitVec 32) : Fin 7 → Nat :=
  let c2_i32_294_r0 : BitVec 32 := 2#32
  let v403_r0 : BitVec 32 := Scalar.remui arg10_r0 c2_i32_294_r0
  let c0_i32_776_r0 : BitVec 32 := 0#32
  let c0_i32_778_r0 : BitVec 32 := 0#32
  let c0_i32_780_r0 : BitVec 32 := 0#32
  let c0_i32_781_r0 : BitVec 32 := 0#32
  ![v403_r0.toNat, 0, 7, 0, 2, 0, 0]
def k0_off54 (arg10_r0 : BitVec 32) : Fin 7 → Nat :=
  let c2_i32_294_r0 : BitVec 32 := 2#32
  let v403_r0 : BitVec 32 := Scalar.remui arg10_r0 c2_i32_294_r0
  let c0_i32_791_r0 : BitVec 32 := 0#32
  let c0_i32_793_r0 : BitVec 32 := 0#32
  let c0_i32_795_r0 : BitVec 32 := 0#32
  let c0_i32_796_r0 : BitVec 32 := 0#32
  ![v403_r0.toNat, 0, 7, 0, 3, 0, 0]

def k0_chk3_0 (arg10_r0 : BitVec 32) : Prop :=
  (∀ a, (k0_off22 arg10_r0) a + S1x1x8x1x4x256x128.size a ≤ S2x1x8x1x4x256x128.size a) ∧
  (∀ a, (k0_off23 arg10_r0) a + S1x1x1x1x1x256x128.size a ≤ S2x1x8x1x4x256x128.size a) ∧
  (∀ (hinb : ∀ a, (k0_off23 arg10_r0) a + S1x1x1x1x1x256x128.size a ≤ S2x1x8x1x4x256x128.size a), (Rect.unit (s := S2x1x8x1x4x256x128) (k0_off23 arg10_r0) S1x1x1x1x1x256x128.size hinb).PackedRows (EltTy.packing .bf16)) ∧
  (∀ a, (k0_off24 arg10_r0) a + S1x1x1x1x1x256x128.size a ≤ S2x1x8x1x4x256x128.size a) ∧
  (∀ (hinb : ∀ a, (k0_off24 arg10_r0) a + S1x1x1x1x1x256x128.size a ≤ S2x1x8x1x4x256x128.size a), (Rect.unit (s := S2x1x8x1x4x256x128) (k0_off24 arg10_r0) S1x1x1x1x1x256x128.size hinb).PackedRows (EltTy.packing .bf16)) ∧
  (∀ a, (k0_off25 arg10_r0) a + S1x1x1x1x1x256x128.size a ≤ S2x1x8x1x4x256x128.size a) ∧
  (∀ (hinb : ∀ a, (k0_off25 arg10_r0) a + S1x1x1x1x1x256x128.size a ≤ S2x1x8x1x4x256x128.size a), (Rect.unit (s := S2x1x8x1x4x256x128) (k0_off25 arg10_r0) S1x1x1x1x1x256x128.size hinb).PackedRows (EltTy.packing .bf16)) ∧
  (∀ a, (k0_off26 arg10_r0) a + S1x1x1x1x1x256x128.size a ≤ S2x1x8x1x4x256x128.size a) ∧
  (∀ (hinb : ∀ a, (k0_off26 arg10_r0) a + S1x1x1x1x1x256x128.size a ≤ S2x1x8x1x4x256x128.size a), (Rect.unit (s := S2x1x8x1x4x256x128) (k0_off26 arg10_r0) S1x1x1x1x1x256x128.size hinb).PackedRows (EltTy.packing .bf16)) ∧
  (∀ a, (k0_off27 arg10_r0) a + S1x1x1x1x1x256x128.size a ≤ S2x1x8x1x4x256x128.size a) ∧
  (∀ (hinb : ∀ a, (k0_off27 arg10_r0) a + S1x1x1x1x1x256x128.size a ≤ S2x1x8x1x4x256x128.size a), (Rect.unit (s := S2x1x8x1x4x256x128) (k0_off27 arg10_r0) S1x1x1x1x1x256x128.size hinb).PackedRows (EltTy.packing .bf16)) ∧
  (∀ a, (k0_off28 arg10_r0) a + S1x1x1x1x1x256x128.size a ≤ S2x1x8x1x4x256x128.size a) ∧
  (∀ (hinb : ∀ a, (k0_off28 arg10_r0) a + S1x1x1x1x1x256x128.size a ≤ S2x1x8x1x4x256x128.size a), (Rect.unit (s := S2x1x8x1x4x256x128) (k0_off28 arg10_r0) S1x1x1x1x1x256x128.size hinb).PackedRows (EltTy.packing .bf16)) ∧
  (∀ a, (k0_off29 arg10_r0) a + S1x1x1x1x1x256x128.size a ≤ S2x1x8x1x4x256x128.size a) ∧
  (∀ (hinb : ∀ a, (k0_off29 arg10_r0) a + S1x1x1x1x1x256x128.size a ≤ S2x1x8x1x4x256x128.size a), (Rect.unit (s := S2x1x8x1x4x256x128) (k0_off29 arg10_r0) S1x1x1x1x1x256x128.size hinb).PackedRows (EltTy.packing .bf16)) ∧
  (∀ a, (k0_off30 arg10_r0) a + S1x1x1x1x1x256x128.size a ≤ S2x1x8x1x4x256x128.size a) ∧
  (∀ (hinb : ∀ a, (k0_off30 arg10_r0) a + S1x1x1x1x1x256x128.size a ≤ S2x1x8x1x4x256x128.size a), (Rect.unit (s := S2x1x8x1x4x256x128) (k0_off30 arg10_r0) S1x1x1x1x1x256x128.size hinb).PackedRows (EltTy.packing .bf16)) ∧
  (∀ a, (k0_off31 arg10_r0) a + S1x1x1x1x1x256x128.size a ≤ S2x1x8x1x4x256x128.size a) ∧
  (∀ (hinb : ∀ a, (k0_off31 arg10_r0) a + S1x1x1x1x1x256x128.size a ≤ S2x1x8x1x4x256x128.size a), (Rect.unit (s := S2x1x8x1x4x256x128) (k0_off31 arg10_r0) S1x1x1x1x1x256x128.size hinb).PackedRows (EltTy.packing .bf16)) ∧
  (∀ a, (k0_off32 arg10_r0) a + S1x1x1x1x1x256x128.size a ≤ S2x1x8x1x4x256x128.size a) ∧
  (∀ (hinb : ∀ a, (k0_off32 arg10_r0) a + S1x1x1x1x1x256x128.size a ≤ S2x1x8x1x4x256x128.size a), (Rect.unit (s := S2x1x8x1x4x256x128) (k0_off32 arg10_r0) S1x1x1x1x1x256x128.size hinb).PackedRows (EltTy.packing .bf16)) ∧
  (∀ a, (k0_off33 arg10_r0) a + S1x1x1x1x1x256x128.size a ≤ S2x1x8x1x4x256x128.size a) ∧
  (∀ (hinb : ∀ a, (k0_off33 arg10_r0) a + S1x1x1x1x1x256x128.size a ≤ S2x1x8x1x4x256x128.size a), (Rect.unit (s := S2x1x8x1x4x256x128) (k0_off33 arg10_r0) S1x1x1x1x1x256x128.size hinb).PackedRows (EltTy.packing .bf16)) ∧
  (∀ a, (k0_off34 arg10_r0) a + S1x1x1x1x1x256x128.size a ≤ S2x1x8x1x4x256x128.size a) ∧
  (∀ (hinb : ∀ a, (k0_off34 arg10_r0) a + S1x1x1x1x1x256x128.size a ≤ S2x1x8x1x4x256x128.size a), (Rect.unit (s := S2x1x8x1x4x256x128) (k0_off34 arg10_r0) S1x1x1x1x1x256x128.size hinb).PackedRows (EltTy.packing .bf16)) ∧
  (∀ a, (k0_off35 arg10_r0) a + S1x1x1x1x1x256x128.size a ≤ S2x1x8x1x4x256x128.size a) ∧
  (∀ (hinb : ∀ a, (k0_off35 arg10_r0) a + S1x1x1x1x1x256x128.size a ≤ S2x1x8x1x4x256x128.size a), (Rect.unit (s := S2x1x8x1x4x256x128) (k0_off35 arg10_r0) S1x1x1x1x1x256x128.size hinb).PackedRows (EltTy.packing .bf16)) ∧
  (∀ a, (k0_off36 arg10_r0) a + S1x1x1x1x1x256x128.size a ≤ S2x1x8x1x4x256x128.size a) ∧
  (∀ (hinb : ∀ a, (k0_off36 arg10_r0) a + S1x1x1x1x1x256x128.size a ≤ S2x1x8x1x4x256x128.size a), (Rect.unit (s := S2x1x8x1x4x256x128) (k0_off36 arg10_r0) S1x1x1x1x1x256x128.size hinb).PackedRows (EltTy.packing .bf16)) ∧
  (∀ a, (k0_off37 arg10_r0) a + S1x1x1x1x1x256x128.size a ≤ S2x1x8x1x4x256x128.size a) ∧
  (∀ (hinb : ∀ a, (k0_off37 arg10_r0) a + S1x1x1x1x1x256x128.size a ≤ S2x1x8x1x4x256x128.size a), (Rect.unit (s := S2x1x8x1x4x256x128) (k0_off37 arg10_r0) S1x1x1x1x1x256x128.size hinb).PackedRows (EltTy.packing .bf16)) ∧
  (∀ a, (k0_off38 arg10_r0) a + S1x1x1x1x1x256x128.size a ≤ S2x1x8x1x4x256x128.size a)
def k0_chk3_1 (arg10_r0 : BitVec 32) : Prop :=
  (∀ (hinb : ∀ a, (k0_off38 arg10_r0) a + S1x1x1x1x1x256x128.size a ≤ S2x1x8x1x4x256x128.size a), (Rect.unit (s := S2x1x8x1x4x256x128) (k0_off38 arg10_r0) S1x1x1x1x1x256x128.size hinb).PackedRows (EltTy.packing .bf16)) ∧
  (∀ a, (k0_off39 arg10_r0) a + S1x1x1x1x1x256x128.size a ≤ S2x1x8x1x4x256x128.size a) ∧
  (∀ (hinb : ∀ a, (k0_off39 arg10_r0) a + S1x1x1x1x1x256x128.size a ≤ S2x1x8x1x4x256x128.size a), (Rect.unit (s := S2x1x8x1x4x256x128) (k0_off39 arg10_r0) S1x1x1x1x1x256x128.size hinb).PackedRows (EltTy.packing .bf16)) ∧
  (∀ a, (k0_off40 arg10_r0) a + S1x1x1x1x1x256x128.size a ≤ S2x1x8x1x4x256x128.size a) ∧
  (∀ (hinb : ∀ a, (k0_off40 arg10_r0) a + S1x1x1x1x1x256x128.size a ≤ S2x1x8x1x4x256x128.size a), (Rect.unit (s := S2x1x8x1x4x256x128) (k0_off40 arg10_r0) S1x1x1x1x1x256x128.size hinb).PackedRows (EltTy.packing .bf16)) ∧
  (∀ a, (k0_off41 arg10_r0) a + S1x1x1x1x1x256x128.size a ≤ S2x1x8x1x4x256x128.size a) ∧
  (∀ (hinb : ∀ a, (k0_off41 arg10_r0) a + S1x1x1x1x1x256x128.size a ≤ S2x1x8x1x4x256x128.size a), (Rect.unit (s := S2x1x8x1x4x256x128) (k0_off41 arg10_r0) S1x1x1x1x1x256x128.size hinb).PackedRows (EltTy.packing .bf16)) ∧
  (∀ a, (k0_off42 arg10_r0) a + S1x1x1x1x1x256x128.size a ≤ S2x1x8x1x4x256x128.size a) ∧
  (∀ (hinb : ∀ a, (k0_off42 arg10_r0) a + S1x1x1x1x1x256x128.size a ≤ S2x1x8x1x4x256x128.size a), (Rect.unit (s := S2x1x8x1x4x256x128) (k0_off42 arg10_r0) S1x1x1x1x1x256x128.size hinb).PackedRows (EltTy.packing .bf16)) ∧
  (∀ a, (k0_off43 arg10_r0) a + S1x1x1x1x1x256x128.size a ≤ S2x1x8x1x4x256x128.size a) ∧
  (∀ (hinb : ∀ a, (k0_off43 arg10_r0) a + S1x1x1x1x1x256x128.size a ≤ S2x1x8x1x4x256x128.size a), (Rect.unit (s := S2x1x8x1x4x256x128) (k0_off43 arg10_r0) S1x1x1x1x1x256x128.size hinb).PackedRows (EltTy.packing .bf16)) ∧
  (∀ a, (k0_off44 arg10_r0) a + S1x1x1x1x1x256x128.size a ≤ S2x1x8x1x4x256x128.size a) ∧
  (∀ (hinb : ∀ a, (k0_off44 arg10_r0) a + S1x1x1x1x1x256x128.size a ≤ S2x1x8x1x4x256x128.size a), (Rect.unit (s := S2x1x8x1x4x256x128) (k0_off44 arg10_r0) S1x1x1x1x1x256x128.size hinb).PackedRows (EltTy.packing .bf16)) ∧
  (∀ a, (k0_off45 arg10_r0) a + S1x1x1x1x1x256x128.size a ≤ S2x1x8x1x4x256x128.size a) ∧
  (∀ (hinb : ∀ a, (k0_off45 arg10_r0) a + S1x1x1x1x1x256x128.size a ≤ S2x1x8x1x4x256x128.size a), (Rect.unit (s := S2x1x8x1x4x256x128) (k0_off45 arg10_r0) S1x1x1x1x1x256x128.size hinb).PackedRows (EltTy.packing .bf16)) ∧
  (∀ a, (k0_off46 arg10_r0) a + S1x1x1x1x1x256x128.size a ≤ S2x1x8x1x4x256x128.size a) ∧
  (∀ (hinb : ∀ a, (k0_off46 arg10_r0) a + S1x1x1x1x1x256x128.size a ≤ S2x1x8x1x4x256x128.size a), (Rect.unit (s := S2x1x8x1x4x256x128) (k0_off46 arg10_r0) S1x1x1x1x1x256x128.size hinb).PackedRows (EltTy.packing .bf16)) ∧
  (∀ a, (k0_off47 arg10_r0) a + S1x1x1x1x1x256x128.size a ≤ S2x1x8x1x4x256x128.size a) ∧
  (∀ (hinb : ∀ a, (k0_off47 arg10_r0) a + S1x1x1x1x1x256x128.size a ≤ S2x1x8x1x4x256x128.size a), (Rect.unit (s := S2x1x8x1x4x256x128) (k0_off47 arg10_r0) S1x1x1x1x1x256x128.size hinb).PackedRows (EltTy.packing .bf16)) ∧
  (∀ a, (k0_off48 arg10_r0) a + S1x1x1x1x1x256x128.size a ≤ S2x1x8x1x4x256x128.size a) ∧
  (∀ (hinb : ∀ a, (k0_off48 arg10_r0) a + S1x1x1x1x1x256x128.size a ≤ S2x1x8x1x4x256x128.size a), (Rect.unit (s := S2x1x8x1x4x256x128) (k0_off48 arg10_r0) S1x1x1x1x1x256x128.size hinb).PackedRows (EltTy.packing .bf16)) ∧
  (∀ a, (k0_off49 arg10_r0) a + S1x1x1x1x1x256x128.size a ≤ S2x1x8x1x4x256x128.size a) ∧
  (∀ (hinb : ∀ a, (k0_off49 arg10_r0) a + S1x1x1x1x1x256x128.size a ≤ S2x1x8x1x4x256x128.size a), (Rect.unit (s := S2x1x8x1x4x256x128) (k0_off49 arg10_r0) S1x1x1x1x1x256x128.size hinb).PackedRows (EltTy.packing .bf16)) ∧
  (∀ a, (k0_off50 arg10_r0) a + S1x1x1x1x1x256x128.size a ≤ S2x1x8x1x4x256x128.size a) ∧
  (∀ (hinb : ∀ a, (k0_off50 arg10_r0) a + S1x1x1x1x1x256x128.size a ≤ S2x1x8x1x4x256x128.size a), (Rect.unit (s := S2x1x8x1x4x256x128) (k0_off50 arg10_r0) S1x1x1x1x1x256x128.size hinb).PackedRows (EltTy.packing .bf16)) ∧
  (∀ a, (k0_off51 arg10_r0) a + S1x1x1x1x1x256x128.size a ≤ S2x1x8x1x4x256x128.size a) ∧
  (∀ (hinb : ∀ a, (k0_off51 arg10_r0) a + S1x1x1x1x1x256x128.size a ≤ S2x1x8x1x4x256x128.size a), (Rect.unit (s := S2x1x8x1x4x256x128) (k0_off51 arg10_r0) S1x1x1x1x1x256x128.size hinb).PackedRows (EltTy.packing .bf16)) ∧
  (∀ a, (k0_off52 arg10_r0) a + S1x1x1x1x1x256x128.size a ≤ S2x1x8x1x4x256x128.size a) ∧
  (∀ (hinb : ∀ a, (k0_off52 arg10_r0) a + S1x1x1x1x1x256x128.size a ≤ S2x1x8x1x4x256x128.size a), (Rect.unit (s := S2x1x8x1x4x256x128) (k0_off52 arg10_r0) S1x1x1x1x1x256x128.size hinb).PackedRows (EltTy.packing .bf16)) ∧
  (∀ a, (k0_off53 arg10_r0) a + S1x1x1x1x1x256x128.size a ≤ S2x1x8x1x4x256x128.size a) ∧
  (∀ (hinb : ∀ a, (k0_off53 arg10_r0) a + S1x1x1x1x1x256x128.size a ≤ S2x1x8x1x4x256x128.size a), (Rect.unit (s := S2x1x8x1x4x256x128) (k0_off53 arg10_r0) S1x1x1x1x1x256x128.size hinb).PackedRows (EltTy.packing .bf16)) ∧
  (∀ a, (k0_off54 arg10_r0) a + S1x1x1x1x1x256x128.size a ≤ S2x1x8x1x4x256x128.size a)
def k0_chk3_2 (arg10_r0 : BitVec 32) : Prop :=
  (∀ (hinb : ∀ a, (k0_off54 arg10_r0) a + S1x1x1x1x1x256x128.size a ≤ S2x1x8x1x4x256x128.size a), (Rect.unit (s := S2x1x8x1x4x256x128) (k0_off54 arg10_r0) S1x1x1x1x1x256x128.size hinb).PackedRows (EltTy.packing .bf16))
def k0_chk3 (arg10_r0 : BitVec 32) : Prop :=
  k0_chk3_0 arg10_r0 ∧
  k0_chk3_1 arg10_r0 ∧
  k0_chk3_2 arg10_r0
theorem k0_off22_inb : ∀ (arg10_r0 : BitVec 32) (k0_hw3 : k0_chk3 arg10_r0), ∀ a, (k0_off22 arg10_r0) a + S1x1x8x1x4x256x128.size a ≤ S2x1x8x1x4x256x128.size a := fun arg10_r0 k0_hw3 => k0_hw3.1.1
theorem k0_off23_inb : ∀ (arg10_r0 : BitVec 32) (k0_hw3 : k0_chk3 arg10_r0), ∀ a, (k0_off23 arg10_r0) a + S1x1x1x1x1x256x128.size a ≤ S2x1x8x1x4x256x128.size a := fun arg10_r0 k0_hw3 => k0_hw3.1.2.1
theorem k0_off23_packedbf16 : ∀ (arg10_r0 : BitVec 32) (k0_hw3 : k0_chk3 arg10_r0), (Rect.unit (s := S2x1x8x1x4x256x128) (k0_off23 arg10_r0) S1x1x1x1x1x256x128.size (k0_off23_inb arg10_r0 k0_hw3)).PackedRows (EltTy.packing .bf16) := fun arg10_r0 k0_hw3 => k0_hw3.1.2.2.1 (k0_off23_inb arg10_r0 k0_hw3)
theorem k0_off24_inb : ∀ (arg10_r0 : BitVec 32) (k0_hw3 : k0_chk3 arg10_r0), ∀ a, (k0_off24 arg10_r0) a + S1x1x1x1x1x256x128.size a ≤ S2x1x8x1x4x256x128.size a := fun arg10_r0 k0_hw3 => k0_hw3.1.2.2.2.1
theorem k0_off24_packedbf16 : ∀ (arg10_r0 : BitVec 32) (k0_hw3 : k0_chk3 arg10_r0), (Rect.unit (s := S2x1x8x1x4x256x128) (k0_off24 arg10_r0) S1x1x1x1x1x256x128.size (k0_off24_inb arg10_r0 k0_hw3)).PackedRows (EltTy.packing .bf16) := fun arg10_r0 k0_hw3 => k0_hw3.1.2.2.2.2.1 (k0_off24_inb arg10_r0 k0_hw3)
theorem k0_off25_inb : ∀ (arg10_r0 : BitVec 32) (k0_hw3 : k0_chk3 arg10_r0), ∀ a, (k0_off25 arg10_r0) a + S1x1x1x1x1x256x128.size a ≤ S2x1x8x1x4x256x128.size a := fun arg10_r0 k0_hw3 => k0_hw3.1.2.2.2.2.2.1
theorem k0_off25_packedbf16 : ∀ (arg10_r0 : BitVec 32) (k0_hw3 : k0_chk3 arg10_r0), (Rect.unit (s := S2x1x8x1x4x256x128) (k0_off25 arg10_r0) S1x1x1x1x1x256x128.size (k0_off25_inb arg10_r0 k0_hw3)).PackedRows (EltTy.packing .bf16) := fun arg10_r0 k0_hw3 => k0_hw3.1.2.2.2.2.2.2.1 (k0_off25_inb arg10_r0 k0_hw3)
theorem k0_off26_inb : ∀ (arg10_r0 : BitVec 32) (k0_hw3 : k0_chk3 arg10_r0), ∀ a, (k0_off26 arg10_r0) a + S1x1x1x1x1x256x128.size a ≤ S2x1x8x1x4x256x128.size a := fun arg10_r0 k0_hw3 => k0_hw3.1.2.2.2.2.2.2.2.1
theorem k0_off26_packedbf16 : ∀ (arg10_r0 : BitVec 32) (k0_hw3 : k0_chk3 arg10_r0), (Rect.unit (s := S2x1x8x1x4x256x128) (k0_off26 arg10_r0) S1x1x1x1x1x256x128.size (k0_off26_inb arg10_r0 k0_hw3)).PackedRows (EltTy.packing .bf16) := fun arg10_r0 k0_hw3 => k0_hw3.1.2.2.2.2.2.2.2.2.1 (k0_off26_inb arg10_r0 k0_hw3)
theorem k0_off27_inb : ∀ (arg10_r0 : BitVec 32) (k0_hw3 : k0_chk3 arg10_r0), ∀ a, (k0_off27 arg10_r0) a + S1x1x1x1x1x256x128.size a ≤ S2x1x8x1x4x256x128.size a := fun arg10_r0 k0_hw3 => k0_hw3.1.2.2.2.2.2.2.2.2.2.1
theorem k0_off27_packedbf16 : ∀ (arg10_r0 : BitVec 32) (k0_hw3 : k0_chk3 arg10_r0), (Rect.unit (s := S2x1x8x1x4x256x128) (k0_off27 arg10_r0) S1x1x1x1x1x256x128.size (k0_off27_inb arg10_r0 k0_hw3)).PackedRows (EltTy.packing .bf16) := fun arg10_r0 k0_hw3 => k0_hw3.1.2.2.2.2.2.2.2.2.2.2.1 (k0_off27_inb arg10_r0 k0_hw3)
theorem k0_off28_inb : ∀ (arg10_r0 : BitVec 32) (k0_hw3 : k0_chk3 arg10_r0), ∀ a, (k0_off28 arg10_r0) a + S1x1x1x1x1x256x128.size a ≤ S2x1x8x1x4x256x128.size a := fun arg10_r0 k0_hw3 => k0_hw3.1.2.2.2.2.2.2.2.2.2.2.2.1
theorem k0_off28_packedbf16 : ∀ (arg10_r0 : BitVec 32) (k0_hw3 : k0_chk3 arg10_r0), (Rect.unit (s := S2x1x8x1x4x256x128) (k0_off28 arg10_r0) S1x1x1x1x1x256x128.size (k0_off28_inb arg10_r0 k0_hw3)).PackedRows (EltTy.packing .bf16) := fun arg10_r0 k0_hw3 => k0_hw3.1.2.2.2.2.2.2.2.2.2.2.2.2.1 (k0_off28_inb arg10_r0 k0_hw3)
theorem k0_off29_inb : ∀ (arg10_r0 : BitVec 32) (k0_hw3 : k0_chk3 arg10_r0), ∀ a, (k0_off29 arg10_r0) a + S1x1x1x1x1x256x128.size a ≤ S2x1x8x1x4x256x128.size a := fun arg10_r0 k0_hw3 => k0_hw3.1.2.2.2.2.2.2.2.2.2.2.2.2.2.1
theorem k0_off29_packedbf16 : ∀ (arg10_r0 : BitVec 32) (k0_hw3 : k0_chk3 arg10_r0), (Rect.unit (s := S2x1x8x1x4x256x128) (k0_off29 arg10_r0) S1x1x1x1x1x256x128.size (k0_off29_inb arg10_r0 k0_hw3)).PackedRows (EltTy.packing .bf16) := fun arg10_r0 k0_hw3 => k0_hw3.1.2.2.2.2.2.2.2.2.2.2.2.2.2.2.1 (k0_off29_inb arg10_r0 k0_hw3)
theorem k0_off30_inb : ∀ (arg10_r0 : BitVec 32) (k0_hw3 : k0_chk3 arg10_r0), ∀ a, (k0_off30 arg10_r0) a + S1x1x1x1x1x256x128.size a ≤ S2x1x8x1x4x256x128.size a := fun arg10_r0 k0_hw3 => k0_hw3.1.2.2.2.2.2.2.2.2.2.2.2.2.2.2.2.1
theorem k0_off30_packedbf16 : ∀ (arg10_r0 : BitVec 32) (k0_hw3 : k0_chk3 arg10_r0), (Rect.unit (s := S2x1x8x1x4x256x128) (k0_off30 arg10_r0) S1x1x1x1x1x256x128.size (k0_off30_inb arg10_r0 k0_hw3)).PackedRows (EltTy.packing .bf16) := fun arg10_r0 k0_hw3 => k0_hw3.1.2.2.2.2.2.2.2.2.2.2.2.2.2.2.2.2.1 (k0_off30_inb arg10_r0 k0_hw3)
theorem k0_off31_inb : ∀ (arg10_r0 : BitVec 32) (k0_hw3 : k0_chk3 arg10_r0), ∀ a, (k0_off31 arg10_r0) a + S1x1x1x1x1x256x128.size a ≤ S2x1x8x1x4x256x128.size a := fun arg10_r0 k0_hw3 => k0_hw3.1.2.2.2.2.2.2.2.2.2.2.2.2.2.2.2.2.2.1
theorem k0_off31_packedbf16 : ∀ (arg10_r0 : BitVec 32) (k0_hw3 : k0_chk3 arg10_r0), (Rect.unit (s := S2x1x8x1x4x256x128) (k0_off31 arg10_r0) S1x1x1x1x1x256x128.size (k0_off31_inb arg10_r0 k0_hw3)).PackedRows (EltTy.packing .bf16) := fun arg10_r0 k0_hw3 => k0_hw3.1.2.2.2.2.2.2.2.2.2.2.2.2.2.2.2.2.2.2.1 (k0_off31_inb arg10_r0 k0_hw3)
theorem k0_off32_inb : ∀ (arg10_r0 : BitVec 32) (k0_hw3 : k0_chk3 arg10_r0), ∀ a, (k0_off32 arg10_r0) a + S1x1x1x1x1x256x128.size a ≤ S2x1x8x1x4x256x128.size a := fun arg10_r0 k0_hw3 => k0_hw3.1.2.2.2.2.2.2.2.2.2.2.2.2.2.2.2.2.2.2.2.1
theorem k0_off32_packedbf16 : ∀ (arg10_r0 : BitVec 32) (k0_hw3 : k0_chk3 arg10_r0), (Rect.unit (s := S2x1x8x1x4x256x128) (k0_off32 arg10_r0) S1x1x1x1x1x256x128.size (k0_off32_inb arg10_r0 k0_hw3)).PackedRows (EltTy.packing .bf16) := fun arg10_r0 k0_hw3 => k0_hw3.1.2.2.2.2.2.2.2.2.2.2.2.2.2.2.2.2.2.2.2.2.1 (k0_off32_inb arg10_r0 k0_hw3)
theorem k0_off33_inb : ∀ (arg10_r0 : BitVec 32) (k0_hw3 : k0_chk3 arg10_r0), ∀ a, (k0_off33 arg10_r0) a + S1x1x1x1x1x256x128.size a ≤ S2x1x8x1x4x256x128.size a := fun arg10_r0 k0_hw3 => k0_hw3.1.2.2.2.2.2.2.2.2.2.2.2.2.2.2.2.2.2.2.2.2.2.1
theorem k0_off33_packedbf16 : ∀ (arg10_r0 : BitVec 32) (k0_hw3 : k0_chk3 arg10_r0), (Rect.unit (s := S2x1x8x1x4x256x128) (k0_off33 arg10_r0) S1x1x1x1x1x256x128.size (k0_off33_inb arg10_r0 k0_hw3)).PackedRows (EltTy.packing .bf16) := fun arg10_r0 k0_hw3 => k0_hw3.1.2.2.2.2.2.2.2.2.2.2.2.2.2.2.2.2.2.2.2.2.2.2.1 (k0_off33_inb arg10_r0 k0_hw3)
theorem k0_off34_inb : ∀ (arg10_r0 : BitVec 32) (k0_hw3 : k0_chk3 arg10_r0), ∀ a, (k0_off34 arg10_r0) a + S1x1x1x1x1x256x128.size a ≤ S2x1x8x1x4x256x128.size a := fun arg10_r0 k0_hw3 => k0_hw3.1.2.2.2.2.2.2.2.2.2.2.2.2.2.2.2.2.2.2.2.2.2.2.2.1
theorem k0_off34_packedbf16 : ∀ (arg10_r0 : BitVec 32) (k0_hw3 : k0_chk3 arg10_r0), (Rect.unit (s := S2x1x8x1x4x256x128) (k0_off34 arg10_r0) S1x1x1x1x1x256x128.size (k0_off34_inb arg10_r0 k0_hw3)).PackedRows (EltTy.packing .bf16) := fun arg10_r0 k0_hw3 => k0_hw3.1.2.2.2.2.2.2.2.2.2.2.2.2.2.2.2.2.2.2.2.2.2.2.2.2.1 (k0_off34_inb arg10_r0 k0_hw3)
theorem k0_off35_inb : ∀ (arg10_r0 : BitVec 32) (k0_hw3 : k0_chk3 arg10_r0), ∀ a, (k0_off35 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.1
theorem k0_off35_packedbf16 : ∀ (arg10_r0 : BitVec 32) (k0_hw3 : k0_chk3 arg10_r0), (Rect.unit (s := S2x1x8x1x4x256x128) (k0_off35 arg10_r0) S1x1x1x1x1x256x128.size (k0_off35_inb arg10_r0 k0_hw3)).PackedRows (EltTy.packing .bf16) := fun arg10_r0 k0_hw3 => k0_hw3.1.2.2.2.2.2.2.2.2.2.2.2.2.2.2.2.2.2.2.2.2.2.2.2.2.2.2.1 (k0_off35_inb arg10_r0 k0_hw3)
theorem k0_off36_inb : ∀ (arg10_r0 : BitVec 32) (k0_hw3 : k0_chk3 arg10_r0), ∀ a, (k0_off36 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.2.2.1
theorem k0_off36_packedbf16 : ∀ (arg10_r0 : BitVec 32) (k0_hw3 : k0_chk3 arg10_r0), (Rect.unit (s := S2x1x8x1x4x256x128) (k0_off36 arg10_r0) S1x1x1x1x1x256x128.size (k0_off36_inb arg10_r0 k0_hw3)).PackedRows (EltTy.packing .bf16) := fun arg10_r0 k0_hw3 => k0_hw3.1.2.2.2.2.2.2.2.2.2.2.2.2.2.2.2.2.2.2.2.2.2.2.2.2.2.2.2.2.1 (k0_off36_inb arg10_r0 k0_hw3)
theorem k0_off37_inb : ∀ (arg10_r0 : BitVec 32) (k0_hw3 : k0_chk3 arg10_r0), ∀ a, (k0_off37 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.2.2.2.2.1
theorem k0_off37_packedbf16 : ∀ (arg10_r0 : BitVec 32) (k0_hw3 : k0_chk3 arg10_r0), (Rect.unit (s := S2x1x8x1x4x256x128) (k0_off37 arg10_r0) S1x1x1x1x1x256x128.size (k0_off37_inb arg10_r0 k0_hw3)).PackedRows (EltTy.packing .bf16) := fun arg10_r0 k0_hw3 => k0_hw3.1.2.2.2.2.2.2.2.2.2.2.2.2.2.2.2.2.2.2.2.2.2.2.2.2.2.2.2.2.2.2.1 (k0_off37_inb arg10_r0 k0_hw3)
theorem k0_off38_inb : ∀ (arg10_r0 : BitVec 32) (k0_hw3 : k0_chk3 arg10_r0), ∀ a, (k0_off38 arg10_r0) a + S1x1x1x1x1x256x128.size a ≤ S2x1x8x1x4x256x128.size a := fun arg10_r0 k0_hw3 => k0_hw3.1.2.2.2.2.2.2.2.2.2.2.2.2.2.2.2.2.2.2.2.2.2.2.2.2.2.2.2.2.2.2.2
theorem k0_off38_packedbf16 : ∀ (arg10_r0 : BitVec 32) (k0_hw3 : k0_chk3 arg10_r0), (Rect.unit (s := S2x1x8x1x4x256x128) (k0_off38 arg10_r0) S1x1x1x1x1x256x128.size (k0_off38_inb arg10_r0 k0_hw3)).PackedRows (EltTy.packing .bf16) := fun arg10_r0 k0_hw3 => k0_hw3.2.1.1 (k0_off38_inb arg10_r0 k0_hw3)
theorem k0_off39_inb : ∀ (arg10_r0 : BitVec 32) (k0_hw3 : k0_chk3 arg10_r0), ∀ a, (k0_off39 arg10_r0) a + S1x1x1x1x1x256x128.size a ≤ S2x1x8x1x4x256x128.size a := fun arg10_r0 k0_hw3 => k0_hw3.2.1.2.1
theorem k0_off39_packedbf16 : ∀ (arg10_r0 : BitVec 32) (k0_hw3 : k0_chk3 arg10_r0), (Rect.unit (s := S2x1x8x1x4x256x128) (k0_off39 arg10_r0) S1x1x1x1x1x256x128.size (k0_off39_inb arg10_r0 k0_hw3)).PackedRows (EltTy.packing .bf16) := fun arg10_r0 k0_hw3 => k0_hw3.2.1.2.2.1 (k0_off39_inb arg10_r0 k0_hw3)
theorem k0_off40_inb : ∀ (arg10_r0 : BitVec 32) (k0_hw3 : k0_chk3 arg10_r0), ∀ a, (k0_off40 arg10_r0) a + S1x1x1x1x1x256x128.size a ≤ S2x1x8x1x4x256x128.size a := fun arg10_r0 k0_hw3 => k0_hw3.2.1.2.2.2.1
theorem k0_off40_packedbf16 : ∀ (arg10_r0 : BitVec 32) (k0_hw3 : k0_chk3 arg10_r0), (Rect.unit (s := S2x1x8x1x4x256x128) (k0_off40 arg10_r0) S1x1x1x1x1x256x128.size (k0_off40_inb arg10_r0 k0_hw3)).PackedRows (EltTy.packing .bf16) := fun arg10_r0 k0_hw3 => k0_hw3.2.1.2.2.2.2.1 (k0_off40_inb arg10_r0 k0_hw3)
theorem k0_off41_inb : ∀ (arg10_r0 : BitVec 32) (k0_hw3 : k0_chk3 arg10_r0), ∀ a, (k0_off41 arg10_r0) a + S1x1x1x1x1x256x128.size a ≤ S2x1x8x1x4x256x128.size a := fun arg10_r0 k0_hw3 => k0_hw3.2.1.2.2.2.2.2.1
theorem k0_off41_packedbf16 : ∀ (arg10_r0 : BitVec 32) (k0_hw3 : k0_chk3 arg10_r0), (Rect.unit (s := S2x1x8x1x4x256x128) (k0_off41 arg10_r0) S1x1x1x1x1x256x128.size (k0_off41_inb arg10_r0 k0_hw3)).PackedRows (EltTy.packing .bf16) := fun arg10_r0 k0_hw3 => k0_hw3.2.1.2.2.2.2.2.2.1 (k0_off41_inb arg10_r0 k0_hw3)
theorem k0_off42_inb : ∀ (arg10_r0 : BitVec 32) (k0_hw3 : k0_chk3 arg10_r0), ∀ a, (k0_off42 arg10_r0) a + S1x1x1x1x1x256x128.size a ≤ S2x1x8x1x4x256x128.size a := fun arg10_r0 k0_hw3 => k0_hw3.2.1.2.2.2.2.2.2.2.1
theorem k0_off42_packedbf16 : ∀ (arg10_r0 : BitVec 32) (k0_hw3 : k0_chk3 arg10_r0), (Rect.unit (s := S2x1x8x1x4x256x128) (k0_off42 arg10_r0) S1x1x1x1x1x256x128.size (k0_off42_inb arg10_r0 k0_hw3)).PackedRows (EltTy.packing .bf16) := fun arg10_r0 k0_hw3 => k0_hw3.2.1.2.2.2.2.2.2.2.2.1 (k0_off42_inb arg10_r0 k0_hw3)
theorem k0_off43_inb : ∀ (arg10_r0 : BitVec 32) (k0_hw3 : k0_chk3 arg10_r0), ∀ a, (k0_off43 arg10_r0) a + S1x1x1x1x1x256x128.size a ≤ S2x1x8x1x4x256x128.size a := fun arg10_r0 k0_hw3 => k0_hw3.2.1.2.2.2.2.2.2.2.2.2.1
theorem k0_off43_packedbf16 : ∀ (arg10_r0 : BitVec 32) (k0_hw3 : k0_chk3 arg10_r0), (Rect.unit (s := S2x1x8x1x4x256x128) (k0_off43 arg10_r0) S1x1x1x1x1x256x128.size (k0_off43_inb arg10_r0 k0_hw3)).PackedRows (EltTy.packing .bf16) := fun arg10_r0 k0_hw3 => k0_hw3.2.1.2.2.2.2.2.2.2.2.2.2.1 (k0_off43_inb arg10_r0 k0_hw3)
theorem k0_off44_inb : ∀ (arg10_r0 : BitVec 32) (k0_hw3 : k0_chk3 arg10_r0), ∀ a, (k0_off44 arg10_r0) a + S1x1x1x1x1x256x128.size a ≤ S2x1x8x1x4x256x128.size a := fun arg10_r0 k0_hw3 => k0_hw3.2.1.2.2.2.2.2.2.2.2.2.2.2.1
theorem k0_off44_packedbf16 : ∀ (arg10_r0 : BitVec 32) (k0_hw3 : k0_chk3 arg10_r0), (Rect.unit (s := S2x1x8x1x4x256x128) (k0_off44 arg10_r0) S1x1x1x1x1x256x128.size (k0_off44_inb arg10_r0 k0_hw3)).PackedRows (EltTy.packing .bf16) := fun arg10_r0 k0_hw3 => k0_hw3.2.1.2.2.2.2.2.2.2.2.2.2.2.2.1 (k0_off44_inb arg10_r0 k0_hw3)
theorem k0_off45_inb : ∀ (arg10_r0 : BitVec 32) (k0_hw3 : k0_chk3 arg10_r0), ∀ a, (k0_off45 arg10_r0) a + S1x1x1x1x1x256x128.size a ≤ S2x1x8x1x4x256x128.size a := fun arg10_r0 k0_hw3 => k0_hw3.2.1.2.2.2.2.2.2.2.2.2.2.2.2.2.1
theorem k0_off45_packedbf16 : ∀ (arg10_r0 : BitVec 32) (k0_hw3 : k0_chk3 arg10_r0), (Rect.unit (s := S2x1x8x1x4x256x128) (k0_off45 arg10_r0) S1x1x1x1x1x256x128.size (k0_off45_inb arg10_r0 k0_hw3)).PackedRows (EltTy.packing .bf16) := fun arg10_r0 k0_hw3 => k0_hw3.2.1.2.2.2.2.2.2.2.2.2.2.2.2.2.2.1 (k0_off45_inb arg10_r0 k0_hw3)
theorem k0_off46_inb : ∀ (arg10_r0 : BitVec 32) (k0_hw3 : k0_chk3 arg10_r0), ∀ a, (k0_off46 arg10_r0) a + S1x1x1x1x1x256x128.size a ≤ S2x1x8x1x4x256x128.size a := fun arg10_r0 k0_hw3 => k0_hw3.2.1.2.2.2.2.2.2.2.2.2.2.2.2.2.2.2.1
theorem k0_off46_packedbf16 : ∀ (arg10_r0 : BitVec 32) (k0_hw3 : k0_chk3 arg10_r0), (Rect.unit (s := S2x1x8x1x4x256x128) (k0_off46 arg10_r0) S1x1x1x1x1x256x128.size (k0_off46_inb arg10_r0 k0_hw3)).PackedRows (EltTy.packing .bf16) := fun arg10_r0 k0_hw3 => k0_hw3.2.1.2.2.2.2.2.2.2.2.2.2.2.2.2.2.2.2.1 (k0_off46_inb arg10_r0 k0_hw3)
theorem k0_off47_inb : ∀ (arg10_r0 : BitVec 32) (k0_hw3 : k0_chk3 arg10_r0), ∀ a, (k0_off47 arg10_r0) a + S1x1x1x1x1x256x128.size a ≤ S2x1x8x1x4x256x128.size a := fun arg10_r0 k0_hw3 => k0_hw3.2.1.2.2.2.2.2.2.2.2.2.2.2.2.2.2.2.2.2.1
theorem k0_off47_packedbf16 : ∀ (arg10_r0 : BitVec 32) (k0_hw3 : k0_chk3 arg10_r0), (Rect.unit (s := S2x1x8x1x4x256x128) (k0_off47 arg10_r0) S1x1x1x1x1x256x128.size (k0_off47_inb arg10_r0 k0_hw3)).PackedRows (EltTy.packing .bf16) := fun arg10_r0 k0_hw3 => k0_hw3.2.1.2.2.2.2.2.2.2.2.2.2.2.2.2.2.2.2.2.2.1 (k0_off47_inb arg10_r0 k0_hw3)
theorem k0_off48_inb : ∀ (arg10_r0 : BitVec 32) (k0_hw3 : k0_chk3 arg10_r0), ∀ a, (k0_off48 arg10_r0) a + S1x1x1x1x1x256x128.size a ≤ S2x1x8x1x4x256x128.size a := fun arg10_r0 k0_hw3 => k0_hw3.2.1.2.2.2.2.2.2.2.2.2.2.2.2.2.2.2.2.2.2.2.1
theorem k0_off48_packedbf16 : ∀ (arg10_r0 : BitVec 32) (k0_hw3 : k0_chk3 arg10_r0), (Rect.unit (s := S2x1x8x1x4x256x128) (k0_off48 arg10_r0) S1x1x1x1x1x256x128.size (k0_off48_inb arg10_r0 k0_hw3)).PackedRows (EltTy.packing .bf16) := fun arg10_r0 k0_hw3 => k0_hw3.2.1.2.2.2.2.2.2.2.2.2.2.2.2.2.2.2.2.2.2.2.2.1 (k0_off48_inb arg10_r0 k0_hw3)
theorem k0_off49_inb : ∀ (arg10_r0 : BitVec 32) (k0_hw3 : k0_chk3 arg10_r0), ∀ a, (k0_off49 arg10_r0) a + S1x1x1x1x1x256x128.size a ≤ S2x1x8x1x4x256x128.size a := fun arg10_r0 k0_hw3 => k0_hw3.2.1.2.2.2.2.2.2.2.2.2.2.2.2.2.2.2.2.2.2.2.2.2.1
theorem k0_off49_packedbf16 : ∀ (arg10_r0 : BitVec 32) (k0_hw3 : k0_chk3 arg10_r0), (Rect.unit (s := S2x1x8x1x4x256x128) (k0_off49 arg10_r0) S1x1x1x1x1x256x128.size (k0_off49_inb arg10_r0 k0_hw3)).PackedRows (EltTy.packing .bf16) := fun arg10_r0 k0_hw3 => k0_hw3.2.1.2.2.2.2.2.2.2.2.2.2.2.2.2.2.2.2.2.2.2.2.2.2.1 (k0_off49_inb arg10_r0 k0_hw3)
theorem k0_off50_inb : ∀ (arg10_r0 : BitVec 32) (k0_hw3 : k0_chk3 arg10_r0), ∀ a, (k0_off50 arg10_r0) a + S1x1x1x1x1x256x128.size a ≤ S2x1x8x1x4x256x128.size a := fun arg10_r0 k0_hw3 => k0_hw3.2.1.2.2.2.2.2.2.2.2.2.2.2.2.2.2.2.2.2.2.2.2.2.2.2.1
theorem k0_off50_packedbf16 : ∀ (arg10_r0 : BitVec 32) (k0_hw3 : k0_chk3 arg10_r0), (Rect.unit (s := S2x1x8x1x4x256x128) (k0_off50 arg10_r0) S1x1x1x1x1x256x128.size (k0_off50_inb arg10_r0 k0_hw3)).PackedRows (EltTy.packing .bf16) := fun arg10_r0 k0_hw3 => k0_hw3.2.1.2.2.2.2.2.2.2.2.2.2.2.2.2.2.2.2.2.2.2.2.2.2.2.2.1 (k0_off50_inb arg10_r0 k0_hw3)
theorem k0_off51_inb : ∀ (arg10_r0 : BitVec 32) (k0_hw3 : k0_chk3 arg10_r0), ∀ a, (k0_off51 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.1
theorem k0_off51_packedbf16 : ∀ (arg10_r0 : BitVec 32) (k0_hw3 : k0_chk3 arg10_r0), (Rect.unit (s := S2x1x8x1x4x256x128) (k0_off51 arg10_r0) S1x1x1x1x1x256x128.size (k0_off51_inb arg10_r0 k0_hw3)).PackedRows (EltTy.packing .bf16) := fun arg10_r0 k0_hw3 => k0_hw3.2.1.2.2.2.2.2.2.2.2.2.2.2.2.2.2.2.2.2.2.2.2.2.2.2.2.2.2.1 (k0_off51_inb arg10_r0 k0_hw3)
theorem k0_off52_inb : ∀ (arg10_r0 : BitVec 32) (k0_hw3 : k0_chk3 arg10_r0), ∀ a, (k0_off52 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.2.2.1
theorem k0_off52_packedbf16 : ∀ (arg10_r0 : BitVec 32) (k0_hw3 : k0_chk3 arg10_r0), (Rect.unit (s := S2x1x8x1x4x256x128) (k0_off52 arg10_r0) S1x1x1x1x1x256x128.size (k0_off52_inb arg10_r0 k0_hw3)).PackedRows (EltTy.packing .bf16) := fun arg10_r0 k0_hw3 => k0_hw3.2.1.2.2.2.2.2.2.2.2.2.2.2.2.2.2.2.2.2.2.2.2.2.2.2.2.2.2.2.2.1 (k0_off52_inb arg10_r0 k0_hw3)
theorem k0_off53_inb : ∀ (arg10_r0 : BitVec 32) (k0_hw3 : k0_chk3 arg10_r0), ∀ a, (k0_off53 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.2.2.2.2.1
theorem k0_off53_packedbf16 : ∀ (arg10_r0 : BitVec 32) (k0_hw3 : k0_chk3 arg10_r0), (Rect.unit (s := S2x1x8x1x4x256x128) (k0_off53 arg10_r0) S1x1x1x1x1x256x128.size (k0_off53_inb arg10_r0 k0_hw3)).PackedRows (EltTy.packing .bf16) := fun arg10_r0 k0_hw3 => k0_hw3.2.1.2.2.2.2.2.2.2.2.2.2.2.2.2.2.2.2.2.2.2.2.2.2.2.2.2.2.2.2.2.2.1 (k0_off53_inb arg10_r0 k0_hw3)
theorem k0_off54_inb : ∀ (arg10_r0 : BitVec 32) (k0_hw3 : k0_chk3 arg10_r0), ∀ a, (k0_off54 arg10_r0) a + S1x1x1x1x1x256x128.size a ≤ S2x1x8x1x4x256x128.size a := fun arg10_r0 k0_hw3 => k0_hw3.2.1.2.2.2.2.2.2.2.2.2.2.2.2.2.2.2.2.2.2.2.2.2.2.2.2.2.2.2.2.2.2.2
theorem k0_off54_packedbf16 : ∀ (arg10_r0 : BitVec 32) (k0_hw3 : k0_chk3 arg10_r0), (Rect.unit (s := S2x1x8x1x4x256x128) (k0_off54 arg10_r0) S1x1x1x1x1x256x128.size (k0_off54_inb arg10_r0 k0_hw3)).PackedRows (EltTy.packing .bf16) := fun arg10_r0 k0_hw3 => k0_hw3.2.2 (k0_off54_inb arg10_r0 k0_hw3)

def k0_off55 (arg10_r0 : BitVec 32) : Fin 1 → Nat :=
  let c2_i32_831_r0 : BitVec 32 := 2#32
  let v780_r0 : BitVec 32 := Scalar.remui arg10_r0 c2_i32_831_r0
  ![v780_r0.toNat]
def k0_cond10 (k0_t1 : Fin k0_t1_loop.trips) (arg12_r0 : BitVec 32) (arg13_r0 : BitVec 32) (arg14_r0 : BitVec 32) : BitVec 1 :=
  let c0_i32_177_r0 : BitVec 32 := 0#32
  let v197_r0 : BitVec 32 := Scalar.addi arg13_r0 c0_i32_177_r0
  let true_193_r0 : BitVec 1 := 1#1
  let c1_i32_192_r0 : BitVec 32 := 1#32
  let v214_r0 : BitVec 32 := Scalar.addi arg14_r0 c1_i32_192_r0
  let v215_r0 : BitVec 32 := Scalar.select true_193_r0 v214_r0 arg14_r0
  let c4_i32_194_r0 : BitVec 32 := 4#32
  let v216_r0 : BitVec 1 := Scalar.cmpi .eq v215_r0 c4_i32_194_r0
  let c1_i32_196_r0 : BitVec 32 := 1#32
  let v218_r0 : BitVec 32 := Scalar.addi arg13_r0 c1_i32_196_r0
  let v219_r0 : BitVec 32 := Scalar.select v216_r0 v218_r0 arg13_r0
  let c2_i32_197_r0 : BitVec 32 := 2#32
  let v220_r0 : BitVec 1 := Scalar.cmpi .eq v219_r0 c2_i32_197_r0
  let c0_i32_198_r0 : BitVec 32 := 0#32
  let v221_r0 : BitVec 32 := Scalar.select v220_r0 c0_i32_198_r0 v219_r0
  let c0_i32_203_r0 : BitVec 32 := 0#32
  let v227_r0 : BitVec 32 := Scalar.addi v221_r0 c0_i32_203_r0
  let v717_r0 : BitVec 1 := Scalar.cmpi .ne v197_r0 v227_r0
  let c0_i32_176_r0 : BitVec 32 := 0#32
  let v196_r0 : BitVec 32 := Scalar.addi arg12_r0 c0_i32_176_r0
  let c2_i32_244_r0 : BitVec 32 := 2#32
  let c0_i32_245_r0 : BitVec 32 := 0#32
  let v283_r0 : BitVec 1 := Scalar.cmpi .eq c2_i32_244_r0 c0_i32_245_r0
  let c1_i32_246_r0 : BitVec 32 := 1#32
  let v284_r0 : BitVec 32 := Scalar.select v283_r0 c1_i32_246_r0 c2_i32_244_r0
  let v285_r0 : BitVec 32 := Scalar.remsi v196_r0 v284_r0
  let c0_i32_248_r0 : BitVec 32 := 0#32
  let v287_r0 : BitVec 1 := Scalar.cmpi .slt v285_r0 c0_i32_248_r0
  let c0_i32_249_r0 : BitVec 32 := 0#32
  let v288_r0 : BitVec 1 := Scalar.cmpi .slt v284_r0 c0_i32_249_r0
  let v289_r0 : BitVec 1 := Scalar.xori v287_r0 v288_r0
  let c0_i32_247_r0 : BitVec 32 := 0#32
  let v286_r0 : BitVec 1 := Scalar.cmpi .ne v285_r0 c0_i32_247_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_199_r0 : BitVec 32 := 1#32
  let v222_r0 : BitVec 32 := Scalar.addi arg12_r0 c1_i32_199_r0
  let v223_r0 : BitVec 32 := Scalar.select v220_r0 v222_r0 arg12_r0
  let c2_i32_200_r0 : BitVec 32 := 2#32
  let v224_r0 : BitVec 1 := Scalar.cmpi .eq v223_r0 c2_i32_200_r0
  let c0_i32_201_r0 : BitVec 32 := 0#32
  let v225_r0 : BitVec 32 := Scalar.select v224_r0 c0_i32_201_r0 v223_r0
  let c0_i32_202_r0 : BitVec 32 := 0#32
  let v226_r0 : BitVec 32 := Scalar.addi v225_r0 c0_i32_202_r0
  let c2_i32_257_r0 : BitVec 32 := 2#32
  let c0_i32_258_r0 : BitVec 32 := 0#32
  let v310_r0 : BitVec 1 := Scalar.cmpi .eq c2_i32_257_r0 c0_i32_258_r0
  let c1_i32_259_r0 : BitVec 32 := 1#32
  let v311_r0 : BitVec 32 := Scalar.select v310_r0 c1_i32_259_r0 c2_i32_257_r0
  let v312_r0 : BitVec 32 := Scalar.remsi v226_r0 v311_r0
  let c0_i32_261_r0 : BitVec 32 := 0#32
  let v314_r0 : BitVec 1 := Scalar.cmpi .slt v312_r0 c0_i32_261_r0
  let c0_i32_262_r0 : BitVec 32 := 0#32
  let v315_r0 : BitVec 1 := Scalar.cmpi .slt v311_r0 c0_i32_262_r0
  let v316_r0 : BitVec 1 := Scalar.xori v314_r0 v315_r0
  let c0_i32_260_r0 : BitVec 32 := 0#32
  let v313_r0 : BitVec 1 := Scalar.cmpi .ne v312_r0 c0_i32_260_r0
  let v317_r0 : BitVec 1 := Scalar.andi v316_r0 v313_r0
  let v318_r0 : BitVec 32 := Scalar.addi v312_r0 v311_r0
  let v319_r0 : BitVec 32 := Scalar.select v317_r0 v318_r0 v312_r0
  let v718_r0 : BitVec 1 := Scalar.cmpi .ne v292_r0 v319_r0
  let v721_r0 : BitVec 1 := Scalar.ori v717_r0 v718_r0
  let c0_i32_251_r0 : BitVec 32 := 0#32
  let v294_r0 : BitVec 1 := Scalar.cmpi .sgt v196_r0 c0_i32_251_r0
  let v295_r0 : BitVec 32 := Scalar.extui v294_r0
  let c0_i32_252_r0 : BitVec 32 := 0#32
  let v296_r0 : BitVec 1 := Scalar.cmpi .slt v196_r0 c0_i32_252_r0
  let v297_r0 : BitVec 32 := Scalar.extui v296_r0
  let v298_r0 : BitVec 32 := Scalar.subi v295_r0 v297_r0
  let c2_i32_250_r0 : BitVec 32 := 2#32
  let c0_i32_253_r0 : BitVec 32 := 0#32
  let v299_r0 : BitVec 1 := Scalar.cmpi .sgt c2_i32_250_r0 c0_i32_253_r0
  let v300_r0 : BitVec 32 := Scalar.extui v299_r0
  let c0_i32_254_r0 : BitVec 32 := 0#32
  let v301_r0 : BitVec 1 := Scalar.cmpi .slt c2_i32_250_r0 c0_i32_254_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_250_r0
  let c0_i32_255_r0 : BitVec 32 := 0#32
  let v306_r0 : BitVec 1 := Scalar.cmpi .ne v305_r0 c0_i32_255_r0
  let v307_r0 : BitVec 1 := Scalar.andi v304_r0 v306_r0
  let v293_r0 : BitVec 32 := Scalar.divsi v196_r0 c2_i32_250_r0
  let c1_i32_256_r0 : BitVec 32 := 1#32
  let v308_r0 : BitVec 32 := Scalar.subi v293_r0 c1_i32_256_r0
  let v309_r0 : BitVec 32 := Scalar.select v307_r0 v308_r0 v293_r0
  let c0_i32_264_r0 : BitVec 32 := 0#32
  let v321_r0 : BitVec 1 := Scalar.cmpi .sgt v226_r0 c0_i32_264_r0
  let v322_r0 : BitVec 32 := Scalar.extui v321_r0
  let c0_i32_265_r0 : BitVec 32 := 0#32
  let v323_r0 : BitVec 1 := Scalar.cmpi .slt v226_r0 c0_i32_265_r0
  let v324_r0 : BitVec 32 := Scalar.extui v323_r0
  let v325_r0 : BitVec 32 := Scalar.subi v322_r0 v324_r0
  let c2_i32_263_r0 : BitVec 32 := 2#32
  let c0_i32_266_r0 : BitVec 32 := 0#32
  let v326_r0 : BitVec 1 := Scalar.cmpi .sgt c2_i32_263_r0 c0_i32_266_r0
  let v327_r0 : BitVec 32 := Scalar.extui v326_r0
  let c0_i32_267_r0 : BitVec 32 := 0#32
  let v328_r0 : BitVec 1 := Scalar.cmpi .slt c2_i32_263_r0 c0_i32_267_r0
  let v329_r0 : BitVec 32 := Scalar.extui v328_r0
  let v330_r0 : BitVec 32 := Scalar.subi v327_r0 v329_r0
  let v331_r0 : BitVec 1 := Scalar.cmpi .ne v325_r0 v330_r0
  let v332_r0 : BitVec 32 := Scalar.remsi v226_r0 c2_i32_263_r0
  let c0_i32_268_r0 : BitVec 32 := 0#32
  let v333_r0 : BitVec 1 := Scalar.cmpi .ne v332_r0 c0_i32_268_r0
  let v334_r0 : BitVec 1 := Scalar.andi v331_r0 v333_r0
  let v320_r0 : BitVec 32 := Scalar.divsi v226_r0 c2_i32_263_r0
  let c1_i32_269_r0 : BitVec 32 := 1#32
  let v335_r0 : BitVec 32 := Scalar.subi v320_r0 c1_i32_269_r0
  let v336_r0 : BitVec 32 := Scalar.select v334_r0 v335_r0 v320_r0
  let v719_r0 : BitVec 1 := Scalar.cmpi .ne v309_r0 v336_r0
  let v722_r0 : BitVec 1 := Scalar.ori v721_r0 v719_r0
  let c0_i32_178_r0 : BitVec 32 := 0#32
  let v198_r0 : BitVec 32 := Scalar.addi arg14_r0 c0_i32_178_r0
  let c0_i32_195_r0 : BitVec 32 := 0#32
  let v217_r0 : BitVec 32 := Scalar.select v216_r0 c0_i32_195_r0 v215_r0
  let c0_i32_204_r0 : BitVec 32 := 0#32
  let v228_r0 : BitVec 32 := Scalar.addi v217_r0 c0_i32_204_r0
  let v720_r0 : BitVec 1 := Scalar.cmpi .ne v198_r0 v228_r0
  let v723_r0 : BitVec 1 := Scalar.ori v722_r0 v720_r0
  let c0_i32_83_r0 : BitVec 32 := 0#32
  let c1_i32_84_r0 : BitVec 32 := 1#32
  let arg5_r0 : BitVec 32 := Scf.iv c0_i32_83_r0 c1_i32_84_r0 k0_t1
  let c15_i32_r0 : BitVec 32 := 15#32
  let v195_r0 : BitVec 1 := Scalar.cmpi .eq arg5_r0 c15_i32_r0
  let v724_r0 : BitVec 1 := Scalar.ori v723_r0 v195_r0
  let v725_r0 : BitVec 32 := Scalar.extui v724_r0
  let c0_i32_806_r0 : BitVec 32 := 0#32
  let v726_r0 : BitVec 1 := Scalar.cmpi .ne v725_r0 c0_i32_806_r0
  v726_r0

def k0_off56 (arg12_r0 : BitVec 32) (arg13_r0 : BitVec 32) (arg14_r0 : BitVec 32) : Fin 6 → Nat :=
  let c1_i32_845_r0 : BitVec 32 := 1#32
  let c0_i32_177_r0 : BitVec 32 := 0#32
  let v197_r0 : BitVec 32 := Scalar.addi arg13_r0 c0_i32_177_r0
  let v808_r0 : BitVec 32 := Scalar.muli c1_i32_845_r0 v197_r0
  let c8_i32_846_r0 : BitVec 32 := 8#32
  let c0_i32_176_r0 : BitVec 32 := 0#32
  let v196_r0 : BitVec 32 := Scalar.addi arg12_r0 c0_i32_176_r0
  let c2_i32_832_r0 : BitVec 32 := 2#32
  let c0_i32_833_r0 : BitVec 32 := 0#32
  let v781_r0 : BitVec 1 := Scalar.cmpi .eq c2_i32_832_r0 c0_i32_833_r0
  let c1_i32_834_r0 : BitVec 32 := 1#32
  let v782_r0 : BitVec 32 := Scalar.select v781_r0 c1_i32_834_r0 c2_i32_832_r0
  let v783_r0 : BitVec 32 := Scalar.remsi v196_r0 v782_r0
  let c0_i32_836_r0 : BitVec 32 := 0#32
  let v785_r0 : BitVec 1 := Scalar.cmpi .slt v783_r0 c0_i32_836_r0
  let c0_i32_837_r0 : BitVec 32 := 0#32
  let v786_r0 : BitVec 1 := Scalar.cmpi .slt v782_r0 c0_i32_837_r0
  let v787_r0 : BitVec 1 := Scalar.xori v785_r0 v786_r0
  let c0_i32_835_r0 : BitVec 32 := 0#32
  let v784_r0 : BitVec 1 := Scalar.cmpi .ne v783_r0 c0_i32_835_r0
  let v788_r0 : BitVec 1 := Scalar.andi v787_r0 v784_r0
  let v789_r0 : BitVec 32 := Scalar.addi v783_r0 v782_r0
  let v790_r0 : BitVec 32 := Scalar.select v788_r0 v789_r0 v783_r0
  let v809_r0 : BitVec 32 := Scalar.muli c8_i32_846_r0 v790_r0
  let c1_i32_847_r0 : BitVec 32 := 1#32
  let c0_i32_839_r0 : BitVec 32 := 0#32
  let v792_r0 : BitVec 1 := Scalar.cmpi .sgt v196_r0 c0_i32_839_r0
  let v793_r0 : BitVec 32 := Scalar.extui v792_r0
  let c0_i32_840_r0 : BitVec 32 := 0#32
  let v794_r0 : BitVec 1 := Scalar.cmpi .slt v196_r0 c0_i32_840_r0
  let v795_r0 : BitVec 32 := Scalar.extui v794_r0
  let v796_r0 : BitVec 32 := Scalar.subi v793_r0 v795_r0
  let c2_i32_838_r0 : BitVec 32 := 2#32
  let c0_i32_841_r0 : BitVec 32 := 0#32
  let v797_r0 : BitVec 1 := Scalar.cmpi .sgt c2_i32_838_r0 c0_i32_841_r0
  let v798_r0 : BitVec 32 := Scalar.extui v797_r0
  let c0_i32_842_r0 : BitVec 32 := 0#32
  let v799_r0 : BitVec 1 := Scalar.cmpi .slt c2_i32_838_r0 c0_i32_842_r0
  let v800_r0 : BitVec 32 := Scalar.extui v799_r0
  let v801_r0 : BitVec 32 := Scalar.subi v798_r0 v800_r0
  let v802_r0 : BitVec 1 := Scalar.cmpi .ne v796_r0 v801_r0
  let v803_r0 : BitVec 32 := Scalar.remsi v196_r0 c2_i32_838_r0
  let c0_i32_843_r0 : BitVec 32 := 0#32
  let v804_r0 : BitVec 1 := Scalar.cmpi .ne v803_r0 c0_i32_843_r0
  let v805_r0 : BitVec 1 := Scalar.andi v802_r0 v804_r0
  let v791_r0 : BitVec 32 := Scalar.divsi v196_r0 c2_i32_838_r0
  let c1_i32_844_r0 : BitVec 32 := 1#32
  let v806_r0 : BitVec 32 := Scalar.subi v791_r0 c1_i32_844_r0
  let v807_r0 : BitVec 32 := Scalar.select v805_r0 v806_r0 v791_r0
  let v810_r0 : BitVec 32 := Scalar.muli c1_i32_847_r0 v807_r0
  let c0_i32_849_r0 : BitVec 32 := 0#32
  let c256_i32_848_r0 : BitVec 32 := 256#32
  let c0_i32_178_r0 : BitVec 32 := 0#32
  let v198_r0 : BitVec 32 := Scalar.addi arg14_r0 c0_i32_178_r0
  let v811_r0 : BitVec 32 := Scalar.muli c256_i32_848_r0 v198_r0
  let c0_i32_850_r0 : BitVec 32 := 0#32
  ![v808_r0.toNat, v809_r0.toNat, v810_r0.toNat, 0, v811_r0.toNat, 0]
def k0_off57 (arg10_r0 : BitVec 32) : Fin 7 → Nat :=
  let c2_i32_831_r0 : BitVec 32 := 2#32
  let v780_r0 : BitVec 32 := Scalar.remui arg10_r0 c2_i32_831_r0
  let c0_i32_851_r0 : BitVec 32 := 0#32
  let c0_i32_852_r0 : BitVec 32 := 0#32
  let c0_i32_853_r0 : BitVec 32 := 0#32
  let c0_i32_854_r0 : BitVec 32 := 0#32
  let c0_i32_855_r0 : BitVec 32 := 0#32
  let c0_i32_856_r0 : BitVec 32 := 0#32
  ![v780_r0.toNat, 0, 0, 0, 0, 0, 0]
def k0_off58 (arg11_r0 : BitVec 32) : Fin 1 → Nat :=
  let c2_i32_831_r0 : BitVec 32 := 2#32
  let v780_r0 : BitVec 32 := Scalar.remui arg11_r0 c2_i32_831_r0
  ![v780_r0.toNat]
def k0_cond13 (k0_t1 : Fin k0_t1_loop.trips) (arg12_r0 : BitVec 32) (arg13_r0 : BitVec 32) (arg14_r0 : BitVec 32) : BitVec 1 :=
  let c0_i32_177_r0 : BitVec 32 := 0#32
  let v197_r0 : BitVec 32 := Scalar.addi arg13_r0 c0_i32_177_r0
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v744_r0 : BitVec 1 := Scalar.cmpi .ne v197_r0 v212_r0
  let c0_i32_176_r0 : BitVec 32 := 0#32
  let v196_r0 : BitVec 32 := Scalar.addi arg12_r0 c0_i32_176_r0
  let c2_i32_244_r0 : BitVec 32 := 2#32
  let c0_i32_245_r0 : BitVec 32 := 0#32
  let v283_r0 : BitVec 1 := Scalar.cmpi .eq c2_i32_244_r0 c0_i32_245_r0
  let c1_i32_246_r0 : BitVec 32 := 1#32
  let v284_r0 : BitVec 32 := Scalar.select v283_r0 c1_i32_246_r0 c2_i32_244_r0
  let v285_r0 : BitVec 32 := Scalar.remsi v196_r0 v284_r0
  let c0_i32_248_r0 : BitVec 32 := 0#32
  let v287_r0 : BitVec 1 := Scalar.cmpi .slt v285_r0 c0_i32_248_r0
  let c0_i32_249_r0 : BitVec 32 := 0#32
  let v288_r0 : BitVec 1 := Scalar.cmpi .slt v284_r0 c0_i32_249_r0
  let v289_r0 : BitVec 1 := Scalar.xori v287_r0 v288_r0
  let c0_i32_247_r0 : BitVec 32 := 0#32
  let v286_r0 : BitVec 1 := Scalar.cmpi .ne v285_r0 c0_i32_247_r0
  let v290_r0 : BitVec 1 := Scalar.andi v289_r0 v286_r0
  let v291_r0 : BitVec 32 := Scalar.addi v285_r0 v284_r0
  let v292_r0 : BitVec 32 := Scalar.select v290_r0 v291_r0 v285_r0
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c1_i32_188_r0 : BitVec 32 := 1#32
  let v210_r0 : BitVec 32 := Scalar.select v209_r0 c1_i32_188_r0 v208_r0
  let c0_i32_189_r0 : BitVec 32 := 0#32
  let v211_r0 : BitVec 32 := Scalar.addi v210_r0 c0_i32_189_r0
  let c2_i32_277_r0 : BitVec 32 := 2#32
  let c0_i32_278_r0 : BitVec 32 := 0#32
  let v362_r0 : BitVec 1 := Scalar.cmpi .eq c2_i32_277_r0 c0_i32_278_r0
  let c1_i32_279_r0 : BitVec 32 := 1#32
  let v363_r0 : BitVec 32 := Scalar.select v362_r0 c1_i32_279_r0 c2_i32_277_r0
  let v364_r0 : BitVec 32 := Scalar.remsi v211_r0 v363_r0
  let c0_i32_281_r0 : BitVec 32 := 0#32
  let v366_r0 : BitVec 1 := Scalar.cmpi .slt v364_r0 c0_i32_281_r0
  let c0_i32_282_r0 : BitVec 32 := 0#32
  let v367_r0 : BitVec 1 := Scalar.cmpi .slt v363_r0 c0_i32_282_r0
  let v368_r0 : BitVec 1 := Scalar.xori v366_r0 v367_r0
  let c0_i32_280_r0 : BitVec 32 := 0#32
  let v365_r0 : BitVec 1 := Scalar.cmpi .ne v364_r0 c0_i32_280_r0
  let v369_r0 : BitVec 1 := Scalar.andi v368_r0 v365_r0
  let v370_r0 : BitVec 32 := Scalar.addi v364_r0 v363_r0
  let v371_r0 : BitVec 32 := Scalar.select v369_r0 v370_r0 v364_r0
  let v745_r0 : BitVec 1 := Scalar.cmpi .ne v292_r0 v371_r0
  let v748_r0 : BitVec 1 := Scalar.ori v744_r0 v745_r0
  let c0_i32_251_r0 : BitVec 32 := 0#32
  let v294_r0 : BitVec 1 := Scalar.cmpi .sgt v196_r0 c0_i32_251_r0
  let v295_r0 : BitVec 32 := Scalar.extui v294_r0
  let c0_i32_252_r0 : BitVec 32 := 0#32
  let v296_r0 : BitVec 1 := Scalar.cmpi .slt v196_r0 c0_i32_252_r0
  let v297_r0 : BitVec 32 := Scalar.extui v296_r0
  let v298_r0 : BitVec 32 := Scalar.subi v295_r0 v297_r0
  let c2_i32_250_r0 : BitVec 32 := 2#32
  let c0_i32_253_r0 : BitVec 32 := 0#32
  let v299_r0 : BitVec 1 := Scalar.cmpi .sgt c2_i32_250_r0 c0_i32_253_r0
  let v300_r0 : BitVec 32 := Scalar.extui v299_r0
  let c0_i32_254_r0 : BitVec 32 := 0#32
  let v301_r0 : BitVec 1 := Scalar.cmpi .slt c2_i32_250_r0 c0_i32_254_r0
  let v302_r0 : BitVec 32 := Scalar.extui v301_r0
  let v303_r0 : BitVec 32 := Scalar.subi v300_r0 v302_r0
  let v304_r0 : BitVec 1 := Scalar.cmpi .ne v298_r0 v303_r0
  let v305_r0 : BitVec 32 := Scalar.remsi v196_r0 c2_i32_250_r0
  let c0_i32_255_r0 : BitVec 32 := 0#32
  let v306_r0 : BitVec 1 := Scalar.cmpi .ne v305_r0 c0_i32_255_r0
  let v307_r0 : BitVec 1 := Scalar.andi v304_r0 v306_r0
  let v293_r0 : BitVec 32 := Scalar.divsi v196_r0 c2_i32_250_r0
  let c1_i32_256_r0 : BitVec 32 := 1#32
  let v308_r0 : BitVec 32 := Scalar.subi v293_r0 c1_i32_256_r0
  let v309_r0 : BitVec 32 := Scalar.select v307_r0 v308_r0 v293_r0
  let c0_i32_284_r0 : BitVec 32 := 0#32
  let v373_r0 : BitVec 1 := Scalar.cmpi .sgt v211_r0 c0_i32_284_r0
  let v374_r0 : BitVec 32 := Scalar.extui v373_r0
  let c0_i32_285_r0 : BitVec 32 := 0#32
  let v375_r0 : BitVec 1 := Scalar.cmpi .slt v211_r0 c0_i32_285_r0
  let v376_r0 : BitVec 32 := Scalar.extui v375_r0
  let v377_r0 : BitVec 32 := Scalar.subi v374_r0 v376_r0
  let c2_i32_283_r0 : BitVec 32 := 2#32
  let c0_i32_286_r0 : BitVec 32 := 0#32
  let v378_r0 : BitVec 1 := Scalar.cmpi .sgt c2_i32_283_r0 c0_i32_286_r0
  let v379_r0 : BitVec 32 := Scalar.extui v378_r0
  let c0_i32_287_r0 : BitVec 32 := 0#32
  let v380_r0 : BitVec 1 := Scalar.cmpi .slt c2_i32_283_r0 c0_i32_287_r0
  let v381_r0 : BitVec 32 := Scalar.extui v380_r0
  let v382_r0 : BitVec 32 := Scalar.subi v379_r0 v381_r0
  let v383_r0 : BitVec 1 := Scalar.cmpi .ne v377_r0 v382_r0
  let v384_r0 : BitVec 32 := Scalar.remsi v211_r0 c2_i32_283_r0
  let c0_i32_288_r0 : BitVec 32 := 0#32
  let v385_r0 : BitVec 1 := Scalar.cmpi .ne v384_r0 c0_i32_288_r0
  let v386_r0 : BitVec 1 := Scalar.andi v383_r0 v385_r0
  let v372_r0 : BitVec 32 := Scalar.divsi v211_r0 c2_i32_283_r0
  let c1_i32_289_r0 : BitVec 32 := 1#32
  let v387_r0 : BitVec 32 := Scalar.subi v372_r0 c1_i32_289_r0
  let v388_r0 : BitVec 32 := Scalar.select v386_r0 v387_r0 v372_r0
  let v746_r0 : BitVec 1 := Scalar.cmpi .ne v309_r0 v388_r0
  let v749_r0 : BitVec 1 := Scalar.ori v748_r0 v746_r0
  let c0_i32_178_r0 : BitVec 32 := 0#32
  let v198_r0 : BitVec 32 := Scalar.addi arg14_r0 c0_i32_178_r0
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v747_r0 : BitVec 1 := Scalar.cmpi .ne v198_r0 v213_r0
  let v750_r0 : BitVec 1 := Scalar.ori v749_r0 v747_r0
  let c0_i32_83_r0 : BitVec 32 := 0#32
  let c1_i32_84_r0 : BitVec 32 := 1#32
  let arg5_r0 : BitVec 32 := Scf.iv c0_i32_83_r0 c1_i32_84_r0 k0_t1
  let c0_i32_175_r0 : BitVec 32 := 0#32
  let v194_r0 : BitVec 1 := Scalar.cmpi .eq arg5_r0 c0_i32_175_r0
  let true_815_r0 : BitVec 1 := 1#1
  let v751_r0 : BitVec 1 := Scalar.xori v194_r0 true_815_r0
  let v752_r0 : BitVec 1 := Scalar.andi v750_r0 v751_r0
  let v753_r0 : BitVec 32 := Scalar.extui v752_r0
  let c0_i32_816_r0 : BitVec 32 := 0#32
  let v754_r0 : BitVec 1 := Scalar.cmpi .ne v753_r0 c0_i32_816_r0
  v754_r0

def k0_off59 (arg12_r0 : BitVec 32) (arg13_r0 : BitVec 32) (arg14_r0 : BitVec 32) : Fin 6 → Nat :=
  let c1_i32_845_r0 : BitVec 32 := 1#32
  let true_180_r0 : BitVec 1 := 1#1
  let c1_i32_179_r0 : BitVec 32 := 1#32
  let v199_r0 : BitVec 32 := Scalar.subi arg14_r0 c1_i32_179_r0
  let v200_r0 : BitVec 32 := Scalar.select true_180_r0 v199_r0 arg14_r0
  let c_m1_i32_181_r0 : BitVec 32 := 4294967295#32
  let v201_r0 : BitVec 1 := Scalar.cmpi .eq v200_r0 c_m1_i32_181_r0
  let c1_i32_183_r0 : BitVec 32 := 1#32
  let v203_r0 : BitVec 32 := Scalar.subi arg13_r0 c1_i32_183_r0
  let v204_r0 : BitVec 32 := Scalar.select v201_r0 v203_r0 arg13_r0
  let c_m1_i32_184_r0 : BitVec 32 := 4294967295#32
  let v205_r0 : BitVec 1 := Scalar.cmpi .eq v204_r0 c_m1_i32_184_r0
  let c1_i32_185_r0 : BitVec 32 := 1#32
  let v206_r0 : BitVec 32 := Scalar.select v205_r0 c1_i32_185_r0 v204_r0
  let c0_i32_190_r0 : BitVec 32 := 0#32
  let v212_r0 : BitVec 32 := Scalar.addi v206_r0 c0_i32_190_r0
  let v808_r0 : BitVec 32 := Scalar.muli c1_i32_845_r0 v212_r0
  let c8_i32_846_r0 : BitVec 32 := 8#32
  let c1_i32_186_r0 : BitVec 32 := 1#32
  let v207_r0 : BitVec 32 := Scalar.subi arg12_r0 c1_i32_186_r0
  let v208_r0 : BitVec 32 := Scalar.select v205_r0 v207_r0 arg12_r0
  let c_m1_i32_187_r0 : BitVec 32 := 4294967295#32
  let v209_r0 : BitVec 1 := Scalar.cmpi .eq v208_r0 c_m1_i32_187_r0
  let c1_i32_188_r0 : BitVec 32 := 1#32
  let v210_r0 : BitVec 32 := Scalar.select v209_r0 c1_i32_188_r0 v208_r0
  let c0_i32_189_r0 : BitVec 32 := 0#32
  let v211_r0 : BitVec 32 := Scalar.addi v210_r0 c0_i32_189_r0
  let c2_i32_832_r0 : BitVec 32 := 2#32
  let c0_i32_833_r0 : BitVec 32 := 0#32
  let v781_r0 : BitVec 1 := Scalar.cmpi .eq c2_i32_832_r0 c0_i32_833_r0
  let c1_i32_834_r0 : BitVec 32 := 1#32
  let v782_r0 : BitVec 32 := Scalar.select v781_r0 c1_i32_834_r0 c2_i32_832_r0
  let v783_r0 : BitVec 32 := Scalar.remsi v211_r0 v782_r0
  let c0_i32_836_r0 : BitVec 32 := 0#32
  let v785_r0 : BitVec 1 := Scalar.cmpi .slt v783_r0 c0_i32_836_r0
  let c0_i32_837_r0 : BitVec 32 := 0#32
  let v786_r0 : BitVec 1 := Scalar.cmpi .slt v782_r0 c0_i32_837_r0
  let v787_r0 : BitVec 1 := Scalar.xori v785_r0 v786_r0
  let c0_i32_835_r0 : BitVec 32 := 0#32
  let v784_r0 : BitVec 1 := Scalar.cmpi .ne v783_r0 c0_i32_835_r0
  let v788_r0 : BitVec 1 := Scalar.andi v787_r0 v784_r0
  let v789_r0 : BitVec 32 := Scalar.addi v783_r0 v782_r0
  let v790_r0 : BitVec 32 := Scalar.select v788_r0 v789_r0 v783_r0
  let v809_r0 : BitVec 32 := Scalar.muli c8_i32_846_r0 v790_r0
  let c1_i32_847_r0 : BitVec 32 := 1#32
  let c0_i32_839_r0 : BitVec 32 := 0#32
  let v792_r0 : BitVec 1 := Scalar.cmpi .sgt v211_r0 c0_i32_839_r0
  let v793_r0 : BitVec 32 := Scalar.extui v792_r0
  let c0_i32_840_r0 : BitVec 32 := 0#32
  let v794_r0 : BitVec 1 := Scalar.cmpi .slt v211_r0 c0_i32_840_r0
  let v795_r0 : BitVec 32 := Scalar.extui v794_r0
  let v796_r0 : BitVec 32 := Scalar.subi v793_r0 v795_r0
  let c2_i32_838_r0 : BitVec 32 := 2#32
  let c0_i32_841_r0 : BitVec 32 := 0#32
  let v797_r0 : BitVec 1 := Scalar.cmpi .sgt c2_i32_838_r0 c0_i32_841_r0
  let v798_r0 : BitVec 32 := Scalar.extui v797_r0
  let c0_i32_842_r0 : BitVec 32 := 0#32
  let v799_r0 : BitVec 1 := Scalar.cmpi .slt c2_i32_838_r0 c0_i32_842_r0
  let v800_r0 : BitVec 32 := Scalar.extui v799_r0
  let v801_r0 : BitVec 32 := Scalar.subi v798_r0 v800_r0
  let v802_r0 : BitVec 1 := Scalar.cmpi .ne v796_r0 v801_r0
  let v803_r0 : BitVec 32 := Scalar.remsi v211_r0 c2_i32_838_r0
  let c0_i32_843_r0 : BitVec 32 := 0#32
  let v804_r0 : BitVec 1 := Scalar.cmpi .ne v803_r0 c0_i32_843_r0
  let v805_r0 : BitVec 1 := Scalar.andi v802_r0 v804_r0
  let v791_r0 : BitVec 32 := Scalar.divsi v211_r0 c2_i32_838_r0
  let c1_i32_844_r0 : BitVec 32 := 1#32
  let v806_r0 : BitVec 32 := Scalar.subi v791_r0 c1_i32_844_r0
  let v807_r0 : BitVec 32 := Scalar.select v805_r0 v806_r0 v791_r0
  let v810_r0 : BitVec 32 := Scalar.muli c1_i32_847_r0 v807_r0
  let c0_i32_849_r0 : BitVec 32 := 0#32
  let c256_i32_848_r0 : BitVec 32 := 256#32
  let c3_i32_182_r0 : BitVec 32 := 3#32
  let v202_r0 : BitVec 32 := Scalar.select v201_r0 c3_i32_182_r0 v200_r0
  let c0_i32_191_r0 : BitVec 32 := 0#32
  let v213_r0 : BitVec 32 := Scalar.addi v202_r0 c0_i32_191_r0
  let v811_r0 : BitVec 32 := Scalar.muli c256_i32_848_r0 v213_r0
  let c0_i32_850_r0 : BitVec 32 := 0#32
  ![v808_r0.toNat, v809_r0.toNat, v810_r0.toNat, 0, v811_r0.toNat, 0]
def k0_off60 (arg11_r0 : BitVec 32) : Fin 7 → Nat :=
  let c2_i32_831_r0 : BitVec 32 := 2#32
  let v780_r0 : BitVec 32 := Scalar.remui arg11_r0 c2_i32_831_r0
  let c0_i32_851_r0 : BitVec 32 := 0#32
  let c0_i32_852_r0 : BitVec 32 := 0#32
  let c0_i32_853_r0 : BitVec 32 := 0#32
  let c0_i32_854_r0 : BitVec 32 := 0#32
  let c0_i32_855_r0 : BitVec 32 := 0#32
  let c0_i32_856_r0 : BitVec 32 := 0#32
  ![v780_r0.toNat, 0, 0, 0, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) : Prop :=
  (∀ (k0_h2 : k0_cond2 k0_t1 arg13_r0 arg14_r0 = 1#1), ∀ a, (k0_off8 arg6_r0) a + S1.size a ≤ S3.size a) ∧
  (∀ (k0_h2 : k0_cond2 k0_t1 arg13_r0 arg14_r0 = 1#1), ∀ a, (k0_off9 arg6_r0) a + S1x1x1024x2048.size a ≤ S3x1x1024x2048.size a) ∧
  (∀ (k0_h2 : k0_cond2 k0_t1 arg13_r0 arg14_r0 = 1#1), ∀ a, (k0_off10 arg13_r0 arg14_r0) a + S1x1024x2048.size a ≤ S2x4096x2048.size a) ∧
  (∀ (k0_h2 : k0_cond2 k0_t1 arg13_r0 arg14_r0 = 1#1), ∀ (hinb : ∀ a, (k0_off10 arg13_r0 arg14_r0) a + S1x1024x2048.size a ≤ S2x4096x2048.size a), (Rect.unit (s := S2x4096x2048) (k0_off10 arg13_r0 arg14_r0) S1x1024x2048.size hinb).WholeWords (EltTy.packing .bf16)) ∧
  (∀ (k0_h2 : k0_cond2 k0_t1 arg13_r0 arg14_r0 = 1#1), ∀ (hinb : ∀ a, (k0_off9 arg6_r0) a + S1x1x1024x2048.size a ≤ S3x1x1024x2048.size a), (Rect.unit (s := S3x1x1024x2048) (k0_off9 arg6_r0) S1x1x1024x2048.size hinb).WholeWords (EltTy.packing .bf16)) ∧
  (∀ (k0_h3 : k0_cond3 k0_t1 arg12_r0 arg13_r0 arg14_r0 = 1#1), ∀ a, (k0_off11 arg8_r0) a + S1.size a ≤ S2.size a) ∧
  (∀ (k0_h3 : k0_cond3 k0_t1 arg12_r0 arg13_r0 arg14_r0 = 1#1), ∀ a, (k0_off12 arg8_r0) a + S1x2048x1024.size a ≤ S2x2048x1024.size a) ∧
  (∀ (k0_h3 : k0_cond3 k0_t1 arg12_r0 arg13_r0 arg14_r0 = 1#1), ∀ a, (k0_off13 arg12_r0 arg13_r0 arg14_r0) a + S2048x1024.size a ≤ S2048x8192.size a) ∧
  (∀ (k0_h4 : k0_cond4 k0_t1 arg13_r0 arg14_r0 = 1#1), ∀ a, (k0_off14 arg7_r0) a + S1.size a ≤ S3.size a) ∧
  (∀ (k0_h4 : k0_cond4 k0_t1 arg13_r0 arg14_r0 = 1#1), ∀ a, (k0_off15 arg7_r0) a + S1x1x1024x2048.size a ≤ S3x1x1024x2048.size a) ∧
  (∀ (k0_h4 : k0_cond4 k0_t1 arg13_r0 arg14_r0 = 1#1), ∀ a, (k0_off16 arg13_r0 arg14_r0) a + S1x1024x2048.size a ≤ S2x4096x2048.size a) ∧
  (∀ (k0_h4 : k0_cond4 k0_t1 arg13_r0 arg14_r0 = 1#1), ∀ (hinb : ∀ a, (k0_off16 arg13_r0 arg14_r0) a + S1x1024x2048.size a ≤ S2x4096x2048.size a), (Rect.unit (s := S2x4096x2048) (k0_off16 arg13_r0 arg14_r0) S1x1024x2048.size hinb).WholeWords (EltTy.packing .bf16)) ∧
  (∀ (k0_h4 : k0_cond4 k0_t1 arg13_r0 arg14_r0 = 1#1), ∀ (hinb : ∀ a, (k0_off15 arg7_r0) a + S1x1x1024x2048.size a ≤ S3x1x1024x2048.size a), (Rect.unit (s := S3x1x1024x2048) (k0_off15 arg7_r0) S1x1x1024x2048.size hinb).WholeWords (EltTy.packing .bf16)) ∧
  (∀ (k0_h5 : k0_cond5 k0_t1 arg12_r0 arg13_r0 arg14_r0 = 1#1), ∀ a, (k0_off17 arg9_r0) a + S1.size a ≤ S2.size a) ∧
  (∀ (k0_h5 : k0_cond5 k0_t1 arg12_r0 arg13_r0 arg14_r0 = 1#1), ∀ a, (k0_off18 arg9_r0) a + S1x2048x1024.size a ≤ S2x2048x1024.size a) ∧
  (∀ (k0_h5 : k0_cond5 k0_t1 arg12_r0 arg13_r0 arg14_r0 = 1#1), ∀ a, (k0_off19 arg12_r0) a + S2048x1024.size a ≤ S2048x8192.size a) ∧
  (∀ (k0_h7 : k0_cond7 arg13_r0 arg14_r0 = 1#1), ∀ a, (k0_off20 arg9_r0) a + S1x2048x1024.size a ≤ S2x2048x1024.size a) ∧
  (∀ (k0_h10 : k0_cond10 k0_t1 arg12_r0 arg13_r0 arg14_r0 = 1#1), ∀ a, (k0_off55 arg10_r0) a + S1.size a ≤ S2.size a) ∧
  (∀ (k0_h10 : k0_cond10 k0_t1 arg12_r0 arg13_r0 arg14_r0 = 1#1), ∀ a, (k0_off56 arg12_r0 arg13_r0 arg14_r0) a + S1x8x1x4x256x128.size a ≤ S2x16x1x4x1024x128.size a) ∧
  (∀ (k0_h10 : k0_cond10 k0_t1 arg12_r0 arg13_r0 arg14_r0 = 1#1), ∀ a, (k0_off57 arg10_r0) a + S1x1x8x1x4x256x128.size a ≤ S2x1x8x1x4x256x128.size a) ∧
  (∀ (k0_h10 : k0_cond10 k0_t1 arg12_r0 arg13_r0 arg14_r0 = 1#1), ∀ (hinb : ∀ a, (k0_off57 arg10_r0) a + S1x1x8x1x4x256x128.size a ≤ S2x1x8x1x4x256x128.size a), (Rect.unit (s := S2x1x8x1x4x256x128) (k0_off57 arg10_r0) S1x1x8x1x4x256x128.size hinb).WholeWords (EltTy.packing .bf16)) ∧
  (∀ (k0_h10 : k0_cond10 k0_t1 arg12_r0 arg13_r0 arg14_r0 = 1#1), ∀ (hinb : ∀ a, (k0_off56 arg12_r0 arg13_r0 arg14_r0) a + S1x8x1x4x256x128.size a ≤ S2x16x1x4x1024x128.size a), (Rect.unit (s := S2x16x1x4x1024x128) (k0_off56 arg12_r0 arg13_r0 arg14_r0) S1x8x1x4x256x128.size hinb).WholeWords (EltTy.packing .bf16)) ∧
  (∀ (k0_h13 : k0_cond13 k0_t1 arg12_r0 arg13_r0 arg14_r0 = 1#1), ∀ a, (k0_off58 arg11_r0) a + S1.size a ≤ S2.size a) ∧
  (∀ (k0_h13 : k0_cond13 k0_t1 arg12_r0 arg13_r0 arg14_r0 = 1#1), ∀ a, (k0_off59 arg12_r0 arg13_r0 arg14_r0) a + S1x8x1x4x256x128.size a ≤ S2x16x1x4x1024x128.size a) ∧
  (∀ (k0_h13 : k0_cond13 k0_t1 arg12_r0 arg13_r0 arg14_r0 = 1#1), ∀ a, (k0_off60 arg11_r0) a + S1x1x8x1x4x256x128.size a ≤ S2x1x8x1x4x256x128.size a) ∧
  (∀ (k0_h13 : k0_cond13 k0_t1 arg12_r0 arg13_r0 arg14_r0 = 1#1), ∀ (hinb : ∀ a, (k0_off60 arg11_r0) a + S1x1x8x1x4x256x128.size a ≤ S2x1x8x1x4x256x128.size a), (Rect.unit (s := S2x1x8x1x4x256x128) (k0_off60 arg11_r0) S1x1x8x1x4x256x128.size hinb).WholeWords (EltTy.packing .bf16)) ∧
  (∀ (k0_h13 : k0_cond13 k0_t1 arg12_r0 arg13_r0 arg14_r0 = 1#1), ∀ (hinb : ∀ a, (k0_off59 arg12_r0 arg13_r0 arg14_r0) a + S1x8x1x4x256x128.size a ≤ S2x16x1x4x1024x128.size a), (Rect.unit (s := S2x16x1x4x1024x128) (k0_off59 arg12_r0 arg13_r0 arg14_r0) S1x8x1x4x256x128.size hinb).WholeWords (EltTy.packing .bf16))
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off8 arg6_r0) a + S1.size a ≤ S3.size a := fun k0_t1 arg6_r0 arg7_r0 arg8_r0 arg9_r0 arg10_r0 arg11_r0 arg12_r0 arg13_r0 arg14_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off9 arg6_r0) a + S1x1x1024x2048.size a ≤ S3x1x1024x2048.size a := fun k0_t1 arg6_r0 arg7_r0 arg8_r0 arg9_r0 arg10_r0 arg11_r0 arg12_r0 arg13_r0 arg14_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), ∀ a, (k0_off10 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h2 => k0_hw1.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S2x4096x2048) (k0_off10 arg13_r0 arg14_r0) S1x1024x2048.size (k0_off10_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.1 k0_h2 (k0_off10_inb k0_t1 arg6_r0 arg7_r0 arg8_r0 arg9_r0 arg10_r0 arg11_r0 arg12_r0 arg13_r0 arg14_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h2 : k0_cond2 k0_t1 arg13_r0 arg14_r0 = 1#1), (Rect.unit (s := S3x1x1024x2048) (k0_off9 arg6_r0) S1x1x1024x2048.size (k0_off9_inb k0_t1 arg6_r0 arg7_r0 arg8_r0 arg9_r0 arg10_r0 arg11_r0 arg12_r0 arg13_r0 arg14_r0 k0_hw1 k0_h2)).WholeWords (EltTy.packing .bf16) := fun k0_t1 arg6_r0 arg7_r0 arg8_r0 arg9_r0 arg10_r0 arg11_r0 arg12_r0 arg13_r0 arg14_r0 k0_hw1 k0_h2 => k0_hw1.2.2.2.2.1 k0_h2 (k0_off9_inb k0_t1 arg6_r0 arg7_r0 arg8_r0 arg9_r0 arg10_r0 arg11_r0 arg12_r0 arg13_r0 arg14_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off11 arg8_r0) a + S1.size a ≤ S2.size a := fun k0_t1 arg6_r0 arg7_r0 arg8_r0 arg9_r0 arg10_r0 arg11_r0 arg12_r0 arg13_r0 arg14_r0 k0_hw1 k0_h3 => k0_hw1.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off12 arg8_r0) a + S1x2048x1024.size a ≤ S2x2048x1024.size a := fun k0_t1 arg6_r0 arg7_r0 arg8_r0 arg9_r0 arg10_r0 arg11_r0 arg12_r0 arg13_r0 arg14_r0 k0_hw1 k0_h3 => k0_hw1.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h3 : k0_cond3 k0_t1 arg12_r0 arg13_r0 arg14_r0 = 1#1), ∀ a, (k0_off13 arg12_r0 arg13_r0 arg14_r0) a + S2048x1024.size a ≤ S2048x8192.size a := fun k0_t1 arg6_r0 arg7_r0 arg8_r0 arg9_r0 arg10_r0 arg11_r0 arg12_r0 arg13_r0 arg14_r0 k0_hw1 k0_h3 => k0_hw1.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off14 arg7_r0) a + S1.size a ≤ S3.size a := fun k0_t1 arg6_r0 arg7_r0 arg8_r0 arg9_r0 arg10_r0 arg11_r0 arg12_r0 arg13_r0 arg14_r0 k0_hw1 k0_h4 => k0_hw1.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off15 arg7_r0) a + S1x1x1024x2048.size a ≤ S3x1x1024x2048.size a := fun k0_t1 arg6_r0 arg7_r0 arg8_r0 arg9_r0 arg10_r0 arg11_r0 arg12_r0 arg13_r0 arg14_r0 k0_hw1 k0_h4 => k0_hw1.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), ∀ a, (k0_off16 arg13_r0 arg14_r0) a + S1x1024x2048.size a ≤ S2x4096x2048.size a := fun k0_t1 arg6_r0 arg7_r0 arg8_r0 arg9_r0 arg10_r0 arg11_r0 arg12_r0 arg13_r0 arg14_r0 k0_hw1 k0_h4 => k0_hw1.2.2.2.2.2.2.2.2.2.2.1 k0_h4
theorem k0_off16_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S2x4096x2048) (k0_off16 arg13_r0 arg14_r0) S1x1024x2048.size (k0_off16_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.1 k0_h4 (k0_off16_inb k0_t1 arg6_r0 arg7_r0 arg8_r0 arg9_r0 arg10_r0 arg11_r0 arg12_r0 arg13_r0 arg14_r0 k0_hw1 k0_h4)
theorem k0_off15_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h4 : k0_cond4 k0_t1 arg13_r0 arg14_r0 = 1#1), (Rect.unit (s := S3x1x1024x2048) (k0_off15 arg7_r0) S1x1x1024x2048.size (k0_off15_inb k0_t1 arg6_r0 arg7_r0 arg8_r0 arg9_r0 arg10_r0 arg11_r0 arg12_r0 arg13_r0 arg14_r0 k0_hw1 k0_h4)).WholeWords (EltTy.packing .bf16) := fun k0_t1 arg6_r0 arg7_r0 arg8_r0 arg9_r0 arg10_r0 arg11_r0 arg12_r0 arg13_r0 arg14_r0 k0_hw1 k0_h4 => k0_hw1.2.2.2.2.2.2.2.2.2.2.2.2.1 k0_h4 (k0_off15_inb k0_t1 arg6_r0 arg7_r0 arg8_r0 arg9_r0 arg10_r0 arg11_r0 arg12_r0 arg13_r0 arg14_r0 k0_hw1 k0_h4)
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off17 arg9_r0) a + S1.size a ≤ S2.size a := fun k0_t1 arg6_r0 arg7_r0 arg8_r0 arg9_r0 arg10_r0 arg11_r0 arg12_r0 arg13_r0 arg14_r0 k0_hw1 k0_h5 => k0_hw1.2.2.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off18 arg9_r0) a + S1x2048x1024.size a ≤ S2x2048x1024.size a := fun k0_t1 arg6_r0 arg7_r0 arg8_r0 arg9_r0 arg10_r0 arg11_r0 arg12_r0 arg13_r0 arg14_r0 k0_hw1 k0_h5 => k0_hw1.2.2.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h5 : k0_cond5 k0_t1 arg12_r0 arg13_r0 arg14_r0 = 1#1), ∀ a, (k0_off19 arg12_r0) a + S2048x1024.size a ≤ S2048x8192.size a := fun k0_t1 arg6_r0 arg7_r0 arg8_r0 arg9_r0 arg10_r0 arg11_r0 arg12_r0 arg13_r0 arg14_r0 k0_hw1 k0_h5 => k0_hw1.2.2.2.2.2.2.2.2.2.2.2.2.2.2.2.1 k0_h5
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h7 : k0_cond7 arg13_r0 arg14_r0 = 1#1), ∀ a, (k0_off20 arg9_r0) a + S1x2048x1024.size a ≤ S2x2048x1024.size a := fun k0_t1 arg6_r0 arg7_r0 arg8_r0 arg9_r0 arg10_r0 arg11_r0 arg12_r0 arg13_r0 arg14_r0 k0_hw1 k0_h7 => k0_hw1.2.2.2.2.2.2.2.2.2.2.2.2.2.2.2.2.1 k0_h7
theorem k0_off55_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off55 arg10_r0) a + S1.size a ≤ S2.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.1 k0_h10
theorem k0_off56_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off56 arg12_r0 arg13_r0 arg14_r0) a + S1x8x1x4x256x128.size a ≤ S2x16x1x4x1024x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.1 k0_h10
theorem k0_off57_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), ∀ a, (k0_off57 arg10_r0) a + S1x1x8x1x4x256x128.size a ≤ S2x1x8x1x4x256x128.size a := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.1 k0_h10
theorem k0_off57_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x1x8x1x4x256x128) (k0_off57 arg10_r0) S1x1x8x1x4x256x128.size (k0_off57_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.1 k0_h10 (k0_off57_inb k0_t1 arg6_r0 arg7_r0 arg8_r0 arg9_r0 arg10_r0 arg11_r0 arg12_r0 arg13_r0 arg14_r0 k0_hw1 k0_h10)
theorem k0_off56_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h10 : k0_cond10 k0_t1 arg12_r0 arg13_r0 arg14_r0 = 1#1), (Rect.unit (s := S2x16x1x4x1024x128) (k0_off56 arg12_r0 arg13_r0 arg14_r0) S1x8x1x4x256x128.size (k0_off56_inb k0_t1 arg6_r0 arg7_r0 arg8_r0 arg9_r0 arg10_r0 arg11_r0 arg12_r0 arg13_r0 arg14_r0 k0_hw1 k0_h10)).WholeWords (EltTy.packing .bf16) := fun k0_t1 arg6_r0 arg7_r0 arg8_r0 arg9_r0 arg10_r0 arg11_r0 arg12_r0 arg13_r0 arg14_r0 k0_hw1 k0_h10 => k0_hw1.2.2.2.2.2.2.2.2.2.2.2.2.2.2.2.2.2.2.2.2.2.1 k0_h10 (k0_off56_inb k0_t1 arg6_r0 arg7_r0 arg8_r0 arg9_r0 arg10_r0 arg11_r0 arg12_r0 arg13_r0 arg14_r0 k0_hw1 k0_h10)
theorem k0_off58_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off58 arg11_r0) a + S1.size a ≤ S2.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.1 k0_h13
theorem k0_off59_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off59 arg12_r0 arg13_r0 arg14_r0) a + S1x8x1x4x256x128.size a ≤ S2x16x1x4x1024x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.1 k0_h13
theorem k0_off60_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), ∀ a, (k0_off60 arg11_r0) a + S1x1x8x1x4x256x128.size a ≤ S2x1x8x1x4x256x128.size a := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.1 k0_h13
theorem k0_off60_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x1x8x1x4x256x128) (k0_off60 arg11_r0) S1x1x8x1x4x256x128.size (k0_off60_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.1 k0_h13 (k0_off60_inb k0_t1 arg6_r0 arg7_r0 arg8_r0 arg9_r0 arg10_r0 arg11_r0 arg12_r0 arg13_r0 arg14_r0 k0_hw1 k0_h13)
theorem k0_off59_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (k0_hw1 : k0_chk1 k0_t1 arg6_r0 arg7_r0 arg8_r0 arg9_r0 arg10_r0 arg11_r0 arg12_r0 arg13_r0 arg14_r0), ∀ (k0_h13 : k0_cond13 k0_t1 arg12_r0 arg13_r0 arg14_r0 = 1#1), (Rect.unit (s := S2x16x1x4x1024x128) (k0_off59 arg12_r0 arg13_r0 arg14_r0) S1x8x1x4x256x128.size (k0_off59_inb k0_t1 arg6_r0 arg7_r0 arg8_r0 arg9_r0 arg10_r0 arg11_r0 arg12_r0 arg13_r0 arg14_r0 k0_hw1 k0_h13)).WholeWords (EltTy.packing .bf16) := fun k0_t1 arg6_r0 arg7_r0 arg8_r0 arg9_r0 arg10_r0 arg11_r0 arg12_r0 arg13_r0 arg14_r0 k0_hw1 k0_h13 => k0_hw1.2.2.2.2.2.2.2.2.2.2.2.2.2.2.2.2.2.2.2.2.2.2.2.2.2.2 k0_h13 (k0_off59_inb k0_t1 arg6_r0 arg7_r0 arg8_r0 arg9_r0 arg10_r0 arg11_r0 arg12_r0 arg13_r0 arg14_r0 k0_hw1 k0_h13)

def k0_off61 (v81_5_r0 : BitVec 32) : Fin 1 → Nat :=
  let c2_i32_151_r0 : BitVec 32 := 2#32
  let v157_r0 : BitVec 32 := Scalar.remui v81_5_r0 c2_i32_151_r0
  ![v157_r0.toNat]

def k0_off62 (v81_8_r0 : BitVec 32) (v81_7_r0 : BitVec 32) (v81_6_r0 : BitVec 32) : Fin 6 → Nat :=
  let c1_i32_165_r0 : BitVec 32 := 1#32
  let true_87_r0 : BitVec 1 := 1#1
  let c1_i32_86_r0 : BitVec 32 := 1#32
  let v82_r0 : BitVec 32 := Scalar.subi v81_8_r0 c1_i32_86_r0
  let v83_r0 : BitVec 32 := Scalar.select true_87_r0 v82_r0 v81_8_r0
  let c_m1_i32_88_r0 : BitVec 32 := 4294967295#32
  let v84_r0 : BitVec 1 := Scalar.cmpi .eq v83_r0 c_m1_i32_88_r0
  let c1_i32_90_r0 : BitVec 32 := 1#32
  let v86_r0 : BitVec 32 := Scalar.subi v81_7_r0 c1_i32_90_r0
  let v87_r0 : BitVec 32 := Scalar.select v84_r0 v86_r0 v81_7_r0
  let c_m1_i32_91_r0 : BitVec 32 := 4294967295#32
  let v88_r0 : BitVec 1 := Scalar.cmpi .eq v87_r0 c_m1_i32_91_r0
  let c1_i32_92_r0 : BitVec 32 := 1#32
  let v89_r0 : BitVec 32 := Scalar.select v88_r0 c1_i32_92_r0 v87_r0
  let c0_i32_97_r0 : BitVec 32 := 0#32
  let v95_r0 : BitVec 32 := Scalar.addi v89_r0 c0_i32_97_r0
  let v185_r0 : BitVec 32 := Scalar.muli c1_i32_165_r0 v95_r0
  let c8_i32_r0 : BitVec 32 := 8#32
  let c1_i32_93_r0 : BitVec 32 := 1#32
  let v90_r0 : BitVec 32 := Scalar.subi v81_6_r0 c1_i32_93_r0
  let v91_r0 : BitVec 32 := Scalar.select v88_r0 v90_r0 v81_6_r0
  let c_m1_i32_94_r0 : BitVec 32 := 4294967295#32
  let v92_r0 : BitVec 1 := Scalar.cmpi .eq v91_r0 c_m1_i32_94_r0
  let c1_i32_95_r0 : BitVec 32 := 1#32
  let v93_r0 : BitVec 32 := Scalar.select v92_r0 c1_i32_95_r0 v91_r0
  let c0_i32_96_r0 : BitVec 32 := 0#32
  let v94_r0 : BitVec 32 := Scalar.addi v93_r0 c0_i32_96_r0
  let c2_i32_152_r0 : BitVec 32 := 2#32
  let c0_i32_153_r0 : BitVec 32 := 0#32
  let v158_r0 : BitVec 1 := Scalar.cmpi .eq c2_i32_152_r0 c0_i32_153_r0
  let c1_i32_154_r0 : BitVec 32 := 1#32
  let v159_r0 : BitVec 32 := Scalar.select v158_r0 c1_i32_154_r0 c2_i32_152_r0
  let v160_r0 : BitVec 32 := Scalar.remsi v94_r0 v159_r0
  let c0_i32_156_r0 : BitVec 32 := 0#32
  let v162_r0 : BitVec 1 := Scalar.cmpi .slt v160_r0 c0_i32_156_r0
  let c0_i32_157_r0 : BitVec 32 := 0#32
  let v163_r0 : BitVec 1 := Scalar.cmpi .slt v159_r0 c0_i32_157_r0
  let v164_r0 : BitVec 1 := Scalar.xori v162_r0 v163_r0
  let c0_i32_155_r0 : BitVec 32 := 0#32
  let v161_r0 : BitVec 1 := Scalar.cmpi .ne v160_r0 c0_i32_155_r0
  let v165_r0 : BitVec 1 := Scalar.andi v164_r0 v161_r0
  let v166_r0 : BitVec 32 := Scalar.addi v160_r0 v159_r0
  let v167_r0 : BitVec 32 := Scalar.select v165_r0 v166_r0 v160_r0
  let v186_r0 : BitVec 32 := Scalar.muli c8_i32_r0 v167_r0
  let c1_i32_166_r0 : BitVec 32 := 1#32
  let c0_i32_159_r0 : BitVec 32 := 0#32
  let v169_r0 : BitVec 1 := Scalar.cmpi .sgt v94_r0 c0_i32_159_r0
  let v170_r0 : BitVec 32 := Scalar.extui v169_r0
  let c0_i32_160_r0 : BitVec 32 := 0#32
  let v171_r0 : BitVec 1 := Scalar.cmpi .slt v94_r0 c0_i32_160_r0
  let v172_r0 : BitVec 32 := Scalar.extui v171_r0
  let v173_r0 : BitVec 32 := Scalar.subi v170_r0 v172_r0
  let c2_i32_158_r0 : BitVec 32 := 2#32
  let c0_i32_161_r0 : BitVec 32 := 0#32
  let v174_r0 : BitVec 1 := Scalar.cmpi .sgt c2_i32_158_r0 c0_i32_161_r0
  let v175_r0 : BitVec 32 := Scalar.extui v174_r0
  let c0_i32_162_r0 : BitVec 32 := 0#32
  let v176_r0 : BitVec 1 := Scalar.cmpi .slt c2_i32_158_r0 c0_i32_162_r0
  let v177_r0 : BitVec 32 := Scalar.extui v176_r0
  let v178_r0 : BitVec 32 := Scalar.subi v175_r0 v177_r0
  let v179_r0 : BitVec 1 := Scalar.cmpi .ne v173_r0 v178_r0
  let v180_r0 : BitVec 32 := Scalar.remsi v94_r0 c2_i32_158_r0
  let c0_i32_163_r0 : BitVec 32 := 0#32
  let v181_r0 : BitVec 1 := Scalar.cmpi .ne v180_r0 c0_i32_163_r0
  let v182_r0 : BitVec 1 := Scalar.andi v179_r0 v181_r0
  let v168_r0 : BitVec 32 := Scalar.divsi v94_r0 c2_i32_158_r0
  let c1_i32_164_r0 : BitVec 32 := 1#32
  let v183_r0 : BitVec 32 := Scalar.subi v168_r0 c1_i32_164_r0
  let v184_r0 : BitVec 32 := Scalar.select v182_r0 v183_r0 v168_r0
  let v187_r0 : BitVec 32 := Scalar.muli c1_i32_166_r0 v184_r0
  let c0_i32_167_r0 : BitVec 32 := 0#32
  let c256_i32_r0 : BitVec 32 := 256#32
  let c3_i32_89_r0 : BitVec 32 := 3#32
  let v85_r0 : BitVec 32 := Scalar.select v84_r0 c3_i32_89_r0 v83_r0
  let c0_i32_98_r0 : BitVec 32 := 0#32
  let v96_r0 : BitVec 32 := Scalar.addi v85_r0 c0_i32_98_r0
  let v188_r0 : BitVec 32 := Scalar.muli c256_i32_r0 v96_r0
  let c0_i32_168_r0 : BitVec 32 := 0#32
  ![v185_r0.toNat, v186_r0.toNat, v187_r0.toNat, 0, v188_r0.toNat, 0]

def k0_off63 (v81_5_r0 : BitVec 32) : Fin 7 → Nat :=
  let c2_i32_151_r0 : BitVec 32 := 2#32
  let v157_r0 : BitVec 32 := Scalar.remui v81_5_r0 c2_i32_151_r0
  let c0_i32_169_r0 : BitVec 32 := 0#32
  let c0_i32_170_r0 : BitVec 32 := 0#32
  let c0_i32_171_r0 : BitVec 32 := 0#32
  let c0_i32_172_r0 : BitVec 32 := 0#32
  let c0_i32_173_r0 : BitVec 32 := 0#32
  let c0_i32_174_r0 : BitVec 32 := 0#32
  ![v157_r0.toNat, 0, 0, 0, 0, 0, 0]

def k0_chk4 (v81_5_r0 : BitVec 32) : Prop :=
  (∀ a, (k0_off61 v81_5_r0) a + S1.size a ≤ S2.size a) ∧
  (∀ a, (k0_off63 v81_5_r0) a + S1x1x8x1x4x256x128.size a ≤ S2x1x8x1x4x256x128.size a) ∧
  (∀ (hinb : ∀ a, (k0_off63 v81_5_r0) a + S1x1x8x1x4x256x128.size a ≤ S2x1x8x1x4x256x128.size a), (Rect.unit (s := S2x1x8x1x4x256x128) (k0_off63 v81_5_r0) S1x1x8x1x4x256x128.size hinb).WholeWords (EltTy.packing .bf16))
theorem k0_off61_inb : ∀ (v81_5_r0 : BitVec 32) (k0_hw4 : k0_chk4 v81_5_r0), ∀ a, (k0_off61 v81_5_r0) a + S1.size a ≤ S2.size a := fun v81_5_r0 k0_hw4 => k0_hw4.1
theorem k0_off63_inb : ∀ (v81_5_r0 : BitVec 32) (k0_hw4 : k0_chk4 v81_5_r0), ∀ a, (k0_off63 v81_5_r0) a + S1x1x8x1x4x256x128.size a ≤ S2x1x8x1x4x256x128.size a := fun v81_5_r0 k0_hw4 => k0_hw4.2.1
theorem k0_off63_wordsbf16 : ∀ (v81_5_r0 : BitVec 32) (k0_hw4 : k0_chk4 v81_5_r0), (Rect.unit (s := S2x1x8x1x4x256x128) (k0_off63 v81_5_r0) S1x1x8x1x4x256x128.size (k0_off63_inb v81_5_r0 k0_hw4)).WholeWords (EltTy.packing .bf16) := fun v81_5_r0 k0_hw4 => k0_hw4.2.2 (k0_off63_inb v81_5_r0 k0_hw4)

def k0_chk5 (v81_8_r0 : BitVec 32) (v81_7_r0 : BitVec 32) (v81_6_r0 : BitVec 32) : Prop :=
  (∀ a, (k0_off62 v81_8_r0 v81_7_r0 v81_6_r0) a + S1x8x1x4x256x128.size a ≤ S2x16x1x4x1024x128.size a) ∧
  (∀ (hinb : ∀ a, (k0_off62 v81_8_r0 v81_7_r0 v81_6_r0) a + S1x8x1x4x256x128.size a ≤ S2x16x1x4x1024x128.size a), (Rect.unit (s := S2x16x1x4x1024x128) (k0_off62 v81_8_r0 v81_7_r0 v81_6_r0) S1x8x1x4x256x128.size hinb).WholeWords (EltTy.packing .bf16))
theorem k0_off62_inb : ∀ (v81_8_r0 : BitVec 32) (v81_7_r0 : BitVec 32) (v81_6_r0 : BitVec 32) (k0_hw5 : k0_chk5 v81_8_r0 v81_7_r0 v81_6_r0), ∀ a, (k0_off62 v81_8_r0 v81_7_r0 v81_6_r0) a + S1x8x1x4x256x128.size a ≤ S2x16x1x4x1024x128.size a := fun v81_8_r0 v81_7_r0 v81_6_r0 k0_hw5 => k0_hw5.1
theorem k0_off62_wordsbf16 : ∀ (v81_8_r0 : BitVec 32) (v81_7_r0 : BitVec 32) (v81_6_r0 : BitVec 32) (k0_hw5 : k0_chk5 v81_8_r0 v81_7_r0 v81_6_r0), (Rect.unit (s := S2x16x1x4x1024x128) (k0_off62 v81_8_r0 v81_7_r0 v81_6_r0) S1x8x1x4x256x128.size (k0_off62_inb v81_8_r0 v81_7_r0 v81_6_r0 k0_hw5)).WholeWords (EltTy.packing .bf16) := fun v81_8_r0 v81_7_r0 v81_6_r0 k0_hw5 => k0_hw5.2 (k0_off62_inb v81_8_r0 v81_7_r0 v81_6_r0 k0_hw5)
-- ==== Kernel8Ideal.lean ====
variable {F : FTy → Type} [FloatOps F] [Named F]
def κ : String → Option EReal := fun
  | "qk_scale" => some (((Real.sqrt 128)⁻¹ * (Real.log 2)⁻¹ : ℝ) : EReal)
  | _ => none
-- ==== Reference8Ideal.lean ====
abbrev S2x4096x2048 : Shape := ⟨3, ![2, 4096, 2048]⟩
abbrev S2048x8192 : Shape := ⟨2, ![2048, 8192]⟩
abbrev S2x4096x8192 : Shape := ⟨3, ![2, 4096, 8192]⟩
abbrev S2x1024x4x16x128 : Shape := ⟨5, ![2, 1024, 4, 16, 128]⟩
abbrev S2x16x4x1024x128 : Shape := ⟨5, ![2, 16, 4, 1024, 128]⟩
abbrev S_ : Shape := ⟨0, ![]⟩
abbrev S2x16x1x4x1024x128 : Shape := ⟨6, ![2, 16, 1, 4, 1024, 128]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x8192, .f32⟩
  | .hbm, ⟨2, _⟩ => ⟨S2x4096x2048, .f32⟩
  | .hbm, ⟨3, _⟩ => ⟨S2x4096x8192, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x1024x4x16x128, .f32⟩
  | .hbm, ⟨9, _⟩ => ⟨S2x16x4x1024x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x16x4x1024x128, .f32⟩
  | .hbm, ⟨16, _⟩ => ⟨S2x16x4x1024x128, .f32⟩
  | .hbm, ⟨17, _⟩ => ⟨S2x16x1x4x1024x128, .f32⟩
  | .hbm, ⟨18, _⟩ => ⟨S2x16x1x4x1024x128, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.Hand.Words.lean ====
/-
  The words one trip of the pipelined loop carries and reads, in closed form: the counters of blocks fetched and
  waited for, the grid indices, and with them every guard, offset and check of a trip, for each of the 32 trips.
-/
module

public import proofs.«01_k».proof.Proof.Gen.KernelIdeal.Skeleton
public import Idealize.ShloMosaic.Lib.Ring

@[expose] public section

noncomputable section

namespace Cert.KernelIdeal.Hand

open Cert.KernelIdeal Cert.KernelIdeal.Gen
open Idealize.ShloMosaic

/-! ## The carried words before trip `k` -/

def fx (k : ℕ) : BitVec 32 := BitVec.ofNat 32 (min (k + 2) 32)
def cx (k : ℕ) : BitVec 32 := BitVec.ofNat 32 k
def fw (k : ℕ) : BitVec 32 := BitVec.ofNat 32 (min (k / 8 + 1) 4)
def cw (k : ℕ) : BitVec 32 := BitVec.ofNat 32 (k / 8)
def fo (k : ℕ) : BitVec 32 := BitVec.ofNat 32 k
def co (k : ℕ) : BitVec 32 := BitVec.ofNat 32 (k - 1)
def gn (k : ℕ) : BitVec 32 := BitVec.ofNat 32 (k / 8 % 4)
def gb (k : ℕ) : BitVec 32 := BitVec.ofNat 32 (k / 4 % 2)
def gi (k : ℕ) : BitVec 32 := BitVec.ofNat 32 (k % 4)

theorem trips_eq : k0_t1_loop.trips = 32 := by decide

theorem all_trips {P : Fin k0_t1_loop.trips → Prop} (h : ∀ k : Fin 32, P (k.cast trips_eq.symm)) : ∀ k, P k :=
  fun k => h (k.cast trips_eq)

theorem cond2_iff : ∀ k : Fin k0_t1_loop.trips, k0_cond2 k (gb k.val) (gi k.val) = 1#1 ↔ k.val < 30 := all_trips (by decide +kernel)
theorem cond3_iff : ∀ k : Fin k0_t1_loop.trips, k0_cond3 k (gn k.val) (gb k.val) (gi k.val) = 1#1 ↔ k.val % 8 = 7 ∧ k.val < 31 := all_trips (by decide +kernel)
theorem cond4_iff : ∀ k : Fin k0_t1_loop.trips, k0_cond4 k (gb k.val) (gi k.val) = 1#1 := all_trips (by decide +kernel)
theorem cond5_iff : ∀ k : Fin k0_t1_loop.trips, k0_cond5 k (gn k.val) (gb k.val) (gi k.val) = 1#1 ↔ k.val % 8 = 0 := all_trips (by decide +kernel)
theorem cond7_iff : ∀ k : Fin k0_t1_loop.trips, k0_cond7 (gb k.val) (gi k.val) = 1#1 ↔ k.val % 8 = 0 := all_trips (by decide +kernel)
theorem cond10_iff : ∀ k : Fin k0_t1_loop.trips, k0_cond10 k (gn k.val) (gb k.val) (gi k.val) = 1#1 := all_trips (by decide +kernel)
theorem cond13_iff : ∀ k : Fin k0_t1_loop.trips, k0_cond13 k (gn k.val) (gb k.val) (gi k.val) = 1#1 ↔ 1 ≤ k.val := all_trips (by decide +kernel)
theorem chk1_all : ∀ k : Fin k0_t1_loop.trips, k0_chk1 k (fx k.val) (cx k.val) (fw k.val) (cw k.val) (fo k.val) (co k.val) (gn k.val) (gb k.val) (gi k.val) := all_trips (by decide +kernel)
theorem chk2_all : ∀ k : Fin k0_t1_loop.trips, k0_chk2 (cx k.val) := all_trips (by decide +kernel)
theorem chk3_all : ∀ k : Fin k0_t1_loop.trips, k0_chk3 (fo k.val) := all_trips (by decide +kernel)

end Cert.KernelIdeal.Hand

end
-- ==== Proof.Hand.Names.lean ====
/-
  The pieces of memory a trip of the pipelined loop names, under one name each: the blocks of the three arrays in HBM,
  the slots of the three rings in VMEM and their transfer semaphores; and, for each slice the program takes at run-time
  offsets, the name it is at trip `k`.
-/
module

public import proofs.«01_k».proof.Proof.Hand.Words
public import Idealize.ShloMosaic.Lib.Ring.Trips
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)

/-! ## The arrays, the rings and the scratch buffers -/

abbrev xM : Memref sig .tc .hbm S2x4096x2048 .bf16 := Memref.whole main_arg0
abbrev wM : Memref sig .tc .hbm S2048x12288 .f32 := Memref.whole main_arg1
abbrev oM : Memref sig .tc .hbm S2x16x2x1x4096x128 .bf16 := Memref.whole main_v0
abbrev wsM : Memref sig .tc .vmem S2048x1024 .bf16 := Memref.whole cc0_scratch0
abbrev asM : Memref sig .tc .vmem S8x1024x128 .f32 := Memref.whole cc0_scratch1
abbrev xR : Memref sig .tc .vmem S3x1x1024x2048 .bf16 := Memref.whole cc0_scoped0
abbrev wR : Memref sig .tc .vmem S2x2048x1024 .f32 := Memref.whole cc0_scoped2
abbrev oR : Memref sig .tc .vmem S2x1x8x1x1x1024x128 .bf16 := Memref.whole cc0_scoped4

/-! ## Block and slot numbers -/

/-- The activations' block at trip `k`: 1024 rows, eight of them, the whole array once per block of the weights. -/
def xb (k : ℕ) : Fin 8 := Fin.ofNat 8 k
/-- The weights' block at trip `k`: 1024 columns. -/
def wb (k : ℕ) : Fin 12 := Fin.ofNat 12 (k / 8)
/-- The result's block at trip `k`. -/
def ob (k : ℕ) : Fin 32 := Fin.ofNat 32 k

abbrev xblkOff (b : Fin 8) : Fin 3 → Nat := ![b.val / 4, 1024 * (b.val % 4), 0]
abbrev wblkOff (n : Fin 12) : Fin 2 → Nat := ![0, 1024 * n.val]
abbrev oblkOff (t : Fin 32) : Fin 6 → Nat := ![t.val / 4 % 2, 8 * (t.val / 8 % 2), t.val / 16, 0, 1024 * (t.val % 4), 0]
abbrev xslotOff (s : Fin 3) : Fin 4 → Nat := ![s.val, 0, 0, 0]
abbrev wslotOff (s : Fin 2) : Fin 3 → Nat := ![s.val, 0, 0]
abbrev oslotOff (s : Fin 2) : Fin 7 → Nat := ![s.val, 0, 0, 0, 0, 0, 0]
abbrev sem3Off (s : Fin 3) : Fin 1 → Nat := ![s.val]
abbrev sem2Off (s : Fin 2) : Fin 1 → Nat := ![s.val]

theorem xblkOff_inb (b : Fin 8) : ∀ a, xblkOff b a + S1x1024x2048.size a ≤ S2x4096x2048.size a := by revert b; decide
theorem wblkOff_inb (n : Fin 12) : ∀ a, wblkOff n a + S2048x1024.size a ≤ S2048x12288.size a := by revert n; decide
theorem oblkOff_inb (t : Fin 32) : ∀ a, oblkOff t a + S1x8x1x1x1024x128.size a ≤ S2x16x2x1x4096x128.size a := by revert t; decide
theorem xslotOff_inb (s : Fin 3) : ∀ a, xslotOff s a + S1x1x1024x2048.size a ≤ S3x1x1024x2048.size a := by revert s; decide
theorem wslotOff_inb (s : Fin 2) : ∀ a, wslotOff s a + S1x2048x1024.size a ≤ S2x2048x1024.size a := by revert s; decide
theorem oslotOff_inb (s : Fin 2) : ∀ a, oslotOff s a + S1x1x8x1x1x1024x128.size a ≤ S2x1x8x1x1x1024x128.size a := by revert s; decide
theorem sem3Off_inb (s : Fin 3) : ∀ a, sem3Off s a + S1.size a ≤ S3.size a := by revert s; decide
theorem sem2Off_inb (s : Fin 2) : ∀ a, sem2Off s a + S1.size a ≤ S2.size a := by revert s; decide

def xblk (b : Fin 8) : Memref sig .tc .hbm S1x1024x2048 .bf16 :=
  xM.slice (Rect.unit (s := S2x4096x2048) (xblkOff b) S1x1024x2048.size (xblkOff_inb b)) (fun _ => rfl)
def wblk (n : Fin 12) : Memref sig .tc .hbm S2048x1024 .f32 :=
  wM.slice (Rect.unit (s := S2048x12288) (wblkOff n) S2048x1024.size (wblkOff_inb n)) (fun _ => rfl)
def oblk (t : Fin 32) : Memref sig .tc .hbm S1x8x1x1x1024x128 .bf16 :=
  oM.slice (Rect.unit (s := S2x16x2x1x4096x128) (oblkOff t) S1x8x1x1x1024x128.size (oblkOff_inb t)) (fun _ => rfl)
def xslot (s : Fin 3) : Memref sig .tc .vmem S1x1024x2048 .bf16 :=
  (xR.slice (Rect.unit (s := S3x1x1024x2048) (xslotOff s) S1x1x1024x2048.size (xslotOff_inb s)) (fun _ => rfl)).squeeze S1x1024x2048 squeezes_S1x1x1024x2048_S1x1024x2048
def wslot (s : Fin 2) : Memref sig .tc .vmem S2048x1024 .f32 :=
  (wR.slice (Rect.unit (s := S2x2048x1024) (wslotOff s) S1x2048x1024.size (wslotOff_inb s)) (fun _ => rfl)).squeeze S2048x1024 squeezes_S1x2048x1024_S2048x1024
def oslot (s : Fin 2) : Memref sig .tc .vmem S1x8x1x1x1024x128 .bf16 :=
  (oR.slice (Rect.unit (s := S2x1x8x1x1x1024x128) (oslotOff s) S1x1x8x1x1x1024x128.size (oslotOff_inb s)) (fun _ => rfl)).squeeze S1x8x1x1x1024x128 squeezes_S1x1x8x1x1x1024x128_S1x8x1x1x1024x128
def xsem (s : Fin 3) : DmaSems sig S_ := (cc0_scoped1.slice (Rect.unit (s := S3) (sem3Off s) S1.size (sem3Off_inb s))).squeeze S_ squeezes_S1_S_
def wsem (s : Fin 2) : DmaSems sig S_ := (cc0_scoped3.slice (Rect.unit (s := S2) (sem2Off s) S1.size (sem2Off_inb s))).squeeze S_ squeezes_S1_S_
def osem (s : Fin 2) : DmaSems sig S_ := (cc0_scoped5.slice (Rect.unit (s := S2) (sem2Off s) S1.size (sem2Off_inb s))).squeeze S_ squeezes_S1_S_

instance (b : Fin 8) : ClosedOff (xblkOff b) := ⟨xblkOff b, rfl⟩
instance (n : Fin 12) : ClosedOff (wblkOff n) := ⟨wblkOff n, rfl⟩
instance (t : Fin 32) : ClosedOff (oblkOff t) := ⟨oblkOff t, rfl⟩
instance (s : Fin 3) : ClosedOff (xslotOff s) := ⟨xslotOff s, rfl⟩
instance (s : Fin 2) : ClosedOff (wslotOff s) := ⟨wslotOff s, rfl⟩
instance (s : Fin 2) : ClosedOff (oslotOff s) := ⟨oslotOff s, rfl⟩

/-! ## The offsets of trip `k` -/

section Offsets
variable (k : Fin k0_t1_loop.trips)

theorem off8_eq (h : k.val < 30) : k0_off8 (fx k.val) = sem3Off (sl 3 (k.val + 2)) := by revert k; exact all_trips (by decide +kernel)
theorem off9_eq (h : k.val < 30) : k0_off9 (fx k.val) = xslotOff (sl 3 (k.val + 2)) := by revert k; exact all_trips (by decide +kernel)
theorem off10_eq (h : k.val < 30) : k0_off10 (gb k.val) (gi k.val) = xblkOff (xb (k.val + 2)) := by revert k; exact all_trips (by decide +kernel)
theorem off11_eq (h : k.val % 8 = 7 ∧ k.val < 31) : k0_off11 (fw k.val) = sem2Off (sl 2 (k.val / 8 + 1)) := by revert k; exact all_trips (by decide +kernel)
theorem off12_eq (h : k.val % 8 = 7 ∧ k.val < 31) : k0_off12 (fw k.val) = wslotOff (sl 2 (k.val / 8 + 1)) := by revert k; exact all_trips (by decide +kernel)
theorem off13_eq (h : k.val % 8 = 7 ∧ k.val < 31) : k0_off13 (gn k.val) (gb k.val) (gi k.val) = wblkOff (wb (k.val + 1)) := by revert k; exact all_trips (by decide +kernel)
theorem off14_eq : k0_off14 (cx k.val) = sem3Off (sl 3 k.val) := by revert k; exact all_trips (by decide +kernel)
theorem off15_eq : k0_off15 (cx k.val) = xslotOff (sl 3 k.val) := by revert k; exact all_trips (by decide +kernel)
theorem off16_eq : k0_off16 (gb k.val) (gi k.val) = xblkOff (xb k.val) := by revert k; exact all_trips (by decide +kernel)
theorem off17_eq : k0_off17 (cw k.val) = sem2Off (sl 2 (k.val / 8)) := by revert k; exact all_trips (by decide +kernel)
theorem off18_eq : k0_off18 (cw k.val) = wslotOff (sl 2 (k.val / 8)) := by revert k; exact all_trips (by decide +kernel)
theorem off19_eq : k0_off19 (gn k.val) = wblkOff (wb k.val) := by revert k; exact all_trips (by decide +kernel)
theorem off20_eq : k0_off20 (cw k.val) = wslotOff (sl 2 (k.val / 8)) := by revert k; exact all_trips (by decide +kernel)
theorem off21_eq : k0_off21 (cx k.val) = xslotOff (sl 3 k.val) := by revert k; exact all_trips (by decide +kernel)
theorem off22_eq : k0_off22 (fo k.val) = oslotOff (sl 2 k.val) := by revert k; exact all_trips (by decide +kernel)
theorem off31_eq : k0_off31 (fo k.val) = sem2Off (sl 2 k.val) := by revert k; exact all_trips (by decide +kernel)
theorem off32_eq : k0_off32 (gn k.val) (gb k.val) (gi k.val) = oblkOff (ob k.val) := by revert k; exact all_trips (by decide +kernel)
theorem off33_eq : k0_off33 (fo k.val) = oslotOff (sl 2 k.val) := by revert k; exact all_trips (by decide +kernel)
theorem off34_eq (h : 1 ≤ k.val) : k0_off34 (co k.val) = sem2Off (sl 2 (k.val + 1)) := by revert k; exact all_trips (by decide +kernel)
theorem off35_eq (h : 1 ≤ k.val) : k0_off35 (gn k.val) (gb k.val) (gi k.val) = oblkOff (ob (k.val - 1)) := by revert k; exact all_trips (by decide +kernel)
theorem off36_eq (h : 1 ≤ k.val) : k0_off36 (co k.val) = oslotOff (sl 2 (k.val + 1)) := by revert k; exact all_trips (by decide +kernel)

abbrev pieceOff (s : Fin 2) (h : ℕ) : Fin 7 → Nat := ![s.val, 0, h, 0, 0, 0, 0]

instance : ClosedOff (k0_off20 (cw k.val)) := ⟨wslotOff (sl 2 (k.val / 8)), off20_eq k⟩
instance : ClosedOff (k0_off23 (fo k.val)) := ⟨pieceOff (sl 2 k.val) 0, by revert k; exact all_trips (by decide +kernel)⟩
instance : ClosedOff (k0_off24 (fo k.val)) := ⟨pieceOff (sl 2 k.val) 1, by revert k; exact all_trips (by decide +kernel)⟩
instance : ClosedOff (k0_off25 (fo k.val)) := ⟨pieceOff (sl 2 k.val) 2, by revert k; exact all_trips (by decide +kernel)⟩
instance : ClosedOff (k0_off26 (fo k.val)) := ⟨pieceOff (sl 2 k.val) 3, by revert k; exact all_trips (by decide +kernel)⟩
instance : ClosedOff (k0_off27 (fo k.val)) := ⟨pieceOff (sl 2 k.val) 4, by revert k; exact all_trips (by decide +kernel)⟩
instance : ClosedOff (k0_off28 (fo k.val)) := ⟨pieceOff (sl 2 k.val) 5, by revert k; exact all_trips (by decide +kernel)⟩
instance : ClosedOff (k0_off29 (fo k.val)) := ⟨pieceOff (sl 2 k.val) 6, by revert k; exact all_trips (by decide +kernel)⟩
instance : ClosedOff (k0_off30 (fo k.val)) := ⟨pieceOff (sl 2 k.val) 7, by revert k; exact all_trips (by decide +kernel)⟩

end Offsets

/-! ## The slices of trip `k` under their names -/

section Canon

theorem xsem_congr {off : Fin 1 → Nat} {s : Fin 3} (e : off = sem3Off s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 2} (e : off = sem2Off s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
theorem osem_congr {off : Fin 1 → Nat} {s : Fin 2} (e : off = sem2Off s) (hh) :
    (cc0_scoped5.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 4 → Nat} {s : Fin 3} (e : off = xslotOff s) (hh hs) :
    (xR.slice (Rect.unit (s := S3x1x1024x2048) off S1x1x1024x2048.size hh) hs).squeeze S1x1024x2048 squeezes_S1x1x1024x2048_S1x1024x2048 = xslot s :=
  congrArg (fun M : Memref sig .tc .vmem S1x1x1024x2048 .bf16 => M.squeeze S1x1024x2048 squeezes_S1x1x1024x2048_S1x1024x2048) (Memref.slice_unit_congr _ e _ _ _ _)
theorem wslot_congr {off : Fin 3 → Nat} {s : Fin 2} (e : off = wslotOff s) (hh hs) :
    (wR.slice (Rect.unit (s := S2x2048x1024) off S1x2048x1024.size hh) hs).squeeze S2048x1024 squeezes_S1x2048x1024_S2048x1024 = wslot s :=
  congrArg (fun M : Memref sig .tc .vmem S1x2048x1024 .f32 => M.squeeze S2048x1024 squeezes_S1x2048x1024_S2048x1024) (Memref.slice_unit_congr _ e _ _ _ _)
theorem oslot_congr {off : Fin 7 → Nat} {s : Fin 2} (e : off = oslotOff s) (hh hs) :
    (oR.slice (Rect.unit (s := S2x1x8x1x1x1024x128) off S1x1x8x1x1x1024x128.size hh) hs).squeeze S1x8x1x1x1024x128 squeezes_S1x1x8x1x1x1024x128_S1x8x1x1x1024x128 = oslot s :=
  congrArg (fun M : Memref sig .tc .vmem S1x1x8x1x1x1024x128 .bf16 => M.squeeze S1x8x1x1x1024x128 squeezes_S1x1x8x1x1x1024x128_S1x8x1x1x1024x128) (Memref.slice_unit_congr _ e _ _ _ _)
theorem xblk_congr {off : Fin 3 → Nat} {b : Fin 8} (e : off = xblkOff b) (hh hs) :
    xM.slice (Rect.unit (s := S2x4096x2048) off S1x1024x2048.size hh) hs = xblk b := Memref.slice_unit_congr _ e _ _ _ (fun _ => rfl)
theorem wblk_congr {off : Fin 2 → Nat} {b : Fin 12} (e : off = wblkOff b) (hh hs) :
    wM.slice (Rect.unit (s := S2048x12288) off S2048x1024.size hh) hs = wblk b := Memref.slice_unit_congr _ e _ _ _ (fun _ => rfl)
theorem oblk_congr {off : Fin 6 → Nat} {b : Fin 32} (e : off = oblkOff b) (hh hs) :
    oM.slice (Rect.unit (s := S2x16x2x1x4096x128) off S1x8x1x1x1024x128.size hh) hs = oblk b := Memref.slice_unit_congr _ e _ _ _ (fun _ => rfl)

variable (k : Fin k0_t1_loop.trips)

@[sl_canon] theorem xsem_off8 (h : k.val < 30) (hh) : (cc0_scoped1.slice (Rect.unit (s := S3) (k0_off8 (fx k.val)) S1.size hh)).squeeze S_ squeezes_S1_S_ = xsem (sl 3 (k.val + 2)) := xsem_congr (off8_eq k h) _
@[sl_canon] theorem xslot_off9 (h : k.val < 30) (hh hs) : (xR.slice (Rect.unit (s := S3x1x1024x2048) (k0_off9 (fx k.val)) S1x1x1024x2048.size hh) hs).squeeze S1x1024x2048 squeezes_S1x1x1024x2048_S1x1024x2048 = xslot (sl 3 (k.val + 2)) := xslot_congr (off9_eq k h) _ _
@[sl_canon] theorem xblk_off10 (h : k.val < 30) (hh hs) : xM.slice (Rect.unit (s := S2x4096x2048) (k0_off10 (gb k.val) (gi k.val)) S1x1024x2048.size hh) hs = xblk (xb (k.val + 2)) := xblk_congr (off10_eq k h) _ _
@[sl_canon] theorem wsem_off11 (h : k.val % 8 = 7 ∧ k.val < 31) (hh) : (cc0_scoped3.slice (Rect.unit (s := S2) (k0_off11 (fw k.val)) S1.size hh)).squeeze S_ squeezes_S1_S_ = wsem (sl 2 (k.val / 8 + 1)) := wsem_congr (off11_eq k h) _
@[sl_canon] theorem wslot_off12 (h : k.val % 8 = 7 ∧ k.val < 31) (hh hs) : (wR.slice (Rect.unit (s := S2x2048x1024) (k0_off12 (fw k.val)) S1x2048x1024.size hh) hs).squeeze S2048x1024 squeezes_S1x2048x1024_S2048x1024 = wslot (sl 2 (k.val / 8 + 1)) := wslot_congr (off12_eq k h) _ _
@[sl_canon] theorem wblk_off13 (h : k.val % 8 = 7 ∧ k.val < 31) (hh hs) : wM.slice (Rect.unit (s := S2048x12288) (k0_off13 (gn k.val) (gb k.val) (gi k.val)) S2048x1024.size hh) hs = wblk (wb (k.val + 1)) := wblk_congr (off13_eq k h) _ _
@[sl_canon] theorem xsem_off14 (hh) : (cc0_scoped1.slice (Rect.unit (s := S3) (k0_off14 (cx k.val)) S1.size hh)).squeeze S_ squeezes_S1_S_ = xsem (sl 3 k.val) := xsem_congr (off14_eq k) _
@[sl_canon] theorem xslot_off15 (hh hs) : (xR.slice (Rect.unit (s := S3x1x1024x2048) (k0_off15 (cx k.val)) S1x1x1024x2048.size hh) hs).squeeze S1x1024x2048 squeezes_S1x1x1024x2048_S1x1024x2048 = xslot (sl 3 k.val) := xslot_congr (off15_eq k) _ _
@[sl_canon] theorem xblk_off16 (hh hs) : xM.slice (Rect.unit (s := S2x4096x2048) (k0_off16 (gb k.val) (gi k.val)) S1x1024x2048.size hh) hs = xblk (xb k.val) := xblk_congr (off16_eq k) _ _
@[sl_canon] theorem wsem_off17 (hh) : (cc0_scoped3.slice (Rect.unit (s := S2) (k0_off17 (cw k.val)) S1.size hh)).squeeze S_ squeezes_S1_S_ = wsem (sl 2 (k.val / 8)) := wsem_congr (off17_eq k) _
@[sl_canon] theorem wslot_off18 (hh hs) : (wR.slice (Rect.unit (s := S2x2048x1024) (k0_off18 (cw k.val)) S1x2048x1024.size hh) hs).squeeze S2048x1024 squeezes_S1x2048x1024_S2048x1024 = wslot (sl 2 (k.val / 8)) := wslot_congr (off18_eq k) _ _
@[sl_canon] theorem wblk_off19 (hh hs) : wM.slice (Rect.unit (s := S2048x12288) (k0_off19 (gn k.val)) S2048x1024.size hh) hs = wblk (wb k.val) := wblk_congr (off19_eq k) _ _
@[sl_canon] theorem xslot_off21 (hh hs) : (xR.slice (Rect.unit (s := S3x1x1024x2048) (k0_off21 (cx k.val)) S1x1x1024x2048.size hh) hs).squeeze S1x1024x2048 squeezes_S1x1x1024x2048_S1x1024x2048 = xslot (sl 3 k.val) := xslot_congr (off21_eq k) _ _
@[sl_canon] theorem oslot_off22 (hh hs) : (oR.slice (Rect.unit (s := S2x1x8x1x1x1024x128) (k0_off22 (fo k.val)) S1x1x8x1x1x1024x128.size hh) hs).squeeze S1x8x1x1x1024x128 squeezes_S1x1x8x1x1x1024x128_S1x8x1x1x1024x128 = oslot (sl 2 k.val) := oslot_congr (off22_eq k) _ _
@[sl_canon] theorem osem_off31 (hh) : (cc0_scoped5.slice (Rect.unit (s := S2) (k0_off31 (fo k.val)) S1.size hh)).squeeze S_ squeezes_S1_S_ = osem (sl 2 k.val) := osem_congr (off31_eq k) _
@[sl_canon] theorem oblk_off32 (hh hs) : oM.slice (Rect.unit (s := S2x16x2x1x4096x128) (k0_off32 (gn k.val) (gb k.val) (gi k.val)) S1x8x1x1x1024x128.size hh) hs = oblk (ob k.val) := oblk_congr (off32_eq k) _ _
@[sl_canon] theorem oslot_off33 (hh hs) : (oR.slice (Rect.unit (s := S2x1x8x1x1x1024x128) (k0_off33 (fo k.val)) S1x1x8x1x1x1024x128.size hh) hs).squeeze S1x8x1x1x1024x128 squeezes_S1x1x8x1x1x1024x128_S1x8x1x1x1024x128 = oslot (sl 2 k.val) := oslot_congr (off33_eq k) _ _
@[sl_canon] theorem osem_off34 (h : 1 ≤ k.val) (hh) : (cc0_scoped5.slice (Rect.unit (s := S2) (k0_off34 (co k.val)) S1.size hh)).squeeze S_ squeezes_S1_S_ = osem (sl 2 (k.val + 1)) := osem_congr (off34_eq k h) _
@[sl_canon] theorem oblk_off35 (h : 1 ≤ k.val) (hh hs) : oM.slice (Rect.unit (s := S2x16x2x1x4096x128) (k0_off35 (gn k.val) (gb k.val) (gi k.val)) S1x8x1x1x1024x128.size hh) hs = oblk (ob (k.val - 1)) := oblk_congr (off35_eq k h) _ _
@[sl_canon] theorem oslot_off36 (h : 1 ≤ k.val) (hh hs) : (oR.slice (Rect.unit (s := S2x1x8x1x1x1024x128) (k0_off36 (co k.val)) S1x1x8x1x1x1024x128.size hh) hs).squeeze S1x8x1x1x1024x128 squeezes_S1x1x8x1x1x1024x128_S1x8x1x1x1024x128 = oslot (sl 2 (k.val + 1)) := oslot_congr (off36_eq k h) _ _

end Canon

end Cert.KernelIdeal.Hand

end
-- ==== Proof.Hand.Shared.lean ====
/-
  What the projections' proofs share, over any program's references: views read and written whole, tilings of an array
  by blocks, a buffer at some contents in blocks, two of the loop's carried words.
-/
module

public import Idealize.ShloMosaic.Lib.Ring
public import Idealize.ShloMosaic.Lib.Tactic
public import Idealize.ShloMosaic.Lib.WritesUnit
public import Idealize.ShloMosaic.Lib.ViewIndex
public import Idealize.ShloMosaic.Lib.Pointwise

@[expose] public section

noncomputable section

namespace Cert.Shared

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Views -/

/-- A view written whole reads the payload. -/
theorem read_whole_writes {sig : RefSig} {κ : Kind} {sp : Space} {s : Shape} {e : EltTy} {Val : EltTy → Type} (v : View sig κ sp s e) (f : v.ty.Contents Val) (w : s.Idx → Val e) (y : s.Idx) :
    v.read Val (v.writes Val f [⟨Rect.whole s, w⟩]) y = w y := by
  have h := View.read_writes_cons_emb v f (Rect.whole s) w [] y
  rwa [show (Rect.whole s).emb y = y from by simp] at h

/-- Contents that read alike through a view agree on the view's elements. -/
theorem agree_of_read {sig : RefSig} {κ : Kind} {sp : Space} {s : Shape} {e : EltTy} {Val : EltTy → Type} (v : View sig κ sp s e) {f g : v.ty.Contents Val}
    (h : ∀ y, v.read Val f y = v.read Val g y) : ∀ i ∈ v.set, f i = g i := by
  intro i hi
  obtain ⟨y, -, rfl⟩ := Finset.mem_map.mp hi
  exact View.eq_of_read_eq (h y)

/-! ## Tilings -/

/-- Sets that are disjoint and cover. -/
abbrev Tiles {α β : Type} [DecidableEq α] [Fintype α] [Fintype β] (S : β → Finset α) : Prop :=
  (∀ b b', b ≠ b' → Disjoint (S b) (S b')) ∧ Finset.univ.biUnion S = Finset.univ

/-- Sets that are the fibres of a function are disjoint and cover. -/
theorem fibres {α β : Type} [DecidableEq α] [Fintype α] [DecidableEq β] [Fintype β] (S : β → Finset α) (d : α → ℕ) (val : β → ℕ) (hv : Function.Injective val)
    (h : ∀ b y, y ∈ S b ↔ d y = val b) (hs : ∀ y, ∃ b, d y = val b) : Tiles S := by
  constructor
  · intro b b' hne
    rw [Finset.disjoint_left]
    intro y hy hy'
    exact hne (hv (((h b y).1 hy).symm.trans ((h b' y).1 hy')))
  · ext y
    obtain ⟨b, hb⟩ := hs y
    simp only [Finset.mem_biUnion, Finset.mem_univ, true_and, iff_true]
    exact ⟨b, (h b y).2 hb⟩

/-- Blocks of `R` along one axis, whole along the others. -/
theorem axis_tiles {s : Shape} {NB : ℕ} (a₀ : Fin s.rank) (R : ℕ) {off : Fin NB → Fin s.rank → ℕ} {size : Fin s.rank → ℕ} {inb : ∀ b a, off b a + size a ≤ s.size a}
    (h₀ : ∀ b, off b a₀ = R * b.val) (h : ∀ b a, a ≠ a₀ → off b a = 0) (z₀ : size a₀ = R) (z : ∀ a, a ≠ a₀ → size a = s.size a) (hN : NB * R = s.size a₀) :
    Tiles fun b => (Rect.unit (off b) size (inb b)).set :=
  ⟨Ring.lead_disjoint a₀ R off size inb h₀ z₀, Ring.lead_cover a₀ R off size inb h₀ h z₀ z hN⟩

/-- The activations in eight blocks of 1024 rows. -/
theorem rows_tiles {inb : ∀ (b : Fin 8) a, (![b.val / 4, 1024 * (b.val % 4), 0] : Fin 3 → ℕ) a + (![1, 1024, 2048] : Fin 3 → ℕ) a ≤ (![2, 4096, 2048] : Fin 3 → ℕ) a} :
    Tiles fun b : Fin 8 => (Rect.unit (s := ⟨3, ![2, 4096, 2048]⟩) ![b.val / 4, 1024 * (b.val % 4), 0] ![1, 1024, 2048] (inb b)).set := by
  refine fibres _ (fun y => 4 * (y 0).val + (y 1).val / 1024) Fin.val Fin.val_injective (fun b y => ?_) (fun y => ?_)
  · rw [Rect.mem_set_unit]
    have h2 : (y 2).val < 2048 := (y 2).isLt
    have hb := b.isLt
    constructor
    · intro H
      have a0 : b.val / 4 ≤ (y 0).val ∧ (y 0).val < b.val / 4 + 1 := H 0
      have a1 : 1024 * (b.val % 4) ≤ (y 1).val ∧ (y 1).val < 1024 * (b.val % 4) + 1024 := H 1
      omega
    · intro H i
      have h1 : (y 1).val < 4096 := (y 1).isLt
      match i with
      | ⟨0, _⟩ => show b.val / 4 ≤ (y 0).val ∧ (y 0).val < b.val / 4 + 1; omega
      | ⟨1, _⟩ => show 1024 * (b.val % 4) ≤ (y 1).val ∧ (y 1).val < 1024 * (b.val % 4) + 1024; omega
      | ⟨2, _⟩ => show 0 ≤ (y 2).val ∧ (y 2).val < 0 + 2048; omega
  · have h0 : (y 0).val < 2 := (y 0).isLt
    have h1 : (y 1).val < 4096 := (y 1).isLt
    exact ⟨⟨4 * (y 0).val + (y 1).val / 1024, by omega⟩, rfl⟩

/-! ## Separating conjunctions and blocks -/

section Blocks
variable {nD : Nat} {τ : Topo} {sig : RefSig} {F : FTy → Type} {U : Type} [URA U]
local notation "𝕄" => MT nD τ sig Unit (Elt F) ℕ U ℕ

theorem of_eq {P Q : sProp 𝕄} (e : P = Q) : P ⊢ Q := e ▸ .rfl

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- A buffer at some contents is its blocks, each at some contents. -/
theorem some_blocks {ℓ : Loc nD τ sig} {β : Type} [DecidableEq β] [Fintype β] (I : β → Finset (Idx ℓ)) (h : Tiles I)
    (f0 : Buf (Elt F) ℓ) : (iprop(∃ f : Buf (Elt F) ℓ, ℓ ↦{fullShare} f) : sProp 𝕄) ⊣⊢ bigSep Finset.univ (fun b => iprop(∃ f : Buf (Elt F) ℓ, ℓ ↦[I b]{fullShare} f)) := by
  constructor
  · iintro ⟨%f, H⟩
    ihave H' := (of_eq (Ring.pointsTo_blocks (Ix := Unit) (Name := ℕ) (U := U) (Lvl := ℕ) (q := fullShare) (ℓ := ℓ) I h.1 h.2 f)) $$ H
    istop
    have e : ∀ b, (ℓ ↦[I b]{fullShare} f : sProp 𝕄) ⊢ iprop(∃ f : Buf (Elt F) ℓ, ℓ ↦[I b]{fullShare} f) := fun b => by
      iintro H; iexists f; iexact H
    exact bigSep_mono fun b _ => e b
  · exact Ring.pointsTo_blocks_join_exists (ℓ := ℓ) I h.1 h.2 f0

/-- A region's parts, regrouped: each ring's slot with its own semaphore, then the scratch, the arrays and the register. -/
theorem region_pack {S X W O X0 X1 X2 W0 W1 O0 O1 C0 C1 C2 C3 C4 C5 C6 A B G P : sProp 𝕄} (hx : X ⊣⊢ iprop(X0 ∗ X1 ∗ X2)) (hw : W ⊣⊢ iprop(W0 ∗ W1)) (ho : O ⊣⊢ iprop(O0 ∗ O1)) :
    iprop((S ∗ X ∗ W ∗ O) ∗ P ∗ (C0 ∗ C1 ∗ C2 ∗ C3 ∗ C4 ∗ C5 ∗ C6) ∗ (A ∗ B) ∗ G)
      ⊣⊢ iprop(((C0 ∗ X0) ∗ (C1 ∗ X1) ∗ (C2 ∗ X2) ∗ (C3 ∗ W0) ∗ (C4 ∗ W1) ∗ (C5 ∗ O0) ∗ (C6 ∗ O1) ∗ S) ∗ (A ∗ B ∗ G) ∗ P) := by
  constructor
  · iintro ⟨⟨HS, HX, HW, HO⟩, HP, ⟨K0, K1, K2, K3, K4, K5, K6⟩, ⟨HA, HB⟩, HG⟩
    ihave HX' := hx.1 $$ HX
    icases HX' with ⟨H0, H1, H2⟩
    ihave HW' := hw.1 $$ HW
    icases HW' with ⟨H3, H4⟩
    ihave HO' := ho.1 $$ HO
    icases HO' with ⟨H5, H6⟩
    isplitl [HS H0 H1 H2 H3 H4 H5 H6 K0 K1 K2 K3 K4 K5 K6]
    · isplitl [H0 K0]
      · isplitl [K0]; · iexact K0
        iexact H0
      isplitl [H1 K1]
      · isplitl [K1]; · iexact K1
        iexact H1
      isplitl [H2 K2]
      · isplitl [K2]; · iexact K2
        iexact H2
      isplitl [H3 K3]
      · isplitl [K3]; · iexact K3
        iexact H3
      isplitl [H4 K4]
      · isplitl [K4]; · iexact K4
        iexact H4
      isplitl [H5 K5]
      · isplitl [K5]; · iexact K5
        iexact H5
      isplitl [H6 K6]
      · isplitl [K6]; · iexact K6
        iexact H6
      iexact HS
    isplitl [HA HB HG]
    · isplitl [HA]; · iexact HA
      isplitl [HB]; · iexact HB
      iexact HG
    iexact HP
  · iintro ⟨⟨⟨K0, H0⟩, ⟨K1, H1⟩, ⟨K2, H2⟩, ⟨K3, H3⟩, ⟨K4, H4⟩, ⟨K5, H5⟩, ⟨K6, H6⟩, HS⟩, ⟨HA, HB, HG⟩, HP⟩
    isplitl [HS H0 H1 H2 H3 H4 H5 H6]
    · isplitl [HS]; · iexact HS
      isplitl [H0 H1 H2]
      · iapply hx.2
        isplitl [H0]; · iexact H0
        isplitl [H1]; · iexact H1
        iexact H2
      isplitl [H3 H4]
      · iapply hw.2
        isplitl [H3]; · iexact H3
        iexact H4
      iapply ho.2
      isplitl [H5]; · iexact H5
      iexact H6
    isplitl [HP]; · iexact HP
    isplitl [K0 K1 K2 K3 K4 K5 K6]
    · isplitl [K0]; · iexact K0
      isplitl [K1]; · iexact K1
      isplitl [K2]; · iexact K2
      isplitl [K3]; · iexact K3
      isplitl [K4]; · iexact K4
      isplitl [K5]; · iexact K5
      iexact K6
    isplitl [HA HB]
    · isplitl [HA]; · iexact HA
      iexact HB
    iexact HG

/-- The same with two scratch buffers. -/
theorem region_pack_two {S T X W O X0 X1 X2 W0 W1 O0 O1 C0 C1 C2 C3 C4 C5 C6 A B G P : sProp 𝕄} (hx : X ⊣⊢ iprop(X0 ∗ X1 ∗ X2)) (hw : W ⊣⊢ iprop(W0 ∗ W1)) (ho : O ⊣⊢ iprop(O0 ∗ O1)) :
    iprop((S ∗ T ∗ X ∗ W ∗ O) ∗ P ∗ (C0 ∗ C1 ∗ C2 ∗ C3 ∗ C4 ∗ C5 ∗ C6) ∗ (A ∗ B) ∗ G)
      ⊣⊢ iprop(((C0 ∗ X0) ∗ (C1 ∗ X1) ∗ (C2 ∗ X2) ∗ (C3 ∗ W0) ∗ (C4 ∗ W1) ∗ (C5 ∗ O0) ∗ (C6 ∗ O1) ∗ S ∗ T) ∗ (A ∗ B ∗ G) ∗ P) := by
  have h := region_pack (S := iprop(S ∗ T)) (C0 := C0) (C1 := C1) (C2 := C2) (C3 := C3) (C4 := C4) (C5 := C5) (C6 := C6) (A := A) (B := B) (G := G) (P := P) hx hw ho
  constructor
  · iintro ⟨⟨HS, HT, H⟩, HP⟩
    iapply h.1
    isplitl [HS HT H]
    · isplitl [HS HT]
      · isplitl [HS]; · iexact HS
        iexact HT
      iexact H
    iexact HP
  · iintro H
    ihave H' := h.2 $$ H
    icases H' with ⟨⟨⟨HS, HT⟩, H⟩, HP⟩
    isplitl [HS HT H]
    · isplitl [HS]; · iexact HS
      isplitl [HT]; · iexact HT
      iexact H
    iexact HP

/-- The same with a second scratch buffer that the body leaves alone. -/
theorem region_pack_aside {S T X W O X0 X1 X2 W0 W1 O0 O1 C0 C1 C2 C3 C4 C5 C6 A B G P : sProp 𝕄} (hx : X ⊣⊢ iprop(X0 ∗ X1 ∗ X2)) (hw : W ⊣⊢ iprop(W0 ∗ W1)) (ho : O ⊣⊢ iprop(O0 ∗ O1)) :
    iprop((S ∗ T ∗ X ∗ W ∗ O) ∗ P ∗ (C0 ∗ C1 ∗ C2 ∗ C3 ∗ C4 ∗ C5 ∗ C6) ∗ (A ∗ B) ∗ G)
      ⊣⊢ iprop(((C0 ∗ X0) ∗ (C1 ∗ X1) ∗ (C2 ∗ X2) ∗ (C3 ∗ W0) ∗ (C4 ∗ W1) ∗ (C5 ∗ O0) ∗ (C6 ∗ O1) ∗ S) ∗ (A ∗ B ∗ G) ∗ T ∗ P) := by
  have h := region_pack (S := S) (C0 := C0) (C1 := C1) (C2 := C2) (C3 := C3) (C4 := C4) (C5 := C5) (C6 := C6) (A := A) (B := B) (G := G) (P := iprop(T ∗ P)) hx hw ho
  constructor
  · iintro ⟨⟨HS, HT, H⟩, HP, HC⟩
    iapply h.1
    isplitl [HS H]
    · isplitl [HS]; · iexact HS
      iexact H
    isplitl [HT HP]
    · isplitl [HT]; · iexact HT
      iexact HP
    iexact HC
  · iintro H
    ihave H' := h.2 $$ H
    icases H' with ⟨⟨HS, H⟩, ⟨HT, HP⟩, HC⟩
    isplitl [HS HT H]
    · isplitl [HS]; · iexact HS
      isplitl [HT]; · iexact HT
      iexact H
    isplitl [HP]; · iexact HP
    iexact HC

end Blocks

/-! ## The loop's carried words -/

/-- Two of the loop's carried words are equal if each is. -/
theorem acc_ext {A B C D E G H I J : Type} {x y : A × B × C × D × E × G × H × I × J} (h1 : x.1 = y.1) (h2 : x.2.1 = y.2.1) (h3 : x.2.2.1 = y.2.2.1) (h4 : x.2.2.2.1 = y.2.2.2.1)
    (h5 : x.2.2.2.2.1 = y.2.2.2.2.1) (h6 : x.2.2.2.2.2.1 = y.2.2.2.2.2.1) (h7 : x.2.2.2.2.2.2.1 = y.2.2.2.2.2.2.1) (h8 : x.2.2.2.2.2.2.2.1 = y.2.2.2.2.2.2.2.1)
    (h9 : x.2.2.2.2.2.2.2.2 = y.2.2.2.2.2.2.2.2) : x = y := by
  obtain ⟨a1, a2, a3, a4, a5, a6, a7, a8, a9⟩ := x
  obtain ⟨b1, b2, b3, b4, b5, b6, b7, b8, b9⟩ := y
  dsimp only at h1 h2 h3 h4 h5 h6 h7 h8 h9
  subst h1 h2 h3 h4 h5 h6 h7 h8 h9
  rfl

end Cert.Shared

end
-- ==== Proof.Hand.Pieces.lean ====
/-
  What is held during a trip: a block of an array at home, a slot of a ring, a slot's transfer cell, a slot in flight;
  and what the loop computes, block by block.
-/
module

public import proofs.«01_k».proof.Proof.Hand.Names
public import proofs.«01_k».proof.Proof.Hand.Shared
public import proofs.«01_k».proof.Proof.Gen.KernelIdeal.Launch
public import proofs.«01_k».proof.Proof.Gen.KernelIdeal.Loops
public import proofs.«01_k».proof.Proof.Gen.KernelIdeal.Points
public import Idealize.ShloMosaic.Lib.WritesUnit
public import Idealize.ShloMosaic.Lib.ViewIndex
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
abbrev UU (nD : Nat) (τ : Topo) : Type := UR sig nD τ × Counters
local notation "𝕄" => MT nD τ sig Unit (Elt F) ℕ (UU nD τ) ℕ
abbrev 𝒱₀ : Variants := Variants.none

section Pieces
variable (c : Dev nD)
  (XA : Buf (Elt F) (xM.view.loc (c : Thread nD τ))) (WA : Buf (Elt F) (wM.view.loc (c : Thread nD τ)))

abbrev xcellP (s : Fin 3) : sProp 𝕄 := semVal ((c : Thread nD τ), SemLoc.dma (xsem s).sem) 0
abbrev wcellP (s : Fin 2) : sProp 𝕄 := semVal ((c : Thread nD τ), SemLoc.dma (wsem s).sem) 0
abbrev ocellP (s : Fin 2) : sProp 𝕄 := semVal ((c : Thread nD τ), SemLoc.dma (osem s).sem) 0
abbrev xslotP (s : Fin 3) (f : Buf (Elt F) ((xslot s).view.loc (c : Thread nD τ))) : sProp 𝕄 :=
  (xslot s).view.loc (c : Thread nD τ) ↦[(xslot s).view.set]{fullShare} f
abbrev wslotP (s : Fin 2) (f : Buf (Elt F) ((wslot s).view.loc (c : Thread nD τ))) : sProp 𝕄 :=
  (wslot s).view.loc (c : Thread nD τ) ↦[(wslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 8) : sProp 𝕄 := (xblk b).view.loc (c : Thread nD τ) ↦[(xblk b).view.set]{fullShare} XA
abbrev whomeP (b : Fin 12) : sProp 𝕄 := (wblk b).view.loc (c : Thread nD τ) ↦[(wblk b).view.set]{fullShare} WA
abbrev oblkP (t : Fin 32) (g : Buf (Elt F) ((oblk t).view.loc (c : Thread nD τ))) : sProp 𝕄 :=
  (oblk t).view.loc (c : Thread nD τ) ↦[(oblk t).view.set]{fullShare} g

abbrev xpay (b : Fin 8) : S1x1024x2048.Idx → Elt F .bf16 := ReadAs.same.apply ((xblk b).view.read (Elt F) XA)
abbrev wpay (b : Fin 12) : S2048x1024.Idx → Elt F .f32 := ReadAs.same.apply ((wblk b).view.read (Elt F) WA)
abbrev xland (s : Fin 3) (b : Fin 8) (f : Buf (Elt F) ((xslot s).view.loc (c : Thread nD τ))) : Buf (Elt F) ((xslot s).view.loc (c : Thread nD τ)) :=
  (xslot s).view.writes (Elt F) f [⟨Rect.whole _, xpay c XA b⟩]
abbrev wland (s : Fin 2) (b : Fin 12) (f : Buf (Elt F) ((wslot s).view.loc (c : Thread nD τ))) : Buf (Elt F) ((wslot s).view.loc (c : Thread nD τ)) :=
  (wslot s).view.writes (Elt F) f [⟨Rect.whole _, wpay c WA b⟩]
abbrev xflightP (s : Fin 3) (b : Fin 8) : sProp 𝕄 :=
  iprop(∃ f, Transfers.Flight countersEmb (c : Thread nD τ) (SemLoc.dma (xsem s).sem) () 131072 iprop(xslotP c s (xland c XA s b f) ∗ xhomeP c XA b))
abbrev wflightP (s : Fin 2) (b : Fin 12) : sProp 𝕄 :=
  iprop(∃ f, Transfers.Flight countersEmb (c : Thread nD τ) (SemLoc.dma (wsem s).sem) () 262144 iprop(wslotP c s (wland c WA s b f) ∗ whomeP c WA b))
abbrev oflightP (s : Fin 2) (t : Fin 32) (g : Buf (Elt F) ((oblk t).view.loc (c : Thread nD τ))) : sProp 𝕄 :=
  iprop(∃ f, Transfers.Flight countersEmb (c : Thread nD τ) (SemLoc.dma (osem s).sem) () 65536 iprop(oblkP c t g ∗ oslotP c s f))

end Pieces

/-! ## What the loop computes -/

section Values

/-- The element of the out ring that slot `s` has at `y`. -/
def oIdx (s : Fin 2) (y : S1x8x1x1x1024x128.Idx) : S2x1x8x1x1x1024x128.Idx :=
  ix7 s 0 (y 1) 0 0 (y 4) (y 5)

theorem oslot_emb (s : Fin 2) (y : S1x8x1x1x1024x128.Idx) : (oslot s).view.emb y = oIdx s y := by
  have e : Shape.reshapeEquiv (s := S1x1x8x1x1x1024x128) (s' := S1x8x1x1x1024x128) squeezes_S1x1x8x1x1x1024x128_S1x8x1x1x1024x128.numel_eq y = ix7 0 0 (y 1) 0 0 (y 4) (y 5) := by
    simp only [pointwise]
  show (Rect.unit (s := S2x1x8x1x1x1024x128) (oslotOff s) S1x1x8x1x1x1024x128.size (oslotOff_inb s)).emb (Shape.reshapeEquiv (s := S1x1x8x1x1x1024x128) (s' := S1x8x1x1x1024x128) squeezes_S1x1x8x1x1x1024x128_S1x8x1x1x1024x128.numel_eq y) = oIdx s y
  rw [e]
  funext a
  apply Fin.ext
  match a with
  | ⟨0, _⟩ => rfl
  | ⟨1, _⟩ => rfl
  | ⟨2, _⟩ => exact (Nat.zero_add _).trans (Nat.one_mul _)
  | ⟨3, _⟩ => rfl
  | ⟨4, _⟩ => rfl
  | ⟨5, _⟩ => exact (Nat.zero_add _).trans (Nat.one_mul _)
  | ⟨6, _⟩ => exact (Nat.zero_add _).trans (Nat.one_mul _)

/-- A slot of the out ring read at `y`. -/
theorem oslot_read (s : Fin 2) (f : oR.view.ty.Contents (Elt F)) (y : S1x8x1x1x1024x128.Idx) :
    (oslot s).view.read (Elt F) f y = oR.view.read (Elt F) f (oIdx s y) :=
  congrArg f (oslot_emb s y)

abbrev headRect (off : Fin 7 → Nat) (h : ∀ a, off a + S1x1x1x1x1x1024x128.size a ≤ S2x1x8x1x1x1024x128.size a) : Rect S2x1x8x1x1x1024x128 :=
  Rect.unit (s := S2x1x8x1x1x1024x128) off S1x1x1x1x1x1024x128.size h

/-- The store of head `h` read back at head `h`. -/
theorem head_hit {s : Fin 2} {h : Fin 8} {off} (e : off = pieceOff s h.val) (inb) (f : oR.view.ty.Contents (Elt F)) (p) (L) (r : Fin 1024) (l : Fin 128) :
    oR.view.read (Elt F) (oR.view.writes (Elt F) f ((⟨headRect off inb, p⟩ : View.Piece (Elt F) S2x1x8x1x1x1024x128 .bf16) :: L)) (ix7 s 0 h 0 0 r l) = p (ix7 0 0 0 0 0 r l) := by
  refine View.read_writes_cons_unit_of_mem oR.view f inb p L _ (ix7 0 0 0 0 0 r l) e fun a => ?_
  match a with
  | ⟨0, _⟩ => rfl
  | ⟨1, _⟩ => rfl
  | ⟨2, _⟩ => rfl
  | ⟨3, _⟩ => rfl
  | ⟨4, _⟩ => rfl
  | ⟨5, _⟩ => exact (Nat.zero_add _).symm
  | ⟨6, _⟩ => exact (Nat.zero_add _).symm

/-- The store of head `h'` does not touch head `h`. -/
theorem head_miss {s : Fin 2} {h : Fin 8} {h' : ℕ} {off} (e : off = pieceOff s h') (hne : h.val < h') (inb) (f : oR.view.ty.Contents (Elt F)) (p) (L) (r : Fin 1024) (l : Fin 128) :
    oR.view.read (Elt F) (oR.view.writes (Elt F) f ((⟨headRect off inb, p⟩ : View.Piece (Elt F) S2x1x8x1x1x1024x128 .bf16) :: L)) (ix7 s 0 h 0 0 r l)
      = oR.view.read (Elt F) (oR.view.writes (Elt F) f L) (ix7 s 0 h 0 0 r l) :=
  View.read_writes_cons_unit_of_not_mem oR.view f inb p L _ e 2 (Or.inl hne)

/-- The slot after the eight stores of a trip, read at `y`: head `y 1`'s store. -/
theorem stage_at (s : Fin 2) (o : Fin 8 → Fin 7 → ℕ) (inb : ∀ h a, o h a + S1x1x1x1x1x1024x128.size a ≤ S2x1x8x1x1x1024x128.size a) (ho : ∀ h, o h = pieceOff s h.val)
    (p : Fin 8 → S1x1x1x1x1x1024x128.Idx → Elt F .bf16) (f : oR.view.ty.Contents (Elt F)) (y : S1x8x1x1x1024x128.Idx) :
    (oslot s).view.read (Elt F) (oR.view.writes (Elt F) f [⟨headRect (o 7) (inb 7), p 7⟩, ⟨headRect (o 6) (inb 6), p 6⟩, ⟨headRect (o 5) (inb 5), p 5⟩, ⟨headRect (o 4) (inb 4), p 4⟩,
      ⟨headRect (o 3) (inb 3), p 3⟩, ⟨headRect (o 2) (inb 2), p 2⟩, ⟨headRect (o 1) (inb 1), p 1⟩, ⟨headRect (o 0) (inb 0), p 0⟩]) y
      = p (y 1) (ix7 0 0 0 0 0 (y 4) (y 5)) := by
  rw [oslot_read]
  suffices H : ∀ (h : Fin 8) (r : Fin 1024) (l : Fin 128), oR.view.read (Elt F) (oR.view.writes (Elt F) f [⟨headRect (o 7) (inb 7), p 7⟩, ⟨headRect (o 6) (inb 6), p 6⟩, ⟨headRect (o 5) (inb 5), p 5⟩, ⟨headRect (o 4) (inb 4), p 4⟩,
      ⟨headRect (o 3) (inb 3), p 3⟩, ⟨headRect (o 2) (inb 2), p 2⟩, ⟨headRect (o 1) (inb 1), p 1⟩, ⟨headRect (o 0) (inb 0), p 0⟩]) (ix7 s 0 h 0 0 r l) = p h (ix7 0 0 0 0 0 r l) from H (y 1) (y 4) (y 5)
  intro h r l
  match h with
  | 7 => exact head_hit (h := 7) (ho 7) _ _ _ _ _ _
  | 6 => exact (head_miss (h := 6) (ho 7) (by decide) _ _ _ _ _ _).trans (head_hit (ho 6) _ _ _ _ _ _)
  | 5 => exact ((head_miss (h := 5) (ho 7) (by decide) _ _ _ _ _ _).trans (head_miss (ho 6) (by decide) _ _ _ _ _ _)).trans (head_hit (ho 5) _ _ _ _ _ _)
  | 4 => exact (((head_miss (h := 4) (ho 7) (by decide) _ _ _ _ _ _).trans (head_miss (ho 6) (by decide) _ _ _ _ _ _)).trans (head_miss (ho 5) (by decide) _ _ _ _ _ _)).trans (head_hit (ho 4) _ _ _ _ _ _)
  | 3 => exact ((((head_miss (h := 3) (ho 7) (by decide) _ _ _ _ _ _).trans (head_miss (ho 6) (by decide) _ _ _ _ _ _)).trans (head_miss (ho 5) (by decide) _ _ _ _ _ _)).trans (head_miss (ho 4) (by decide) _ _ _ _ _ _)).trans (head_hit (ho 3) _ _ _ _ _ _)
  | 2 => exact (((((head_miss (h := 2) (ho 7) (by decide) _ _ _ _ _ _).trans (head_miss (ho 6) (by decide) _ _ _ _ _ _)).trans (head_miss (ho 5) (by decide) _ _ _ _ _ _)).trans (head_miss (ho 4) (by decide) _ _ _ _ _ _)).trans (head_miss (ho 3) (by decide) _ _ _ _ _ _)).trans (head_hit (ho 2) _ _ _ _ _ _)
  | 1 => exact ((((((head_miss (h := 1) (ho 7) (by decide) _ _ _ _ _ _).trans (head_miss (ho 6) (by decide) _ _ _ _ _ _)).trans (head_miss (ho 5) (by decide) _ _ _ _ _ _)).trans (head_miss (ho 4) (by decide) _ _ _ _ _ _)).trans (head_miss (ho 3) (by decide) _ _ _ _ _ _)).trans (head_miss (ho 2) (by decide) _ _ _ _ _ _)).trans (head_hit (ho 1) _ _ _ _ _ _)
  | 0 => exact (((((((head_miss (h := 0) (ho 7) (by decide) _ _ _ _ _ _).trans (head_miss (ho 6) (by decide) _ _ _ _ _ _)).trans (head_miss (ho 5) (by decide) _ _ _ _ _ _)).trans (head_miss (ho 4) (by decide) _ _ _ _ _ _)).trans (head_miss (ho 3) (by decide) _ _ _ _ _ _)).trans (head_miss (ho 2) (by decide) _ _ _ _ _ _)).trans (head_miss (ho 1) (by decide) _ _ _ _ _ _)).trans (head_hit (ho 0) _ _ _ _ _ _)

variable (c : Dev nD)
  (XA : Buf (Elt F) (xM.view.loc (c : Thread nD τ))) (WA : Buf (Elt F) (wM.view.loc (c : Thread nD τ)))

/-- The scratch's contents while block `n` of the weights is used: the block rounded to bf16. -/
def wsV (n : Fin 12) : FVec F S2048x1024 .bf16 := truncf .bf16 (wpay c WA n) bitsLt_bf16_f32
/-- Trip `k`'s product. -/
def prod (k : ℕ) : FVec F S1024x1024 .f32 := k0_pay3 (k0_pay2 (xpay c XA (xb k))) (wsV c WA (wb k))
/-- Trip `k`'s product rounded to bf16. -/
def prodB (k : ℕ) : FVec F S1024x1024 .bf16 := truncf .bf16 (prod c XA WA k) bitsLt_bf16_f32

/-- The trip that computes element `i` of the result. -/
def tripOf (i : S2x16x2x1x4096x128.Idx) : ℕ := ((i 2).val * 2 + (i 1).val / 8) * 8 + (i 0).val * 4 + (i 4).val / 1024
/-- The result array after the loop. -/
def outA : Buf (Elt F) (oM.view.loc (c : Thread nD τ)) := fun i : S2x16x2x1x4096x128.Idx =>
  prodB c XA WA (tripOf i) (ix2 ⟨(i 4).val % 1024, Nat.mod_lt _ (by decide)⟩ ⟨(i 1).val % 8 * 128 + (i 5).val, by have : (i 5).val < 128 := (i 5).isLt; omega⟩)

/-- The eight stores' payloads of a product. -/
def heads (m : FVec F S1024x1024 .f32) : Fin 8 → S1x1x1x1x1x1024x128.Idx → Elt F .bf16 := fun h y =>
  truncf .bf16 m bitsLt_bf16_f32 (ix2 (y 5 : Fin 1024) ⟨h.val * 128 + (y 6).val, by have : (y 6).val < 128 := (y 6).isLt; omega⟩)

variable (a : FVec F S1024x2048 .bf16) (b : Vec F S2048x1024 .bf16) (m : FVec F S1024x1024 .f32) (y : S1x1x1x1x1x1024x128.Idx)
theorem pay4_at : k0_pay4 a b = heads (k0_pay3 a b) 0 := by
  funext y; unfold k0_pay4 heads; generalize k0_pay3 a b = m; pointwise
theorem pay5_at : k0_pay5 a b = heads (k0_pay3 a b) 1 := by
  funext y; unfold k0_pay5 heads; generalize k0_pay3 a b = m; pointwise
theorem pay7_at : k0_pay7 (k0_pay6 a b) = heads (k0_pay3 a b) 2 := by
  funext y; unfold k0_pay7 k0_pay6 heads; generalize k0_pay3 a b = m; pointwise
theorem pay8_at : k0_pay8 m = heads m 3 := by funext y; unfold k0_pay8 heads; pointwise
theorem pay9_at : k0_pay9 m = heads m 4 := by funext y; unfold k0_pay9 heads; pointwise
theorem pay11_at : k0_pay11 (k0_pay10 m) = heads m 5 := by funext y; unfold k0_pay11 k0_pay10 heads; pointwise
theorem pay12_at : k0_pay12 m = heads m 6 := by funext y; unfold k0_pay12 heads; pointwise
theorem pay13_at : k0_pay13 m = heads m 7 := by funext y; unfold k0_pay13 heads; pointwise

/-- The element of the result array that block `t` has at `y`. -/
theorem oblk_emb (t : Fin 32) (y : S1x8x1x1x1024x128.Idx) : (oblk t).view.emb y = (ix6 (⟨t.val / 4 % 2, by omega⟩ : Fin 2) (⟨8 * (t.val / 8 % 2) + (y 1).val, by have : (y 1).val < 8 := (y 1).isLt; omega⟩ : Fin 16)
    (⟨t.val / 16, by omega⟩ : Fin 2) (0 : Fin 1) (⟨1024 * (t.val % 4) + (y 4).val, by have : (y 4).val < 1024 := (y 4).isLt; omega⟩ : Fin 4096) (y 5 : Fin 128) : S2x16x2x1x4096x128.Idx) := by
  show (Rect.unit (s := S2x16x2x1x4096x128) (oblkOff t) S1x8x1x1x1024x128.size (oblkOff_inb t)).emb y = _
  funext a
  apply Fin.ext
  have h0 : (y 0).val = 0 := Nat.lt_one_iff.mp (y 0).isLt
  have h2 : (y 2).val = 0 := Nat.lt_one_iff.mp (y 2).isLt
  have h3 : (y 3).val = 0 := Nat.lt_one_iff.mp (y 3).isLt
  match a with
  | ⟨0, _⟩ => show t.val / 4 % 2 + 1 * (y 0).val = t.val / 4 % 2; omega
  | ⟨1, _⟩ => show 8 * (t.val / 8 % 2) + 1 * (y 1).val = 8 * (t.val / 8 % 2) + (y 1).val; omega
  | ⟨2, _⟩ => show t.val / 16 + 1 * (y 2).val = t.val / 16; omega
  | ⟨3, _⟩ => show 0 + 1 * (y 3).val = 0; omega
  | ⟨4, _⟩ => show 1024 * (t.val % 4) + 1 * (y 4).val = 1024 * (t.val % 4) + (y 4).val; omega
  | ⟨5, _⟩ => show 0 + 1 * (y 5).val = (y 5).val; omega

/-- The result at the element that block `k` has at `y`. -/
theorem outA_emb (k : ℕ) (hk : k < 32) (y : S1x8x1x1x1024x128.Idx) :
    outA c XA WA ((oblk (ob k)).view.emb y) = heads (prod c XA WA k) (y 1) (ix7 0 0 0 0 0 (y 4) (y 5)) := by
  rw [oblk_emb]
  have h1 : (y 1).val < 8 := (y 1).isLt
  have h4 : (y 4).val < 1024 := (y 4).isLt
  have hb : (ob k).val = k := Nat.mod_eq_of_lt hk
  have ht : tripOf (ix6 (⟨(ob k).val / 4 % 2, by omega⟩ : Fin 2) (⟨8 * ((ob k).val / 8 % 2) + (y 1).val, by omega⟩ : Fin 16)
    (⟨(ob k).val / 16, by omega⟩ : Fin 2) (0 : Fin 1) (⟨1024 * ((ob k).val % 4) + (y 4).val, by omega⟩ : Fin 4096) (y 5 : Fin 128)) = k := by
    show ((ob k).val / 16 * 2 + (8 * ((ob k).val / 8 % 2) + (y 1).val) / 8) * 8 + (ob k).val / 4 % 2 * 4 + (1024 * ((ob k).val % 4) + (y 4).val) / 1024 = k
    omega
  unfold outA heads prodB
  rw [ht]
  refine congrArg _ (congrArg₂ ix2 (Fin.ext ?_) (Fin.ext ?_))
  · show (1024 * ((ob k).val % 4) + (y 4).val) % 1024 = (y 4).val; omega
  · show (8 * ((ob k).val / 8 % 2) + (y 1).val) % 8 * 128 + (y 5).val = (y 1).val * 128 + (y 5).val; omega

/-- The block that trip `k` sends home is the result's block `k`. -/
theorem outA_block (k : ℕ) (hk : k < 32) (g : Buf (Elt F) ((oblk (ob k)).view.loc (c : Thread nD τ))) (w : S1x8x1x1x1024x128.Idx → Elt F .bf16)
    (hw : ∀ y, w y = heads (prod c XA WA k) (y 1) (ix7 0 0 0 0 0 (y 4) (y 5))) :
    oblkP c (ob k) ((oblk (ob k)).view.writes (Elt F) g [⟨Rect.whole S1x8x1x1x1024x128, w⟩]) = oblkP c (ob k) (outA c XA WA) := by
  refine pointsTo_congr (agree_of_read (oblk (ob k)).view fun y => ?_)
  refine (read_whole_writes (oblk (ob k)).view g w y).trans ((hw y).trans (outA_emb c XA WA k hk y).symm)

end Values

end Cert.KernelIdeal.Hand

end
-- ==== Proof.Hand.Trip.lean ====
/-
  One trip of the loop: what it takes, what it leaves.
-/
module

public import proofs.«01_k».proof.Proof.Hand.Pieces
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The parts of a trip's resources -/

abbrev xfree (s : Fin 3) : sProp 𝕄 := iprop(xcellP c s ∗ ∃ f, xslotP c s f)
abbrev wfree (s : Fin 2) : sProp 𝕄 := iprop(wcellP c s ∗ ∃ f, wslotP c s f)
abbrev ofree (s : Fin 2) : sProp 𝕄 := iprop(ocellP c s ∗ ∃ f, oslotP c s f)
abbrev wsP (f : Buf (Elt F) (wsM.view.loc (c : Thread nD τ))) : sProp 𝕄 := wsM.view.loc (c : Thread nD τ) ↦[wsM.view.set]{fullShare} f

/-- Block `t` of the result at an array's contents, at home and on its way. -/
abbrev oHomeP (t : Fin 32) (G : Buf (Elt F) (oM.view.loc (c : Thread nD τ))) : sProp 𝕄 := oblkP c t G
abbrev oFlyP (s : Fin 2) (t : Fin 32) (G : Buf (Elt F) (oM.view.loc (c : Thread nD τ))) : sProp 𝕄 := oflightP c s t G

/-- The activations: block `k + 2` is sent for, if there is one. -/
def xPre (k : ℕ) : sProp 𝕄 := if k < 30 then iprop(xhomeP c XA (xb (k + 2)) ∗ xfree c (sl 3 (k + 2))) else iprop(emp)
def xPost (k : ℕ) : sProp 𝕄 := if k < 30 then xflightP c XA (sl 3 (k + 2)) (xb (k + 2)) else iprop(emp)
/-- The weights: the next block is sent for at the last trip of a block; a block is received at its first trip. -/
def wPre (k : ℕ) : sProp 𝕄 :=
  if k % 8 = 7 ∧ k < 31 then iprop(whomeP c WA (wb (k + 1)) ∗ wfree c (sl 2 (k / 8 + 1)))
  else if k % 8 = 0 then wflightP c WA (sl 2 (k / 8)) (wb k) else iprop(emp)
def wPost (k : ℕ) : sProp 𝕄 :=
  if k % 8 = 7 ∧ k < 31 then wflightP c WA (sl 2 (k / 8 + 1)) (wb (k + 1))
  else if k % 8 = 0 then iprop(whomeP c WA (wb k) ∗ wfree c (sl 2 (k / 8))) else iprop(emp)
/-- The scratch: the current block of the weights, once it has been received. -/
def wsPre (k : ℕ) : sProp 𝕄 := if k % 8 = 0 then iprop(∃ f, wsP c f) else wsP c (wsV c WA (wb k))
/-- The result: the block of the trip before is waited for. -/
def oPre (k : ℕ) : sProp 𝕄 := if 1 ≤ k then oFlyP c (sl 2 (k + 1)) (ob (k - 1)) (outA c XA WA) else ofree c (sl 2 (k + 1))
def oPost (k : ℕ) : sProp 𝕄 := if 1 ≤ k then iprop(oHomeP c (ob (k - 1)) (outA c XA WA) ∗ ofree c (sl 2 (k + 1))) else ofree c (sl 2 (k + 1))

/-- What trip `k` takes. -/
def tPre (k : ℕ) : sProp 𝕄 :=
  iprop((∃ W, owes (c : Thread nD τ) 0 W) ∗ xflightP c XA (sl 3 k) (xb k) ∗ xPre c XA k ∗ wPre c WA k ∗ wsPre c WA k
    ∗ ofree c (sl 2 k) ∗ oPre c XA WA k ∗ oHomeP c (ob k) g0)
/-- What trip `k` leaves. -/
def tPost (k : ℕ) : sProp 𝕄 :=
  iprop((∃ W, owes (c : Thread nD τ) 0 W) ∗ xhomeP c XA (xb k) ∗ xfree c (sl 3 k) ∗ xPost c XA k ∗ wPost c WA k ∗ wsP c (wsV c WA (wb k))
    ∗ oFlyP c (sl 2 k) (ob k) (outA c XA WA) ∗ oPost c XA WA k)

/-! ## What the trip's loads read and its stores leave -/

/-- A load of the whole activations' slot after a landing. -/
theorem xload (s : Fin 3) (b : Fin 8) (f : Buf (Elt F) ((xslot s).view.loc (c : Thread nD τ))) (inb : ∀ a, (![0, 0, 0] : Fin 3 → ℕ) a + S1x1024x2048.size a ≤ S1x1024x2048.size a) :
    (xslot s).view.readAt (Elt F) (Rect.unit (s := S1x1024x2048) ![0, 0, 0] S1x1024x2048.size inb).toLoadRect (xland c XA s b f) = xpay c XA b :=
  (Idealize.ShloMosaic.View.readAt_full (xslot s).view _ inb).trans (funext fun y => read_whole_writes (xslot s).view f (xpay c XA b) y)

/-- The same, stated over the landing alone. -/
theorem xcov (s : Fin 3) (b : Fin 8) (inb : ∀ a, (![0, 0, 0] : Fin 3 → ℕ) a + S1x1024x2048.size a ≤ S1x1024x2048.size a) :
    (xslot s).view.readCov [⟨Rect.whole S1x1024x2048, xpay c XA b⟩] (Rect.unit (s := S1x1024x2048) ![0, 0, 0] S1x1024x2048.size inb).toLoadRect = xpay c XA b :=
  xload c XA s b _ inb

/-- A load of the whole scratch. -/
theorem wsload (f : Buf (Elt F) (wsM.view.loc (c : Thread nD τ))) (inb : ∀ a, (![0, 0] : Fin 2 → ℕ) a + S2048x1024.size a ≤ S2048x1024.size a) :
    wsM.view.readAt (Elt F) (Rect.unit (s := S2048x1024) ![0, 0] S2048x1024.size inb).toLoadRect f = f :=
  Idealize.ShloMosaic.View.readAt_full wsM.view f inb

/-- The slot that goes out, sent: the result's block. -/
theorem sent (k : ℕ) (hk : k < 32) (g : Buf (Elt F) ((oblk (ob k)).view.loc (c : Thread nD τ))) (f : Buf (Elt F) ((oslot (sl 2 k)).view.loc (c : Thread nD τ)))
    (hf : ∀ y, (oslot (sl 2 k)).view.read (Elt F) f y = heads (prod c XA WA k) (y 1) (ix7 0 0 0 0 0 (y 4) (y 5))) :
    (Transfers.Flight countersEmb (c : Thread nD τ) (SemLoc.dma (osem (sl 2 k)).sem) () 65536
        iprop(oblkP c (ob k) ((oblk (ob k)).view.writes (Elt F) g [⟨Rect.whole S1x8x1x1x1024x128, ReadAs.same.apply ((oslot (sl 2 k)).view.read (Elt F) f)⟩]) ∗ oslotP c (sl 2 k) f) : sProp 𝕄)
      ⊢ oFlyP c (sl 2 k) (ob k) (outA c XA WA) := by
  rw [outA_block c XA WA k hk g _ hf]
  iintro H
  iexists f
  iexact H

/-- The eight stores of trip `k` leave the eight heads of its product. -/
theorem staged (k : Fin k0_t1_loop.trips) (f : oR.view.ty.Contents (Elt F)) (a : FVec F S1024x2048 .bf16) (b : FVec F S2048x1024 .bf16)
    (ha : a = k0_pay2 (xpay c XA (xb k.val))) (hb : b = wsV c WA (wb k.val))
    (i0 : ∀ a, k0_off23 (fo k.val) a + S1x1x1x1x1x1024x128.size a ≤ S2x1x8x1x1x1024x128.size a) (i1 : ∀ a, k0_off24 (fo k.val) a + S1x1x1x1x1x1024x128.size a ≤ S2x1x8x1x1x1024x128.size a)
    (i2 : ∀ a, k0_off25 (fo k.val) a + S1x1x1x1x1x1024x128.size a ≤ S2x1x8x1x1x1024x128.size a) (i3 : ∀ a, k0_off26 (fo k.val) a + S1x1x1x1x1x1024x128.size a ≤ S2x1x8x1x1x1024x128.size a)
    (i4 : ∀ a, k0_off27 (fo k.val) a + S1x1x1x1x1x1024x128.size a ≤ S2x1x8x1x1x1024x128.size a) (i5 : ∀ a, k0_off28 (fo k.val) a + S1x1x1x1x1x1024x128.size a ≤ S2x1x8x1x1x1024x128.size a)
    (i6 : ∀ a, k0_off29 (fo k.val) a + S1x1x1x1x1x1024x128.size a ≤ S2x1x8x1x1x1024x128.size a) (i7 : ∀ a, k0_off30 (fo k.val) a + S1x1x1x1x1x1024x128.size a ≤ S2x1x8x1x1x1024x128.size a)
    (y : S1x8x1x1x1024x128.Idx) :
    (oslot (sl 2 k.val)).view.read (Elt F) (oR.view.writes (Elt F) f [⟨headRect _ i7, k0_pay13 (k0_pay3 a b)⟩, ⟨headRect _ i6, k0_pay12 (k0_pay3 a b)⟩,
        ⟨headRect _ i5, k0_pay11 (k0_pay10 (k0_pay3 a b))⟩, ⟨headRect _ i4, k0_pay9 (k0_pay3 a b)⟩, ⟨headRect _ i3, k0_pay8 (k0_pay3 a b)⟩,
        ⟨headRect _ i2, k0_pay7 (k0_pay6 a b)⟩, ⟨headRect _ i1, k0_pay5 a b⟩, ⟨headRect _ i0, k0_pay4 a b⟩]) y
      = heads (prod c XA WA k.val) (y 1) (ix7 0 0 0 0 0 (y 4) (y 5)) := by
  subst ha hb
  rw [pay4_at, pay5_at, pay7_at, pay8_at, pay9_at, pay11_at, pay12_at, pay13_at]
  have inb : ∀ (h : Fin 8) a, pieceOff (sl 2 k.val) h.val a + S1x1x1x1x1x1024x128.size a ≤ S2x1x8x1x1x1024x128.size a := by
    generalize sl 2 k.val = s; revert s; decide
  have e : ∀ (h : Fin 8) (o : Fin 7 → ℕ) (i : ∀ a, o a + S1x1x1x1x1x1024x128.size a ≤ S2x1x8x1x1x1024x128.size a) (p : S1x1x1x1x1x1024x128.Idx → Elt F .bf16), o = pieceOff (sl 2 k.val) h.val →
      (⟨headRect o i, p⟩ : View.Piece (Elt F) S2x1x8x1x1x1024x128 .bf16) = ⟨headRect (pieceOff (sl 2 k.val) h.val) (inb h), p⟩ := by
    intro h o i p ho; subst ho; rfl
  rw [e 7 _ i7 _ (ClosedOff.eq), e 6 _ i6 _ (ClosedOff.eq), e 5 _ i5 _ (ClosedOff.eq), e 4 _ i4 _ (ClosedOff.eq), e 3 _ i3 _ (ClosedOff.eq), e 2 _ i2 _ (ClosedOff.eq), e 1 _ i1 _ (ClosedOff.eq), e 0 _ i0 _ (ClosedOff.eq)]
  exact stage_at (sl 2 k.val) (fun h => pieceOff (sl 2 k.val) h.val) inb (fun _ => rfl) (heads (prod c XA WA k.val)) f y

/-- The eight stores of trip `k`, one after the other, and the transfer that takes them home. -/
theorem sent_stores (k : Fin k0_t1_loop.trips) (hkk : k.val < 32) {g : Buf (Elt F) ((oblk (ob k.val)).view.loc (c : Thread nD τ))} {w : S1x8x1x1x1024x128.Idx → Elt F .bf16}
    {f0 f1 f2 f3 f4 f5 f6 f7 f8 : oR.view.ty.Contents (Elt F)} {a : FVec F S1024x2048 .bf16} {b : FVec F S2048x1024 .bf16} {m : FVec F S1024x1024 .f32} {p6 p10 : FVec F S1024x128 .bf16} {v : Vec F S1x1024x2048 .bf16}
    {i0 : ∀ a, k0_off23 (fo k.val) a + S1x1x1x1x1x1024x128.size a ≤ S2x1x8x1x1x1024x128.size a}
    {i1 : ∀ a, k0_off24 (fo k.val) a + S1x1x1x1x1x1024x128.size a ≤ S2x1x8x1x1x1024x128.size a}
    {i2 : ∀ a, k0_off25 (fo k.val) a + S1x1x1x1x1x1024x128.size a ≤ S2x1x8x1x1x1024x128.size a}
    {i3 : ∀ a, k0_off26 (fo k.val) a + S1x1x1x1x1x1024x128.size a ≤ S2x1x8x1x1x1024x128.size a}
    {i4 : ∀ a, k0_off27 (fo k.val) a + S1x1x1x1x1x1024x128.size a ≤ S2x1x8x1x1x1024x128.size a}
    {i5 : ∀ a, k0_off28 (fo k.val) a + S1x1x1x1x1x1024x128.size a ≤ S2x1x8x1x1x1024x128.size a}
    {i6 : ∀ a, k0_off29 (fo k.val) a + S1x1x1x1x1x1024x128.size a ≤ S2x1x8x1x1x1024x128.size a}
    {i7 : ∀ a, k0_off30 (fo k.val) a + S1x1x1x1x1x1024x128.size a ≤ S2x1x8x1x1x1024x128.size a}
    (hw : w = ReadAs.same.apply ((oslot (sl 2 k.val)).view.read (Elt F) f8))
    (h8 : f8 = View.write (Elt F) (oR.access (headRect _ i7)) f7 (k0_pay13 m) Finset.univ)
    (h7 : f7 = View.write (Elt F) (oR.access (headRect _ i6)) f6 (k0_pay12 m) Finset.univ)
    (h6 : f6 = View.write (Elt F) (oR.access (headRect _ i5)) f5 (k0_pay11 p10) Finset.univ)
    (h5 : f5 = View.write (Elt F) (oR.access (headRect _ i4)) f4 (k0_pay9 m) Finset.univ)
    (h4 : f4 = View.write (Elt F) (oR.access (headRect _ i3)) f3 (k0_pay8 m) Finset.univ)
    (h3 : f3 = View.write (Elt F) (oR.access (headRect _ i2)) f2 (k0_pay7 p6) Finset.univ)
    (h2 : f2 = View.write (Elt F) (oR.access (headRect _ i1)) f1 (k0_pay5 a b) Finset.univ)
    (h1 : f1 = View.write (Elt F) (oR.access (headRect _ i0)) f0 (k0_pay4 a b) Finset.univ)
    (hp10 : p10 = k0_pay10 m) (hp6 : p6 = k0_pay6 a b) (hm : m = k0_pay3 a b) (ha : a = k0_pay2 v) (hv : v = xpay c XA (xb k.val)) (hb : b = wsV c WA (wb k.val)) :
    (Transfers.Flight countersEmb (c : Thread nD τ) (SemLoc.dma (osem (sl 2 k.val)).sem) () 65536
        iprop(oblkP c (ob k.val) ((oblk (ob k.val)).view.writes (Elt F) g [⟨Rect.whole S1x8x1x1x1024x128, w⟩]) ∗ oslotP c (sl 2 k.val) f8) : sProp 𝕄)
      ⊢ oFlyP c (sl 2 k.val) (ob k.val) (outA c XA WA) := by
  subst hw
  refine sent c XA WA k.val hkk g f8 fun y => ?_
  subst hv
  subst hp10 hp6 hm h8 h7 h6 h5 h4 h3 h2 h1
  exact staged c XA WA k f0 a b ha hb i0 i1 i2 i3 i4 i5 i6 i7 y

/-- The weights' slot, loaded whole after a landing and rounded: the block rounded. -/
theorem wload (s : Fin 2) (n : Fin 12) (f : Buf (Elt F) ((wslot s).view.loc (c : Thread nD τ))) {off : Fin 3 → ℕ} (e : off = wslotOff s) (inb : ∀ a, off a + S1x2048x1024.size a ≤ S2x2048x1024.size a) :
    k0_pay1 (wR.view.readAt (Elt F) (Rect.unit (s := S2x2048x1024) off S1x2048x1024.size inb).toLoadRect (wland c WA s n f)) = wsV c WA n := by
  subst e
  have h : (shapeCast S2048x1024 (wR.view.readAt (Elt F) (Rect.unit (s := S2x2048x1024) (wslotOff s) S1x2048x1024.size inb).toLoadRect (wland c WA s n f)) shapeCasts_S1x2048x1024_S2048x1024 : Vec F S2048x1024 .f32)
      = wpay c WA n := by
    funext y
    exact read_whole_writes (wslot s).view f (wpay c WA n) y
  unfold k0_pay1 wsV
  rw [h]
  funext y
  pointwise

/-- The scratch after a store of all of it. -/
theorem wsstore (f : Buf (Elt F) (wsM.view.loc (c : Thread nD τ))) {L : List (View.Piece (Elt F) S2048x1024 .bf16)} {inb : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 12) (hp : p = wsV c WA n) :
    (wsM.view.loc (c : Thread nD τ) ↦[wsM.view.set]{fullShare} wsM.view.writes (Elt F) f L : sProp 𝕄) ⊢ wsP c (wsV c WA n) := by
  subst hL hp
  refine Entails.of_eq (pointsTo_congr (agree_of_read wsM.view fun y => ?_))
  rw [Idealize.ShloMosaic.View.read_writes_full]
  rfl

/-- The scratch loaded whole after a store of all of it. -/
theorem wscov {L : List (View.Piece (Elt F) S2048x1024 .bf16)} {inb inb' : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 12) (hp : p = wsV c WA n) :
    wsM.view.readCov L (Rect.unit (s := S2048x1024) ![0, 0] S2048x1024.size inb').toLoadRect = wsV c WA n := by
  subst hL hp
  exact Idealize.ShloMosaic.View.readCov_full wsM.view inb' inb _ []

end Cert.KernelIdeal.Hand

end
-- ==== Proof.Hand.Run.lean ====
/-
  One trip of the loop, run.
-/
module

public import proofs.«01_k».proof.Proof.Hand.Trip

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-- The loop's carried words before trip `k`. -/
abbrev Acc : Type := BitVec 32 × BitVec 32 × BitVec 32 × BitVec 32 × BitVec 32 × BitVec 32 × BitVec 32 × BitVec 32 × BitVec 32
def accAt (k : ℕ) : Acc := (fx k, cx k, fw k, cw k, fo k, co k, gn k, gb k, gi k)

abbrev tripG (v25 v26 : BitVec 32) (k : Fin k0_t1_loop.trips) (acc : Acc) :=
  k0_t1_body (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5 v25 v26 k acc

/-- Trip `k` runs from its resources to what it leaves. -/
def TripSpec (k : Fin k0_t1_loop.trips) : Prop :=
  ∀ v25 v26 : BitVec 32, tPre c XA WA g0 k.val ⊢ wp frame (wpE (defs₀ (F := F)) 𝒱₀ (c : Thread nD τ) none) Set.univ (tripG (F := F) v25 v26 k (accAt k.val))
    (fun acc => iprop(⌜acc = accAt (k.val + 1)⌝ ∗ tPost c XA WA k.val))

set_option maxHeartbeats 800000 in
/-- A trip that neither starts nor ends a block of the weights. -/
theorem trip_mid (k : Fin k0_t1_loop.trips) (h1 : 1 ≤ k.val) (h30 : k.val < 30) (hw : ¬ k.val % 8 = 7) (hc : ¬ k.val % 8 = 0) : TripSpec c XA WA g0 k := by
  intro v25 v26
  have c2 : k0_cond2 k (gb k.val) (gi k.val) = 1#1 := (cond2_iff k).2 h30
  have c3 : ¬ k0_cond3 k (gn k.val) (gb k.val) (gi k.val) = 1#1 := fun h => hw ((cond3_iff k).1 h).1
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 32 := by have := trips_eq; omega
  unfold tPre tPost xPre xPost wPre wPost wsPre oPre oPost
  simp only [if_pos h1, if_pos h30, if_neg hc, if_neg (fun h : k.val % 8 = 7 ∧ k.val < 31 => hw h.1)]
  iintro ⟨⟨%W, HW⟩, ⟨%fX, HFx⟩, ⟨Hx, Hxc, ⟨%fxs, Hxs⟩⟩, -, Hws, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fX fxs fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitr; · iempintro
  isplitl [Hws]; · iexact Hws
  isplitl [Hoc]
  · istop
    apply sent_stores c XA WA k hkk
    iterate 13 exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that ends a block of the weights and sends for the next. -/
theorem trip_send (k : Fin k0_t1_loop.trips) (h1 : 1 ≤ k.val) (h30 : k.val < 30) (hw : k.val % 8 = 7 ∧ k.val < 31) : TripSpec c XA WA g0 k := by
  intro v25 v26
  have hc : ¬ k.val % 8 = 0 := by omega
  have c2 : k0_cond2 k (gb k.val) (gi k.val) = 1#1 := (cond2_iff k).2 h30
  have c3 : k0_cond3 k (gn k.val) (gb k.val) (gi k.val) = 1#1 := (cond3_iff k).2 hw
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 32 := by have := trips_eq; omega
  unfold tPre tPost xPre xPost wPre wPost wsPre oPre oPost
  simp only [if_pos h1, if_pos h30, if_neg hc, if_pos hw]
  iintro ⟨⟨%W, HW⟩, ⟨%fX, HFx⟩, ⟨Hx, Hxc, ⟨%fxs, Hxs⟩⟩, ⟨Hwh, Hwc, ⟨%fwl, Hwl⟩⟩, Hws, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fX fxs fwl fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [Hwc]; · iexists _; iexact Hwc
  isplitl [Hws]; · iexact Hws
  isplitl [Hoc]
  · istop
    apply sent_stores c XA WA k hkk
    iterate 13 exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that starts a block of the weights, not the first. -/
theorem trip_take (k : Fin k0_t1_loop.trips) (h1 : 1 ≤ k.val) (h30 : k.val < 30) (hc : k.val % 8 = 0) : TripSpec c XA WA g0 k := by
  intro v25 v26
  have hw : ¬ k.val % 8 = 7 := by omega
  have c2 : k0_cond2 k (gb k.val) (gi k.val) = 1#1 := (cond2_iff k).2 h30
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 32 := by have := trips_eq; omega
  unfold tPre tPost xPre xPost wPre wPost wsPre oPre oPost
  simp only [if_pos h1, if_pos h30, if_pos hc, if_neg (fun h : k.val % 8 = 7 ∧ k.val < 31 => hw h.1)]
  iintro ⟨⟨%W, HW⟩, ⟨%fX, HFx⟩, ⟨Hx, Hxc, ⟨%fxs, Hxs⟩⟩, ⟨%fW, HFw⟩, ⟨%fws, Hws⟩, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fX fxs fW fws fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Hoc]
  · istop
    apply sent_stores c XA WA k hkk
    iterate 13 exact rfl
    · exact xcov c XA (sl 3 k.val) (xb k.val) _
    · exact wscov c WA rfl (wb k.val) (wload c WA (sl 2 (k.val / 8)) (wb k.val) _ (off20_eq k) _)
  isplitl [HFo_dst]; · iexact HFo_dst
  isplitl [HFo]; · iexact HFo
  iexists _; iexact HFo_src

set_option maxHeartbeats 800000 in
/-- The first trip. -/
theorem trip_first (k : Fin k0_t1_loop.trips) (h1 : ¬ 1 ≤ k.val) : TripSpec c XA WA g0 k := by
  intro v25 v26
  have h30 : k.val < 30 := by omega
  have hc : k.val % 8 = 0 := by omega
  have hw : ¬ k.val % 8 = 7 := by omega
  have c2 : k0_cond2 k (gb k.val) (gi k.val) = 1#1 := (cond2_iff k).2 h30
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : ¬ k0_cond13 k (gn k.val) (gb k.val) (gi k.val) = 1#1 := fun h => h1 ((cond13_iff k).1 h)
  have hk1 := chk1_all k
  have hk2 := chk2_all k
  have hk3 := chk3_all k
  have hkk : k.val < 32 := by have := trips_eq; omega
  unfold tPre tPost xPre xPost wPre wPost wsPre oPre oPost
  simp only [if_neg h1, if_pos h30, if_pos hc, if_neg (fun h : k.val % 8 = 7 ∧ k.val < 31 => hw h.1)]
  iintro ⟨⟨%W, HW⟩, ⟨%fX, HFx⟩, ⟨Hx, Hxc, ⟨%fxs, Hxs⟩⟩, ⟨%fW, HFw⟩, ⟨%fws, Hws⟩, ⟨Hoc, ⟨%fos, Hos⟩⟩, HFo, Hob⟩
  dsimp only [tripG, accAt]
  sl_unfold [k0_t1_body]
  sl_exec
  sl_step
  isplitr
  · ipureintro
    clear h1 h30 hw hc c2 c3 c4 c5 c7 c10 c13 hk1 hk2 hk3 hkk fX fxs fW fws fos
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Hoc]
  · istop
    apply sent_stores c XA WA k hkk
    iterate 13 exact rfl
    · exact xcov c XA (sl 3 k.val) (xb k.val) _
    · exact wscov c WA rfl (wb k.val) (wload c WA (sl 2 (k.val / 8)) (wb k.val) _ (off20_eq k) _)
  iexact HFo

set_option maxHeartbeats 800000 in
/-- The last two trips, which send for nothing. -/
theorem trip_last (k : Fin k0_t1_loop.trips) (h30 : ¬ k.val < 30) : TripSpec c XA WA g0 k := by
  intro v25 v26
  have hkk : k.val < 32 := by have := k.isLt; have := trips_eq; omega
  have h1 : 1 ≤ k.val := by omega
  have hw : ¬ (k.val % 8 = 7 ∧ k.val < 31) := by omega
  have hc : ¬ k.val % 8 = 0 := by omega
  have c2 : ¬ k0_cond2 k (gb k.val) (gi k.val) = 1#1 := fun h => h30 ((cond2_iff k).1 h)
  have c3 : ¬ k0_cond3 k (gn k.val) (gb k.val) (gi k.val) = 1#1 := fun h => hw ((cond3_iff k).1 h)
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  unfold tPre tPost xPre xPost wPre wPost wsPre oPre oPost
  simp only [if_pos h1, if_neg h30, if_neg hc, if_neg hw]
  iintro ⟨⟨%W, HW⟩, ⟨%fX, HFx⟩, -, -, Hws, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fX fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitr; · iempintro
  isplitr; · iempintro
  isplitl [Hws]; · iexact Hws
  isplitl [Hoc]
  · istop
    apply sent_stores c XA WA k hkk
    iterate 13 exact rfl
    · exact xcov c XA (sl 3 k.val) (xb k.val) _
    · exact wsload c (wsV c WA (wb k.val)) _
  isplitl [HFo_dst]; · iexact HFo_dst
  isplitl [HFo]; · iexact HFo
  iexists _; iexact HFo_src

/-- Every trip runs from its resources to what it leaves. -/
theorem trip_all (k : Fin k0_t1_loop.trips) : TripSpec c XA WA g0 k := by
  by_cases h1 : 1 ≤ k.val
  · by_cases h30 : k.val < 30
    · by_cases hw : k.val % 8 = 7
      · exact trip_send c XA WA g0 k h1 h30 ⟨hw, by omega⟩
      · by_cases hc : k.val % 8 = 0
        · exact trip_take c XA WA g0 k h1 h30 hc
        · exact trip_mid c XA WA g0 k h1 h30 hw hc
    · exact trip_last c XA WA g0 k h30
  · exact trip_first c XA WA g0 k h1

end Cert.KernelIdeal.Hand

end
-- ==== Proof.Hand.Loop.lean ====
/-
  The loop: what is held between trips.
-/
module

public import proofs.«01_k».proof.Proof.Hand.Run

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

theorem bigSep_ins {α : Type} [DecidableEq α] {s : Finset α} {a : α} {Φ : α → sProp 𝕄} (h : a ∉ s) : bigSep (insert a s) Φ = iprop(Φ a ∗ bigSep s Φ) := bigSep_insert h

/-! ## Turning slots -/

theorem sl3_turn (k : ℕ) : sl 3 (k + 1 + 2) = sl 3 k := Fin.ext (by simp [sl, Fin.ofNat]; omega)
theorem sl2_turn (k : ℕ) : sl 2 (k + 1 + 1) = sl 2 k := Fin.ext (by simp [sl, Fin.ofNat]; omega)
theorem wb_same (k : ℕ) (h : ¬ (k + 1) % 8 = 0) : wb (k + 1) = wb k := by
  unfold wb; rw [show (k + 1) / 8 = k / 8 by omega]

/-! ## The activations -/

/-- The blocks at home before trip `k`. -/
def xset (k : ℕ) : Finset (Fin 8) := Finset.univ.filter fun b => (b ≠ xb k ∨ 32 ≤ k) ∧ (b ≠ xb (k + 1) ∨ 31 ≤ k)
def xrest (k : ℕ) : Finset (Fin 8) := Finset.univ.filter fun b => b ≠ xb k ∧ b ≠ xb (k + 1) ∧ b ≠ xb (k + 2)

theorem xset_split : ∀ k : Fin 30, xset k = insert (xb (k + 2)) (xrest k) ∧ xb (k + 2) ∉ xrest k ∧ xset (k + 1) = insert (xb k) (xrest k) ∧ xb k ∉ xrest k := by
  decide +kernel
theorem xset_30 : xset 31 = insert (xb 30) (xset 30) ∧ xb 30 ∉ xset 30 := by decide +kernel
theorem xset_31 : xset 32 = insert (xb 31) (xset 31) ∧ xb 31 ∉ xset 31 := by decide +kernel
theorem xset_32 : xset 32 = Finset.univ := by decide +kernel

def xfly (k : ℕ) : sProp 𝕄 := if k < 32 then xflightP c XA (sl 3 k) (xb k) else xfree c (sl 3 k)
/-- The activations before trip `k`: blocks `k` and `k + 1` are on their way, the third slot is free, the others at home. -/
def xPart (k : ℕ) : sProp 𝕄 := iprop(xfly c XA k ∗ xfly c XA (k + 1) ∗ xfree c (sl 3 (k + 2)) ∗ bigSep (xset k) (xhomeP c XA))

theorem x_step (k : ℕ) (hk : k < 32) :
    xPart c XA k ⊢ iprop(xflightP c XA (sl 3 k) (xb k) ∗ xPre c XA k ∗ (iprop(xhomeP c XA (xb k) ∗ xfree c (sl 3 k) ∗ xPost c XA k) -∗ xPart c XA (k + 1))) := by
  unfold xPart xPre xPost
  rw [sl3_turn, show xfly c XA k = xflightP c XA (sl 3 k) (xb k) from if_pos hk]
  by_cases h : k < 30
  · obtain ⟨e1, n1, e2, n2⟩ := xset_split ⟨k, h⟩
    dsimp only at e1 n1 e2 n2
    rw [e1, bigSep_ins n1, e2, bigSep_ins n2, if_pos h, if_pos h, show k + 1 + 1 = k + 2 from rfl, show xfly c XA (k + 2) = xflightP c XA (sl 3 (k + 2)) (xb (k + 2)) from if_pos (by omega)]
    iintro ⟨H0, H1, H2, H3, H4⟩
    isplitl [H0]; · iexact H0
    isplitl [H2 H3]
    · isplitl [H3]; · iexact H3
      iexact H2
    iintro ⟨G0, G1, G2⟩
    isplitl [H1]; · iexact H1
    isplitl [G2]; · iexact G2
    isplitl [G1]; · iexact G1
    isplitl [G0]; · iexact G0
    iexact H4
  · have e : xset (k + 1) = insert (xb k) (xset k) ∧ xb k ∉ xset k := by
      obtain rfl | rfl : k = 30 ∨ k = 31 := by omega
      · exact xset_30
      · exact xset_31
    rw [e.1, bigSep_ins e.2, if_neg h, if_neg h, show k + 1 + 1 = k + 2 from rfl, show xfly c XA (k + 2) = xfree c (sl 3 (k + 2)) from if_neg (by omega)]
    iintro ⟨H0, H1, H2, H3⟩
    isplitl [H0]; · iexact H0
    isplitr; · iempintro
    iintro ⟨G0, G1, -⟩
    isplitl [H1]; · iexact H1
    isplitl [H2]; · iexact H2
    isplitl [G1]; · iexact G1
    isplitl [G0]; · iexact G0
    iexact H3

/-! ## The weights -/

/-- The blocks at home before trip `k`. -/
def wset (k : ℕ) : Finset (Fin 12) := Finset.univ.filter fun b => b ≠ wb k ∨ ¬ (k % 8 = 0 ∧ k < 32)
theorem wset_in : ∀ k : Fin 32, k.val % 8 = 0 → wset (k + 1) = insert (wb k) (wset k) ∧ wb k ∉ wset k := by decide +kernel
theorem wset_out : ∀ k : Fin 32, k.val % 8 = 7 ∧ k.val < 31 → wset k = insert (wb (k + 1)) (wset (k + 1)) ∧ wb (k + 1) ∉ wset (k + 1) := by decide +kernel
theorem wset_same : ∀ k : Fin 32, ¬ (k.val % 8 = 7 ∧ k.val < 31) → ¬ k.val % 8 = 0 → wset (k + 1) = wset k := by decide +kernel
theorem wset_32 : wset 32 = Finset.univ := by decide +kernel

def wfly (k : ℕ) : sProp 𝕄 := if k % 8 = 0 ∧ k < 32 then wflightP c WA (sl 2 (k / 8)) (wb k) else wfree c (sl 2 (k / 8))
/-- The weights before trip `k`: the block is on its way at its first trip, the rest at home. -/
def wPart (k : ℕ) : sProp 𝕄 := iprop(wfly c WA k ∗ wfree c (sl 2 (k / 8 + 1)) ∗ bigSep (wset k) (whomeP c WA))

theorem w_step (k : ℕ) (hk : k < 32) : wPart c WA k ⊢ iprop(wPre c WA k ∗ (wPost c WA k -∗ wPart c WA (k + 1))) := by
  unfold wPart wPre wPost wfly
  by_cases h7 : k % 8 = 7 ∧ k < 31
  · obtain ⟨e, n⟩ := wset_out ⟨k, hk⟩ h7
    dsimp only at e n
    rw [if_pos h7, if_pos h7, if_neg (by omega), if_pos (by omega), e, bigSep_ins n, show (k + 1) / 8 = k / 8 + 1 by omega, sl2_turn]
    iintro ⟨H0, H1, H2, H3⟩
    isplitl [H1 H2]
    · isplitl [H2]; · iexact H2
      iexact H1
    iintro G
    isplitl [G]; · iexact G
    isplitl [H0]; · iexact H0
    iexact H3
  · rw [if_neg h7, if_neg h7]
    by_cases h0 : k % 8 = 0
    · obtain ⟨e, n⟩ := wset_in ⟨k, hk⟩ h0
      dsimp only at e n
      rw [if_pos h0, if_pos h0, if_pos ⟨h0, hk⟩, if_neg (by omega), e, bigSep_ins n, show (k + 1) / 8 = k / 8 by omega]
      iintro ⟨H0, H1, H2⟩
      isplitl [H0]; · iexact H0
      iintro ⟨G0, G1⟩
      isplitl [G1]; · iexact G1
      isplitl [H1]; · iexact H1
      isplitl [G0]; · iexact G0
      iexact H2
    · rw [if_neg h0, if_neg h0, if_neg (by omega), if_neg (by omega)]
      have e := wset_same ⟨k, hk⟩ h7 h0
      dsimp only at e
      rw [e]
      by_cases h31 : k = 31
      · subst h31
        rw [show sl 2 ((31 + 1) / 8) = sl 2 (31 / 8 + 1) from rfl, show sl 2 ((31 + 1) / 8 + 1) = sl 2 (31 / 8) from rfl]
        iintro ⟨H0, H1, H2⟩
        isplitr; · iempintro
        iintro -
        isplitl [H1]; · iexact H1
        isplitl [H0]; · iexact H0
        iexact H2
      · rw [show (k + 1) / 8 = k / 8 by omega]
        iintro ⟨H0, H1, H2⟩
        isplitr; · iempintro
        iintro -
        isplitl [H0]; · iexact H0
        isplitl [H1]; · iexact H1
        iexact H2

theorem ws_step (k : ℕ) : wsP c (wsV c WA (wb k)) ⊢ wsPre c WA (k + 1) := by
  unfold wsPre
  by_cases h : (k + 1) % 8 = 0
  · rw [if_pos h]; iintro H; iexists _; iexact H
  · rw [if_neg h, wb_same k h]

/-! ## The result -/

def oset (k : ℕ) : Finset (Fin 32) := Finset.univ.filter fun t => t.val + 1 < k
def orest (k : ℕ) : Finset (Fin 32) := Finset.univ.filter fun t => k ≤ t.val
theorem ob_val (k : ℕ) (hk : k < 32) : (ob k).val = k := Nat.mod_eq_of_lt hk
theorem oset_step (k : ℕ) (hk : k < 32) (h1 : 1 ≤ k) : oset (k + 1) = insert (ob (k - 1)) (oset k) ∧ ob (k - 1) ∉ oset k := by
  have e := ob_val (k - 1) (by omega)
  constructor
  · ext t; simp only [oset, Finset.mem_filter, Finset.mem_univ, true_and, Finset.mem_insert, Fin.ext_iff, e]; omega
  · simp only [oset, Finset.mem_filter, Finset.mem_univ, true_and, e]; omega
theorem orest_step (k : ℕ) (hk : k < 32) : orest k = insert (ob k) (orest (k + 1)) ∧ ob k ∉ orest (k + 1) := by
  have e := ob_val k hk
  constructor
  · ext t; simp only [orest, Finset.mem_filter, Finset.mem_univ, true_and, Finset.mem_insert, Fin.ext_iff, e]; omega
  · simp only [orest, Finset.mem_filter, Finset.mem_univ, true_and, e]; omega
theorem oset_1 : oset (0 + 1) = oset 0 := by decide +kernel

/-- The result before trip `k`: the blocks before the last are home with their values, the last on its way, the others as they were. -/
def oPart (k : ℕ) : sProp 𝕄 :=
  iprop(ofree c (sl 2 k) ∗ oPre c XA WA k ∗ bigSep (oset k) (fun t => oHomeP c t (outA c XA WA)) ∗ bigSep (orest k) (fun t => oHomeP c t g0))

theorem o_step (k : ℕ) (hk : k < 32) :
    oPart c XA WA g0 k ⊢ iprop(ofree c (sl 2 k) ∗ oPre c XA WA k ∗ oHomeP c (ob k) g0
      ∗ (iprop(oFlyP c (sl 2 k) (ob k) (outA c XA WA) ∗ oPost c XA WA k) -∗ oPart c XA WA g0 (k + 1))) := by
  obtain ⟨er, nr⟩ := orest_step k hk
  unfold oPart
  rw [er, bigSep_ins nr]
  have ep : oPre c XA WA (k + 1) = oFlyP c (sl 2 k) (ob k) (outA c XA WA) := by
    unfold oPre
    rw [if_pos (by omega), sl2_turn, show k + 1 - 1 = k from rfl]
  rw [ep]
  by_cases h1 : 1 ≤ k
  · obtain ⟨es, ns⟩ := oset_step k hk h1
    rw [es, bigSep_ins ns]
    unfold oPost
    rw [if_pos h1]
    iintro ⟨H0, H1, H2, H3, H4⟩
    isplitl [H0]; · iexact H0
    isplitl [H1]; · iexact H1
    isplitl [H3]; · iexact H3
    iintro ⟨G0, G1, G2⟩
    isplitl [G2]; · iexact G2
    isplitl [G0]; · iexact G0
    isplitl [G1 H2]
    · isplitl [G1]; · iexact G1
      iexact H2
    iexact H4
  · obtain rfl : k = 0 := by omega
    rw [oset_1]
    unfold oPost
    rw [if_neg h1]
    iintro ⟨H0, H1, H2, H3, H4⟩
    isplitl [H0]; · iexact H0
    isplitl [H1]; · iexact H1
    isplitl [H3]; · iexact H3
    iintro ⟨G0, G1⟩
    isplitl [G1]; · iexact G1
    isplitl [G0]; · iexact G0
    isplitl [H2]; · iexact H2
    iexact H4

/-! ## All of it -/

def invAt (k : ℕ) : sProp 𝕄 :=
  iprop((∃ W, owes (c : Thread nD τ) 0 W) ∗ xPart c XA k ∗ wPart c WA k ∗ wsPre c WA k ∗ oPart c XA WA g0 k)

theorem inv_step (k : ℕ) (hk : k < 32) : invAt c XA WA g0 k ⊢ iprop(tPre c XA WA g0 k ∗ (tPost c XA WA k -∗ invAt c XA WA g0 (k + 1))) := by
  unfold invAt tPre tPost
  iintro ⟨HW, HX, Hw, Hs, HO⟩
  ihave HX' := (x_step c XA k hk) $$ HX
  icases HX' with ⟨X0, X1, X2⟩
  ihave Hw' := (w_step c WA k hk) $$ Hw
  icases Hw' with ⟨W0, W1⟩
  ihave HO' := (o_step c XA WA g0 k hk) $$ HO
  icases HO' with ⟨O0, O1, O2, O3⟩
  isplitl [HW X0 X1 W0 Hs O0 O1 O2]
  · isplitl [HW]; · iexact HW
    isplitl [X0]; · iexact X0
    isplitl [X1]; · iexact X1
    isplitl [W0]; · iexact W0
    isplitl [Hs]; · iexact Hs
    isplitl [O0]; · iexact O0
    isplitl [O1]; · iexact O1
    iexact O2
  iintro ⟨G0, G1, G2, G3, G4, G5, G6, G7⟩
  isplitl [G0]; · iexact G0
  isplitl [X2 G1 G2 G3]
  · iapply X2
    isplitl [G1]; · iexact G1
    isplitl [G2]; · iexact G2
    iexact G3
  isplitl [W1 G4]
  · iapply W1; iexact G4
  isplitl [G5]
  · iapply (ws_step c WA k); iexact G5
  iapply O3
  isplitl [G6]; · iexact G6
  iexact G7

set_option warn.classDefReducibility false in
/-- The loop's invariant. -/
def loopInv (v25 v26 : BitVec 32) (init : Acc) :
    LoopInvTy_k0_t1 (F := F) Unit ℕ (UU nD τ) ℕ 𝒱₀ c none Set.univ xM (Memref.isWhole_whole _) wM (Memref.isWhole_whole _) oM (Memref.isWhole_whole _) wsM (Memref.isWhole_whole _) asM (Memref.isWhole_whole _)
      xR (Memref.isWhole_whole _) cc0_scoped1 wR (Memref.isWhole_whole _) cc0_scoped3 oR (Memref.isWhole_whole _) cc0_scoped5 v25 v26 init where
  inv k acc := iprop(⌜acc = accAt k⌝ ∗ invAt c XA WA g0 k)
  step k acc := by
    have hk : k.val < 32 := Nat.lt_of_lt_of_eq k.isLt trips_eq
    iintro ⟨%e, H⟩
    subst e
    ihave H' := (inv_step c XA WA g0 k.val hk) $$ H
    icases H' with ⟨H0, H1⟩
    iapply (wp_wand_r Idealize.ShloMosaic.frame (wpE (defs₀ (F := F)) 𝒱₀ (c : Thread nD τ) none) Set.univ)
    isplitl [H0]
    · iapply (trip_all c XA WA g0 k v25 v26); iexact H0
    · iintro %a ⟨%e, G⟩
      isplitr; · ipureintro; exact e
      iapply H1; iexact G

end Cert.KernelIdeal.Hand

end
-- ==== Proof.Hand.Body.lean ====
/-
  The body: the first blocks sent for, the loop, the last block waited for.
-/
module

public import proofs.«01_k».proof.Proof.Hand.Loop

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The names before and after the loop -/

theorem cond1_eq : k0_cond1 = 1#1 := by decide +kernel
theorem chk4_end : k0_chk4 (co 32) := by decide +kernel
theorem chk5_end : k0_chk5 (gi 32) (gb 32) (gn 32) := by decide +kernel
theorem accAt_0 : ((2#32, 0#32, 1#32, 0#32, 0#32, 0#32, 0#32, 0#32, 0#32) : Acc) = accAt 0 := by
  refine acc_ext ?_ ?_ ?_ ?_ ?_ ?_ ?_ ?_ ?_ <;> decide +kernel

/-- The loop, run: from the invariant at trip 0 to the invariant at trip 32. -/
theorem loop_run {β : Type} (kk : Acc → Prog (TpuEff nD τ sig (Elt F) Λ₀ .tc) β) (Q : β → sProp 𝕄) :
    invAt c XA WA g0 0 ⊢ iprop((invAt c XA WA g0 32 -∗ wp frame (wpE (defs₀ (F := F)) 𝒱₀ (c : Thread nD τ) none) Set.univ (kk (accAt 32)) Q)
      -∗ wp frame (wpE (defs₀ (F := F)) 𝒱₀ (c : Thread nD τ) none) Set.univ
        (k0_t1_loop.for k0_t1_ok (2#32, 0#32, 1#32, 0#32, 0#32, 0#32, 0#32, 0#32, 0#32) (tripG (F := F) 0#32 1#32) >>= kk) Q) := by
  have h := exec_loop (kk := kk) (Q := Q) Idealize.ShloMosaic.frame (wpE (defs₀ (F := F)) 𝒱₀ (c : Thread nD τ) none) Set.univ _ _ _ k0_t1_ok _ _ (loopInv c XA WA g0 0#32 1#32 (2#32, 0#32, 1#32, 0#32, 0#32, 0#32, 0#32, 0#32, 0#32))
  have e : ∀ k acc, (loopInv c XA WA g0 0#32 1#32 (2#32, 0#32, 1#32, 0#32, 0#32, 0#32, 0#32, 0#32, 0#32)).inv k acc = iprop(⌜acc = accAt k⌝ ∗ invAt c XA WA g0 k) := fun _ _ => rfl
  iintro H HK
  iapply h $$ [H]
  · rw [e]
    isplitr
    · ipureintro; exact accAt_0
    iexact H
  iintro %acc G
  ihave G' := (of_eq (((e _ acc).trans (congrArg (fun k => iprop(⌜acc = accAt k⌝ ∗ invAt c XA WA g0 k)) (show Scf.trips k0_t1_loop.lb k0_t1_loop.ub k0_t1_loop.st = 32 from trips_eq))))) $$ G
  icases G' with ⟨%ea, G⟩
  subst ea
  iapply HK
  iexact G

section Canon
variable (a b : ℕ)
@[sl_canon] theorem xsem_off1 (hh) : (cc0_scoped1.slice (Rect.unit (s := S3) k0_off1 S1.size hh)).squeeze S_ squeezes_S1_S_ = xsem (sl 3 0) := xsem_congr (by decide +kernel) _
@[sl_canon] theorem xslot_off2 (hh hs) : (xR.slice (Rect.unit (s := S3x1x1024x2048) k0_off2 S1x1x1024x2048.size hh) hs).squeeze S1x1024x2048 squeezes_S1x1x1024x2048_S1x1024x2048 = xslot (sl 3 0) := xslot_congr (by decide +kernel) _ _
@[sl_canon] theorem xblk_first (hh hs) : xM.slice (Rect.unit (s := S2x4096x2048) ![0, 0, 0] S1x1024x2048.size hh) hs = xblk (xb 0) := xblk_congr (by decide +kernel) _ _
@[sl_canon] theorem wsem_off3 (hh) : (cc0_scoped3.slice (Rect.unit (s := S2) k0_off3 S1.size hh)).squeeze S_ squeezes_S1_S_ = wsem (sl 2 (0 / 8)) := wsem_congr (by decide +kernel) _
@[sl_canon] theorem wslot_off4 (hh hs) : (wR.slice (Rect.unit (s := S2x2048x1024) k0_off4 S1x2048x1024.size hh) hs).squeeze S2048x1024 squeezes_S1x2048x1024_S2048x1024 = wslot (sl 2 (0 / 8)) := wslot_congr (by decide +kernel) _ _
@[sl_canon] theorem wblk_first (hh hs) : wM.slice (Rect.unit (s := S2048x12288) ![0, 0] S2048x1024.size hh) hs = wblk (wb 0) := wblk_congr (by decide +kernel) _ _
@[sl_canon] theorem xsem_off5 (hh) : (cc0_scoped1.slice (Rect.unit (s := S3) k0_off5 S1.size hh)).squeeze S_ squeezes_S1_S_ = xsem (sl 3 (0 + 1)) := xsem_congr (by decide +kernel) _
@[sl_canon] theorem xslot_off6 (hh hs) : (xR.slice (Rect.unit (s := S3x1x1024x2048) k0_off6 S1x1x1024x2048.size hh) hs).squeeze S1x1024x2048 squeezes_S1x1x1024x2048_S1x1024x2048 = xslot (sl 3 (0 + 1)) := xslot_congr (by decide +kernel) _ _
@[sl_canon] theorem xblk_off7 (hh hs) : xM.slice (Rect.unit (s := S2x4096x2048) k0_off7 S1x1024x2048.size hh) hs = xblk (xb (0 + 1)) := xblk_congr (by decide +kernel) _ _
@[sl_canon] theorem osem_off37 (hh) : (cc0_scoped5.slice (Rect.unit (s := S2) (k0_off37 (co 32)) S1.size hh)).squeeze S_ squeezes_S1_S_ = osem (sl 2 (32 + 1)) := osem_congr (by decide +kernel) _
@[sl_canon] theorem oblk_off38 (hh hs) : oM.slice (Rect.unit (s := S2x16x2x1x4096x128) (k0_off38 (gi 32) (gb 32) (gn 32)) S1x8x1x1x1024x128.size hh) hs = oblk (ob (32 - 1)) := oblk_congr (by decide +kernel) _ _
@[sl_canon] theorem oslot_off39 (hh hs) : (oR.slice (Rect.unit (s := S2x1x8x1x1x1024x128) (k0_off39 (co 32)) S1x1x8x1x1x1024x128.size hh) hs).squeeze S1x8x1x1x1024x128 squeezes_S1x1x8x1x1x1024x128_S1x8x1x1x1024x128 = oslot (sl 2 (32 + 1)) := oslot_congr (by decide +kernel) _ _
end Canon

/-! ## What the body takes and leaves -/

/-- The rings, their semaphores and the scratch, free. -/
def freeP : sProp 𝕄 :=
  iprop(xfree (F := F) c (sl 3 0) ∗ xfree (F := F) c (sl 3 (0 + 1)) ∗ xfree (F := F) c (sl 3 (0 + 2)) ∗ wfree (F := F) c (sl 2 (0 / 8)) ∗ wfree (F := F) c (sl 2 (0 / 8 + 1)) ∗ ofree (F := F) c (sl 2 0) ∗ ofree (F := F) c (sl 2 (0 + 1)) ∗ ∃ f, wsP (F := F) c f)
/-- The arrays, in blocks: the result at the contents `G`. -/
def arrP (G : Buf (Elt F) (oM.view.loc (c : Thread nD τ))) : sProp 𝕄 :=
  iprop(bigSep Finset.univ (xhomeP c XA) ∗ bigSep Finset.univ (whomeP c WA) ∗ bigSep Finset.univ (fun t => oHomeP c t G))

theorem xset_0 : (Finset.univ : Finset (Fin 8)) = insert (xb 0) (insert (xb (0 + 1)) (xset 0)) ∧ xb 0 ∉ insert (xb (0 + 1)) (xset 0) ∧ xb (0 + 1) ∉ xset 0 := by decide +kernel
theorem wset_0 : (Finset.univ : Finset (Fin 12)) = insert (wb 0) (wset 0) ∧ wb 0 ∉ wset 0 := by decide +kernel
theorem oset_0 : oset 0 = ∅ := by decide +kernel
theorem orest_0 : orest 0 = Finset.univ := by decide +kernel
theorem oset_32 : (Finset.univ : Finset (Fin 32)) = insert (ob (32 - 1)) (oset 32) ∧ ob (32 - 1) ∉ oset 32 := by decide +kernel
theorem orest_32 : orest 32 = ∅ := by decide +kernel

abbrev bodyP := cc0_proj_d1_none_skel (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5

set_option maxHeartbeats 1600000 in
theorem body_run (W : Waits sig Unit) :
    iprop(owes (c : Thread nD τ) 0 W ∗ freeP c ∗ arrP c XA WA g0)
      ⊢ wp frame (wpE (defs₀ (F := F)) 𝒱₀ (c : Thread nD τ) none) Set.univ (bodyP (F := F))
        (fun _ => iprop((∃ W, owes (c : Thread nD τ) 0 W) ∗ freeP c ∗ arrP c XA WA (outA c XA WA))) := by
  unfold freeP arrP
  obtain ⟨ex, nx, nx'⟩ := xset_0
  obtain ⟨ew, nw⟩ := wset_0
  rw [ex, bigSep_ins nx, bigSep_ins nx', ew, bigSep_ins nw]
  have hc1 := cond1_eq
  have hk4 := chk4_end
  have hk5 := chk5_end
  iintro ⟨HW, ⟨⟨Hx0, ⟨%fx0, Hxs0⟩⟩, ⟨Hx1, ⟨%fx1, Hxs1⟩⟩, Hx2, ⟨Hw0, ⟨%fw0, Hws0⟩⟩, Hw1, Ho0, Ho1, Hs⟩, ⟨Hxh0, Hxh1, Hxh⟩, ⟨Hwh0, Hwh⟩, Hoh⟩
  dsimp only [bodyP]
  sl_unfold [cc0_proj_d1_none_skel]
  sl_exec
  iapply (loop_run c XA WA g0 _ _) $$ [HW Hx2 Hw1 Ho0 Ho1 Hs Hxh Hwh Hoh Hx0 Hw0 Hx1]
  · unfold invAt xPart wPart wsPre oPart
    rw [show xfly c XA 0 = xflightP c XA (sl 3 0) (xb 0) from if_pos (by decide), show xfly c XA (0 + 1) = xflightP c XA (sl 3 (0 + 1)) (xb (0 + 1)) from if_pos (by decide),
      show wfly c WA 0 = wflightP c WA (sl 2 (0 / 8)) (wb 0) from if_pos (by decide), if_pos (by decide), oset_0, orest_0]
    isplitl [HW]; · iexists _; iexact HW
    isplitl [Hx0 Hx1 Hx2 Hxh]
    · isplitl [Hx0]; · iexists _; iexact Hx0
      isplitl [Hx1]; · iexists _; iexact Hx1
      isplitl [Hx2]; · iexact Hx2
      iexact Hxh
    isplitl [Hw0 Hw1 Hwh]
    · isplitl [Hw0]; · iexists _; iexact Hw0
      isplitl [Hw1]; · iexact Hw1
      iexact Hwh
    isplitl [Hs]; · iexact Hs
    isplitl [Ho0]; · iexact Ho0
    isplitl [Ho1]
    · unfold oPre; rw [if_neg (by decide)]; iexact Ho1
    isplitr
    · rw [bigSep_empty]; iempintro
    iexact Hoh
  iintro HI
  unfold invAt xPart wPart wsPre oPart
  rw [show xfly c XA 32 = xfree c (sl 3 32) from if_neg (by decide), show xfly c XA (32 + 1) = xfree c (sl 3 (32 + 1)) from if_neg (by decide),
    show wfly c WA 32 = wfree c (sl 2 (32 / 8)) from if_neg (by decide), if_pos (by decide), orest_32, xset_32, wset_32]
  unfold oPre
  rw [if_pos (by decide)]
  icases HI with ⟨⟨%W', HW⟩, ⟨Hx0, Hx1, Hx2, Hxh⟩, ⟨Hw0, Hw1, Hwh⟩, Hs, Ho0, ⟨%fof, HFo⟩, Hod, -⟩
  dsimp only [accAt]
  sl_exec
  sl_step
  rw [show sl 3 32 = sl 3 (0 + 2) from rfl, show sl 3 (32 + 1) = sl 3 0 from rfl, show sl 3 (32 + 2) = sl 3 (0 + 1) from rfl,
    show sl 2 (32 / 8) = sl 2 (0 / 8) from rfl, show sl 2 (32 / 8 + 1) = sl 2 (0 / 8 + 1) from rfl, show sl 2 32 = sl 2 0 from rfl,
    ← bigSep_ins nx', ← bigSep_ins nx, ← bigSep_ins nw, ← ex, ← ew, oset_32.1, bigSep_ins oset_32.2]
  isplitl [HW]; · iexists _; iexact HW
  isplitl [Hx0 Hx1 Hx2 Hw0 Hw1 Ho0 HFo HFo_src Hs]
  · isplitl [Hx1]; · iexact Hx1
    isplitl [Hx2]; · iexact Hx2
    isplitl [Hx0]; · iexact Hx0
    isplitl [Hw0]; · iexact Hw0
    isplitl [Hw1]; · iexact Hw1
    isplitl [Ho0]; · iexact Ho0
    isplitl [HFo HFo_src]
    · isplitl [HFo]; · iexact HFo
      iexists _; iexact HFo_src
    iexact Hs
  isplitl [Hxh]; · iexact Hxh
  isplitl [Hwh]; · iexact Hwh
  isplitl [HFo_dst]; · iexact HFo_dst
  iexact Hod

end Cert.KernelIdeal.Hand

end
-- ==== Proof.Hand.Launch.lean ====
/-
  The launch: the arrays and the rings in blocks, the body run at the one point, the run of the program.
-/
module

public import proofs.«01_k».proof.Proof.Hand.Body
public import proofs.«01_k».proof.Proof.Gen.KernelIdeal.Launch
public import proofs.«01_k».proof.Proof.Gen.KernelIdeal.Frame
public import Idealize.ShloMosaic.Lib.Pipeline.FrameValue
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation)

/-! ## Element sets -/

abbrev xS (b : Fin 8) : Finset S2x4096x2048.Idx := (Rect.unit (s := S2x4096x2048) (xblkOff b) S1x1024x2048.size (xblkOff_inb b)).set
abbrev wS (b : Fin 12) : Finset S2048x12288.Idx := (Rect.unit (s := S2048x12288) (wblkOff b) S2048x1024.size (wblkOff_inb b)).set
abbrev oS (t : Fin 32) : Finset S2x16x2x1x4096x128.Idx := (Rect.unit (s := S2x16x2x1x4096x128) (oblkOff t) S1x8x1x1x1024x128.size (oblkOff_inb t)).set
abbrev xrS (s : Fin 3) : Finset S3x1x1024x2048.Idx := (Rect.unit (s := S3x1x1024x2048) (xslotOff s) S1x1x1024x2048.size (xslotOff_inb s)).set
abbrev wrS (s : Fin 2) : Finset S2x2048x1024.Idx := (Rect.unit (s := S2x2048x1024) (wslotOff s) S1x2048x1024.size (wslotOff_inb s)).set
abbrev orS (s : Fin 2) : Finset S2x1x8x1x1x1024x128.Idx := (Rect.unit (s := S2x1x8x1x1x1024x128) (oslotOff s) S1x1x8x1x1x1024x128.size (oslotOff_inb s)).set

theorem xS_tiles : Tiles xS := rows_tiles
theorem wS_tiles : Tiles wS := axis_tiles 1 1024 (fun _ => rfl) (by intro b a h; fin_cases a <;> first | rfl | exact absurd rfl h) rfl (by decide) rfl
theorem oS_tiles : Tiles oS := by
  refine fibres oS (fun y => 16 * (y 2).val + 8 * ((y 1).val / 8) + 4 * (y 0).val + (y 4).val / 1024) Fin.val Fin.val_injective (fun b y => ?_) (fun y => ?_)
  · rw [Rect.mem_set_unit]
    have h0 : (y 0).val < 2 := (y 0).isLt
    have h1 : (y 1).val < 16 := (y 1).isLt
    have h2 : (y 2).val < 2 := (y 2).isLt
    have h3 : (y 3).val < 1 := (y 3).isLt
    have h4 : (y 4).val < 4096 := (y 4).isLt
    have h5 : (y 5).val < 128 := (y 5).isLt
    have hb := b.isLt
    constructor
    · intro H
      have a0 : b.val / 4 % 2 ≤ (y 0).val ∧ (y 0).val < b.val / 4 % 2 + 1 := H 0
      have a1 : 8 * (b.val / 8 % 2) ≤ (y 1).val ∧ (y 1).val < 8 * (b.val / 8 % 2) + 8 := H 1
      have a2 : b.val / 16 ≤ (y 2).val ∧ (y 2).val < b.val / 16 + 1 := H 2
      have a4 : 1024 * (b.val % 4) ≤ (y 4).val ∧ (y 4).val < 1024 * (b.val % 4) + 1024 := H 4
      omega
    · intro H i
      fin_cases i
      · show b.val / 4 % 2 ≤ (y 0).val ∧ (y 0).val < b.val / 4 % 2 + 1; omega
      · show 8 * (b.val / 8 % 2) ≤ (y 1).val ∧ (y 1).val < 8 * (b.val / 8 % 2) + 8; omega
      · show b.val / 16 ≤ (y 2).val ∧ (y 2).val < b.val / 16 + 1; omega
      · show 0 ≤ (y 3).val ∧ (y 3).val < 0 + 1; omega
      · show 1024 * (b.val % 4) ≤ (y 4).val ∧ (y 4).val < 1024 * (b.val % 4) + 1024; omega
      · show 0 ≤ (y 5).val ∧ (y 5).val < 0 + 128; omega
  · have h0 : (y 0).val < 2 := (y 0).isLt
    have h1 : (y 1).val < 16 := (y 1).isLt
    have h2 : (y 2).val < 2 := (y 2).isLt
    have h4 : (y 4).val < 4096 := (y 4).isLt
    exact ⟨⟨16 * (y 2).val + 8 * ((y 1).val / 8) + 4 * (y 0).val + (y 4).val / 1024, by omega⟩, rfl⟩

/-- The slots of a ring. -/
theorem xrS_tiles : Tiles xrS := axis_tiles 0 1 (fun _ => (Nat.one_mul _).symm) (by intro b a h; fin_cases a <;> first | rfl | exact absurd rfl h) rfl (by decide) rfl
theorem wrS_tiles : Tiles wrS := axis_tiles 0 1 (fun _ => (Nat.one_mul _).symm) (by intro b a h; fin_cases a <;> first | rfl | exact absurd rfl h) rfl (by decide) rfl
theorem orS_tiles : Tiles orS := axis_tiles 0 1 (fun _ => (Nat.one_mul _).symm) (by intro b a h; fin_cases a <;> first | rfl | exact absurd rfl h) rfl (by decide) rfl

/-! ## Whole buffers and their blocks -/

section Blocks
variable (c : Dev nD)

theorem x_eq (XA : Buf (Elt F) (xM.view.loc (c : Thread nD τ))) :
    (((c : Thread nD τ).loc main_arg0) ↦{fullShare} XA : sProp 𝕄) = bigSep Finset.univ (xhomeP c XA) := by
  rw [Ring.pointsTo_blocks (ℓ := (c : Thread nD τ).loc main_arg0) xS xS_tiles.1 xS_tiles.2]
  exact bigSep_congr fun b _ => by rw [show xS b = (xblk b).view.set from (View.set_slice_whole _ _).symm]; rfl
theorem w_eq (WA : Buf (Elt F) (wM.view.loc (c : Thread nD τ))) :
    (((c : Thread nD τ).loc main_arg1) ↦{fullShare} WA : sProp 𝕄) = bigSep Finset.univ (whomeP c WA) := by
  rw [Ring.pointsTo_blocks (ℓ := (c : Thread nD τ).loc main_arg1) wS wS_tiles.1 wS_tiles.2]
  exact bigSep_congr fun b _ => by rw [show wS b = (wblk b).view.set from (View.set_slice_whole _ _).symm]; rfl
theorem o_eq (G : Buf (Elt F) (oM.view.loc (c : Thread nD τ))) :
    (((c : Thread nD τ).loc main_v0) ↦{fullShare} G : sProp 𝕄) = bigSep Finset.univ (fun t => oHomeP c t G) := by
  rw [Ring.pointsTo_blocks (ℓ := (c : Thread nD τ).loc main_v0) oS oS_tiles.1 oS_tiles.2]
  exact bigSep_congr fun b _ => by rw [show oS b = (oblk b).view.set from (View.set_slice_whole _ _).symm]; rfl

theorem xslotP_eq (s : Fin 3) (f) : xslotP (F := F) c s f = (((c : Thread nD τ).loc cc0_scoped0) ↦[xrS s]{fullShare} f : sProp 𝕄) :=
  congrArg (fun S => (_ ↦[S]{fullShare} f : sProp 𝕄)) ((View.set_reshape _ _).trans (View.set_slice_whole _ _))
theorem wslotP_eq (s : Fin 2) (f) : wslotP (F := F) c s f = (((c : Thread nD τ).loc cc0_scoped2) ↦[wrS s]{fullShare} f : sProp 𝕄) :=
  congrArg (fun S => (_ ↦[S]{fullShare} f : sProp 𝕄)) ((View.set_reshape _ _).trans (View.set_slice_whole _ _))
theorem oslotP_eq (s : Fin 2) (f) : oslotP (F := F) c s f = (((c : Thread nD τ).loc cc0_scoped4) ↦[orS s]{fullShare} f : sProp 𝕄) :=
  congrArg (fun S => (_ ↦[S]{fullShare} f : sProp 𝕄)) ((View.set_reshape _ _).trans (View.set_slice_whole _ _))

theorem xring : (iprop(∃ f : Buf (Elt F) ((c : Thread nD τ).loc cc0_scoped0), ((c : Thread nD τ).loc cc0_scoped0) ↦{fullShare} f) : sProp 𝕄)
    ⊣⊢ iprop((∃ f, xslotP c 0 f) ∗ (∃ f, xslotP c 1 f) ∗ ∃ f, xslotP c 2 f) := by
  have h := some_blocks (F := F) (U := UU nD τ) (ℓ := (c : Thread nD τ).loc cc0_scoped0) xrS xrS_tiles (xR.view.junk)
  rw [bigSep_three] at h
  simp only [xslotP_eq]
  exact h
theorem wring : (iprop(∃ f : Buf (Elt F) ((c : Thread nD τ).loc cc0_scoped2), ((c : Thread nD τ).loc cc0_scoped2) ↦{fullShare} f) : sProp 𝕄)
    ⊣⊢ iprop((∃ f, wslotP c 0 f) ∗ ∃ f, wslotP c 1 f) := by
  have h := some_blocks (F := F) (U := UU nD τ) (ℓ := (c : Thread nD τ).loc cc0_scoped2) wrS wrS_tiles (wR.view.junk)
  rw [bigSep_two] at h
  simp only [wslotP_eq]
  exact h
theorem oring : (iprop(∃ f : Buf (Elt F) ((c : Thread nD τ).loc cc0_scoped4), ((c : Thread nD τ).loc cc0_scoped4) ↦{fullShare} f) : sProp 𝕄)
    ⊣⊢ iprop((∃ f, oslotP c 0 f) ∗ ∃ f, oslotP c 1 f) := by
  have h := some_blocks (F := F) (U := UU nD τ) (ℓ := (c : Thread nD τ).loc cc0_scoped4) orS orS_tiles (oR.view.junk)
  rw [bigSep_two] at h
  simp only [oslotP_eq]
  exact h

/-! ## The region's invariant -/

/-- The kernel's own semaphores. -/
abbrev cells : Fin 7 → SemLoc sig := ![.dma (xsem 0).sem, .dma (xsem 1).sem, .dma (xsem 2).sem, .dma (wsem 0).sem, .dma (wsem 1).sem, .dma (osem 0).sem, .dma (osem 1).sem]
theorem cells_own : Pipeline.OwnSemFacts (cfg0.spec) cells := by decide +kernel
theorem cells_eq : (Pipeline.ownSems0 (Ix := Unit) (Name := ℕ) (U := UU nD τ) (Lvl := ℕ) (Val := Elt F) (τ := τ) cells c : sProp 𝕄)
    = iprop(xcellP c 0 ∗ xcellP c 1 ∗ xcellP c 2 ∗ wcellP c 0 ∗ wcellP c 1 ∗ ocellP c 0 ∗ ocellP c 1) :=
  Pipeline.ownSems0_eq_of_list c cells [0, 1, 2, 3, 4, 5, 6] (by decide) (by decide)

abbrev readR : Finset (Ref sig .tc) := {main_arg0, main_arg1}
abbrev writeR : Finset (Ref sig .tc) := {main_v0}
theorem readR_sub : readR ⊆ Pipeline.restRefs sig (cfg0.spec) := by decide
theorem writeR_sub : writeR ⊆ Pipeline.restRefs sig (cfg0.spec) \ readR := by decide
theorem read_eq (V : (b : Ref sig .tc) → Buf (Elt F) ((c : Thread nD τ).loc b)) :
    (bigSep readR (fun b => ((c : Thread nD τ).loc b) ↦{fullShare} V b) : sProp 𝕄)
      = iprop((((c : Thread nD τ).loc main_arg0) ↦{fullShare} V main_arg0) ∗ (((c : Thread nD τ).loc main_arg1) ↦{fullShare} V main_arg1)) := by
  rw [BI.bigSep_eq_bigSepL_of_eq [main_arg0, main_arg1] (by decide) (by decide)]; rfl

/-- What the body's run takes and leaves of the region: the result at the contents `G`. -/
def regionP (XA : Buf (Elt F) (xM.view.loc (c : Thread nD τ))) (WA : Buf (Elt F) (wM.view.loc (c : Thread nD τ))) (G : Buf (Elt F) (oM.view.loc (c : Thread nD τ))) : sProp 𝕄 :=
  iprop(freeP c ∗ arrP c XA WA G ∗ (∃ f : Buf (Elt F) ((c : Thread nD τ).loc cc0_scratch1), ((c : Thread nD τ).loc cc0_scratch1) ↦{fullShare} f) ∗ ∃ r, prngReg c r)

theorem region_eq (V G : (c : Dev nD) → (b : Ref sig .tc) → Buf (Elt F) ((c : Thread nD τ).loc b)) :
    (Pipeline.ΦDRG cells (cfg0.spec) readR writeR V G c : sProp 𝕄) ⊣⊢ regionP c (V c main_arg0) (V c main_arg1) (G c main_v0) := by
  have ews : ∀ f : Buf (Elt F) (wsM.view.loc (c : Thread nD τ)), wsP (F := F) c f = (((c : Thread nD τ).loc cc0_scratch0) ↦{fullShare} f : sProp 𝕄) :=
    fun f => congrArg (fun S => (_ ↦[S]{fullShare} f : sProp 𝕄)) (View.set_whole cc0_scratch0)
  rw [Pipeline.ΦDRG_eq, scopedRest0_eq, cells_eq, read_eq, show Pipeline.routed writeR c (G c) = _ from Pipeline.routed_singleton main_v0 c (G c),
    x_eq, w_eq, o_eq]
  unfold regionP freeP arrP
  simp only [ews]
  exact region_pack_aside (xring c) (wring c) (oring c)

end Blocks

/-! ## The body at the one point, and the run -/

section Launch
variable (m : (ℓ : Loc nD τ sig) → Buf (Elt F) ℓ) (ρ : Dev nD → PrngReg)

abbrev XAt (c : Dev nD) : Buf (Elt F) (xM.view.loc (c : Thread nD τ)) := m ((c : Thread nD τ).loc main_arg0)
abbrev WAt (c : Dev nD) : Buf (Elt F) (wM.view.loc (c : Thread nD τ)) := m ((c : Thread nD τ).loc main_arg1)
/-- The contents the region returns: the result at what the blocks compute. -/
def endG (c : Dev nD) (b : Ref sig .tc) : Buf (Elt F) ((c : Thread nD τ).loc b) := Function.update (V m c) main_v0 (outA c (XAt m c) (WAt m c)) b

def dats (_ : Fin 1) (c : Dev nD) : Dat τ (Elt F) Unit ℕ (UU nD τ) ℕ cfg0 c where
  A w := V m c (Pipeline.arrRef (cfg0.spec) w)
  after w _ := w.elim0
  Φ t := if t.val = 0 then regionP c (XAt m c) (WAt m c) (V m c main_v0) else regionP c (XAt m c) (WAt m c) (outA c (XAt m c) (WAt m c))
  q _ := fullShare
  owed _ := 0

theorem prog_eq (t : Fin cfg0.N) : (defs₀ (F := F)) .tc cfg0.body (cfg0.bodyArgs t (cfg0.slots t)) = bodyP (F := F) := by
  have e : (defs₀ (F := F)) .tc cfg0.body (cfg0.bodyArgs t (cfg0.slots t)) = bodyAt0 t := by unfold defs₀; rw [Defs.onTc_tc]
  rw [e]
  unfold bodyAt0
  rw [cc0_proj_d1_none_eq_skeleton]

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ (t0_0).castSucc = regionP c (XAt m c) (WAt m c) (V m c main_v0) from rfl, show (dats m 0 c).Φ (t0_0).succ = regionP c (XAt m c) (WAt m c) (outA c (XAt m c) (WAt m c)) from rfl]
  unfold Dat.owesAt Pipeline.owesWithin
  rw [show (dats m 0 c).owed (t0_0).castSucc = 0 from rfl, show (dats m 0 c).owed (t0_0).succ = 0 from rfl]
  unfold regionP
  iintro ⟨⟨Hf, Ha, Hs, Hr⟩, ⟨%W, -, HW⟩, HE⟩
  sl_rw [prog_eq t0_0]
  iapply (wp_wand_r Idealize.ShloMosaic.frame (wpE (defs₀ (F := F)) 𝒱₀ (c : Thread nD τ) none) Set.univ)
  isplitl [Hf Ha HW]
  · iapply (body_run c (XAt m c) (WAt m c) (V m c main_v0) W)
    isplitl [HW]; · iexact HW
    isplitl [Hf]; · iexact Hf
    iexact Ha
  iintro %a ⟨⟨%W', HW⟩, Hf, Ha⟩
  isplitl [Hf Ha Hs Hr]
  · isplitl [Hf]; · iexact Hf
    isplitl [Ha]; · iexact Ha
    isplitl [Hs]; · iexact Hs
    iexact Hr
  isplitl [HW]
  · iexists W'; isplitr; · ipureintro; exact fun _ _ => Or.inl trivial
    iexact HW
  iexact HE

set_option backward.isDefEq.respectTransparency.types false in
theorem run_post : θ_run defs (onTc (τ := τ) (main (F := F))) (s₀ m ρ)
    (fun r => Pipeline.FramePostRG cfgs (dats m) 0 writeR (V m) (endG m) r ∧ r.2.sem = fun _ => 0) :=
  Pipeline.θ_run_frame_dmaRG (Q' := _) cfgs (dats m) (0 : Fin 1) launch0 cells defs₀ 𝒱₀ cells_own readR writeR readR_sub writeR_sub m ρ main
    (hbody := fun c => (body_obligation m c).loose) (hshare := fun c => (dats m 0 c).share_full fun _ => rfl)
    (howed := fun _ _ => rfl) (V := V m) (hmain := Pipeline.hmain_region cfgs 0 defs₀ 𝒱₀ m main fun c => (main_chain c).trans rfl) (hA := fun _ _ => rfl)
    (G := endG m) (hin := fun c => (region_eq c (V m) (V m)).1)
    (hout := fun c => (region_eq c (V m) (endG m)).2)

/-- The program runs to the end: the arguments unchanged, the result at what the blocks compute, every counter at zero. -/
theorem run_main : θ_run defs (onTc (τ := τ) (main (F := F))) (s₀ m ρ) (fun r => (∀ c : Dev nD,
      r.2.mem ((c : Thread nD τ).loc main_v0) = outA c (XAt m c) (WAt m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun r h => ⟨fun c => ⟨h.1.written c (Finset.mem_singleton_self _), (h.1.toR c).2 main_arg0 (by decide), (h.1.toR c).2 main_arg1 (by decide)⟩, h.2⟩)
    (run_post m ρ)

end Launch

end Cert.KernelIdeal.Hand

end
-- ==== Proof.Hand.Value.lean ====
/-
  The result at the ideal instance: both programs' results as one sum over the contracted axis, index by index.
-/
module

public import proofs.«01_k».proof.Proof.Hand.Pieces
public import proofs.«01_k».proof.Proof.Gen.ReferenceIdeal.Run
public import Idealize.ShloMosaic.PureOps.Ideal
public import Idealize.ShloMosaic.Lib.Pointwise

@[expose] public section

noncomputable section

namespace Cert.KernelIdeal.Hand

open Cert.KernelIdeal Cert.KernelIdeal.Gen
open Idealize.ShloMosaic Idealize.ShloMosaic.TcCoe
open Idealize.SL.Sem

/-- Element `i` of the result: row `(i 0, i 4)` of the activations against the column of head `i 1`, lane `i 5`, of part `i 2`. -/
def SPEC (x : S2x4096x2048.Idx → EReal) (w : S2048x12288.Idx → EReal) : S2x16x2x1x4096x128.Idx → EReal := fun i =>
  ∑ k : Fin 2048, x (ix3 (i 0 : Fin 2) (i 4 : Fin 4096) k)
    * w (ix2 k (⟨(i 2).val * 2048 + (i 1).val * 128 + (i 5).val, by
        have h2 : (i 2).val < 2 := (i 2).isLt; have h1 : (i 1).val < 16 := (i 1).isLt; have h5 : (i 5).val < 128 := (i 5).isLt; omega⟩ : Fin 12288))

variable (c : Dev nD)
  (XA : Buf (Elt Ideal) (xM.view.loc (c : Thread nD τ))) (WA : Buf (Elt Ideal) (wM.view.loc (c : Thread nD τ)))

theorem xblk_at (b : Fin 8) (r : Fin 1024) (k : Fin 2048) :
    xpay c XA b (ix3 0 r k) = XA (ix3 (⟨b.val / 4, by omega⟩ : Fin 2) (⟨1024 * (b.val % 4) + r.val, by omega⟩ : Fin 4096) k : S2x4096x2048.Idx) := by
  show XA ((Rect.unit (s := S2x4096x2048) (xblkOff b) S1x1024x2048.size (xblkOff_inb b)).emb (ix3 0 r k)) = _
  refine congrArg XA (funext fun a => Fin.ext ?_)
  match a with
  | ⟨0, _⟩ => show b.val / 4 + 1 * 0 = b.val / 4; omega
  | ⟨1, _⟩ => show 1024 * (b.val % 4) + 1 * r.val = 1024 * (b.val % 4) + r.val; omega
  | ⟨2, _⟩ => show 0 + 1 * k.val = k.val; omega

theorem wblk_at (n : Fin 12) (k : Fin 2048) (l : Fin 1024) :
    wpay c WA n (ix2 k l) = WA (ix2 k (⟨1024 * n.val + l.val, by omega⟩ : Fin 12288) : S2048x12288.Idx) := by
  show WA ((Rect.unit (s := S2048x12288) (wblkOff n) S2048x1024.size (wblkOff_inb n)).emb (ix2 k l)) = _
  refine congrArg WA (funext fun a => Fin.ext ?_)
  match a with
  | ⟨0, _⟩ => show 0 + 1 * k.val = k.val; omega
  | ⟨1, _⟩ => show 1024 * n.val + 1 * l.val = 1024 * n.val + l.val; omega

theorem prodB_at (t : ℕ) (r l : Fin 1024) : prodB c XA WA t (ix2 r l) = ∑ k : Fin 2048, xpay c XA (xb t) (ix3 0 r k) * wpay c WA (wb t) (ix2 k l) := by
  unfold prodB prod wsV
  generalize xpay c XA (xb t) = x
  generalize wpay c WA (wb t) = w
  pointwise [k0_pay3, k0_pay2]

theorem out_spec : outA c XA WA = SPEC XA WA := by
  funext i
  have h0 : ((i : S2x16x2x1x4096x128.Idx) 0).val < 2 := (i 0).isLt
  have h1 : ((i : S2x16x2x1x4096x128.Idx) 1).val < 16 := (i 1).isLt
  have h2 : ((i : S2x16x2x1x4096x128.Idx) 2).val < 2 := (i 2).isLt
  have h4 : ((i : S2x16x2x1x4096x128.Idx) 4).val < 4096 := (i 4).isLt
  have h5 : ((i : S2x16x2x1x4096x128.Idx) 5).val < 128 := (i 5).isLt
  unfold outA SPEC
  refine (prodB_at c XA WA _ _ _).trans (Finset.sum_congr (M := EReal) rfl fun k _ => ?_)
  rw [xblk_at, wblk_at]
  have eb : (xb (tripOf i)).val = (i 0).val * 4 + (i 4).val / 1024 := by
    show tripOf i % 8 = _; unfold tripOf; omega
  have en : (wb (tripOf i)).val = (i 2).val * 2 + (i 1).val / 8 := by
    show tripOf i / 8 % 12 = _; unfold tripOf; omega
  congr 2
  · congr 1 <;> apply Fin.ext <;> simp only [eb] <;> omega
  · congr 1; apply Fin.ext; simp only [en]; omega

/-- The reference's result as its operations compose. -/
def refOut (x : FVec Ideal S2x4096x2048 .bf16) (w : FVec Ideal S2048x12288 .f32) : FVec Ideal S2x16x2x1x4096x128 .bf16 :=
  open Cert.ReferenceIdeal Cert.ReferenceIdeal.Gen in truncf .bf16 (concatenate S2x16x2x1x4096x128 2 [⟨S2x16x1x1x4096x128, (broadcastInDim S2x16x1x1x4096x128 ![0, 1, 3, 4, 5] bcast_S2x16x1x4096x128_S2x16x1x1x4096x128_0_1_3_4_5 (transpose S2x16x1x4096x128 [0, 3, 2, 1, 4] (shapeCast _ (extractStridedSlice S2x4096x2048 ![0, 0, 0] (Host.dotGeneral dot_S2x4096x2048_S2048x12288_S2x4096x12288_2_0_01_1_n_n none (extf .f32 x Cert.ReferenceIdeal.Gen.bitsLt_bf16_f32) w) slices_S2x4096x12288_S2x4096x2048_0_0_0) shapeCasts_S2x4096x2048_S2x4096x1x16x128) transposes_S2x4096x1x16x128_S2x16x1x4096x128_0_3_2_1_4))⟩, ⟨S2x16x1x1x4096x128, (broadcastInDim S2x16x1x1x4096x128 ![0, 1, 3, 4, 5] bcast_S2x16x1x4096x128_S2x16x1x1x4096x128_0_1_3_4_5 (transpose S2x16x1x4096x128 [0, 3, 2, 1, 4] (shapeCast _ (extractStridedSlice S2x4096x2048 ![0, 0, 2048] (Host.dotGeneral dot_S2x4096x2048_S2048x12288_S2x4096x12288_2_0_01_1_n_n none (extf .f32 x Cert.ReferenceIdeal.Gen.bitsLt_bf16_f32) w) slices_S2x4096x12288_S2x4096x2048_0_0_2048) shapeCasts_S2x4096x2048_S2x4096x1x16x128) transposes_S2x4096x1x16x128_S2x16x1x4096x128_0_3_2_1_4))⟩] concatenates_S2x16x1x1x4096x128_S2x16x1x1x4096x128_S2x16x2x1x4096x128_d2) Cert.ReferenceIdeal.Gen.bitsLt_bf16_f32

/-- The reference's result is the same sum. -/
theorem ref_spec (x : S2x4096x2048.Idx → EReal) (w : S2048x12288.Idx → EReal) : refOut x w = SPEC x w := by
  funext i
  have h2 : ((i : S2x16x2x1x4096x128.Idx) 2).val < 2 := (i 2).isLt
  unfold refOut SPEC
  pointwise
  split
  · refine Finset.sum_congr rfl fun k _ => ?_
    congr 3; apply Fin.ext; dsimp only; omega
  · refine Finset.sum_congr rfl fun k _ => ?_
    congr 3; apply Fin.ext; dsimp only; omega

end Cert.KernelIdeal.Hand

end
-- ==== Proof.Hand.State2.lean ====
/-
  The input projection of the first branch, block by block: what each point leaves in its two output blocks and in the
  carried copies of the weights, and the two result arrays as functions of the arguments' elements.
-/
module

public import proofs.«01_k».proof.Proof.Gen.Kernel2Ideal.Value
public import Idealize.ShloMosaic.Lib.Pointwise

@[expose] public section

noncomputable section

namespace Cert.Kernel2Ideal.Hand

open Cert.Kernel2Ideal Cert.Kernel2Ideal.Gen Cert.Kernel2Ideal.Value
open Idealize.ShloMosaic Idealize.ShloMosaic.TcCoe
open Idealize.SL.Sem

variable {F : FTy → Type} [FloatOps F]
variable (m : (ℓ : Loc nD τ sig) → Buf (Elt F) ℓ)

theorem off0 : (![0, 0] : Fin 2 → Nat) = fun _ => 0 := funext fun a => by fin_cases a <;> rfl

/-- A first point of a column block leaves the two products' values and the three weight blocks in half precision. -/
theorem at_first (c : Dev nD) (t : Fin cfg0.N) (h0 : t.val % 8 = 0) :
    outsAt0 m c t.val t.isLt = (k0_pay4 (iblk m c 0 t) (k0_pay1 (iblk m c 1 t)) (k0_pay2 (iblk m c 2 t)),
      k0_pay5 (iblk m c 0 t) (k0_pay3 (iblk m c 3 t)), k0_pay1 (iblk m c 1 t), k0_pay2 (iblk m c 2 t), k0_pay3 (iblk m c 3 t)) := by
  rw [outsAt0_A m c t h0]
  refine Prod.ext ?_ (Prod.ext ?_ (Prod.ext ?_ (Prod.ext ?_ ?_))) <;> dsimp only
  · unfold out0_A_4
    rw [View.read_writes_junk_eq_canon]
    unfold kernelRun0_A
    dsimp only
    sl_unfold_words
    simp only [View.canon_unit_zero (S := S1024x512) off0, View.readCov_unit_zero (S := S2048x512) _ off0, View.readAt_eq_ld, (hs0_0 t).read_unread, (hs0_1 t).read_unread,
      (hs0_2 t).read_unread, View.ld_unit_zero (S := S2048x512) off0, View.ld_unit_zero (S := S1024x2048) off0]
  · unfold out0_A_5
    rw [View.read_writes_junk_eq_canon]
    unfold kernelRun0_A
    dsimp only
    sl_unfold_words
    simp only [View.canon_unit_zero (S := S1024x512) off0, View.readCov_unit_zero (S := S2048x512) _ off0, View.readAt_eq_ld, (hs0_0 t).read_unread, (hs0_3 t).read_unread,
      View.ld_unit_zero (S := S2048x512) off0, View.ld_unit_zero (S := S1024x2048) off0]
  · unfold sout0_A_0
    rw [View.read_writes_junk_eq_canon]
    unfold kernelRun0_A
    dsimp only
    sl_unfold_words
    simp only [View.canon_unit_zero (S := S2048x512) off0, View.readAt_eq_ld, (hs0_1 t).read_unread, View.ld_unit_zero (S := S2048x512) off0]
  · unfold sout0_A_1
    rw [View.read_writes_junk_eq_canon]
    unfold kernelRun0_A
    dsimp only
    sl_unfold_words
    simp only [View.canon_unit_zero (S := S2048x512) off0, View.readAt_eq_ld, (hs0_2 t).read_unread, View.ld_unit_zero (S := S2048x512) off0]
  · unfold sout0_A_2
    rw [View.read_writes_junk_eq_canon]
    unfold kernelRun0_A
    dsimp only
    sl_unfold_words
    simp only [View.canon_unit_zero (S := S2048x512) off0, View.readAt_eq_ld, (hs0_3 t).read_unread, View.ld_unit_zero (S := S2048x512) off0]

/-- A later point leaves the products of its rows with the carried weights, and the weights as they were. -/
theorem at_later (c : Dev nD) (t : Fin cfg0.N) (h0 : ¬t.val % 8 = 0) (ht : t.val - 1 < cfg0.N) :
    outsAt0 m c t.val t.isLt = (k0_pay4 (iblk m c 0 t) (outsAt0 m c (t.val - 1) ht).2.2.1 (outsAt0 m c (t.val - 1) ht).2.2.2.1,
      k0_pay5 (iblk m c 0 t) (outsAt0 m c (t.val - 1) ht).2.2.2.2, (outsAt0 m c (t.val - 1) ht).2.2) := by
  rw [outsAt0_B m c t h0]
  refine Prod.ext ?_ (Prod.ext ?_ rfl) <;> dsimp only
  · unfold out0_B_4
    rw [View.read_writes_junk_eq_canon]
    unfold kernelRun0_B
    dsimp only
    sl_unfold_words
    simp only [View.canon_unit_zero (S := S1024x512) off0, View.readAt_eq_ld, (hs0_0 t).read_unread, (Memref.isWhole_whole _).read_unread, View.ld_unit_zero (S := S2048x512) off0, View.ld_unit_zero (S := S1024x2048) off0]
  · unfold out0_B_5
    rw [View.read_writes_junk_eq_canon]
    unfold kernelRun0_B
    dsimp only
    sl_unfold_words
    simp only [View.canon_unit_zero (S := S1024x512) off0, View.readAt_eq_ld, (hs0_0 t).read_unread, (Memref.isWhole_whole _).read_unread, View.ld_unit_zero (S := S2048x512) off0, View.ld_unit_zero (S := S1024x2048) off0]

/-- The four input windows' block numbers at a point. -/
theorem blocks_at : ∀ t : Fin cfg0.N,
    (win0_0.index t (0 : Fin 2) = t.val % 8 ∧ win0_0.index t (1 : Fin 2) = 0) ∧ (win0_1.index t (0 : Fin 2) = 0 ∧ win0_1.index t (1 : Fin 2) = t.val / 8)
    ∧ (win0_2.index t (0 : Fin 2) = 0 ∧ win0_2.index t (1 : Fin 2) = t.val / 8 + 4) ∧ (win0_3.index t (0 : Fin 2) = 0 ∧ win0_3.index t (1 : Fin 2) = t.val / 8 + 8) :=
  (by decide +kernel : ∀ t : Fin grid0.N, _)

/-- Rows `1024 b …` of the activations. -/
def rows (c : Dev nD) (b : ℕ) : Vec F S1024x2048 .bf16 := fun i =>
  m ((c : Thread nD τ).loc main_arg0) (ix2 (⟨(1024 * b + (i 0).val) % 8192, Nat.mod_lt _ (by decide)⟩ : Fin 8192) (⟨(i 1).val, (i 1).isLt⟩ : Fin 2048))

/-- Columns `512 q …` of the weights. -/
def cols (c : Dev nD) (q : ℕ) : Vec F S2048x512 .f32 := fun i =>
  m ((c : Thread nD τ).loc main_arg1) (ix2 (⟨(i 0).val, (i 0).isLt⟩ : Fin 2048) (⟨(512 * q + (i 1).val) % 6144, Nat.mod_lt _ (by decide)⟩ : Fin 6144))

theorem blk_x (c : Dev nD) (t : Fin cfg0.N) : iblk m c 0 t = rows m c (t.val % 8) := by
  obtain ⟨⟨e0, e1⟩, -⟩ := blocks_at t
  funext j
  show m ((c : Thread nD τ).loc main_arg0) (((cfg0.win 0).blk t).view.emb j) = _
  have h0 : ((j : S1024x2048.Idx) 0).val < 1024 := (j 0).isLt
  refine congrArg (m _) (funext fun a => Fin.ext ?_)
  match a with
  | ⟨0, _⟩ => show win0_0.index t (0 : Fin 2) * 1024 + 1 * (j 0).val = (1024 * (t.val % 8) + (j 0).val) % 8192; omega
  | ⟨1, _⟩ => show win0_0.index t (1 : Fin 2) * 2048 + 1 * (j 1).val = (j 1).val; omega

theorem blk_a (c : Dev nD) (t : Fin cfg0.N) : iblk m c 1 t = cols m c (t.val / 8) := by
  obtain ⟨-, ⟨e0, e1⟩, -⟩ := blocks_at t
  have ht : t.val < 32 := N_0 ▸ t.isLt
  funext j
  show m ((c : Thread nD τ).loc main_arg1) (((cfg0.win 1).blk t).view.emb j) = _
  have h1 : ((j : S2048x512.Idx) 1).val < 512 := (j 1).isLt
  refine congrArg (m _) (funext fun a => Fin.ext ?_)
  match a with
  | ⟨0, _⟩ => show win0_1.index t (0 : Fin 2) * 2048 + 1 * (j 0).val = (j 0).val; omega
  | ⟨1, _⟩ => show win0_1.index t (1 : Fin 2) * 512 + 1 * (j 1).val = (512 * (t.val / 8) + (j 1).val) % 6144; omega

theorem blk_b (c : Dev nD) (t : Fin cfg0.N) : iblk m c 2 t = cols m c (t.val / 8 + 4) := by
  obtain ⟨-, -, ⟨e0, e1⟩, -⟩ := blocks_at t
  have ht : t.val < 32 := N_0 ▸ t.isLt
  funext j
  show m ((c : Thread nD τ).loc main_arg1) (((cfg0.win 2).blk t).view.emb j) = _
  have h1 : ((j : S2048x512.Idx) 1).val < 512 := (j 1).isLt
  refine congrArg (m _) (funext fun a => Fin.ext ?_)
  match a with
  | ⟨0, _⟩ => show win0_2.index t (0 : Fin 2) * 2048 + 1 * (j 0).val = (j 0).val; omega
  | ⟨1, _⟩ => show win0_2.index t (1 : Fin 2) * 512 + 1 * (j 1).val = (512 * (t.val / 8 + 4) + (j 1).val) % 6144; omega

theorem blk_z (c : Dev nD) (t : Fin cfg0.N) : iblk m c 3 t = cols m c (t.val / 8 + 8) := by
  obtain ⟨-, -, -, e0, e1⟩ := blocks_at t
  have ht : t.val < 32 := N_0 ▸ t.isLt
  funext j
  show m ((c : Thread nD τ).loc main_arg1) (((cfg0.win 3).blk t).view.emb j) = _
  have h1 : ((j : S2048x512.Idx) 1).val < 512 := (j 1).isLt
  refine congrArg (m _) (funext fun a => Fin.ext ?_)
  match a with
  | ⟨0, _⟩ => show win0_3.index t (0 : Fin 2) * 2048 + 1 * (j 0).val = (j 0).val; omega
  | ⟨1, _⟩ => show win0_3.index t (1 : Fin 2) * 512 + 1 * (j 1).val = (512 * (t.val / 8 + 8) + (j 1).val) % 6144; omega

/-- What the blocks of column block `q` of the three parts are in half precision. -/
def kept (c : Dev nD) (q : ℕ) : Vec F S2048x512 .bf16 × Vec F S2048x512 .bf16 × Vec F S2048x512 .bf16 :=
  (k0_pay1 (cols m c q), k0_pay2 (cols m c (q + 4)), k0_pay3 (cols m c (q + 8)))

/-- The carried copies after a point, by induction on the point. -/
theorem carried (c : Dev nD) : ∀ (n : ℕ) (h : n < cfg0.N), (outsAt0 m c n h).2.2 = kept m c (n / 8)
  | 0, h => by
    rw [at_first m c ⟨0, h⟩ rfl]
    dsimp only
    rw [blk_a, blk_b, blk_z]; rfl
  | n + 1, h => by
    by_cases h0 : (n + 1) % 8 = 0
    · rw [at_first m c ⟨n + 1, h⟩ h0]
      dsimp only
      rw [blk_a, blk_b, blk_z]; rfl
    · rw [at_later m c ⟨n + 1, h⟩ h0 (Nat.lt_of_succ_lt h)]
      dsimp only
      exact (carried c n _).trans (congrArg _ (by omega))

/-- So after every point the two blocks hold the products of its rows with its columns. -/
theorem made (c : Dev nD) (t : Fin cfg0.N) :
    (outsAt0 m c t.val t.isLt).1 = k0_pay4 (rows m c (t.val % 8)) (kept m c (t.val / 8)).1 (kept m c (t.val / 8)).2.1
    ∧ (outsAt0 m c t.val t.isLt).2.1 = k0_pay5 (rows m c (t.val % 8)) (kept m c (t.val / 8)).2.2 := by
  by_cases h0 : t.val % 8 = 0
  · rw [at_first m c t h0]
    dsimp only
    rw [blk_x, blk_a, blk_b, blk_z]
    exact ⟨rfl, rfl⟩
  · have h1 : t.val - 1 < cfg0.N := by have := t.isLt; omega
    rw [at_later m c t h0 h1]
    dsimp only
    rw [blk_x, carried m c _ h1, show (t.val - 1) / 8 = t.val / 8 by omega]
    exact ⟨rfl, rfl⟩

end Cert.Kernel2Ideal.Hand

end
-- ==== Proof.Hand.Value2.lean ====
/-
  The input projection of the first branch at the ideal instance: both programs' two results as one formula of the arguments.
-/
module

public import proofs.«01_k».proof.Proof.Hand.State2
public import proofs.«01_k».proof.Proof.Gen.Reference2Ideal.Run
public import Idealize.ShloMosaic.PureOps.Ideal
public import Idealize.ShloMosaic.Lib.Pointwise

@[expose] public section

noncomputable section

namespace Cert.Kernel2Ideal.Hand

open Cert.Kernel2Ideal Cert.Kernel2Ideal.Gen Cert.Kernel2Ideal.Value
open Idealize.ShloMosaic Idealize.ShloMosaic.TcCoe
open Idealize.SL.Sem

/-- One element of the projection. -/
def DOT (h : S8192x2048.Idx → EReal) (w : S2048x6144.Idx → EReal) (r : Fin 8192) (l : Fin 6144) : EReal := ∑ k : Fin 2048, h (ix2 r k) * w (ix2 k l)

/-- The gated product `a · σ(b)` of the first two parts. -/
def UU (h : S8192x2048.Idx → EReal) (w : S2048x6144.Idx → EReal) : S8192x2048.Idx → EReal := fun i =>
  have h1 : (i 1).val < 2048 := (i 1).isLt
  DOT h w (i 0 : Fin 8192) ⟨(i 1).val, by omega⟩ * Ideal.logistic (DOT h w (i 0 : Fin 8192) ⟨2048 + (i 1).val, by omega⟩)

/-- The gate `z · σ(z)` of the third part. -/
def ZZ (h : S8192x2048.Idx → EReal) (w : S2048x6144.Idx → EReal) : S8192x2048.Idx → EReal := fun i =>
  have h1 : (i 1).val < 2048 := (i 1).isLt
  DOT h w (i 0 : Fin 8192) ⟨4096 + (i 1).val, by omega⟩ * Ideal.logistic (DOT h w (i 0 : Fin 8192) ⟨4096 + (i 1).val, by omega⟩)

theorem half_word : Ideal.ofBits .f32 1056964608#32 = ((1 / 2 : ℝ) : EReal) := by
  simp [Ideal.ofBits, Ideal.ieee, -EReal.coe_mul]; norm_num

/-- Half the hyperbolic tangent of half the argument, plus a half, is the logistic function — at the infinities too. -/
theorem tanh_logistic (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add]
    congr 1
    have e : Real.exp (-r) = (Real.exp (1 / 2 * r))⁻¹ * (Real.exp (1 / 2 * r))⁻¹ := by
      rw [← Real.exp_neg, ← Real.exp_add]; congr 1; ring
    have hp := Real.exp_pos (1 / 2 * r)
    rw [Real.tanh_eq_sinh_div_cosh, Real.sinh_eq, Real.cosh_eq, e, Real.exp_neg]
    generalize Real.exp (1 / 2 * r) = p at hp
    field_simp
    ring

theorem pay4_at (x : Vec Ideal S1024x2048 .bf16) (w v : Vec Ideal S2048x512 .f32) (r : Fin 1024) (l : Fin 512) :
    k0_pay4 x (k0_pay1 w) (k0_pay2 v) (ix2 r l) = (∑ k : Fin 2048, x (ix2 r k) * w (ix2 k l)) * Ideal.logistic (∑ k : Fin 2048, x (ix2 r k) * v (ix2 k l)) := by
  pointwise [k0_pay4, k0_pay1, k0_pay2]
  rw [half_word, tanh_logistic]

theorem pay5_at (x : Vec Ideal S1024x2048 .bf16) (w : Vec Ideal S2048x512 .f32) (r : Fin 1024) (l : Fin 512) :
    k0_pay5 x (k0_pay3 w) (ix2 r l) = (∑ k : Fin 2048, x (ix2 r k) * w (ix2 k l)) * Ideal.logistic (∑ k : Fin 2048, x (ix2 r k) * w (ix2 k l)) := by
  pointwise [k0_pay5, k0_pay3]
  rw [half_word, tanh_logistic]

variable (m : (ℓ : Loc nD τ sig) → Buf (Elt Ideal) ℓ)

/-- The arguments as arrays of extended reals. -/
def HAt (c : Dev nD) : S8192x2048.Idx → EReal := m ((c : Thread nD τ).loc main_arg0)
def WAt (c : Dev nD) : S2048x6144.Idx → EReal := m ((c : Thread nD τ).loc main_arg1)

/-- A row of a block against a column of a block is an element of the projection. -/
theorem block_dot (c : Dev nD) (b q : ℕ) (r : Fin 1024) (l : Fin 512) (R : Fin 8192) (L : Fin 6144) (hR : R.val = 1024 * b + r.val)
    (hL : L.val = 512 * q + l.val) :
    (∑ k : Fin 2048, rows m c b (ix2 r k) * cols m c q (ix2 k l) : EReal) = DOT (HAt m c) (WAt m c) R L := by
  unfold DOT rows cols HAt WAt
  refine Finset.sum_congr (M := EReal) rfl fun k _ => ?_
  refine congrArg₂ (fun a b : EReal => a * b) (congrArg (m _) ?_) (congrArg (m _) ?_)
  · exact congrArg (fun z => ix2 z k) (Fin.ext (show (1024 * b + r.val) % 8192 = R.val by omega))
  · exact congrArg (fun z => ix2 k z) (Fin.ext (show (512 * q + l.val) % 6144 = L.val by omega))

/-- What a point leaves in its block of the gated product, and of the gate, at an element. -/
theorem made_at (c : Dev nD) (t : Fin cfg0.N) (r : Fin 1024) (l : Fin 512) (R : Fin 8192) (A B Z : Fin 6144)
    (hR : R.val = 1024 * (t.val % 8) + r.val) (hA : A.val = 512 * (t.val / 8) + l.val)
    (hB : B.val = 512 * (t.val / 8 + 4) + l.val) (hZ : Z.val = 512 * (t.val / 8 + 8) + l.val) :
    (outsAt0 m c t.val t.isLt).1 (ix2 r l) = DOT (HAt m c) (WAt m c) R A * Ideal.logistic (DOT (HAt m c) (WAt m c) R B)
    ∧ (outsAt0 m c t.val t.isLt).2.1 (ix2 r l) = DOT (HAt m c) (WAt m c) R Z * Ideal.logistic (DOT (HAt m c) (WAt m c) R Z) := by
  rw [(made m c t).1, (made m c t).2]
  unfold kept
  dsimp only
  rw [pay4_at, pay5_at, block_dot m c _ _ r l R A hR hA, block_dot m c _ _ r l R B hR hB, block_dot m c _ _ r l R Z hR hZ]
  exact ⟨rfl, rfl⟩

theorem loc_at (i : S8192x2048.Idx) : loc4Of i = ix2 (⟨(i 0).val % 1024, Nat.mod_lt _ (by decide)⟩ : Fin 1024) (⟨(i 1).val % 512, Nat.mod_lt _ (by decide)⟩ : Fin 512) :=
  funext fun a => by fin_cases a <;> rfl

theorem G4_at (c : Dev nD) (i : S8192x2048.Idx) (t : Fin cfg0.N) (h : pt4Of i = t.val) : G4 m c i = (outsAt0 m c t.val t.isLt).1 (loc4Of i) := by
  unfold G4
  rw [dif_pos (h ▸ t.isLt), outsAt0_sweep m c t.val t.isLt]
  rw [fold0_congr m c _ _ _ (by have := t.isLt; omega) h]

theorem G5_at (c : Dev nD) (i : S8192x2048.Idx) (t : Fin cfg0.N) (h : pt5Of i = t.val) : G5 m c i = (outsAt0 m c t.val t.isLt).2.1 (loc5Of i) := by
  unfold G5
  rw [dif_pos (h ▸ t.isLt), outsAt0_sweep m c t.val t.isLt]
  rw [fold0_congr m c _ _ _ (by have := t.isLt; omega) h]

/-- The point that makes an element's block. -/
theorem point_of (i : S8192x2048.Idx) : ∃ t : Fin cfg0.N, pt4Of i = t.val ∧ t.val = (i 0).val / 1024 + 8 * ((i 1).val / 512) := by
  have h0 : (i 0).val < 8192 := (i 0).isLt
  have h1 : (i 1).val < 2048 := (i 1).isLt
  have hN : cfg0.N = 32 := N_0
  exact ⟨⟨(i 0).val / 1024 + 8 * ((i 1).val / 512), by omega⟩, by show 1 * _ + 8 * _ = (i 0).val / 1024 + 8 * ((i 1).val / 512); omega, rfl⟩

theorem out_u (c : Dev nD) : G4 m c = UU (HAt m c) (WAt m c) := funext fun (i : S8192x2048.Idx) => by
  have h0 : (i 0).val < 8192 := (i 0).isLt
  have h1 : (i 1).val < 2048 := (i 1).isLt
  obtain ⟨t, hp, ht⟩ := point_of i
  rw [G4_at m c i t hp, loc_at]
  exact (made_at m c t _ _ (i 0) ⟨(i 1).val, by omega⟩ ⟨2048 + (i 1).val, by omega⟩ ⟨4096 + (i 1).val, by omega⟩ (by dsimp only; omega)
    (by dsimp only; omega) (by dsimp only; omega) (by dsimp only; omega)).1

theorem out_z (c : Dev nD) : G5 m c = ZZ (HAt m c) (WAt m c) := funext fun (i : S8192x2048.Idx) => by
  have h0 : (i 0).val < 8192 := (i 0).isLt
  have h1 : (i 1).val < 2048 := (i 1).isLt
  obtain ⟨t, hp, ht⟩ := point_of i
  rw [G5_at m c i t hp, show loc5Of i = loc4Of i from rfl, loc_at]
  exact (made_at m c t _ _ (i 0) ⟨(i 1).val, by omega⟩ ⟨2048 + (i 1).val, by omega⟩ ⟨4096 + (i 1).val, by omega⟩ (by dsimp only; omega)
    (by dsimp only; omega) (by dsimp only; omega) (by dsimp only; omega)).2

open Cert.Reference2Ideal Cert.Reference2Ideal.Gen in
/-- The reference's projection, and its logistic gate, as their operations compose. -/
def refProj (h : FVec Ideal S8192x2048 .bf16) (w : FVec Ideal S2048x6144 .f32) : FVec Ideal S8192x6144 .f32 :=
  Host.dotGeneral dot_S8192x2048_S2048x6144_S8192x6144_1_0_0_1_n_n none (extf .f32 h Cert.Reference2Ideal.Gen.bitsLt_bf16_f32) w

open Cert.Reference2Ideal Cert.Reference2Ideal.Gen in
def refGate (x : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf x)))

open Cert.Reference2Ideal Cert.Reference2Ideal.Gen in
def refU (h : FVec Ideal S8192x2048 .bf16) (w : FVec Ideal S2048x6144 .f32) : FVec Ideal S8192x2048 .f32 :=
  mulf (extractStridedSlice S8192x2048 ![0, 0] (refProj h w) slices_S8192x6144_S8192x2048_0_0)
    (refGate (extractStridedSlice S8192x2048 ![0, 2048] (refProj h w) slices_S8192x6144_S8192x2048_0_2048))

open Cert.Reference2Ideal Cert.Reference2Ideal.Gen in
def refZ (h : FVec Ideal S8192x2048 .bf16) (w : FVec Ideal S2048x6144 .f32) : FVec Ideal S8192x2048 .f32 :=
  mulf (extractStridedSlice S8192x2048 ![0, 4096] (refProj h w) slices_S8192x6144_S8192x2048_0_4096)
    (refGate (extractStridedSlice S8192x2048 ![0, 4096] (refProj h w) slices_S8192x6144_S8192x2048_0_4096))

theorem ref_u (h : S8192x2048.Idx → EReal) (w : S2048x6144.Idx → EReal) : refU h w = UU h w := by
  funext i
  unfold refU refGate refProj UU DOT
  pointwise
  rfl

theorem ref_z (h : S8192x2048.Idx → EReal) (w : S2048x6144.Idx → EReal) : refZ h w = ZZ h w := by
  funext i
  unfold refZ refGate refProj ZZ DOT
  pointwise
  rfl

end Cert.Kernel2Ideal.Hand

end
-- ==== Proof.Hand.State3.lean ====
/-
  The output projection and final norm, block by block: what each point leaves in its output block and in the carried copy
  of the weights, with the sixteen heads' blocks read as one row of the merged activations.
-/
module

public import proofs.«01_k».proof.Proof.Gen.Kernel3Ideal.Value
public import Idealize.ShloMosaic.Lib.Pointwise
public import Idealize.ShloMosaic.Lib.StableHlo.Run

@[expose] public section

noncomputable section

namespace Cert.Kernel3Ideal.Hand

open Cert.Kernel3Ideal Cert.Kernel3Ideal.Gen Cert.Kernel3Ideal.Value
open Idealize.ShloMosaic Idealize.ShloMosaic.TcCoe
open Idealize.SL.Sem

variable {F : FTy → Type} [FloatOps F]
variable (m : (ℓ : Loc nD τ sig) → Buf (Elt F) ℓ)

theorem off2 : (![0, 0] : Fin 2 → Nat) = fun _ => 0 := funext fun a => by fin_cases a <;> rfl
theorem off3 : (![0, 0, 0] : Fin 3 → Nat) = fun _ => 0 := funext fun a => by fin_cases a <;> rfl

/-- One head's rows of a block of the activations. -/
def hd (y : Vec F S1x16x512x128 .bf16) (h : Fin 16) : Vec F S1x1x512x128 .bf16 := fun j =>
  y (ix4 (0 : Fin 1) h (⟨(j 2).val, (j 2).isLt⟩ : Fin 512) (⟨(j 3).val, (j 3).isLt⟩ : Fin 128))

theorem ld_head (y : Vec F S1x16x512x128 .bf16) (n : ℕ) (h : n < 16) (inb : ∀ a, (![0, n, 0, 0] : Fin 4 → Nat) a + S1x1x512x128.size a ≤ S1x16x512x128.size a) :
    View.ld y (Rect.unit (s := S1x16x512x128) ![0, n, 0, 0] S1x1x512x128.size inb) = hd y ⟨n, h⟩ := by
  funext j
  have h0 : (j 0).val < 1 := (j 0).isLt
  have h1 : (j 1).val < 1 := (j 1).isLt
  refine congrArg y (funext fun a => Fin.ext ?_)
  match a with
  | ⟨0, _⟩ => show 0 + 1 * (j 0).val = 0; omega
  | ⟨1, _⟩ => show n + 1 * (j 1).val = n; omega
  | ⟨2, _⟩ => show 0 + 1 * (j 2).val = (j 2).val; omega
  | ⟨3, _⟩ => show 0 + 1 * (j 3).val = (j 3).val; omega

/-- The residual stream after the projection: its block plus the heads' merged rows against the weights. -/
def stream (y : Vec F S1x16x512x128 .bf16) (w : Vec F S2048x2048 .bf16) (x : Vec F S1x512x2048 .f32) : Vec F S512x2048 .f32 :=
  k0_pay11 (k0_pay3 (hd y 0)) (k0_pay4 (hd y 1)) (k0_pay5 (hd y 2)) (k0_pay6 (hd y 3)) (k0_pay7 (hd y 4)) (k0_pay8 (hd y 5)) (k0_pay9 (hd y 6)) (k0_pay10 (hd y 7))
    (hd y 8) (hd y 9) (hd y 10) (hd y 11) (hd y 12) (hd y 13) (hd y 14) (hd y 15) x w

/-- What a point stores: that stream, scaled by its rows' root mean square and by the norm's weights. -/
def normed (y : Vec F S1x16x512x128 .bf16) (w : Vec F S2048x2048 .bf16) (x : Vec F S1x512x2048 .f32) (g : Vec F S1x2048 .f32) : Vec F S1x512x2048 .f32 :=
  k0_pay1 (stream y w x) (mulf (stream y w x) (stream y w x)) g

theorem at_first (c : Dev nD) (t : Fin cfg0.N) (h0 : t.val % 16 = 0) :
    outsAt0 m c t.val t.isLt = (normed (iblk m c 0 t) (k0_pay2 (iblk m c 1 t)) (iblk m c 2 t) (iblk m c 3 t), k0_pay2 (iblk m c 1 t)) := by
  rw [outsAt0_A m c t h0]
  refine Prod.ext ?_ ?_ <;> dsimp only
  · unfold out0_A_4
    rw [View.read_writes_junk_eq_canon]
    unfold kernelRun0_A
    dsimp only
    sl_unfold_words
    simp only [View.canon_unit_zero (S := S1x512x2048) off3, View.readCov_unit_zero (S := S2048x2048) _ off2, View.readAt_eq_ld, (hs0_0 t).read_unread,
      (hs0_1 t).read_unread, (hs0_2 t).read_unread, (hs0_3 t).read_unread, View.ld_unit_zero (S := S2048x2048) off2, View.ld_unit_zero (S := S1x2048) off2,
      View.ld_unit_zero (S := S1x512x2048) off3]
    simp only [fun n h inb => ld_head (iblk m c 0 t) n h inb, Nat.reduceLT]
    rfl
  · unfold sout0_A_0
    rw [View.read_writes_junk_eq_canon]
    unfold kernelRun0_A
    dsimp only
    sl_unfold_words
    simp only [View.canon_unit_zero (S := S2048x2048) off2, View.readAt_eq_ld, (hs0_1 t).read_unread, View.ld_unit_zero (S := S2048x2048) off2]

theorem at_later (c : Dev nD) (t : Fin cfg0.N) (h0 : ¬t.val % 16 = 0) (ht : t.val - 1 < cfg0.N) :
    outsAt0 m c t.val t.isLt = (normed (iblk m c 0 t) (outsAt0 m c (t.val - 1) ht).2 (iblk m c 2 t) (iblk m c 3 t), (outsAt0 m c (t.val - 1) ht).2) := by
  rw [outsAt0_B m c t h0]
  refine Prod.ext ?_ rfl
  dsimp only
  unfold out0_B_4
  rw [View.read_writes_junk_eq_canon]
  unfold kernelRun0_B
  dsimp only
  sl_unfold_words
  simp only [View.canon_unit_zero (S := S1x512x2048) off3, View.readAt_eq_ld, (hs0_0 t).read_unread,
    (Memref.isWhole_whole _).read_unread, (hs0_2 t).read_unread, (hs0_3 t).read_unread, View.ld_unit_zero (S := S2048x2048) off2, View.ld_unit_zero (S := S1x2048) off2,
    View.ld_unit_zero (S := S1x512x2048) off3]
  simp only [fun n h inb => ld_head (iblk m c 0 t) n h inb, Nat.reduceLT]
  rfl

/-- The four input windows' block numbers at a point. -/
theorem blocks_at : ∀ t : Fin cfg0.N,
    (win0_0.index t (0 : Fin 4) = t.val / 8 ∧ win0_0.index t (1 : Fin 4) = 0 ∧ win0_0.index t (2 : Fin 4) = t.val % 8 ∧ win0_0.index t (3 : Fin 4) = 0)
    ∧ (win0_1.index t (0 : Fin 2) = 0 ∧ win0_1.index t (1 : Fin 2) = 0)
    ∧ (win0_2.index t (0 : Fin 3) = t.val / 8 ∧ win0_2.index t (1 : Fin 3) = t.val % 8 ∧ win0_2.index t (2 : Fin 3) = 0)
    ∧ (win0_3.index t (0 : Fin 2) = 0 ∧ win0_3.index t (1 : Fin 2) = 0) :=
  (by decide +kernel : ∀ t : Fin grid0.N, _)

theorem blk_y (c : Dev nD) (t : Fin cfg0.N) (h : Fin 16) (r : Fin 512) (l : Fin 128) (b : Fin 2) (R : Fin 4096) (hb : b.val = t.val / 8)
    (hR : R.val = 512 * (t.val % 8) + r.val) :
    (iblk m c 0 t : Vec F S1x16x512x128 .bf16) (ix4 0 h r l) = m ((c : Thread nD τ).loc main_arg0) (ix4 b h R l : S2x16x4096x128.Idx) := by
  obtain ⟨⟨e0, e1, e2, e3⟩, -⟩ := blocks_at t
  refine (congrFun (V_main_arg0 m c) (((cfg0.win 0).blk t).view.emb _)).trans (congrArg (m _) (funext fun a => Fin.ext ?_))
  match a with
  | ⟨0, _⟩ => show win0_0.index t (0 : Fin 4) * 1 + 1 * 0 = b.val; omega
  | ⟨1, _⟩ => show win0_0.index t (1 : Fin 4) * 16 + 1 * h.val = h.val; omega
  | ⟨2, _⟩ => show win0_0.index t (2 : Fin 4) * 512 + 1 * r.val = R.val; omega
  | ⟨3, _⟩ => show win0_0.index t (3 : Fin 4) * 128 + 1 * l.val = l.val; omega

theorem blk_w (c : Dev nD) (t : Fin cfg0.N) : iblk m c 1 t = m ((c : Thread nD τ).loc main_arg1) := by
  obtain ⟨-, ⟨e0, e1⟩, -⟩ := blocks_at t
  funext j
  refine (congrFun (V_main_arg1 m c) (((cfg0.win 1).blk t).view.emb j)).trans (congrArg (m _) (funext fun a => Fin.ext ?_))
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem blk_x (c : Dev nD) (t : Fin cfg0.N) (r : Fin 512) (l : Fin 2048) (b : Fin 2) (R : Fin 4096) (hb : b.val = t.val / 8)
    (hR : R.val = 512 * (t.val % 8) + r.val) :
    (iblk m c 2 t : Vec F S1x512x2048 .f32) (ix3 0 r l) = m ((c : Thread nD τ).loc main_arg2) (ix3 b R l : S2x4096x2048.Idx) := by
  obtain ⟨-, -, ⟨e0, e1, e2⟩, -⟩ := blocks_at t
  refine (congrFun (V_main_arg2 m c) (((cfg0.win 2).blk t).view.emb _)).trans (congrArg (m _) (funext fun a => Fin.ext ?_))
  match a with
  | ⟨0, _⟩ => show win0_2.index t (0 : Fin 3) * 1 + 1 * 0 = b.val; omega
  | ⟨1, _⟩ => show win0_2.index t (1 : Fin 3) * 512 + 1 * r.val = R.val; omega
  | ⟨2, _⟩ => show win0_2.index t (2 : Fin 3) * 2048 + 1 * l.val = l.val; omega

/-- The norm's weights as the one host operation before the launch lays them out. -/
theorem V_gain (c : Dev nD) : V m c main_v0 = shapeCast S1x2048 (m ((c : Thread nD τ).loc main_arg3)) shapeCasts_S2048_S1x2048 := by
  show StableHlo.after hostOps0 (fun b => m (c, b)) (Proc.devRef .tc main_v0) = _
  unfold hostOps0
  after_results
  rfl

theorem blk_g (c : Dev nD) (t : Fin cfg0.N) : iblk m c 3 t = shapeCast S1x2048 (m ((c : Thread nD τ).loc main_arg3)) shapeCasts_S2048_S1x2048 := by
  obtain ⟨-, -, -, e0, e1⟩ := blocks_at t
  funext j
  refine (congrFun (V_gain m c) (((cfg0.win 3).blk t).view.emb j)).trans (congrArg (shapeCast S1x2048 _ _) (funext fun a => Fin.ext ?_))
  match a with
  | ⟨0, _⟩ => show win0_3.index t (0 : Fin 2) * 1 + 1 * (j 0).val = (j 0).val; omega
  | ⟨1, _⟩ => show win0_3.index t (1 : Fin 2) * 2048 + 1 * (j 1).val = (j 1).val; omega

/-- The carried copy after a point: the weights in half precision, by induction on the point. -/
theorem carried (c : Dev nD) : ∀ (n : ℕ) (h : n < cfg0.N), (outsAt0 m c n h).2 = k0_pay2 (m ((c : Thread nD τ).loc main_arg1))
  | 0, h => by rw [at_first m c ⟨0, h⟩ rfl, blk_w]
  | n + 1, h => by
    have hN : cfg0.N = 16 := N_0
    rw [at_later m c ⟨n + 1, h⟩ (by dsimp only; omega) (Nat.lt_of_succ_lt h)]
    exact carried c n _

theorem made (c : Dev nD) (t : Fin cfg0.N) :
    (outsAt0 m c t.val t.isLt).1 = normed (iblk m c 0 t) (k0_pay2 (m ((c : Thread nD τ).loc main_arg1))) (iblk m c 2 t) (iblk m c 3 t) := by
  by_cases h0 : t.val % 16 = 0
  · rw [at_first m c t h0, blk_w]
  · have h1 : t.val - 1 < cfg0.N := by have := t.isLt; omega
    rw [at_later m c t h0 h1, carried m c _ h1]

end Cert.Kernel3Ideal.Hand

end
-- ==== Proof.Hand.Value3.lean ====
/-
  The output projection and final norm at the ideal instance: both programs' results as one formula of the arguments.
-/
module

public import proofs.«01_k».proof.Proof.Hand.State3
public import proofs.«01_k».proof.Proof.Gen.Reference3Ideal.Run
public import Idealize.ShloMosaic.PureOps.Ideal
public import Idealize.ShloMosaic.Lib.Pointwise

@[expose] public section

noncomputable section

namespace Cert.Kernel3Ideal.Hand

open Cert.Kernel3Ideal Cert.Kernel3Ideal.Gen Cert.Kernel3Ideal.Value
open Idealize.ShloMosaic Idealize.ShloMosaic.TcCoe
open Idealize.SL.Sem

/-- One element of the residual stream after the projection. -/
def RES (y : S2x16x4096x128.Idx → EReal) (w : S2048x2048.Idx → EReal) (x : S2x4096x2048.Idx → EReal) (b : Fin 2) (s : Fin 4096) (l : Fin 2048) : EReal :=
  x (ix3 b s l) + ∑ k : Fin 2048, y (ix4 b (⟨k.val / 128, by omega⟩ : Fin 16) s (⟨k.val % 128, Nat.mod_lt _ (by decide)⟩ : Fin 128)) * w (ix2 k l)

/-- One element of the result: the stream over its row's root mean square, times the norm's weight. -/
def NORM (y : S2x16x4096x128.Idx → EReal) (w : S2048x2048.Idx → EReal) (x : S2x4096x2048.Idx → EReal) (g : S2048.Idx → EReal) : S2x4096x2048.Idx → EReal := fun i =>
  RES y w x (i 0 : Fin 2) (i 1 : Fin 4096) (i 2 : Fin 2048)
    * Ideal.rsqrt (Ideal.div (∑ l : Fin 2048, RES y w x (i 0 : Fin 2) (i 1 : Fin 4096) l * RES y w x (i 0 : Fin 2) (i 1 : Fin 4096) l) (Ideal.ofBits .f32 0x45000000#32)
        + Ideal.ofBits .f32 0x358637BD#32)
    * g (ix1 (i 2 : Fin 2048))

theorem cat16 (f : Fin 16 → S512x128.Idx → EReal) :
    Shape.Concatenates ((List.ofFn fun n : Fin 16 => (⟨S512x128, f n⟩ : (s : Shape) × (s.Idx → EReal))).map (·.1)) S512x2048 1 := by
  exact (concatenates_S512x128_S512x128_S512x128_S512x128_S512x128_S512x128_S512x128_S512x128_S512x128_S512x128_S512x128_S512x128_S512x128_S512x128_S512x128_S512x128_S512x2048_d1 :)

/-- The heads' rows side by side, as the concatenation of a function of the head. -/
def merged (y : Vec Ideal S1x16x512x128 .bf16) : FVec Ideal S512x2048 .bf16 :=
  concatenate S512x2048 1 (List.ofFn fun n : Fin 16 => (⟨S512x128, shapeCast S512x128 (hd y n) shapeCasts_S1x1x512x128_S512x128⟩ : (s : Shape) × (s.Idx → EReal))) (cat16 _)

theorem stream_eq (y : Vec Ideal S1x16x512x128 .bf16) (w : FVec Ideal S2048x2048 .bf16) (x : Vec Ideal S1x512x2048 .f32) :
    stream y w x = addf (shapeCast S512x2048 x shapeCasts_S1x512x2048_S512x2048)
      (matmul dot_S512x2048_S2048x2048_S512x2048_1_0_0_1_n_n none (merged y) w (constant S512x2048 .f32 0x00000000#32)) := rfl

theorem merged_at (y : Vec Ideal S1x16x512x128 .bf16) (r : Fin 512) (k : Fin 2048) :
    merged y (ix2 r k) = y (ix4 0 (⟨k.val / 128, by omega⟩ : Fin 16) r (⟨k.val % 128, Nat.mod_lt _ (by decide)⟩ : Fin 128)) := by
  unfold merged
  refine (concatenate_ofFn_apply (t := S512x2048) (s₁ := S512x128) 1 (fun n : Fin 16 => shapeCast S512x128 (hd y n) shapeCasts_S1x1x512x128_S512x128) _ rfl 128 rfl
    (ix2 r k : S512x2048.Idx) (⟨k.val / 128, by omega⟩ : Fin 16) rfl (ix2 r (⟨k.val % 128, Nat.mod_lt _ (by decide)⟩ : Fin 128) : S512x128.Idx) rfl (by
      intro b hb
      match b with
      | ⟨0, _⟩ => rfl
      | ⟨1, _⟩ => exact absurd rfl hb)).trans ?_
  pointwise [hd]

theorem stream_at (y : Vec Ideal S1x16x512x128 .bf16) (w : Vec Ideal S2048x2048 .f32) (x : Vec Ideal S1x512x2048 .f32) (r : Fin 512) (l : Fin 2048) :
    stream y (k0_pay2 w) x (ix2 r l) = (x (ix3 0 r l) : EReal)
      + ∑ k : Fin 2048, y (ix4 0 (⟨k.val / 128, by omega⟩ : Fin 16) r (⟨k.val % 128, Nat.mod_lt _ (by decide)⟩ : Fin 128)) * w (ix2 k l) := by
  rw [stream_eq]
  simp only [← merged_at]
  generalize merged y = z
  pointwise [k0_pay2]

theorem normed_at (v : Vec Ideal S512x2048 .f32) (g : Vec Ideal S1x2048 .f32) (r : Fin 512) (l : Fin 2048) :
    k0_pay1 v (mulf v v) g (ix3 0 r l) = (v (ix2 r l) : EReal) * Ideal.rsqrt (Ideal.div (∑ l : Fin 2048, v (ix2 r l) * v (ix2 r l)) (Ideal.ofBits .f32 0x45000000#32)
        + Ideal.ofBits .f32 0x358637BD#32) * g (ix2 0 l) := by
  pointwise [k0_pay1]

open Cert.Reference3Ideal Cert.Reference3Ideal.Gen in
/-- The reference's residual stream, and its norm, as their operations compose. -/
def refRes (y : FVec Ideal S2x16x4096x128 .bf16) (w : FVec Ideal S2048x2048 .f32) (x : FVec Ideal S2x4096x2048 .f32) : FVec Ideal S2x4096x2048 .f32 :=
  addf x (Host.dotGeneral dot_S2x4096x2048_S2048x2048_S2x4096x2048_2_0_01_1_n_n none
    (shapeCast _ (transpose S2x4096x16x128 [0, 2, 1, 3] (extf .f32 y Cert.Reference3Ideal.Gen.bitsLt_bf16_f32) transposes_S2x16x4096x128_S2x4096x16x128_0_2_1_3) shapeCasts_S2x4096x16x128_S2x4096x2048) w)

open Cert.Reference3Ideal Cert.Reference3Ideal.Gen in
def refNorm (v : FVec Ideal S2x4096x2048 .f32) (g : FVec Ideal S2048 .f32) : FVec Ideal S2x4096x2048 .f32 :=
  mulf (mulf v (broadcastInDim S2x4096x2048 ![0, 1, 2] bcast_S2x4096x1_S2x4096x2048_0_1_2 (Host.rsqrt (addf (Host.divf (broadcastInDim S2x4096x1 ![0, 1] bcast_S2x4096_S2x4096x1_0_1
      (Host.reduceAdd (mulf v v) (constant S_ .f32 0x00000000#32) reducesTo_S2x4096x2048_S2x4096_d2 h_S_)) (broadcastInDim S2x4096x1 ![] bcast_S_S2x4096x1 (constant S_ .f32 0x45000000#32)))
      (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 g))

theorem refRes_at (y : S2x16x4096x128.Idx → EReal) (w : S2048x2048.Idx → EReal) (x : S2x4096x2048.Idx → EReal) (b : Fin 2) (s : Fin 4096) (l : Fin 2048) :
    refRes y w x (ix3 b s l) = RES y w x b s l := by
  unfold refRes RES
  pointwise

/-- The norm of an array, at an element. -/
theorem refNorm_at (v : S2x4096x2048.Idx → EReal) (g : S2048.Idx → EReal) (b : Fin 2) (s : Fin 4096) (l : Fin 2048) :
    refNorm v g (ix3 b s l) = v (ix3 b s l) * Ideal.rsqrt (Ideal.div (∑ k : Fin 2048, v (ix3 b s k) * v (ix3 b s k)) (Ideal.ofBits .f32 0x45000000#32)
        + Ideal.ofBits .f32 0x358637BD#32) * g (ix1 l) := by
  unfold refNorm
  pointwise

theorem ix3_split (i : S2x4096x2048.Idx) : ∃ (b : Fin 2) (s : Fin 4096) (l : Fin 2048), i = ix3 b s l :=
  ⟨i 0, i 1, i 2, funext fun a => by fin_cases a <;> rfl⟩

theorem ref_norm (y : S2x16x4096x128.Idx → EReal) (w : S2048x2048.Idx → EReal) (x : S2x4096x2048.Idx → EReal) (g : S2048.Idx → EReal) :
    refNorm (refRes y w x) g = NORM y w x g := funext fun i => by
  obtain ⟨b, s, l, rfl⟩ := ix3_split i
  rw [refNorm_at]
  simp only [refRes_at]
  rfl

variable (m : (ℓ : Loc nD τ sig) → Buf (Elt Ideal) ℓ)

/-- The arguments as arrays of extended reals. -/
def YAt (c : Dev nD) : S2x16x4096x128.Idx → EReal := m ((c : Thread nD τ).loc main_arg0)
def WAt (c : Dev nD) : S2048x2048.Idx → EReal := m ((c : Thread nD τ).loc main_arg1)
def XAt (c : Dev nD) : S2x4096x2048.Idx → EReal := m ((c : Thread nD τ).loc main_arg2)
def GAt (c : Dev nD) : S2048.Idx → EReal := m ((c : Thread nD τ).loc main_arg3)

theorem gain_at (g : Vec Ideal S2048 .f32) (l : Fin 2048) : shapeCast S1x2048 g shapeCasts_S2048_S1x2048 (ix2 0 l) = g (ix1 l) := by
  pointwise

/-- A point's stream is the whole stream's rows. -/
theorem stream_res (c : Dev nD) (t : Fin cfg0.N) (r : Fin 512) (l : Fin 2048) (b : Fin 2) (R : Fin 4096) (hb : b.val = t.val / 8)
    (hR : R.val = 512 * (t.val % 8) + r.val) :
    stream (iblk m c 0 t) (k0_pay2 (m ((c : Thread nD τ).loc main_arg1))) (iblk m c 2 t) (ix2 r l) = RES (YAt m c) (WAt m c) (XAt m c) b R l := by
  rw [stream_at, blk_x m c t r l b R hb hR]
  refine congrArg₂ (fun a b : EReal => a + b) rfl (Finset.sum_congr (M := EReal) rfl fun k _ => ?_)
  rw [blk_y m c t _ r _ b R hb hR]
  rfl

/-- What a point leaves in its block, at an element. -/
theorem made_at (c : Dev nD) (t : Fin cfg0.N) (r : Fin 512) (l : Fin 2048) (b : Fin 2) (R : Fin 4096) (hb : b.val = t.val / 8)
    (hR : R.val = 512 * (t.val % 8) + r.val) :
    (outsAt0 m c t.val t.isLt).1 (ix3 0 r l) = NORM (YAt m c) (WAt m c) (XAt m c) (GAt m c) (ix3 b R l) := by
  rw [made m c t]
  unfold normed
  have hv := fun l => stream_res m c t r l b R hb hR
  generalize stream (iblk m c 0 t) (k0_pay2 (m ((c : Thread nD τ).loc main_arg1))) (iblk m c 2 t) = v at hv ⊢
  rw [blk_g]
  refine (normed_at v _ r l).trans ?_
  rw [hv l, Finset.sum_congr (M := EReal) rfl fun k _ => congrArg (fun z : EReal => z * z) (hv k)]
  refine congrArg₂ (fun a b : EReal => a * b) rfl ?_
  exact gain_at (GAt m c) l

theorem G4_at (c : Dev nD) (i : S2x4096x2048.Idx) (t : Fin cfg0.N) (h : pt4Of i = t.val) : G4 m c i = (outsAt0 m c t.val t.isLt).1 (loc4Of i) := by
  unfold G4
  rw [dif_pos (h ▸ t.isLt), outsAt0_sweep m c t.val t.isLt]
  rw [fold0_congr m c _ _ _ (by have := t.isLt; omega) h]

theorem out_norm (c : Dev nD) : G4 m c = NORM (YAt m c) (WAt m c) (XAt m c) (GAt m c) := funext fun (i : S2x4096x2048.Idx) => by
  obtain ⟨b, s, l, rfl⟩ := ix3_split i
  have hN : cfg0.N = 16 := N_0
  obtain ⟨t, ht⟩ : ∃ t : Fin cfg0.N, t.val = 8 * b.val + s.val / 512 := ⟨⟨8 * b.val + s.val / 512, by omega⟩, rfl⟩
  have hp : pt4Of (ix3 b s l) = t.val := by show 8 * (b.val / 1 - 0) + 1 * (s.val / 512 - 0) + 1 * (l.val / 2048 - 0) = t.val; omega
  have hl : loc4Of (ix3 b s l) = ix3 (0 : Fin 1) (⟨s.val % 512, Nat.mod_lt _ (by decide)⟩ : Fin 512) l := funext fun a => Fin.ext (by
    match a with
    | ⟨0, _⟩ => show b.val % 1 = 0; omega
    | ⟨1, _⟩ => rfl
    | ⟨2, _⟩ => show l.val % 2048 = l.val; omega)
  rw [G4_at m c _ t hp, hl]
  exact made_at m c t _ l b s (by omega) (by dsimp only; omega)

end Cert.Kernel3Ideal.Hand

end
-- ==== Proof.Hand.Value6.lean ====
/-
  The first norm at the ideal instance: both programs' results as one formula of the arguments.
-/
module

public import proofs.«01_k».proof.Proof.Gen.Kernel6Ideal.Value
public import proofs.«01_k».proof.Proof.Gen.Reference6Ideal.Run
public import Idealize.ShloMosaic.PureOps.Ideal
public import Idealize.ShloMosaic.Lib.Pointwise
public import Idealize.ShloMosaic.Lib.StableHlo.Run

@[expose] public section

noncomputable section

namespace Cert.Kernel6Ideal.Hand

open Cert.Kernel6Ideal Cert.Kernel6Ideal.Gen Cert.Kernel6Ideal.Value
open Idealize.ShloMosaic Idealize.ShloMosaic.TcCoe
open Idealize.SL.Sem

/-- One element of the result: row `s` at `l` over the row's root mean square, times the norm's weight. -/
def NRM (x : S8192x2048.Idx → EReal) (g : S2048.Idx → EReal) (s : Fin 8192) (l : Fin 2048) : EReal :=
  x (ix2 s l) * Ideal.rsqrt (Ideal.div (∑ k : Fin 2048, x (ix2 s k) * x (ix2 s k)) (Ideal.ofBits .f32 0x45000000#32) + Ideal.ofBits .f32 0x358637BD#32) * g (ix1 l)

def NORM (x : S8192x2048.Idx → EReal) (g : S2048.Idx → EReal) : S8192x2048.Idx → EReal := fun i => NRM x g (i 0 : Fin 8192) (i 1 : Fin 2048)

theorem ix2_split (i : S8192x2048.Idx) : ∃ (s : Fin 8192) (l : Fin 2048), i = ix2 s l :=
  ⟨i 0, i 1, funext fun a => by fin_cases a <;> rfl⟩

open Cert.Reference6Ideal Cert.Reference6Ideal.Gen in
/-- The reference's result as its operations compose. -/
def refOut (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0
      (Host.reduceAdd (mulf x x) (constant S_ .f32 0x00000000#32) reducesTo_S8192x2048_S8192_d1 h_S_)) (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) Cert.Reference6Ideal.Gen.bitsLt_bf16_f32

theorem refOut_at (x : S8192x2048.Idx → EReal) (g : S2048.Idx → EReal) (s : Fin 8192) (l : Fin 2048) : refOut x g (ix2 s l) = NRM x g s l := by
  unfold refOut NRM
  pointwise

theorem ref_norm (x : S8192x2048.Idx → EReal) (g : S2048.Idx → EReal) : refOut x g = NORM x g := funext fun i => by
  obtain ⟨s, l, rfl⟩ := ix2_split i
  exact refOut_at x g s l

/-- A block's result at an element. -/
theorem pay_at (x : Vec Ideal S1024x2048 .f32) (g : Vec Ideal S1x2048 .f32) (r : Fin 1024) (l : Fin 2048) :
    k0_pay1 x g (ix2 r l) = (x (ix2 r l) : EReal) * Ideal.rsqrt (Ideal.div (∑ k : Fin 2048, x (ix2 r k) * x (ix2 r k)) (Ideal.ofBits .f32 0x45000000#32)
        + Ideal.ofBits .f32 0x358637BD#32) * g (ix2 0 l) := by
  pointwise [k0_pay1]

theorem gain_at (g : Vec Ideal S2048 .f32) (l : Fin 2048) : shapeCast S1x2048 g shapeCasts_S2048_S1x2048 (ix2 0 l) = g (ix1 l) := by
  pointwise

theorem off2 : (![0, 0] : Fin 2 → Nat) = fun _ => 0 := funext fun a => by fin_cases a <;> rfl

/-- The windows' block numbers at a point. -/
theorem blocks_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ)

/-- The arguments as arrays of extended reals. -/
def XAt (c : Dev nD) : S8192x2048.Idx → EReal := m ((c : Thread nD τ).loc main_arg0)
def GAt (c : Dev nD) : S2048.Idx → EReal := m ((c : Thread nD τ).loc main_arg1)

theorem blk_x (c : Dev nD) (t : Fin cfg0.N) (r : Fin 1024) (l : Fin 2048) (R : Fin 8192) (hR : R.val = 1024 * t.val + r.val) :
    (iblk m c 0 t : Vec Ideal S1024x2048 .f32) (ix2 r l) = XAt m c (ix2 R l) := by
  obtain ⟨⟨e0, e1⟩, -⟩ := blocks_at t
  refine (congrFun (V_main_arg0 m c) (((cfg0.win 0).blk t).view.emb _)).trans (congrArg (m _) (funext fun a => Fin.ext ?_))
  match a with
  | ⟨0, _⟩ => show win0_0.index t (0 : Fin 2) * 1024 + 1 * r.val = R.val; omega
  | ⟨1, _⟩ => show win0_0.index t (1 : Fin 2) * 2048 + 1 * l.val = l.val; omega

/-- The norm's weights as the host lays them out before the launch. -/
theorem V_gain (c : Dev nD) : V m c main_v0 = shapeCast S1x2048 (m ((c : Thread nD τ).loc main_arg1)) shapeCasts_S2048_S1x2048 := by
  show StableHlo.after hostOps0 (fun b => m (c, b)) (Proc.devRef .tc main_v0) = _
  unfold hostOps0
  after_results
  rfl

theorem blk_g (c : Dev nD) (t : Fin cfg0.N) (l : Fin 2048) : (iblk m c 1 t : Vec Ideal S1x2048 .f32) (ix2 0 l) = GAt m c (ix1 l) := by
  obtain ⟨-, ⟨e0, e1⟩, -⟩ := blocks_at t
  refine (congrFun (V_gain m c) (((cfg0.win 1).blk t).view.emb _)).trans (Eq.trans (congrArg (shapeCast S1x2048 _ _) (funext fun a => Fin.ext ?_)) (gain_at (GAt m c) l))
  match a with
  | ⟨0, _⟩ => show win0_1.index t (0 : Fin 2) * 1 + 1 * 0 = 0; omega
  | ⟨1, _⟩ => show win0_1.index t (1 : Fin 2) * 2048 + 1 * l.val = l.val; omega

theorem out_at (x : Vec Ideal S1024x2048 .f32) (g : Vec Ideal S1x2048 .f32) : out0_2 x g = k0_pay1 x g := by
  unfold out0_2
  simp only [View.canon_unit_zero (S := S1024x2048) off2, View.ld_unit_zero (S := S1024x2048) off2, View.ld_unit_zero (S := S1x2048) off2]

/-- What a point writes back, at an element. -/
theorem made_at (c : Dev nD) (t : Fin cfg0.N) (r : Fin 1024) (l : Fin 2048) (R : Fin 8192) (hR : R.val = 1024 * t.val + r.val) :
    out0_2 (iblk m c 0 t) (iblk m c 1 t) (ix2 r l) = NRM (XAt m c) (GAt m c) R l := by
  have hx := fun l => blk_x m c t r l R hR
  have hg := blk_g m c t l
  rw [out_at]
  generalize (iblk m c 0 t : Vec Ideal S1024x2048 .f32) = x at hx ⊢
  generalize (iblk m c 1 t : Vec Ideal S1x2048 .f32) = g at hg ⊢
  refine (pay_at x g r l).trans ?_
  unfold NRM
  rw [hx l, hg, Finset.sum_congr (M := EReal) rfl fun k _ => congrArg (fun z : EReal => z * z) (hx k)]

/-- The result array after the run. -/
theorem out_norm (c : Dev nD) : (dats m 0 c).arrAt 2 cfg0.N = NORM (XAt m c) (GAt m c) := funext fun (i : S8192x2048.Idx) => by
  obtain ⟨s, l, rfl⟩ := ix2_split i
  have hN : cfg0.N = 8 := N_0
  obtain ⟨t, ht⟩ : ∃ t : Fin cfg0.N, t.val = s.val / 1024 := ⟨⟨s.val / 1024, by omega⟩, rfl⟩
  obtain ⟨-, -, e0, e1⟩ := blocks_at t
  have b := congrFun (blocks2 m c t (flush0_2 t)) (ix2 (⟨s.val % 1024, Nat.mod_lt _ (by decide)⟩ : Fin 1024) l : S1024x2048.Idx)
  rw [flushed2] at b
  refine Eq.trans (congrArg ((dats m 0 c).arrAt 2 cfg0.N) (funext fun a => Fin.ext ?_)) (b.trans (made_at m c t _ l s (by dsimp only; omega)))
  match a with
  | ⟨0, _⟩ => show s.val = win0_2.index t (0 : Fin 2) * 1024 + 1 * (s.val % 1024); omega
  | ⟨1, _⟩ => show l.val = win0_2.index t (1 : Fin 2) * 2048 + 1 * l.val; omega

end Cert.Kernel6Ideal.Hand

end
-- ==== Proof.Hand4.Words.lean ====
/-
  The words one trip of the pipelined loop carries and reads, in closed form: the counters of blocks fetched and
  waited for, the grid indices, and with them every guard, offset and check of a trip, for each of the 32 trips.
-/
module

public import proofs.«01_k».proof.Proof.Gen.Kernel4Ideal.Skeleton
public import Idealize.ShloMosaic.Lib.Ring

@[expose] public section

noncomputable section

namespace Cert.Kernel4Ideal.Hand

open Cert.Kernel4Ideal Cert.Kernel4Ideal.Gen
open Idealize.ShloMosaic

/-! ## The carried words before trip `k` -/

def fx (k : ℕ) : BitVec 32 := BitVec.ofNat 32 (min (k + 2) 32)
def cx (k : ℕ) : BitVec 32 := BitVec.ofNat 32 k
def fw (k : ℕ) : BitVec 32 := BitVec.ofNat 32 (min (k / 8 + 1) 4)
def cw (k : ℕ) : BitVec 32 := BitVec.ofNat 32 (k / 8)
def fo (k : ℕ) : BitVec 32 := BitVec.ofNat 32 k
def co (k : ℕ) : BitVec 32 := BitVec.ofNat 32 (k - 1)
def gn (k : ℕ) : BitVec 32 := BitVec.ofNat 32 (k / 8 % 4)
def gb (k : ℕ) : BitVec 32 := BitVec.ofNat 32 (k / 4 % 2)
def gi (k : ℕ) : BitVec 32 := BitVec.ofNat 32 (k % 4)

theorem trips_eq : k0_t1_loop.trips = 32 := by decide

theorem all_trips {P : Fin k0_t1_loop.trips → Prop} (h : ∀ k : Fin 32, P (k.cast trips_eq.symm)) : ∀ k, P k :=
  fun k => h (k.cast trips_eq)

theorem cond2_iff : ∀ k : Fin k0_t1_loop.trips, k0_cond2 k (gb k.val) (gi k.val) = 1#1 ↔ k.val < 30 := all_trips (by decide +kernel)
theorem cond3_iff : ∀ k : Fin k0_t1_loop.trips, k0_cond3 k (gn k.val) (gb k.val) (gi k.val) = 1#1 ↔ k.val % 8 = 7 ∧ k.val < 31 := all_trips (by decide +kernel)
theorem cond4_iff : ∀ k : Fin k0_t1_loop.trips, k0_cond4 k (gb k.val) (gi k.val) = 1#1 := all_trips (by decide +kernel)
theorem cond5_iff : ∀ k : Fin k0_t1_loop.trips, k0_cond5 k (gn k.val) (gb k.val) (gi k.val) = 1#1 ↔ k.val % 8 = 0 := all_trips (by decide +kernel)
theorem cond7_iff : ∀ k : Fin k0_t1_loop.trips, k0_cond7 (gb k.val) (gi k.val) = 1#1 ↔ k.val % 8 = 0 := all_trips (by decide +kernel)
theorem cond10_iff : ∀ k : Fin k0_t1_loop.trips, k0_cond10 k (gn k.val) (gb k.val) (gi k.val) = 1#1 := all_trips (by decide +kernel)
theorem cond13_iff : ∀ k : Fin k0_t1_loop.trips, k0_cond13 k (gn k.val) (gb k.val) (gi k.val) = 1#1 ↔ 1 ≤ k.val := all_trips (by decide +kernel)
theorem chk1_all : ∀ k : Fin k0_t1_loop.trips, k0_chk1 k (fx k.val) (cx k.val) (fw k.val) (cw k.val) (fo k.val) (co k.val) (gn k.val) (gb k.val) (gi k.val) := all_trips (by decide +kernel)
theorem chk2_all : ∀ k : Fin k0_t1_loop.trips, k0_chk2 (cx k.val) := all_trips (by decide +kernel)
theorem chk3_all : ∀ k : Fin k0_t1_loop.trips, k0_chk3 (fo k.val) := all_trips (by decide +kernel)

end Cert.Kernel4Ideal.Hand

end
-- ==== Proof.Hand4.Split.lean ====
/-
  The tail of a trip of the projections with residues four apart, over any ring slot and scratch of their shapes: the
  eight heads of the product kept in the second scratch, and the thirty-two pieces stored from it in the ring's slot.
-/
module

public import proofs.«01_k».proof.Proof.Gen.Kernel4Ideal.Skeleton
public import proofs.«01_k».proof.Proof.Hand.Shared
public import Idealize.ShloMosaic.Lib.VecWindow

@[expose] public section

noncomputable section

namespace Cert.Split

open Cert.Kernel4Ideal (S1024x1024 S1x1024x128 S8x1024x128 S1x256x128 S1x1x1x1x1x256x128 S2x1x8x1x4x256x128)
open Cert.Kernel4Ideal.Gen (bitsLt_bf16_f32 k0_pay12)
open Idealize.ShloMosaic Idealize.ShloMosaic.TcCoe

variable {F : FTy → Type} [FloatOps F] {sig : RefSig}

/-- Where the piece of head `h` and residue `r` goes in slot `s`. -/
abbrev pieceOff (s : Fin 2) (h r : ℕ) : Fin 7 → Nat := ![s.val, 0, h, 0, r, 0, 0]

abbrev headRect (off : Fin 7 → Nat) (h : ∀ a, off a + S1x1x1x1x1x256x128.size a ≤ S2x1x8x1x4x256x128.size a) : Rect S2x1x8x1x4x256x128 :=
  Rect.unit (s := S2x1x8x1x4x256x128) off S1x1x1x1x1x256x128.size h

/-! ## The pieces of a slot -/

section Slot
variable {R : Memref sig .tc .vmem S2x1x8x1x4x256x128 .bf16}

/-- The store of head `h` and residue `r` read back there. -/
theorem head_hit {s : Fin 2} {h : Fin 8} {r : Fin 4} {off} (e : off = pieceOff s h.val r.val) (inb) (f : R.view.ty.Contents (Elt F)) (p) (L) (i : Fin 256) (l : Fin 128) :
    R.view.read (Elt F) (R.view.writes (Elt F) f ((⟨headRect off inb, p⟩ : View.Piece (Elt F) S2x1x8x1x4x256x128 .bf16) :: L)) (ix7 s 0 h 0 r i l) = p (ix7 0 0 0 0 0 i l) := by
  refine View.read_writes_cons_unit_of_mem R.view f inb p L _ (ix7 0 0 0 0 0 i l) e fun a => ?_
  match a with
  | ⟨0, _⟩ => rfl
  | ⟨1, _⟩ => rfl
  | ⟨2, _⟩ => rfl
  | ⟨3, _⟩ => rfl
  | ⟨4, _⟩ => rfl
  | ⟨5, _⟩ => exact (Nat.zero_add _).symm
  | ⟨6, _⟩ => exact (Nat.zero_add _).symm

/-- The store of another head or residue after `h` and `r` does not touch them. -/
theorem head_miss {s : Fin 2} {h : Fin 8} {r : Fin 4} {h' r' : ℕ} {off} (e : off = pieceOff s h' r') (hne : h.val < h' ∨ r.val < r') (inb) (f : R.view.ty.Contents (Elt F)) (p) (L) (i : Fin 256) (l : Fin 128) :
    R.view.read (Elt F) (R.view.writes (Elt F) f ((⟨headRect off inb, p⟩ : View.Piece (Elt F) S2x1x8x1x4x256x128 .bf16) :: L)) (ix7 s 0 h 0 r i l)
      = R.view.read (Elt F) (R.view.writes (Elt F) f L) (ix7 s 0 h 0 r i l) :=
  hne.elim (fun hh => View.read_writes_cons_unit_of_not_mem R.view f inb p L _ e 2 (Or.inl hh)) (fun hr => View.read_writes_cons_unit_of_not_mem R.view f inb p L _ e 4 (Or.inl hr))

variable (R) in
/-- The first `n` pieces of slot `s`, heads outermost, are those of `q`. -/
def Upto (s : Fin 2) (q : Fin 8 → Fin 4 → S1x1x1x1x1x256x128.Idx → Elt F .bf16) (n : ℕ) (f : R.view.ty.Contents (Elt F)) : Prop :=
  ∀ (h : Fin 8) (r : Fin 4) (i : Fin 256) (l : Fin 128), h.val * 4 + r.val < n → R.view.read (Elt F) f (ix7 s 0 h 0 r i l) = q h r (ix7 0 0 0 0 0 i l)

/-- The store of piece `n` over the first `n`. -/
theorem upto_step {s : Fin 2} {q : Fin 8 → Fin 4 → S1x1x1x1x1x256x128.Idx → Elt F .bf16} {n : ℕ} {f g : R.view.ty.Contents (Elt F)} {off : Fin 7 → ℕ} {inb} {p : S1x1x1x1x1x256x128.Idx → Elt F .bf16} (hn : n < 32)
    (hg : g = View.write (Elt F) (R.access (headRect off inb)) f p Finset.univ) (e : off = pieceOff s (n / 4) (n % 4)) (hp : p = q ⟨n / 4, by omega⟩ ⟨n % 4, by omega⟩) (hf : Upto R s q n f) :
    Upto R s q (n + 1) g := by
  subst hg
  intro h r i l hlt
  show R.view.read (Elt F) (R.view.writes (Elt F) f [⟨headRect off inb, p⟩]) (ix7 s 0 h 0 r i l) = _
  by_cases hc : h.val * 4 + r.val < n
  · refine (head_miss e ?_ inb f p [] i l).trans (hf h r i l hc)
    omega
  · have hh : h.val = n / 4 := by omega
    have hr : r.val = n % 4 := by omega
    have eq : p = q h r := hp.trans (congrArg₂ q (Fin.ext hh.symm) (Fin.ext hr.symm))
    rw [← hh, ← hr] at e
    exact (head_hit e inb f p [] i l).trans (congrFun eq _)

end Slot

/-! ## The heads and pieces of a product -/

/-- The thirty-two pieces of a product: head `h`, the rows of residue `r`. -/
def heads (m : FVec F S1024x1024 .f32) : Fin 8 → Fin 4 → S1x1x1x1x1x256x128.Idx → Elt F .bf16 := fun h r y =>
  truncf .bf16 m bitsLt_bf16_f32 (ix2 (⟨4 * (y 5).val + r.val, by have : (y 5).val < 256 := (y 5).isLt; omega⟩ : Fin 1024) ⟨h.val * 128 + (y 6).val, by have : (y 6).val < 128 := (y 6).isLt; omega⟩)

/-- Head `h` of a product, as it is kept in the second scratch. -/
def headV (m : FVec F S1024x1024 .f32) (h : Fin 8) : FVec F S1x1024x128 .f32 := fun y =>
  m (ix2 (y 1 : Fin 1024) ⟨h.val * 128 + (y 2).val, by have : (y 2).val < 128 := (y 2).isLt; omega⟩)

/-- A piece stored in the slot, from what it is made of. -/
theorem piece_heads (m : FVec F S1024x1024 .f32) (h : Fin 8) (r : Fin 4) (v : Vec F S1x256x128 .f32)
    (hv : ∀ (i : Fin 256) (l : Fin 128), v (ix3 0 i l) = m (ix2 (⟨4 * i.val + r.val, by omega⟩ : Fin 1024) ⟨h.val * 128 + l.val, by omega⟩)) :
    k0_pay12 v = heads m h r := by
  funext y
  have e : k0_pay12 v y = (truncf .bf16 v bitsLt_bf16_f32 : FVec F S1x256x128 .bf16) (ix3 0 (y 5) (y 6)) := by unfold k0_pay12; pointwise
  rw [e]
  unfold heads truncf
  exact congrArg _ (hv (y 5) (y 6))

/-! ## The heads in the second scratch -/

section Scratch
variable {A : Memref sig .tc .vmem S8x1024x128 .f32}

variable (A) in
/-- The first `n` heads of the product `m` are in the second scratch after the writes `L`. -/
def AccUpto (m : FVec F S1024x1024 .f32) (n : ℕ) (L : List (View.Piece (Elt F) S8x1024x128 .f32)) : Prop :=
  ∀ (h : Fin 8) (i : Fin 1024) (l : Fin 128), h.val < n → A.view.read (Elt F) (A.view.writes (Elt F) A.view.junk L) (ix3 h i l) = headV m h (ix3 0 i l)

/-- The store of head `h` in the second scratch read back there. -/
theorem acc_hit {h : Fin 8} {off} (e : off = ![h.val, 0, 0]) (inb : ∀ a, off a + S1x1024x128.size a ≤ S8x1024x128.size a) (f : A.view.ty.Contents (Elt F)) (p) (L) (i : Fin 1024) (l : Fin 128) :
    A.view.read (Elt F) (A.view.writes (Elt F) f ((⟨Rect.unit (s := S8x1024x128) off S1x1024x128.size inb, p⟩ : View.Piece (Elt F) S8x1024x128 .f32) :: L)) (ix3 h i l) = p (ix3 0 i l) := by
  refine View.read_writes_cons_unit_of_mem A.view f inb p L _ (ix3 0 i l) e fun a => ?_
  match a with
  | ⟨0, _⟩ => rfl
  | ⟨1, _⟩ => exact (Nat.zero_add _).symm
  | ⟨2, _⟩ => exact (Nat.zero_add _).symm

/-- The store of a later head does not touch head `h`. -/
theorem acc_miss {h : Fin 8} {h' : ℕ} {off} (e : off = ![h', 0, 0]) (hne : h.val < h') (inb : ∀ a, off a + S1x1024x128.size a ≤ S8x1024x128.size a) (f : A.view.ty.Contents (Elt F)) (p) (L) (i : Fin 1024) (l : Fin 128) :
    A.view.read (Elt F) (A.view.writes (Elt F) f ((⟨Rect.unit (s := S8x1024x128) off S1x1024x128.size inb, p⟩ : View.Piece (Elt F) S8x1024x128 .f32) :: L)) (ix3 h i l)
      = A.view.read (Elt F) (A.view.writes (Elt F) f L) (ix3 h i l) :=
  View.read_writes_cons_unit_of_not_mem A.view f inb p L _ e 0 (Or.inl hne)

/-- The store of head `n` over the first `n`. -/
theorem acc_step {m : FVec F S1024x1024 .f32} {n : ℕ} (hn : n < 8) {L L' : List (View.Piece (Elt F) S8x1024x128 .f32)} {off : Fin 3 → ℕ} {inb : ∀ a, off a + S1x1024x128.size a ≤ S8x1024x128.size a}
    {p : FVec F S1x1024x128 .f32} (hL' : L' = ⟨Rect.unit (s := S8x1024x128) off S1x1024x128.size inb, p⟩ :: L) (e : off = ![n, 0, 0]) (hp : p = headV m ⟨n, hn⟩) (hL : AccUpto A m n L) : AccUpto A m (n + 1) L' := by
  subst hL'
  intro h i l hlt
  by_cases hc : h.val < n
  · exact (acc_miss e hc inb _ p L i l).trans (hL h i l hc)
  · have hh : h.val = n := by omega
    rw [← hh] at e
    have eq : p = headV m h := hp.trans (congrArg (headV m) (Fin.ext hh.symm))
    exact (acc_hit e inb _ p L i l).trans (congrFun eq _)

/-- No stores, no heads. -/
theorem acc_none (m : FVec F S1024x1024 .f32) : AccUpto A m 0 [] := fun h i l hlt => absurd hlt (Nat.not_lt_zero _)

/-- The eight stores of a trip in the second scratch. -/
theorem acc_all {m : FVec F S1024x1024 .f32} {p0 p1 p2 p3 p4 p5 p6 p7 : FVec F S1x1024x128 .f32} {L1 L2 L3 L4 L5 L6 L7 L8 : List (View.Piece (Elt F) S8x1024x128 .f32)}
    {i0 i1 i2 i3 i4 i5 i6 i7}
    (h8 : L8 = ⟨Rect.unit (s := S8x1024x128) ![7, 0, 0] S1x1024x128.size i7, p7⟩ :: L7) (h7 : L7 = ⟨Rect.unit (s := S8x1024x128) ![6, 0, 0] S1x1024x128.size i6, p6⟩ :: L6)
    (h6 : L6 = ⟨Rect.unit (s := S8x1024x128) ![5, 0, 0] S1x1024x128.size i5, p5⟩ :: L5) (h5 : L5 = ⟨Rect.unit (s := S8x1024x128) ![4, 0, 0] S1x1024x128.size i4, p4⟩ :: L4)
    (h4 : L4 = ⟨Rect.unit (s := S8x1024x128) ![3, 0, 0] S1x1024x128.size i3, p3⟩ :: L3) (h3 : L3 = ⟨Rect.unit (s := S8x1024x128) ![2, 0, 0] S1x1024x128.size i2, p2⟩ :: L2)
    (h2 : L2 = ⟨Rect.unit (s := S8x1024x128) ![1, 0, 0] S1x1024x128.size i1, p1⟩ :: L1) (h1 : L1 = [⟨Rect.unit (s := S8x1024x128) ![0, 0, 0] S1x1024x128.size i0, p0⟩])
    (e0 : p0 = headV m 0) (e1 : p1 = headV m 1) (e2 : p2 = headV m 2) (e3 : p3 = headV m 3) (e4 : p4 = headV m 4) (e5 : p5 = headV m 5) (e6 : p6 = headV m 6) (e7 : p7 = headV m 7) : AccUpto A m 8 L8 :=
  acc_step (by decide) h8 rfl e7 (acc_step (by decide) h7 rfl e6 (acc_step (by decide) h6 rfl e5 (acc_step (by decide) h5 rfl e4
    (acc_step (by decide) h4 rfl e3 (acc_step (by decide) h3 rfl e2 (acc_step (by decide) h2 rfl e1 (acc_step (by decide) h1 rfl e0 (acc_none m))))))))

/-- A piece made of the rows of residue `r` of head `h`, four apart. -/
theorem piece_at {m : FVec F S1024x1024 .f32} {L : List (View.Piece (Elt F) S8x1024x128 .f32)} (hL : AccUpto A m 8 L) {h : Fin 8} {r : Fin 4} {off : Fin 3 → ℕ} {inb}
    {v : Vec F S1x256x128 .f32} {p : S1x1x1x1x1x256x128.Idx → Elt F .bf16} (hp : p = k0_pay12 v)
    (hv : v = A.view.readCov L (⟨off, S1x256x128.size, ![1, 4, 1], inb⟩ : LoadRect S8x1024x128)) (e : off = ![h.val, r.val, 0]) : p = heads m h r := by
  subst hp hv e
  refine piece_heads m h r _ fun i l => ?_
  have ei : (⟨![h.val, r.val, 0], S1x256x128.size, ![1, 4, 1], inb⟩ : LoadRect S8x1024x128).idx (ix3 0 i l) = (ix3 h (⟨4 * i.val + r.val, by omega⟩ : Fin 1024) l : S8x1024x128.Idx) := by
    funext a
    apply Fin.ext
    match a with
    | ⟨0, _⟩ => rfl
    | ⟨1, _⟩ => show r.val + 4 * i.val = 4 * i.val + r.val; omega
    | ⟨2, _⟩ => exact (Nat.zero_add _).trans (Nat.one_mul _)
  show A.view.read (Elt F) (A.view.writes (Elt F) A.view.junk L) ((⟨![h.val, r.val, 0], S1x256x128.size, ![1, 4, 1], inb⟩ : LoadRect S8x1024x128).idx (ix3 0 i l)) = _
  rw [ei]
  exact hL h _ l h.isLt

end Scratch

end Cert.Split

end
-- ==== Proof.Hand4.Names.lean ====
/-
  The pieces of memory a trip of the pipelined loop names, under one name each: the blocks of the three arrays in HBM,
  the slots of the three rings in VMEM and their transfer semaphores; and, for each slice the program takes at run-time
  offsets, the name it is at trip `k`.
-/
module

public import proofs.«01_k».proof.Proof.Hand4.Words
public import proofs.«01_k».proof.Proof.Hand4.Split
public import Idealize.ShloMosaic.Lib.Ring.Trips
public import Idealize.ShloMosaic.Lib.Tactic

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Split (pieceOff)

/-! ## The arrays, the rings and the scratch buffers -/

abbrev xM : Memref sig .tc .hbm S2x4096x2048 .bf16 := Memref.whole main_arg0
abbrev wM : Memref sig .tc .hbm S2048x12288 .f32 := Memref.whole main_arg1
abbrev oM : Memref sig .tc .hbm S2x16x2x4x1024x128 .bf16 := Memref.whole main_v0
abbrev wsM : Memref sig .tc .vmem S2048x1024 .bf16 := Memref.whole cc0_scratch0
abbrev asM : Memref sig .tc .vmem S8x1024x128 .f32 := Memref.whole cc0_scratch1
abbrev xR : Memref sig .tc .vmem S3x1x1024x2048 .bf16 := Memref.whole cc0_scoped0
abbrev wR : Memref sig .tc .vmem S2x2048x1024 .f32 := Memref.whole cc0_scoped2
abbrev oR : Memref sig .tc .vmem S2x1x8x1x4x256x128 .bf16 := Memref.whole cc0_scoped4

/-! ## Block and slot numbers -/

/-- The activations' block at trip `k`: 1024 rows, eight of them, the whole array once per block of the weights. -/
def xb (k : ℕ) : Fin 8 := Fin.ofNat 8 k
/-- The weights' block at trip `k`: 1024 columns, of the second group. -/
def wb (k : ℕ) : Fin 12 := Fin.ofNat 12 (4 + k / 8)
/-- The result's block at trip `k`. -/
def ob (k : ℕ) : Fin 32 := Fin.ofNat 32 k

abbrev xblkOff (b : Fin 8) : Fin 3 → Nat := ![b.val / 4, 1024 * (b.val % 4), 0]
abbrev wblkOff (n : Fin 12) : Fin 2 → Nat := ![0, 1024 * n.val]
abbrev oblkOff (t : Fin 32) : Fin 6 → Nat := ![t.val / 4 % 2, 8 * (t.val / 8 % 2), t.val / 16, 0, 256 * (t.val % 4), 0]
abbrev xslotOff (s : Fin 3) : Fin 4 → Nat := ![s.val, 0, 0, 0]
abbrev wslotOff (s : Fin 2) : Fin 3 → Nat := ![s.val, 0, 0]
abbrev oslotOff (s : Fin 2) : Fin 7 → Nat := ![s.val, 0, 0, 0, 0, 0, 0]
abbrev sem3Off (s : Fin 3) : Fin 1 → Nat := ![s.val]
abbrev sem2Off (s : Fin 2) : Fin 1 → Nat := ![s.val]

theorem xblkOff_inb (b : Fin 8) : ∀ a, xblkOff b a + S1x1024x2048.size a ≤ S2x4096x2048.size a := by revert b; decide
theorem wblkOff_inb (n : Fin 12) : ∀ a, wblkOff n a + S2048x1024.size a ≤ S2048x12288.size a := by revert n; decide
theorem oblkOff_inb (t : Fin 32) : ∀ a, oblkOff t a + S1x8x1x4x256x128.size a ≤ S2x16x2x4x1024x128.size a := by revert t; decide
theorem xslotOff_inb (s : Fin 3) : ∀ a, xslotOff s a + S1x1x1024x2048.size a ≤ S3x1x1024x2048.size a := by revert s; decide
theorem wslotOff_inb (s : Fin 2) : ∀ a, wslotOff s a + S1x2048x1024.size a ≤ S2x2048x1024.size a := by revert s; decide
theorem oslotOff_inb (s : Fin 2) : ∀ a, oslotOff s a + S1x1x8x1x4x256x128.size a ≤ S2x1x8x1x4x256x128.size a := by revert s; decide
theorem sem3Off_inb (s : Fin 3) : ∀ a, sem3Off s a + S1.size a ≤ S3.size a := by revert s; decide
theorem sem2Off_inb (s : Fin 2) : ∀ a, sem2Off s a + S1.size a ≤ S2.size a := by revert s; decide

def xblk (b : Fin 8) : Memref sig .tc .hbm S1x1024x2048 .bf16 :=
  xM.slice (Rect.unit (s := S2x4096x2048) (xblkOff b) S1x1024x2048.size (xblkOff_inb b)) (fun _ => rfl)
def wblk (n : Fin 12) : Memref sig .tc .hbm S2048x1024 .f32 :=
  wM.slice (Rect.unit (s := S2048x12288) (wblkOff n) S2048x1024.size (wblkOff_inb n)) (fun _ => rfl)
def oblk (t : Fin 32) : Memref sig .tc .hbm S1x8x1x4x256x128 .bf16 :=
  oM.slice (Rect.unit (s := S2x16x2x4x1024x128) (oblkOff t) S1x8x1x4x256x128.size (oblkOff_inb t)) (fun _ => rfl)
def xslot (s : Fin 3) : Memref sig .tc .vmem S1x1024x2048 .bf16 :=
  (xR.slice (Rect.unit (s := S3x1x1024x2048) (xslotOff s) S1x1x1024x2048.size (xslotOff_inb s)) (fun _ => rfl)).squeeze S1x1024x2048 squeezes_S1x1x1024x2048_S1x1024x2048
def wslot (s : Fin 2) : Memref sig .tc .vmem S2048x1024 .f32 :=
  (wR.slice (Rect.unit (s := S2x2048x1024) (wslotOff s) S1x2048x1024.size (wslotOff_inb s)) (fun _ => rfl)).squeeze S2048x1024 squeezes_S1x2048x1024_S2048x1024
def oslot (s : Fin 2) : Memref sig .tc .vmem S1x8x1x4x256x128 .bf16 :=
  (oR.slice (Rect.unit (s := S2x1x8x1x4x256x128) (oslotOff s) S1x1x8x1x4x256x128.size (oslotOff_inb s)) (fun _ => rfl)).squeeze S1x8x1x4x256x128 squeezes_S1x1x8x1x4x256x128_S1x8x1x4x256x128
def xsem (s : Fin 3) : DmaSems sig S_ := (cc0_scoped1.slice (Rect.unit (s := S3) (sem3Off s) S1.size (sem3Off_inb s))).squeeze S_ squeezes_S1_S_
def wsem (s : Fin 2) : DmaSems sig S_ := (cc0_scoped3.slice (Rect.unit (s := S2) (sem2Off s) S1.size (sem2Off_inb s))).squeeze S_ squeezes_S1_S_
def osem (s : Fin 2) : DmaSems sig S_ := (cc0_scoped5.slice (Rect.unit (s := S2) (sem2Off s) S1.size (sem2Off_inb s))).squeeze S_ squeezes_S1_S_

instance (b : Fin 8) : ClosedOff (xblkOff b) := ⟨xblkOff b, rfl⟩
instance (n : Fin 12) : ClosedOff (wblkOff n) := ⟨wblkOff n, rfl⟩
instance (t : Fin 32) : ClosedOff (oblkOff t) := ⟨oblkOff t, rfl⟩
instance (s : Fin 3) : ClosedOff (xslotOff s) := ⟨xslotOff s, rfl⟩
instance (s : Fin 2) : ClosedOff (wslotOff s) := ⟨wslotOff s, rfl⟩
instance (s : Fin 2) : ClosedOff (oslotOff s) := ⟨oslotOff s, rfl⟩

/-! ## The offsets of trip `k` -/

section Offsets
variable (k : Fin k0_t1_loop.trips)

theorem off8_eq (h : k.val < 30) : k0_off8 (fx k.val) = sem3Off (sl 3 (k.val + 2)) := by revert k; exact all_trips (by decide +kernel)
theorem off9_eq (h : k.val < 30) : k0_off9 (fx k.val) = xslotOff (sl 3 (k.val + 2)) := by revert k; exact all_trips (by decide +kernel)
theorem off10_eq (h : k.val < 30) : k0_off10 (gb k.val) (gi k.val) = xblkOff (xb (k.val + 2)) := by revert k; exact all_trips (by decide +kernel)
theorem off11_eq (h : k.val % 8 = 7 ∧ k.val < 31) : k0_off11 (fw k.val) = sem2Off (sl 2 (k.val / 8 + 1)) := by revert k; exact all_trips (by decide +kernel)
theorem off12_eq (h : k.val % 8 = 7 ∧ k.val < 31) : k0_off12 (fw k.val) = wslotOff (sl 2 (k.val / 8 + 1)) := by revert k; exact all_trips (by decide +kernel)
theorem off13_eq (h : k.val % 8 = 7 ∧ k.val < 31) : k0_off13 (gn k.val) (gb k.val) (gi k.val) = wblkOff (wb (k.val + 1)) := by revert k; exact all_trips (by decide +kernel)
theorem off14_eq : k0_off14 (cx k.val) = sem3Off (sl 3 k.val) := by revert k; exact all_trips (by decide +kernel)
theorem off15_eq : k0_off15 (cx k.val) = xslotOff (sl 3 k.val) := by revert k; exact all_trips (by decide +kernel)
theorem off16_eq : k0_off16 (gb k.val) (gi k.val) = xblkOff (xb k.val) := by revert k; exact all_trips (by decide +kernel)
theorem off17_eq : k0_off17 (cw k.val) = sem2Off (sl 2 (k.val / 8)) := by revert k; exact all_trips (by decide +kernel)
theorem off18_eq : k0_off18 (cw k.val) = wslotOff (sl 2 (k.val / 8)) := by revert k; exact all_trips (by decide +kernel)
theorem off19_eq : k0_off19 (gn k.val) = wblkOff (wb k.val) := by revert k; exact all_trips (by decide +kernel)
theorem off20_eq : k0_off20 (cw k.val) = wslotOff (sl 2 (k.val / 8)) := by revert k; exact all_trips (by decide +kernel)
theorem off21_eq : k0_off21 (cx k.val) = xslotOff (sl 3 k.val) := by revert k; exact all_trips (by decide +kernel)
theorem off22_eq : k0_off22 (fo k.val) = oslotOff (sl 2 k.val) := by revert k; exact all_trips (by decide +kernel)
theorem off55_eq : k0_off55 (fo k.val) = sem2Off (sl 2 k.val) := by revert k; exact all_trips (by decide +kernel)
theorem off56_eq : k0_off56 (gn k.val) (gb k.val) (gi k.val) = oblkOff (ob k.val) := by revert k; exact all_trips (by decide +kernel)
theorem off57_eq : k0_off57 (fo k.val) = oslotOff (sl 2 k.val) := by revert k; exact all_trips (by decide +kernel)
theorem off58_eq (h : 1 ≤ k.val) : k0_off58 (co k.val) = sem2Off (sl 2 (k.val + 1)) := by revert k; exact all_trips (by decide +kernel)
theorem off59_eq (h : 1 ≤ k.val) : k0_off59 (gn k.val) (gb k.val) (gi k.val) = oblkOff (ob (k.val - 1)) := by revert k; exact all_trips (by decide +kernel)
theorem off60_eq (h : 1 ≤ k.val) : k0_off60 (co k.val) = oslotOff (sl 2 (k.val + 1)) := by revert k; exact all_trips (by decide +kernel)

instance : ClosedOff (k0_off20 (cw k.val)) := ⟨wslotOff (sl 2 (k.val / 8)), off20_eq k⟩
instance : ClosedOff (k0_off23 (fo k.val)) := ⟨pieceOff (sl 2 k.val) 0 0, by revert k; exact all_trips (by decide +kernel)⟩
instance : ClosedOff (k0_off24 (fo k.val)) := ⟨pieceOff (sl 2 k.val) 0 1, by revert k; exact all_trips (by decide +kernel)⟩
instance : ClosedOff (k0_off25 (fo k.val)) := ⟨pieceOff (sl 2 k.val) 0 2, by revert k; exact all_trips (by decide +kernel)⟩
instance : ClosedOff (k0_off26 (fo k.val)) := ⟨pieceOff (sl 2 k.val) 0 3, by revert k; exact all_trips (by decide +kernel)⟩
instance : ClosedOff (k0_off27 (fo k.val)) := ⟨pieceOff (sl 2 k.val) 1 0, by revert k; exact all_trips (by decide +kernel)⟩
instance : ClosedOff (k0_off28 (fo k.val)) := ⟨pieceOff (sl 2 k.val) 1 1, by revert k; exact all_trips (by decide +kernel)⟩
instance : ClosedOff (k0_off29 (fo k.val)) := ⟨pieceOff (sl 2 k.val) 1 2, by revert k; exact all_trips (by decide +kernel)⟩
instance : ClosedOff (k0_off30 (fo k.val)) := ⟨pieceOff (sl 2 k.val) 1 3, by revert k; exact all_trips (by decide +kernel)⟩
instance : ClosedOff (k0_off31 (fo k.val)) := ⟨pieceOff (sl 2 k.val) 2 0, by revert k; exact all_trips (by decide +kernel)⟩
instance : ClosedOff (k0_off32 (fo k.val)) := ⟨pieceOff (sl 2 k.val) 2 1, by revert k; exact all_trips (by decide +kernel)⟩
instance : ClosedOff (k0_off33 (fo k.val)) := ⟨pieceOff (sl 2 k.val) 2 2, by revert k; exact all_trips (by decide +kernel)⟩
instance : ClosedOff (k0_off34 (fo k.val)) := ⟨pieceOff (sl 2 k.val) 2 3, by revert k; exact all_trips (by decide +kernel)⟩
instance : ClosedOff (k0_off35 (fo k.val)) := ⟨pieceOff (sl 2 k.val) 3 0, by revert k; exact all_trips (by decide +kernel)⟩
instance : ClosedOff (k0_off36 (fo k.val)) := ⟨pieceOff (sl 2 k.val) 3 1, by revert k; exact all_trips (by decide +kernel)⟩
instance : ClosedOff (k0_off37 (fo k.val)) := ⟨pieceOff (sl 2 k.val) 3 2, by revert k; exact all_trips (by decide +kernel)⟩
instance : ClosedOff (k0_off38 (fo k.val)) := ⟨pieceOff (sl 2 k.val) 3 3, by revert k; exact all_trips (by decide +kernel)⟩
instance : ClosedOff (k0_off39 (fo k.val)) := ⟨pieceOff (sl 2 k.val) 4 0, by revert k; exact all_trips (by decide +kernel)⟩
instance : ClosedOff (k0_off40 (fo k.val)) := ⟨pieceOff (sl 2 k.val) 4 1, by revert k; exact all_trips (by decide +kernel)⟩
instance : ClosedOff (k0_off41 (fo k.val)) := ⟨pieceOff (sl 2 k.val) 4 2, by revert k; exact all_trips (by decide +kernel)⟩
instance : ClosedOff (k0_off42 (fo k.val)) := ⟨pieceOff (sl 2 k.val) 4 3, by revert k; exact all_trips (by decide +kernel)⟩
instance : ClosedOff (k0_off43 (fo k.val)) := ⟨pieceOff (sl 2 k.val) 5 0, by revert k; exact all_trips (by decide +kernel)⟩
instance : ClosedOff (k0_off44 (fo k.val)) := ⟨pieceOff (sl 2 k.val) 5 1, by revert k; exact all_trips (by decide +kernel)⟩
instance : ClosedOff (k0_off45 (fo k.val)) := ⟨pieceOff (sl 2 k.val) 5 2, by revert k; exact all_trips (by decide +kernel)⟩
instance : ClosedOff (k0_off46 (fo k.val)) := ⟨pieceOff (sl 2 k.val) 5 3, by revert k; exact all_trips (by decide +kernel)⟩
instance : ClosedOff (k0_off47 (fo k.val)) := ⟨pieceOff (sl 2 k.val) 6 0, by revert k; exact all_trips (by decide +kernel)⟩
instance : ClosedOff (k0_off48 (fo k.val)) := ⟨pieceOff (sl 2 k.val) 6 1, by revert k; exact all_trips (by decide +kernel)⟩
instance : ClosedOff (k0_off49 (fo k.val)) := ⟨pieceOff (sl 2 k.val) 6 2, by revert k; exact all_trips (by decide +kernel)⟩
instance : ClosedOff (k0_off50 (fo k.val)) := ⟨pieceOff (sl 2 k.val) 6 3, by revert k; exact all_trips (by decide +kernel)⟩
instance : ClosedOff (k0_off51 (fo k.val)) := ⟨pieceOff (sl 2 k.val) 7 0, by revert k; exact all_trips (by decide +kernel)⟩
instance : ClosedOff (k0_off52 (fo k.val)) := ⟨pieceOff (sl 2 k.val) 7 1, by revert k; exact all_trips (by decide +kernel)⟩
instance : ClosedOff (k0_off53 (fo k.val)) := ⟨pieceOff (sl 2 k.val) 7 2, by revert k; exact all_trips (by decide +kernel)⟩
instance : ClosedOff (k0_off54 (fo k.val)) := ⟨pieceOff (sl 2 k.val) 7 3, by revert k; exact all_trips (by decide +kernel)⟩

end Offsets

/-! ## The slices of trip `k` under their names -/

section Canon

theorem xsem_congr {off : Fin 1 → Nat} {s : Fin 3} (e : off = sem3Off s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 2} (e : off = sem2Off s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
theorem osem_congr {off : Fin 1 → Nat} {s : Fin 2} (e : off = sem2Off s) (hh) :
    (cc0_scoped5.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 4 → Nat} {s : Fin 3} (e : off = xslotOff s) (hh hs) :
    (xR.slice (Rect.unit (s := S3x1x1024x2048) off S1x1x1024x2048.size hh) hs).squeeze S1x1024x2048 squeezes_S1x1x1024x2048_S1x1024x2048 = xslot s :=
  congrArg (fun M : Memref sig .tc .vmem S1x1x1024x2048 .bf16 => M.squeeze S1x1024x2048 squeezes_S1x1x1024x2048_S1x1024x2048) (Memref.slice_unit_congr _ e _ _ _ _)
theorem wslot_congr {off : Fin 3 → Nat} {s : Fin 2} (e : off = wslotOff s) (hh hs) :
    (wR.slice (Rect.unit (s := S2x2048x1024) off S1x2048x1024.size hh) hs).squeeze S2048x1024 squeezes_S1x2048x1024_S2048x1024 = wslot s :=
  congrArg (fun M : Memref sig .tc .vmem S1x2048x1024 .f32 => M.squeeze S2048x1024 squeezes_S1x2048x1024_S2048x1024) (Memref.slice_unit_congr _ e _ _ _ _)
theorem oslot_congr {off : Fin 7 → Nat} {s : Fin 2} (e : off = oslotOff s) (hh hs) :
    (oR.slice (Rect.unit (s := S2x1x8x1x4x256x128) off S1x1x8x1x4x256x128.size hh) hs).squeeze S1x8x1x4x256x128 squeezes_S1x1x8x1x4x256x128_S1x8x1x4x256x128 = oslot s :=
  congrArg (fun M : Memref sig .tc .vmem S1x1x8x1x4x256x128 .bf16 => M.squeeze S1x8x1x4x256x128 squeezes_S1x1x8x1x4x256x128_S1x8x1x4x256x128) (Memref.slice_unit_congr _ e _ _ _ _)
theorem xblk_congr {off : Fin 3 → Nat} {b : Fin 8} (e : off = xblkOff b) (hh hs) :
    xM.slice (Rect.unit (s := S2x4096x2048) off S1x1024x2048.size hh) hs = xblk b := Memref.slice_unit_congr _ e _ _ _ (fun _ => rfl)
theorem wblk_congr {off : Fin 2 → Nat} {b : Fin 12} (e : off = wblkOff b) (hh hs) :
    wM.slice (Rect.unit (s := S2048x12288) off S2048x1024.size hh) hs = wblk b := Memref.slice_unit_congr _ e _ _ _ (fun _ => rfl)
theorem oblk_congr {off : Fin 6 → Nat} {b : Fin 32} (e : off = oblkOff b) (hh hs) :
    oM.slice (Rect.unit (s := S2x16x2x4x1024x128) off S1x8x1x4x256x128.size hh) hs = oblk b := Memref.slice_unit_congr _ e _ _ _ (fun _ => rfl)

variable (k : Fin k0_t1_loop.trips)

@[sl_canon] theorem xsem_off8 (h : k.val < 30) (hh) : (cc0_scoped1.slice (Rect.unit (s := S3) (k0_off8 (fx k.val)) S1.size hh)).squeeze S_ squeezes_S1_S_ = xsem (sl 3 (k.val + 2)) := xsem_congr (off8_eq k h) _
@[sl_canon] theorem xslot_off9 (h : k.val < 30) (hh hs) : (xR.slice (Rect.unit (s := S3x1x1024x2048) (k0_off9 (fx k.val)) S1x1x1024x2048.size hh) hs).squeeze S1x1024x2048 squeezes_S1x1x1024x2048_S1x1024x2048 = xslot (sl 3 (k.val + 2)) := xslot_congr (off9_eq k h) _ _
@[sl_canon] theorem xblk_off10 (h : k.val < 30) (hh hs) : xM.slice (Rect.unit (s := S2x4096x2048) (k0_off10 (gb k.val) (gi k.val)) S1x1024x2048.size hh) hs = xblk (xb (k.val + 2)) := xblk_congr (off10_eq k h) _ _
@[sl_canon] theorem wsem_off11 (h : k.val % 8 = 7 ∧ k.val < 31) (hh) : (cc0_scoped3.slice (Rect.unit (s := S2) (k0_off11 (fw k.val)) S1.size hh)).squeeze S_ squeezes_S1_S_ = wsem (sl 2 (k.val / 8 + 1)) := wsem_congr (off11_eq k h) _
@[sl_canon] theorem wslot_off12 (h : k.val % 8 = 7 ∧ k.val < 31) (hh hs) : (wR.slice (Rect.unit (s := S2x2048x1024) (k0_off12 (fw k.val)) S1x2048x1024.size hh) hs).squeeze S2048x1024 squeezes_S1x2048x1024_S2048x1024 = wslot (sl 2 (k.val / 8 + 1)) := wslot_congr (off12_eq k h) _ _
@[sl_canon] theorem wblk_off13 (h : k.val % 8 = 7 ∧ k.val < 31) (hh hs) : wM.slice (Rect.unit (s := S2048x12288) (k0_off13 (gn k.val) (gb k.val) (gi k.val)) S2048x1024.size hh) hs = wblk (wb (k.val + 1)) := wblk_congr (off13_eq k h) _ _
@[sl_canon] theorem xsem_off14 (hh) : (cc0_scoped1.slice (Rect.unit (s := S3) (k0_off14 (cx k.val)) S1.size hh)).squeeze S_ squeezes_S1_S_ = xsem (sl 3 k.val) := xsem_congr (off14_eq k) _
@[sl_canon] theorem xslot_off15 (hh hs) : (xR.slice (Rect.unit (s := S3x1x1024x2048) (k0_off15 (cx k.val)) S1x1x1024x2048.size hh) hs).squeeze S1x1024x2048 squeezes_S1x1x1024x2048_S1x1024x2048 = xslot (sl 3 k.val) := xslot_congr (off15_eq k) _ _
@[sl_canon] theorem xblk_off16 (hh hs) : xM.slice (Rect.unit (s := S2x4096x2048) (k0_off16 (gb k.val) (gi k.val)) S1x1024x2048.size hh) hs = xblk (xb k.val) := xblk_congr (off16_eq k) _ _
@[sl_canon] theorem wsem_off17 (hh) : (cc0_scoped3.slice (Rect.unit (s := S2) (k0_off17 (cw k.val)) S1.size hh)).squeeze S_ squeezes_S1_S_ = wsem (sl 2 (k.val / 8)) := wsem_congr (off17_eq k) _
@[sl_canon] theorem wslot_off18 (hh hs) : (wR.slice (Rect.unit (s := S2x2048x1024) (k0_off18 (cw k.val)) S1x2048x1024.size hh) hs).squeeze S2048x1024 squeezes_S1x2048x1024_S2048x1024 = wslot (sl 2 (k.val / 8)) := wslot_congr (off18_eq k) _ _
@[sl_canon] theorem wblk_off19 (hh hs) : wM.slice (Rect.unit (s := S2048x12288) (k0_off19 (gn k.val)) S2048x1024.size hh) hs = wblk (wb k.val) := wblk_congr (off19_eq k) _ _
@[sl_canon] theorem xslot_off21 (hh hs) : (xR.slice (Rect.unit (s := S3x1x1024x2048) (k0_off21 (cx k.val)) S1x1x1024x2048.size hh) hs).squeeze S1x1024x2048 squeezes_S1x1x1024x2048_S1x1024x2048 = xslot (sl 3 k.val) := xslot_congr (off21_eq k) _ _
@[sl_canon] theorem oslot_off22 (hh hs) : (oR.slice (Rect.unit (s := S2x1x8x1x4x256x128) (k0_off22 (fo k.val)) S1x1x8x1x4x256x128.size hh) hs).squeeze S1x8x1x4x256x128 squeezes_S1x1x8x1x4x256x128_S1x8x1x4x256x128 = oslot (sl 2 k.val) := oslot_congr (off22_eq k) _ _
@[sl_canon] theorem osem_off55 (hh) : (cc0_scoped5.slice (Rect.unit (s := S2) (k0_off55 (fo k.val)) S1.size hh)).squeeze S_ squeezes_S1_S_ = osem (sl 2 k.val) := osem_congr (off55_eq k) _
@[sl_canon] theorem oblk_off56 (hh hs) : oM.slice (Rect.unit (s := S2x16x2x4x1024x128) (k0_off56 (gn k.val) (gb k.val) (gi k.val)) S1x8x1x4x256x128.size hh) hs = oblk (ob k.val) := oblk_congr (off56_eq k) _ _
@[sl_canon] theorem oslot_off57 (hh hs) : (oR.slice (Rect.unit (s := S2x1x8x1x4x256x128) (k0_off57 (fo k.val)) S1x1x8x1x4x256x128.size hh) hs).squeeze S1x8x1x4x256x128 squeezes_S1x1x8x1x4x256x128_S1x8x1x4x256x128 = oslot (sl 2 k.val) := oslot_congr (off57_eq k) _ _
@[sl_canon] theorem osem_off58 (h : 1 ≤ k.val) (hh) : (cc0_scoped5.slice (Rect.unit (s := S2) (k0_off58 (co k.val)) S1.size hh)).squeeze S_ squeezes_S1_S_ = osem (sl 2 (k.val + 1)) := osem_congr (off58_eq k h) _
@[sl_canon] theorem oblk_off59 (h : 1 ≤ k.val) (hh hs) : oM.slice (Rect.unit (s := S2x16x2x4x1024x128) (k0_off59 (gn k.val) (gb k.val) (gi k.val)) S1x8x1x4x256x128.size hh) hs = oblk (ob (k.val - 1)) := oblk_congr (off59_eq k h) _ _
@[sl_canon] theorem oslot_off60 (h : 1 ≤ k.val) (hh hs) : (oR.slice (Rect.unit (s := S2x1x8x1x4x256x128) (k0_off60 (co k.val)) S1x1x8x1x4x256x128.size hh) hs).squeeze S1x8x1x4x256x128 squeezes_S1x1x8x1x4x256x128_S1x8x1x4x256x128 = oslot (sl 2 (k.val + 1)) := oslot_congr (off60_eq k h) _ _

end Canon

end Cert.Kernel4Ideal.Hand

end
-- ==== Proof.Hand4.Pieces.lean ====
/-
  What is held during a trip: a block of an array at home, a slot of a ring, a slot's transfer cell, a slot in flight;
  and what the loop computes, block by block.
-/
module

public import proofs.«01_k».proof.Proof.Hand4.Names
public import proofs.«01_k».proof.Proof.Hand4.Split
public import proofs.«01_k».proof.Proof.Gen.Kernel4Ideal.Launch
public import proofs.«01_k».proof.Proof.Gen.Kernel4Ideal.Loops
public import proofs.«01_k».proof.Proof.Gen.Kernel4Ideal.Points
public import Idealize.ShloMosaic.Lib.WritesUnit
public import Idealize.ShloMosaic.Lib.ViewIndex
public import Idealize.ShloMosaic.Lib.Pointwise

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
abbrev UU (nD : Nat) (τ : Topo) : Type := UR sig nD τ × Counters
local notation "𝕄" => MT nD τ sig Unit (Elt F) ℕ (UU nD τ) ℕ
abbrev 𝒱₀ : Variants := Variants.none

section Pieces
variable (c : Dev nD)
  (XA : Buf (Elt F) (xM.view.loc (c : Thread nD τ))) (WA : Buf (Elt F) (wM.view.loc (c : Thread nD τ)))

abbrev xcellP (s : Fin 3) : sProp 𝕄 := semVal ((c : Thread nD τ), SemLoc.dma (xsem s).sem) 0
abbrev wcellP (s : Fin 2) : sProp 𝕄 := semVal ((c : Thread nD τ), SemLoc.dma (wsem s).sem) 0
abbrev ocellP (s : Fin 2) : sProp 𝕄 := semVal ((c : Thread nD τ), SemLoc.dma (osem s).sem) 0
abbrev xslotP (s : Fin 3) (f : Buf (Elt F) ((xslot s).view.loc (c : Thread nD τ))) : sProp 𝕄 :=
  (xslot s).view.loc (c : Thread nD τ) ↦[(xslot s).view.set]{fullShare} f
abbrev wslotP (s : Fin 2) (f : Buf (Elt F) ((wslot s).view.loc (c : Thread nD τ))) : sProp 𝕄 :=
  (wslot s).view.loc (c : Thread nD τ) ↦[(wslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 8) : sProp 𝕄 := (xblk b).view.loc (c : Thread nD τ) ↦[(xblk b).view.set]{fullShare} XA
abbrev whomeP (b : Fin 12) : sProp 𝕄 := (wblk b).view.loc (c : Thread nD τ) ↦[(wblk b).view.set]{fullShare} WA
abbrev oblkP (t : Fin 32) (g : Buf (Elt F) ((oblk t).view.loc (c : Thread nD τ))) : sProp 𝕄 :=
  (oblk t).view.loc (c : Thread nD τ) ↦[(oblk t).view.set]{fullShare} g

abbrev xpay (b : Fin 8) : S1x1024x2048.Idx → Elt F .bf16 := ReadAs.same.apply ((xblk b).view.read (Elt F) XA)
abbrev wpay (b : Fin 12) : S2048x1024.Idx → Elt F .f32 := ReadAs.same.apply ((wblk b).view.read (Elt F) WA)
abbrev xland (s : Fin 3) (b : Fin 8) (f : Buf (Elt F) ((xslot s).view.loc (c : Thread nD τ))) : Buf (Elt F) ((xslot s).view.loc (c : Thread nD τ)) :=
  (xslot s).view.writes (Elt F) f [⟨Rect.whole _, xpay c XA b⟩]
abbrev wland (s : Fin 2) (b : Fin 12) (f : Buf (Elt F) ((wslot s).view.loc (c : Thread nD τ))) : Buf (Elt F) ((wslot s).view.loc (c : Thread nD τ)) :=
  (wslot s).view.writes (Elt F) f [⟨Rect.whole _, wpay c WA b⟩]
abbrev xflightP (s : Fin 3) (b : Fin 8) : sProp 𝕄 :=
  iprop(∃ f, Transfers.Flight countersEmb (c : Thread nD τ) (SemLoc.dma (xsem s).sem) () 131072 iprop(xslotP c s (xland c XA s b f) ∗ xhomeP c XA b))
abbrev wflightP (s : Fin 2) (b : Fin 12) : sProp 𝕄 :=
  iprop(∃ f, Transfers.Flight countersEmb (c : Thread nD τ) (SemLoc.dma (wsem s).sem) () 262144 iprop(wslotP c s (wland c WA s b f) ∗ whomeP c WA b))
abbrev oflightP (s : Fin 2) (t : Fin 32) (g : Buf (Elt F) ((oblk t).view.loc (c : Thread nD τ))) : sProp 𝕄 :=
  iprop(∃ f, Transfers.Flight countersEmb (c : Thread nD τ) (SemLoc.dma (osem s).sem) () 65536 iprop(oblkP c t g ∗ oslotP c s f))

end Pieces

/-! ## What the loop computes -/

section Values

/-- The element of the out ring that slot `s` has at `y`. -/
def oIdx (s : Fin 2) (y : S1x8x1x4x256x128.Idx) : S2x1x8x1x4x256x128.Idx :=
  ix7 s 0 (y 1) 0 (y 3) (y 4) (y 5)

theorem oslot_emb (s : Fin 2) (y : S1x8x1x4x256x128.Idx) : (oslot s).view.emb y = oIdx s y := by
  have e : Shape.reshapeEquiv (s := S1x1x8x1x4x256x128) (s' := S1x8x1x4x256x128) squeezes_S1x1x8x1x4x256x128_S1x8x1x4x256x128.numel_eq y = ix7 0 0 (y 1) 0 (y 3) (y 4) (y 5) := by
    simp only [pointwise]
  show (Rect.unit (s := S2x1x8x1x4x256x128) (oslotOff s) S1x1x8x1x4x256x128.size (oslotOff_inb s)).emb (Shape.reshapeEquiv (s := S1x1x8x1x4x256x128) (s' := S1x8x1x4x256x128) squeezes_S1x1x8x1x4x256x128_S1x8x1x4x256x128.numel_eq y) = oIdx s y
  rw [e]
  funext a
  apply Fin.ext
  match a with
  | ⟨0, _⟩ => rfl
  | ⟨1, _⟩ => rfl
  | ⟨2, _⟩ => exact (Nat.zero_add _).trans (Nat.one_mul _)
  | ⟨3, _⟩ => rfl
  | ⟨4, _⟩ => exact (Nat.zero_add _).trans (Nat.one_mul _)
  | ⟨5, _⟩ => exact (Nat.zero_add _).trans (Nat.one_mul _)
  | ⟨6, _⟩ => exact (Nat.zero_add _).trans (Nat.one_mul _)

/-- A slot of the out ring read at `y`. -/
theorem oslot_read (s : Fin 2) (f : oR.view.ty.Contents (Elt F)) (y : S1x8x1x4x256x128.Idx) :
    (oslot s).view.read (Elt F) f y = oR.view.read (Elt F) f (oIdx s y) :=
  congrArg f (oslot_emb s y)

/-- A slot whose thirty-two pieces are those of `q`, read at `y`. -/
theorem upto_all {s : Fin 2} {q : Fin 8 → Fin 4 → S1x1x1x1x1x256x128.Idx → Elt F .bf16} {f : oR.view.ty.Contents (Elt F)} (hf : Upto oR s q 32 f) (y : S1x8x1x4x256x128.Idx) :
    (oslot s).view.read (Elt F) f y = q (y 1) (y 3) (ix7 0 0 0 0 0 (y 4) (y 5)) := by
  rw [oslot_read]
  refine hf (y 1) (y 3) (y 4) (y 5) ?_
  have h1 : (y 1).val < 8 := (y 1).isLt
  have h3 : (y 3).val < 4 := (y 3).isLt
  omega

variable (c : Dev nD)
  (XA : Buf (Elt F) (xM.view.loc (c : Thread nD τ))) (WA : Buf (Elt F) (wM.view.loc (c : Thread nD τ)))

/-- The scratch's contents while block `n` of the weights is used: the block rounded to bf16. -/
def wsV (n : Fin 12) : FVec F S2048x1024 .bf16 := truncf .bf16 (wpay c WA n) bitsLt_bf16_f32
/-- Trip `k`'s product. -/
def prod (k : ℕ) : FVec F S1024x1024 .f32 := k0_pay3 (k0_pay2 (xpay c XA (xb k))) (wsV c WA (wb k))
/-- Trip `k`'s product rounded to bf16. -/
def prodB (k : ℕ) : FVec F S1024x1024 .bf16 := truncf .bf16 (prod c XA WA k) bitsLt_bf16_f32

/-- The trip that computes element `i` of the result. -/
def tripOf (i : S2x16x2x4x1024x128.Idx) : ℕ := ((i 2).val * 2 + (i 1).val / 8) * 8 + (i 0).val * 4 + (i 4).val / 256
/-- The result array after the loop: residue `i 3` of the rows, four apart. -/
def outA : Buf (Elt F) (oM.view.loc (c : Thread nD τ)) := fun i : S2x16x2x4x1024x128.Idx =>
  prodB c XA WA (tripOf i) (ix2 ⟨4 * ((i 4).val % 256) + (i 3).val, by have : (i 3).val < 4 := (i 3).isLt; omega⟩ ⟨(i 1).val % 8 * 128 + (i 5).val, by have : (i 5).val < 128 := (i 5).isLt; omega⟩)

variable (a : FVec F S1024x2048 .bf16) (b : Vec F S2048x1024 .bf16) (m : FVec F S1024x1024 .f32)
theorem pay4_at : k0_pay4 a b = headV (k0_pay3 a b) 0 := by
  funext y; unfold k0_pay4 headV; generalize k0_pay3 a b = m; pointwise
theorem pay5_at : k0_pay5 a b = headV (k0_pay3 a b) 1 := by
  funext y; unfold k0_pay5 headV; generalize k0_pay3 a b = m; pointwise
theorem pay6_at : k0_pay6 a b = headV (k0_pay3 a b) 2 := by
  funext y; unfold k0_pay6 headV; generalize k0_pay3 a b = m; pointwise
theorem pay7_at : k0_pay7 a b = headV (k0_pay3 a b) 3 := by
  funext y; unfold k0_pay7 headV; generalize k0_pay3 a b = m; pointwise
theorem pay8_at : k0_pay8 a b = headV (k0_pay3 a b) 4 := by
  funext y; unfold k0_pay8 headV; generalize k0_pay3 a b = m; pointwise
theorem pay9_at : k0_pay9 a b = headV (k0_pay3 a b) 5 := by
  funext y; unfold k0_pay9 headV; generalize k0_pay3 a b = m; pointwise
theorem pay10_at : k0_pay10 a b = headV (k0_pay3 a b) 6 := by
  funext y; unfold k0_pay10 headV; generalize k0_pay3 a b = m; pointwise
theorem pay11_at : k0_pay11 m = headV m 7 := by funext y; unfold k0_pay11 headV; pointwise

/-- The element of the result array that block `t` has at `y`. -/
theorem oblk_emb (t : Fin 32) (y : S1x8x1x4x256x128.Idx) : (oblk t).view.emb y = (ix6 (⟨t.val / 4 % 2, by omega⟩ : Fin 2) (⟨8 * (t.val / 8 % 2) + (y 1).val, by have : (y 1).val < 8 := (y 1).isLt; omega⟩ : Fin 16)
    (⟨t.val / 16, by omega⟩ : Fin 2) (y 3 : Fin 4) (⟨256 * (t.val % 4) + (y 4).val, by have : (y 4).val < 256 := (y 4).isLt; omega⟩ : Fin 1024) (y 5 : Fin 128) : S2x16x2x4x1024x128.Idx) := by
  show (Rect.unit (s := S2x16x2x4x1024x128) (oblkOff t) S1x8x1x4x256x128.size (oblkOff_inb t)).emb y = _
  funext a
  apply Fin.ext
  have h0 : (y 0).val = 0 := Nat.lt_one_iff.mp (y 0).isLt
  have h2 : (y 2).val = 0 := Nat.lt_one_iff.mp (y 2).isLt
  match a with
  | ⟨0, _⟩ => show t.val / 4 % 2 + 1 * (y 0).val = t.val / 4 % 2; omega
  | ⟨1, _⟩ => show 8 * (t.val / 8 % 2) + 1 * (y 1).val = 8 * (t.val / 8 % 2) + (y 1).val; omega
  | ⟨2, _⟩ => show t.val / 16 + 1 * (y 2).val = t.val / 16; omega
  | ⟨3, _⟩ => show 0 + 1 * (y 3).val = (y 3).val; omega
  | ⟨4, _⟩ => show 256 * (t.val % 4) + 1 * (y 4).val = 256 * (t.val % 4) + (y 4).val; omega
  | ⟨5, _⟩ => show 0 + 1 * (y 5).val = (y 5).val; omega

/-- The result at the element that block `k` has at `y`. -/
theorem outA_emb (k : ℕ) (hk : k < 32) (y : S1x8x1x4x256x128.Idx) :
    outA c XA WA ((oblk (ob k)).view.emb y) = heads (prod c XA WA k) (y 1) (y 3) (ix7 0 0 0 0 0 (y 4) (y 5)) := by
  rw [oblk_emb]
  have h1 : (y 1).val < 8 := (y 1).isLt
  have h4 : (y 4).val < 256 := (y 4).isLt
  have hb : (ob k).val = k := Nat.mod_eq_of_lt hk
  have ht : tripOf (ix6 (⟨(ob k).val / 4 % 2, by omega⟩ : Fin 2) (⟨8 * ((ob k).val / 8 % 2) + (y 1).val, by omega⟩ : Fin 16)
    (⟨(ob k).val / 16, by omega⟩ : Fin 2) (y 3 : Fin 4) (⟨256 * ((ob k).val % 4) + (y 4).val, by omega⟩ : Fin 1024) (y 5 : Fin 128)) = k := by
    show ((ob k).val / 16 * 2 + (8 * ((ob k).val / 8 % 2) + (y 1).val) / 8) * 8 + (ob k).val / 4 % 2 * 4 + (256 * ((ob k).val % 4) + (y 4).val) / 256 = k
    omega
  unfold outA heads prodB
  rw [ht]
  refine congrArg _ (congrArg₂ ix2 (Fin.ext ?_) (Fin.ext ?_))
  · show 4 * ((256 * ((ob k).val % 4) + (y 4).val) % 256) + (y 3).val = 4 * (y 4).val + (y 3).val; omega
  · show (8 * ((ob k).val / 8 % 2) + (y 1).val) % 8 * 128 + (y 5).val = (y 1).val * 128 + (y 5).val; omega

/-- The block that trip `k` sends home is the result's block `k`. -/
theorem outA_block (k : ℕ) (hk : k < 32) (g : Buf (Elt F) ((oblk (ob k)).view.loc (c : Thread nD τ))) (w : S1x8x1x4x256x128.Idx → Elt F .bf16)
    (hw : ∀ y, w y = heads (prod c XA WA k) (y 1) (y 3) (ix7 0 0 0 0 0 (y 4) (y 5))) :
    oblkP c (ob k) ((oblk (ob k)).view.writes (Elt F) g [⟨Rect.whole S1x8x1x4x256x128, w⟩]) = oblkP c (ob k) (outA c XA WA) := by
  refine pointsTo_congr (agree_of_read (oblk (ob k)).view fun y => ?_)
  refine (read_whole_writes (oblk (ob k)).view g w y).trans ((hw y).trans (outA_emb c XA WA k hk y).symm)

end Values

end Cert.Kernel4Ideal.Hand

end
-- ==== Proof.Hand4.Trip.lean ====
/-
  One trip of the loop: what it takes, what it leaves.
-/
module

public import proofs.«01_k».proof.Proof.Hand4.Pieces
public import Idealize.ShloMosaic.Lib.VecWindow

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The parts of a trip's resources -/

abbrev xfree (s : Fin 3) : sProp 𝕄 := iprop(xcellP c s ∗ ∃ f, xslotP c s f)
abbrev wfree (s : Fin 2) : sProp 𝕄 := iprop(wcellP c s ∗ ∃ f, wslotP c s f)
abbrev ofree (s : Fin 2) : sProp 𝕄 := iprop(ocellP c s ∗ ∃ f, oslotP c s f)
abbrev wsP (f : Buf (Elt F) (wsM.view.loc (c : Thread nD τ))) : sProp 𝕄 := wsM.view.loc (c : Thread nD τ) ↦[wsM.view.set]{fullShare} f

abbrev asP (f : Buf (Elt F) (asM.view.loc (c : Thread nD τ))) : sProp 𝕄 := asM.view.loc (c : Thread nD τ) ↦[asM.view.set]{fullShare} f

/-- Block `t` of the result at an array's contents, at home and on its way. -/
abbrev oHomeP (t : Fin 32) (G : Buf (Elt F) (oM.view.loc (c : Thread nD τ))) : sProp 𝕄 := oblkP c t G
abbrev oFlyP (s : Fin 2) (t : Fin 32) (G : Buf (Elt F) (oM.view.loc (c : Thread nD τ))) : sProp 𝕄 := oflightP c s t G

/-- The activations: block `k + 2` is sent for, if there is one. -/
def xPre (k : ℕ) : sProp 𝕄 := if k < 30 then iprop(xhomeP c XA (xb (k + 2)) ∗ xfree c (sl 3 (k + 2))) else iprop(emp)
def xPost (k : ℕ) : sProp 𝕄 := if k < 30 then xflightP c XA (sl 3 (k + 2)) (xb (k + 2)) else iprop(emp)
/-- The weights: the next block is sent for at the last trip of a block; a block is received at its first trip. -/
def wPre (k : ℕ) : sProp 𝕄 :=
  if k % 8 = 7 ∧ k < 31 then iprop(whomeP c WA (wb (k + 1)) ∗ wfree c (sl 2 (k / 8 + 1)))
  else if k % 8 = 0 then wflightP c WA (sl 2 (k / 8)) (wb k) else iprop(emp)
def wPost (k : ℕ) : sProp 𝕄 :=
  if k % 8 = 7 ∧ k < 31 then wflightP c WA (sl 2 (k / 8 + 1)) (wb (k + 1))
  else if k % 8 = 0 then iprop(whomeP c WA (wb k) ∗ wfree c (sl 2 (k / 8))) else iprop(emp)
/-- The scratch: the current block of the weights, once it has been received. -/
def wsPre (k : ℕ) : sProp 𝕄 := if k % 8 = 0 then iprop(∃ f, wsP c f) else wsP c (wsV c WA (wb k))
/-- The result: the block of the trip before is waited for. -/
def oPre (k : ℕ) : sProp 𝕄 := if 1 ≤ k then oFlyP c (sl 2 (k + 1)) (ob (k - 1)) (outA c XA WA) else ofree c (sl 2 (k + 1))
def oPost (k : ℕ) : sProp 𝕄 := if 1 ≤ k then iprop(oHomeP c (ob (k - 1)) (outA c XA WA) ∗ ofree c (sl 2 (k + 1))) else ofree c (sl 2 (k + 1))

/-- What trip `k` takes. -/
def tPre (k : ℕ) : sProp 𝕄 :=
  iprop((∃ W, owes (c : Thread nD τ) 0 W) ∗ xflightP c XA (sl 3 k) (xb k) ∗ xPre c XA k ∗ wPre c WA k ∗ wsPre c WA k
    ∗ (∃ f, asP c f) ∗ ofree c (sl 2 k) ∗ oPre c XA WA k ∗ oHomeP c (ob k) g0)
/-- What trip `k` leaves. -/
def tPost (k : ℕ) : sProp 𝕄 :=
  iprop((∃ W, owes (c : Thread nD τ) 0 W) ∗ xhomeP c XA (xb k) ∗ xfree c (sl 3 k) ∗ xPost c XA k ∗ wPost c WA k ∗ wsP c (wsV c WA (wb k))
    ∗ (∃ f, asP c f) ∗ oFlyP c (sl 2 k) (ob k) (outA c XA WA) ∗ oPost c XA WA k)

/-! ## What the trip's loads read and its stores leave -/

/-- A load of the whole activations' slot after a landing. -/
theorem xload (s : Fin 3) (b : Fin 8) (f : Buf (Elt F) ((xslot s).view.loc (c : Thread nD τ))) (inb : ∀ a, (![0, 0, 0] : Fin 3 → ℕ) a + S1x1024x2048.size a ≤ S1x1024x2048.size a) :
    (xslot s).view.readAt (Elt F) (Rect.unit (s := S1x1024x2048) ![0, 0, 0] S1x1024x2048.size inb).toLoadRect (xland c XA s b f) = xpay c XA b :=
  (Idealize.ShloMosaic.View.readAt_full (xslot s).view _ inb).trans (funext fun y => read_whole_writes (xslot s).view f (xpay c XA b) y)

/-- The same, stated over the landing alone. -/
theorem xcov (s : Fin 3) (b : Fin 8) (inb : ∀ a, (![0, 0, 0] : Fin 3 → ℕ) a + S1x1024x2048.size a ≤ S1x1024x2048.size a) :
    (xslot s).view.readCov [⟨Rect.whole S1x1024x2048, xpay c XA b⟩] (Rect.unit (s := S1x1024x2048) ![0, 0, 0] S1x1024x2048.size inb).toLoadRect = xpay c XA b :=
  xload c XA s b _ inb

/-- A load of the whole scratch. -/
theorem wsload (f : Buf (Elt F) (wsM.view.loc (c : Thread nD τ))) (inb : ∀ a, (![0, 0] : Fin 2 → ℕ) a + S2048x1024.size a ≤ S2048x1024.size a) :
    wsM.view.readAt (Elt F) (Rect.unit (s := S2048x1024) ![0, 0] S2048x1024.size inb).toLoadRect f = f :=
  Idealize.ShloMosaic.View.readAt_full wsM.view f inb

/-- The slot that goes out, sent: the result's block. -/
theorem sent (k : ℕ) (hk : k < 32) {g : Buf (Elt F) ((oblk (ob k)).view.loc (c : Thread nD τ))} {w : S1x8x1x4x256x128.Idx → Elt F .bf16} {f : oR.view.ty.Contents (Elt F)}
    (hw : w = ReadAs.same.apply ((oslot (sl 2 k)).view.read (Elt F) f)) (hf : Upto oR (sl 2 k) (heads (prod c XA WA k)) 32 f) :
    (Transfers.Flight countersEmb (c : Thread nD τ) (SemLoc.dma (osem (sl 2 k)).sem) () 65536
        iprop(oblkP c (ob k) ((oblk (ob k)).view.writes (Elt F) g [⟨Rect.whole S1x8x1x4x256x128, w⟩]) ∗ oslotP c (sl 2 k) f) : sProp 𝕄)
      ⊢ oFlyP c (sl 2 k) (ob k) (outA c XA WA) := by
  subst hw
  rw [outA_block c XA WA k hk g _ (upto_all hf)]
  iintro H
  iexists f
  iexact H

/-- The thirty-two stores of trip `k`, made of the eight heads of its product, and the transfer that takes them home. -/
theorem sent_pieces (k : ℕ) (hk : k < 32) {g : Buf (Elt F) ((oblk (ob k)).view.loc (c : Thread nD τ))} {w : S1x8x1x4x256x128.Idx → Elt F .bf16} {f : oR.view.ty.Contents (Elt F)}
    {a : FVec F S1024x2048 .bf16} {b : FVec F S2048x1024 .bf16} {v : Vec F S1x1024x2048 .bf16} {L : List (View.Piece (Elt F) S8x1024x128 .f32)}
    (hw : w = ReadAs.same.apply ((oslot (sl 2 k)).view.read (Elt F) f))
    (hf : AccUpto asM (k0_pay3 a b) 8 L → Upto oR (sl 2 k) (heads (k0_pay3 a b)) 32 f) (hL : AccUpto asM (k0_pay3 a b) 8 L)
    (ha : a = k0_pay2 v) (hv : v = xpay c XA (xb k)) (hb : b = wsV c WA (wb k)) :
    (Transfers.Flight countersEmb (c : Thread nD τ) (SemLoc.dma (osem (sl 2 k)).sem) () 65536
        iprop(oblkP c (ob k) ((oblk (ob k)).view.writes (Elt F) g [⟨Rect.whole S1x8x1x4x256x128, w⟩]) ∗ oslotP c (sl 2 k) f) : sProp 𝕄)
      ⊢ oFlyP c (sl 2 k) (ob k) (outA c XA WA) := by
  subst hv ha hb
  exact sent c XA WA k hk hw (hf hL)

/-- The weights' slot, loaded whole after a landing and rounded: the block rounded. -/
theorem wload (s : Fin 2) (n : Fin 12) (f : Buf (Elt F) ((wslot s).view.loc (c : Thread nD τ))) {off : Fin 3 → ℕ} (e : off = wslotOff s) (inb : ∀ a, off a + S1x2048x1024.size a ≤ S2x2048x1024.size a) :
    k0_pay1 (wR.view.readAt (Elt F) (Rect.unit (s := S2x2048x1024) off S1x2048x1024.size inb).toLoadRect (wland c WA s n f)) = wsV c WA n := by
  subst e
  have h : (shapeCast S2048x1024 (wR.view.readAt (Elt F) (Rect.unit (s := S2x2048x1024) (wslotOff s) S1x2048x1024.size inb).toLoadRect (wland c WA s n f)) shapeCasts_S1x2048x1024_S2048x1024 : Vec F S2048x1024 .f32)
      = wpay c WA n := by
    funext y
    exact read_whole_writes (wslot s).view f (wpay c WA n) y
  unfold k0_pay1 wsV
  rw [h]
  funext y
  pointwise

/-- The scratch after a store of all of it. -/
theorem wsstore (f : Buf (Elt F) (wsM.view.loc (c : Thread nD τ))) {L : List (View.Piece (Elt F) S2048x1024 .bf16)} {inb : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 12) (hp : p = wsV c WA n) :
    (wsM.view.loc (c : Thread nD τ) ↦[wsM.view.set]{fullShare} wsM.view.writes (Elt F) f L : sProp 𝕄) ⊢ wsP c (wsV c WA n) := by
  subst hL hp
  refine Entails.of_eq (pointsTo_congr (agree_of_read wsM.view fun y => ?_))
  rw [Idealize.ShloMosaic.View.read_writes_full]
  rfl

/-- The scratch loaded whole after a store of all of it. -/
theorem wscov {L : List (View.Piece (Elt F) S2048x1024 .bf16)} {inb inb' : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 12) (hp : p = wsV c WA n) :
    wsM.view.readCov L (Rect.unit (s := S2048x1024) ![0, 0] S2048x1024.size inb').toLoadRect = wsV c WA n := by
  subst hL hp
  exact Idealize.ShloMosaic.View.readCov_full wsM.view inb' inb _ []

end Cert.Kernel4Ideal.Hand

end
-- ==== Proof.Hand4.Run.lean ====
/-
  One trip of the loop, run.
-/
module

public import proofs.«01_k».proof.Proof.Hand4.Trip

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-- The loop's carried words before trip `k`. -/
abbrev Acc : Type := BitVec 32 × BitVec 32 × BitVec 32 × BitVec 32 × BitVec 32 × BitVec 32 × BitVec 32 × BitVec 32 × BitVec 32
def accAt (k : ℕ) : Acc := (fx k, cx k, fw k, cw k, fo k, co k, gn k, gb k, gi k)

abbrev tripG (v25 v26 : BitVec 32) (k : Fin k0_t1_loop.trips) (acc : Acc) :=
  k0_t1_body (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5 v25 v26 k acc

/-- Trip `k` runs from its resources to what it leaves. -/
def TripSpec (k : Fin k0_t1_loop.trips) : Prop :=
  ∀ v25 v26 : BitVec 32, tPre c XA WA g0 k.val ⊢ wp frame (wpE (defs₀ (F := F)) 𝒱₀ (c : Thread nD τ) none) Set.univ (tripG (F := F) v25 v26 k (accAt k.val))
    (fun acc => iprop(⌜acc = accAt (k.val + 1)⌝ ∗ tPost c XA WA k.val))

set_option maxHeartbeats 800000 in
/-- A trip that neither starts nor ends a block of the weights. -/
theorem trip_mid (k : Fin k0_t1_loop.trips) (h1 : 1 ≤ k.val) (h30 : k.val < 30) (hw : ¬ k.val % 8 = 7) (hc : ¬ k.val % 8 = 0) : TripSpec c XA WA g0 k := by
  intro v25 v26
  have c2 : k0_cond2 k (gb k.val) (gi k.val) = 1#1 := (cond2_iff k).2 h30
  have c3 : ¬ k0_cond3 k (gn k.val) (gb k.val) (gi k.val) = 1#1 := fun h => hw ((cond3_iff k).1 h).1
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 32 := by have := trips_eq; omega
  unfold tPre tPost xPre xPost wPre wPost wsPre oPre oPost
  simp only [if_pos h1, if_pos h30, if_neg hc, if_neg (fun h : k.val % 8 = 7 ∧ k.val < 31 => hw h.1)]
  iintro ⟨⟨%W, HW⟩, ⟨%fX, HFx⟩, ⟨Hx, Hxc, ⟨%fxs, Hxs⟩⟩, -, Hws, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fas fX fxs fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitr; · iempintro
  isplitl [Hws]; · iexact Hws
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay10_at _ _) (pay11_at _)
    · exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that ends a block of the weights and sends for the next. -/
theorem trip_send (k : Fin k0_t1_loop.trips) (h1 : 1 ≤ k.val) (h30 : k.val < 30) (hw : k.val % 8 = 7 ∧ k.val < 31) : TripSpec c XA WA g0 k := by
  intro v25 v26
  have hc : ¬ k.val % 8 = 0 := by omega
  have c2 : k0_cond2 k (gb k.val) (gi k.val) = 1#1 := (cond2_iff k).2 h30
  have c3 : k0_cond3 k (gn k.val) (gb k.val) (gi k.val) = 1#1 := (cond3_iff k).2 hw
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 32 := by have := trips_eq; omega
  unfold tPre tPost xPre xPost wPre wPost wsPre oPre oPost
  simp only [if_pos h1, if_pos h30, if_neg hc, if_pos hw]
  iintro ⟨⟨%W, HW⟩, ⟨%fX, HFx⟩, ⟨Hx, Hxc, ⟨%fxs, Hxs⟩⟩, ⟨Hwh, Hwc, ⟨%fwl, Hwl⟩⟩, Hws, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fas fX fxs fwl fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [Hwc]; · iexists _; iexact Hwc
  isplitl [Hws]; · iexact Hws
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay10_at _ _) (pay11_at _)
    · exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that starts a block of the weights, not the first. -/
theorem trip_take (k : Fin k0_t1_loop.trips) (h1 : 1 ≤ k.val) (h30 : k.val < 30) (hc : k.val % 8 = 0) : TripSpec c XA WA g0 k := by
  intro v25 v26
  have hw : ¬ k.val % 8 = 7 := by omega
  have c2 : k0_cond2 k (gb k.val) (gi k.val) = 1#1 := (cond2_iff k).2 h30
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 32 := by have := trips_eq; omega
  unfold tPre tPost xPre xPost wPre wPost wsPre oPre oPost
  simp only [if_pos h1, if_pos h30, if_pos hc, if_neg (fun h : k.val % 8 = 7 ∧ k.val < 31 => hw h.1)]
  iintro ⟨⟨%W, HW⟩, ⟨%fX, HFx⟩, ⟨Hx, Hxc, ⟨%fxs, Hxs⟩⟩, ⟨%fW, HFw⟩, ⟨%fws, Hws⟩, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fas fX fxs fW fws fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay10_at _ _) (pay11_at _)
    · exact rfl
    · exact xcov c XA (sl 3 k.val) (xb k.val) _
    · exact wscov c WA rfl (wb k.val) (wload c WA (sl 2 (k.val / 8)) (wb k.val) _ (off20_eq k) _)
  isplitl [HFo_dst]; · iexact HFo_dst
  isplitl [HFo]; · iexact HFo
  iexists _; iexact HFo_src

set_option maxHeartbeats 800000 in
/-- The first trip. -/
theorem trip_first (k : Fin k0_t1_loop.trips) (h1 : ¬ 1 ≤ k.val) : TripSpec c XA WA g0 k := by
  intro v25 v26
  have h30 : k.val < 30 := by omega
  have hc : k.val % 8 = 0 := by omega
  have hw : ¬ k.val % 8 = 7 := by omega
  have c2 : k0_cond2 k (gb k.val) (gi k.val) = 1#1 := (cond2_iff k).2 h30
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : ¬ k0_cond13 k (gn k.val) (gb k.val) (gi k.val) = 1#1 := fun h => h1 ((cond13_iff k).1 h)
  have hk1 := chk1_all k
  have hk2 := chk2_all k
  have hk3 := chk3_all k
  have hkk : k.val < 32 := by have := trips_eq; omega
  unfold tPre tPost xPre xPost wPre wPost wsPre oPre oPost
  simp only [if_neg h1, if_pos h30, if_pos hc, if_neg (fun h : k.val % 8 = 7 ∧ k.val < 31 => hw h.1)]
  iintro ⟨⟨%W, HW⟩, ⟨%fX, HFx⟩, ⟨Hx, Hxc, ⟨%fxs, Hxs⟩⟩, ⟨%fW, HFw⟩, ⟨%fws, Hws⟩, ⟨%fas, Has⟩, ⟨Hoc, ⟨%fos, Hos⟩⟩, HFo, Hob⟩
  dsimp only [tripG, accAt]
  sl_unfold [k0_t1_body]
  sl_exec
  sl_step
  isplitr
  · ipureintro
    clear h1 h30 hw hc c2 c3 c4 c5 c7 c10 c13 hk1 hk2 hk3 hkk fas fX fxs fW fws fos
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay10_at _ _) (pay11_at _)
    · exact rfl
    · exact xcov c XA (sl 3 k.val) (xb k.val) _
    · exact wscov c WA rfl (wb k.val) (wload c WA (sl 2 (k.val / 8)) (wb k.val) _ (off20_eq k) _)
  iexact HFo

set_option maxHeartbeats 800000 in
/-- The last two trips, which send for nothing. -/
theorem trip_last (k : Fin k0_t1_loop.trips) (h30 : ¬ k.val < 30) : TripSpec c XA WA g0 k := by
  intro v25 v26
  have hkk : k.val < 32 := by have := k.isLt; have := trips_eq; omega
  have h1 : 1 ≤ k.val := by omega
  have hw : ¬ (k.val % 8 = 7 ∧ k.val < 31) := by omega
  have hc : ¬ k.val % 8 = 0 := by omega
  have c2 : ¬ k0_cond2 k (gb k.val) (gi k.val) = 1#1 := fun h => h30 ((cond2_iff k).1 h)
  have c3 : ¬ k0_cond3 k (gn k.val) (gb k.val) (gi k.val) = 1#1 := fun h => hw ((cond3_iff k).1 h)
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  unfold tPre tPost xPre xPost wPre wPost wsPre oPre oPost
  simp only [if_pos h1, if_neg h30, if_neg hc, if_neg hw]
  iintro ⟨⟨%W, HW⟩, ⟨%fX, HFx⟩, -, -, Hws, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h30 hw hc c2 c3 c4 c5 c7 c10 c13 hk1 hk2 hk3 hkk fas fX fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitr; · iempintro
  isplitr; · iempintro
  isplitl [Hws]; · iexact Hws
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay10_at _ _) (pay11_at _)
    · exact rfl
    · exact xcov c XA (sl 3 k.val) (xb k.val) _
    · exact wsload c (wsV c WA (wb k.val)) _
  isplitl [HFo_dst]; · iexact HFo_dst
  isplitl [HFo]; · iexact HFo
  iexists _; iexact HFo_src

/-- Every trip runs from its resources to what it leaves. -/
theorem trip_all (k : Fin k0_t1_loop.trips) : TripSpec c XA WA g0 k := by
  by_cases h1 : 1 ≤ k.val
  · by_cases h30 : k.val < 30
    · by_cases hw : k.val % 8 = 7
      · exact trip_send c XA WA g0 k h1 h30 ⟨hw, by omega⟩
      · by_cases hc : k.val % 8 = 0
        · exact trip_take c XA WA g0 k h1 h30 hc
        · exact trip_mid c XA WA g0 k h1 h30 hw hc
    · exact trip_last c XA WA g0 k h30
  · exact trip_first c XA WA g0 k h1

end Cert.Kernel4Ideal.Hand

end
-- ==== Proof.Hand4.Loop.lean ====
/-
  The loop: what is held between trips.
-/
module

public import proofs.«01_k».proof.Proof.Hand4.Run

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

theorem bigSep_ins {α : Type} [DecidableEq α] {s : Finset α} {a : α} {Φ : α → sProp 𝕄} (h : a ∉ s) : bigSep (insert a s) Φ = iprop(Φ a ∗ bigSep s Φ) := bigSep_insert h

/-! ## Turning slots -/

theorem sl3_turn (k : ℕ) : sl 3 (k + 1 + 2) = sl 3 k := Fin.ext (by simp [sl, Fin.ofNat]; omega)
theorem sl2_turn (k : ℕ) : sl 2 (k + 1 + 1) = sl 2 k := Fin.ext (by simp [sl, Fin.ofNat]; omega)
theorem wb_same (k : ℕ) (h : ¬ (k + 1) % 8 = 0) : wb (k + 1) = wb k := by
  unfold wb; rw [show (k + 1) / 8 = k / 8 by omega]

/-! ## The activations -/

/-- The blocks at home before trip `k`. -/
def xset (k : ℕ) : Finset (Fin 8) := Finset.univ.filter fun b => (b ≠ xb k ∨ 32 ≤ k) ∧ (b ≠ xb (k + 1) ∨ 31 ≤ k)
def xrest (k : ℕ) : Finset (Fin 8) := Finset.univ.filter fun b => b ≠ xb k ∧ b ≠ xb (k + 1) ∧ b ≠ xb (k + 2)

theorem xset_split : ∀ k : Fin 30, xset k = insert (xb (k + 2)) (xrest k) ∧ xb (k + 2) ∉ xrest k ∧ xset (k + 1) = insert (xb k) (xrest k) ∧ xb k ∉ xrest k := by
  decide +kernel
theorem xset_30 : xset 31 = insert (xb 30) (xset 30) ∧ xb 30 ∉ xset 30 := by decide +kernel
theorem xset_31 : xset 32 = insert (xb 31) (xset 31) ∧ xb 31 ∉ xset 31 := by decide +kernel
theorem xset_32 : xset 32 = Finset.univ := by decide +kernel

def xfly (k : ℕ) : sProp 𝕄 := if k < 32 then xflightP c XA (sl 3 k) (xb k) else xfree c (sl 3 k)
/-- The activations before trip `k`: blocks `k` and `k + 1` are on their way, the third slot is free, the others at home. -/
def xPart (k : ℕ) : sProp 𝕄 := iprop(xfly c XA k ∗ xfly c XA (k + 1) ∗ xfree c (sl 3 (k + 2)) ∗ bigSep (xset k) (xhomeP c XA))

theorem x_step (k : ℕ) (hk : k < 32) :
    xPart c XA k ⊢ iprop(xflightP c XA (sl 3 k) (xb k) ∗ xPre c XA k ∗ (iprop(xhomeP c XA (xb k) ∗ xfree c (sl 3 k) ∗ xPost c XA k) -∗ xPart c XA (k + 1))) := by
  unfold xPart xPre xPost
  rw [sl3_turn, show xfly c XA k = xflightP c XA (sl 3 k) (xb k) from if_pos hk]
  by_cases h : k < 30
  · obtain ⟨e1, n1, e2, n2⟩ := xset_split ⟨k, h⟩
    dsimp only at e1 n1 e2 n2
    rw [e1, bigSep_ins n1, e2, bigSep_ins n2, if_pos h, if_pos h, show k + 1 + 1 = k + 2 from rfl, show xfly c XA (k + 2) = xflightP c XA (sl 3 (k + 2)) (xb (k + 2)) from if_pos (by omega)]
    iintro ⟨H0, H1, H2, H3, H4⟩
    isplitl [H0]; · iexact H0
    isplitl [H2 H3]
    · isplitl [H3]; · iexact H3
      iexact H2
    iintro ⟨G0, G1, G2⟩
    isplitl [H1]; · iexact H1
    isplitl [G2]; · iexact G2
    isplitl [G1]; · iexact G1
    isplitl [G0]; · iexact G0
    iexact H4
  · have e : xset (k + 1) = insert (xb k) (xset k) ∧ xb k ∉ xset k := by
      obtain rfl | rfl : k = 30 ∨ k = 31 := by omega
      · exact xset_30
      · exact xset_31
    rw [e.1, bigSep_ins e.2, if_neg h, if_neg h, show k + 1 + 1 = k + 2 from rfl, show xfly c XA (k + 2) = xfree c (sl 3 (k + 2)) from if_neg (by omega)]
    iintro ⟨H0, H1, H2, H3⟩
    isplitl [H0]; · iexact H0
    isplitr; · iempintro
    iintro ⟨G0, G1, -⟩
    isplitl [H1]; · iexact H1
    isplitl [H2]; · iexact H2
    isplitl [G1]; · iexact G1
    isplitl [G0]; · iexact G0
    iexact H3

/-! ## The weights -/

/-- The blocks at home before trip `k`. -/
def wset (k : ℕ) : Finset (Fin 12) := Finset.univ.filter fun b => b ≠ wb k ∨ ¬ (k % 8 = 0 ∧ k < 32)
theorem wset_in : ∀ k : Fin 32, k.val % 8 = 0 → wset (k + 1) = insert (wb k) (wset k) ∧ wb k ∉ wset k := by decide +kernel
theorem wset_out : ∀ k : Fin 32, k.val % 8 = 7 ∧ k.val < 31 → wset k = insert (wb (k + 1)) (wset (k + 1)) ∧ wb (k + 1) ∉ wset (k + 1) := by decide +kernel
theorem wset_same : ∀ k : Fin 32, ¬ (k.val % 8 = 7 ∧ k.val < 31) → ¬ k.val % 8 = 0 → wset (k + 1) = wset k := by decide +kernel
theorem wset_32 : wset 32 = Finset.univ := by decide +kernel

def wfly (k : ℕ) : sProp 𝕄 := if k % 8 = 0 ∧ k < 32 then wflightP c WA (sl 2 (k / 8)) (wb k) else wfree c (sl 2 (k / 8))
/-- The weights before trip `k`: the block is on its way at its first trip, the rest at home. -/
def wPart (k : ℕ) : sProp 𝕄 := iprop(wfly c WA k ∗ wfree c (sl 2 (k / 8 + 1)) ∗ bigSep (wset k) (whomeP c WA))

theorem w_step (k : ℕ) (hk : k < 32) : wPart c WA k ⊢ iprop(wPre c WA k ∗ (wPost c WA k -∗ wPart c WA (k + 1))) := by
  unfold wPart wPre wPost wfly
  by_cases h7 : k % 8 = 7 ∧ k < 31
  · obtain ⟨e, n⟩ := wset_out ⟨k, hk⟩ h7
    dsimp only at e n
    rw [if_pos h7, if_pos h7, if_neg (by omega), if_pos (by omega), e, bigSep_ins n, show (k + 1) / 8 = k / 8 + 1 by omega, sl2_turn]
    iintro ⟨H0, H1, H2, H3⟩
    isplitl [H1 H2]
    · isplitl [H2]; · iexact H2
      iexact H1
    iintro G
    isplitl [G]; · iexact G
    isplitl [H0]; · iexact H0
    iexact H3
  · rw [if_neg h7, if_neg h7]
    by_cases h0 : k % 8 = 0
    · obtain ⟨e, n⟩ := wset_in ⟨k, hk⟩ h0
      dsimp only at e n
      rw [if_pos h0, if_pos h0, if_pos ⟨h0, hk⟩, if_neg (by omega), e, bigSep_ins n, show (k + 1) / 8 = k / 8 by omega]
      iintro ⟨H0, H1, H2⟩
      isplitl [H0]; · iexact H0
      iintro ⟨G0, G1⟩
      isplitl [G1]; · iexact G1
      isplitl [H1]; · iexact H1
      isplitl [G0]; · iexact G0
      iexact H2
    · rw [if_neg h0, if_neg h0, if_neg (by omega), if_neg (by omega)]
      have e := wset_same ⟨k, hk⟩ h7 h0
      dsimp only at e
      rw [e]
      by_cases h31 : k = 31
      · subst h31
        rw [show sl 2 ((31 + 1) / 8) = sl 2 (31 / 8 + 1) from rfl, show sl 2 ((31 + 1) / 8 + 1) = sl 2 (31 / 8) from rfl]
        iintro ⟨H0, H1, H2⟩
        isplitr; · iempintro
        iintro -
        isplitl [H1]; · iexact H1
        isplitl [H0]; · iexact H0
        iexact H2
      · rw [show (k + 1) / 8 = k / 8 by omega]
        iintro ⟨H0, H1, H2⟩
        isplitr; · iempintro
        iintro -
        isplitl [H0]; · iexact H0
        isplitl [H1]; · iexact H1
        iexact H2

theorem ws_step (k : ℕ) : wsP c (wsV c WA (wb k)) ⊢ wsPre c WA (k + 1) := by
  unfold wsPre
  by_cases h : (k + 1) % 8 = 0
  · rw [if_pos h]; iintro H; iexists _; iexact H
  · rw [if_neg h, wb_same k h]

/-! ## The result -/

def oset (k : ℕ) : Finset (Fin 32) := Finset.univ.filter fun t => t.val + 1 < k
def orest (k : ℕ) : Finset (Fin 32) := Finset.univ.filter fun t => k ≤ t.val
theorem ob_val (k : ℕ) (hk : k < 32) : (ob k).val = k := Nat.mod_eq_of_lt hk
theorem oset_step (k : ℕ) (hk : k < 32) (h1 : 1 ≤ k) : oset (k + 1) = insert (ob (k - 1)) (oset k) ∧ ob (k - 1) ∉ oset k := by
  have e := ob_val (k - 1) (by omega)
  constructor
  · ext t; simp only [oset, Finset.mem_filter, Finset.mem_univ, true_and, Finset.mem_insert, Fin.ext_iff, e]; omega
  · simp only [oset, Finset.mem_filter, Finset.mem_univ, true_and, e]; omega
theorem orest_step (k : ℕ) (hk : k < 32) : orest k = insert (ob k) (orest (k + 1)) ∧ ob k ∉ orest (k + 1) := by
  have e := ob_val k hk
  constructor
  · ext t; simp only [orest, Finset.mem_filter, Finset.mem_univ, true_and, Finset.mem_insert, Fin.ext_iff, e]; omega
  · simp only [orest, Finset.mem_filter, Finset.mem_univ, true_and, e]; omega
theorem oset_1 : oset (0 + 1) = oset 0 := by decide +kernel

/-- The result before trip `k`: the blocks before the last are home with their values, the last on its way, the others as they were. -/
def oPart (k : ℕ) : sProp 𝕄 :=
  iprop(ofree c (sl 2 k) ∗ oPre c XA WA k ∗ bigSep (oset k) (fun t => oHomeP c t (outA c XA WA)) ∗ bigSep (orest k) (fun t => oHomeP c t g0))

theorem o_step (k : ℕ) (hk : k < 32) :
    oPart c XA WA g0 k ⊢ iprop(ofree c (sl 2 k) ∗ oPre c XA WA k ∗ oHomeP c (ob k) g0
      ∗ (iprop(oFlyP c (sl 2 k) (ob k) (outA c XA WA) ∗ oPost c XA WA k) -∗ oPart c XA WA g0 (k + 1))) := by
  obtain ⟨er, nr⟩ := orest_step k hk
  unfold oPart
  rw [er, bigSep_ins nr]
  have ep : oPre c XA WA (k + 1) = oFlyP c (sl 2 k) (ob k) (outA c XA WA) := by
    unfold oPre
    rw [if_pos (by omega), sl2_turn, show k + 1 - 1 = k from rfl]
  rw [ep]
  by_cases h1 : 1 ≤ k
  · obtain ⟨es, ns⟩ := oset_step k hk h1
    rw [es, bigSep_ins ns]
    unfold oPost
    rw [if_pos h1]
    iintro ⟨H0, H1, H2, H3, H4⟩
    isplitl [H0]; · iexact H0
    isplitl [H1]; · iexact H1
    isplitl [H3]; · iexact H3
    iintro ⟨G0, G1, G2⟩
    isplitl [G2]; · iexact G2
    isplitl [G0]; · iexact G0
    isplitl [G1 H2]
    · isplitl [G1]; · iexact G1
      iexact H2
    iexact H4
  · obtain rfl : k = 0 := by omega
    rw [oset_1]
    unfold oPost
    rw [if_neg h1]
    iintro ⟨H0, H1, H2, H3, H4⟩
    isplitl [H0]; · iexact H0
    isplitl [H1]; · iexact H1
    isplitl [H3]; · iexact H3
    iintro ⟨G0, G1⟩
    isplitl [G1]; · iexact G1
    isplitl [G0]; · iexact G0
    isplitl [H2]; · iexact H2
    iexact H4

/-! ## All of it -/

def invAt (k : ℕ) : sProp 𝕄 :=
  iprop((∃ W, owes (c : Thread nD τ) 0 W) ∗ xPart c XA k ∗ wPart c WA k ∗ wsPre c WA k ∗ (∃ f, asP c f) ∗ oPart c XA WA g0 k)

theorem inv_step (k : ℕ) (hk : k < 32) : invAt c XA WA g0 k ⊢ iprop(tPre c XA WA g0 k ∗ (tPost c XA WA k -∗ invAt c XA WA g0 (k + 1))) := by
  unfold invAt tPre tPost
  iintro ⟨HW, HX, Hw, Hs, Ha, HO⟩
  ihave HX' := (x_step c XA k hk) $$ HX
  icases HX' with ⟨X0, X1, X2⟩
  ihave Hw' := (w_step c WA k hk) $$ Hw
  icases Hw' with ⟨W0, W1⟩
  ihave HO' := (o_step c XA WA g0 k hk) $$ HO
  icases HO' with ⟨O0, O1, O2, O3⟩
  isplitl [HW X0 X1 W0 Hs Ha O0 O1 O2]
  · isplitl [HW]; · iexact HW
    isplitl [X0]; · iexact X0
    isplitl [X1]; · iexact X1
    isplitl [W0]; · iexact W0
    isplitl [Hs]; · iexact Hs
    isplitl [Ha]; · iexact Ha
    isplitl [O0]; · iexact O0
    isplitl [O1]; · iexact O1
    iexact O2
  iintro ⟨G0, G1, G2, G3, G4, G5, GA, G6, G7⟩
  isplitl [G0]; · iexact G0
  isplitl [X2 G1 G2 G3]
  · iapply X2
    isplitl [G1]; · iexact G1
    isplitl [G2]; · iexact G2
    iexact G3
  isplitl [W1 G4]
  · iapply W1; iexact G4
  isplitl [G5]
  · iapply (ws_step c WA k); iexact G5
  isplitl [GA]; · iexact GA
  iapply O3
  isplitl [G6]; · iexact G6
  iexact G7

set_option warn.classDefReducibility false in
/-- The loop's invariant. -/
def loopInv (v25 v26 : BitVec 32) (init : Acc) :
    LoopInvTy_k0_t1 (F := F) Unit ℕ (UU nD τ) ℕ 𝒱₀ c none Set.univ xM (Memref.isWhole_whole _) wM (Memref.isWhole_whole _) oM (Memref.isWhole_whole _) wsM (Memref.isWhole_whole _) asM (Memref.isWhole_whole _)
      xR (Memref.isWhole_whole _) cc0_scoped1 wR (Memref.isWhole_whole _) cc0_scoped3 oR (Memref.isWhole_whole _) cc0_scoped5 v25 v26 init where
  inv k acc := iprop(⌜acc = accAt k⌝ ∗ invAt c XA WA g0 k)
  step k acc := by
    have hk : k.val < 32 := Nat.lt_of_lt_of_eq k.isLt trips_eq
    iintro ⟨%e, H⟩
    subst e
    ihave H' := (inv_step c XA WA g0 k.val hk) $$ H
    icases H' with ⟨H0, H1⟩
    iapply (wp_wand_r Idealize.ShloMosaic.frame (wpE (defs₀ (F := F)) 𝒱₀ (c : Thread nD τ) none) Set.univ)
    isplitl [H0]
    · iapply (trip_all c XA WA g0 k v25 v26); iexact H0
    · iintro %a ⟨%e, G⟩
      isplitr; · ipureintro; exact e
      iapply H1; iexact G

end Cert.Kernel4Ideal.Hand

end
-- ==== Proof.Hand4.Body.lean ====
/-
  The body: the first blocks sent for, the loop, the last block waited for.
-/
module

public import proofs.«01_k».proof.Proof.Hand4.Loop

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The names before and after the loop -/

theorem cond1_eq : k0_cond1 = 1#1 := by decide +kernel
theorem chk4_end : k0_chk4 (co 32) := by decide +kernel
theorem chk5_end : k0_chk5 (gi 32) (gb 32) (gn 32) := by decide +kernel
theorem accAt_0 : ((2#32, 0#32, 1#32, 0#32, 0#32, 0#32, 0#32, 0#32, 0#32) : Acc) = accAt 0 := by
  refine acc_ext ?_ ?_ ?_ ?_ ?_ ?_ ?_ ?_ ?_ <;> decide +kernel

/-- The loop, run: from the invariant at trip 0 to the invariant at trip 32. -/
theorem loop_run {β : Type} (kk : Acc → Prog (TpuEff nD τ sig (Elt F) Λ₀ .tc) β) (Q : β → sProp 𝕄) :
    invAt c XA WA g0 0 ⊢ iprop((invAt c XA WA g0 32 -∗ wp frame (wpE (defs₀ (F := F)) 𝒱₀ (c : Thread nD τ) none) Set.univ (kk (accAt 32)) Q)
      -∗ wp frame (wpE (defs₀ (F := F)) 𝒱₀ (c : Thread nD τ) none) Set.univ
        (k0_t1_loop.for k0_t1_ok (2#32, 0#32, 1#32, 0#32, 0#32, 0#32, 0#32, 0#32, 0#32) (tripG (F := F) 0#32 1#32) >>= kk) Q) := by
  have h := exec_loop (kk := kk) (Q := Q) Idealize.ShloMosaic.frame (wpE (defs₀ (F := F)) 𝒱₀ (c : Thread nD τ) none) Set.univ _ _ _ k0_t1_ok _ _ (loopInv c XA WA g0 0#32 1#32 (2#32, 0#32, 1#32, 0#32, 0#32, 0#32, 0#32, 0#32, 0#32))
  have e : ∀ k acc, (loopInv c XA WA g0 0#32 1#32 (2#32, 0#32, 1#32, 0#32, 0#32, 0#32, 0#32, 0#32, 0#32)).inv k acc = iprop(⌜acc = accAt k⌝ ∗ invAt c XA WA g0 k) := fun _ _ => rfl
  iintro H HK
  iapply h $$ [H]
  · rw [e]
    isplitr
    · ipureintro; exact accAt_0
    iexact H
  iintro %acc G
  ihave G' := (of_eq (((e _ acc).trans (congrArg (fun k => iprop(⌜acc = accAt k⌝ ∗ invAt c XA WA g0 k)) (show Scf.trips k0_t1_loop.lb k0_t1_loop.ub k0_t1_loop.st = 32 from trips_eq))))) $$ G
  icases G' with ⟨%ea, G⟩
  subst ea
  iapply HK
  iexact G

section Canon
variable (a b : ℕ)
@[sl_canon] theorem xsem_off1 (hh) : (cc0_scoped1.slice (Rect.unit (s := S3) k0_off1 S1.size hh)).squeeze S_ squeezes_S1_S_ = xsem (sl 3 0) := xsem_congr (by decide +kernel) _
@[sl_canon] theorem xslot_off2 (hh hs) : (xR.slice (Rect.unit (s := S3x1x1024x2048) k0_off2 S1x1x1024x2048.size hh) hs).squeeze S1x1024x2048 squeezes_S1x1x1024x2048_S1x1024x2048 = xslot (sl 3 0) := xslot_congr (by decide +kernel) _ _
@[sl_canon] theorem xblk_first (hh hs) : xM.slice (Rect.unit (s := S2x4096x2048) ![0, 0, 0] S1x1024x2048.size hh) hs = xblk (xb 0) := xblk_congr (by decide +kernel) _ _
@[sl_canon] theorem wsem_off3 (hh) : (cc0_scoped3.slice (Rect.unit (s := S2) k0_off3 S1.size hh)).squeeze S_ squeezes_S1_S_ = wsem (sl 2 (0 / 8)) := wsem_congr (by decide +kernel) _
@[sl_canon] theorem wslot_off4 (hh hs) : (wR.slice (Rect.unit (s := S2x2048x1024) k0_off4 S1x2048x1024.size hh) hs).squeeze S2048x1024 squeezes_S1x2048x1024_S2048x1024 = wslot (sl 2 (0 / 8)) := wslot_congr (by decide +kernel) _ _
@[sl_canon] theorem wblk_first (hh hs) : wM.slice (Rect.unit (s := S2048x12288) ![0, 4096] S2048x1024.size hh) hs = wblk (wb 0) := wblk_congr (by decide +kernel) _ _
@[sl_canon] theorem xsem_off5 (hh) : (cc0_scoped1.slice (Rect.unit (s := S3) k0_off5 S1.size hh)).squeeze S_ squeezes_S1_S_ = xsem (sl 3 (0 + 1)) := xsem_congr (by decide +kernel) _
@[sl_canon] theorem xslot_off6 (hh hs) : (xR.slice (Rect.unit (s := S3x1x1024x2048) k0_off6 S1x1x1024x2048.size hh) hs).squeeze S1x1024x2048 squeezes_S1x1x1024x2048_S1x1024x2048 = xslot (sl 3 (0 + 1)) := xslot_congr (by decide +kernel) _ _
@[sl_canon] theorem xblk_off7 (hh hs) : xM.slice (Rect.unit (s := S2x4096x2048) k0_off7 S1x1024x2048.size hh) hs = xblk (xb (0 + 1)) := xblk_congr (by decide +kernel) _ _
@[sl_canon] theorem osem_off61 (hh) : (cc0_scoped5.slice (Rect.unit (s := S2) (k0_off61 (co 32)) S1.size hh)).squeeze S_ squeezes_S1_S_ = osem (sl 2 (32 + 1)) := osem_congr (by decide +kernel) _
@[sl_canon] theorem oblk_off62 (hh hs) : oM.slice (Rect.unit (s := S2x16x2x4x1024x128) (k0_off62 (gi 32) (gb 32) (gn 32)) S1x8x1x4x256x128.size hh) hs = oblk (ob (32 - 1)) := oblk_congr (by decide +kernel) _ _
@[sl_canon] theorem oslot_off63 (hh hs) : (oR.slice (Rect.unit (s := S2x1x8x1x4x256x128) (k0_off63 (co 32)) S1x1x8x1x4x256x128.size hh) hs).squeeze S1x8x1x4x256x128 squeezes_S1x1x8x1x4x256x128_S1x8x1x4x256x128 = oslot (sl 2 (32 + 1)) := oslot_congr (by decide +kernel) _ _
end Canon

/-! ## What the body takes and leaves -/

/-- The rings, their semaphores and the scratch, free. -/
def freeP : sProp 𝕄 :=
  iprop(xfree (F := F) c (sl 3 0) ∗ xfree (F := F) c (sl 3 (0 + 1)) ∗ xfree (F := F) c (sl 3 (0 + 2)) ∗ wfree (F := F) c (sl 2 (0 / 8)) ∗ wfree (F := F) c (sl 2 (0 / 8 + 1)) ∗ ofree (F := F) c (sl 2 0) ∗ ofree (F := F) c (sl 2 (0 + 1)) ∗ (∃ f, wsP (F := F) c f) ∗ ∃ f, asP (F := F) c f)
/-- The arrays, in blocks: the result at the contents `G`. -/
def arrP (G : Buf (Elt F) (oM.view.loc (c : Thread nD τ))) : sProp 𝕄 :=
  iprop(bigSep Finset.univ (xhomeP c XA) ∗ bigSep Finset.univ (whomeP c WA) ∗ bigSep Finset.univ (fun t => oHomeP c t G))

theorem xset_0 : (Finset.univ : Finset (Fin 8)) = insert (xb 0) (insert (xb (0 + 1)) (xset 0)) ∧ xb 0 ∉ insert (xb (0 + 1)) (xset 0) ∧ xb (0 + 1) ∉ xset 0 := by decide +kernel
theorem wset_0 : (Finset.univ : Finset (Fin 12)) = insert (wb 0) (wset 0) ∧ wb 0 ∉ wset 0 := by decide +kernel
theorem oset_0 : oset 0 = ∅ := by decide +kernel
theorem orest_0 : orest 0 = Finset.univ := by decide +kernel
theorem oset_32 : (Finset.univ : Finset (Fin 32)) = insert (ob (32 - 1)) (oset 32) ∧ ob (32 - 1) ∉ oset 32 := by decide +kernel
theorem orest_32 : orest 32 = ∅ := by decide +kernel

abbrev bodyP := cc0_proj_d4_none_skel (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5

set_option maxHeartbeats 1600000 in
theorem body_run (W : Waits sig Unit) :
    iprop(owes (c : Thread nD τ) 0 W ∗ freeP c ∗ arrP c XA WA g0)
      ⊢ wp frame (wpE (defs₀ (F := F)) 𝒱₀ (c : Thread nD τ) none) Set.univ (bodyP (F := F))
        (fun _ => iprop((∃ W, owes (c : Thread nD τ) 0 W) ∗ freeP c ∗ arrP c XA WA (outA c XA WA))) := by
  unfold freeP arrP
  obtain ⟨ex, nx, nx'⟩ := xset_0
  obtain ⟨ew, nw⟩ := wset_0
  rw [ex, bigSep_ins nx, bigSep_ins nx', ew, bigSep_ins nw]
  have hc1 := cond1_eq
  have hk4 := chk4_end
  have hk5 := chk5_end
  iintro ⟨HW, ⟨⟨Hx0, ⟨%fx0, Hxs0⟩⟩, ⟨Hx1, ⟨%fx1, Hxs1⟩⟩, Hx2, ⟨Hw0, ⟨%fw0, Hws0⟩⟩, Hw1, Ho0, Ho1, Hs, ⟨%fas, Has⟩⟩, ⟨Hxh0, Hxh1, Hxh⟩, ⟨Hwh0, Hwh⟩, Hoh⟩
  dsimp only [bodyP]
  sl_unfold [cc0_proj_d4_none_skel]
  sl_exec
  iapply (loop_run c XA WA g0 _ _) $$ [HW Hx2 Hw1 Ho0 Ho1 Hs Has Hxh Hwh Hoh Hx0 Hw0 Hx1]
  · unfold invAt xPart wPart wsPre oPart
    rw [show xfly c XA 0 = xflightP c XA (sl 3 0) (xb 0) from if_pos (by decide), show xfly c XA (0 + 1) = xflightP c XA (sl 3 (0 + 1)) (xb (0 + 1)) from if_pos (by decide),
      show wfly c WA 0 = wflightP c WA (sl 2 (0 / 8)) (wb 0) from if_pos (by decide), if_pos (by decide), oset_0, orest_0]
    isplitl [HW]; · iexists _; iexact HW
    isplitl [Hx0 Hx1 Hx2 Hxh]
    · isplitl [Hx0]; · iexists _; iexact Hx0
      isplitl [Hx1]; · iexists _; iexact Hx1
      isplitl [Hx2]; · iexact Hx2
      iexact Hxh
    isplitl [Hw0 Hw1 Hwh]
    · isplitl [Hw0]; · iexists _; iexact Hw0
      isplitl [Hw1]; · iexact Hw1
      iexact Hwh
    isplitl [Hs]; · iexact Hs
    isplitl [Has]; · iexists _; iexact Has
    isplitl [Ho0]; · iexact Ho0
    isplitl [Ho1]
    · unfold oPre; rw [if_neg (by decide)]; iexact Ho1
    isplitr
    · rw [bigSep_empty]; iempintro
    iexact Hoh
  iintro HI
  unfold invAt xPart wPart wsPre oPart
  rw [show xfly c XA 32 = xfree c (sl 3 32) from if_neg (by decide), show xfly c XA (32 + 1) = xfree c (sl 3 (32 + 1)) from if_neg (by decide),
    show wfly c WA 32 = wfree c (sl 2 (32 / 8)) from if_neg (by decide), if_pos (by decide), orest_32, xset_32, wset_32]
  unfold oPre
  rw [if_pos (by decide)]
  icases HI with ⟨⟨%W', HW⟩, ⟨Hx0, Hx1, Hx2, Hxh⟩, ⟨Hw0, Hw1, Hwh⟩, Hs, ⟨%fas', Has⟩, Ho0, ⟨%fof, HFo⟩, Hod, -⟩
  dsimp only [accAt]
  sl_exec
  sl_step
  rw [show sl 3 32 = sl 3 (0 + 2) from rfl, show sl 3 (32 + 1) = sl 3 0 from rfl, show sl 3 (32 + 2) = sl 3 (0 + 1) from rfl,
    show sl 2 (32 / 8) = sl 2 (0 / 8) from rfl, show sl 2 (32 / 8 + 1) = sl 2 (0 / 8 + 1) from rfl, show sl 2 32 = sl 2 0 from rfl,
    ← bigSep_ins nx', ← bigSep_ins nx, ← bigSep_ins nw, ← ex, ← ew, oset_32.1, bigSep_ins oset_32.2]
  isplitl [HW]; · iexists _; iexact HW
  isplitl [Hx0 Hx1 Hx2 Hw0 Hw1 Ho0 HFo HFo_src Hs Has]
  · isplitl [Hx1]; · iexact Hx1
    isplitl [Hx2]; · iexact Hx2
    isplitl [Hx0]; · iexact Hx0
    isplitl [Hw0]; · iexact Hw0
    isplitl [Hw1]; · iexact Hw1
    isplitl [Ho0]; · iexact Ho0
    isplitl [HFo HFo_src]
    · isplitl [HFo]; · iexact HFo
      iexists _; iexact HFo_src
    isplitl [Hs]; · iexact Hs
    iexists _; iexact Has
  isplitl [Hxh]; · iexact Hxh
  isplitl [Hwh]; · iexact Hwh
  isplitl [HFo_dst]; · iexact HFo_dst
  iexact Hod

end Cert.Kernel4Ideal.Hand

end
-- ==== Proof.Hand4.Launch.lean ====
/-
  The launch: the arrays and the rings in blocks, the body run at the one point, the run of the program.
-/
module

public import proofs.«01_k».proof.Proof.Hand4.Body
public import proofs.«01_k».proof.Proof.Gen.Kernel4Ideal.Launch
public import proofs.«01_k».proof.Proof.Gen.Kernel4Ideal.Frame
public import Idealize.ShloMosaic.Lib.Pipeline.FrameValue
public import Idealize.ShloMosaic.Lib.Ring

@[expose] public section

noncomputable section

namespace Cert.Kernel4Ideal.Hand

open Cert.Kernel4Ideal Cert.Kernel4Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation)

/-! ## Element sets -/

abbrev xS (b : Fin 8) : Finset S2x4096x2048.Idx := (Rect.unit (s := S2x4096x2048) (xblkOff b) S1x1024x2048.size (xblkOff_inb b)).set
abbrev wS (b : Fin 12) : Finset S2048x12288.Idx := (Rect.unit (s := S2048x12288) (wblkOff b) S2048x1024.size (wblkOff_inb b)).set
abbrev oS (t : Fin 32) : Finset S2x16x2x4x1024x128.Idx := (Rect.unit (s := S2x16x2x4x1024x128) (oblkOff t) S1x8x1x4x256x128.size (oblkOff_inb t)).set
abbrev xrS (s : Fin 3) : Finset S3x1x1024x2048.Idx := (Rect.unit (s := S3x1x1024x2048) (xslotOff s) S1x1x1024x2048.size (xslotOff_inb s)).set
abbrev wrS (s : Fin 2) : Finset S2x2048x1024.Idx := (Rect.unit (s := S2x2048x1024) (wslotOff s) S1x2048x1024.size (wslotOff_inb s)).set
abbrev orS (s : Fin 2) : Finset S2x1x8x1x4x256x128.Idx := (Rect.unit (s := S2x1x8x1x4x256x128) (oslotOff s) S1x1x8x1x4x256x128.size (oslotOff_inb s)).set

theorem xS_tiles : Tiles xS := rows_tiles
theorem wS_tiles : Tiles wS := axis_tiles 1 1024 (fun _ => rfl) (by intro b a h; fin_cases a <;> first | rfl | exact absurd rfl h) rfl (by decide) rfl
theorem oS_tiles : Tiles oS := by
  refine fibres oS (fun y => 16 * (y 2).val + 8 * ((y 1).val / 8) + 4 * (y 0).val + (y 4).val / 256) Fin.val Fin.val_injective (fun b y => ?_) (fun y => ?_)
  · rw [Rect.mem_set_unit]
    have h0 : (y 0).val < 2 := (y 0).isLt
    have h1 : (y 1).val < 16 := (y 1).isLt
    have h2 : (y 2).val < 2 := (y 2).isLt
    have h3 : (y 3).val < 4 := (y 3).isLt
    have h4 : (y 4).val < 1024 := (y 4).isLt
    have h5 : (y 5).val < 128 := (y 5).isLt
    have hb := b.isLt
    constructor
    · intro H
      have a0 : b.val / 4 % 2 ≤ (y 0).val ∧ (y 0).val < b.val / 4 % 2 + 1 := H 0
      have a1 : 8 * (b.val / 8 % 2) ≤ (y 1).val ∧ (y 1).val < 8 * (b.val / 8 % 2) + 8 := H 1
      have a2 : b.val / 16 ≤ (y 2).val ∧ (y 2).val < b.val / 16 + 1 := H 2
      have a4 : 256 * (b.val % 4) ≤ (y 4).val ∧ (y 4).val < 256 * (b.val % 4) + 256 := H 4
      omega
    · intro H i
      fin_cases i
      · show b.val / 4 % 2 ≤ (y 0).val ∧ (y 0).val < b.val / 4 % 2 + 1; omega
      · show 8 * (b.val / 8 % 2) ≤ (y 1).val ∧ (y 1).val < 8 * (b.val / 8 % 2) + 8; omega
      · show b.val / 16 ≤ (y 2).val ∧ (y 2).val < b.val / 16 + 1; omega
      · show 0 ≤ (y 3).val ∧ (y 3).val < 0 + 4; omega
      · show 256 * (b.val % 4) ≤ (y 4).val ∧ (y 4).val < 256 * (b.val % 4) + 256; omega
      · show 0 ≤ (y 5).val ∧ (y 5).val < 0 + 128; omega
  · have h0 : (y 0).val < 2 := (y 0).isLt
    have h1 : (y 1).val < 16 := (y 1).isLt
    have h2 : (y 2).val < 2 := (y 2).isLt
    have h4 : (y 4).val < 1024 := (y 4).isLt
    exact ⟨⟨16 * (y 2).val + 8 * ((y 1).val / 8) + 4 * (y 0).val + (y 4).val / 256, by omega⟩, rfl⟩

/-- The slots of a ring. -/
theorem xrS_tiles : Tiles xrS := axis_tiles 0 1 (fun _ => (Nat.one_mul _).symm) (by intro b a h; fin_cases a <;> first | rfl | exact absurd rfl h) rfl (by decide) rfl
theorem wrS_tiles : Tiles wrS := axis_tiles 0 1 (fun _ => (Nat.one_mul _).symm) (by intro b a h; fin_cases a <;> first | rfl | exact absurd rfl h) rfl (by decide) rfl
theorem orS_tiles : Tiles orS := axis_tiles 0 1 (fun _ => (Nat.one_mul _).symm) (by intro b a h; fin_cases a <;> first | rfl | exact absurd rfl h) rfl (by decide) rfl

/-! ## Whole buffers and their blocks -/

section Blocks
variable (c : Dev nD)

theorem x_eq (XA : Buf (Elt F) (xM.view.loc (c : Thread nD τ))) :
    (((c : Thread nD τ).loc main_arg0) ↦{fullShare} XA : sProp 𝕄) = bigSep Finset.univ (xhomeP c XA) := by
  rw [Ring.pointsTo_blocks (ℓ := (c : Thread nD τ).loc main_arg0) xS xS_tiles.1 xS_tiles.2]
  exact bigSep_congr fun b _ => by rw [show xS b = (xblk b).view.set from (View.set_slice_whole _ _).symm]; rfl
theorem w_eq (WA : Buf (Elt F) (wM.view.loc (c : Thread nD τ))) :
    (((c : Thread nD τ).loc main_arg1) ↦{fullShare} WA : sProp 𝕄) = bigSep Finset.univ (whomeP c WA) := by
  rw [Ring.pointsTo_blocks (ℓ := (c : Thread nD τ).loc main_arg1) wS wS_tiles.1 wS_tiles.2]
  exact bigSep_congr fun b _ => by rw [show wS b = (wblk b).view.set from (View.set_slice_whole _ _).symm]; rfl
theorem o_eq (G : Buf (Elt F) (oM.view.loc (c : Thread nD τ))) :
    (((c : Thread nD τ).loc main_v0) ↦{fullShare} G : sProp 𝕄) = bigSep Finset.univ (fun t => oHomeP c t G) := by
  rw [Ring.pointsTo_blocks (ℓ := (c : Thread nD τ).loc main_v0) oS oS_tiles.1 oS_tiles.2]
  exact bigSep_congr fun b _ => by rw [show oS b = (oblk b).view.set from (View.set_slice_whole _ _).symm]; rfl

theorem xslotP_eq (s : Fin 3) (f) : xslotP (F := F) c s f = (((c : Thread nD τ).loc cc0_scoped0) ↦[xrS s]{fullShare} f : sProp 𝕄) :=
  congrArg (fun S => (_ ↦[S]{fullShare} f : sProp 𝕄)) ((View.set_reshape _ _).trans (View.set_slice_whole _ _))
theorem wslotP_eq (s : Fin 2) (f) : wslotP (F := F) c s f = (((c : Thread nD τ).loc cc0_scoped2) ↦[wrS s]{fullShare} f : sProp 𝕄) :=
  congrArg (fun S => (_ ↦[S]{fullShare} f : sProp 𝕄)) ((View.set_reshape _ _).trans (View.set_slice_whole _ _))
theorem oslotP_eq (s : Fin 2) (f) : oslotP (F := F) c s f = (((c : Thread nD τ).loc cc0_scoped4) ↦[orS s]{fullShare} f : sProp 𝕄) :=
  congrArg (fun S => (_ ↦[S]{fullShare} f : sProp 𝕄)) ((View.set_reshape _ _).trans (View.set_slice_whole _ _))

theorem xring : (iprop(∃ f : Buf (Elt F) ((c : Thread nD τ).loc cc0_scoped0), ((c : Thread nD τ).loc cc0_scoped0) ↦{fullShare} f) : sProp 𝕄)
    ⊣⊢ iprop((∃ f, xslotP c 0 f) ∗ (∃ f, xslotP c 1 f) ∗ ∃ f, xslotP c 2 f) := by
  have h := some_blocks (F := F) (U := UU nD τ) (ℓ := (c : Thread nD τ).loc cc0_scoped0) xrS xrS_tiles (xR.view.junk)
  rw [bigSep_three] at h
  simp only [xslotP_eq]
  exact h
theorem wring : (iprop(∃ f : Buf (Elt F) ((c : Thread nD τ).loc cc0_scoped2), ((c : Thread nD τ).loc cc0_scoped2) ↦{fullShare} f) : sProp 𝕄)
    ⊣⊢ iprop((∃ f, wslotP c 0 f) ∗ ∃ f, wslotP c 1 f) := by
  have h := some_blocks (F := F) (U := UU nD τ) (ℓ := (c : Thread nD τ).loc cc0_scoped2) wrS wrS_tiles (wR.view.junk)
  rw [bigSep_two] at h
  simp only [wslotP_eq]
  exact h
theorem oring : (iprop(∃ f : Buf (Elt F) ((c : Thread nD τ).loc cc0_scoped4), ((c : Thread nD τ).loc cc0_scoped4) ↦{fullShare} f) : sProp 𝕄)
    ⊣⊢ iprop((∃ f, oslotP c 0 f) ∗ ∃ f, oslotP c 1 f) := by
  have h := some_blocks (F := F) (U := UU nD τ) (ℓ := (c : Thread nD τ).loc cc0_scoped4) orS orS_tiles (oR.view.junk)
  rw [bigSep_two] at h
  simp only [oslotP_eq]
  exact h

/-! ## The region's invariant -/

/-- The kernel's own semaphores. -/
abbrev cells : Fin 7 → SemLoc sig := ![.dma (xsem 0).sem, .dma (xsem 1).sem, .dma (xsem 2).sem, .dma (wsem 0).sem, .dma (wsem 1).sem, .dma (osem 0).sem, .dma (osem 1).sem]
theorem cells_own : Pipeline.OwnSemFacts (cfg0.spec) cells := by decide +kernel
theorem cells_eq : (Pipeline.ownSems0 (Ix := Unit) (Name := ℕ) (U := UU nD τ) (Lvl := ℕ) (Val := Elt F) (τ := τ) cells c : sProp 𝕄)
    = iprop(xcellP c 0 ∗ xcellP c 1 ∗ xcellP c 2 ∗ wcellP c 0 ∗ wcellP c 1 ∗ ocellP c 0 ∗ ocellP c 1) :=
  Pipeline.ownSems0_eq_of_list c cells [0, 1, 2, 3, 4, 5, 6] (by decide) (by decide)

abbrev readR : Finset (Ref sig .tc) := {main_arg0, main_arg1}
abbrev writeR : Finset (Ref sig .tc) := {main_v0}
theorem readR_sub : readR ⊆ Pipeline.restRefs sig (cfg0.spec) := by decide
theorem writeR_sub : writeR ⊆ Pipeline.restRefs sig (cfg0.spec) \ readR := by decide
theorem read_eq (V : (b : Ref sig .tc) → Buf (Elt F) ((c : Thread nD τ).loc b)) :
    (bigSep readR (fun b => ((c : Thread nD τ).loc b) ↦{fullShare} V b) : sProp 𝕄)
      = iprop((((c : Thread nD τ).loc main_arg0) ↦{fullShare} V main_arg0) ∗ (((c : Thread nD τ).loc main_arg1) ↦{fullShare} V main_arg1)) := by
  rw [BI.bigSep_eq_bigSepL_of_eq [main_arg0, main_arg1] (by decide) (by decide)]; rfl

/-- What the body's run takes and leaves of the region: the result at the contents `G`. -/
def regionP (XA : Buf (Elt F) (xM.view.loc (c : Thread nD τ))) (WA : Buf (Elt F) (wM.view.loc (c : Thread nD τ))) (G : Buf (Elt F) (oM.view.loc (c : Thread nD τ))) : sProp 𝕄 :=
  iprop(freeP c ∗ arrP c XA WA G ∗ ∃ r, prngReg c r)

theorem region_eq (V G : (c : Dev nD) → (b : Ref sig .tc) → Buf (Elt F) ((c : Thread nD τ).loc b)) :
    (Pipeline.ΦDRG cells (cfg0.spec) readR writeR V G c : sProp 𝕄) ⊣⊢ regionP c (V c main_arg0) (V c main_arg1) (G c main_v0) := by
  have ews : ∀ f : Buf (Elt F) (wsM.view.loc (c : Thread nD τ)), wsP (F := F) c f = (((c : Thread nD τ).loc cc0_scratch0) ↦{fullShare} f : sProp 𝕄) :=
    fun f => congrArg (fun S => (_ ↦[S]{fullShare} f : sProp 𝕄)) (View.set_whole cc0_scratch0)
  have eas : ∀ f : Buf (Elt F) (asM.view.loc (c : Thread nD τ)), asP (F := F) c f = (((c : Thread nD τ).loc cc0_scratch1) ↦{fullShare} f : sProp 𝕄) :=
    fun f => congrArg (fun S => (_ ↦[S]{fullShare} f : sProp 𝕄)) (View.set_whole cc0_scratch1)
  rw [Pipeline.ΦDRG_eq, scopedRest0_eq, cells_eq, read_eq, show Pipeline.routed writeR c (G c) = _ from Pipeline.routed_singleton main_v0 c (G c),
    x_eq, w_eq, o_eq]
  unfold regionP freeP arrP
  simp only [ews, eas]
  exact region_pack_two (xring c) (wring c) (oring c)

end Blocks

/-! ## The body at the one point, and the run -/

section Launch
variable (m : (ℓ : Loc nD τ sig) → Buf (Elt F) ℓ) (ρ : Dev nD → PrngReg)

abbrev XAt (c : Dev nD) : Buf (Elt F) (xM.view.loc (c : Thread nD τ)) := m ((c : Thread nD τ).loc main_arg0)
abbrev WAt (c : Dev nD) : Buf (Elt F) (wM.view.loc (c : Thread nD τ)) := m ((c : Thread nD τ).loc main_arg1)
/-- The contents the region returns: the result at what the blocks compute. -/
def endG (c : Dev nD) (b : Ref sig .tc) : Buf (Elt F) ((c : Thread nD τ).loc b) := Function.update (V m c) main_v0 (outA c (XAt m c) (WAt m c)) b

def dats (_ : Fin 1) (c : Dev nD) : Dat τ (Elt F) Unit ℕ (UU nD τ) ℕ cfg0 c where
  A w := V m c (Pipeline.arrRef (cfg0.spec) w)
  after w _ := w.elim0
  Φ t := if t.val = 0 then regionP c (XAt m c) (WAt m c) (V m c main_v0) else regionP c (XAt m c) (WAt m c) (outA c (XAt m c) (WAt m c))
  q _ := fullShare
  owed _ := 0

theorem prog_eq (t : Fin cfg0.N) : (defs₀ (F := F)) .tc cfg0.body (cfg0.bodyArgs t (cfg0.slots t)) = bodyP (F := F) := by
  have e : (defs₀ (F := F)) .tc cfg0.body (cfg0.bodyArgs t (cfg0.slots t)) = bodyAt0 t := by unfold defs₀; rw [Defs.onTc_tc]
  rw [e]
  unfold bodyAt0
  rw [cc0_proj_d4_none_eq_skeleton]

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ (t0_0).castSucc = regionP c (XAt m c) (WAt m c) (V m c main_v0) from rfl, show (dats m 0 c).Φ (t0_0).succ = regionP c (XAt m c) (WAt m c) (outA c (XAt m c) (WAt m c)) from rfl]
  unfold Dat.owesAt Pipeline.owesWithin
  rw [show (dats m 0 c).owed (t0_0).castSucc = 0 from rfl, show (dats m 0 c).owed (t0_0).succ = 0 from rfl]
  unfold regionP
  iintro ⟨⟨Hf, Ha, Hr⟩, ⟨%W, -, HW⟩, HE⟩
  sl_rw [prog_eq t0_0]
  iapply (wp_wand_r Idealize.ShloMosaic.frame (wpE (defs₀ (F := F)) 𝒱₀ (c : Thread nD τ) none) Set.univ)
  isplitl [Hf Ha HW]
  · iapply (body_run c (XAt m c) (WAt m c) (V m c main_v0) W)
    isplitl [HW]; · iexact HW
    isplitl [Hf]; · iexact Hf
    iexact Ha
  iintro %a ⟨⟨%W', HW⟩, Hf, Ha⟩
  isplitl [Hf Ha Hr]
  · isplitl [Hf]; · iexact Hf
    isplitl [Ha]; · iexact Ha
    iexact Hr
  isplitl [HW]
  · iexists W'; isplitr; · ipureintro; exact fun _ _ => Or.inl trivial
    iexact HW
  iexact HE

set_option backward.isDefEq.respectTransparency.types false in
theorem run_post : θ_run defs (onTc (τ := τ) (main (F := F))) (s₀ m ρ)
    (fun r => Pipeline.FramePostRG cfgs (dats m) 0 writeR (V m) (endG m) r ∧ r.2.sem = fun _ => 0) :=
  Pipeline.θ_run_frame_dmaRG (Q' := _) cfgs (dats m) (0 : Fin 1) launch0 cells defs₀ 𝒱₀ cells_own readR writeR readR_sub writeR_sub m ρ main
    (hbody := fun c => (body_obligation m c).loose) (hshare := fun c => (dats m 0 c).share_full fun _ => rfl)
    (howed := fun _ _ => rfl) (V := V m) (hmain := Pipeline.hmain_region cfgs 0 defs₀ 𝒱₀ m main fun c => (main_chain c).trans rfl) (hA := fun _ _ => rfl)
    (G := endG m) (hin := fun c => (region_eq c (V m) (V m)).1)
    (hout := fun c => (region_eq c (V m) (endG m)).2)

/-- The program runs to the end: the arguments unchanged, the result at what the blocks compute, every counter at zero. -/
theorem run_main : θ_run defs (onTc (τ := τ) (main (F := F))) (s₀ m ρ) (fun r => (∀ c : Dev nD,
      r.2.mem ((c : Thread nD τ).loc main_v0) = outA c (XAt m c) (WAt m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun r h => ⟨fun c => ⟨h.1.written c (Finset.mem_singleton_self _), (h.1.toR c).2 main_arg0 (by decide), (h.1.toR c).2 main_arg1 (by decide)⟩, h.2⟩)
    (run_post m ρ)

end Launch

end Cert.Kernel4Ideal.Hand

end
-- ==== Proof.Hand4.Value.lean ====
/-
  The result at the ideal instance: both programs' results as one sum over the contracted axis, index by index.
-/
module

public import proofs.«01_k».proof.Proof.Hand4.Pieces
public import proofs.«01_k».proof.Proof.Gen.Reference4Ideal.Run
public import Idealize.ShloMosaic.PureOps.Ideal
public import Idealize.ShloMosaic.Lib.Pointwise

@[expose] public section

noncomputable section

namespace Cert.Kernel4Ideal.Hand

open Cert.Kernel4Ideal Cert.Kernel4Ideal.Gen
open Idealize.ShloMosaic Idealize.ShloMosaic.TcCoe
open Idealize.SL.Sem

/-- Element `i` of the result: row `4 * i 4 + i 3` of batch `i 0` of the activations against the column of head `i 1`, lane `i 5`, of part `2 + i 2`. -/
def SPEC (x : S2x4096x2048.Idx → EReal) (w : S2048x12288.Idx → EReal) : S2x16x2x4x1024x128.Idx → EReal := fun i =>
  ∑ k : Fin 2048, x (ix3 (i 0 : Fin 2) (⟨4 * (i 4).val + (i 3).val, by
      have h3 : (i 3).val < 4 := (i 3).isLt; have h4 : (i 4).val < 1024 := (i 4).isLt; omega⟩ : Fin 4096) k)
    * w (ix2 k (⟨4096 + (i 2).val * 2048 + (i 1).val * 128 + (i 5).val, by
        have h2 : (i 2).val < 2 := (i 2).isLt; have h1 : (i 1).val < 16 := (i 1).isLt; have h5 : (i 5).val < 128 := (i 5).isLt; omega⟩ : Fin 12288))

variable (c : Dev nD)
  (XA : Buf (Elt Ideal) (xM.view.loc (c : Thread nD τ))) (WA : Buf (Elt Ideal) (wM.view.loc (c : Thread nD τ)))

theorem xblk_at (b : Fin 8) (r : Fin 1024) (k : Fin 2048) :
    xpay c XA b (ix3 0 r k) = XA (ix3 (⟨b.val / 4, by omega⟩ : Fin 2) (⟨1024 * (b.val % 4) + r.val, by omega⟩ : Fin 4096) k : S2x4096x2048.Idx) := by
  show XA ((Rect.unit (s := S2x4096x2048) (xblkOff b) S1x1024x2048.size (xblkOff_inb b)).emb (ix3 0 r k)) = _
  refine congrArg XA (funext fun a => Fin.ext ?_)
  match a with
  | ⟨0, _⟩ => show b.val / 4 + 1 * 0 = b.val / 4; omega
  | ⟨1, _⟩ => show 1024 * (b.val % 4) + 1 * r.val = 1024 * (b.val % 4) + r.val; omega
  | ⟨2, _⟩ => show 0 + 1 * k.val = k.val; omega

theorem wblk_at (n : Fin 12) (k : Fin 2048) (l : Fin 1024) :
    wpay c WA n (ix2 k l) = WA (ix2 k (⟨1024 * n.val + l.val, by omega⟩ : Fin 12288) : S2048x12288.Idx) := by
  show WA ((Rect.unit (s := S2048x12288) (wblkOff n) S2048x1024.size (wblkOff_inb n)).emb (ix2 k l)) = _
  refine congrArg WA (funext fun a => Fin.ext ?_)
  match a with
  | ⟨0, _⟩ => show 0 + 1 * k.val = k.val; omega
  | ⟨1, _⟩ => show 1024 * n.val + 1 * l.val = 1024 * n.val + l.val; omega

theorem prodB_at (t : ℕ) (r l : Fin 1024) : prodB c XA WA t (ix2 r l) = ∑ k : Fin 2048, xpay c XA (xb t) (ix3 0 r k) * wpay c WA (wb t) (ix2 k l) := by
  unfold prodB prod wsV
  generalize xpay c XA (xb t) = x
  generalize wpay c WA (wb t) = w
  pointwise [k0_pay3, k0_pay2]

theorem out_spec : outA c XA WA = SPEC XA WA := by
  funext i
  have h0 : ((i : S2x16x2x4x1024x128.Idx) 0).val < 2 := (i 0).isLt
  have h1 : ((i : S2x16x2x4x1024x128.Idx) 1).val < 16 := (i 1).isLt
  have h2 : ((i : S2x16x2x4x1024x128.Idx) 2).val < 2 := (i 2).isLt
  have h4 : ((i : S2x16x2x4x1024x128.Idx) 4).val < 1024 := (i 4).isLt
  have h3 : ((i : S2x16x2x4x1024x128.Idx) 3).val < 4 := (i 3).isLt
  have h5 : ((i : S2x16x2x4x1024x128.Idx) 5).val < 128 := (i 5).isLt
  unfold outA SPEC
  refine (prodB_at c XA WA _ _ _).trans (Finset.sum_congr (M := EReal) rfl fun k _ => ?_)
  rw [xblk_at, wblk_at]
  have eb : (xb (tripOf i)).val = (i 0).val * 4 + (i 4).val / 256 := by
    show tripOf i % 8 = _; unfold tripOf; omega
  have en : (wb (tripOf i)).val = 4 + ((i 2).val * 2 + (i 1).val / 8) := by
    show (4 + tripOf i / 8) % 12 = _; unfold tripOf; omega
  congr 2
  · congr 1 <;> apply Fin.ext <;> simp only [eb] <;> omega
  · congr 1; apply Fin.ext; simp only [en]; omega

/-- The reference's result as its operations compose. -/
def refOut (x : FVec Ideal S2x4096x2048 .bf16) (w : FVec Ideal S2048x12288 .f32) : FVec Ideal S2x16x2x4x1024x128 .bf16 :=
  open Cert.Reference4Ideal Cert.Reference4Ideal.Gen in truncf .bf16 (concatenate S2x16x2x4x1024x128 2 [⟨S2x16x1x4x1024x128, (broadcastInDim S2x16x1x4x1024x128 ![0, 1, 3, 4, 5] bcast_S2x16x4x1024x128_S2x16x1x4x1024x128_0_1_3_4_5 (transpose S2x16x4x1024x128 [0, 3, 2, 1, 4] (shapeCast _ (extractStridedSlice S2x4096x2048 ![0, 0, 4096] (Host.dotGeneral dot_S2x4096x2048_S2048x12288_S2x4096x12288_2_0_01_1_n_n none (extf .f32 x Cert.Reference4Ideal.Gen.bitsLt_bf16_f32) w) slices_S2x4096x12288_S2x4096x2048_0_0_4096) shapeCasts_S2x4096x2048_S2x1024x4x16x128) transposes_S2x1024x4x16x128_S2x16x4x1024x128_0_3_2_1_4))⟩, ⟨S2x16x1x4x1024x128, (broadcastInDim S2x16x1x4x1024x128 ![0, 1, 3, 4, 5] bcast_S2x16x4x1024x128_S2x16x1x4x1024x128_0_1_3_4_5 (transpose S2x16x4x1024x128 [0, 3, 2, 1, 4] (shapeCast _ (extractStridedSlice S2x4096x2048 ![0, 0, 6144] (Host.dotGeneral dot_S2x4096x2048_S2048x12288_S2x4096x12288_2_0_01_1_n_n none (extf .f32 x Cert.Reference4Ideal.Gen.bitsLt_bf16_f32) w) slices_S2x4096x12288_S2x4096x2048_0_0_6144) shapeCasts_S2x4096x2048_S2x1024x4x16x128) transposes_S2x1024x4x16x128_S2x16x4x1024x128_0_3_2_1_4))⟩] concatenates_S2x16x1x4x1024x128_S2x16x1x4x1024x128_S2x16x2x4x1024x128_d2) Cert.Reference4Ideal.Gen.bitsLt_bf16_f32

/-- The reference's result is the same sum. -/
theorem ref_spec (x : S2x4096x2048.Idx → EReal) (w : S2048x12288.Idx → EReal) : refOut x w = SPEC x w := by
  funext i
  have h2 : ((i : S2x16x2x4x1024x128.Idx) 2).val < 2 := (i 2).isLt
  unfold refOut SPEC
  pointwise
  split
  · refine Finset.sum_congr rfl fun k _ => ?_
    congr 3 <;> (apply Fin.ext; dsimp only; omega)
  · refine Finset.sum_congr rfl fun k _ => ?_
    congr 3 <;> (apply Fin.ext; dsimp only; omega)

end Cert.Kernel4Ideal.Hand

end
-- ==== Proof.Hand5.Words.lean ====
/-
  The words one trip of the pipelined loop carries and reads, in closed form: the counters of blocks fetched and
  waited for, the grid indices, and with them every guard, offset and check of a trip, for each of the 16 trips.
-/
module

public import proofs.«01_k».proof.Proof.Gen.Kernel5Ideal.Skeleton
public import Idealize.ShloMosaic.Lib.Ring

@[expose] public section

noncomputable section

namespace Cert.Kernel5Ideal.Hand

open Cert.Kernel5Ideal Cert.Kernel5Ideal.Gen
open Idealize.ShloMosaic

/-! ## The carried words before trip `k` -/

def fx (k : ℕ) : BitVec 32 := BitVec.ofNat 32 (min (k + 2) 16)
def cx (k : ℕ) : BitVec 32 := BitVec.ofNat 32 k
def fw (k : ℕ) : BitVec 32 := BitVec.ofNat 32 (min (k / 8 + 1) 2)
def cw (k : ℕ) : BitVec 32 := BitVec.ofNat 32 (k / 8)
def fo (k : ℕ) : BitVec 32 := BitVec.ofNat 32 k
def co (k : ℕ) : BitVec 32 := BitVec.ofNat 32 (k - 1)
def gn (k : ℕ) : BitVec 32 := BitVec.ofNat 32 (k / 8 % 2)
def gb (k : ℕ) : BitVec 32 := BitVec.ofNat 32 (k / 4 % 2)
def gi (k : ℕ) : BitVec 32 := BitVec.ofNat 32 (k % 4)

theorem trips_eq : k0_t1_loop.trips = 16 := by decide

theorem all_trips {P : Fin k0_t1_loop.trips → Prop} (h : ∀ k : Fin 16, P (k.cast trips_eq.symm)) : ∀ k, P k :=
  fun k => h (k.cast trips_eq)

theorem cond2_iff : ∀ k : Fin k0_t1_loop.trips, k0_cond2 k (gb k.val) (gi k.val) = 1#1 ↔ k.val < 14 := all_trips (by decide +kernel)
theorem cond3_iff : ∀ k : Fin k0_t1_loop.trips, k0_cond3 k (gn k.val) (gb k.val) (gi k.val) = 1#1 ↔ k.val % 8 = 7 ∧ k.val < 15 := all_trips (by decide +kernel)
theorem cond4_iff : ∀ k : Fin k0_t1_loop.trips, k0_cond4 k (gb k.val) (gi k.val) = 1#1 := all_trips (by decide +kernel)
theorem cond5_iff : ∀ k : Fin k0_t1_loop.trips, k0_cond5 k (gn k.val) (gb k.val) (gi k.val) = 1#1 ↔ k.val % 8 = 0 := all_trips (by decide +kernel)
theorem cond7_iff : ∀ k : Fin k0_t1_loop.trips, k0_cond7 (gb k.val) (gi k.val) = 1#1 ↔ k.val % 8 = 0 := all_trips (by decide +kernel)
theorem cond10_iff : ∀ k : Fin k0_t1_loop.trips, k0_cond10 k (gn k.val) (gb k.val) (gi k.val) = 1#1 := all_trips (by decide +kernel)
theorem cond13_iff : ∀ k : Fin k0_t1_loop.trips, k0_cond13 k (gn k.val) (gb k.val) (gi k.val) = 1#1 ↔ 1 ≤ k.val := all_trips (by decide +kernel)
theorem chk1_all : ∀ k : Fin k0_t1_loop.trips, k0_chk1 k (fx k.val) (cx k.val) (fw k.val) (cw k.val) (fo k.val) (co k.val) (gn k.val) (gb k.val) (gi k.val) := all_trips (by decide +kernel)
theorem chk2_all : ∀ k : Fin k0_t1_loop.trips, k0_chk2 (cx k.val) := all_trips (by decide +kernel)
theorem chk3_all : ∀ k : Fin k0_t1_loop.trips, k0_chk3 (fo k.val) := all_trips (by decide +kernel)

end Cert.Kernel5Ideal.Hand

end
-- ==== Proof.Hand5.Names.lean ====
/-
  The pieces of memory a trip of the pipelined loop names, under one name each: the blocks of the three arrays in HBM,
  the slots of the three rings in VMEM and their transfer semaphores; and, for each slice the program takes at run-time
  offsets, the name it is at trip `k`.
-/
module

public import proofs.«01_k».proof.Proof.Hand5.Words
public import Idealize.ShloMosaic.Lib.Ring.Trips
public import Idealize.ShloMosaic.Lib.Tactic

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)

/-! ## The arrays, the rings and the scratch buffers -/

abbrev xM : Memref sig .tc .hbm S2x4096x2048 .bf16 := Memref.whole main_arg0
abbrev wM : Memref sig .tc .hbm S2048x8192 .f32 := Memref.whole main_arg1
abbrev oM : Memref sig .tc .hbm S2x16x1x1x4096x128 .f32 := Memref.whole main_v0
abbrev wsM : Memref sig .tc .vmem S2048x1024 .bf16 := Memref.whole cc0_scratch0
abbrev asM : Memref sig .tc .vmem S8x1024x128 .f32 := Memref.whole cc0_scratch1
abbrev xR : Memref sig .tc .vmem S3x1x1024x2048 .bf16 := Memref.whole cc0_scoped0
abbrev wR : Memref sig .tc .vmem S2x2048x1024 .f32 := Memref.whole cc0_scoped2
abbrev oR : Memref sig .tc .vmem S2x1x8x1x1x1024x128 .f32 := Memref.whole cc0_scoped4

/-! ## Block and slot numbers -/

/-- The activations' block at trip `k`: 1024 rows, eight of them, the whole array once per block of the weights. -/
def xb (k : ℕ) : Fin 8 := Fin.ofNat 8 k
/-- The weights' block at trip `k`: 1024 columns, the last two blocks of eight. -/
def wb (k : ℕ) : Fin 8 := Fin.ofNat 8 (6 + k / 8)
/-- The result's block at trip `k`. -/
def ob (k : ℕ) : Fin 16 := Fin.ofNat 16 k

abbrev xblkOff (b : Fin 8) : Fin 3 → Nat := ![b.val / 4, 1024 * (b.val % 4), 0]
abbrev wblkOff (n : Fin 8) : Fin 2 → Nat := ![0, 1024 * n.val]
abbrev oblkOff (t : Fin 16) : Fin 6 → Nat := ![t.val / 4 % 2, 8 * (t.val / 8), 0, 0, 1024 * (t.val % 4), 0]
abbrev xslotOff (s : Fin 3) : Fin 4 → Nat := ![s.val, 0, 0, 0]
abbrev wslotOff (s : Fin 2) : Fin 3 → Nat := ![s.val, 0, 0]
abbrev oslotOff (s : Fin 2) : Fin 7 → Nat := ![s.val, 0, 0, 0, 0, 0, 0]
abbrev sem3Off (s : Fin 3) : Fin 1 → Nat := ![s.val]
abbrev sem2Off (s : Fin 2) : Fin 1 → Nat := ![s.val]

theorem xblkOff_inb (b : Fin 8) : ∀ a, xblkOff b a + S1x1024x2048.size a ≤ S2x4096x2048.size a := by revert b; decide
theorem wblkOff_inb (n : Fin 8) : ∀ a, wblkOff n a + S2048x1024.size a ≤ S2048x8192.size a := by revert n; decide
theorem oblkOff_inb (t : Fin 16) : ∀ a, oblkOff t a + S1x8x1x1x1024x128.size a ≤ S2x16x1x1x4096x128.size a := by revert t; decide
theorem xslotOff_inb (s : Fin 3) : ∀ a, xslotOff s a + S1x1x1024x2048.size a ≤ S3x1x1024x2048.size a := by revert s; decide
theorem wslotOff_inb (s : Fin 2) : ∀ a, wslotOff s a + S1x2048x1024.size a ≤ S2x2048x1024.size a := by revert s; decide
theorem oslotOff_inb (s : Fin 2) : ∀ a, oslotOff s a + S1x1x8x1x1x1024x128.size a ≤ S2x1x8x1x1x1024x128.size a := by revert s; decide
theorem sem3Off_inb (s : Fin 3) : ∀ a, sem3Off s a + S1.size a ≤ S3.size a := by revert s; decide
theorem sem2Off_inb (s : Fin 2) : ∀ a, sem2Off s a + S1.size a ≤ S2.size a := by revert s; decide

def xblk (b : Fin 8) : Memref sig .tc .hbm S1x1024x2048 .bf16 :=
  xM.slice (Rect.unit (s := S2x4096x2048) (xblkOff b) S1x1024x2048.size (xblkOff_inb b)) (fun _ => rfl)
def wblk (n : Fin 8) : Memref sig .tc .hbm S2048x1024 .f32 :=
  wM.slice (Rect.unit (s := S2048x8192) (wblkOff n) S2048x1024.size (wblkOff_inb n)) (fun _ => rfl)
def oblk (t : Fin 16) : Memref sig .tc .hbm S1x8x1x1x1024x128 .f32 :=
  oM.slice (Rect.unit (s := S2x16x1x1x4096x128) (oblkOff t) S1x8x1x1x1024x128.size (oblkOff_inb t)) (fun _ => rfl)
def xslot (s : Fin 3) : Memref sig .tc .vmem S1x1024x2048 .bf16 :=
  (xR.slice (Rect.unit (s := S3x1x1024x2048) (xslotOff s) S1x1x1024x2048.size (xslotOff_inb s)) (fun _ => rfl)).squeeze S1x1024x2048 squeezes_S1x1x1024x2048_S1x1024x2048
def wslot (s : Fin 2) : Memref sig .tc .vmem S2048x1024 .f32 :=
  (wR.slice (Rect.unit (s := S2x2048x1024) (wslotOff s) S1x2048x1024.size (wslotOff_inb s)) (fun _ => rfl)).squeeze S2048x1024 squeezes_S1x2048x1024_S2048x1024
def oslot (s : Fin 2) : Memref sig .tc .vmem S1x8x1x1x1024x128 .f32 :=
  (oR.slice (Rect.unit (s := S2x1x8x1x1x1024x128) (oslotOff s) S1x1x8x1x1x1024x128.size (oslotOff_inb s)) (fun _ => rfl)).squeeze S1x8x1x1x1024x128 squeezes_S1x1x8x1x1x1024x128_S1x8x1x1x1024x128
def xsem (s : Fin 3) : DmaSems sig S_ := (cc0_scoped1.slice (Rect.unit (s := S3) (sem3Off s) S1.size (sem3Off_inb s))).squeeze S_ squeezes_S1_S_
def wsem (s : Fin 2) : DmaSems sig S_ := (cc0_scoped3.slice (Rect.unit (s := S2) (sem2Off s) S1.size (sem2Off_inb s))).squeeze S_ squeezes_S1_S_
def osem (s : Fin 2) : DmaSems sig S_ := (cc0_scoped5.slice (Rect.unit (s := S2) (sem2Off s) S1.size (sem2Off_inb s))).squeeze S_ squeezes_S1_S_

instance (b : Fin 8) : ClosedOff (xblkOff b) := ⟨xblkOff b, rfl⟩
instance (n : Fin 8) : ClosedOff (wblkOff n) := ⟨wblkOff n, rfl⟩
instance (t : Fin 16) : ClosedOff (oblkOff t) := ⟨oblkOff t, rfl⟩
instance (s : Fin 3) : ClosedOff (xslotOff s) := ⟨xslotOff s, rfl⟩
instance (s : Fin 2) : ClosedOff (wslotOff s) := ⟨wslotOff s, rfl⟩
instance (s : Fin 2) : ClosedOff (oslotOff s) := ⟨oslotOff s, rfl⟩

/-! ## The offsets of trip `k` -/

section Offsets
variable (k : Fin k0_t1_loop.trips)

theorem off8_eq (h : k.val < 14) : k0_off8 (fx k.val) = sem3Off (sl 3 (k.val + 2)) := by revert k; exact all_trips (by decide +kernel)
theorem off9_eq (h : k.val < 14) : k0_off9 (fx k.val) = xslotOff (sl 3 (k.val + 2)) := by revert k; exact all_trips (by decide +kernel)
theorem off10_eq (h : k.val < 14) : k0_off10 (gb k.val) (gi k.val) = xblkOff (xb (k.val + 2)) := by revert k; exact all_trips (by decide +kernel)
theorem off11_eq (h : k.val % 8 = 7 ∧ k.val < 15) : k0_off11 (fw k.val) = sem2Off (sl 2 (k.val / 8 + 1)) := by revert k; exact all_trips (by decide +kernel)
theorem off12_eq (h : k.val % 8 = 7 ∧ k.val < 15) : k0_off12 (fw k.val) = wslotOff (sl 2 (k.val / 8 + 1)) := by revert k; exact all_trips (by decide +kernel)
theorem off13_eq (h : k.val % 8 = 7 ∧ k.val < 15) : k0_off13 (gn k.val) (gb k.val) (gi k.val) = wblkOff (wb (k.val + 1)) := by revert k; exact all_trips (by decide +kernel)
theorem off14_eq : k0_off14 (cx k.val) = sem3Off (sl 3 k.val) := by revert k; exact all_trips (by decide +kernel)
theorem off15_eq : k0_off15 (cx k.val) = xslotOff (sl 3 k.val) := by revert k; exact all_trips (by decide +kernel)
theorem off16_eq : k0_off16 (gb k.val) (gi k.val) = xblkOff (xb k.val) := by revert k; exact all_trips (by decide +kernel)
theorem off17_eq : k0_off17 (cw k.val) = sem2Off (sl 2 (k.val / 8)) := by revert k; exact all_trips (by decide +kernel)
theorem off18_eq : k0_off18 (cw k.val) = wslotOff (sl 2 (k.val / 8)) := by revert k; exact all_trips (by decide +kernel)
theorem off19_eq : k0_off19 (gn k.val) = wblkOff (wb k.val) := by revert k; exact all_trips (by decide +kernel)
theorem off20_eq : k0_off20 (cw k.val) = wslotOff (sl 2 (k.val / 8)) := by revert k; exact all_trips (by decide +kernel)
theorem off21_eq : k0_off21 (cx k.val) = xslotOff (sl 3 k.val) := by revert k; exact all_trips (by decide +kernel)
theorem off22_eq : k0_off22 (fo k.val) = oslotOff (sl 2 k.val) := by revert k; exact all_trips (by decide +kernel)
theorem off23_eq : k0_off23 (fo k.val) = sem2Off (sl 2 k.val) := by revert k; exact all_trips (by decide +kernel)
theorem off24_eq : k0_off24 (gn k.val) (gb k.val) (gi k.val) = oblkOff (ob k.val) := by revert k; exact all_trips (by decide +kernel)
theorem off25_eq : k0_off25 (fo k.val) = oslotOff (sl 2 k.val) := by revert k; exact all_trips (by decide +kernel)
theorem off26_eq (h : 1 ≤ k.val) : k0_off26 (co k.val) = sem2Off (sl 2 (k.val + 1)) := by revert k; exact all_trips (by decide +kernel)
theorem off27_eq (h : 1 ≤ k.val) : k0_off27 (gn k.val) (gb k.val) (gi k.val) = oblkOff (ob (k.val - 1)) := by revert k; exact all_trips (by decide +kernel)
theorem off28_eq (h : 1 ≤ k.val) : k0_off28 (co k.val) = oslotOff (sl 2 (k.val + 1)) := by revert k; exact all_trips (by decide +kernel)

instance : ClosedOff (k0_off20 (cw k.val)) := ⟨wslotOff (sl 2 (k.val / 8)), off20_eq k⟩

end Offsets

/-! ## The slices of trip `k` under their names -/

section Canon

theorem xsem_congr {off : Fin 1 → Nat} {s : Fin 3} (e : off = sem3Off s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 2} (e : off = sem2Off s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
theorem osem_congr {off : Fin 1 → Nat} {s : Fin 2} (e : off = sem2Off s) (hh) :
    (cc0_scoped5.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 4 → Nat} {s : Fin 3} (e : off = xslotOff s) (hh hs) :
    (xR.slice (Rect.unit (s := S3x1x1024x2048) off S1x1x1024x2048.size hh) hs).squeeze S1x1024x2048 squeezes_S1x1x1024x2048_S1x1024x2048 = xslot s :=
  congrArg (fun M : Memref sig .tc .vmem S1x1x1024x2048 .bf16 => M.squeeze S1x1024x2048 squeezes_S1x1x1024x2048_S1x1024x2048) (Memref.slice_unit_congr _ e _ _ _ _)
theorem wslot_congr {off : Fin 3 → Nat} {s : Fin 2} (e : off = wslotOff s) (hh hs) :
    (wR.slice (Rect.unit (s := S2x2048x1024) off S1x2048x1024.size hh) hs).squeeze S2048x1024 squeezes_S1x2048x1024_S2048x1024 = wslot s :=
  congrArg (fun M : Memref sig .tc .vmem S1x2048x1024 .f32 => M.squeeze S2048x1024 squeezes_S1x2048x1024_S2048x1024) (Memref.slice_unit_congr _ e _ _ _ _)
theorem oslot_congr {off : Fin 7 → Nat} {s : Fin 2} (e : off = oslotOff s) (hh hs) :
    (oR.slice (Rect.unit (s := S2x1x8x1x1x1024x128) off S1x1x8x1x1x1024x128.size hh) hs).squeeze S1x8x1x1x1024x128 squeezes_S1x1x8x1x1x1024x128_S1x8x1x1x1024x128 = oslot s :=
  congrArg (fun M : Memref sig .tc .vmem S1x1x8x1x1x1024x128 .f32 => M.squeeze S1x8x1x1x1024x128 squeezes_S1x1x8x1x1x1024x128_S1x8x1x1x1024x128) (Memref.slice_unit_congr _ e _ _ _ _)
theorem xblk_congr {off : Fin 3 → Nat} {b : Fin 8} (e : off = xblkOff b) (hh hs) :
    xM.slice (Rect.unit (s := S2x4096x2048) off S1x1024x2048.size hh) hs = xblk b := Memref.slice_unit_congr _ e _ _ _ (fun _ => rfl)
theorem wblk_congr {off : Fin 2 → Nat} {b : Fin 8} (e : off = wblkOff b) (hh hs) :
    wM.slice (Rect.unit (s := S2048x8192) off S2048x1024.size hh) hs = wblk b := Memref.slice_unit_congr _ e _ _ _ (fun _ => rfl)
theorem oblk_congr {off : Fin 6 → Nat} {b : Fin 16} (e : off = oblkOff b) (hh hs) :
    oM.slice (Rect.unit (s := S2x16x1x1x4096x128) off S1x8x1x1x1024x128.size hh) hs = oblk b := Memref.slice_unit_congr _ e _ _ _ (fun _ => rfl)

variable (k : Fin k0_t1_loop.trips)

@[sl_canon] theorem xsem_off8 (h : k.val < 14) (hh) : (cc0_scoped1.slice (Rect.unit (s := S3) (k0_off8 (fx k.val)) S1.size hh)).squeeze S_ squeezes_S1_S_ = xsem (sl 3 (k.val + 2)) := xsem_congr (off8_eq k h) _
@[sl_canon] theorem xslot_off9 (h : k.val < 14) (hh hs) : (xR.slice (Rect.unit (s := S3x1x1024x2048) (k0_off9 (fx k.val)) S1x1x1024x2048.size hh) hs).squeeze S1x1024x2048 squeezes_S1x1x1024x2048_S1x1024x2048 = xslot (sl 3 (k.val + 2)) := xslot_congr (off9_eq k h) _ _
@[sl_canon] theorem xblk_off10 (h : k.val < 14) (hh hs) : xM.slice (Rect.unit (s := S2x4096x2048) (k0_off10 (gb k.val) (gi k.val)) S1x1024x2048.size hh) hs = xblk (xb (k.val + 2)) := xblk_congr (off10_eq k h) _ _
@[sl_canon] theorem wsem_off11 (h : k.val % 8 = 7 ∧ k.val < 15) (hh) : (cc0_scoped3.slice (Rect.unit (s := S2) (k0_off11 (fw k.val)) S1.size hh)).squeeze S_ squeezes_S1_S_ = wsem (sl 2 (k.val / 8 + 1)) := wsem_congr (off11_eq k h) _
@[sl_canon] theorem wslot_off12 (h : k.val % 8 = 7 ∧ k.val < 15) (hh hs) : (wR.slice (Rect.unit (s := S2x2048x1024) (k0_off12 (fw k.val)) S1x2048x1024.size hh) hs).squeeze S2048x1024 squeezes_S1x2048x1024_S2048x1024 = wslot (sl 2 (k.val / 8 + 1)) := wslot_congr (off12_eq k h) _ _
@[sl_canon] theorem wblk_off13 (h : k.val % 8 = 7 ∧ k.val < 15) (hh hs) : wM.slice (Rect.unit (s := S2048x8192) (k0_off13 (gn k.val) (gb k.val) (gi k.val)) S2048x1024.size hh) hs = wblk (wb (k.val + 1)) := wblk_congr (off13_eq k h) _ _
@[sl_canon] theorem xsem_off14 (hh) : (cc0_scoped1.slice (Rect.unit (s := S3) (k0_off14 (cx k.val)) S1.size hh)).squeeze S_ squeezes_S1_S_ = xsem (sl 3 k.val) := xsem_congr (off14_eq k) _
@[sl_canon] theorem xslot_off15 (hh hs) : (xR.slice (Rect.unit (s := S3x1x1024x2048) (k0_off15 (cx k.val)) S1x1x1024x2048.size hh) hs).squeeze S1x1024x2048 squeezes_S1x1x1024x2048_S1x1024x2048 = xslot (sl 3 k.val) := xslot_congr (off15_eq k) _ _
@[sl_canon] theorem xblk_off16 (hh hs) : xM.slice (Rect.unit (s := S2x4096x2048) (k0_off16 (gb k.val) (gi k.val)) S1x1024x2048.size hh) hs = xblk (xb k.val) := xblk_congr (off16_eq k) _ _
@[sl_canon] theorem wsem_off17 (hh) : (cc0_scoped3.slice (Rect.unit (s := S2) (k0_off17 (cw k.val)) S1.size hh)).squeeze S_ squeezes_S1_S_ = wsem (sl 2 (k.val / 8)) := wsem_congr (off17_eq k) _
@[sl_canon] theorem wslot_off18 (hh hs) : (wR.slice (Rect.unit (s := S2x2048x1024) (k0_off18 (cw k.val)) S1x2048x1024.size hh) hs).squeeze S2048x1024 squeezes_S1x2048x1024_S2048x1024 = wslot (sl 2 (k.val / 8)) := wslot_congr (off18_eq k) _ _
@[sl_canon] theorem wblk_off19 (hh hs) : wM.slice (Rect.unit (s := S2048x8192) (k0_off19 (gn k.val)) S2048x1024.size hh) hs = wblk (wb k.val) := wblk_congr (off19_eq k) _ _
@[sl_canon] theorem xslot_off21 (hh hs) : (xR.slice (Rect.unit (s := S3x1x1024x2048) (k0_off21 (cx k.val)) S1x1x1024x2048.size hh) hs).squeeze S1x1024x2048 squeezes_S1x1x1024x2048_S1x1024x2048 = xslot (sl 3 k.val) := xslot_congr (off21_eq k) _ _
@[sl_canon] theorem oslot_off22 (hh hs) : (oR.slice (Rect.unit (s := S2x1x8x1x1x1024x128) (k0_off22 (fo k.val)) S1x1x8x1x1x1024x128.size hh) hs).squeeze S1x8x1x1x1024x128 squeezes_S1x1x8x1x1x1024x128_S1x8x1x1x1024x128 = oslot (sl 2 k.val) := oslot_congr (off22_eq k) _ _
@[sl_canon] theorem osem_off23 (hh) : (cc0_scoped5.slice (Rect.unit (s := S2) (k0_off23 (fo k.val)) S1.size hh)).squeeze S_ squeezes_S1_S_ = osem (sl 2 k.val) := osem_congr (off23_eq k) _
@[sl_canon] theorem oblk_off24 (hh hs) : oM.slice (Rect.unit (s := S2x16x1x1x4096x128) (k0_off24 (gn k.val) (gb k.val) (gi k.val)) S1x8x1x1x1024x128.size hh) hs = oblk (ob k.val) := oblk_congr (off24_eq k) _ _
@[sl_canon] theorem oslot_off25 (hh hs) : (oR.slice (Rect.unit (s := S2x1x8x1x1x1024x128) (k0_off25 (fo k.val)) S1x1x8x1x1x1024x128.size hh) hs).squeeze S1x8x1x1x1024x128 squeezes_S1x1x8x1x1x1024x128_S1x8x1x1x1024x128 = oslot (sl 2 k.val) := oslot_congr (off25_eq k) _ _
@[sl_canon] theorem osem_off26 (h : 1 ≤ k.val) (hh) : (cc0_scoped5.slice (Rect.unit (s := S2) (k0_off26 (co k.val)) S1.size hh)).squeeze S_ squeezes_S1_S_ = osem (sl 2 (k.val + 1)) := osem_congr (off26_eq k h) _
@[sl_canon] theorem oblk_off27 (h : 1 ≤ k.val) (hh hs) : oM.slice (Rect.unit (s := S2x16x1x1x4096x128) (k0_off27 (gn k.val) (gb k.val) (gi k.val)) S1x8x1x1x1024x128.size hh) hs = oblk (ob (k.val - 1)) := oblk_congr (off27_eq k h) _ _
@[sl_canon] theorem oslot_off28 (h : 1 ≤ k.val) (hh hs) : (oR.slice (Rect.unit (s := S2x1x8x1x1x1024x128) (k0_off28 (co k.val)) S1x1x8x1x1x1024x128.size hh) hs).squeeze S1x8x1x1x1024x128 squeezes_S1x1x8x1x1x1024x128_S1x8x1x1x1024x128 = oslot (sl 2 (k.val + 1)) := oslot_congr (off28_eq k h) _ _

end Canon

end Cert.Kernel5Ideal.Hand

end
-- ==== Proof.Hand5.Pieces.lean ====
/-
  What is held during a trip: a block of an array at home, a slot of a ring, a slot's transfer cell, a slot in flight;
  and what the loop computes, block by block.
-/
module

public import proofs.«01_k».proof.Proof.Hand5.Names
public import proofs.«01_k».proof.Proof.Hand.Shared
public import proofs.«01_k».proof.Proof.Gen.Kernel5Ideal.Launch
public import proofs.«01_k».proof.Proof.Gen.Kernel5Ideal.Loops
public import proofs.«01_k».proof.Proof.Gen.Kernel5Ideal.Points
public import Idealize.ShloMosaic.Lib.WritesUnit
public import Idealize.ShloMosaic.Lib.ViewIndex
public import Idealize.ShloMosaic.Lib.Pointwise

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
abbrev UU (nD : Nat) (τ : Topo) : Type := UR sig nD τ × Counters
local notation "𝕄" => MT nD τ sig Unit (Elt F) ℕ (UU nD τ) ℕ
abbrev 𝒱₀ : Variants := Variants.none

section Pieces
variable (c : Dev nD)
  (XA : Buf (Elt F) (xM.view.loc (c : Thread nD τ))) (WA : Buf (Elt F) (wM.view.loc (c : Thread nD τ)))

abbrev xcellP (s : Fin 3) : sProp 𝕄 := semVal ((c : Thread nD τ), SemLoc.dma (xsem s).sem) 0
abbrev wcellP (s : Fin 2) : sProp 𝕄 := semVal ((c : Thread nD τ), SemLoc.dma (wsem s).sem) 0
abbrev ocellP (s : Fin 2) : sProp 𝕄 := semVal ((c : Thread nD τ), SemLoc.dma (osem s).sem) 0
abbrev xslotP (s : Fin 3) (f : Buf (Elt F) ((xslot s).view.loc (c : Thread nD τ))) : sProp 𝕄 :=
  (xslot s).view.loc (c : Thread nD τ) ↦[(xslot s).view.set]{fullShare} f
abbrev wslotP (s : Fin 2) (f : Buf (Elt F) ((wslot s).view.loc (c : Thread nD τ))) : sProp 𝕄 :=
  (wslot s).view.loc (c : Thread nD τ) ↦[(wslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 8) : sProp 𝕄 := (xblk b).view.loc (c : Thread nD τ) ↦[(xblk b).view.set]{fullShare} XA
abbrev whomeP (b : Fin 8) : sProp 𝕄 := (wblk b).view.loc (c : Thread nD τ) ↦[(wblk b).view.set]{fullShare} WA
abbrev oblkP (t : Fin 16) (g : Buf (Elt F) ((oblk t).view.loc (c : Thread nD τ))) : sProp 𝕄 :=
  (oblk t).view.loc (c : Thread nD τ) ↦[(oblk t).view.set]{fullShare} g

abbrev xpay (b : Fin 8) : S1x1024x2048.Idx → Elt F .bf16 := ReadAs.same.apply ((xblk b).view.read (Elt F) XA)
abbrev wpay (b : Fin 8) : S2048x1024.Idx → Elt F .f32 := ReadAs.same.apply ((wblk b).view.read (Elt F) WA)
abbrev xland (s : Fin 3) (b : Fin 8) (f : Buf (Elt F) ((xslot s).view.loc (c : Thread nD τ))) : Buf (Elt F) ((xslot s).view.loc (c : Thread nD τ)) :=
  (xslot s).view.writes (Elt F) f [⟨Rect.whole _, xpay c XA b⟩]
abbrev wland (s : Fin 2) (b : Fin 8) (f : Buf (Elt F) ((wslot s).view.loc (c : Thread nD τ))) : Buf (Elt F) ((wslot s).view.loc (c : Thread nD τ)) :=
  (wslot s).view.writes (Elt F) f [⟨Rect.whole _, wpay c WA b⟩]
abbrev xflightP (s : Fin 3) (b : Fin 8) : sProp 𝕄 :=
  iprop(∃ f, Transfers.Flight countersEmb (c : Thread nD τ) (SemLoc.dma (xsem s).sem) () 131072 iprop(xslotP c s (xland c XA s b f) ∗ xhomeP c XA b))
abbrev wflightP (s : Fin 2) (b : Fin 8) : sProp 𝕄 :=
  iprop(∃ f, Transfers.Flight countersEmb (c : Thread nD τ) (SemLoc.dma (wsem s).sem) () 262144 iprop(wslotP c s (wland c WA s b f) ∗ whomeP c WA b))
abbrev oflightP (s : Fin 2) (t : Fin 16) (g : Buf (Elt F) ((oblk t).view.loc (c : Thread nD τ))) : sProp 𝕄 :=
  iprop(∃ f, Transfers.Flight countersEmb (c : Thread nD τ) (SemLoc.dma (osem s).sem) () 131072 iprop(oblkP c t g ∗ oslotP c s f))

end Pieces

/-! ## What the loop computes -/

section Values

/-- The rectangle of head `h` in a slot of the out ring. -/
theorem headInb (h : Fin 8) : ∀ a, (![0, h.val, 0, 0, 0, 0] : Fin 6 → ℕ) a + S1x1x1x1x1024x128.size a ≤ S1x8x1x1x1024x128.size a := by revert h; decide
abbrev headPiece (h : Fin 8) (p : S1x1x1x1x1024x128.Idx → Elt F .f32) : View.Piece (Elt F) S1x8x1x1x1024x128 .f32 :=
  ⟨Rect.unit (s := S1x8x1x1x1024x128) ![0, h.val, 0, 0, 0, 0] S1x1x1x1x1024x128.size (headInb h), p⟩

/-- After the stores `L` into a slot, the heads below `n` hold the payloads `p`. -/
def Upto (s : Fin 2) (f : (oslot s).view.ty.Contents (Elt F)) (p : Fin 8 → S1x1x1x1x1024x128.Idx → Elt F .f32) (L : List (View.Piece (Elt F) S1x8x1x1x1024x128 .f32)) (n : ℕ) : Prop :=
  ∀ (h : Fin 8) (r : Fin 1024) (l : Fin 128), h.val < n → (oslot s).view.read (Elt F) ((oslot s).view.writes (Elt F) f L) (ix6 0 h 0 0 r l) = p h (ix6 0 0 0 0 r l)

theorem upto_zero (s : Fin 2) (f : (oslot s).view.ty.Contents (Elt F)) (p : Fin 8 → S1x1x1x1x1024x128.Idx → Elt F .f32) : Upto s f p [] 0 := fun _ _ _ h => absurd h (Nat.not_lt_zero _)

/-- The store of head `n` on top of the heads below it. -/
theorem upto_step {s : Fin 2} {f : (oslot s).view.ty.Contents (Elt F)} {p : Fin 8 → S1x1x1x1x1024x128.Idx → Elt F .f32} {L : List (View.Piece (Elt F) S1x8x1x1x1024x128 .f32)} (n : Fin 8)
    (hL : Upto s f p L n.val) : Upto s f p (headPiece n (p n) :: L) (n.val + 1) := by
  intro h r l hn
  by_cases e : h = n
  · subst e
    refine View.read_writes_cons_unit_of_mem (oslot s).view f (headInb h) (p h) L _ (ix6 0 0 0 0 r l) rfl fun a => ?_
    match a with
    | ⟨0, _⟩ => rfl
    | ⟨1, _⟩ => rfl
    | ⟨2, _⟩ => rfl
    | ⟨3, _⟩ => rfl
    | ⟨4, _⟩ => exact (Nat.zero_add _).symm
    | ⟨5, _⟩ => exact (Nat.zero_add _).symm
  · have hlt : h.val < n.val := by have := Fin.val_ne_of_ne e; omega
    exact (View.read_writes_cons_unit_of_not_mem (oslot s).view f (headInb n) (p n) L _ rfl 1 (Or.inl hlt)).trans (hL h r l hlt)

/-- The slot after the eight stores of a trip, read at `y`: head `y 1`'s store. -/
theorem stage_at (s : Fin 2) (p : Fin 8 → S1x1x1x1x1024x128.Idx → Elt F .f32) (f : (oslot s).view.ty.Contents (Elt F)) (y : S1x8x1x1x1024x128.Idx) :
    (oslot s).view.read (Elt F) ((oslot s).view.writes (Elt F) f [headPiece 7 (p 7), headPiece 6 (p 6), headPiece 5 (p 5), headPiece 4 (p 4), headPiece 3 (p 3), headPiece 2 (p 2), headPiece 1 (p 1), headPiece 0 (p 0)]) y
      = p (y 1) (ix6 0 0 0 0 (y 4) (y 5)) := by
  have e : y = ix6 0 (y 1) 0 0 (y 4) (y 5) := funext fun a => by
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
    | ⟨4, _⟩ => rfl
    | ⟨5, _⟩ => rfl
  rw [e]
  exact upto_step 7 (upto_step 6 (upto_step 5 (upto_step 4 (upto_step 3 (upto_step 2 (upto_step 1 (upto_step 0 (upto_zero s f p)))))))) (y 1) (y 4) (y 5) (y 1).isLt

variable (c : Dev nD)
  (XA : Buf (Elt F) (xM.view.loc (c : Thread nD τ))) (WA : Buf (Elt F) (wM.view.loc (c : Thread nD τ)))

/-- The scratch's contents while block `n` of the weights is used: the block rounded to bf16. -/
def wsV (n : Fin 8) : FVec F S2048x1024 .bf16 := truncf .bf16 (wpay c WA n) bitsLt_bf16_f32
/-- Trip `k`'s product, gated: each element times the logistic function of it. -/
def prod (k : ℕ) : FVec F S1024x1024 .f32 := k0_pay3 (k0_pay2 (xpay c XA (xb k))) (wsV c WA (wb k))

/-- The trip that computes element `i` of the result. -/
def tripOf (i : S2x16x1x1x4096x128.Idx) : ℕ := (i 1).val / 8 * 8 + (i 0).val * 4 + (i 4).val / 1024
/-- The result array after the loop. -/
def outA : Buf (Elt F) (oM.view.loc (c : Thread nD τ)) := fun i : S2x16x1x1x4096x128.Idx =>
  prod c XA WA (tripOf i) (ix2 ⟨(i 4).val % 1024, Nat.mod_lt _ (by decide)⟩ ⟨(i 1).val % 8 * 128 + (i 5).val, by have : (i 5).val < 128 := (i 5).isLt; omega⟩)

/-- The eight stores' payloads of a gated product. -/
def heads (m : FVec F S1024x1024 .f32) : Fin 8 → S1x1x1x1x1024x128.Idx → Elt F .f32 := fun h y =>
  m (ix2 (y 4 : Fin 1024) ⟨h.val * 128 + (y 5).val, by have : (y 5).val < 128 := (y 5).isLt; omega⟩)

variable (a : FVec F S1024x2048 .bf16) (b : Vec F S2048x1024 .bf16) (m : FVec F S1024x1024 .f32) (y : S1x1x1x1x1024x128.Idx)
theorem pay4_at : k0_pay4 a b = heads (k0_pay3 a b) 0 := by
  funext y; unfold k0_pay4 heads; generalize k0_pay3 a b = m; pointwise
theorem pay5_at : k0_pay5 a b = heads (k0_pay3 a b) 1 := by
  funext y; unfold k0_pay5 heads; generalize k0_pay3 a b = m; pointwise
theorem pay7_at : k0_pay7 (k0_pay6 a b) = heads (k0_pay3 a b) 2 := by
  funext y; unfold k0_pay7 k0_pay6 heads; generalize k0_pay3 a b = m; pointwise
theorem pay8_at : k0_pay8 m = heads m 3 := by funext y; unfold k0_pay8 heads; pointwise
theorem pay9_at : k0_pay9 m = heads m 4 := by funext y; unfold k0_pay9 heads; pointwise
theorem pay11_at : k0_pay11 (k0_pay10 m) = heads m 5 := by funext y; unfold k0_pay11 k0_pay10 heads; pointwise
theorem pay12_at : k0_pay12 m = heads m 6 := by funext y; unfold k0_pay12 heads; pointwise
theorem pay13_at : k0_pay13 m = heads m 7 := by funext y; unfold k0_pay13 heads; pointwise

/-- The element of the result array that block `t` has at `y`. -/
theorem oblk_emb (t : Fin 16) (y : S1x8x1x1x1024x128.Idx) : (oblk t).view.emb y = (ix6 (⟨t.val / 4 % 2, by omega⟩ : Fin 2) (⟨8 * (t.val / 8) + (y 1).val, by have : (y 1).val < 8 := (y 1).isLt; omega⟩ : Fin 16)
    (0 : Fin 1) (0 : Fin 1) (⟨1024 * (t.val % 4) + (y 4).val, by have : (y 4).val < 1024 := (y 4).isLt; omega⟩ : Fin 4096) (y 5 : Fin 128) : S2x16x1x1x4096x128.Idx) := by
  show (Rect.unit (s := S2x16x1x1x4096x128) (oblkOff t) S1x8x1x1x1024x128.size (oblkOff_inb t)).emb y = _
  funext a
  apply Fin.ext
  have h0 : (y 0).val = 0 := Nat.lt_one_iff.mp (y 0).isLt
  have h2 : (y 2).val = 0 := Nat.lt_one_iff.mp (y 2).isLt
  have h3 : (y 3).val = 0 := Nat.lt_one_iff.mp (y 3).isLt
  match a with
  | ⟨0, _⟩ => show t.val / 4 % 2 + 1 * (y 0).val = t.val / 4 % 2; omega
  | ⟨1, _⟩ => show 8 * (t.val / 8) + 1 * (y 1).val = 8 * (t.val / 8) + (y 1).val; omega
  | ⟨2, _⟩ => show 0 + 1 * (y 2).val = 0; omega
  | ⟨3, _⟩ => show 0 + 1 * (y 3).val = 0; omega
  | ⟨4, _⟩ => show 1024 * (t.val % 4) + 1 * (y 4).val = 1024 * (t.val % 4) + (y 4).val; omega
  | ⟨5, _⟩ => show 0 + 1 * (y 5).val = (y 5).val; omega

/-- The result at the element that block `k` has at `y`. -/
theorem outA_emb (k : ℕ) (hk : k < 16) (y : S1x8x1x1x1024x128.Idx) :
    outA c XA WA ((oblk (ob k)).view.emb y) = heads (prod c XA WA k) (y 1) (ix6 0 0 0 0 (y 4) (y 5)) := by
  rw [oblk_emb]
  have h1 : (y 1).val < 8 := (y 1).isLt
  have h4 : (y 4).val < 1024 := (y 4).isLt
  have hb : (ob k).val = k := Nat.mod_eq_of_lt hk
  have ht : tripOf (ix6 (⟨(ob k).val / 4 % 2, by omega⟩ : Fin 2) (⟨8 * ((ob k).val / 8) + (y 1).val, by omega⟩ : Fin 16)
    (0 : Fin 1) (0 : Fin 1) (⟨1024 * ((ob k).val % 4) + (y 4).val, by omega⟩ : Fin 4096) (y 5 : Fin 128)) = k := by
    show (8 * ((ob k).val / 8) + (y 1).val) / 8 * 8 + (ob k).val / 4 % 2 * 4 + (1024 * ((ob k).val % 4) + (y 4).val) / 1024 = k
    omega
  unfold outA heads
  rw [ht]
  refine congrArg _ (congrArg₂ ix2 (Fin.ext ?_) (Fin.ext ?_))
  · show (1024 * ((ob k).val % 4) + (y 4).val) % 1024 = (y 4).val; omega
  · show (8 * ((ob k).val / 8) + (y 1).val) % 8 * 128 + (y 5).val = (y 1).val * 128 + (y 5).val; omega

/-- The block that trip `k` sends home is the result's block `k`. -/
theorem outA_block (k : ℕ) (hk : k < 16) (g : Buf (Elt F) ((oblk (ob k)).view.loc (c : Thread nD τ))) (w : S1x8x1x1x1024x128.Idx → Elt F .f32)
    (hw : ∀ y, w y = heads (prod c XA WA k) (y 1) (ix6 0 0 0 0 (y 4) (y 5))) :
    oblkP c (ob k) ((oblk (ob k)).view.writes (Elt F) g [⟨Rect.whole S1x8x1x1x1024x128, w⟩]) = oblkP c (ob k) (outA c XA WA) := by
  refine pointsTo_congr (agree_of_read (oblk (ob k)).view fun y => ?_)
  refine (read_whole_writes (oblk (ob k)).view g w y).trans ((hw y).trans (outA_emb c XA WA k hk y).symm)

end Values

end Cert.Kernel5Ideal.Hand

end
-- ==== Proof.Hand5.Trip.lean ====
/-
  One trip of the loop: what it takes, what it leaves.
-/
module

public import proofs.«01_k».proof.Proof.Hand5.Pieces
public import Idealize.ShloMosaic.Lib.VecWindow

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The parts of a trip's resources -/

abbrev xfree (s : Fin 3) : sProp 𝕄 := iprop(xcellP c s ∗ ∃ f, xslotP c s f)
abbrev wfree (s : Fin 2) : sProp 𝕄 := iprop(wcellP c s ∗ ∃ f, wslotP c s f)
abbrev ofree (s : Fin 2) : sProp 𝕄 := iprop(ocellP c s ∗ ∃ f, oslotP c s f)
abbrev wsP (f : Buf (Elt F) (wsM.view.loc (c : Thread nD τ))) : sProp 𝕄 := wsM.view.loc (c : Thread nD τ) ↦[wsM.view.set]{fullShare} f

/-- Block `t` of the result at an array's contents, at home and on its way. -/
abbrev oHomeP (t : Fin 16) (G : Buf (Elt F) (oM.view.loc (c : Thread nD τ))) : sProp 𝕄 := oblkP c t G
abbrev oFlyP (s : Fin 2) (t : Fin 16) (G : Buf (Elt F) (oM.view.loc (c : Thread nD τ))) : sProp 𝕄 := oflightP c s t G

/-- The activations: block `k + 2` is sent for, if there is one. -/
def xPre (k : ℕ) : sProp 𝕄 := if k < 14 then iprop(xhomeP c XA (xb (k + 2)) ∗ xfree c (sl 3 (k + 2))) else iprop(emp)
def xPost (k : ℕ) : sProp 𝕄 := if k < 14 then xflightP c XA (sl 3 (k + 2)) (xb (k + 2)) else iprop(emp)
/-- The weights: the next block is sent for at the last trip of a block; a block is received at its first trip. -/
def wPre (k : ℕ) : sProp 𝕄 :=
  if k % 8 = 7 ∧ k < 15 then iprop(whomeP c WA (wb (k + 1)) ∗ wfree c (sl 2 (k / 8 + 1)))
  else if k % 8 = 0 then wflightP c WA (sl 2 (k / 8)) (wb k) else iprop(emp)
def wPost (k : ℕ) : sProp 𝕄 :=
  if k % 8 = 7 ∧ k < 15 then wflightP c WA (sl 2 (k / 8 + 1)) (wb (k + 1))
  else if k % 8 = 0 then iprop(whomeP c WA (wb k) ∗ wfree c (sl 2 (k / 8))) else iprop(emp)
/-- The scratch: the current block of the weights, once it has been received. -/
def wsPre (k : ℕ) : sProp 𝕄 := if k % 8 = 0 then iprop(∃ f, wsP c f) else wsP c (wsV c WA (wb k))
/-- The result: the block of the trip before is waited for. -/
def oPre (k : ℕ) : sProp 𝕄 := if 1 ≤ k then oFlyP c (sl 2 (k + 1)) (ob (k - 1)) (outA c XA WA) else ofree c (sl 2 (k + 1))
def oPost (k : ℕ) : sProp 𝕄 := if 1 ≤ k then iprop(oHomeP c (ob (k - 1)) (outA c XA WA) ∗ ofree c (sl 2 (k + 1))) else ofree c (sl 2 (k + 1))

/-- What trip `k` takes. -/
def tPre (k : ℕ) : sProp 𝕄 :=
  iprop((∃ W, owes (c : Thread nD τ) 0 W) ∗ xflightP c XA (sl 3 k) (xb k) ∗ xPre c XA k ∗ wPre c WA k ∗ wsPre c WA k
    ∗ ofree c (sl 2 k) ∗ oPre c XA WA k ∗ oHomeP c (ob k) g0)
/-- What trip `k` leaves. -/
def tPost (k : ℕ) : sProp 𝕄 :=
  iprop((∃ W, owes (c : Thread nD τ) 0 W) ∗ xhomeP c XA (xb k) ∗ xfree c (sl 3 k) ∗ xPost c XA k ∗ wPost c WA k ∗ wsP c (wsV c WA (wb k))
    ∗ oFlyP c (sl 2 k) (ob k) (outA c XA WA) ∗ oPost c XA WA k)

/-! ## What the trip's loads read and its stores leave -/

/-- A load of the whole activations' slot after a landing. -/
theorem xload (s : Fin 3) (b : Fin 8) (f : Buf (Elt F) ((xslot s).view.loc (c : Thread nD τ))) (inb : ∀ a, (![0, 0, 0] : Fin 3 → ℕ) a + S1x1024x2048.size a ≤ S1x1024x2048.size a) :
    (xslot s).view.readAt (Elt F) (Rect.unit (s := S1x1024x2048) ![0, 0, 0] S1x1024x2048.size inb).toLoadRect (xland c XA s b f) = xpay c XA b :=
  (Idealize.ShloMosaic.View.readAt_full (xslot s).view _ inb).trans (funext fun y => read_whole_writes (xslot s).view f (xpay c XA b) y)

/-- The same, stated over the landing alone. -/
theorem xcov (s : Fin 3) (b : Fin 8) (inb : ∀ a, (![0, 0, 0] : Fin 3 → ℕ) a + S1x1024x2048.size a ≤ S1x1024x2048.size a) :
    (xslot s).view.readCov [⟨Rect.whole S1x1024x2048, xpay c XA b⟩] (Rect.unit (s := S1x1024x2048) ![0, 0, 0] S1x1024x2048.size inb).toLoadRect = xpay c XA b :=
  xload c XA s b _ inb

/-- A load of the whole scratch. -/
theorem wsload (f : Buf (Elt F) (wsM.view.loc (c : Thread nD τ))) (inb : ∀ a, (![0, 0] : Fin 2 → ℕ) a + S2048x1024.size a ≤ S2048x1024.size a) :
    wsM.view.readAt (Elt F) (Rect.unit (s := S2048x1024) ![0, 0] S2048x1024.size inb).toLoadRect f = f :=
  Idealize.ShloMosaic.View.readAt_full wsM.view f inb

/-- The slot that goes out, sent: the result's block. -/
theorem sent (k : ℕ) (hk : k < 16) (g : Buf (Elt F) ((oblk (ob k)).view.loc (c : Thread nD τ))) (f : Buf (Elt F) ((oslot (sl 2 k)).view.loc (c : Thread nD τ)))
    (hf : ∀ y, (oslot (sl 2 k)).view.read (Elt F) f y = heads (prod c XA WA k) (y 1) (ix6 0 0 0 0 (y 4) (y 5))) :
    (Transfers.Flight countersEmb (c : Thread nD τ) (SemLoc.dma (osem (sl 2 k)).sem) () 131072
        iprop(oblkP c (ob k) ((oblk (ob k)).view.writes (Elt F) g [⟨Rect.whole S1x8x1x1x1024x128, ReadAs.same.apply ((oslot (sl 2 k)).view.read (Elt F) f)⟩]) ∗ oslotP c (sl 2 k) f) : sProp 𝕄)
      ⊢ oFlyP c (sl 2 k) (ob k) (outA c XA WA) := by
  rw [outA_block c XA WA k hk g _ hf]
  iintro H
  iexists f
  iexact H

/-- The eight stores of trip `k` into a slot, and the transfer that takes the slot home: the result's block `k`. -/
theorem sent_stores (k : Fin k0_t1_loop.trips) (hkk : k.val < 16) {g : Buf (Elt F) ((oblk (ob k.val)).view.loc (c : Thread nD τ))} {w : S1x8x1x1x1024x128.Idx → Elt F .f32}
    {f : (oslot (sl 2 k.val)).view.ty.Contents (Elt F)} {L : List (View.Piece (Elt F) S1x8x1x1x1024x128 .f32)}
    {a : FVec F S1024x2048 .bf16} {b : FVec F S2048x1024 .bf16} {m : FVec F S1024x1024 .f32} {p6 p10 : FVec F S1024x128 .f32} {v : Vec F S1x1024x2048 .bf16}
    (hw : w = ReadAs.same.apply ((oslot (sl 2 k.val)).view.read (Elt F) ((oslot (sl 2 k.val)).view.writes (Elt F) f L)))
    (hL : L = [headPiece 7 (k0_pay13 m), headPiece 6 (k0_pay12 m), headPiece 5 (k0_pay11 p10), headPiece 4 (k0_pay9 m), headPiece 3 (k0_pay8 m), headPiece 2 (k0_pay7 p6),
      headPiece 1 (k0_pay5 a b), headPiece 0 (k0_pay4 a b)])
    (hp10 : p10 = k0_pay10 m) (hp6 : p6 = k0_pay6 a b) (hm : m = k0_pay3 a b) (ha : a = k0_pay2 v) (hv : v = xpay c XA (xb k.val)) (hb : b = wsV c WA (wb k.val)) :
    (Transfers.Flight countersEmb (c : Thread nD τ) (SemLoc.dma (osem (sl 2 k.val)).sem) () 131072
        iprop(oblkP c (ob k.val) ((oblk (ob k.val)).view.writes (Elt F) g [⟨Rect.whole S1x8x1x1x1024x128, w⟩]) ∗ oslotP c (sl 2 k.val) ((oslot (sl 2 k.val)).view.writes (Elt F) f L)) : sProp 𝕄)
      ⊢ oFlyP c (sl 2 k.val) (ob k.val) (outA c XA WA) := by
  subst hw
  refine sent c XA WA k.val hkk g _ fun y => ?_
  subst hv
  subst hp10 hp6 hm ha hb hL
  rw [pay4_at, pay5_at, pay7_at, pay8_at, pay9_at, pay11_at, pay12_at, pay13_at]
  exact stage_at (sl 2 k.val) (heads (prod c XA WA k.val)) f y

/-- The weights' slot, loaded whole after a landing and rounded: the block rounded. -/
theorem wload (s : Fin 2) (n : Fin 8) (f : Buf (Elt F) ((wslot s).view.loc (c : Thread nD τ))) {off : Fin 3 → ℕ} (e : off = wslotOff s) (inb : ∀ a, off a + S1x2048x1024.size a ≤ S2x2048x1024.size a) :
    k0_pay1 (wR.view.readAt (Elt F) (Rect.unit (s := S2x2048x1024) off S1x2048x1024.size inb).toLoadRect (wland c WA s n f)) = wsV c WA n := by
  subst e
  have h : (shapeCast S2048x1024 (wR.view.readAt (Elt F) (Rect.unit (s := S2x2048x1024) (wslotOff s) S1x2048x1024.size inb).toLoadRect (wland c WA s n f)) shapeCasts_S1x2048x1024_S2048x1024 : Vec F S2048x1024 .f32)
      = wpay c WA n := by
    funext y
    exact read_whole_writes (wslot s).view f (wpay c WA n) y
  unfold k0_pay1 wsV
  rw [h]
  funext y
  pointwise

/-- The scratch after a store of all of it. -/
theorem wsstore (f : Buf (Elt F) (wsM.view.loc (c : Thread nD τ))) {L : List (View.Piece (Elt F) S2048x1024 .bf16)} {inb : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 8) (hp : p = wsV c WA n) :
    (wsM.view.loc (c : Thread nD τ) ↦[wsM.view.set]{fullShare} wsM.view.writes (Elt F) f L : sProp 𝕄) ⊢ wsP c (wsV c WA n) := by
  subst hL hp
  refine Entails.of_eq (pointsTo_congr (agree_of_read wsM.view fun y => ?_))
  rw [Idealize.ShloMosaic.View.read_writes_full]
  rfl

/-- The scratch loaded whole after a store of all of it. -/
theorem wscov {L : List (View.Piece (Elt F) S2048x1024 .bf16)} {inb inb' : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 8) (hp : p = wsV c WA n) :
    wsM.view.readCov L (Rect.unit (s := S2048x1024) ![0, 0] S2048x1024.size inb').toLoadRect = wsV c WA n := by
  subst hL hp
  exact Idealize.ShloMosaic.View.readCov_full wsM.view inb' inb _ []

end Cert.Kernel5Ideal.Hand

end
-- ==== Proof.Hand5.Run.lean ====
/-
  One trip of the loop, run.
-/
module

public import proofs.«01_k».proof.Proof.Hand5.Trip

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-- The loop's carried words before trip `k`. -/
abbrev Acc : Type := BitVec 32 × BitVec 32 × BitVec 32 × BitVec 32 × BitVec 32 × BitVec 32 × BitVec 32 × BitVec 32 × BitVec 32
def accAt (k : ℕ) : Acc := (fx k, cx k, fw k, cw k, fo k, co k, gn k, gb k, gi k)

abbrev tripG (v25 v26 : BitVec 32) (k : Fin k0_t1_loop.trips) (acc : Acc) :=
  k0_t1_body (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5 v25 v26 k acc

/-- Trip `k` runs from its resources to what it leaves. -/
def TripSpec (k : Fin k0_t1_loop.trips) : Prop :=
  ∀ v25 v26 : BitVec 32, tPre c XA WA g0 k.val ⊢ wp frame (wpE (defs₀ (F := F)) 𝒱₀ (c : Thread nD τ) none) Set.univ (tripG (F := F) v25 v26 k (accAt k.val))
    (fun acc => iprop(⌜acc = accAt (k.val + 1)⌝ ∗ tPost c XA WA k.val))

set_option maxHeartbeats 800000 in
/-- A trip that neither starts nor ends a block of the weights. -/
theorem trip_mid (k : Fin k0_t1_loop.trips) (h1 : 1 ≤ k.val) (h14 : k.val < 14) (hw : ¬ k.val % 8 = 7) (hc : ¬ k.val % 8 = 0) : TripSpec c XA WA g0 k := by
  intro v25 v26
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_neg hc, if_neg (fun h : k.val % 8 = 7 ∧ k.val < 15 => hw h.1)]
  iintro ⟨⟨%W, HW⟩, ⟨%fX, HFx⟩, ⟨Hx, Hxc, ⟨%fxs, Hxs⟩⟩, -, Hws, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fxs fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitr; · iempintro
  isplitl [Hws]; · iexact Hws
  isplitl [Hoc]
  · istop
    apply sent_stores c XA WA k hkk
    iterate 6 exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that ends a block of the weights and sends for the next. -/
theorem trip_send (k : Fin k0_t1_loop.trips) (h1 : 1 ≤ k.val) (h14 : k.val < 14) (hw : k.val % 8 = 7 ∧ k.val < 15) : TripSpec c XA WA g0 k := by
  intro v25 v26
  have hc : ¬ k.val % 8 = 0 := by omega
  have c2 : k0_cond2 k (gb k.val) (gi k.val) = 1#1 := (cond2_iff k).2 h14
  have c3 : k0_cond3 k (gn k.val) (gb k.val) (gi k.val) = 1#1 := (cond3_iff k).2 hw
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_neg hc, if_pos hw]
  iintro ⟨⟨%W, HW⟩, ⟨%fX, HFx⟩, ⟨Hx, Hxc, ⟨%fxs, Hxs⟩⟩, ⟨Hwh, Hwc, ⟨%fwl, Hwl⟩⟩, Hws, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fxs fwl fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [Hwc]; · iexists _; iexact Hwc
  isplitl [Hws]; · iexact Hws
  isplitl [Hoc]
  · istop
    apply sent_stores c XA WA k hkk
    iterate 6 exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that starts a block of the weights, not the first. -/
theorem trip_take (k : Fin k0_t1_loop.trips) (h1 : 1 ≤ k.val) (h14 : k.val < 14) (hc : k.val % 8 = 0) : TripSpec c XA WA g0 k := by
  intro v25 v26
  have hw : ¬ k.val % 8 = 7 := by omega
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_pos hc, if_neg (fun h : k.val % 8 = 7 ∧ k.val < 15 => hw h.1)]
  iintro ⟨⟨%W, HW⟩, ⟨%fX, HFx⟩, ⟨Hx, Hxc, ⟨%fxs, Hxs⟩⟩, ⟨%fW, HFw⟩, ⟨%fws, Hws⟩, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fxs fW fws fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Hoc]
  · istop
    apply sent_stores c XA WA k hkk
    iterate 6 exact rfl
    · exact xcov c XA (sl 3 k.val) (xb k.val) _
    · exact wscov c WA rfl (wb k.val) (wload c WA (sl 2 (k.val / 8)) (wb k.val) _ (off20_eq k) _)
  isplitl [HFo_dst]; · iexact HFo_dst
  isplitl [HFo]; · iexact HFo
  iexists _; iexact HFo_src

set_option maxHeartbeats 800000 in
/-- The first trip. -/
theorem trip_first (k : Fin k0_t1_loop.trips) (h1 : ¬ 1 ≤ k.val) : TripSpec c XA WA g0 k := by
  intro v25 v26
  have h14 : k.val < 14 := by omega
  have hc : k.val % 8 = 0 := by omega
  have hw : ¬ k.val % 8 = 7 := by omega
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : ¬ k0_cond13 k (gn k.val) (gb k.val) (gi k.val) = 1#1 := fun h => h1 ((cond13_iff k).1 h)
  have hk1 := chk1_all k
  have hk2 := chk2_all k
  have hk3 := chk3_all k
  have hkk : k.val < 16 := by have := trips_eq; omega
  unfold tPre tPost xPre xPost wPre wPost wsPre oPre oPost
  simp only [if_neg h1, if_pos h14, if_pos hc, if_neg (fun h : k.val % 8 = 7 ∧ k.val < 15 => hw h.1)]
  iintro ⟨⟨%W, HW⟩, ⟨%fX, HFx⟩, ⟨Hx, Hxc, ⟨%fxs, Hxs⟩⟩, ⟨%fW, HFw⟩, ⟨%fws, Hws⟩, ⟨Hoc, ⟨%fos, Hos⟩⟩, HFo, Hob⟩
  dsimp only [tripG, accAt]
  sl_unfold [k0_t1_body]
  sl_exec
  sl_step
  isplitr
  · ipureintro
    clear h1 h14 hw hc c2 c3 c4 c5 c7 c10 c13 hk1 hk2 hk3 hkk fX fxs fW fws fos
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Hoc]
  · istop
    apply sent_stores c XA WA k hkk
    iterate 6 exact rfl
    · exact xcov c XA (sl 3 k.val) (xb k.val) _
    · exact wscov c WA rfl (wb k.val) (wload c WA (sl 2 (k.val / 8)) (wb k.val) _ (off20_eq k) _)
  iexact HFo

set_option maxHeartbeats 800000 in
/-- The last two trips, which send for nothing. -/
theorem trip_last (k : Fin k0_t1_loop.trips) (h14 : ¬ k.val < 14) : TripSpec c XA WA g0 k := by
  intro v25 v26
  have hkk : k.val < 16 := by have := k.isLt; have := trips_eq; omega
  have h1 : 1 ≤ k.val := by omega
  have hw : ¬ (k.val % 8 = 7 ∧ k.val < 15) := by omega
  have hc : ¬ k.val % 8 = 0 := by omega
  have c2 : ¬ k0_cond2 k (gb k.val) (gi k.val) = 1#1 := fun h => h14 ((cond2_iff k).1 h)
  have c3 : ¬ k0_cond3 k (gn k.val) (gb k.val) (gi k.val) = 1#1 := fun h => hw ((cond3_iff k).1 h)
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  unfold tPre tPost xPre xPost wPre wPost wsPre oPre oPost
  simp only [if_pos h1, if_neg h14, if_neg hc, if_neg hw]
  iintro ⟨⟨%W, HW⟩, ⟨%fX, HFx⟩, -, -, Hws, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitr; · iempintro
  isplitr; · iempintro
  isplitl [Hws]; · iexact Hws
  isplitl [Hoc]
  · istop
    apply sent_stores c XA WA k hkk
    iterate 6 exact rfl
    · exact xcov c XA (sl 3 k.val) (xb k.val) _
    · exact wsload c (wsV c WA (wb k.val)) _
  isplitl [HFo_dst]; · iexact HFo_dst
  isplitl [HFo]; · iexact HFo
  iexists _; iexact HFo_src

/-- Every trip runs from its resources to what it leaves. -/
theorem trip_all (k : Fin k0_t1_loop.trips) : TripSpec c XA WA g0 k := by
  by_cases h1 : 1 ≤ k.val
  · by_cases h14 : k.val < 14
    · by_cases hw : k.val % 8 = 7
      · exact trip_send c XA WA g0 k h1 h14 ⟨hw, by omega⟩
      · by_cases hc : k.val % 8 = 0
        · exact trip_take c XA WA g0 k h1 h14 hc
        · exact trip_mid c XA WA g0 k h1 h14 hw hc
    · exact trip_last c XA WA g0 k h14
  · exact trip_first c XA WA g0 k h1

end Cert.Kernel5Ideal.Hand

end
-- ==== Proof.Hand5.Loop.lean ====
/-
  The loop: what is held between trips.
-/
module

public import proofs.«01_k».proof.Proof.Hand5.Run

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

theorem bigSep_ins {α : Type} [DecidableEq α] {s : Finset α} {a : α} {Φ : α → sProp 𝕄} (h : a ∉ s) : bigSep (insert a s) Φ = iprop(Φ a ∗ bigSep s Φ) := bigSep_insert h

/-! ## Turning slots -/

theorem sl3_turn (k : ℕ) : sl 3 (k + 1 + 2) = sl 3 k := Fin.ext (by simp [sl, Fin.ofNat]; omega)
theorem sl2_turn (k : ℕ) : sl 2 (k + 1 + 1) = sl 2 k := Fin.ext (by simp [sl, Fin.ofNat]; omega)
theorem wb_same (k : ℕ) (h : ¬ (k + 1) % 8 = 0) : wb (k + 1) = wb k := by
  unfold wb; rw [show (k + 1) / 8 = k / 8 by omega]

/-! ## The activations -/

/-- The blocks at home before trip `k`. -/
def xset (k : ℕ) : Finset (Fin 8) := Finset.univ.filter fun b => (b ≠ xb k ∨ 16 ≤ k) ∧ (b ≠ xb (k + 1) ∨ 15 ≤ k)
def xrest (k : ℕ) : Finset (Fin 8) := Finset.univ.filter fun b => b ≠ xb k ∧ b ≠ xb (k + 1) ∧ b ≠ xb (k + 2)

theorem xset_split : ∀ k : Fin 14, xset k = insert (xb (k + 2)) (xrest k) ∧ xb (k + 2) ∉ xrest k ∧ xset (k + 1) = insert (xb k) (xrest k) ∧ xb k ∉ xrest k := by
  decide +kernel
theorem xset_14 : xset 15 = insert (xb 14) (xset 14) ∧ xb 14 ∉ xset 14 := by decide +kernel
theorem xset_15 : xset 16 = insert (xb 15) (xset 15) ∧ xb 15 ∉ xset 15 := by decide +kernel
theorem xset_16 : xset 16 = Finset.univ := by decide +kernel

def xfly (k : ℕ) : sProp 𝕄 := if k < 16 then xflightP c XA (sl 3 k) (xb k) else xfree c (sl 3 k)
/-- The activations before trip `k`: blocks `k` and `k + 1` are on their way, the third slot is free, the others at home. -/
def xPart (k : ℕ) : sProp 𝕄 := iprop(xfly c XA k ∗ xfly c XA (k + 1) ∗ xfree c (sl 3 (k + 2)) ∗ bigSep (xset k) (xhomeP c XA))

theorem x_step (k : ℕ) (hk : k < 16) :
    xPart c XA k ⊢ iprop(xflightP c XA (sl 3 k) (xb k) ∗ xPre c XA k ∗ (iprop(xhomeP c XA (xb k) ∗ xfree c (sl 3 k) ∗ xPost c XA k) -∗ xPart c XA (k + 1))) := by
  unfold xPart xPre xPost
  rw [sl3_turn, show xfly c XA k = xflightP c XA (sl 3 k) (xb k) from if_pos hk]
  by_cases h : k < 14
  · obtain ⟨e1, n1, e2, n2⟩ := xset_split ⟨k, h⟩
    dsimp only at e1 n1 e2 n2
    rw [e1, bigSep_ins n1, e2, bigSep_ins n2, if_pos h, if_pos h, show k + 1 + 1 = k + 2 from rfl, show xfly c XA (k + 2) = xflightP c XA (sl 3 (k + 2)) (xb (k + 2)) from if_pos (by omega)]
    iintro ⟨H0, H1, H2, H3, H4⟩
    isplitl [H0]; · iexact H0
    isplitl [H2 H3]
    · isplitl [H3]; · iexact H3
      iexact H2
    iintro ⟨G0, G1, G2⟩
    isplitl [H1]; · iexact H1
    isplitl [G2]; · iexact G2
    isplitl [G1]; · iexact G1
    isplitl [G0]; · iexact G0
    iexact H4
  · have e : xset (k + 1) = insert (xb k) (xset k) ∧ xb k ∉ xset k := by
      obtain rfl | rfl : k = 14 ∨ k = 15 := by omega
      · exact xset_14
      · exact xset_15
    rw [e.1, bigSep_ins e.2, if_neg h, if_neg h, show k + 1 + 1 = k + 2 from rfl, show xfly c XA (k + 2) = xfree c (sl 3 (k + 2)) from if_neg (by omega)]
    iintro ⟨H0, H1, H2, H3⟩
    isplitl [H0]; · iexact H0
    isplitr; · iempintro
    iintro ⟨G0, G1, -⟩
    isplitl [H1]; · iexact H1
    isplitl [H2]; · iexact H2
    isplitl [G1]; · iexact G1
    isplitl [G0]; · iexact G0
    iexact H3

/-! ## The weights -/

/-- The blocks at home before trip `k`. -/
def wset (k : ℕ) : Finset (Fin 8) := Finset.univ.filter fun b => b ≠ wb k ∨ ¬ (k % 8 = 0 ∧ k < 16)
theorem wset_in : ∀ k : Fin 16, k.val % 8 = 0 → wset (k + 1) = insert (wb k) (wset k) ∧ wb k ∉ wset k := by decide +kernel
theorem wset_out : ∀ k : Fin 16, k.val % 8 = 7 ∧ k.val < 15 → wset k = insert (wb (k + 1)) (wset (k + 1)) ∧ wb (k + 1) ∉ wset (k + 1) := by decide +kernel
theorem wset_same : ∀ k : Fin 16, ¬ (k.val % 8 = 7 ∧ k.val < 15) → ¬ k.val % 8 = 0 → wset (k + 1) = wset k := by decide +kernel
theorem wset_16 : wset 16 = Finset.univ := by decide +kernel

def wfly (k : ℕ) : sProp 𝕄 := if k % 8 = 0 ∧ k < 16 then wflightP c WA (sl 2 (k / 8)) (wb k) else wfree c (sl 2 (k / 8))
/-- The weights before trip `k`: the block is on its way at its first trip, the rest at home. -/
def wPart (k : ℕ) : sProp 𝕄 := iprop(wfly c WA k ∗ wfree c (sl 2 (k / 8 + 1)) ∗ bigSep (wset k) (whomeP c WA))

theorem w_step (k : ℕ) (hk : k < 16) : wPart c WA k ⊢ iprop(wPre c WA k ∗ (wPost c WA k -∗ wPart c WA (k + 1))) := by
  unfold wPart wPre wPost wfly
  by_cases h7 : k % 8 = 7 ∧ k < 15
  · obtain ⟨e, n⟩ := wset_out ⟨k, hk⟩ h7
    dsimp only at e n
    rw [if_pos h7, if_pos h7, if_neg (by omega), if_pos (by omega), e, bigSep_ins n, show (k + 1) / 8 = k / 8 + 1 by omega, sl2_turn]
    iintro ⟨H0, H1, H2, H3⟩
    isplitl [H1 H2]
    · isplitl [H2]; · iexact H2
      iexact H1
    iintro G
    isplitl [G]; · iexact G
    isplitl [H0]; · iexact H0
    iexact H3
  · rw [if_neg h7, if_neg h7]
    by_cases h0 : k % 8 = 0
    · obtain ⟨e, n⟩ := wset_in ⟨k, hk⟩ h0
      dsimp only at e n
      rw [if_pos h0, if_pos h0, if_pos ⟨h0, hk⟩, if_neg (by omega), e, bigSep_ins n, show (k + 1) / 8 = k / 8 by omega]
      iintro ⟨H0, H1, H2⟩
      isplitl [H0]; · iexact H0
      iintro ⟨G0, G1⟩
      isplitl [G1]; · iexact G1
      isplitl [H1]; · iexact H1
      isplitl [G0]; · iexact G0
      iexact H2
    · rw [if_neg h0, if_neg h0, if_neg (by omega), if_neg (by omega)]
      have e := wset_same ⟨k, hk⟩ h7 h0
      dsimp only at e
      rw [e]
      by_cases h15 : k = 15
      · subst h15
        rw [show sl 2 ((15 + 1) / 8) = sl 2 (15 / 8 + 1) from rfl, show sl 2 ((15 + 1) / 8 + 1) = sl 2 (15 / 8) from rfl]
        iintro ⟨H0, H1, H2⟩
        isplitr; · iempintro
        iintro -
        isplitl [H1]; · iexact H1
        isplitl [H0]; · iexact H0
        iexact H2
      · rw [show (k + 1) / 8 = k / 8 by omega]
        iintro ⟨H0, H1, H2⟩
        isplitr; · iempintro
        iintro -
        isplitl [H0]; · iexact H0
        isplitl [H1]; · iexact H1
        iexact H2

theorem ws_step (k : ℕ) : wsP c (wsV c WA (wb k)) ⊢ wsPre c WA (k + 1) := by
  unfold wsPre
  by_cases h : (k + 1) % 8 = 0
  · rw [if_pos h]; iintro H; iexists _; iexact H
  · rw [if_neg h, wb_same k h]

/-! ## The result -/

def oset (k : ℕ) : Finset (Fin 16) := Finset.univ.filter fun t => t.val + 1 < k
def orest (k : ℕ) : Finset (Fin 16) := Finset.univ.filter fun t => k ≤ t.val
theorem ob_val (k : ℕ) (hk : k < 16) : (ob k).val = k := Nat.mod_eq_of_lt hk
theorem oset_step (k : ℕ) (hk : k < 16) (h1 : 1 ≤ k) : oset (k + 1) = insert (ob (k - 1)) (oset k) ∧ ob (k - 1) ∉ oset k := by
  have e := ob_val (k - 1) (by omega)
  constructor
  · ext t; simp only [oset, Finset.mem_filter, Finset.mem_univ, true_and, Finset.mem_insert, Fin.ext_iff, e]; omega
  · simp only [oset, Finset.mem_filter, Finset.mem_univ, true_and, e]; omega
theorem orest_step (k : ℕ) (hk : k < 16) : orest k = insert (ob k) (orest (k + 1)) ∧ ob k ∉ orest (k + 1) := by
  have e := ob_val k hk
  constructor
  · ext t; simp only [orest, Finset.mem_filter, Finset.mem_univ, true_and, Finset.mem_insert, Fin.ext_iff, e]; omega
  · simp only [orest, Finset.mem_filter, Finset.mem_univ, true_and, e]; omega
theorem oset_1 : oset (0 + 1) = oset 0 := by decide +kernel

/-- The result before trip `k`: the blocks before the last are home with their values, the last on its way, the others as they were. -/
def oPart (k : ℕ) : sProp 𝕄 :=
  iprop(ofree c (sl 2 k) ∗ oPre c XA WA k ∗ bigSep (oset k) (fun t => oHomeP c t (outA c XA WA)) ∗ bigSep (orest k) (fun t => oHomeP c t g0))

theorem o_step (k : ℕ) (hk : k < 16) :
    oPart c XA WA g0 k ⊢ iprop(ofree c (sl 2 k) ∗ oPre c XA WA k ∗ oHomeP c (ob k) g0
      ∗ (iprop(oFlyP c (sl 2 k) (ob k) (outA c XA WA) ∗ oPost c XA WA k) -∗ oPart c XA WA g0 (k + 1))) := by
  obtain ⟨er, nr⟩ := orest_step k hk
  unfold oPart
  rw [er, bigSep_ins nr]
  have ep : oPre c XA WA (k + 1) = oFlyP c (sl 2 k) (ob k) (outA c XA WA) := by
    unfold oPre
    rw [if_pos (by omega), sl2_turn, show k + 1 - 1 = k from rfl]
  rw [ep]
  by_cases h1 : 1 ≤ k
  · obtain ⟨es, ns⟩ := oset_step k hk h1
    rw [es, bigSep_ins ns]
    unfold oPost
    rw [if_pos h1]
    iintro ⟨H0, H1, H2, H3, H4⟩
    isplitl [H0]; · iexact H0
    isplitl [H1]; · iexact H1
    isplitl [H3]; · iexact H3
    iintro ⟨G0, G1, G2⟩
    isplitl [G2]; · iexact G2
    isplitl [G0]; · iexact G0
    isplitl [G1 H2]
    · isplitl [G1]; · iexact G1
      iexact H2
    iexact H4
  · obtain rfl : k = 0 := by omega
    rw [oset_1]
    unfold oPost
    rw [if_neg h1]
    iintro ⟨H0, H1, H2, H3, H4⟩
    isplitl [H0]; · iexact H0
    isplitl [H1]; · iexact H1
    isplitl [H3]; · iexact H3
    iintro ⟨G0, G1⟩
    isplitl [G1]; · iexact G1
    isplitl [G0]; · iexact G0
    isplitl [H2]; · iexact H2
    iexact H4

/-! ## All of it -/

def invAt (k : ℕ) : sProp 𝕄 :=
  iprop((∃ W, owes (c : Thread nD τ) 0 W) ∗ xPart c XA k ∗ wPart c WA k ∗ wsPre c WA k ∗ oPart c XA WA g0 k)

theorem inv_step (k : ℕ) (hk : k < 16) : invAt c XA WA g0 k ⊢ iprop(tPre c XA WA g0 k ∗ (tPost c XA WA k -∗ invAt c XA WA g0 (k + 1))) := by
  unfold invAt tPre tPost
  iintro ⟨HW, HX, Hw, Hs, HO⟩
  ihave HX' := (x_step c XA k hk) $$ HX
  icases HX' with ⟨X0, X1, X2⟩
  ihave Hw' := (w_step c WA k hk) $$ Hw
  icases Hw' with ⟨W0, W1⟩
  ihave HO' := (o_step c XA WA g0 k hk) $$ HO
  icases HO' with ⟨O0, O1, O2, O3⟩
  isplitl [HW X0 X1 W0 Hs O0 O1 O2]
  · isplitl [HW]; · iexact HW
    isplitl [X0]; · iexact X0
    isplitl [X1]; · iexact X1
    isplitl [W0]; · iexact W0
    isplitl [Hs]; · iexact Hs
    isplitl [O0]; · iexact O0
    isplitl [O1]; · iexact O1
    iexact O2
  iintro ⟨G0, G1, G2, G3, G4, G5, G6, G7⟩
  isplitl [G0]; · iexact G0
  isplitl [X2 G1 G2 G3]
  · iapply X2
    isplitl [G1]; · iexact G1
    isplitl [G2]; · iexact G2
    iexact G3
  isplitl [W1 G4]
  · iapply W1; iexact G4
  isplitl [G5]
  · iapply (ws_step c WA k); iexact G5
  iapply O3
  isplitl [G6]; · iexact G6
  iexact G7

set_option warn.classDefReducibility false in
/-- The loop's invariant. -/
def loopInv (v25 v26 : BitVec 32) (init : Acc) :
    LoopInvTy_k0_t1 (F := F) Unit ℕ (UU nD τ) ℕ 𝒱₀ c none Set.univ xM (Memref.isWhole_whole _) wM (Memref.isWhole_whole _) oM (Memref.isWhole_whole _) wsM (Memref.isWhole_whole _) asM (Memref.isWhole_whole _)
      xR (Memref.isWhole_whole _) cc0_scoped1 wR (Memref.isWhole_whole _) cc0_scoped3 oR (Memref.isWhole_whole _) cc0_scoped5 v25 v26 init where
  inv k acc := iprop(⌜acc = accAt k⌝ ∗ invAt c XA WA g0 k)
  step k acc := by
    have hk : k.val < 16 := Nat.lt_of_lt_of_eq k.isLt trips_eq
    iintro ⟨%e, H⟩
    subst e
    ihave H' := (inv_step c XA WA g0 k.val hk) $$ H
    icases H' with ⟨H0, H1⟩
    iapply (wp_wand_r Idealize.ShloMosaic.frame (wpE (defs₀ (F := F)) 𝒱₀ (c : Thread nD τ) none) Set.univ)
    isplitl [H0]
    · iapply (trip_all c XA WA g0 k v25 v26); iexact H0
    · iintro %a ⟨%e, G⟩
      isplitr; · ipureintro; exact e
      iapply H1; iexact G

end Cert.Kernel5Ideal.Hand

end
-- ==== Proof.Hand5.Body.lean ====
/-
  The body: the first blocks sent for, the loop, the last block waited for.
-/
module

public import proofs.«01_k».proof.Proof.Hand5.Loop

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The names before and after the loop -/

theorem cond1_eq : k0_cond1 = 1#1 := by decide +kernel
theorem chk4_end : k0_chk4 (co 16) := by decide +kernel
theorem chk5_end : k0_chk5 (gi 16) (gb 16) (gn 16) := by decide +kernel
theorem accAt_0 : ((2#32, 0#32, 1#32, 0#32, 0#32, 0#32, 0#32, 0#32, 0#32) : Acc) = accAt 0 := by
  refine acc_ext ?_ ?_ ?_ ?_ ?_ ?_ ?_ ?_ ?_ <;> decide +kernel

/-- The loop, run: from the invariant at trip 0 to the invariant at trip 16. -/
theorem loop_run {β : Type} (kk : Acc → Prog (TpuEff nD τ sig (Elt F) Λ₀ .tc) β) (Q : β → sProp 𝕄) :
    invAt c XA WA g0 0 ⊢ iprop((invAt c XA WA g0 16 -∗ wp frame (wpE (defs₀ (F := F)) 𝒱₀ (c : Thread nD τ) none) Set.univ (kk (accAt 16)) Q)
      -∗ wp frame (wpE (defs₀ (F := F)) 𝒱₀ (c : Thread nD τ) none) Set.univ
        (k0_t1_loop.for k0_t1_ok (2#32, 0#32, 1#32, 0#32, 0#32, 0#32, 0#32, 0#32, 0#32) (tripG (F := F) 0#32 1#32) >>= kk) Q) := by
  have h := exec_loop (kk := kk) (Q := Q) Idealize.ShloMosaic.frame (wpE (defs₀ (F := F)) 𝒱₀ (c : Thread nD τ) none) Set.univ _ _ _ k0_t1_ok _ _ (loopInv c XA WA g0 0#32 1#32 (2#32, 0#32, 1#32, 0#32, 0#32, 0#32, 0#32, 0#32, 0#32))
  have e : ∀ k acc, (loopInv c XA WA g0 0#32 1#32 (2#32, 0#32, 1#32, 0#32, 0#32, 0#32, 0#32, 0#32, 0#32)).inv k acc = iprop(⌜acc = accAt k⌝ ∗ invAt c XA WA g0 k) := fun _ _ => rfl
  iintro H HK
  iapply h $$ [H]
  · rw [e]
    isplitr
    · ipureintro; exact accAt_0
    iexact H
  iintro %acc G
  ihave G' := (of_eq (((e _ acc).trans (congrArg (fun k => iprop(⌜acc = accAt k⌝ ∗ invAt c XA WA g0 k)) (show Scf.trips k0_t1_loop.lb k0_t1_loop.ub k0_t1_loop.st = 16 from trips_eq))))) $$ G
  icases G' with ⟨%ea, G⟩
  subst ea
  iapply HK
  iexact G

section Canon
variable (a b : ℕ)
@[sl_canon] theorem xsem_off1 (hh) : (cc0_scoped1.slice (Rect.unit (s := S3) k0_off1 S1.size hh)).squeeze S_ squeezes_S1_S_ = xsem (sl 3 0) := xsem_congr (by decide +kernel) _
@[sl_canon] theorem xslot_off2 (hh hs) : (xR.slice (Rect.unit (s := S3x1x1024x2048) k0_off2 S1x1x1024x2048.size hh) hs).squeeze S1x1024x2048 squeezes_S1x1x1024x2048_S1x1024x2048 = xslot (sl 3 0) := xslot_congr (by decide +kernel) _ _
@[sl_canon] theorem xblk_first (hh hs) : xM.slice (Rect.unit (s := S2x4096x2048) ![0, 0, 0] S1x1024x2048.size hh) hs = xblk (xb 0) := xblk_congr (by decide +kernel) _ _
@[sl_canon] theorem wsem_off3 (hh) : (cc0_scoped3.slice (Rect.unit (s := S2) k0_off3 S1.size hh)).squeeze S_ squeezes_S1_S_ = wsem (sl 2 (0 / 8)) := wsem_congr (by decide +kernel) _
@[sl_canon] theorem wslot_off4 (hh hs) : (wR.slice (Rect.unit (s := S2x2048x1024) k0_off4 S1x2048x1024.size hh) hs).squeeze S2048x1024 squeezes_S1x2048x1024_S2048x1024 = wslot (sl 2 (0 / 8)) := wslot_congr (by decide +kernel) _ _
@[sl_canon] theorem wblk_first (hh hs) : wM.slice (Rect.unit (s := S2048x8192) ![0, 6144] S2048x1024.size hh) hs = wblk (wb 0) := wblk_congr (by decide +kernel) _ _
@[sl_canon] theorem xsem_off5 (hh) : (cc0_scoped1.slice (Rect.unit (s := S3) k0_off5 S1.size hh)).squeeze S_ squeezes_S1_S_ = xsem (sl 3 (0 + 1)) := xsem_congr (by decide +kernel) _
@[sl_canon] theorem xslot_off6 (hh hs) : (xR.slice (Rect.unit (s := S3x1x1024x2048) k0_off6 S1x1x1024x2048.size hh) hs).squeeze S1x1024x2048 squeezes_S1x1x1024x2048_S1x1024x2048 = xslot (sl 3 (0 + 1)) := xslot_congr (by decide +kernel) _ _
@[sl_canon] theorem xblk_off7 (hh hs) : xM.slice (Rect.unit (s := S2x4096x2048) k0_off7 S1x1024x2048.size hh) hs = xblk (xb (0 + 1)) := xblk_congr (by decide +kernel) _ _
@[sl_canon] theorem osem_off29 (hh) : (cc0_scoped5.slice (Rect.unit (s := S2) (k0_off29 (co 16)) S1.size hh)).squeeze S_ squeezes_S1_S_ = osem (sl 2 (16 + 1)) := osem_congr (by decide +kernel) _
@[sl_canon] theorem oblk_off30 (hh hs) : oM.slice (Rect.unit (s := S2x16x1x1x4096x128) (k0_off30 (gi 16) (gb 16) (gn 16)) S1x8x1x1x1024x128.size hh) hs = oblk (ob (16 - 1)) := oblk_congr (by decide +kernel) _ _
@[sl_canon] theorem oslot_off31 (hh hs) : (oR.slice (Rect.unit (s := S2x1x8x1x1x1024x128) (k0_off31 (co 16)) S1x1x8x1x1x1024x128.size hh) hs).squeeze S1x8x1x1x1024x128 squeezes_S1x1x8x1x1x1024x128_S1x8x1x1x1024x128 = oslot (sl 2 (16 + 1)) := oslot_congr (by decide +kernel) _ _
end Canon

/-! ## What the body takes and leaves -/

/-- The rings, their semaphores and the scratch, free. -/
def freeP : sProp 𝕄 :=
  iprop(xfree (F := F) c (sl 3 0) ∗ xfree (F := F) c (sl 3 (0 + 1)) ∗ xfree (F := F) c (sl 3 (0 + 2)) ∗ wfree (F := F) c (sl 2 (0 / 8)) ∗ wfree (F := F) c (sl 2 (0 / 8 + 1)) ∗ ofree (F := F) c (sl 2 0) ∗ ofree (F := F) c (sl 2 (0 + 1)) ∗ ∃ f, wsP (F := F) c f)
/-- The arrays, in blocks: the result at the contents `G`. -/
def arrP (G : Buf (Elt F) (oM.view.loc (c : Thread nD τ))) : sProp 𝕄 :=
  iprop(bigSep Finset.univ (xhomeP c XA) ∗ bigSep Finset.univ (whomeP c WA) ∗ bigSep Finset.univ (fun t => oHomeP c t G))

theorem xset_0 : (Finset.univ : Finset (Fin 8)) = insert (xb 0) (insert (xb (0 + 1)) (xset 0)) ∧ xb 0 ∉ insert (xb (0 + 1)) (xset 0) ∧ xb (0 + 1) ∉ xset 0 := by decide +kernel
theorem wset_0 : (Finset.univ : Finset (Fin 8)) = insert (wb 0) (wset 0) ∧ wb 0 ∉ wset 0 := by decide +kernel
theorem oset_0 : oset 0 = ∅ := by decide +kernel
theorem orest_0 : orest 0 = Finset.univ := by decide +kernel
theorem oset_16 : (Finset.univ : Finset (Fin 16)) = insert (ob (16 - 1)) (oset 16) ∧ ob (16 - 1) ∉ oset 16 := by decide +kernel
theorem orest_16 : orest 16 = ∅ := by decide +kernel

abbrev bodyP := cc0_proj_d1_silu_skel (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5

set_option maxHeartbeats 1600000 in
theorem body_run (W : Waits sig Unit) :
    iprop(owes (c : Thread nD τ) 0 W ∗ freeP c ∗ arrP c XA WA g0)
      ⊢ wp frame (wpE (defs₀ (F := F)) 𝒱₀ (c : Thread nD τ) none) Set.univ (bodyP (F := F))
        (fun _ => iprop((∃ W, owes (c : Thread nD τ) 0 W) ∗ freeP c ∗ arrP c XA WA (outA c XA WA))) := by
  unfold freeP arrP
  obtain ⟨ex, nx, nx'⟩ := xset_0
  obtain ⟨ew, nw⟩ := wset_0
  have eX : bigSep Finset.univ (xhomeP c XA) = iprop(xhomeP c XA (xb 0) ∗ xhomeP c XA (xb (0 + 1)) ∗ bigSep (xset 0) (xhomeP c XA)) := by
    rw [ex, bigSep_ins nx, bigSep_ins nx']
  have eW : bigSep Finset.univ (whomeP c WA) = iprop(whomeP c WA (wb 0) ∗ bigSep (wset 0) (whomeP c WA)) := by
    rw [ew, bigSep_ins nw]
  rw [eX, eW]
  have hc1 := cond1_eq
  have hk4 := chk4_end
  have hk5 := chk5_end
  iintro ⟨HW, ⟨⟨Hx0, ⟨%fx0, Hxs0⟩⟩, ⟨Hx1, ⟨%fx1, Hxs1⟩⟩, Hx2, ⟨Hw0, ⟨%fw0, Hws0⟩⟩, Hw1, Ho0, Ho1, Hs⟩, ⟨Hxh0, Hxh1, Hxh⟩, ⟨Hwh0, Hwh⟩, Hoh⟩
  dsimp only [bodyP]
  sl_unfold [cc0_proj_d1_silu_skel]
  sl_exec
  iapply (loop_run c XA WA g0 _ _) $$ [HW Hx2 Hw1 Ho0 Ho1 Hs Hxh Hwh Hoh Hx0 Hw0 Hx1]
  · unfold invAt xPart wPart wsPre oPart
    rw [show xfly c XA 0 = xflightP c XA (sl 3 0) (xb 0) from if_pos (by decide), show xfly c XA (0 + 1) = xflightP c XA (sl 3 (0 + 1)) (xb (0 + 1)) from if_pos (by decide),
      show wfly c WA 0 = wflightP c WA (sl 2 (0 / 8)) (wb 0) from if_pos (by decide), if_pos (by decide), oset_0, orest_0]
    isplitl [HW]; · iexists _; iexact HW
    isplitl [Hx0 Hx1 Hx2 Hxh]
    · isplitl [Hx0]; · iexists _; iexact Hx0
      isplitl [Hx1]; · iexists _; iexact Hx1
      isplitl [Hx2]; · iexact Hx2
      iexact Hxh
    isplitl [Hw0 Hw1 Hwh]
    · isplitl [Hw0]; · iexists _; iexact Hw0
      isplitl [Hw1]; · iexact Hw1
      iexact Hwh
    isplitl [Hs]; · iexact Hs
    isplitl [Ho0]; · iexact Ho0
    isplitl [Ho1]
    · unfold oPre; rw [if_neg (by decide)]; iexact Ho1
    isplitr
    · rw [bigSep_empty]; iempintro
    iexact Hoh
  iintro HI
  unfold invAt xPart wPart wsPre oPart
  rw [show xfly c XA 16 = xfree c (sl 3 16) from if_neg (by decide), show xfly c XA (16 + 1) = xfree c (sl 3 (16 + 1)) from if_neg (by decide),
    show wfly c WA 16 = wfree c (sl 2 (16 / 8)) from if_neg (by decide), if_pos (by decide), orest_16, xset_16, wset_16]
  unfold oPre
  rw [if_pos (by decide)]
  icases HI with ⟨⟨%W', HW⟩, ⟨Hx0, Hx1, Hx2, Hxh⟩, ⟨Hw0, Hw1, Hwh⟩, Hs, Ho0, ⟨%fof, HFo⟩, Hod, -⟩
  dsimp only [accAt]
  sl_exec
  sl_step
  rw [show sl 3 16 = sl 3 (0 + 1) from rfl, show sl 3 (16 + 1) = sl 3 (0 + 2) from rfl, show sl 3 (16 + 2) = sl 3 0 from rfl,
    show sl 2 (16 / 8) = sl 2 (0 / 8) from rfl, show sl 2 (16 / 8 + 1) = sl 2 (0 / 8 + 1) from rfl, show sl 2 16 = sl 2 0 from rfl,
    ← eX, ← eW, oset_16.1, bigSep_ins oset_16.2]
  isplitl [HW]; · iexists _; iexact HW
  isplitl [Hx0 Hx1 Hx2 Hw0 Hw1 Ho0 HFo HFo_src Hs]
  · isplitl [Hx2]; · iexact Hx2
    isplitl [Hx0]; · iexact Hx0
    isplitl [Hx1]; · iexact Hx1
    isplitl [Hw0]; · iexact Hw0
    isplitl [Hw1]; · iexact Hw1
    isplitl [Ho0]; · iexact Ho0
    isplitl [HFo HFo_src]
    · isplitl [HFo]; · iexact HFo
      iexists _; iexact HFo_src
    iexact Hs
  isplitl [Hxh]; · iexact Hxh
  isplitl [Hwh]; · iexact Hwh
  isplitl [HFo_dst]; · iexact HFo_dst
  iexact Hod

end Cert.Kernel5Ideal.Hand

end
-- ==== Proof.Hand5.Launch.lean ====
/-
  The launch: the arrays and the rings in blocks, the body run at the one point, the run of the program.
-/
module

public import proofs.«01_k».proof.Proof.Hand5.Body
public import proofs.«01_k».proof.Proof.Gen.Kernel5Ideal.Launch
public import proofs.«01_k».proof.Proof.Gen.Kernel5Ideal.Frame
public import Idealize.ShloMosaic.Lib.Pipeline.FrameValue
public import Idealize.ShloMosaic.Lib.Ring

@[expose] public section

noncomputable section

namespace Cert.Kernel5Ideal.Hand

open Cert.Kernel5Ideal Cert.Kernel5Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg Window BodyObligation)

/-! ## Element sets -/

abbrev xS (b : Fin 8) : Finset S2x4096x2048.Idx := (Rect.unit (s := S2x4096x2048) (xblkOff b) S1x1024x2048.size (xblkOff_inb b)).set
abbrev wS (b : Fin 8) : Finset S2048x8192.Idx := (Rect.unit (s := S2048x8192) (wblkOff b) S2048x1024.size (wblkOff_inb b)).set
abbrev oS (t : Fin 16) : Finset S2x16x1x1x4096x128.Idx := (Rect.unit (s := S2x16x1x1x4096x128) (oblkOff t) S1x8x1x1x1024x128.size (oblkOff_inb t)).set
abbrev xrS (s : Fin 3) : Finset S3x1x1024x2048.Idx := (Rect.unit (s := S3x1x1024x2048) (xslotOff s) S1x1x1024x2048.size (xslotOff_inb s)).set
abbrev wrS (s : Fin 2) : Finset S2x2048x1024.Idx := (Rect.unit (s := S2x2048x1024) (wslotOff s) S1x2048x1024.size (wslotOff_inb s)).set
abbrev orS (s : Fin 2) : Finset S2x1x8x1x1x1024x128.Idx := (Rect.unit (s := S2x1x8x1x1x1024x128) (oslotOff s) S1x1x8x1x1x1024x128.size (oslotOff_inb s)).set

theorem xS_tiles : Tiles xS := rows_tiles
theorem wS_tiles : Tiles wS := axis_tiles 1 1024 (fun _ => rfl) (by intro b a h; fin_cases a <;> first | rfl | exact absurd rfl h) rfl (by decide) rfl
theorem oS_tiles : Tiles oS := by
  refine fibres oS (fun y => 8 * ((y 1).val / 8) + 4 * (y 0).val + (y 4).val / 1024) Fin.val Fin.val_injective (fun b y => ?_) (fun y => ?_)
  · rw [Rect.mem_set_unit]
    have h0 : (y 0).val < 2 := (y 0).isLt
    have h1 : (y 1).val < 16 := (y 1).isLt
    have h2 : (y 2).val < 1 := (y 2).isLt
    have h3 : (y 3).val < 1 := (y 3).isLt
    have h4 : (y 4).val < 4096 := (y 4).isLt
    have h5 : (y 5).val < 128 := (y 5).isLt
    have hb := b.isLt
    constructor
    · intro H
      have a0 : b.val / 4 % 2 ≤ (y 0).val ∧ (y 0).val < b.val / 4 % 2 + 1 := H 0
      have a1 : 8 * (b.val / 8) ≤ (y 1).val ∧ (y 1).val < 8 * (b.val / 8) + 8 := H 1
      have a4 : 1024 * (b.val % 4) ≤ (y 4).val ∧ (y 4).val < 1024 * (b.val % 4) + 1024 := H 4
      omega
    · intro H i
      fin_cases i
      · show b.val / 4 % 2 ≤ (y 0).val ∧ (y 0).val < b.val / 4 % 2 + 1; omega
      · show 8 * (b.val / 8) ≤ (y 1).val ∧ (y 1).val < 8 * (b.val / 8) + 8; omega
      · show 0 ≤ (y 2).val ∧ (y 2).val < 0 + 1; omega
      · show 0 ≤ (y 3).val ∧ (y 3).val < 0 + 1; omega
      · show 1024 * (b.val % 4) ≤ (y 4).val ∧ (y 4).val < 1024 * (b.val % 4) + 1024; omega
      · show 0 ≤ (y 5).val ∧ (y 5).val < 0 + 128; omega
  · have h0 : (y 0).val < 2 := (y 0).isLt
    have h1 : (y 1).val < 16 := (y 1).isLt
    have h2 : (y 2).val < 1 := (y 2).isLt
    have h4 : (y 4).val < 4096 := (y 4).isLt
    exact ⟨⟨8 * ((y 1).val / 8) + 4 * (y 0).val + (y 4).val / 1024, by omega⟩, rfl⟩

/-- The slots of a ring. -/
theorem xrS_tiles : Tiles xrS := axis_tiles 0 1 (fun _ => (Nat.one_mul _).symm) (by intro b a h; fin_cases a <;> first | rfl | exact absurd rfl h) rfl (by decide) rfl
theorem wrS_tiles : Tiles wrS := axis_tiles 0 1 (fun _ => (Nat.one_mul _).symm) (by intro b a h; fin_cases a <;> first | rfl | exact absurd rfl h) rfl (by decide) rfl
theorem orS_tiles : Tiles orS := axis_tiles 0 1 (fun _ => (Nat.one_mul _).symm) (by intro b a h; fin_cases a <;> first | rfl | exact absurd rfl h) rfl (by decide) rfl

/-! ## Whole buffers and their blocks -/

section Blocks
variable (c : Dev nD)

theorem x_eq (XA : Buf (Elt F) (xM.view.loc (c : Thread nD τ))) :
    (((c : Thread nD τ).loc main_arg0) ↦{fullShare} XA : sProp 𝕄) = bigSep Finset.univ (xhomeP c XA) := by
  rw [Ring.pointsTo_blocks (ℓ := (c : Thread nD τ).loc main_arg0) xS xS_tiles.1 xS_tiles.2]
  exact bigSep_congr fun b _ => by rw [show xS b = (xblk b).view.set from (View.set_slice_whole _ _).symm]; rfl
theorem w_eq (WA : Buf (Elt F) (wM.view.loc (c : Thread nD τ))) :
    (((c : Thread nD τ).loc main_arg1) ↦{fullShare} WA : sProp 𝕄) = bigSep Finset.univ (whomeP c WA) := by
  rw [Ring.pointsTo_blocks (ℓ := (c : Thread nD τ).loc main_arg1) wS wS_tiles.1 wS_tiles.2]
  exact bigSep_congr fun b _ => by rw [show wS b = (wblk b).view.set from (View.set_slice_whole _ _).symm]; rfl
theorem o_eq (G : Buf (Elt F) (oM.view.loc (c : Thread nD τ))) :
    (((c : Thread nD τ).loc main_v0) ↦{fullShare} G : sProp 𝕄) = bigSep Finset.univ (fun t => oHomeP c t G) := by
  rw [Ring.pointsTo_blocks (ℓ := (c : Thread nD τ).loc main_v0) oS oS_tiles.1 oS_tiles.2]
  exact bigSep_congr fun b _ => by rw [show oS b = (oblk b).view.set from (View.set_slice_whole _ _).symm]; rfl

theorem xslotP_eq (s : Fin 3) (f) : xslotP (F := F) c s f = (((c : Thread nD τ).loc cc0_scoped0) ↦[xrS s]{fullShare} f : sProp 𝕄) :=
  congrArg (fun S => (_ ↦[S]{fullShare} f : sProp 𝕄)) ((View.set_reshape _ _).trans (View.set_slice_whole _ _))
theorem wslotP_eq (s : Fin 2) (f) : wslotP (F := F) c s f = (((c : Thread nD τ).loc cc0_scoped2) ↦[wrS s]{fullShare} f : sProp 𝕄) :=
  congrArg (fun S => (_ ↦[S]{fullShare} f : sProp 𝕄)) ((View.set_reshape _ _).trans (View.set_slice_whole _ _))
theorem oslotP_eq (s : Fin 2) (f) : oslotP (F := F) c s f = (((c : Thread nD τ).loc cc0_scoped4) ↦[orS s]{fullShare} f : sProp 𝕄) :=
  congrArg (fun S => (_ ↦[S]{fullShare} f : sProp 𝕄)) ((View.set_reshape _ _).trans (View.set_slice_whole _ _))

theorem xring : (iprop(∃ f : Buf (Elt F) ((c : Thread nD τ).loc cc0_scoped0), ((c : Thread nD τ).loc cc0_scoped0) ↦{fullShare} f) : sProp 𝕄)
    ⊣⊢ iprop((∃ f, xslotP c 0 f) ∗ (∃ f, xslotP c 1 f) ∗ ∃ f, xslotP c 2 f) := by
  have h := some_blocks (F := F) (U := UU nD τ) (ℓ := (c : Thread nD τ).loc cc0_scoped0) xrS xrS_tiles (xR.view.junk)
  rw [bigSep_three] at h
  simp only [xslotP_eq]
  exact h
theorem wring : (iprop(∃ f : Buf (Elt F) ((c : Thread nD τ).loc cc0_scoped2), ((c : Thread nD τ).loc cc0_scoped2) ↦{fullShare} f) : sProp 𝕄)
    ⊣⊢ iprop((∃ f, wslotP c 0 f) ∗ ∃ f, wslotP c 1 f) := by
  have h := some_blocks (F := F) (U := UU nD τ) (ℓ := (c : Thread nD τ).loc cc0_scoped2) wrS wrS_tiles (wR.view.junk)
  rw [bigSep_two] at h
  simp only [wslotP_eq]
  exact h
theorem oring : (iprop(∃ f : Buf (Elt F) ((c : Thread nD τ).loc cc0_scoped4), ((c : Thread nD τ).loc cc0_scoped4) ↦{fullShare} f) : sProp 𝕄)
    ⊣⊢ iprop((∃ f, oslotP c 0 f) ∗ ∃ f, oslotP c 1 f) := by
  have h := some_blocks (F := F) (U := UU nD τ) (ℓ := (c : Thread nD τ).loc cc0_scoped4) orS orS_tiles (oR.view.junk)
  rw [bigSep_two] at h
  simp only [oslotP_eq]
  exact h

/-! ## The region's invariant -/

/-- The kernel's own semaphores. -/
abbrev cells : Fin 7 → SemLoc sig := ![.dma (xsem 0).sem, .dma (xsem 1).sem, .dma (xsem 2).sem, .dma (wsem 0).sem, .dma (wsem 1).sem, .dma (osem 0).sem, .dma (osem 1).sem]
theorem cells_own : Pipeline.OwnSemFacts (cfg0.spec) cells := by decide +kernel
theorem cells_eq : (Pipeline.ownSems0 (Ix := Unit) (Name := ℕ) (U := UU nD τ) (Lvl := ℕ) (Val := Elt F) (τ := τ) cells c : sProp 𝕄)
    = iprop(xcellP c 0 ∗ xcellP c 1 ∗ xcellP c 2 ∗ wcellP c 0 ∗ wcellP c 1 ∗ ocellP c 0 ∗ ocellP c 1) :=
  Pipeline.ownSems0_eq_of_list c cells [0, 1, 2, 3, 4, 5, 6] (by decide) (by decide)

abbrev readR : Finset (Ref sig .tc) := {main_arg0, main_arg1}
abbrev writeR : Finset (Ref sig .tc) := {main_v0}
theorem readR_sub : readR ⊆ Pipeline.restRefs sig (cfg0.spec) := by decide
theorem writeR_sub : writeR ⊆ Pipeline.restRefs sig (cfg0.spec) \ readR := by decide
theorem read_eq (V : (b : Ref sig .tc) → Buf (Elt F) ((c : Thread nD τ).loc b)) :
    (bigSep readR (fun b => ((c : Thread nD τ).loc b) ↦{fullShare} V b) : sProp 𝕄)
      = iprop((((c : Thread nD τ).loc main_arg0) ↦{fullShare} V main_arg0) ∗ (((c : Thread nD τ).loc main_arg1) ↦{fullShare} V main_arg1)) := by
  rw [BI.bigSep_eq_bigSepL_of_eq [main_arg0, main_arg1] (by decide) (by decide)]; rfl

/-- What the body's run takes and leaves of the region: the result at the contents `G`. -/
def regionP (XA : Buf (Elt F) (xM.view.loc (c : Thread nD τ))) (WA : Buf (Elt F) (wM.view.loc (c : Thread nD τ))) (G : Buf (Elt F) (oM.view.loc (c : Thread nD τ))) : sProp 𝕄 :=
  iprop(freeP c ∗ arrP c XA WA G ∗ (∃ f : Buf (Elt F) ((c : Thread nD τ).loc cc0_scratch1), ((c : Thread nD τ).loc cc0_scratch1) ↦{fullShare} f) ∗ ∃ r, prngReg c r)

theorem region_eq (V G : (c : Dev nD) → (b : Ref sig .tc) → Buf (Elt F) ((c : Thread nD τ).loc b)) :
    (Pipeline.ΦDRG cells (cfg0.spec) readR writeR V G c : sProp 𝕄) ⊣⊢ regionP c (V c main_arg0) (V c main_arg1) (G c main_v0) := by
  have ews : ∀ f : Buf (Elt F) (wsM.view.loc (c : Thread nD τ)), wsP (F := F) c f = (((c : Thread nD τ).loc cc0_scratch0) ↦{fullShare} f : sProp 𝕄) :=
    fun f => congrArg (fun S => (_ ↦[S]{fullShare} f : sProp 𝕄)) (View.set_whole cc0_scratch0)
  rw [Pipeline.ΦDRG_eq, scopedRest0_eq, cells_eq, read_eq, show Pipeline.routed writeR c (G c) = _ from Pipeline.routed_singleton main_v0 c (G c),
    x_eq, w_eq, o_eq]
  unfold regionP freeP arrP
  simp only [ews]
  exact region_pack_aside (xring c) (wring c) (oring c)

end Blocks

/-! ## The body at the one point, and the run -/

section Launch
variable (m : (ℓ : Loc nD τ sig) → Buf (Elt F) ℓ) (ρ : Dev nD → PrngReg)

abbrev XAt (c : Dev nD) : Buf (Elt F) (xM.view.loc (c : Thread nD τ)) := m ((c : Thread nD τ).loc main_arg0)
abbrev WAt (c : Dev nD) : Buf (Elt F) (wM.view.loc (c : Thread nD τ)) := m ((c : Thread nD τ).loc main_arg1)
/-- The contents the region returns: the result at what the blocks compute. -/
def endG (c : Dev nD) (b : Ref sig .tc) : Buf (Elt F) ((c : Thread nD τ).loc b) := Function.update (V m c) main_v0 (outA c (XAt m c) (WAt m c)) b

def dats (_ : Fin 1) (c : Dev nD) : Dat τ (Elt F) Unit ℕ (UU nD τ) ℕ cfg0 c where
  A w := V m c (Pipeline.arrRef (cfg0.spec) w)
  after w _ := w.elim0
  Φ t := if t.val = 0 then regionP c (XAt m c) (WAt m c) (V m c main_v0) else regionP c (XAt m c) (WAt m c) (outA c (XAt m c) (WAt m c))
  q _ := fullShare
  owed _ := 0

theorem prog_eq (t : Fin cfg0.N) : (defs₀ (F := F)) .tc cfg0.body (cfg0.bodyArgs t (cfg0.slots t)) = bodyP (F := F) := by
  have e : (defs₀ (F := F)) .tc cfg0.body (cfg0.bodyArgs t (cfg0.slots t)) = bodyAt0 t := by unfold defs₀; rw [Defs.onTc_tc]
  rw [e]
  unfold bodyAt0
  rw [cc0_proj_d1_silu_eq_skeleton]

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ (t0_0).castSucc = regionP c (XAt m c) (WAt m c) (V m c main_v0) from rfl, show (dats m 0 c).Φ (t0_0).succ = regionP c (XAt m c) (WAt m c) (outA c (XAt m c) (WAt m c)) from rfl]
  unfold Dat.owesAt Pipeline.owesWithin
  rw [show (dats m 0 c).owed (t0_0).castSucc = 0 from rfl, show (dats m 0 c).owed (t0_0).succ = 0 from rfl]
  unfold regionP
  iintro ⟨⟨Hf, Ha, Hs, Hr⟩, ⟨%W, -, HW⟩, HE⟩
  sl_rw [prog_eq t0_0]
  iapply (wp_wand_r Idealize.ShloMosaic.frame (wpE (defs₀ (F := F)) 𝒱₀ (c : Thread nD τ) none) Set.univ)
  isplitl [Hf Ha HW]
  · iapply (body_run c (XAt m c) (WAt m c) (V m c main_v0) W)
    isplitl [HW]; · iexact HW
    isplitl [Hf]; · iexact Hf
    iexact Ha
  iintro %a ⟨⟨%W', HW⟩, Hf, Ha⟩
  isplitl [Hf Ha Hs Hr]
  · isplitl [Hf]; · iexact Hf
    isplitl [Ha]; · iexact Ha
    isplitl [Hs]; · iexact Hs
    iexact Hr
  isplitl [HW]
  · iexists W'; isplitr; · ipureintro; exact fun _ _ => Or.inl trivial
    iexact HW
  iexact HE

set_option backward.isDefEq.respectTransparency.types false in
theorem run_post : θ_run defs (onTc (τ := τ) (main (F := F))) (s₀ m ρ)
    (fun r => Pipeline.FramePostRG cfgs (dats m) 0 writeR (V m) (endG m) r ∧ r.2.sem = fun _ => 0) :=
  Pipeline.θ_run_frame_dmaRG (Q' := _) cfgs (dats m) (0 : Fin 1) launch0 cells defs₀ 𝒱₀ cells_own readR writeR readR_sub writeR_sub m ρ main
    (hbody := fun c => (body_obligation m c).loose) (hshare := fun c => (dats m 0 c).share_full fun _ => rfl)
    (howed := fun _ _ => rfl) (V := V m) (hmain := Pipeline.hmain_region cfgs 0 defs₀ 𝒱₀ m main fun c => (main_chain c).trans rfl) (hA := fun _ _ => rfl)
    (G := endG m) (hin := fun c => (region_eq c (V m) (V m)).1)
    (hout := fun c => (region_eq c (V m) (endG m)).2)

/-- The program runs to the end: the arguments unchanged, the result at what the blocks compute, every counter at zero. -/
theorem run_main : θ_run defs (onTc (τ := τ) (main (F := F))) (s₀ m ρ) (fun r => (∀ c : Dev nD,
      r.2.mem ((c : Thread nD τ).loc main_v0) = outA c (XAt m c) (WAt m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun r h => ⟨fun c => ⟨h.1.written c (Finset.mem_singleton_self _), (h.1.toR c).2 main_arg0 (by decide), (h.1.toR c).2 main_arg1 (by decide)⟩, h.2⟩)
    (run_post m ρ)

end Launch

end Cert.Kernel5Ideal.Hand

end
-- ==== Proof.Hand5.Value.lean ====
/-
  The result at the ideal instance: both programs' results as one gated sum over the contracted axis, index by index.
-/
module

public import proofs.«01_k».proof.Proof.Hand5.Pieces
public import proofs.«01_k».proof.Proof.Hand.Value2
public import proofs.«01_k».proof.Proof.Gen.Reference5Ideal.Run
public import Idealize.ShloMosaic.PureOps.Ideal
public import Idealize.ShloMosaic.Lib.Pointwise

@[expose] public section

noncomputable section

namespace Cert.Kernel5Ideal.Hand

open Cert.Kernel5Ideal Cert.Kernel5Ideal.Gen
open Idealize.ShloMosaic Idealize.ShloMosaic.TcCoe
open Idealize.SL.Sem

/-- One element of the projection's last part. -/
def DOT (x : S2x4096x2048.Idx → EReal) (w : S2048x8192.Idx → EReal) (b : Fin 2) (r : Fin 4096) (l : Fin 8192) : EReal := ∑ k : Fin 2048, x (ix3 b r k) * w (ix2 k l)

/-- Element `i` of the result: `z · σ(z)`, where `z` is row `(i 0, i 4)` of the activations against the column of head `i 1`, lane `i 5`, of the last part. -/
def SPEC (x : S2x4096x2048.Idx → EReal) (w : S2048x8192.Idx → EReal) : S2x16x1x1x4096x128.Idx → EReal := fun i =>
  have h1 : (i 1).val < 16 := (i 1).isLt
  have h5 : (i 5).val < 128 := (i 5).isLt
  DOT x w (i 0 : Fin 2) (i 4 : Fin 4096) ⟨6144 + (i 1).val * 128 + (i 5).val, by omega⟩
    * Ideal.logistic (DOT x w (i 0 : Fin 2) (i 4 : Fin 4096) ⟨6144 + (i 1).val * 128 + (i 5).val, by omega⟩)

variable (c : Dev nD)
  (XA : Buf (Elt Ideal) (xM.view.loc (c : Thread nD τ))) (WA : Buf (Elt Ideal) (wM.view.loc (c : Thread nD τ)))

theorem xblk_at (b : Fin 8) (r : Fin 1024) (k : Fin 2048) :
    xpay c XA b (ix3 0 r k) = XA (ix3 (⟨b.val / 4, by omega⟩ : Fin 2) (⟨1024 * (b.val % 4) + r.val, by omega⟩ : Fin 4096) k : S2x4096x2048.Idx) := by
  show XA ((Rect.unit (s := S2x4096x2048) (xblkOff b) S1x1024x2048.size (xblkOff_inb b)).emb (ix3 0 r k)) = _
  refine congrArg XA (funext fun a => Fin.ext ?_)
  match a with
  | ⟨0, _⟩ => show b.val / 4 + 1 * 0 = b.val / 4; omega
  | ⟨1, _⟩ => show 1024 * (b.val % 4) + 1 * r.val = 1024 * (b.val % 4) + r.val; omega
  | ⟨2, _⟩ => show 0 + 1 * k.val = k.val; omega

theorem wblk_at (n : Fin 8) (k : Fin 2048) (l : Fin 1024) :
    wpay c WA n (ix2 k l) = WA (ix2 k (⟨1024 * n.val + l.val, by omega⟩ : Fin 8192) : S2048x8192.Idx) := by
  show WA ((Rect.unit (s := S2048x8192) (wblkOff n) S2048x1024.size (wblkOff_inb n)).emb (ix2 k l)) = _
  refine congrArg WA (funext fun a => Fin.ext ?_)
  match a with
  | ⟨0, _⟩ => show 0 + 1 * k.val = k.val; omega
  | ⟨1, _⟩ => show 1024 * n.val + 1 * l.val = 1024 * n.val + l.val; omega

/-- A trip's gated product at an element. -/
theorem prod_at (t : ℕ) (r l : Fin 1024) : prod c XA WA t (ix2 r l)
    = (∑ k : Fin 2048, xpay c XA (xb t) (ix3 0 r k) * wpay c WA (wb t) (ix2 k l)) * Ideal.logistic (∑ k : Fin 2048, xpay c XA (xb t) (ix3 0 r k) * wpay c WA (wb t) (ix2 k l)) := by
  unfold prod wsV
  generalize xpay c XA (xb t) = x
  generalize wpay c WA (wb t) = w
  pointwise [k0_pay3, k0_pay2]
  rw [Cert.Kernel2Ideal.Hand.half_word, Cert.Kernel2Ideal.Hand.tanh_logistic]

/-- A row of a block of the activations against a column of a block of the weights is an element of the projection. -/
theorem block_dot (t : ℕ) (r l : Fin 1024) (b : Fin 2) (R : Fin 4096) (L : Fin 8192) (hb : b.val = (xb t).val / 4) (hR : R.val = 1024 * ((xb t).val % 4) + r.val)
    (hL : L.val = 1024 * (wb t).val + l.val) :
    (∑ k : Fin 2048, xpay c XA (xb t) (ix3 0 r k) * wpay c WA (wb t) (ix2 k l) : EReal) = DOT XA WA b R L := by
  unfold DOT
  refine Finset.sum_congr (M := EReal) rfl fun k _ => ?_
  rw [xblk_at, wblk_at]
  congr 2
  · congr 1 <;> apply Fin.ext <;> dsimp only <;> omega
  · congr 1; apply Fin.ext; dsimp only; omega

theorem out_spec : outA c XA WA = SPEC XA WA := by
  funext i
  have h0 : ((i : S2x16x1x1x4096x128.Idx) 0).val < 2 := (i 0).isLt
  have h1 : ((i : S2x16x1x1x4096x128.Idx) 1).val < 16 := (i 1).isLt
  have h4 : ((i : S2x16x1x1x4096x128.Idx) 4).val < 4096 := (i 4).isLt
  have h5 : ((i : S2x16x1x1x4096x128.Idx) 5).val < 128 := (i 5).isLt
  have eb : (xb (tripOf i)).val = (i 0).val * 4 + (i 4).val / 1024 := by
    show tripOf i % 8 = _; unfold tripOf; omega
  have en : (wb (tripOf i)).val = 6 + (i 1).val / 8 := by
    show (6 + tripOf i / 8) % 8 = _; unfold tripOf; omega
  unfold outA SPEC
  refine (prod_at c XA WA _ _ _).trans ?_
  rw [block_dot c XA WA (tripOf i) _ _ (i 0 : Fin 2) (i 4 : Fin 4096) ⟨6144 + (i 1).val * 128 + (i 5).val, by omega⟩ (by omega) (by dsimp only; omega) (by dsimp only; omega)]

open Cert.Reference5Ideal Cert.Reference5Ideal.Gen in
/-- The last part of the reference's projection, as its operations compose. -/
def refPart (x : FVec Ideal S2x4096x2048 .bf16) (w : FVec Ideal S2048x8192 .f32) : FVec Ideal S2x4096x2048 .f32 :=
  extractStridedSlice S2x4096x2048 ![0, 0, 6144] (Host.dotGeneral dot_S2x4096x2048_S2048x8192_S2x4096x8192_2_0_01_1_n_n none (extf .f32 x Cert.Reference5Ideal.Gen.bitsLt_bf16_f32) w) slices_S2x4096x8192_S2x4096x2048_0_0_6144

open Cert.Reference5Ideal Cert.Reference5Ideal.Gen in
/-- The reference's gate of a part. -/
def refSilu (z : FVec Ideal S2x4096x2048 .f32) : FVec Ideal S2x4096x2048 .f32 :=
  mulf z (Host.divf (broadcastInDim S2x4096x2048 ![] bcast_S_S2x4096x2048 (constant S_ .f32 0x3F800000#32))
    (addf (broadcastInDim S2x4096x2048 ![] bcast_S_S2x4096x2048 (constant S_ .f32 0x3F800000#32)) (Host.exp (Host.negf z))))

open Cert.Reference5Ideal Cert.Reference5Ideal.Gen in
/-- The reference's result as its operations compose. -/
def refOut (x : FVec Ideal S2x4096x2048 .bf16) (w : FVec Ideal S2048x8192 .f32) : FVec Ideal S2x16x1x1x4096x128 .f32 :=
  shapeCast _ (transpose S2x16x4096x128 [0, 2, 1, 3] (shapeCast _ (refSilu (refPart x w)) shapeCasts_S2x4096x2048_S2x4096x16x128) transposes_S2x4096x16x128_S2x16x4096x128_0_2_1_3) shapeCasts_S2x16x4096x128_S2x16x1x1x4096x128

theorem refPart_at (x : S2x4096x2048.Idx → EReal) (w : S2048x8192.Idx → EReal) (b : Fin 2) (r : Fin 4096) (l : Fin 2048) :
    refPart x w (ix3 b r l) = DOT x w b r ⟨6144 + l.val, by omega⟩ := by
  unfold refPart DOT
  pointwise

theorem refSilu_at (z : S2x4096x2048.Idx → EReal) (y : S2x4096x2048.Idx) : refSilu z y = z y * Ideal.logistic (z y) := by
  unfold refSilu
  pointwise
  rfl

/-- The reference's result is the same. -/
theorem ref_spec (x : S2x4096x2048.Idx → EReal) (w : S2048x8192.Idx → EReal) : refOut x w = SPEC x w := by
  funext i
  have h1 : ((i : S2x16x1x1x4096x128.Idx) 1).val < 16 := (i 1).isLt
  have h5 : ((i : S2x16x1x1x4096x128.Idx) 5).val < 128 := (i 5).isLt
  have e : refOut x w i = refSilu (refPart x w) (ix3 (i 0 : Fin 2) (i 4 : Fin 4096) (⟨(i 1).val * 128 + (i 5).val, by omega⟩ : Fin 2048)) := by
    unfold refOut
    generalize refSilu (refPart x w) = z
    pointwise
  rw [e, refSilu_at]
  refine (congrArg (fun v : EReal => v * Ideal.logistic v) (refPart_at x w (i 0 : Fin 2) (i 4 : Fin 4096) _)).trans ?_
  unfold SPEC
  simp only [Nat.add_assoc]

end Cert.Kernel5Ideal.Hand

end
-- ==== Proof.Hand7.Words.lean ====
/-
  The words one trip of the pipelined loop carries and reads, in closed form: the counters of blocks fetched and
  waited for, the grid indices, and with them every guard, offset and check of a trip, for each of the 16 trips.
-/
module

public import proofs.«01_k».proof.Proof.Gen.Kernel7Ideal.Skeleton
public import Idealize.ShloMosaic.Lib.Ring

@[expose] public section

noncomputable section

namespace Cert.Kernel7Ideal.Hand

open Cert.Kernel7Ideal Cert.Kernel7Ideal.Gen
open Idealize.ShloMosaic

/-! ## The carried words before trip `k` -/

def fx (k : ℕ) : BitVec 32 := BitVec.ofNat 32 (min (k + 2) 16)
def cx (k : ℕ) : BitVec 32 := BitVec.ofNat 32 k
def fw (k : ℕ) : BitVec 32 := BitVec.ofNat 32 (min (k / 8 + 1) 2)
def cw (k : ℕ) : BitVec 32 := BitVec.ofNat 32 (k / 8)
def fo (k : ℕ) : BitVec 32 := BitVec.ofNat 32 k
def co (k : ℕ) : BitVec 32 := BitVec.ofNat 32 (k - 1)
def gn (k : ℕ) : BitVec 32 := BitVec.ofNat 32 (k / 8 % 2)
def gb (k : ℕ) : BitVec 32 := BitVec.ofNat 32 (k / 4 % 2)
def gi (k : ℕ) : BitVec 32 := BitVec.ofNat 32 (k % 4)

theorem trips_eq : k0_t1_loop.trips = 16 := by decide

theorem all_trips {P : Fin k0_t1_loop.trips → Prop} (h : ∀ k : Fin 16, P (k.cast trips_eq.symm)) : ∀ k, P k :=
  fun k => h (k.cast trips_eq)

theorem cond2_iff : ∀ k : Fin k0_t1_loop.trips, k0_cond2 k (gb k.val) (gi k.val) = 1#1 ↔ k.val < 14 := all_trips (by decide +kernel)
theorem cond3_iff : ∀ k : Fin k0_t1_loop.trips, k0_cond3 k (gn k.val) (gb k.val) (gi k.val) = 1#1 ↔ k.val % 8 = 7 ∧ k.val < 15 := all_trips (by decide +kernel)
theorem cond4_iff : ∀ k : Fin k0_t1_loop.trips, k0_cond4 k (gb k.val) (gi k.val) = 1#1 := all_trips (by decide +kernel)
theorem cond5_iff : ∀ k : Fin k0_t1_loop.trips, k0_cond5 k (gn k.val) (gb k.val) (gi k.val) = 1#1 ↔ k.val % 8 = 0 := all_trips (by decide +kernel)
theorem cond7_iff : ∀ k : Fin k0_t1_loop.trips, k0_cond7 (gb k.val) (gi k.val) = 1#1 ↔ k.val % 8 = 0 := all_trips (by decide +kernel)
theorem cond10_iff : ∀ k : Fin k0_t1_loop.trips, k0_cond10 k (gn k.val) (gb k.val) (gi k.val) = 1#1 := all_trips (by decide +kernel)
theorem cond13_iff : ∀ k : Fin k0_t1_loop.trips, k0_cond13 k (gn k.val) (gb k.val) (gi k.val) = 1#1 ↔ 1 ≤ k.val := all_trips (by decide +kernel)
theorem chk1_all : ∀ k : Fin k0_t1_loop.trips, k0_chk1 k (fx k.val) (cx k.val) (fw k.val) (cw k.val) (fo k.val) (co k.val) (gn k.val) (gb k.val) (gi k.val) := all_trips (by decide +kernel)
theorem chk2_all : ∀ k : Fin k0_t1_loop.trips, k0_chk2 (cx k.val) := all_trips (by decide +kernel)
theorem chk3_all : ∀ k : Fin k0_t1_loop.trips, k0_chk3 (fo k.val) := all_trips (by decide +kernel)

end Cert.Kernel7Ideal.Hand

end
-- ==== Proof.Hand7.Names.lean ====
/-
  The pieces of memory a trip of the pipelined loop names, under one name each: the blocks of the three arrays in HBM,
  the slots of the three rings in VMEM and their transfer semaphores; and, for each slice the program takes at run-time
  offsets, the name it is at trip `k`.
-/
module

public import proofs.«01_k».proof.Proof.Hand7.Words
public import Idealize.ShloMosaic.Lib.Ring.Trips
public import Idealize.ShloMosaic.Lib.Tactic

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)

/-! ## The arrays, the rings and the scratch buffers -/

abbrev xM : Memref sig .tc .hbm S2x4096x2048 .bf16 := Memref.whole main_arg0
abbrev wM : Memref sig .tc .hbm S2048x8192 .f32 := Memref.whole main_arg1
abbrev oM : Memref sig .tc .hbm S2x16x1x1x4096x128 .bf16 := Memref.whole main_v0
abbrev wsM : Memref sig .tc .vmem S2048x1024 .bf16 := Memref.whole cc0_scratch0
abbrev asM : Memref sig .tc .vmem S8x1024x128 .f32 := Memref.whole cc0_scratch1
abbrev xR : Memref sig .tc .vmem S3x1x1024x2048 .bf16 := Memref.whole cc0_scoped0
abbrev wR : Memref sig .tc .vmem S2x2048x1024 .f32 := Memref.whole cc0_scoped2
abbrev oR : Memref sig .tc .vmem S2x1x8x1x1x1024x128 .bf16 := Memref.whole cc0_scoped4

/-! ## Block and slot numbers -/

/-- The activations' block at trip `k`: 1024 rows, eight of them, the whole array once per block of the weights. -/
def xb (k : ℕ) : Fin 8 := Fin.ofNat 8 k
/-- The weights' block at trip `k`: 1024 columns, the first two blocks of eight. -/
def wb (k : ℕ) : Fin 8 := Fin.ofNat 8 (k / 8)
/-- The result's block at trip `k`. -/
def ob (k : ℕ) : Fin 16 := Fin.ofNat 16 k

abbrev xblkOff (b : Fin 8) : Fin 3 → Nat := ![b.val / 4, 1024 * (b.val % 4), 0]
abbrev wblkOff (n : Fin 8) : Fin 2 → Nat := ![0, 1024 * n.val]
abbrev oblkOff (t : Fin 16) : Fin 6 → Nat := ![t.val / 4 % 2, 8 * (t.val / 8), 0, 0, 1024 * (t.val % 4), 0]
abbrev xslotOff (s : Fin 3) : Fin 4 → Nat := ![s.val, 0, 0, 0]
abbrev wslotOff (s : Fin 2) : Fin 3 → Nat := ![s.val, 0, 0]
abbrev oslotOff (s : Fin 2) : Fin 7 → Nat := ![s.val, 0, 0, 0, 0, 0, 0]
abbrev sem3Off (s : Fin 3) : Fin 1 → Nat := ![s.val]
abbrev sem2Off (s : Fin 2) : Fin 1 → Nat := ![s.val]

theorem xblkOff_inb (b : Fin 8) : ∀ a, xblkOff b a + S1x1024x2048.size a ≤ S2x4096x2048.size a := by revert b; decide
theorem wblkOff_inb (n : Fin 8) : ∀ a, wblkOff n a + S2048x1024.size a ≤ S2048x8192.size a := by revert n; decide
theorem oblkOff_inb (t : Fin 16) : ∀ a, oblkOff t a + S1x8x1x1x1024x128.size a ≤ S2x16x1x1x4096x128.size a := by revert t; decide
theorem xslotOff_inb (s : Fin 3) : ∀ a, xslotOff s a + S1x1x1024x2048.size a ≤ S3x1x1024x2048.size a := by revert s; decide
theorem wslotOff_inb (s : Fin 2) : ∀ a, wslotOff s a + S1x2048x1024.size a ≤ S2x2048x1024.size a := by revert s; decide
theorem oslotOff_inb (s : Fin 2) : ∀ a, oslotOff s a + S1x1x8x1x1x1024x128.size a ≤ S2x1x8x1x1x1024x128.size a := by revert s; decide
theorem sem3Off_inb (s : Fin 3) : ∀ a, sem3Off s a + S1.size a ≤ S3.size a := by revert s; decide
theorem sem2Off_inb (s : Fin 2) : ∀ a, sem2Off s a + S1.size a ≤ S2.size a := by revert s; decide

def xblk (b : Fin 8) : Memref sig .tc .hbm S1x1024x2048 .bf16 :=
  xM.slice (Rect.unit (s := S2x4096x2048) (xblkOff b) S1x1024x2048.size (xblkOff_inb b)) (fun _ => rfl)
def wblk (n : Fin 8) : Memref sig .tc .hbm S2048x1024 .f32 :=
  wM.slice (Rect.unit (s := S2048x8192) (wblkOff n) S2048x1024.size (wblkOff_inb n)) (fun _ => rfl)
def oblk (t : Fin 16) : Memref sig .tc .hbm S1x8x1x1x1024x128 .bf16 :=
  oM.slice (Rect.unit (s := S2x16x1x1x4096x128) (oblkOff t) S1x8x1x1x1024x128.size (oblkOff_inb t)) (fun _ => rfl)
def xslot (s : Fin 3) : Memref sig .tc .vmem S1x1024x2048 .bf16 :=
  (xR.slice (Rect.unit (s := S3x1x1024x2048) (xslotOff s) S1x1x1024x2048.size (xslotOff_inb s)) (fun _ => rfl)).squeeze S1x1024x2048 squeezes_S1x1x1024x2048_S1x1024x2048
def wslot (s : Fin 2) : Memref sig .tc .vmem S2048x1024 .f32 :=
  (wR.slice (Rect.unit (s := S2x2048x1024) (wslotOff s) S1x2048x1024.size (wslotOff_inb s)) (fun _ => rfl)).squeeze S2048x1024 squeezes_S1x2048x1024_S2048x1024
def oslot (s : Fin 2) : Memref sig .tc .vmem S1x8x1x1x1024x128 .bf16 :=
  (oR.slice (Rect.unit (s := S2x1x8x1x1x1024x128) (oslotOff s) S1x1x8x1x1x1024x128.size (oslotOff_inb s)) (fun _ => rfl)).squeeze S1x8x1x1x1024x128 squeezes_S1x1x8x1x1x1024x128_S1x8x1x1x1024x128
def xsem (s : Fin 3) : DmaSems sig S_ := (cc0_scoped1.slice (Rect.unit (s := S3) (sem3Off s) S1.size (sem3Off_inb s))).squeeze S_ squeezes_S1_S_
def wsem (s : Fin 2) : DmaSems sig S_ := (cc0_scoped3.slice (Rect.unit (s := S2) (sem2Off s) S1.size (sem2Off_inb s))).squeeze S_ squeezes_S1_S_
def osem (s : Fin 2) : DmaSems sig S_ := (cc0_scoped5.slice (Rect.unit (s := S2) (sem2Off s) S1.size (sem2Off_inb s))).squeeze S_ squeezes_S1_S_

instance (b : Fin 8) : ClosedOff (xblkOff b) := ⟨xblkOff b, rfl⟩
instance (n : Fin 8) : ClosedOff (wblkOff n) := ⟨wblkOff n, rfl⟩
instance (t : Fin 16) : ClosedOff (oblkOff t) := ⟨oblkOff t, rfl⟩
instance (s : Fin 3) : ClosedOff (xslotOff s) := ⟨xslotOff s, rfl⟩
instance (s : Fin 2) : ClosedOff (wslotOff s) := ⟨wslotOff s, rfl⟩
instance (s : Fin 2) : ClosedOff (oslotOff s) := ⟨oslotOff s, rfl⟩

/-! ## The offsets of trip `k` -/

section Offsets
variable (k : Fin k0_t1_loop.trips)

theorem off8_eq (h : k.val < 14) : k0_off8 (fx k.val) = sem3Off (sl 3 (k.val + 2)) := by revert k; exact all_trips (by decide +kernel)
theorem off9_eq (h : k.val < 14) : k0_off9 (fx k.val) = xslotOff (sl 3 (k.val + 2)) := by revert k; exact all_trips (by decide +kernel)
theorem off10_eq (h : k.val < 14) : k0_off10 (gb k.val) (gi k.val) = xblkOff (xb (k.val + 2)) := by revert k; exact all_trips (by decide +kernel)
theorem off11_eq (h : k.val % 8 = 7 ∧ k.val < 15) : k0_off11 (fw k.val) = sem2Off (sl 2 (k.val / 8 + 1)) := by revert k; exact all_trips (by decide +kernel)
theorem off12_eq (h : k.val % 8 = 7 ∧ k.val < 15) : k0_off12 (fw k.val) = wslotOff (sl 2 (k.val / 8 + 1)) := by revert k; exact all_trips (by decide +kernel)
theorem off13_eq (h : k.val % 8 = 7 ∧ k.val < 15) : k0_off13 (gn k.val) (gb k.val) (gi k.val) = wblkOff (wb (k.val + 1)) := by revert k; exact all_trips (by decide +kernel)
theorem off14_eq : k0_off14 (cx k.val) = sem3Off (sl 3 k.val) := by revert k; exact all_trips (by decide +kernel)
theorem off15_eq : k0_off15 (cx k.val) = xslotOff (sl 3 k.val) := by revert k; exact all_trips (by decide +kernel)
theorem off16_eq : k0_off16 (gb k.val) (gi k.val) = xblkOff (xb k.val) := by revert k; exact all_trips (by decide +kernel)
theorem off17_eq : k0_off17 (cw k.val) = sem2Off (sl 2 (k.val / 8)) := by revert k; exact all_trips (by decide +kernel)
theorem off18_eq : k0_off18 (cw k.val) = wslotOff (sl 2 (k.val / 8)) := by revert k; exact all_trips (by decide +kernel)
theorem off19_eq : k0_off19 (gn k.val) = wblkOff (wb k.val) := by revert k; exact all_trips (by decide +kernel)
theorem off20_eq : k0_off20 (cw k.val) = wslotOff (sl 2 (k.val / 8)) := by revert k; exact all_trips (by decide +kernel)
theorem off21_eq : k0_off21 (cx k.val) = xslotOff (sl 3 k.val) := by revert k; exact all_trips (by decide +kernel)
theorem off22_eq : k0_off22 (fo k.val) = oslotOff (sl 2 k.val) := by revert k; exact all_trips (by decide +kernel)
theorem off31_eq : k0_off31 (fo k.val) = sem2Off (sl 2 k.val) := by revert k; exact all_trips (by decide +kernel)
theorem off32_eq : k0_off32 (gn k.val) (gb k.val) (gi k.val) = oblkOff (ob k.val) := by revert k; exact all_trips (by decide +kernel)
theorem off33_eq : k0_off33 (fo k.val) = oslotOff (sl 2 k.val) := by revert k; exact all_trips (by decide +kernel)
theorem off34_eq (h : 1 ≤ k.val) : k0_off34 (co k.val) = sem2Off (sl 2 (k.val + 1)) := by revert k; exact all_trips (by decide +kernel)
theorem off35_eq (h : 1 ≤ k.val) : k0_off35 (gn k.val) (gb k.val) (gi k.val) = oblkOff (ob (k.val - 1)) := by revert k; exact all_trips (by decide +kernel)
theorem off36_eq (h : 1 ≤ k.val) : k0_off36 (co k.val) = oslotOff (sl 2 (k.val + 1)) := by revert k; exact all_trips (by decide +kernel)

abbrev pieceOff (s : Fin 2) (h : ℕ) : Fin 7 → Nat := ![s.val, 0, h, 0, 0, 0, 0]

instance : ClosedOff (k0_off20 (cw k.val)) := ⟨wslotOff (sl 2 (k.val / 8)), off20_eq k⟩
instance : ClosedOff (k0_off23 (fo k.val)) := ⟨pieceOff (sl 2 k.val) 0, by revert k; exact all_trips (by decide +kernel)⟩
instance : ClosedOff (k0_off24 (fo k.val)) := ⟨pieceOff (sl 2 k.val) 1, by revert k; exact all_trips (by decide +kernel)⟩
instance : ClosedOff (k0_off25 (fo k.val)) := ⟨pieceOff (sl 2 k.val) 2, by revert k; exact all_trips (by decide +kernel)⟩
instance : ClosedOff (k0_off26 (fo k.val)) := ⟨pieceOff (sl 2 k.val) 3, by revert k; exact all_trips (by decide +kernel)⟩
instance : ClosedOff (k0_off27 (fo k.val)) := ⟨pieceOff (sl 2 k.val) 4, by revert k; exact all_trips (by decide +kernel)⟩
instance : ClosedOff (k0_off28 (fo k.val)) := ⟨pieceOff (sl 2 k.val) 5, by revert k; exact all_trips (by decide +kernel)⟩
instance : ClosedOff (k0_off29 (fo k.val)) := ⟨pieceOff (sl 2 k.val) 6, by revert k; exact all_trips (by decide +kernel)⟩
instance : ClosedOff (k0_off30 (fo k.val)) := ⟨pieceOff (sl 2 k.val) 7, by revert k; exact all_trips (by decide +kernel)⟩

end Offsets

/-! ## The slices of trip `k` under their names -/

section Canon

theorem xsem_congr {off : Fin 1 → Nat} {s : Fin 3} (e : off = sem3Off s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 2} (e : off = sem2Off s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
theorem osem_congr {off : Fin 1 → Nat} {s : Fin 2} (e : off = sem2Off s) (hh) :
    (cc0_scoped5.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 4 → Nat} {s : Fin 3} (e : off = xslotOff s) (hh hs) :
    (xR.slice (Rect.unit (s := S3x1x1024x2048) off S1x1x1024x2048.size hh) hs).squeeze S1x1024x2048 squeezes_S1x1x1024x2048_S1x1024x2048 = xslot s :=
  congrArg (fun M : Memref sig .tc .vmem S1x1x1024x2048 .bf16 => M.squeeze S1x1024x2048 squeezes_S1x1x1024x2048_S1x1024x2048) (Memref.slice_unit_congr _ e _ _ _ _)
theorem wslot_congr {off : Fin 3 → Nat} {s : Fin 2} (e : off = wslotOff s) (hh hs) :
    (wR.slice (Rect.unit (s := S2x2048x1024) off S1x2048x1024.size hh) hs).squeeze S2048x1024 squeezes_S1x2048x1024_S2048x1024 = wslot s :=
  congrArg (fun M : Memref sig .tc .vmem S1x2048x1024 .f32 => M.squeeze S2048x1024 squeezes_S1x2048x1024_S2048x1024) (Memref.slice_unit_congr _ e _ _ _ _)
theorem oslot_congr {off : Fin 7 → Nat} {s : Fin 2} (e : off = oslotOff s) (hh hs) :
    (oR.slice (Rect.unit (s := S2x1x8x1x1x1024x128) off S1x1x8x1x1x1024x128.size hh) hs).squeeze S1x8x1x1x1024x128 squeezes_S1x1x8x1x1x1024x128_S1x8x1x1x1024x128 = oslot s :=
  congrArg (fun M : Memref sig .tc .vmem S1x1x8x1x1x1024x128 .bf16 => M.squeeze S1x8x1x1x1024x128 squeezes_S1x1x8x1x1x1024x128_S1x8x1x1x1024x128) (Memref.slice_unit_congr _ e _ _ _ _)
theorem xblk_congr {off : Fin 3 → Nat} {b : Fin 8} (e : off = xblkOff b) (hh hs) :
    xM.slice (Rect.unit (s := S2x4096x2048) off S1x1024x2048.size hh) hs = xblk b := Memref.slice_unit_congr _ e _ _ _ (fun _ => rfl)
theorem wblk_congr {off : Fin 2 → Nat} {b : Fin 8} (e : off = wblkOff b) (hh hs) :
    wM.slice (Rect.unit (s := S2048x8192) off S2048x1024.size hh) hs = wblk b := Memref.slice_unit_congr _ e _ _ _ (fun _ => rfl)
theorem oblk_congr {off : Fin 6 → Nat} {b : Fin 16} (e : off = oblkOff b) (hh hs) :
    oM.slice (Rect.unit (s := S2x16x1x1x4096x128) off S1x8x1x1x1024x128.size hh) hs = oblk b := Memref.slice_unit_congr _ e _ _ _ (fun _ => rfl)

variable (k : Fin k0_t1_loop.trips)

@[sl_canon] theorem xsem_off8 (h : k.val < 14) (hh) : (cc0_scoped1.slice (Rect.unit (s := S3) (k0_off8 (fx k.val)) S1.size hh)).squeeze S_ squeezes_S1_S_ = xsem (sl 3 (k.val + 2)) := xsem_congr (off8_eq k h) _
@[sl_canon] theorem xslot_off9 (h : k.val < 14) (hh hs) : (xR.slice (Rect.unit (s := S3x1x1024x2048) (k0_off9 (fx k.val)) S1x1x1024x2048.size hh) hs).squeeze S1x1024x2048 squeezes_S1x1x1024x2048_S1x1024x2048 = xslot (sl 3 (k.val + 2)) := xslot_congr (off9_eq k h) _ _
@[sl_canon] theorem xblk_off10 (h : k.val < 14) (hh hs) : xM.slice (Rect.unit (s := S2x4096x2048) (k0_off10 (gb k.val) (gi k.val)) S1x1024x2048.size hh) hs = xblk (xb (k.val + 2)) := xblk_congr (off10_eq k h) _ _
@[sl_canon] theorem wsem_off11 (h : k.val % 8 = 7 ∧ k.val < 15) (hh) : (cc0_scoped3.slice (Rect.unit (s := S2) (k0_off11 (fw k.val)) S1.size hh)).squeeze S_ squeezes_S1_S_ = wsem (sl 2 (k.val / 8 + 1)) := wsem_congr (off11_eq k h) _
@[sl_canon] theorem wslot_off12 (h : k.val % 8 = 7 ∧ k.val < 15) (hh hs) : (wR.slice (Rect.unit (s := S2x2048x1024) (k0_off12 (fw k.val)) S1x2048x1024.size hh) hs).squeeze S2048x1024 squeezes_S1x2048x1024_S2048x1024 = wslot (sl 2 (k.val / 8 + 1)) := wslot_congr (off12_eq k h) _ _
@[sl_canon] theorem wblk_off13 (h : k.val % 8 = 7 ∧ k.val < 15) (hh hs) : wM.slice (Rect.unit (s := S2048x8192) (k0_off13 (gn k.val) (gb k.val) (gi k.val)) S2048x1024.size hh) hs = wblk (wb (k.val + 1)) := wblk_congr (off13_eq k h) _ _
@[sl_canon] theorem xsem_off14 (hh) : (cc0_scoped1.slice (Rect.unit (s := S3) (k0_off14 (cx k.val)) S1.size hh)).squeeze S_ squeezes_S1_S_ = xsem (sl 3 k.val) := xsem_congr (off14_eq k) _
@[sl_canon] theorem xslot_off15 (hh hs) : (xR.slice (Rect.unit (s := S3x1x1024x2048) (k0_off15 (cx k.val)) S1x1x1024x2048.size hh) hs).squeeze S1x1024x2048 squeezes_S1x1x1024x2048_S1x1024x2048 = xslot (sl 3 k.val) := xslot_congr (off15_eq k) _ _
@[sl_canon] theorem xblk_off16 (hh hs) : xM.slice (Rect.unit (s := S2x4096x2048) (k0_off16 (gb k.val) (gi k.val)) S1x1024x2048.size hh) hs = xblk (xb k.val) := xblk_congr (off16_eq k) _ _
@[sl_canon] theorem wsem_off17 (hh) : (cc0_scoped3.slice (Rect.unit (s := S2) (k0_off17 (cw k.val)) S1.size hh)).squeeze S_ squeezes_S1_S_ = wsem (sl 2 (k.val / 8)) := wsem_congr (off17_eq k) _
@[sl_canon] theorem wslot_off18 (hh hs) : (wR.slice (Rect.unit (s := S2x2048x1024) (k0_off18 (cw k.val)) S1x2048x1024.size hh) hs).squeeze S2048x1024 squeezes_S1x2048x1024_S2048x1024 = wslot (sl 2 (k.val / 8)) := wslot_congr (off18_eq k) _ _
@[sl_canon] theorem wblk_off19 (hh hs) : wM.slice (Rect.unit (s := S2048x8192) (k0_off19 (gn k.val)) S2048x1024.size hh) hs = wblk (wb k.val) := wblk_congr (off19_eq k) _ _
@[sl_canon] theorem xslot_off21 (hh hs) : (xR.slice (Rect.unit (s := S3x1x1024x2048) (k0_off21 (cx k.val)) S1x1x1024x2048.size hh) hs).squeeze S1x1024x2048 squeezes_S1x1x1024x2048_S1x1024x2048 = xslot (sl 3 k.val) := xslot_congr (off21_eq k) _ _
@[sl_canon] theorem oslot_off22 (hh hs) : (oR.slice (Rect.unit (s := S2x1x8x1x1x1024x128) (k0_off22 (fo k.val)) S1x1x8x1x1x1024x128.size hh) hs).squeeze S1x8x1x1x1024x128 squeezes_S1x1x8x1x1x1024x128_S1x8x1x1x1024x128 = oslot (sl 2 k.val) := oslot_congr (off22_eq k) _ _
@[sl_canon] theorem osem_off31 (hh) : (cc0_scoped5.slice (Rect.unit (s := S2) (k0_off31 (fo k.val)) S1.size hh)).squeeze S_ squeezes_S1_S_ = osem (sl 2 k.val) := osem_congr (off31_eq k) _
@[sl_canon] theorem oblk_off32 (hh hs) : oM.slice (Rect.unit (s := S2x16x1x1x4096x128) (k0_off32 (gn k.val) (gb k.val) (gi k.val)) S1x8x1x1x1024x128.size hh) hs = oblk (ob k.val) := oblk_congr (off32_eq k) _ _
@[sl_canon] theorem oslot_off33 (hh hs) : (oR.slice (Rect.unit (s := S2x1x8x1x1x1024x128) (k0_off33 (fo k.val)) S1x1x8x1x1x1024x128.size hh) hs).squeeze S1x8x1x1x1024x128 squeezes_S1x1x8x1x1x1024x128_S1x8x1x1x1024x128 = oslot (sl 2 k.val) := oslot_congr (off33_eq k) _ _
@[sl_canon] theorem osem_off34 (h : 1 ≤ k.val) (hh) : (cc0_scoped5.slice (Rect.unit (s := S2) (k0_off34 (co k.val)) S1.size hh)).squeeze S_ squeezes_S1_S_ = osem (sl 2 (k.val + 1)) := osem_congr (off34_eq k h) _
@[sl_canon] theorem oblk_off35 (h : 1 ≤ k.val) (hh hs) : oM.slice (Rect.unit (s := S2x16x1x1x4096x128) (k0_off35 (gn k.val) (gb k.val) (gi k.val)) S1x8x1x1x1024x128.size hh) hs = oblk (ob (k.val - 1)) := oblk_congr (off35_eq k h) _ _
@[sl_canon] theorem oslot_off36 (h : 1 ≤ k.val) (hh hs) : (oR.slice (Rect.unit (s := S2x1x8x1x1x1024x128) (k0_off36 (co k.val)) S1x1x8x1x1x1024x128.size hh) hs).squeeze S1x8x1x1x1024x128 squeezes_S1x1x8x1x1x1024x128_S1x8x1x1x1024x128 = oslot (sl 2 (k.val + 1)) := oslot_congr (off36_eq k h) _ _

end Canon

end Cert.Kernel7Ideal.Hand

end
-- ==== Proof.Hand7.Pieces.lean ====
/-
  What is held during a trip: a block of an array at home, a slot of a ring, a slot's transfer cell, a slot in flight;
  and what the loop computes, block by block.
-/
module

public import proofs.«01_k».proof.Proof.Hand7.Names
public import proofs.«01_k».proof.Proof.Hand.Shared
public import proofs.«01_k».proof.Proof.Gen.Kernel7Ideal.Launch
public import proofs.«01_k».proof.Proof.Gen.Kernel7Ideal.Loops
public import proofs.«01_k».proof.Proof.Gen.Kernel7Ideal.Points
public import Idealize.ShloMosaic.Lib.WritesUnit
public import Idealize.ShloMosaic.Lib.ViewIndex
public import Idealize.ShloMosaic.Lib.Pointwise

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
abbrev UU (nD : Nat) (τ : Topo) : Type := UR sig nD τ × Counters
local notation "𝕄" => MT nD τ sig Unit (Elt F) ℕ (UU nD τ) ℕ
abbrev 𝒱₀ : Variants := Variants.none

section Pieces
variable (c : Dev nD)
  (XA : Buf (Elt F) (xM.view.loc (c : Thread nD τ))) (WA : Buf (Elt F) (wM.view.loc (c : Thread nD τ)))

abbrev xcellP (s : Fin 3) : sProp 𝕄 := semVal ((c : Thread nD τ), SemLoc.dma (xsem s).sem) 0
abbrev wcellP (s : Fin 2) : sProp 𝕄 := semVal ((c : Thread nD τ), SemLoc.dma (wsem s).sem) 0
abbrev ocellP (s : Fin 2) : sProp 𝕄 := semVal ((c : Thread nD τ), SemLoc.dma (osem s).sem) 0
abbrev xslotP (s : Fin 3) (f : Buf (Elt F) ((xslot s).view.loc (c : Thread nD τ))) : sProp 𝕄 :=
  (xslot s).view.loc (c : Thread nD τ) ↦[(xslot s).view.set]{fullShare} f
abbrev wslotP (s : Fin 2) (f : Buf (Elt F) ((wslot s).view.loc (c : Thread nD τ))) : sProp 𝕄 :=
  (wslot s).view.loc (c : Thread nD τ) ↦[(wslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 8) : sProp 𝕄 := (xblk b).view.loc (c : Thread nD τ) ↦[(xblk b).view.set]{fullShare} XA
abbrev whomeP (b : Fin 8) : sProp 𝕄 := (wblk b).view.loc (c : Thread nD τ) ↦[(wblk b).view.set]{fullShare} WA
abbrev oblkP (t : Fin 16) (g : Buf (Elt F) ((oblk t).view.loc (c : Thread nD τ))) : sProp 𝕄 :=
  (oblk t).view.loc (c : Thread nD τ) ↦[(oblk t).view.set]{fullShare} g

abbrev xpay (b : Fin 8) : S1x1024x2048.Idx → Elt F .bf16 := ReadAs.same.apply ((xblk b).view.read (Elt F) XA)
abbrev wpay (b : Fin 8) : S2048x1024.Idx → Elt F .f32 := ReadAs.same.apply ((wblk b).view.read (Elt F) WA)
abbrev xland (s : Fin 3) (b : Fin 8) (f : Buf (Elt F) ((xslot s).view.loc (c : Thread nD τ))) : Buf (Elt F) ((xslot s).view.loc (c : Thread nD τ)) :=
  (xslot s).view.writes (Elt F) f [⟨Rect.whole _, xpay c XA b⟩]
abbrev wland (s : Fin 2) (b : Fin 8) (f : Buf (Elt F) ((wslot s).view.loc (c : Thread nD τ))) : Buf (Elt F) ((wslot s).view.loc (c : Thread nD τ)) :=
  (wslot s).view.writes (Elt F) f [⟨Rect.whole _, wpay c WA b⟩]
abbrev xflightP (s : Fin 3) (b : Fin 8) : sProp 𝕄 :=
  iprop(∃ f, Transfers.Flight countersEmb (c : Thread nD τ) (SemLoc.dma (xsem s).sem) () 131072 iprop(xslotP c s (xland c XA s b f) ∗ xhomeP c XA b))
abbrev wflightP (s : Fin 2) (b : Fin 8) : sProp 𝕄 :=
  iprop(∃ f, Transfers.Flight countersEmb (c : Thread nD τ) (SemLoc.dma (wsem s).sem) () 262144 iprop(wslotP c s (wland c WA s b f) ∗ whomeP c WA b))
abbrev oflightP (s : Fin 2) (t : Fin 16) (g : Buf (Elt F) ((oblk t).view.loc (c : Thread nD τ))) : sProp 𝕄 :=
  iprop(∃ f, Transfers.Flight countersEmb (c : Thread nD τ) (SemLoc.dma (osem s).sem) () 65536 iprop(oblkP c t g ∗ oslotP c s f))

end Pieces

/-! ## What the loop computes -/

section Values

/-- The element of the out ring that slot `s` has at `y`. -/
def oIdx (s : Fin 2) (y : S1x8x1x1x1024x128.Idx) : S2x1x8x1x1x1024x128.Idx :=
  ix7 s 0 (y 1) 0 0 (y 4) (y 5)

theorem oslot_emb (s : Fin 2) (y : S1x8x1x1x1024x128.Idx) : (oslot s).view.emb y = oIdx s y := by
  have e : Shape.reshapeEquiv (s := S1x1x8x1x1x1024x128) (s' := S1x8x1x1x1024x128) squeezes_S1x1x8x1x1x1024x128_S1x8x1x1x1024x128.numel_eq y = ix7 0 0 (y 1) 0 0 (y 4) (y 5) := by
    simp only [pointwise]
  show (Rect.unit (s := S2x1x8x1x1x1024x128) (oslotOff s) S1x1x8x1x1x1024x128.size (oslotOff_inb s)).emb (Shape.reshapeEquiv (s := S1x1x8x1x1x1024x128) (s' := S1x8x1x1x1024x128) squeezes_S1x1x8x1x1x1024x128_S1x8x1x1x1024x128.numel_eq y) = oIdx s y
  rw [e]
  funext a
  apply Fin.ext
  match a with
  | ⟨0, _⟩ => rfl
  | ⟨1, _⟩ => rfl
  | ⟨2, _⟩ => exact (Nat.zero_add _).trans (Nat.one_mul _)
  | ⟨3, _⟩ => rfl
  | ⟨4, _⟩ => rfl
  | ⟨5, _⟩ => exact (Nat.zero_add _).trans (Nat.one_mul _)
  | ⟨6, _⟩ => exact (Nat.zero_add _).trans (Nat.one_mul _)

/-- A slot of the out ring read at `y`. -/
theorem oslot_read (s : Fin 2) (f : oR.view.ty.Contents (Elt F)) (y : S1x8x1x1x1024x128.Idx) :
    (oslot s).view.read (Elt F) f y = oR.view.read (Elt F) f (oIdx s y) :=
  congrArg f (oslot_emb s y)

abbrev headRect (off : Fin 7 → Nat) (h : ∀ a, off a + S1x1x1x1x1x1024x128.size a ≤ S2x1x8x1x1x1024x128.size a) : Rect S2x1x8x1x1x1024x128 :=
  Rect.unit (s := S2x1x8x1x1x1024x128) off S1x1x1x1x1x1024x128.size h

/-- The store of head `h` read back at head `h`. -/
theorem head_hit {s : Fin 2} {h : Fin 8} {off} (e : off = pieceOff s h.val) (inb) (f : oR.view.ty.Contents (Elt F)) (p) (L) (r : Fin 1024) (l : Fin 128) :
    oR.view.read (Elt F) (oR.view.writes (Elt F) f ((⟨headRect off inb, p⟩ : View.Piece (Elt F) S2x1x8x1x1x1024x128 .bf16) :: L)) (ix7 s 0 h 0 0 r l) = p (ix7 0 0 0 0 0 r l) := by
  refine View.read_writes_cons_unit_of_mem oR.view f inb p L _ (ix7 0 0 0 0 0 r l) e fun a => ?_
  match a with
  | ⟨0, _⟩ => rfl
  | ⟨1, _⟩ => rfl
  | ⟨2, _⟩ => rfl
  | ⟨3, _⟩ => rfl
  | ⟨4, _⟩ => rfl
  | ⟨5, _⟩ => exact (Nat.zero_add _).symm
  | ⟨6, _⟩ => exact (Nat.zero_add _).symm

/-- The store of head `h'` does not touch head `h`. -/
theorem head_miss {s : Fin 2} {h : Fin 8} {h' : ℕ} {off} (e : off = pieceOff s h') (hne : h.val < h') (inb) (f : oR.view.ty.Contents (Elt F)) (p) (L) (r : Fin 1024) (l : Fin 128) :
    oR.view.read (Elt F) (oR.view.writes (Elt F) f ((⟨headRect off inb, p⟩ : View.Piece (Elt F) S2x1x8x1x1x1024x128 .bf16) :: L)) (ix7 s 0 h 0 0 r l)
      = oR.view.read (Elt F) (oR.view.writes (Elt F) f L) (ix7 s 0 h 0 0 r l) :=
  View.read_writes_cons_unit_of_not_mem oR.view f inb p L _ e 2 (Or.inl hne)

/-- The slot after the eight stores of a trip, read at `y`: head `y 1`'s store. -/
theorem stage_at (s : Fin 2) (o : Fin 8 → Fin 7 → ℕ) (inb : ∀ h a, o h a + S1x1x1x1x1x1024x128.size a ≤ S2x1x8x1x1x1024x128.size a) (ho : ∀ h, o h = pieceOff s h.val)
    (p : Fin 8 → S1x1x1x1x1x1024x128.Idx → Elt F .bf16) (f : oR.view.ty.Contents (Elt F)) (y : S1x8x1x1x1024x128.Idx) :
    (oslot s).view.read (Elt F) (oR.view.writes (Elt F) f [⟨headRect (o 7) (inb 7), p 7⟩, ⟨headRect (o 6) (inb 6), p 6⟩, ⟨headRect (o 5) (inb 5), p 5⟩, ⟨headRect (o 4) (inb 4), p 4⟩,
      ⟨headRect (o 3) (inb 3), p 3⟩, ⟨headRect (o 2) (inb 2), p 2⟩, ⟨headRect (o 1) (inb 1), p 1⟩, ⟨headRect (o 0) (inb 0), p 0⟩]) y
      = p (y 1) (ix7 0 0 0 0 0 (y 4) (y 5)) := by
  rw [oslot_read]
  suffices H : ∀ (h : Fin 8) (r : Fin 1024) (l : Fin 128), oR.view.read (Elt F) (oR.view.writes (Elt F) f [⟨headRect (o 7) (inb 7), p 7⟩, ⟨headRect (o 6) (inb 6), p 6⟩, ⟨headRect (o 5) (inb 5), p 5⟩, ⟨headRect (o 4) (inb 4), p 4⟩,
      ⟨headRect (o 3) (inb 3), p 3⟩, ⟨headRect (o 2) (inb 2), p 2⟩, ⟨headRect (o 1) (inb 1), p 1⟩, ⟨headRect (o 0) (inb 0), p 0⟩]) (ix7 s 0 h 0 0 r l) = p h (ix7 0 0 0 0 0 r l) from H (y 1) (y 4) (y 5)
  intro h r l
  match h with
  | 7 => exact head_hit (h := 7) (ho 7) _ _ _ _ _ _
  | 6 => exact (head_miss (h := 6) (ho 7) (by decide) _ _ _ _ _ _).trans (head_hit (ho 6) _ _ _ _ _ _)
  | 5 => exact ((head_miss (h := 5) (ho 7) (by decide) _ _ _ _ _ _).trans (head_miss (ho 6) (by decide) _ _ _ _ _ _)).trans (head_hit (ho 5) _ _ _ _ _ _)
  | 4 => exact (((head_miss (h := 4) (ho 7) (by decide) _ _ _ _ _ _).trans (head_miss (ho 6) (by decide) _ _ _ _ _ _)).trans (head_miss (ho 5) (by decide) _ _ _ _ _ _)).trans (head_hit (ho 4) _ _ _ _ _ _)
  | 3 => exact ((((head_miss (h := 3) (ho 7) (by decide) _ _ _ _ _ _).trans (head_miss (ho 6) (by decide) _ _ _ _ _ _)).trans (head_miss (ho 5) (by decide) _ _ _ _ _ _)).trans (head_miss (ho 4) (by decide) _ _ _ _ _ _)).trans (head_hit (ho 3) _ _ _ _ _ _)
  | 2 => exact (((((head_miss (h := 2) (ho 7) (by decide) _ _ _ _ _ _).trans (head_miss (ho 6) (by decide) _ _ _ _ _ _)).trans (head_miss (ho 5) (by decide) _ _ _ _ _ _)).trans (head_miss (ho 4) (by decide) _ _ _ _ _ _)).trans (head_miss (ho 3) (by decide) _ _ _ _ _ _)).trans (head_hit (ho 2) _ _ _ _ _ _)
  | 1 => exact ((((((head_miss (h := 1) (ho 7) (by decide) _ _ _ _ _ _).trans (head_miss (ho 6) (by decide) _ _ _ _ _ _)).trans (head_miss (ho 5) (by decide) _ _ _ _ _ _)).trans (head_miss (ho 4) (by decide) _ _ _ _ _ _)).trans (head_miss (ho 3) (by decide) _ _ _ _ _ _)).trans (head_miss (ho 2) (by decide) _ _ _ _ _ _)).trans (head_hit (ho 1) _ _ _ _ _ _)
  | 0 => exact (((((((head_miss (h := 0) (ho 7) (by decide) _ _ _ _ _ _).trans (head_miss (ho 6) (by decide) _ _ _ _ _ _)).trans (head_miss (ho 5) (by decide) _ _ _ _ _ _)).trans (head_miss (ho 4) (by decide) _ _ _ _ _ _)).trans (head_miss (ho 3) (by decide) _ _ _ _ _ _)).trans (head_miss (ho 2) (by decide) _ _ _ _ _ _)).trans (head_miss (ho 1) (by decide) _ _ _ _ _ _)).trans (head_hit (ho 0) _ _ _ _ _ _)

variable (c : Dev nD)
  (XA : Buf (Elt F) (xM.view.loc (c : Thread nD τ))) (WA : Buf (Elt F) (wM.view.loc (c : Thread nD τ)))

/-- The scratch's contents while block `n` of the weights is used: the block rounded to bf16. -/
def wsV (n : Fin 8) : FVec F S2048x1024 .bf16 := truncf .bf16 (wpay c WA n) bitsLt_bf16_f32
/-- Trip `k`'s product, scaled. -/
def prod (k : ℕ) : FVec F S1024x1024 .f32 := k0_pay3 (k0_pay2 (xpay c XA (xb k))) (wsV c WA (wb k))
/-- Trip `k`'s scaled product rounded to bf16. -/
def prodB (k : ℕ) : FVec F S1024x1024 .bf16 := truncf .bf16 (prod c XA WA k) bitsLt_bf16_f32

/-- The trip that computes element `i` of the result. -/
def tripOf (i : S2x16x1x1x4096x128.Idx) : ℕ := (i 1).val / 8 * 8 + (i 0).val * 4 + (i 4).val / 1024
/-- The result array after the loop. -/
def outA : Buf (Elt F) (oM.view.loc (c : Thread nD τ)) := fun i : S2x16x1x1x4096x128.Idx =>
  prodB c XA WA (tripOf i) (ix2 ⟨(i 4).val % 1024, Nat.mod_lt _ (by decide)⟩ ⟨(i 1).val % 8 * 128 + (i 5).val, by have : (i 5).val < 128 := (i 5).isLt; omega⟩)

/-- The eight stores' payloads of a product. -/
def heads (m : FVec F S1024x1024 .f32) : Fin 8 → S1x1x1x1x1x1024x128.Idx → Elt F .bf16 := fun h y =>
  truncf .bf16 m bitsLt_bf16_f32 (ix2 (y 5 : Fin 1024) ⟨h.val * 128 + (y 6).val, by have : (y 6).val < 128 := (y 6).isLt; omega⟩)

variable (a : FVec F S1024x2048 .bf16) (b : Vec F S2048x1024 .bf16) (m : FVec F S1024x1024 .f32) (y : S1x1x1x1x1x1024x128.Idx)
theorem pay4_at : k0_pay4 a b = heads (k0_pay3 a b) 0 := by
  funext y; unfold k0_pay4 heads; generalize k0_pay3 a b = m; pointwise
theorem pay5_at : k0_pay5 a b = heads (k0_pay3 a b) 1 := by
  funext y; unfold k0_pay5 heads; generalize k0_pay3 a b = m; pointwise
theorem pay7_at : k0_pay7 (k0_pay6 a b) = heads (k0_pay3 a b) 2 := by
  funext y; unfold k0_pay7 k0_pay6 heads; generalize k0_pay3 a b = m; pointwise
theorem pay8_at : k0_pay8 m = heads m 3 := by funext y; unfold k0_pay8 heads; pointwise
theorem pay9_at : k0_pay9 m = heads m 4 := by funext y; unfold k0_pay9 heads; pointwise
theorem pay11_at : k0_pay11 (k0_pay10 m) = heads m 5 := by funext y; unfold k0_pay11 k0_pay10 heads; pointwise
theorem pay12_at : k0_pay12 m = heads m 6 := by funext y; unfold k0_pay12 heads; pointwise
theorem pay13_at : k0_pay13 m = heads m 7 := by funext y; unfold k0_pay13 heads; pointwise

/-- The element of the result array that block `t` has at `y`. -/
theorem oblk_emb (t : Fin 16) (y : S1x8x1x1x1024x128.Idx) : (oblk t).view.emb y = (ix6 (⟨t.val / 4 % 2, by omega⟩ : Fin 2) (⟨8 * (t.val / 8) + (y 1).val, by have : (y 1).val < 8 := (y 1).isLt; omega⟩ : Fin 16)
    (0 : Fin 1) (0 : Fin 1) (⟨1024 * (t.val % 4) + (y 4).val, by have : (y 4).val < 1024 := (y 4).isLt; omega⟩ : Fin 4096) (y 5 : Fin 128) : S2x16x1x1x4096x128.Idx) := by
  show (Rect.unit (s := S2x16x1x1x4096x128) (oblkOff t) S1x8x1x1x1024x128.size (oblkOff_inb t)).emb y = _
  funext a
  apply Fin.ext
  have h0 : (y 0).val = 0 := Nat.lt_one_iff.mp (y 0).isLt
  have h2 : (y 2).val = 0 := Nat.lt_one_iff.mp (y 2).isLt
  have h3 : (y 3).val = 0 := Nat.lt_one_iff.mp (y 3).isLt
  match a with
  | ⟨0, _⟩ => show t.val / 4 % 2 + 1 * (y 0).val = t.val / 4 % 2; omega
  | ⟨1, _⟩ => show 8 * (t.val / 8) + 1 * (y 1).val = 8 * (t.val / 8) + (y 1).val; omega
  | ⟨2, _⟩ => show 0 + 1 * (y 2).val = 0; omega
  | ⟨3, _⟩ => show 0 + 1 * (y 3).val = 0; omega
  | ⟨4, _⟩ => show 1024 * (t.val % 4) + 1 * (y 4).val = 1024 * (t.val % 4) + (y 4).val; omega
  | ⟨5, _⟩ => show 0 + 1 * (y 5).val = (y 5).val; omega

/-- The result at the element that block `k` has at `y`. -/
theorem outA_emb (k : ℕ) (hk : k < 16) (y : S1x8x1x1x1024x128.Idx) :
    outA c XA WA ((oblk (ob k)).view.emb y) = heads (prod c XA WA k) (y 1) (ix7 0 0 0 0 0 (y 4) (y 5)) := by
  rw [oblk_emb]
  have h1 : (y 1).val < 8 := (y 1).isLt
  have h4 : (y 4).val < 1024 := (y 4).isLt
  have hb : (ob k).val = k := Nat.mod_eq_of_lt hk
  have ht : tripOf (ix6 (⟨(ob k).val / 4 % 2, by omega⟩ : Fin 2) (⟨8 * ((ob k).val / 8) + (y 1).val, by omega⟩ : Fin 16)
    (0 : Fin 1) (0 : Fin 1) (⟨1024 * ((ob k).val % 4) + (y 4).val, by omega⟩ : Fin 4096) (y 5 : Fin 128)) = k := by
    show (8 * ((ob k).val / 8) + (y 1).val) / 8 * 8 + (ob k).val / 4 % 2 * 4 + (1024 * ((ob k).val % 4) + (y 4).val) / 1024 = k
    omega
  unfold outA heads prodB
  rw [ht]
  refine congrArg _ (congrArg₂ ix2 (Fin.ext ?_) (Fin.ext ?_))
  · show (1024 * ((ob k).val % 4) + (y 4).val) % 1024 = (y 4).val; omega
  · show (8 * ((ob k).val / 8) + (y 1).val) % 8 * 128 + (y 5).val = (y 1).val * 128 + (y 5).val; omega

/-- The block that trip `k` sends home is the result's block `k`. -/
theorem outA_block (k : ℕ) (hk : k < 16) (g : Buf (Elt F) ((oblk (ob k)).view.loc (c : Thread nD τ))) (w : S1x8x1x1x1024x128.Idx → Elt F .bf16)
    (hw : ∀ y, w y = heads (prod c XA WA k) (y 1) (ix7 0 0 0 0 0 (y 4) (y 5))) :
    oblkP c (ob k) ((oblk (ob k)).view.writes (Elt F) g [⟨Rect.whole S1x8x1x1x1024x128, w⟩]) = oblkP c (ob k) (outA c XA WA) := by
  refine pointsTo_congr (agree_of_read (oblk (ob k)).view fun y => ?_)
  refine (read_whole_writes (oblk (ob k)).view g w y).trans ((hw y).trans (outA_emb c XA WA k hk y).symm)

end Values

end Cert.Kernel7Ideal.Hand

end
-- ==== Proof.Hand7.Trip.lean ====
/-
  One trip of the loop: what it takes, what it leaves.
-/
module

public import proofs.«01_k».proof.Proof.Hand7.Pieces
public import Idealize.ShloMosaic.Lib.VecWindow

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The parts of a trip's resources -/

abbrev xfree (s : Fin 3) : sProp 𝕄 := iprop(xcellP c s ∗ ∃ f, xslotP c s f)
abbrev wfree (s : Fin 2) : sProp 𝕄 := iprop(wcellP c s ∗ ∃ f, wslotP c s f)
abbrev ofree (s : Fin 2) : sProp 𝕄 := iprop(ocellP c s ∗ ∃ f, oslotP c s f)
abbrev wsP (f : Buf (Elt F) (wsM.view.loc (c : Thread nD τ))) : sProp 𝕄 := wsM.view.loc (c : Thread nD τ) ↦[wsM.view.set]{fullShare} f

/-- Block `t` of the result at an array's contents, at home and on its way. -/
abbrev oHomeP (t : Fin 16) (G : Buf (Elt F) (oM.view.loc (c : Thread nD τ))) : sProp 𝕄 := oblkP c t G
abbrev oFlyP (s : Fin 2) (t : Fin 16) (G : Buf (Elt F) (oM.view.loc (c : Thread nD τ))) : sProp 𝕄 := oflightP c s t G

/-- The activations: block `k + 2` is sent for, if there is one. -/
def xPre (k : ℕ) : sProp 𝕄 := if k < 14 then iprop(xhomeP c XA (xb (k + 2)) ∗ xfree c (sl 3 (k + 2))) else iprop(emp)
def xPost (k : ℕ) : sProp 𝕄 := if k < 14 then xflightP c XA (sl 3 (k + 2)) (xb (k + 2)) else iprop(emp)
/-- The weights: the next block is sent for at the last trip of a block; a block is received at its first trip. -/
def wPre (k : ℕ) : sProp 𝕄 :=
  if k % 8 = 7 ∧ k < 15 then iprop(whomeP c WA (wb (k + 1)) ∗ wfree c (sl 2 (k / 8 + 1)))
  else if k % 8 = 0 then wflightP c WA (sl 2 (k / 8)) (wb k) else iprop(emp)
def wPost (k : ℕ) : sProp 𝕄 :=
  if k % 8 = 7 ∧ k < 15 then wflightP c WA (sl 2 (k / 8 + 1)) (wb (k + 1))
  else if k % 8 = 0 then iprop(whomeP c WA (wb k) ∗ wfree c (sl 2 (k / 8))) else iprop(emp)
/-- The scratch: the current block of the weights, once it has been received. -/
def wsPre (k : ℕ) : sProp 𝕄 := if k % 8 = 0 then iprop(∃ f, wsP c f) else wsP c (wsV c WA (wb k))
/-- The result: the block of the trip before is waited for. -/
def oPre (k : ℕ) : sProp 𝕄 := if 1 ≤ k then oFlyP c (sl 2 (k + 1)) (ob (k - 1)) (outA c XA WA) else ofree c (sl 2 (k + 1))
def oPost (k : ℕ) : sProp 𝕄 := if 1 ≤ k then iprop(oHomeP c (ob (k - 1)) (outA c XA WA) ∗ ofree c (sl 2 (k + 1))) else ofree c (sl 2 (k + 1))

/-- What trip `k` takes. -/
def tPre (k : ℕ) : sProp 𝕄 :=
  iprop((∃ W, owes (c : Thread nD τ) 0 W) ∗ xflightP c XA (sl 3 k) (xb k) ∗ xPre c XA k ∗ wPre c WA k ∗ wsPre c WA k
    ∗ ofree c (sl 2 k) ∗ oPre c XA WA k ∗ oHomeP c (ob k) g0)
/-- What trip `k` leaves. -/
def tPost (k : ℕ) : sProp 𝕄 :=
  iprop((∃ W, owes (c : Thread nD τ) 0 W) ∗ xhomeP c XA (xb k) ∗ xfree c (sl 3 k) ∗ xPost c XA k ∗ wPost c WA k ∗ wsP c (wsV c WA (wb k))
    ∗ oFlyP c (sl 2 k) (ob k) (outA c XA WA) ∗ oPost c XA WA k)

/-! ## What the trip's loads read and its stores leave -/

/-- A load of the whole activations' slot after a landing. -/
theorem xload (s : Fin 3) (b : Fin 8) (f : Buf (Elt F) ((xslot s).view.loc (c : Thread nD τ))) (inb : ∀ a, (![0, 0, 0] : Fin 3 → ℕ) a + S1x1024x2048.size a ≤ S1x1024x2048.size a) :
    (xslot s).view.readAt (Elt F) (Rect.unit (s := S1x1024x2048) ![0, 0, 0] S1x1024x2048.size inb).toLoadRect (xland c XA s b f) = xpay c XA b :=
  (Idealize.ShloMosaic.View.readAt_full (xslot s).view _ inb).trans (funext fun y => read_whole_writes (xslot s).view f (xpay c XA b) y)

/-- The same, stated over the landing alone. -/
theorem xcov (s : Fin 3) (b : Fin 8) (inb : ∀ a, (![0, 0, 0] : Fin 3 → ℕ) a + S1x1024x2048.size a ≤ S1x1024x2048.size a) :
    (xslot s).view.readCov [⟨Rect.whole S1x1024x2048, xpay c XA b⟩] (Rect.unit (s := S1x1024x2048) ![0, 0, 0] S1x1024x2048.size inb).toLoadRect = xpay c XA b :=
  xload c XA s b _ inb

/-- A load of the whole scratch. -/
theorem wsload (f : Buf (Elt F) (wsM.view.loc (c : Thread nD τ))) (inb : ∀ a, (![0, 0] : Fin 2 → ℕ) a + S2048x1024.size a ≤ S2048x1024.size a) :
    wsM.view.readAt (Elt F) (Rect.unit (s := S2048x1024) ![0, 0] S2048x1024.size inb).toLoadRect f = f :=
  Idealize.ShloMosaic.View.readAt_full wsM.view f inb

/-- The slot that goes out, sent: the result's block. -/
theorem sent (k : ℕ) (hk : k < 16) (g : Buf (Elt F) ((oblk (ob k)).view.loc (c : Thread nD τ))) (f : Buf (Elt F) ((oslot (sl 2 k)).view.loc (c : Thread nD τ)))
    (hf : ∀ y, (oslot (sl 2 k)).view.read (Elt F) f y = heads (prod c XA WA k) (y 1) (ix7 0 0 0 0 0 (y 4) (y 5))) :
    (Transfers.Flight countersEmb (c : Thread nD τ) (SemLoc.dma (osem (sl 2 k)).sem) () 65536
        iprop(oblkP c (ob k) ((oblk (ob k)).view.writes (Elt F) g [⟨Rect.whole S1x8x1x1x1024x128, ReadAs.same.apply ((oslot (sl 2 k)).view.read (Elt F) f)⟩]) ∗ oslotP c (sl 2 k) f) : sProp 𝕄)
      ⊢ oFlyP c (sl 2 k) (ob k) (outA c XA WA) := by
  rw [outA_block c XA WA k hk g _ hf]
  iintro H
  iexists f
  iexact H

/-- The eight stores of trip `k` leave the eight heads of its product. -/
theorem staged (k : Fin k0_t1_loop.trips) (f : oR.view.ty.Contents (Elt F)) (a : FVec F S1024x2048 .bf16) (b : FVec F S2048x1024 .bf16)
    (ha : a = k0_pay2 (xpay c XA (xb k.val))) (hb : b = wsV c WA (wb k.val))
    (i0 : ∀ a, k0_off23 (fo k.val) a + S1x1x1x1x1x1024x128.size a ≤ S2x1x8x1x1x1024x128.size a) (i1 : ∀ a, k0_off24 (fo k.val) a + S1x1x1x1x1x1024x128.size a ≤ S2x1x8x1x1x1024x128.size a)
    (i2 : ∀ a, k0_off25 (fo k.val) a + S1x1x1x1x1x1024x128.size a ≤ S2x1x8x1x1x1024x128.size a) (i3 : ∀ a, k0_off26 (fo k.val) a + S1x1x1x1x1x1024x128.size a ≤ S2x1x8x1x1x1024x128.size a)
    (i4 : ∀ a, k0_off27 (fo k.val) a + S1x1x1x1x1x1024x128.size a ≤ S2x1x8x1x1x1024x128.size a) (i5 : ∀ a, k0_off28 (fo k.val) a + S1x1x1x1x1x1024x128.size a ≤ S2x1x8x1x1x1024x128.size a)
    (i6 : ∀ a, k0_off29 (fo k.val) a + S1x1x1x1x1x1024x128.size a ≤ S2x1x8x1x1x1024x128.size a) (i7 : ∀ a, k0_off30 (fo k.val) a + S1x1x1x1x1x1024x128.size a ≤ S2x1x8x1x1x1024x128.size a)
    (y : S1x8x1x1x1024x128.Idx) :
    (oslot (sl 2 k.val)).view.read (Elt F) (oR.view.writes (Elt F) f [⟨headRect _ i7, k0_pay13 (k0_pay3 a b)⟩, ⟨headRect _ i6, k0_pay12 (k0_pay3 a b)⟩,
        ⟨headRect _ i5, k0_pay11 (k0_pay10 (k0_pay3 a b))⟩, ⟨headRect _ i4, k0_pay9 (k0_pay3 a b)⟩, ⟨headRect _ i3, k0_pay8 (k0_pay3 a b)⟩,
        ⟨headRect _ i2, k0_pay7 (k0_pay6 a b)⟩, ⟨headRect _ i1, k0_pay5 a b⟩, ⟨headRect _ i0, k0_pay4 a b⟩]) y
      = heads (prod c XA WA k.val) (y 1) (ix7 0 0 0 0 0 (y 4) (y 5)) := by
  subst ha hb
  rw [pay4_at, pay5_at, pay7_at, pay8_at, pay9_at, pay11_at, pay12_at, pay13_at]
  have inb : ∀ (h : Fin 8) a, pieceOff (sl 2 k.val) h.val a + S1x1x1x1x1x1024x128.size a ≤ S2x1x8x1x1x1024x128.size a := by
    generalize sl 2 k.val = s; revert s; decide
  have e : ∀ (h : Fin 8) (o : Fin 7 → ℕ) (i : ∀ a, o a + S1x1x1x1x1x1024x128.size a ≤ S2x1x8x1x1x1024x128.size a) (p : S1x1x1x1x1x1024x128.Idx → Elt F .bf16), o = pieceOff (sl 2 k.val) h.val →
      (⟨headRect o i, p⟩ : View.Piece (Elt F) S2x1x8x1x1x1024x128 .bf16) = ⟨headRect (pieceOff (sl 2 k.val) h.val) (inb h), p⟩ := by
    intro h o i p ho; subst ho; rfl
  rw [e 7 _ i7 _ (ClosedOff.eq), e 6 _ i6 _ (ClosedOff.eq), e 5 _ i5 _ (ClosedOff.eq), e 4 _ i4 _ (ClosedOff.eq), e 3 _ i3 _ (ClosedOff.eq), e 2 _ i2 _ (ClosedOff.eq), e 1 _ i1 _ (ClosedOff.eq), e 0 _ i0 _ (ClosedOff.eq)]
  exact stage_at (sl 2 k.val) (fun h => pieceOff (sl 2 k.val) h.val) inb (fun _ => rfl) (heads (prod c XA WA k.val)) f y

/-- The eight stores of trip `k`, one after the other, and the transfer that takes them home. -/
theorem sent_stores (k : Fin k0_t1_loop.trips) (hkk : k.val < 16) {g : Buf (Elt F) ((oblk (ob k.val)).view.loc (c : Thread nD τ))} {w : S1x8x1x1x1024x128.Idx → Elt F .bf16}
    {f0 f1 f2 f3 f4 f5 f6 f7 f8 : oR.view.ty.Contents (Elt F)} {a : FVec F S1024x2048 .bf16} {b : FVec F S2048x1024 .bf16} {m : FVec F S1024x1024 .f32} {p6 p10 : FVec F S1024x128 .bf16} {v : Vec F S1x1024x2048 .bf16}
    {i0 : ∀ a, k0_off23 (fo k.val) a + S1x1x1x1x1x1024x128.size a ≤ S2x1x8x1x1x1024x128.size a}
    {i1 : ∀ a, k0_off24 (fo k.val) a + S1x1x1x1x1x1024x128.size a ≤ S2x1x8x1x1x1024x128.size a}
    {i2 : ∀ a, k0_off25 (fo k.val) a + S1x1x1x1x1x1024x128.size a ≤ S2x1x8x1x1x1024x128.size a}
    {i3 : ∀ a, k0_off26 (fo k.val) a + S1x1x1x1x1x1024x128.size a ≤ S2x1x8x1x1x1024x128.size a}
    {i4 : ∀ a, k0_off27 (fo k.val) a + S1x1x1x1x1x1024x128.size a ≤ S2x1x8x1x1x1024x128.size a}
    {i5 : ∀ a, k0_off28 (fo k.val) a + S1x1x1x1x1x1024x128.size a ≤ S2x1x8x1x1x1024x128.size a}
    {i6 : ∀ a, k0_off29 (fo k.val) a + S1x1x1x1x1x1024x128.size a ≤ S2x1x8x1x1x1024x128.size a}
    {i7 : ∀ a, k0_off30 (fo k.val) a + S1x1x1x1x1x1024x128.size a ≤ S2x1x8x1x1x1024x128.size a}
    (hw : w = ReadAs.same.apply ((oslot (sl 2 k.val)).view.read (Elt F) f8))
    (h8 : f8 = View.write (Elt F) (oR.access (headRect _ i7)) f7 (k0_pay13 m) Finset.univ)
    (h7 : f7 = View.write (Elt F) (oR.access (headRect _ i6)) f6 (k0_pay12 m) Finset.univ)
    (h6 : f6 = View.write (Elt F) (oR.access (headRect _ i5)) f5 (k0_pay11 p10) Finset.univ)
    (h5 : f5 = View.write (Elt F) (oR.access (headRect _ i4)) f4 (k0_pay9 m) Finset.univ)
    (h4 : f4 = View.write (Elt F) (oR.access (headRect _ i3)) f3 (k0_pay8 m) Finset.univ)
    (h3 : f3 = View.write (Elt F) (oR.access (headRect _ i2)) f2 (k0_pay7 p6) Finset.univ)
    (h2 : f2 = View.write (Elt F) (oR.access (headRect _ i1)) f1 (k0_pay5 a b) Finset.univ)
    (h1 : f1 = View.write (Elt F) (oR.access (headRect _ i0)) f0 (k0_pay4 a b) Finset.univ)
    (hp10 : p10 = k0_pay10 m) (hp6 : p6 = k0_pay6 a b) (hm : m = k0_pay3 a b) (ha : a = k0_pay2 v) (hv : v = xpay c XA (xb k.val)) (hb : b = wsV c WA (wb k.val)) :
    (Transfers.Flight countersEmb (c : Thread nD τ) (SemLoc.dma (osem (sl 2 k.val)).sem) () 65536
        iprop(oblkP c (ob k.val) ((oblk (ob k.val)).view.writes (Elt F) g [⟨Rect.whole S1x8x1x1x1024x128, w⟩]) ∗ oslotP c (sl 2 k.val) f8) : sProp 𝕄)
      ⊢ oFlyP c (sl 2 k.val) (ob k.val) (outA c XA WA) := by
  subst hw
  refine sent c XA WA k.val hkk g f8 fun y => ?_
  subst hv
  subst hp10 hp6 hm h8 h7 h6 h5 h4 h3 h2 h1
  exact staged c XA WA k f0 a b ha hb i0 i1 i2 i3 i4 i5 i6 i7 y

/-- The weights' slot, loaded whole after a landing and rounded: the block rounded. -/
theorem wload (s : Fin 2) (n : Fin 8) (f : Buf (Elt F) ((wslot s).view.loc (c : Thread nD τ))) {off : Fin 3 → ℕ} (e : off = wslotOff s) (inb : ∀ a, off a + S1x2048x1024.size a ≤ S2x2048x1024.size a) :
    k0_pay1 (wR.view.readAt (Elt F) (Rect.unit (s := S2x2048x1024) off S1x2048x1024.size inb).toLoadRect (wland c WA s n f)) = wsV c WA n := by
  subst e
  have h : (shapeCast S2048x1024 (wR.view.readAt (Elt F) (Rect.unit (s := S2x2048x1024) (wslotOff s) S1x2048x1024.size inb).toLoadRect (wland c WA s n f)) shapeCasts_S1x2048x1024_S2048x1024 : Vec F S2048x1024 .f32)
      = wpay c WA n := by
    funext y
    exact read_whole_writes (wslot s).view f (wpay c WA n) y
  unfold k0_pay1 wsV
  rw [h]
  funext y
  pointwise

/-- The scratch after a store of all of it. -/
theorem wsstore (f : Buf (Elt F) (wsM.view.loc (c : Thread nD τ))) {L : List (View.Piece (Elt F) S2048x1024 .bf16)} {inb : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 8) (hp : p = wsV c WA n) :
    (wsM.view.loc (c : Thread nD τ) ↦[wsM.view.set]{fullShare} wsM.view.writes (Elt F) f L : sProp 𝕄) ⊢ wsP c (wsV c WA n) := by
  subst hL hp
  refine Entails.of_eq (pointsTo_congr (agree_of_read wsM.view fun y => ?_))
  rw [Idealize.ShloMosaic.View.read_writes_full]
  rfl

/-- The scratch loaded whole after a store of all of it. -/
theorem wscov {L : List (View.Piece (Elt F) S2048x1024 .bf16)} {inb inb' : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 8) (hp : p = wsV c WA n) :
    wsM.view.readCov L (Rect.unit (s := S2048x1024) ![0, 0] S2048x1024.size inb').toLoadRect = wsV c WA n := by
  subst hL hp
  exact Idealize.ShloMosaic.View.readCov_full wsM.view inb' inb _ []

end Cert.Kernel7Ideal.Hand

end
-- ==== Proof.Hand7.Run.lean ====
/-
  One trip of the loop, run.
-/
module

public import proofs.«01_k».proof.Proof.Hand7.Trip

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-- The loop's carried words before trip `k`. -/
abbrev Acc : Type := BitVec 32 × BitVec 32 × BitVec 32 × BitVec 32 × BitVec 32 × BitVec 32 × BitVec 32 × BitVec 32 × BitVec 32
def accAt (k : ℕ) : Acc := (fx k, cx k, fw k, cw k, fo k, co k, gn k, gb k, gi k)

abbrev tripG (v25 v26 : BitVec 32) (k : Fin k0_t1_loop.trips) (acc : Acc) :=
  k0_t1_body (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5 v25 v26 k acc

/-- Trip `k` runs from its resources to what it leaves. -/
def TripSpec (k : Fin k0_t1_loop.trips) : Prop :=
  ∀ v25 v26 : BitVec 32, tPre c XA WA g0 k.val ⊢ wp frame (wpE (defs₀ (F := F)) 𝒱₀ (c : Thread nD τ) none) Set.univ (tripG (F := F) v25 v26 k (accAt k.val))
    (fun acc => iprop(⌜acc = accAt (k.val + 1)⌝ ∗ tPost c XA WA k.val))

set_option maxHeartbeats 800000 in
/-- A trip that neither starts nor ends a block of the weights. -/
theorem trip_mid (k : Fin k0_t1_loop.trips) (h1 : 1 ≤ k.val) (h14 : k.val < 14) (hw : ¬ k.val % 8 = 7) (hc : ¬ k.val % 8 = 0) : TripSpec c XA WA g0 k := by
  intro v25 v26
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_neg hc, if_neg (fun h : k.val % 8 = 7 ∧ k.val < 15 => hw h.1)]
  iintro ⟨⟨%W, HW⟩, ⟨%fX, HFx⟩, ⟨Hx, Hxc, ⟨%fxs, Hxs⟩⟩, -, Hws, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fxs fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitr; · iempintro
  isplitl [Hws]; · iexact Hws
  isplitl [Hoc]
  · istop
    apply sent_stores c XA WA k hkk
    iterate 13 exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that ends a block of the weights and sends for the next. -/
theorem trip_send (k : Fin k0_t1_loop.trips) (h1 : 1 ≤ k.val) (h14 : k.val < 14) (hw : k.val % 8 = 7 ∧ k.val < 15) : TripSpec c XA WA g0 k := by
  intro v25 v26
  have hc : ¬ k.val % 8 = 0 := by omega
  have c2 : k0_cond2 k (gb k.val) (gi k.val) = 1#1 := (cond2_iff k).2 h14
  have c3 : k0_cond3 k (gn k.val) (gb k.val) (gi k.val) = 1#1 := (cond3_iff k).2 hw
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_neg hc, if_pos hw]
  iintro ⟨⟨%W, HW⟩, ⟨%fX, HFx⟩, ⟨Hx, Hxc, ⟨%fxs, Hxs⟩⟩, ⟨Hwh, Hwc, ⟨%fwl, Hwl⟩⟩, Hws, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fxs fwl fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [Hwc]; · iexists _; iexact Hwc
  isplitl [Hws]; · iexact Hws
  isplitl [Hoc]
  · istop
    apply sent_stores c XA WA k hkk
    iterate 13 exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that starts a block of the weights, not the first. -/
theorem trip_take (k : Fin k0_t1_loop.trips) (h1 : 1 ≤ k.val) (h14 : k.val < 14) (hc : k.val % 8 = 0) : TripSpec c XA WA g0 k := by
  intro v25 v26
  have hw : ¬ k.val % 8 = 7 := by omega
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_pos hc, if_neg (fun h : k.val % 8 = 7 ∧ k.val < 15 => hw h.1)]
  iintro ⟨⟨%W, HW⟩, ⟨%fX, HFx⟩, ⟨Hx, Hxc, ⟨%fxs, Hxs⟩⟩, ⟨%fW, HFw⟩, ⟨%fws, Hws⟩, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fxs fW fws fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Hoc]
  · istop
    apply sent_stores c XA WA k hkk
    iterate 13 exact rfl
    · exact xcov c XA (sl 3 k.val) (xb k.val) _
    · exact wscov c WA rfl (wb k.val) (wload c WA (sl 2 (k.val / 8)) (wb k.val) _ (off20_eq k) _)
  isplitl [HFo_dst]; · iexact HFo_dst
  isplitl [HFo]; · iexact HFo
  iexists _; iexact HFo_src

set_option maxHeartbeats 800000 in
/-- The first trip. -/
theorem trip_first (k : Fin k0_t1_loop.trips) (h1 : ¬ 1 ≤ k.val) : TripSpec c XA WA g0 k := by
  intro v25 v26
  have h14 : k.val < 14 := by omega
  have hc : k.val % 8 = 0 := by omega
  have hw : ¬ k.val % 8 = 7 := by omega
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : ¬ k0_cond13 k (gn k.val) (gb k.val) (gi k.val) = 1#1 := fun h => h1 ((cond13_iff k).1 h)
  have hk1 := chk1_all k
  have hk2 := chk2_all k
  have hk3 := chk3_all k
  have hkk : k.val < 16 := by have := trips_eq; omega
  unfold tPre tPost xPre xPost wPre wPost wsPre oPre oPost
  simp only [if_neg h1, if_pos h14, if_pos hc, if_neg (fun h : k.val % 8 = 7 ∧ k.val < 15 => hw h.1)]
  iintro ⟨⟨%W, HW⟩, ⟨%fX, HFx⟩, ⟨Hx, Hxc, ⟨%fxs, Hxs⟩⟩, ⟨%fW, HFw⟩, ⟨%fws, Hws⟩, ⟨Hoc, ⟨%fos, Hos⟩⟩, HFo, Hob⟩
  dsimp only [tripG, accAt]
  sl_unfold [k0_t1_body]
  sl_exec
  sl_step
  isplitr
  · ipureintro
    clear h1 h14 hw hc c2 c3 c4 c5 c7 c10 c13 hk1 hk2 hk3 hkk fX fxs fW fws fos
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Hoc]
  · istop
    apply sent_stores c XA WA k hkk
    iterate 13 exact rfl
    · exact xcov c XA (sl 3 k.val) (xb k.val) _
    · exact wscov c WA rfl (wb k.val) (wload c WA (sl 2 (k.val / 8)) (wb k.val) _ (off20_eq k) _)
  iexact HFo

set_option maxHeartbeats 800000 in
/-- The last two trips, which send for nothing. -/
theorem trip_last (k : Fin k0_t1_loop.trips) (h14 : ¬ k.val < 14) : TripSpec c XA WA g0 k := by
  intro v25 v26
  have hkk : k.val < 16 := by have := k.isLt; have := trips_eq; omega
  have h1 : 1 ≤ k.val := by omega
  have hw : ¬ (k.val % 8 = 7 ∧ k.val < 15) := by omega
  have hc : ¬ k.val % 8 = 0 := by omega
  have c2 : ¬ k0_cond2 k (gb k.val) (gi k.val) = 1#1 := fun h => h14 ((cond2_iff k).1 h)
  have c3 : ¬ k0_cond3 k (gn k.val) (gb k.val) (gi k.val) = 1#1 := fun h => hw ((cond3_iff k).1 h)
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  unfold tPre tPost xPre xPost wPre wPost wsPre oPre oPost
  simp only [if_pos h1, if_neg h14, if_neg hc, if_neg hw]
  iintro ⟨⟨%W, HW⟩, ⟨%fX, HFx⟩, -, -, Hws, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fX fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitr; · iempintro
  isplitr; · iempintro
  isplitl [Hws]; · iexact Hws
  isplitl [Hoc]
  · istop
    apply sent_stores c XA WA k hkk
    iterate 13 exact rfl
    · exact xcov c XA (sl 3 k.val) (xb k.val) _
    · exact wsload c (wsV c WA (wb k.val)) _
  isplitl [HFo_dst]; · iexact HFo_dst
  isplitl [HFo]; · iexact HFo
  iexists _; iexact HFo_src

/-- Every trip runs from its resources to what it leaves. -/
theorem trip_all (k : Fin k0_t1_loop.trips) : TripSpec c XA WA g0 k := by
  by_cases h1 : 1 ≤ k.val
  · by_cases h14 : k.val < 14
    · by_cases hw : k.val % 8 = 7
      · exact trip_send c XA WA g0 k h1 h14 ⟨hw, by omega⟩
      · by_cases hc : k.val % 8 = 0
        · exact trip_take c XA WA g0 k h1 h14 hc
        · exact trip_mid c XA WA g0 k h1 h14 hw hc
    · exact trip_last c XA WA g0 k h14
  · exact trip_first c XA WA g0 k h1

end Cert.Kernel7Ideal.Hand

end
-- ==== Proof.Hand7.Loop.lean ====
/-
  The loop: what is held between trips.
-/
module

public import proofs.«01_k».proof.Proof.Hand7.Run

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

theorem bigSep_ins {α : Type} [DecidableEq α] {s : Finset α} {a : α} {Φ : α → sProp 𝕄} (h : a ∉ s) : bigSep (insert a s) Φ = iprop(Φ a ∗ bigSep s Φ) := bigSep_insert h

/-! ## Turning slots -/

theorem sl3_turn (k : ℕ) : sl 3 (k + 1 + 2) = sl 3 k := Fin.ext (by simp [sl, Fin.ofNat]; omega)
theorem sl2_turn (k : ℕ) : sl 2 (k + 1 + 1) = sl 2 k := Fin.ext (by simp [sl, Fin.ofNat]; omega)
theorem wb_same (k : ℕ) (h : ¬ (k + 1) % 8 = 0) : wb (k + 1) = wb k := by
  unfold wb; rw [show (k + 1) / 8 = k / 8 by omega]

/-! ## The activations -/

/-- The blocks at home before trip `k`. -/
def xset (k : ℕ) : Finset (Fin 8) := Finset.univ.filter fun b => (b ≠ xb k ∨ 16 ≤ k) ∧ (b ≠ xb (k + 1) ∨ 15 ≤ k)
def xrest (k : ℕ) : Finset (Fin 8) := Finset.univ.filter fun b => b ≠ xb k ∧ b ≠ xb (k + 1) ∧ b ≠ xb (k + 2)

theorem xset_split : ∀ k : Fin 14, xset k = insert (xb (k + 2)) (xrest k) ∧ xb (k + 2) ∉ xrest k ∧ xset (k + 1) = insert (xb k) (xrest k) ∧ xb k ∉ xrest k := by
  decide +kernel
theorem xset_14 : xset 15 = insert (xb 14) (xset 14) ∧ xb 14 ∉ xset 14 := by decide +kernel
theorem xset_15 : xset 16 = insert (xb 15) (xset 15) ∧ xb 15 ∉ xset 15 := by decide +kernel
theorem xset_16 : xset 16 = Finset.univ := by decide +kernel

def xfly (k : ℕ) : sProp 𝕄 := if k < 16 then xflightP c XA (sl 3 k) (xb k) else xfree c (sl 3 k)
/-- The activations before trip `k`: blocks `k` and `k + 1` are on their way, the third slot is free, the others at home. -/
def xPart (k : ℕ) : sProp 𝕄 := iprop(xfly c XA k ∗ xfly c XA (k + 1) ∗ xfree c (sl 3 (k + 2)) ∗ bigSep (xset k) (xhomeP c XA))

theorem x_step (k : ℕ) (hk : k < 16) :
    xPart c XA k ⊢ iprop(xflightP c XA (sl 3 k) (xb k) ∗ xPre c XA k ∗ (iprop(xhomeP c XA (xb k) ∗ xfree c (sl 3 k) ∗ xPost c XA k) -∗ xPart c XA (k + 1))) := by
  unfold xPart xPre xPost
  rw [sl3_turn, show xfly c XA k = xflightP c XA (sl 3 k) (xb k) from if_pos hk]
  by_cases h : k < 14
  · obtain ⟨e1, n1, e2, n2⟩ := xset_split ⟨k, h⟩
    dsimp only at e1 n1 e2 n2
    rw [e1, bigSep_ins n1, e2, bigSep_ins n2, if_pos h, if_pos h, show k + 1 + 1 = k + 2 from rfl, show xfly c XA (k + 2) = xflightP c XA (sl 3 (k + 2)) (xb (k + 2)) from if_pos (by omega)]
    iintro ⟨H0, H1, H2, H3, H4⟩
    isplitl [H0]; · iexact H0
    isplitl [H2 H3]
    · isplitl [H3]; · iexact H3
      iexact H2
    iintro ⟨G0, G1, G2⟩
    isplitl [H1]; · iexact H1
    isplitl [G2]; · iexact G2
    isplitl [G1]; · iexact G1
    isplitl [G0]; · iexact G0
    iexact H4
  · have e : xset (k + 1) = insert (xb k) (xset k) ∧ xb k ∉ xset k := by
      obtain rfl | rfl : k = 14 ∨ k = 15 := by omega
      · exact xset_14
      · exact xset_15
    rw [e.1, bigSep_ins e.2, if_neg h, if_neg h, show k + 1 + 1 = k + 2 from rfl, show xfly c XA (k + 2) = xfree c (sl 3 (k + 2)) from if_neg (by omega)]
    iintro ⟨H0, H1, H2, H3⟩
    isplitl [H0]; · iexact H0
    isplitr; · iempintro
    iintro ⟨G0, G1, -⟩
    isplitl [H1]; · iexact H1
    isplitl [H2]; · iexact H2
    isplitl [G1]; · iexact G1
    isplitl [G0]; · iexact G0
    iexact H3

/-! ## The weights -/

/-- The blocks at home before trip `k`. -/
def wset (k : ℕ) : Finset (Fin 8) := Finset.univ.filter fun b => b ≠ wb k ∨ ¬ (k % 8 = 0 ∧ k < 16)
theorem wset_in : ∀ k : Fin 16, k.val % 8 = 0 → wset (k + 1) = insert (wb k) (wset k) ∧ wb k ∉ wset k := by decide +kernel
theorem wset_out : ∀ k : Fin 16, k.val % 8 = 7 ∧ k.val < 15 → wset k = insert (wb (k + 1)) (wset (k + 1)) ∧ wb (k + 1) ∉ wset (k + 1) := by decide +kernel
theorem wset_same : ∀ k : Fin 16, ¬ (k.val % 8 = 7 ∧ k.val < 15) → ¬ k.val % 8 = 0 → wset (k + 1) = wset k := by decide +kernel
theorem wset_16 : wset 16 = Finset.univ := by decide +kernel

def wfly (k : ℕ) : sProp 𝕄 := if k % 8 = 0 ∧ k < 16 then wflightP c WA (sl 2 (k / 8)) (wb k) else wfree c (sl 2 (k / 8))
/-- The weights before trip `k`: the block is on its way at its first trip, the rest at home. -/
def wPart (k : ℕ) : sProp 𝕄 := iprop(wfly c WA k ∗ wfree c (sl 2 (k / 8 + 1)) ∗ bigSep (wset k) (whomeP c WA))

theorem w_step (k : ℕ) (hk : k < 16) : wPart c WA k ⊢ iprop(wPre c WA k ∗ (wPost c WA k -∗ wPart c WA (k + 1))) := by
  unfold wPart wPre wPost wfly
  by_cases h7 : k % 8 = 7 ∧ k < 15
  · obtain ⟨e, n⟩ := wset_out ⟨k, hk⟩ h7
    dsimp only at e n
    rw [if_pos h7, if_pos h7, if_neg (by omega), if_pos (by omega), e, bigSep_ins n, show (k + 1) / 8 = k / 8 + 1 by omega, sl2_turn]
    iintro ⟨H0, H1, H2, H3⟩
    isplitl [H1 H2]
    · isplitl [H2]; · iexact H2
      iexact H1
    iintro G
    isplitl [G]; · iexact G
    isplitl [H0]; · iexact H0
    iexact H3
  · rw [if_neg h7, if_neg h7]
    by_cases h0 : k % 8 = 0
    · obtain ⟨e, n⟩ := wset_in ⟨k, hk⟩ h0
      dsimp only at e n
      rw [if_pos h0, if_pos h0, if_pos ⟨h0, hk⟩, if_neg (by omega), e, bigSep_ins n, show (k + 1) / 8 = k / 8 by omega]
      iintro ⟨H0, H1, H2⟩
      isplitl [H0]; · iexact H0
      iintro ⟨G0, G1⟩
      isplitl [G1]; · iexact G1
      isplitl [H1]; · iexact H1
      isplitl [G0]; · iexact G0
      iexact H2
    · rw [if_neg h0, if_neg h0, if_neg (by omega), if_neg (by omega)]
      have e := wset_same ⟨k, hk⟩ h7 h0
      dsimp only at e
      rw [e]
      by_cases h15 : k = 15
      · subst h15
        rw [show sl 2 ((15 + 1) / 8) = sl 2 (15 / 8 + 1) from rfl, show sl 2 ((15 + 1) / 8 + 1) = sl 2 (15 / 8) from rfl]
        iintro ⟨H0, H1, H2⟩
        isplitr; · iempintro
        iintro -
        isplitl [H1]; · iexact H1
        isplitl [H0]; · iexact H0
        iexact H2
      · rw [show (k + 1) / 8 = k / 8 by omega]
        iintro ⟨H0, H1, H2⟩
        isplitr; · iempintro
        iintro -
        isplitl [H0]; · iexact H0
        isplitl [H1]; · iexact H1
        iexact H2

theorem ws_step (k : ℕ) : wsP c (wsV c WA (wb k)) ⊢ wsPre c WA (k + 1) := by
  unfold wsPre
  by_cases h : (k + 1) % 8 = 0
  · rw [if_pos h]; iintro H; iexists _; iexact H
  · rw [if_neg h, wb_same k h]

/-! ## The result -/

def oset (k : ℕ) : Finset (Fin 16) := Finset.univ.filter fun t => t.val + 1 < k
def orest (k : ℕ) : Finset (Fin 16) := Finset.univ.filter fun t => k ≤ t.val
theorem ob_val (k : ℕ) (hk : k < 16) : (ob k).val = k := Nat.mod_eq_of_lt hk
theorem oset_step (k : ℕ) (hk : k < 16) (h1 : 1 ≤ k) : oset (k + 1) = insert (ob (k - 1)) (oset k) ∧ ob (k - 1) ∉ oset k := by
  have e := ob_val (k - 1) (by omega)
  constructor
  · ext t; simp only [oset, Finset.mem_filter, Finset.mem_univ, true_and, Finset.mem_insert, Fin.ext_iff, e]; omega
  · simp only [oset, Finset.mem_filter, Finset.mem_univ, true_and, e]; omega
theorem orest_step (k : ℕ) (hk : k < 16) : orest k = insert (ob k) (orest (k + 1)) ∧ ob k ∉ orest (k + 1) := by
  have e := ob_val k hk
  constructor
  · ext t; simp only [orest, Finset.mem_filter, Finset.mem_univ, true_and, Finset.mem_insert, Fin.ext_iff, e]; omega
  · simp only [orest, Finset.mem_filter, Finset.mem_univ, true_and, e]; omega
theorem oset_1 : oset (0 + 1) = oset 0 := by decide +kernel

/-- The result before trip `k`: the blocks before the last are home with their values, the last on its way, the others as they were. -/
def oPart (k : ℕ) : sProp 𝕄 :=
  iprop(ofree c (sl 2 k) ∗ oPre c XA WA k ∗ bigSep (oset k) (fun t => oHomeP c t (outA c XA WA)) ∗ bigSep (orest k) (fun t => oHomeP c t g0))

theorem o_step (k : ℕ) (hk : k < 16) :
    oPart c XA WA g0 k ⊢ iprop(ofree c (sl 2 k) ∗ oPre c XA WA k ∗ oHomeP c (ob k) g0
      ∗ (iprop(oFlyP c (sl 2 k) (ob k) (outA c XA WA) ∗ oPost c XA WA k) -∗ oPart c XA WA g0 (k + 1))) := by
  obtain ⟨er, nr⟩ := orest_step k hk
  unfold oPart
  rw [er, bigSep_ins nr]
  have ep : oPre c XA WA (k + 1) = oFlyP c (sl 2 k) (ob k) (outA c XA WA) := by
    unfold oPre
    rw [if_pos (by omega), sl2_turn, show k + 1 - 1 = k from rfl]
  rw [ep]
  by_cases h1 : 1 ≤ k
  · obtain ⟨es, ns⟩ := oset_step k hk h1
    rw [es, bigSep_ins ns]
    unfold oPost
    rw [if_pos h1]
    iintro ⟨H0, H1, H2, H3, H4⟩
    isplitl [H0]; · iexact H0
    isplitl [H1]; · iexact H1
    isplitl [H3]; · iexact H3
    iintro ⟨G0, G1, G2⟩
    isplitl [G2]; · iexact G2
    isplitl [G0]; · iexact G0
    isplitl [G1 H2]
    · isplitl [G1]; · iexact G1
      iexact H2
    iexact H4
  · obtain rfl : k = 0 := by omega
    rw [oset_1]
    unfold oPost
    rw [if_neg h1]
    iintro ⟨H0, H1, H2, H3, H4⟩
    isplitl [H0]; · iexact H0
    isplitl [H1]; · iexact H1
    isplitl [H3]; · iexact H3
    iintro ⟨G0, G1⟩
    isplitl [G1]; · iexact G1
    isplitl [G0]; · iexact G0
    isplitl [H2]; · iexact H2
    iexact H4

/-! ## All of it -/

def invAt (k : ℕ) : sProp 𝕄 :=
  iprop((∃ W, owes (c : Thread nD τ) 0 W) ∗ xPart c XA k ∗ wPart c WA k ∗ wsPre c WA k ∗ oPart c XA WA g0 k)

theorem inv_step (k : ℕ) (hk : k < 16) : invAt c XA WA g0 k ⊢ iprop(tPre c XA WA g0 k ∗ (tPost c XA WA k -∗ invAt c XA WA g0 (k + 1))) := by
  unfold invAt tPre tPost
  iintro ⟨HW, HX, Hw, Hs, HO⟩
  ihave HX' := (x_step c XA k hk) $$ HX
  icases HX' with ⟨X0, X1, X2⟩
  ihave Hw' := (w_step c WA k hk) $$ Hw
  icases Hw' with ⟨W0, W1⟩
  ihave HO' := (o_step c XA WA g0 k hk) $$ HO
  icases HO' with ⟨O0, O1, O2, O3⟩
  isplitl [HW X0 X1 W0 Hs O0 O1 O2]
  · isplitl [HW]; · iexact HW
    isplitl [X0]; · iexact X0
    isplitl [X1]; · iexact X1
    isplitl [W0]; · iexact W0
    isplitl [Hs]; · iexact Hs
    isplitl [O0]; · iexact O0
    isplitl [O1]; · iexact O1
    iexact O2
  iintro ⟨G0, G1, G2, G3, G4, G5, G6, G7⟩
  isplitl [G0]; · iexact G0
  isplitl [X2 G1 G2 G3]
  · iapply X2
    isplitl [G1]; · iexact G1
    isplitl [G2]; · iexact G2
    iexact G3
  isplitl [W1 G4]
  · iapply W1; iexact G4
  isplitl [G5]
  · iapply (ws_step c WA k); iexact G5
  iapply O3
  isplitl [G6]; · iexact G6
  iexact G7

set_option warn.classDefReducibility false in
/-- The loop's invariant. -/
def loopInv (v25 v26 : BitVec 32) (init : Acc) :
    LoopInvTy_k0_t1 (F := F) Unit ℕ (UU nD τ) ℕ 𝒱₀ c none Set.univ xM (Memref.isWhole_whole _) wM (Memref.isWhole_whole _) oM (Memref.isWhole_whole _) wsM (Memref.isWhole_whole _) asM (Memref.isWhole_whole _)
      xR (Memref.isWhole_whole _) cc0_scoped1 wR (Memref.isWhole_whole _) cc0_scoped3 oR (Memref.isWhole_whole _) cc0_scoped5 v25 v26 init where
  inv k acc := iprop(⌜acc = accAt k⌝ ∗ invAt c XA WA g0 k)
  step k acc := by
    have hk : k.val < 16 := Nat.lt_of_lt_of_eq k.isLt trips_eq
    iintro ⟨%e, H⟩
    subst e
    ihave H' := (inv_step c XA WA g0 k.val hk) $$ H
    icases H' with ⟨H0, H1⟩
    iapply (wp_wand_r Idealize.ShloMosaic.frame (wpE (defs₀ (F := F)) 𝒱₀ (c : Thread nD τ) none) Set.univ)
    isplitl [H0]
    · iapply (trip_all c XA WA g0 k v25 v26); iexact H0
    · iintro %a ⟨%e, G⟩
      isplitr; · ipureintro; exact e
      iapply H1; iexact G

end Cert.Kernel7Ideal.Hand

end
-- ==== Proof.Hand7.Body.lean ====
/-
  The body: the first blocks sent for, the loop, the last block waited for.
-/
module

public import proofs.«01_k».proof.Proof.Hand7.Loop

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The names before and after the loop -/

theorem cond1_eq : k0_cond1 = 1#1 := by decide +kernel
theorem chk4_end : k0_chk4 (co 16) := by decide +kernel
theorem chk5_end : k0_chk5 (gi 16) (gb 16) (gn 16) := by decide +kernel
theorem accAt_0 : ((2#32, 0#32, 1#32, 0#32, 0#32, 0#32, 0#32, 0#32, 0#32) : Acc) = accAt 0 := by
  refine acc_ext ?_ ?_ ?_ ?_ ?_ ?_ ?_ ?_ ?_ <;> decide +kernel

/-- The loop, run: from the invariant at trip 0 to the invariant at trip 16. -/
theorem loop_run {β : Type} (kk : Acc → Prog (TpuEff nD τ sig (Elt F) Λ₀ .tc) β) (Q : β → sProp 𝕄) :
    invAt c XA WA g0 0 ⊢ iprop((invAt c XA WA g0 16 -∗ wp frame (wpE (defs₀ (F := F)) 𝒱₀ (c : Thread nD τ) none) Set.univ (kk (accAt 16)) Q)
      -∗ wp frame (wpE (defs₀ (F := F)) 𝒱₀ (c : Thread nD τ) none) Set.univ
        (k0_t1_loop.for k0_t1_ok (2#32, 0#32, 1#32, 0#32, 0#32, 0#32, 0#32, 0#32, 0#32) (tripG (F := F) 0#32 1#32) >>= kk) Q) := by
  have h := exec_loop (kk := kk) (Q := Q) Idealize.ShloMosaic.frame (wpE (defs₀ (F := F)) 𝒱₀ (c : Thread nD τ) none) Set.univ _ _ _ k0_t1_ok _ _ (loopInv c XA WA g0 0#32 1#32 (2#32, 0#32, 1#32, 0#32, 0#32, 0#32, 0#32, 0#32, 0#32))
  have e : ∀ k acc, (loopInv c XA WA g0 0#32 1#32 (2#32, 0#32, 1#32, 0#32, 0#32, 0#32, 0#32, 0#32, 0#32)).inv k acc = iprop(⌜acc = accAt k⌝ ∗ invAt c XA WA g0 k) := fun _ _ => rfl
  iintro H HK
  iapply h $$ [H]
  · rw [e]
    isplitr
    · ipureintro; exact accAt_0
    iexact H
  iintro %acc G
  ihave G' := (of_eq (((e _ acc).trans (congrArg (fun k => iprop(⌜acc = accAt k⌝ ∗ invAt c XA WA g0 k)) (show Scf.trips k0_t1_loop.lb k0_t1_loop.ub k0_t1_loop.st = 16 from trips_eq))))) $$ G
  icases G' with ⟨%ea, G⟩
  subst ea
  iapply HK
  iexact G

section Canon
variable (a b : ℕ)
@[sl_canon] theorem xsem_off1 (hh) : (cc0_scoped1.slice (Rect.unit (s := S3) k0_off1 S1.size hh)).squeeze S_ squeezes_S1_S_ = xsem (sl 3 0) := xsem_congr (by decide +kernel) _
@[sl_canon] theorem xslot_off2 (hh hs) : (xR.slice (Rect.unit (s := S3x1x1024x2048) k0_off2 S1x1x1024x2048.size hh) hs).squeeze S1x1024x2048 squeezes_S1x1x1024x2048_S1x1024x2048 = xslot (sl 3 0) := xslot_congr (by decide +kernel) _ _
@[sl_canon] theorem xblk_first (hh hs) : xM.slice (Rect.unit (s := S2x4096x2048) ![0, 0, 0] S1x1024x2048.size hh) hs = xblk (xb 0) := xblk_congr (by decide +kernel) _ _
@[sl_canon] theorem wsem_off3 (hh) : (cc0_scoped3.slice (Rect.unit (s := S2) k0_off3 S1.size hh)).squeeze S_ squeezes_S1_S_ = wsem (sl 2 (0 / 8)) := wsem_congr (by decide +kernel) _
@[sl_canon] theorem wslot_off4 (hh hs) : (wR.slice (Rect.unit (s := S2x2048x1024) k0_off4 S1x2048x1024.size hh) hs).squeeze S2048x1024 squeezes_S1x2048x1024_S2048x1024 = wslot (sl 2 (0 / 8)) := wslot_congr (by decide +kernel) _ _
@[sl_canon] theorem wblk_first (hh hs) : wM.slice (Rect.unit (s := S2048x8192) ![0, 0] S2048x1024.size hh) hs = wblk (wb 0) := wblk_congr (by decide +kernel) _ _
@[sl_canon] theorem xsem_off5 (hh) : (cc0_scoped1.slice (Rect.unit (s := S3) k0_off5 S1.size hh)).squeeze S_ squeezes_S1_S_ = xsem (sl 3 (0 + 1)) := xsem_congr (by decide +kernel) _
@[sl_canon] theorem xslot_off6 (hh hs) : (xR.slice (Rect.unit (s := S3x1x1024x2048) k0_off6 S1x1x1024x2048.size hh) hs).squeeze S1x1024x2048 squeezes_S1x1x1024x2048_S1x1024x2048 = xslot (sl 3 (0 + 1)) := xslot_congr (by decide +kernel) _ _
@[sl_canon] theorem xblk_off7 (hh hs) : xM.slice (Rect.unit (s := S2x4096x2048) k0_off7 S1x1024x2048.size hh) hs = xblk (xb (0 + 1)) := xblk_congr (by decide +kernel) _ _
@[sl_canon] theorem osem_off37 (hh) : (cc0_scoped5.slice (Rect.unit (s := S2) (k0_off37 (co 16)) S1.size hh)).squeeze S_ squeezes_S1_S_ = osem (sl 2 (16 + 1)) := osem_congr (by decide +kernel) _
@[sl_canon] theorem oblk_off38 (hh hs) : oM.slice (Rect.unit (s := S2x16x1x1x4096x128) (k0_off38 (gi 16) (gb 16) (gn 16)) S1x8x1x1x1024x128.size hh) hs = oblk (ob (16 - 1)) := oblk_congr (by decide +kernel) _ _
@[sl_canon] theorem oslot_off39 (hh hs) : (oR.slice (Rect.unit (s := S2x1x8x1x1x1024x128) (k0_off39 (co 16)) S1x1x8x1x1x1024x128.size hh) hs).squeeze S1x8x1x1x1024x128 squeezes_S1x1x8x1x1x1024x128_S1x8x1x1x1024x128 = oslot (sl 2 (16 + 1)) := oslot_congr (by decide +kernel) _ _
end Canon

/-! ## What the body takes and leaves -/

/-- The rings, their semaphores and the scratch, free. -/
def freeP : sProp 𝕄 :=
  iprop(xfree (F := F) c (sl 3 0) ∗ xfree (F := F) c (sl 3 (0 + 1)) ∗ xfree (F := F) c (sl 3 (0 + 2)) ∗ wfree (F := F) c (sl 2 (0 / 8)) ∗ wfree (F := F) c (sl 2 (0 / 8 + 1)) ∗ ofree (F := F) c (sl 2 0) ∗ ofree (F := F) c (sl 2 (0 + 1)) ∗ ∃ f, wsP (F := F) c f)
/-- The arrays, in blocks: the result at the contents `G`. -/
def arrP (G : Buf (Elt F) (oM.view.loc (c : Thread nD τ))) : sProp 𝕄 :=
  iprop(bigSep Finset.univ (xhomeP c XA) ∗ bigSep Finset.univ (whomeP c WA) ∗ bigSep Finset.univ (fun t => oHomeP c t G))

theorem xset_0 : (Finset.univ : Finset (Fin 8)) = insert (xb 0) (insert (xb (0 + 1)) (xset 0)) ∧ xb 0 ∉ insert (xb (0 + 1)) (xset 0) ∧ xb (0 + 1) ∉ xset 0 := by decide +kernel
theorem wset_0 : (Finset.univ : Finset (Fin 8)) = insert (wb 0) (wset 0) ∧ wb 0 ∉ wset 0 := by decide +kernel
theorem oset_0 : oset 0 = ∅ := by decide +kernel
theorem orest_0 : orest 0 = Finset.univ := by decide +kernel
theorem oset_16 : (Finset.univ : Finset (Fin 16)) = insert (ob (16 - 1)) (oset 16) ∧ ob (16 - 1) ∉ oset 16 := by decide +kernel
theorem orest_16 : orest 16 = ∅ := by decide +kernel

abbrev bodyP := cc0_proj_d1_scale_skel (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5

set_option maxHeartbeats 1600000 in
theorem body_run (W : Waits sig Unit) :
    iprop(owes (c : Thread nD τ) 0 W ∗ freeP c ∗ arrP c XA WA g0)
      ⊢ wp frame (wpE (defs₀ (F := F)) 𝒱₀ (c : Thread nD τ) none) Set.univ (bodyP (F := F))
        (fun _ => iprop((∃ W, owes (c : Thread nD τ) 0 W) ∗ freeP c ∗ arrP c XA WA (outA c XA WA))) := by
  unfold freeP arrP
  obtain ⟨ex, nx, nx'⟩ := xset_0
  obtain ⟨ew, nw⟩ := wset_0
  have eX : bigSep Finset.univ (xhomeP c XA) = iprop(xhomeP c XA (xb 0) ∗ xhomeP c XA (xb (0 + 1)) ∗ bigSep (xset 0) (xhomeP c XA)) := by
    rw [ex, bigSep_ins nx, bigSep_ins nx']
  have eW : bigSep Finset.univ (whomeP c WA) = iprop(whomeP c WA (wb 0) ∗ bigSep (wset 0) (whomeP c WA)) := by
    rw [ew, bigSep_ins nw]
  rw [eX, eW]
  have hc1 := cond1_eq
  have hk4 := chk4_end
  have hk5 := chk5_end
  iintro ⟨HW, ⟨⟨Hx0, ⟨%fx0, Hxs0⟩⟩, ⟨Hx1, ⟨%fx1, Hxs1⟩⟩, Hx2, ⟨Hw0, ⟨%fw0, Hws0⟩⟩, Hw1, Ho0, Ho1, Hs⟩, ⟨Hxh0, Hxh1, Hxh⟩, ⟨Hwh0, Hwh⟩, Hoh⟩
  dsimp only [bodyP]
  sl_unfold [cc0_proj_d1_scale_skel]
  sl_exec
  iapply (loop_run c XA WA g0 _ _) $$ [HW Hx2 Hw1 Ho0 Ho1 Hs Hxh Hwh Hoh Hx0 Hw0 Hx1]
  · unfold invAt xPart wPart wsPre oPart
    rw [show xfly c XA 0 = xflightP c XA (sl 3 0) (xb 0) from if_pos (by decide), show xfly c XA (0 + 1) = xflightP c XA (sl 3 (0 + 1)) (xb (0 + 1)) from if_pos (by decide),
      show wfly c WA 0 = wflightP c WA (sl 2 (0 / 8)) (wb 0) from if_pos (by decide), if_pos (by decide), oset_0, orest_0]
    isplitl [HW]; · iexists _; iexact HW
    isplitl [Hx0 Hx1 Hx2 Hxh]
    · isplitl [Hx0]; · iexists _; iexact Hx0
      isplitl [Hx1]; · iexists _; iexact Hx1
      isplitl [Hx2]; · iexact Hx2
      iexact Hxh
    isplitl [Hw0 Hw1 Hwh]
    · isplitl [Hw0]; · iexists _; iexact Hw0
      isplitl [Hw1]; · iexact Hw1
      iexact Hwh
    isplitl [Hs]; · iexact Hs
    isplitl [Ho0]; · iexact Ho0
    isplitl [Ho1]
    · unfold oPre; rw [if_neg (by decide)]; iexact Ho1
    isplitr
    · rw [bigSep_empty]; iempintro
    iexact Hoh
  iintro HI
  unfold invAt xPart wPart wsPre oPart
  rw [show xfly c XA 16 = xfree c (sl 3 16) from if_neg (by decide), show xfly c XA (16 + 1) = xfree c (sl 3 (16 + 1)) from if_neg (by decide),
    show wfly c WA 16 = wfree c (sl 2 (16 / 8)) from if_neg (by decide), if_pos (by decide), orest_16, xset_16, wset_16]
  unfold oPre
  rw [if_pos (by decide)]
  icases HI with ⟨⟨%W', HW⟩, ⟨Hx0, Hx1, Hx2, Hxh⟩, ⟨Hw0, Hw1, Hwh⟩, Hs, Ho0, ⟨%fof, HFo⟩, Hod, -⟩
  dsimp only [accAt]
  sl_exec
  sl_step
  rw [show sl 3 16 = sl 3 (0 + 1) from rfl, show sl 3 (16 + 1) = sl 3 (0 + 2) from rfl, show sl 3 (16 + 2) = sl 3 0 from rfl,
    show sl 2 (16 / 8) = sl 2 (0 / 8) from rfl, show sl 2 (16 / 8 + 1) = sl 2 (0 / 8 + 1) from rfl, show sl 2 16 = sl 2 0 from rfl,
    ← eX, ← eW, oset_16.1, bigSep_ins oset_16.2]
  isplitl [HW]; · iexists _; iexact HW
  isplitl [Hx0 Hx1 Hx2 Hw0 Hw1 Ho0 HFo HFo_src Hs]
  · isplitl [Hx2]; · iexact Hx2
    isplitl [Hx0]; · iexact Hx0
    isplitl [Hx1]; · iexact Hx1
    isplitl [Hw0]; · iexact Hw0
    isplitl [Hw1]; · iexact Hw1
    isplitl [Ho0]; · iexact Ho0
    isplitl [HFo HFo_src]
    · isplitl [HFo]; · iexact HFo
      iexists _; iexact HFo_src
    iexact Hs
  isplitl [Hxh]; · iexact Hxh
  isplitl [Hwh]; · iexact Hwh
  isplitl [HFo_dst]; · iexact HFo_dst
  iexact Hod

end Cert.Kernel7Ideal.Hand

end
-- ==== Proof.Hand7.Launch.lean ====
/-
  The launch: the arrays and the rings in blocks, the body run at the one point, the run of the program.
-/
module

public import proofs.«01_k».proof.Proof.Hand7.Body
public import proofs.«01_k».proof.Proof.Gen.Kernel7Ideal.Launch
public import proofs.«01_k».proof.Proof.Gen.Kernel7Ideal.Frame
public import Idealize.ShloMosaic.Lib.Pipeline.FrameValue
public import Idealize.ShloMosaic.Lib.Ring

@[expose] public section

noncomputable section

namespace Cert.Kernel7Ideal.Hand

open Cert.Kernel7Ideal Cert.Kernel7Ideal.Gen
open Idealize.ShloMosaic Idealize.ShloMosaic.TcCoe Idealize.ShloMosaic.Tactic
open Idealize.ShloMosaic.Ring (sl)
open Cert.Shared
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

open Idealize.ShloMosaic.Pipeline (Dat Cfg Window BodyObligation)

/-! ## Element sets -/

abbrev xS (b : Fin 8) : Finset S2x4096x2048.Idx := (Rect.unit (s := S2x4096x2048) (xblkOff b) S1x1024x2048.size (xblkOff_inb b)).set
abbrev wS (b : Fin 8) : Finset S2048x8192.Idx := (Rect.unit (s := S2048x8192) (wblkOff b) S2048x1024.size (wblkOff_inb b)).set
abbrev oS (t : Fin 16) : Finset S2x16x1x1x4096x128.Idx := (Rect.unit (s := S2x16x1x1x4096x128) (oblkOff t) S1x8x1x1x1024x128.size (oblkOff_inb t)).set
abbrev xrS (s : Fin 3) : Finset S3x1x1024x2048.Idx := (Rect.unit (s := S3x1x1024x2048) (xslotOff s) S1x1x1024x2048.size (xslotOff_inb s)).set
abbrev wrS (s : Fin 2) : Finset S2x2048x1024.Idx := (Rect.unit (s := S2x2048x1024) (wslotOff s) S1x2048x1024.size (wslotOff_inb s)).set
abbrev orS (s : Fin 2) : Finset S2x1x8x1x1x1024x128.Idx := (Rect.unit (s := S2x1x8x1x1x1024x128) (oslotOff s) S1x1x8x1x1x1024x128.size (oslotOff_inb s)).set

theorem xS_tiles : Tiles xS := rows_tiles
theorem wS_tiles : Tiles wS := axis_tiles 1 1024 (fun _ => rfl) (by intro b a h; fin_cases a <;> first | rfl | exact absurd rfl h) rfl (by decide) rfl
theorem oS_tiles : Tiles oS := by
  refine fibres oS (fun y => 8 * ((y 1).val / 8) + 4 * (y 0).val + (y 4).val / 1024) Fin.val Fin.val_injective (fun b y => ?_) (fun y => ?_)
  · rw [Rect.mem_set_unit]
    have h0 : (y 0).val < 2 := (y 0).isLt
    have h1 : (y 1).val < 16 := (y 1).isLt
    have h2 : (y 2).val < 1 := (y 2).isLt
    have h3 : (y 3).val < 1 := (y 3).isLt
    have h4 : (y 4).val < 4096 := (y 4).isLt
    have h5 : (y 5).val < 128 := (y 5).isLt
    have hb := b.isLt
    constructor
    · intro H
      have a0 : b.val / 4 % 2 ≤ (y 0).val ∧ (y 0).val < b.val / 4 % 2 + 1 := H 0
      have a1 : 8 * (b.val / 8) ≤ (y 1).val ∧ (y 1).val < 8 * (b.val / 8) + 8 := H 1
      have a4 : 1024 * (b.val % 4) ≤ (y 4).val ∧ (y 4).val < 1024 * (b.val % 4) + 1024 := H 4
      omega
    · intro H i
      fin_cases i
      · show b.val / 4 % 2 ≤ (y 0).val ∧ (y 0).val < b.val / 4 % 2 + 1; omega
      · show 8 * (b.val / 8) ≤ (y 1).val ∧ (y 1).val < 8 * (b.val / 8) + 8; omega
      · show 0 ≤ (y 2).val ∧ (y 2).val < 0 + 1; omega
      · show 0 ≤ (y 3).val ∧ (y 3).val < 0 + 1; omega
      · show 1024 * (b.val % 4) ≤ (y 4).val ∧ (y 4).val < 1024 * (b.val % 4) + 1024; omega
      · show 0 ≤ (y 5).val ∧ (y 5).val < 0 + 128; omega
  · have h0 : (y 0).val < 2 := (y 0).isLt
    have h1 : (y 1).val < 16 := (y 1).isLt
    have h2 : (y 2).val < 1 := (y 2).isLt
    have h4 : (y 4).val < 4096 := (y 4).isLt
    exact ⟨⟨8 * ((y 1).val / 8) + 4 * (y 0).val + (y 4).val / 1024, by omega⟩, rfl⟩

/-- The slots of a ring. -/
theorem xrS_tiles : Tiles xrS := axis_tiles 0 1 (fun _ => (Nat.one_mul _).symm) (by intro b a h; fin_cases a <;> first | rfl | exact absurd rfl h) rfl (by decide) rfl
theorem wrS_tiles : Tiles wrS := axis_tiles 0 1 (fun _ => (Nat.one_mul _).symm) (by intro b a h; fin_cases a <;> first | rfl | exact absurd rfl h) rfl (by decide) rfl
theorem orS_tiles : Tiles orS := axis_tiles 0 1 (fun _ => (Nat.one_mul _).symm) (by intro b a h; fin_cases a <;> first | rfl | exact absurd rfl h) rfl (by decide) rfl

/-! ## Whole buffers and their blocks -/

section Blocks
variable (c : Dev nD)

theorem x_eq (XA : Buf (Elt F) (xM.view.loc (c : Thread nD τ))) :
    (((c : Thread nD τ).loc main_arg0) ↦{fullShare} XA : sProp 𝕄) = bigSep Finset.univ (xhomeP c XA) := by
  rw [Ring.pointsTo_blocks (ℓ := (c : Thread nD τ).loc main_arg0) xS xS_tiles.1 xS_tiles.2]
  exact bigSep_congr fun b _ => by rw [show xS b = (xblk b).view.set from (View.set_slice_whole _ _).symm]; rfl
theorem w_eq (WA : Buf (Elt F) (wM.view.loc (c : Thread nD τ))) :
    (((c : Thread nD τ).loc main_arg1) ↦{fullShare} WA : sProp 𝕄) = bigSep Finset.univ (whomeP c WA) := by
  rw [Ring.pointsTo_blocks (ℓ := (c : Thread nD τ).loc main_arg1) wS wS_tiles.1 wS_tiles.2]
  exact bigSep_congr fun b _ => by rw [show wS b = (wblk b).view.set from (View.set_slice_whole _ _).symm]; rfl
theorem o_eq (G : Buf (Elt F) (oM.view.loc (c : Thread nD τ))) :
    (((c : Thread nD τ).loc main_v0) ↦{fullShare} G : sProp 𝕄) = bigSep Finset.univ (fun t => oHomeP c t G) := by
  rw [Ring.pointsTo_blocks (ℓ := (c : Thread nD τ).loc main_v0) oS oS_tiles.1 oS_tiles.2]
  exact bigSep_congr fun b _ => by rw [show oS b = (oblk b).view.set from (View.set_slice_whole _ _).symm]; rfl

theorem xslotP_eq (s : Fin 3) (f) : xslotP (F := F) c s f = (((c : Thread nD τ).loc cc0_scoped0) ↦[xrS s]{fullShare} f : sProp 𝕄) :=
  congrArg (fun S => (_ ↦[S]{fullShare} f : sProp 𝕄)) ((View.set_reshape _ _).trans (View.set_slice_whole _ _))
theorem wslotP_eq (s : Fin 2) (f) : wslotP (F := F) c s f = (((c : Thread nD τ).loc cc0_scoped2) ↦[wrS s]{fullShare} f : sProp 𝕄) :=
  congrArg (fun S => (_ ↦[S]{fullShare} f : sProp 𝕄)) ((View.set_reshape _ _).trans (View.set_slice_whole _ _))
theorem oslotP_eq (s : Fin 2) (f) : oslotP (F := F) c s f = (((c : Thread nD τ).loc cc0_scoped4) ↦[orS s]{fullShare} f : sProp 𝕄) :=
  congrArg (fun S => (_ ↦[S]{fullShare} f : sProp 𝕄)) ((View.set_reshape _ _).trans (View.set_slice_whole _ _))

theorem xring : (iprop(∃ f : Buf (Elt F) ((c : Thread nD τ).loc cc0_scoped0), ((c : Thread nD τ).loc cc0_scoped0) ↦{fullShare} f) : sProp 𝕄)
    ⊣⊢ iprop((∃ f, xslotP c 0 f) ∗ (∃ f, xslotP c 1 f) ∗ ∃ f, xslotP c 2 f) := by
  have h := some_blocks (F := F) (U := UU nD τ) (ℓ := (c : Thread nD τ).loc cc0_scoped0) xrS xrS_tiles (xR.view.junk)
  rw [bigSep_three] at h
  simp only [xslotP_eq]
  exact h
theorem wring : (iprop(∃ f : Buf (Elt F) ((c : Thread nD τ).loc cc0_scoped2), ((c : Thread nD τ).loc cc0_scoped2) ↦{fullShare} f) : sProp 𝕄)
    ⊣⊢ iprop((∃ f, wslotP c 0 f) ∗ ∃ f, wslotP c 1 f) := by
  have h := some_blocks (F := F) (U := UU nD τ) (ℓ := (c : Thread nD τ).loc cc0_scoped2) wrS wrS_tiles (wR.view.junk)
  rw [bigSep_two] at h
  simp only [wslotP_eq]
  exact h
theorem oring : (iprop(∃ f : Buf (Elt F) ((c : Thread nD τ).loc cc0_scoped4), ((c : Thread nD τ).loc cc0_scoped4) ↦{fullShare} f) : sProp 𝕄)
    ⊣⊢ iprop((∃ f, oslotP c 0 f) ∗ ∃ f, oslotP c 1 f) := by
  have h := some_blocks (F := F) (U := UU nD τ) (ℓ := (c : Thread nD τ).loc cc0_scoped4) orS orS_tiles (oR.view.junk)
  rw [bigSep_two] at h
  simp only [oslotP_eq]
  exact h

/-! ## The region's invariant -/

/-- The kernel's own semaphores. -/
abbrev cells : Fin 7 → SemLoc sig := ![.dma (xsem 0).sem, .dma (xsem 1).sem, .dma (xsem 2).sem, .dma (wsem 0).sem, .dma (wsem 1).sem, .dma (osem 0).sem, .dma (osem 1).sem]
theorem cells_own : Pipeline.OwnSemFacts (cfg0.spec) cells := by decide +kernel
theorem cells_eq : (Pipeline.ownSems0 (Ix := Unit) (Name := ℕ) (U := UU nD τ) (Lvl := ℕ) (Val := Elt F) (τ := τ) cells c : sProp 𝕄)
    = iprop(xcellP c 0 ∗ xcellP c 1 ∗ xcellP c 2 ∗ wcellP c 0 ∗ wcellP c 1 ∗ ocellP c 0 ∗ ocellP c 1) :=
  Pipeline.ownSems0_eq_of_list c cells [0, 1, 2, 3, 4, 5, 6] (by decide) (by decide)

abbrev readR : Finset (Ref sig .tc) := {main_arg0, main_arg1}
abbrev writeR : Finset (Ref sig .tc) := {main_v0}
theorem readR_sub : readR ⊆ Pipeline.restRefs sig (cfg0.spec) := by decide
theorem writeR_sub : writeR ⊆ Pipeline.restRefs sig (cfg0.spec) \ readR := by decide
theorem read_eq (V : (b : Ref sig .tc) → Buf (Elt F) ((c : Thread nD τ).loc b)) :
    (bigSep readR (fun b => ((c : Thread nD τ).loc b) ↦{fullShare} V b) : sProp 𝕄)
      = iprop((((c : Thread nD τ).loc main_arg0) ↦{fullShare} V main_arg0) ∗ (((c : Thread nD τ).loc main_arg1) ↦{fullShare} V main_arg1)) := by
  rw [BI.bigSep_eq_bigSepL_of_eq [main_arg0, main_arg1] (by decide) (by decide)]; rfl

/-- What the body's run takes and leaves of the region: the result at the contents `G`. -/
def regionP (XA : Buf (Elt F) (xM.view.loc (c : Thread nD τ))) (WA : Buf (Elt F) (wM.view.loc (c : Thread nD τ))) (G : Buf (Elt F) (oM.view.loc (c : Thread nD τ))) : sProp 𝕄 :=
  iprop(freeP c ∗ arrP c XA WA G ∗ (∃ f : Buf (Elt F) ((c : Thread nD τ).loc cc0_scratch1), ((c : Thread nD τ).loc cc0_scratch1) ↦{fullShare} f) ∗ ∃ r, prngReg c r)

theorem region_eq (V G : (c : Dev nD) → (b : Ref sig .tc) → Buf (Elt F) ((c : Thread nD τ).loc b)) :
    (Pipeline.ΦDRG cells (cfg0.spec) readR writeR V G c : sProp 𝕄) ⊣⊢ regionP c (V c main_arg0) (V c main_arg1) (G c main_v0) := by
  have ews : ∀ f : Buf (Elt F) (wsM.view.loc (c : Thread nD τ)), wsP (F := F) c f = (((c : Thread nD τ).loc cc0_scratch0) ↦{fullShare} f : sProp 𝕄) :=
    fun f => congrArg (fun S => (_ ↦[S]{fullShare} f : sProp 𝕄)) (View.set_whole cc0_scratch0)
  rw [Pipeline.ΦDRG_eq, scopedRest0_eq, cells_eq, read_eq, show Pipeline.routed writeR c (G c) = _ from Pipeline.routed_singleton main_v0 c (G c),
    x_eq, w_eq, o_eq]
  unfold regionP freeP arrP
  simp only [ews]
  exact region_pack_aside (xring c) (wring c) (oring c)

end Blocks

/-! ## The body at the one point, and the run -/

section Launch
variable (m : (ℓ : Loc nD τ sig) → Buf (Elt F) ℓ) (ρ : Dev nD → PrngReg)

abbrev XAt (c : Dev nD) : Buf (Elt F) (xM.view.loc (c : Thread nD τ)) := m ((c : Thread nD τ).loc main_arg0)
abbrev WAt (c : Dev nD) : Buf (Elt F) (wM.view.loc (c : Thread nD τ)) := m ((c : Thread nD τ).loc main_arg1)
/-- The contents the region returns: the result at what the blocks compute. -/
def endG (c : Dev nD) (b : Ref sig .tc) : Buf (Elt F) ((c : Thread nD τ).loc b) := Function.update (V m c) main_v0 (outA c (XAt m c) (WAt m c)) b

def dats (_ : Fin 1) (c : Dev nD) : Dat τ (Elt F) Unit ℕ (UU nD τ) ℕ cfg0 c where
  A w := V m c (Pipeline.arrRef (cfg0.spec) w)
  after w _ := w.elim0
  Φ t := if t.val = 0 then regionP c (XAt m c) (WAt m c) (V m c main_v0) else regionP c (XAt m c) (WAt m c) (outA c (XAt m c) (WAt m c))
  q _ := fullShare
  owed _ := 0

theorem prog_eq (t : Fin cfg0.N) : (defs₀ (F := F)) .tc cfg0.body (cfg0.bodyArgs t (cfg0.slots t)) = bodyP (F := F) := by
  have e : (defs₀ (F := F)) .tc cfg0.body (cfg0.bodyArgs t (cfg0.slots t)) = bodyAt0 t := by unfold defs₀; rw [Defs.onTc_tc]
  rw [e]
  unfold bodyAt0
  rw [cc0_proj_d1_scale_eq_skeleton]

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ (t0_0).castSucc = regionP c (XAt m c) (WAt m c) (V m c main_v0) from rfl, show (dats m 0 c).Φ (t0_0).succ = regionP c (XAt m c) (WAt m c) (outA c (XAt m c) (WAt m c)) from rfl]
  unfold Dat.owesAt Pipeline.owesWithin
  rw [show (dats m 0 c).owed (t0_0).castSucc = 0 from rfl, show (dats m 0 c).owed (t0_0).succ = 0 from rfl]
  unfold regionP
  iintro ⟨⟨Hf, Ha, Hs, Hr⟩, ⟨%W, -, HW⟩, HE⟩
  sl_rw [prog_eq t0_0]
  iapply (wp_wand_r Idealize.ShloMosaic.frame (wpE (defs₀ (F := F)) 𝒱₀ (c : Thread nD τ) none) Set.univ)
  isplitl [Hf Ha HW]
  · iapply (body_run c (XAt m c) (WAt m c) (V m c main_v0) W)
    isplitl [HW]; · iexact HW
    isplitl [Hf]; · iexact Hf
    iexact Ha
  iintro %a ⟨⟨%W', HW⟩, Hf, Ha⟩
  isplitl [Hf Ha Hs Hr]
  · isplitl [Hf]; · iexact Hf
    isplitl [Ha]; · iexact Ha
    isplitl [Hs]; · iexact Hs
    iexact Hr
  isplitl [HW]
  · iexists W'; isplitr; · ipureintro; exact fun _ _ => Or.inl trivial
    iexact HW
  iexact HE

set_option backward.isDefEq.respectTransparency.types false in
theorem run_post : θ_run defs (onTc (τ := τ) (main (F := F))) (s₀ m ρ)
    (fun r => Pipeline.FramePostRG cfgs (dats m) 0 writeR (V m) (endG m) r ∧ r.2.sem = fun _ => 0) :=
  Pipeline.θ_run_frame_dmaRG (Q' := _) cfgs (dats m) (0 : Fin 1) launch0 cells defs₀ 𝒱₀ cells_own readR writeR readR_sub writeR_sub m ρ main
    (hbody := fun c => (body_obligation m c).loose) (hshare := fun c => (dats m 0 c).share_full fun _ => rfl)
    (howed := fun _ _ => rfl) (V := V m) (hmain := Pipeline.hmain_region cfgs 0 defs₀ 𝒱₀ m main fun c => (main_chain c).trans rfl) (hA := fun _ _ => rfl)
    (G := endG m) (hin := fun c => (region_eq c (V m) (V m)).1)
    (hout := fun c => (region_eq c (V m) (endG m)).2)

/-- The program runs to the end: the arguments unchanged, the result at what the blocks compute, every counter at zero. -/
theorem run_main : θ_run defs (onTc (τ := τ) (main (F := F))) (s₀ m ρ) (fun r => (∀ c : Dev nD,
      r.2.mem ((c : Thread nD τ).loc main_v0) = outA c (XAt m c) (WAt m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun r h => ⟨fun c => ⟨h.1.written c (Finset.mem_singleton_self _), (h.1.toR c).2 main_arg0 (by decide), (h.1.toR c).2 main_arg1 (by decide)⟩, h.2⟩)
    (run_post m ρ)

end Launch

end Cert.Kernel7Ideal.Hand

end
-- ==== Proof.Hand7.Value.lean ====
/-
  The result at the ideal instance: both programs' results as one scaled sum over the contracted axis, index by index.
-/
module

public import proofs.«01_k».proof.Proof.Hand7.Pieces
public import proofs.«01_k».proof.Proof.Gen.Reference7Ideal.Run
public import Idealize.ShloMosaic.PureOps.Ideal
public import Idealize.ShloMosaic.Lib.Pointwise

@[expose] public section

noncomputable section

namespace Cert.Kernel7Ideal.Hand

open Cert.Kernel7Ideal Cert.Kernel7Ideal.Gen
open Idealize.ShloMosaic Idealize.ShloMosaic.TcCoe
open Idealize.SL.Sem

/-- The factor of the queries: the scores' `1 / √128`, in powers of two. -/
def QS : EReal := (((Real.sqrt 128)⁻¹ * (Real.log 2)⁻¹ : ℝ) : EReal)

/-- The program's named factor is that real. -/
theorem qs_named : Named.named (F := Ideal) κ "qk_scale" (φ := .f32) 0x3E0293EE#32 = QS := IdealRules.named_const.ideal_named_scalar _ _ _ _ rfl

/-- Element `i` of the result: row `(i 0, i 4)` of the activations against the column of head `i 1`, lane `i 5`, of the first part, scaled. -/
def SPEC (x : S2x4096x2048.Idx → EReal) (w : S2048x8192.Idx → EReal) : S2x16x1x1x4096x128.Idx → EReal := fun i =>
  (∑ k : Fin 2048, x (ix3 (i 0 : Fin 2) (i 4 : Fin 4096) k)
    * w (ix2 k (⟨(i 1).val * 128 + (i 5).val, by
        have h1 : (i 1).val < 16 := (i 1).isLt; have h5 : (i 5).val < 128 := (i 5).isLt; omega⟩ : Fin 8192))) * QS

variable (c : Dev nD)
  (XA : Buf (Elt Ideal) (xM.view.loc (c : Thread nD τ))) (WA : Buf (Elt Ideal) (wM.view.loc (c : Thread nD τ)))

theorem xblk_at (b : Fin 8) (r : Fin 1024) (k : Fin 2048) :
    xpay c XA b (ix3 0 r k) = XA (ix3 (⟨b.val / 4, by omega⟩ : Fin 2) (⟨1024 * (b.val % 4) + r.val, by omega⟩ : Fin 4096) k : S2x4096x2048.Idx) := by
  show XA ((Rect.unit (s := S2x4096x2048) (xblkOff b) S1x1024x2048.size (xblkOff_inb b)).emb (ix3 0 r k)) = _
  refine congrArg XA (funext fun a => Fin.ext ?_)
  match a with
  | ⟨0, _⟩ => show b.val / 4 + 1 * 0 = b.val / 4; omega
  | ⟨1, _⟩ => show 1024 * (b.val % 4) + 1 * r.val = 1024 * (b.val % 4) + r.val; omega
  | ⟨2, _⟩ => show 0 + 1 * k.val = k.val; omega

theorem wblk_at (n : Fin 8) (k : Fin 2048) (l : Fin 1024) :
    wpay c WA n (ix2 k l) = WA (ix2 k (⟨1024 * n.val + l.val, by omega⟩ : Fin 8192) : S2048x8192.Idx) := by
  show WA ((Rect.unit (s := S2048x8192) (wblkOff n) S2048x1024.size (wblkOff_inb n)).emb (ix2 k l)) = _
  refine congrArg WA (funext fun a => Fin.ext ?_)
  match a with
  | ⟨0, _⟩ => show 0 + 1 * k.val = k.val; omega
  | ⟨1, _⟩ => show 1024 * n.val + 1 * l.val = 1024 * n.val + l.val; omega

theorem prodB_at (t : ℕ) (r l : Fin 1024) : prodB c XA WA t (ix2 r l) = (∑ k : Fin 2048, xpay c XA (xb t) (ix3 0 r k) * wpay c WA (wb t) (ix2 k l)) * QS := by
  unfold prodB prod wsV
  generalize xpay c XA (xb t) = x
  generalize wpay c WA (wb t) = w
  rw [← qs_named]
  pointwise [k0_pay3, k0_pay2]

theorem out_spec : outA c XA WA = SPEC XA WA := by
  funext i
  have h0 : ((i : S2x16x1x1x4096x128.Idx) 0).val < 2 := (i 0).isLt
  have h1 : ((i : S2x16x1x1x4096x128.Idx) 1).val < 16 := (i 1).isLt
  have h4 : ((i : S2x16x1x1x4096x128.Idx) 4).val < 4096 := (i 4).isLt
  have h5 : ((i : S2x16x1x1x4096x128.Idx) 5).val < 128 := (i 5).isLt
  unfold outA SPEC
  refine (prodB_at c XA WA _ _ _).trans (congrArg (fun v : EReal => v * QS) (Finset.sum_congr (M := EReal) rfl fun k _ => ?_))
  rw [xblk_at, wblk_at]
  have eb : (xb (tripOf i)).val = (i 0).val * 4 + (i 4).val / 1024 := by
    show tripOf i % 8 = _; unfold tripOf; omega
  have en : (wb (tripOf i)).val = (i 1).val / 8 := by
    show tripOf i / 8 % 8 = _; unfold tripOf; omega
  congr 2
  · congr 1 <;> apply Fin.ext <;> simp only [eb] <;> omega
  · congr 1; apply Fin.ext; simp only [en]; omega

open Cert.Reference7Ideal Cert.Reference7Ideal.Gen in
/-- The reference's projected first part, head by head, as its operations compose. -/
def refQ (x : FVec Ideal S2x4096x2048 .bf16) (w : FVec Ideal S2048x8192 .f32) : FVec Ideal S2x16x4096x128 .f32 :=
  transpose S2x16x4096x128 [0, 2, 1, 3] (shapeCast _ (extractStridedSlice S2x4096x2048 ![0, 0, 0] (Host.dotGeneral dot_S2x4096x2048_S2048x8192_S2x4096x8192_2_0_01_1_n_n none (extf .f32 x Cert.Reference7Ideal.Gen.bitsLt_bf16_f32) w) slices_S2x4096x8192_S2x4096x2048_0_0_0) shapeCasts_S2x4096x2048_S2x4096x16x128) transposes_S2x4096x16x128_S2x16x4096x128_0_2_1_3

open Cert.Reference7Ideal Cert.Reference7Ideal.Gen in
/-- The reference's divisor. -/
def refScale : FVec Ideal S_ .f32 := mulf (Host.sqrt (constant S_ .f32 0x43000000#32)) (Host.log (constant S_ .f32 0x40000000#32))

open Cert.Reference7Ideal Cert.Reference7Ideal.Gen in
/-- The reference's result as its operations compose. -/
def refOut (x : FVec Ideal S2x4096x2048 .bf16) (w : FVec Ideal S2048x8192 .f32) : FVec Ideal S2x16x1x1x4096x128 .bf16 :=
  truncf .bf16 (shapeCast _ (Host.divf (refQ x w) (broadcastInDim S2x16x4096x128 ![] bcast_S_S2x16x4096x128 refScale)) shapeCasts_S2x16x4096x128_S2x16x1x1x4096x128) Cert.Reference7Ideal.Gen.bitsLt_bf16_f32

theorem refQ_at (x : S2x4096x2048.Idx → EReal) (w : S2048x8192.Idx → EReal) (b : Fin 2) (h : Fin 16) (r : Fin 4096) (l : Fin 128) :
    refQ x w (ix4 b h r l) = ∑ k : Fin 2048, x (ix3 b r k) * w (ix2 k (⟨h.val * 128 + l.val, by omega⟩ : Fin 8192)) := by
  unfold refQ
  pointwise

theorem word_128 : Ideal.ofBits .f32 0x43000000#32 = ((128 : ℝ) : EReal) := by
  simp [Ideal.ofBits, Ideal.ieee, -EReal.coe_mul]; norm_num

theorem word_2 : Ideal.ofBits .f32 0x40000000#32 = ((2 : ℝ) : EReal) := by
  simp [Ideal.ofBits, Ideal.ieee, -EReal.coe_mul]; norm_num

/-- The divisor is the real `√128 · ln 2`. -/
theorem refScale_at (y : S_.Idx) : refScale y = ((Real.sqrt 128 * Real.log 2 : ℝ) : EReal) := by
  show Ideal.sqrt (Ideal.ofBits .f32 0x43000000#32) * Ideal.log (Ideal.ofBits .f32 0x40000000#32) = _
  rw [word_128, word_2, Ideal.sqrt_coe, Ideal.log_coe, if_neg (by norm_num), if_neg (by norm_num), EReal.coe_mul]

/-- Dividing by it is scaling by the factor. -/
theorem div_scale (v : EReal) (y : S_.Idx) : Ideal.div v (refScale y) = v * QS := by
  have h : Real.sqrt 128 * Real.log 2 ≠ 0 := mul_ne_zero (Real.sqrt_pos.mpr (by norm_num)).ne' (Real.log_pos (by norm_num)).ne'
  rw [refScale_at, Ideal.div_coe h, one_div, mul_inv]
  rfl

/-- The reference's result is the same. -/
theorem ref_spec (x : S2x4096x2048.Idx → EReal) (w : S2048x8192.Idx → EReal) : refOut x w = SPEC x w := by
  funext i
  have e : refOut x w i = Ideal.div (refQ x w (ix4 (i 0 : Fin 2) (i 1 : Fin 16) (i 4 : Fin 4096) (i 5 : Fin 128))) (refScale ix0) := by
    unfold refOut
    generalize refQ x w = q
    generalize refScale = s
    pointwise
  rw [e, div_scale]
  exact congrArg (fun v : EReal => v * QS) (refQ_at x w (i 0 : Fin 2) (i 1 : Fin 16) (i 4 : Fin 4096) (i 5 : Fin 128))

end Cert.Kernel7Ideal.Hand

end
-- ==== Proof.Hand8.Words.lean ====
/-
  The words one trip of the pipelined loop carries and reads, in closed form: the counters of blocks fetched and
  waited for, the grid indices, and with them every guard, offset and check of a trip, for each of the 16 trips.
-/
module

public import proofs.«01_k».proof.Proof.Gen.Kernel8Ideal.Skeleton
public import Idealize.ShloMosaic.Lib.Ring

@[expose] public section

noncomputable section

namespace Cert.Kernel8Ideal.Hand

open Cert.Kernel8Ideal Cert.Kernel8Ideal.Gen
open Idealize.ShloMosaic

/-! ## The carried words before trip `k` -/

def fx (k : ℕ) : BitVec 32 := BitVec.ofNat 32 (min (k + 2) 16)
def cx (k : ℕ) : BitVec 32 := BitVec.ofNat 32 k
def fw (k : ℕ) : BitVec 32 := BitVec.ofNat 32 (min (k / 8 + 1) 2)
def cw (k : ℕ) : BitVec 32 := BitVec.ofNat 32 (k / 8)
def fo (k : ℕ) : BitVec 32 := BitVec.ofNat 32 k
def co (k : ℕ) : BitVec 32 := BitVec.ofNat 32 (k - 1)
def gn (k : ℕ) : BitVec 32 := BitVec.ofNat 32 (k / 8 % 2)
def gb (k : ℕ) : BitVec 32 := BitVec.ofNat 32 (k / 4 % 2)
def gi (k : ℕ) : BitVec 32 := BitVec.ofNat 32 (k % 4)

theorem trips_eq : k0_t1_loop.trips = 16 := by decide

theorem all_trips {P : Fin k0_t1_loop.trips → Prop} (h : ∀ k : Fin 16, P (k.cast trips_eq.symm)) : ∀ k, P k :=
  fun k => h (k.cast trips_eq)

theorem cond2_iff : ∀ k : Fin k0_t1_loop.trips, k0_cond2 k (gb k.val) (gi k.val) = 1#1 ↔ k.val < 14 := all_trips (by decide +kernel)
theorem cond3_iff : ∀ k : Fin k0_t1_loop.trips, k0_cond3 k (gn k.val) (gb k.val) (gi k.val) = 1#1 ↔ k.val % 8 = 7 ∧ k.val < 15 := all_trips (by decide +kernel)
theorem cond4_iff : ∀ k : Fin k0_t1_loop.trips, k0_cond4 k (gb k.val) (gi k.val) = 1#1 := all_trips (by decide +kernel)
theorem cond5_iff : ∀ k : Fin k0_t1_loop.trips, k0_cond5 k (gn k.val) (gb k.val) (gi k.val) = 1#1 ↔ k.val % 8 = 0 := all_trips (by decide +kernel)
theorem cond7_iff : ∀ k : Fin k0_t1_loop.trips, k0_cond7 (gb k.val) (gi k.val) = 1#1 ↔ k.val % 8 = 0 := all_trips (by decide +kernel)
theorem cond10_iff : ∀ k : Fin k0_t1_loop.trips, k0_cond10 k (gn k.val) (gb k.val) (gi k.val) = 1#1 := all_trips (by decide +kernel)
theorem cond13_iff : ∀ k : Fin k0_t1_loop.trips, k0_cond13 k (gn k.val) (gb k.val) (gi k.val) = 1#1 ↔ 1 ≤ k.val := all_trips (by decide +kernel)
theorem chk1_all : ∀ k : Fin k0_t1_loop.trips, k0_chk1 k (fx k.val) (cx k.val) (fw k.val) (cw k.val) (fo k.val) (co k.val) (gn k.val) (gb k.val) (gi k.val) := all_trips (by decide +kernel)
theorem chk2_all : ∀ k : Fin k0_t1_loop.trips, k0_chk2 (cx k.val) := all_trips (by decide +kernel)
theorem chk3_all : ∀ k : Fin k0_t1_loop.trips, k0_chk3 (fo k.val) := all_trips (by decide +kernel)

end Cert.Kernel8Ideal.Hand

end
-- ==== Proof.Hand8.Names.lean ====
/-
  The pieces of memory a trip of the pipelined loop names, under one name each: the blocks of the three arrays in HBM,
  the slots of the three rings in VMEM and their transfer semaphores; and, for each slice the program takes at run-time
  offsets, the name it is at trip `k`.
-/
module

public import proofs.«01_k».proof.Proof.Hand8.Words
public import proofs.«01_k».proof.Proof.Hand4.Split
public import Idealize.ShloMosaic.Lib.Ring.Trips
public import Idealize.ShloMosaic.Lib.Tactic

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Split (pieceOff)

/-! ## The arrays, the rings and the scratch buffers -/

abbrev xM : Memref sig .tc .hbm S2x4096x2048 .bf16 := Memref.whole main_arg0
abbrev wM : Memref sig .tc .hbm S2048x8192 .f32 := Memref.whole main_arg1
abbrev oM : Memref sig .tc .hbm S2x16x1x4x1024x128 .bf16 := Memref.whole main_v0
abbrev wsM : Memref sig .tc .vmem S2048x1024 .bf16 := Memref.whole cc0_scratch0
abbrev asM : Memref sig .tc .vmem S8x1024x128 .f32 := Memref.whole cc0_scratch1
abbrev xR : Memref sig .tc .vmem S3x1x1024x2048 .bf16 := Memref.whole cc0_scoped0
abbrev wR : Memref sig .tc .vmem S2x2048x1024 .f32 := Memref.whole cc0_scoped2
abbrev oR : Memref sig .tc .vmem S2x1x8x1x4x256x128 .bf16 := Memref.whole cc0_scoped4

/-! ## Block and slot numbers -/

/-- The activations' block at trip `k`: 1024 rows, eight of them, the whole array once per block of the weights. -/
def xb (k : ℕ) : Fin 8 := Fin.ofNat 8 k
/-- The weights' block at trip `k`: 1024 columns, of the second group. -/
def wb (k : ℕ) : Fin 8 := Fin.ofNat 8 (2 + k / 8)
/-- The result's block at trip `k`. -/
def ob (k : ℕ) : Fin 16 := Fin.ofNat 16 k

abbrev xblkOff (b : Fin 8) : Fin 3 → Nat := ![b.val / 4, 1024 * (b.val % 4), 0]
abbrev wblkOff (n : Fin 8) : Fin 2 → Nat := ![0, 1024 * n.val]
abbrev oblkOff (t : Fin 16) : Fin 6 → Nat := ![t.val / 4 % 2, 8 * (t.val / 8), 0, 0, 256 * (t.val % 4), 0]
abbrev xslotOff (s : Fin 3) : Fin 4 → Nat := ![s.val, 0, 0, 0]
abbrev wslotOff (s : Fin 2) : Fin 3 → Nat := ![s.val, 0, 0]
abbrev oslotOff (s : Fin 2) : Fin 7 → Nat := ![s.val, 0, 0, 0, 0, 0, 0]
abbrev sem3Off (s : Fin 3) : Fin 1 → Nat := ![s.val]
abbrev sem2Off (s : Fin 2) : Fin 1 → Nat := ![s.val]

theorem xblkOff_inb (b : Fin 8) : ∀ a, xblkOff b a + S1x1024x2048.size a ≤ S2x4096x2048.size a := by revert b; decide
theorem wblkOff_inb (n : Fin 8) : ∀ a, wblkOff n a + S2048x1024.size a ≤ S2048x8192.size a := by revert n; decide
theorem oblkOff_inb (t : Fin 16) : ∀ a, oblkOff t a + S1x8x1x4x256x128.size a ≤ S2x16x1x4x1024x128.size a := by revert t; decide
theorem xslotOff_inb (s : Fin 3) : ∀ a, xslotOff s a + S1x1x1024x2048.size a ≤ S3x1x1024x2048.size a := by revert s; decide
theorem wslotOff_inb (s : Fin 2) : ∀ a, wslotOff s a + S1x2048x1024.size a ≤ S2x2048x1024.size a := by revert s; decide
theorem oslotOff_inb (s : Fin 2) : ∀ a, oslotOff s a + S1x1x8x1x4x256x128.size a ≤ S2x1x8x1x4x256x128.size a := by revert s; decide
theorem sem3Off_inb (s : Fin 3) : ∀ a, sem3Off s a + S1.size a ≤ S3.size a := by revert s; decide
theorem sem2Off_inb (s : Fin 2) : ∀ a, sem2Off s a + S1.size a ≤ S2.size a := by revert s; decide

def xblk (b : Fin 8) : Memref sig .tc .hbm S1x1024x2048 .bf16 :=
  xM.slice (Rect.unit (s := S2x4096x2048) (xblkOff b) S1x1024x2048.size (xblkOff_inb b)) (fun _ => rfl)
def wblk (n : Fin 8) : Memref sig .tc .hbm S2048x1024 .f32 :=
  wM.slice (Rect.unit (s := S2048x8192) (wblkOff n) S2048x1024.size (wblkOff_inb n)) (fun _ => rfl)
def oblk (t : Fin 16) : Memref sig .tc .hbm S1x8x1x4x256x128 .bf16 :=
  oM.slice (Rect.unit (s := S2x16x1x4x1024x128) (oblkOff t) S1x8x1x4x256x128.size (oblkOff_inb t)) (fun _ => rfl)
def xslot (s : Fin 3) : Memref sig .tc .vmem S1x1024x2048 .bf16 :=
  (xR.slice (Rect.unit (s := S3x1x1024x2048) (xslotOff s) S1x1x1024x2048.size (xslotOff_inb s)) (fun _ => rfl)).squeeze S1x1024x2048 squeezes_S1x1x1024x2048_S1x1024x2048
def wslot (s : Fin 2) : Memref sig .tc .vmem S2048x1024 .f32 :=
  (wR.slice (Rect.unit (s := S2x2048x1024) (wslotOff s) S1x2048x1024.size (wslotOff_inb s)) (fun _ => rfl)).squeeze S2048x1024 squeezes_S1x2048x1024_S2048x1024
def oslot (s : Fin 2) : Memref sig .tc .vmem S1x8x1x4x256x128 .bf16 :=
  (oR.slice (Rect.unit (s := S2x1x8x1x4x256x128) (oslotOff s) S1x1x8x1x4x256x128.size (oslotOff_inb s)) (fun _ => rfl)).squeeze S1x8x1x4x256x128 squeezes_S1x1x8x1x4x256x128_S1x8x1x4x256x128
def xsem (s : Fin 3) : DmaSems sig S_ := (cc0_scoped1.slice (Rect.unit (s := S3) (sem3Off s) S1.size (sem3Off_inb s))).squeeze S_ squeezes_S1_S_
def wsem (s : Fin 2) : DmaSems sig S_ := (cc0_scoped3.slice (Rect.unit (s := S2) (sem2Off s) S1.size (sem2Off_inb s))).squeeze S_ squeezes_S1_S_
def osem (s : Fin 2) : DmaSems sig S_ := (cc0_scoped5.slice (Rect.unit (s := S2) (sem2Off s) S1.size (sem2Off_inb s))).squeeze S_ squeezes_S1_S_

instance (b : Fin 8) : ClosedOff (xblkOff b) := ⟨xblkOff b, rfl⟩
instance (n : Fin 8) : ClosedOff (wblkOff n) := ⟨wblkOff n, rfl⟩
instance (t : Fin 16) : ClosedOff (oblkOff t) := ⟨oblkOff t, rfl⟩
instance (s : Fin 3) : ClosedOff (xslotOff s) := ⟨xslotOff s, rfl⟩
instance (s : Fin 2) : ClosedOff (wslotOff s) := ⟨wslotOff s, rfl⟩
instance (s : Fin 2) : ClosedOff (oslotOff s) := ⟨oslotOff s, rfl⟩

/-! ## The offsets of trip `k` -/

section Offsets
variable (k : Fin k0_t1_loop.trips)

theorem off8_eq (h : k.val < 14) : k0_off8 (fx k.val) = sem3Off (sl 3 (k.val + 2)) := by revert k; exact all_trips (by decide +kernel)
theorem off9_eq (h : k.val < 14) : k0_off9 (fx k.val) = xslotOff (sl 3 (k.val + 2)) := by revert k; exact all_trips (by decide +kernel)
theorem off10_eq (h : k.val < 14) : k0_off10 (gb k.val) (gi k.val) = xblkOff (xb (k.val + 2)) := by revert k; exact all_trips (by decide +kernel)
theorem off11_eq (h : k.val % 8 = 7 ∧ k.val < 15) : k0_off11 (fw k.val) = sem2Off (sl 2 (k.val / 8 + 1)) := by revert k; exact all_trips (by decide +kernel)
theorem off12_eq (h : k.val % 8 = 7 ∧ k.val < 15) : k0_off12 (fw k.val) = wslotOff (sl 2 (k.val / 8 + 1)) := by revert k; exact all_trips (by decide +kernel)
theorem off13_eq (h : k.val % 8 = 7 ∧ k.val < 15) : k0_off13 (gn k.val) (gb k.val) (gi k.val) = wblkOff (wb (k.val + 1)) := by revert k; exact all_trips (by decide +kernel)
theorem off14_eq : k0_off14 (cx k.val) = sem3Off (sl 3 k.val) := by revert k; exact all_trips (by decide +kernel)
theorem off15_eq : k0_off15 (cx k.val) = xslotOff (sl 3 k.val) := by revert k; exact all_trips (by decide +kernel)
theorem off16_eq : k0_off16 (gb k.val) (gi k.val) = xblkOff (xb k.val) := by revert k; exact all_trips (by decide +kernel)
theorem off17_eq : k0_off17 (cw k.val) = sem2Off (sl 2 (k.val / 8)) := by revert k; exact all_trips (by decide +kernel)
theorem off18_eq : k0_off18 (cw k.val) = wslotOff (sl 2 (k.val / 8)) := by revert k; exact all_trips (by decide +kernel)
theorem off19_eq : k0_off19 (gn k.val) = wblkOff (wb k.val) := by revert k; exact all_trips (by decide +kernel)
theorem off20_eq : k0_off20 (cw k.val) = wslotOff (sl 2 (k.val / 8)) := by revert k; exact all_trips (by decide +kernel)
theorem off21_eq : k0_off21 (cx k.val) = xslotOff (sl 3 k.val) := by revert k; exact all_trips (by decide +kernel)
theorem off22_eq : k0_off22 (fo k.val) = oslotOff (sl 2 k.val) := by revert k; exact all_trips (by decide +kernel)
theorem off55_eq : k0_off55 (fo k.val) = sem2Off (sl 2 k.val) := by revert k; exact all_trips (by decide +kernel)
theorem off56_eq : k0_off56 (gn k.val) (gb k.val) (gi k.val) = oblkOff (ob k.val) := by revert k; exact all_trips (by decide +kernel)
theorem off57_eq : k0_off57 (fo k.val) = oslotOff (sl 2 k.val) := by revert k; exact all_trips (by decide +kernel)
theorem off58_eq (h : 1 ≤ k.val) : k0_off58 (co k.val) = sem2Off (sl 2 (k.val + 1)) := by revert k; exact all_trips (by decide +kernel)
theorem off59_eq (h : 1 ≤ k.val) : k0_off59 (gn k.val) (gb k.val) (gi k.val) = oblkOff (ob (k.val - 1)) := by revert k; exact all_trips (by decide +kernel)
theorem off60_eq (h : 1 ≤ k.val) : k0_off60 (co k.val) = oslotOff (sl 2 (k.val + 1)) := by revert k; exact all_trips (by decide +kernel)

instance : ClosedOff (k0_off20 (cw k.val)) := ⟨wslotOff (sl 2 (k.val / 8)), off20_eq k⟩
instance : ClosedOff (k0_off23 (fo k.val)) := ⟨pieceOff (sl 2 k.val) 0 0, by revert k; exact all_trips (by decide +kernel)⟩
instance : ClosedOff (k0_off24 (fo k.val)) := ⟨pieceOff (sl 2 k.val) 0 1, by revert k; exact all_trips (by decide +kernel)⟩
instance : ClosedOff (k0_off25 (fo k.val)) := ⟨pieceOff (sl 2 k.val) 0 2, by revert k; exact all_trips (by decide +kernel)⟩
instance : ClosedOff (k0_off26 (fo k.val)) := ⟨pieceOff (sl 2 k.val) 0 3, by revert k; exact all_trips (by decide +kernel)⟩
instance : ClosedOff (k0_off27 (fo k.val)) := ⟨pieceOff (sl 2 k.val) 1 0, by revert k; exact all_trips (by decide +kernel)⟩
instance : ClosedOff (k0_off28 (fo k.val)) := ⟨pieceOff (sl 2 k.val) 1 1, by revert k; exact all_trips (by decide +kernel)⟩
instance : ClosedOff (k0_off29 (fo k.val)) := ⟨pieceOff (sl 2 k.val) 1 2, by revert k; exact all_trips (by decide +kernel)⟩
instance : ClosedOff (k0_off30 (fo k.val)) := ⟨pieceOff (sl 2 k.val) 1 3, by revert k; exact all_trips (by decide +kernel)⟩
instance : ClosedOff (k0_off31 (fo k.val)) := ⟨pieceOff (sl 2 k.val) 2 0, by revert k; exact all_trips (by decide +kernel)⟩
instance : ClosedOff (k0_off32 (fo k.val)) := ⟨pieceOff (sl 2 k.val) 2 1, by revert k; exact all_trips (by decide +kernel)⟩
instance : ClosedOff (k0_off33 (fo k.val)) := ⟨pieceOff (sl 2 k.val) 2 2, by revert k; exact all_trips (by decide +kernel)⟩
instance : ClosedOff (k0_off34 (fo k.val)) := ⟨pieceOff (sl 2 k.val) 2 3, by revert k; exact all_trips (by decide +kernel)⟩
instance : ClosedOff (k0_off35 (fo k.val)) := ⟨pieceOff (sl 2 k.val) 3 0, by revert k; exact all_trips (by decide +kernel)⟩
instance : ClosedOff (k0_off36 (fo k.val)) := ⟨pieceOff (sl 2 k.val) 3 1, by revert k; exact all_trips (by decide +kernel)⟩
instance : ClosedOff (k0_off37 (fo k.val)) := ⟨pieceOff (sl 2 k.val) 3 2, by revert k; exact all_trips (by decide +kernel)⟩
instance : ClosedOff (k0_off38 (fo k.val)) := ⟨pieceOff (sl 2 k.val) 3 3, by revert k; exact all_trips (by decide +kernel)⟩
instance : ClosedOff (k0_off39 (fo k.val)) := ⟨pieceOff (sl 2 k.val) 4 0, by revert k; exact all_trips (by decide +kernel)⟩
instance : ClosedOff (k0_off40 (fo k.val)) := ⟨pieceOff (sl 2 k.val) 4 1, by revert k; exact all_trips (by decide +kernel)⟩
instance : ClosedOff (k0_off41 (fo k.val)) := ⟨pieceOff (sl 2 k.val) 4 2, by revert k; exact all_trips (by decide +kernel)⟩
instance : ClosedOff (k0_off42 (fo k.val)) := ⟨pieceOff (sl 2 k.val) 4 3, by revert k; exact all_trips (by decide +kernel)⟩
instance : ClosedOff (k0_off43 (fo k.val)) := ⟨pieceOff (sl 2 k.val) 5 0, by revert k; exact all_trips (by decide +kernel)⟩
instance : ClosedOff (k0_off44 (fo k.val)) := ⟨pieceOff (sl 2 k.val) 5 1, by revert k; exact all_trips (by decide +kernel)⟩
instance : ClosedOff (k0_off45 (fo k.val)) := ⟨pieceOff (sl 2 k.val) 5 2, by revert k; exact all_trips (by decide +kernel)⟩
instance : ClosedOff (k0_off46 (fo k.val)) := ⟨pieceOff (sl 2 k.val) 5 3, by revert k; exact all_trips (by decide +kernel)⟩
instance : ClosedOff (k0_off47 (fo k.val)) := ⟨pieceOff (sl 2 k.val) 6 0, by revert k; exact all_trips (by decide +kernel)⟩
instance : ClosedOff (k0_off48 (fo k.val)) := ⟨pieceOff (sl 2 k.val) 6 1, by revert k; exact all_trips (by decide +kernel)⟩
instance : ClosedOff (k0_off49 (fo k.val)) := ⟨pieceOff (sl 2 k.val) 6 2, by revert k; exact all_trips (by decide +kernel)⟩
instance : ClosedOff (k0_off50 (fo k.val)) := ⟨pieceOff (sl 2 k.val) 6 3, by revert k; exact all_trips (by decide +kernel)⟩
instance : ClosedOff (k0_off51 (fo k.val)) := ⟨pieceOff (sl 2 k.val) 7 0, by revert k; exact all_trips (by decide +kernel)⟩
instance : ClosedOff (k0_off52 (fo k.val)) := ⟨pieceOff (sl 2 k.val) 7 1, by revert k; exact all_trips (by decide +kernel)⟩
instance : ClosedOff (k0_off53 (fo k.val)) := ⟨pieceOff (sl 2 k.val) 7 2, by revert k; exact all_trips (by decide +kernel)⟩
instance : ClosedOff (k0_off54 (fo k.val)) := ⟨pieceOff (sl 2 k.val) 7 3, by revert k; exact all_trips (by decide +kernel)⟩

end Offsets

/-! ## The slices of trip `k` under their names -/

section Canon

theorem xsem_congr {off : Fin 1 → Nat} {s : Fin 3} (e : off = sem3Off s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem wsem_congr {off : Fin 1 → Nat} {s : Fin 2} (e : off = sem2Off s) (hh) :
    (cc0_scoped3.slice (Rect.unit (s := S2) off S1.size hh)).squeeze S_ squeezes_S1_S_ = wsem s :=
  congrArg (fun A : DmaSems sig S1 => A.squeeze S_ squeezes_S1_S_) (SemArray.slice_unit_congr _ e _ _)
theorem osem_congr {off : Fin 1 → Nat} {s : Fin 2} (e : off = sem2Off s) (hh) :
    (cc0_scoped5.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 4 → Nat} {s : Fin 3} (e : off = xslotOff s) (hh hs) :
    (xR.slice (Rect.unit (s := S3x1x1024x2048) off S1x1x1024x2048.size hh) hs).squeeze S1x1024x2048 squeezes_S1x1x1024x2048_S1x1024x2048 = xslot s :=
  congrArg (fun M : Memref sig .tc .vmem S1x1x1024x2048 .bf16 => M.squeeze S1x1024x2048 squeezes_S1x1x1024x2048_S1x1024x2048) (Memref.slice_unit_congr _ e _ _ _ _)
theorem wslot_congr {off : Fin 3 → Nat} {s : Fin 2} (e : off = wslotOff s) (hh hs) :
    (wR.slice (Rect.unit (s := S2x2048x1024) off S1x2048x1024.size hh) hs).squeeze S2048x1024 squeezes_S1x2048x1024_S2048x1024 = wslot s :=
  congrArg (fun M : Memref sig .tc .vmem S1x2048x1024 .f32 => M.squeeze S2048x1024 squeezes_S1x2048x1024_S2048x1024) (Memref.slice_unit_congr _ e _ _ _ _)
theorem oslot_congr {off : Fin 7 → Nat} {s : Fin 2} (e : off = oslotOff s) (hh hs) :
    (oR.slice (Rect.unit (s := S2x1x8x1x4x256x128) off S1x1x8x1x4x256x128.size hh) hs).squeeze S1x8x1x4x256x128 squeezes_S1x1x8x1x4x256x128_S1x8x1x4x256x128 = oslot s :=
  congrArg (fun M : Memref sig .tc .vmem S1x1x8x1x4x256x128 .bf16 => M.squeeze S1x8x1x4x256x128 squeezes_S1x1x8x1x4x256x128_S1x8x1x4x256x128) (Memref.slice_unit_congr _ e _ _ _ _)
theorem xblk_congr {off : Fin 3 → Nat} {b : Fin 8} (e : off = xblkOff b) (hh hs) :
    xM.slice (Rect.unit (s := S2x4096x2048) off S1x1024x2048.size hh) hs = xblk b := Memref.slice_unit_congr _ e _ _ _ (fun _ => rfl)
theorem wblk_congr {off : Fin 2 → Nat} {b : Fin 8} (e : off = wblkOff b) (hh hs) :
    wM.slice (Rect.unit (s := S2048x8192) off S2048x1024.size hh) hs = wblk b := Memref.slice_unit_congr _ e _ _ _ (fun _ => rfl)
theorem oblk_congr {off : Fin 6 → Nat} {b : Fin 16} (e : off = oblkOff b) (hh hs) :
    oM.slice (Rect.unit (s := S2x16x1x4x1024x128) off S1x8x1x4x256x128.size hh) hs = oblk b := Memref.slice_unit_congr _ e _ _ _ (fun _ => rfl)

variable (k : Fin k0_t1_loop.trips)

@[sl_canon] theorem xsem_off8 (h : k.val < 14) (hh) : (cc0_scoped1.slice (Rect.unit (s := S3) (k0_off8 (fx k.val)) S1.size hh)).squeeze S_ squeezes_S1_S_ = xsem (sl 3 (k.val + 2)) := xsem_congr (off8_eq k h) _
@[sl_canon] theorem xslot_off9 (h : k.val < 14) (hh hs) : (xR.slice (Rect.unit (s := S3x1x1024x2048) (k0_off9 (fx k.val)) S1x1x1024x2048.size hh) hs).squeeze S1x1024x2048 squeezes_S1x1x1024x2048_S1x1024x2048 = xslot (sl 3 (k.val + 2)) := xslot_congr (off9_eq k h) _ _
@[sl_canon] theorem xblk_off10 (h : k.val < 14) (hh hs) : xM.slice (Rect.unit (s := S2x4096x2048) (k0_off10 (gb k.val) (gi k.val)) S1x1024x2048.size hh) hs = xblk (xb (k.val + 2)) := xblk_congr (off10_eq k h) _ _
@[sl_canon] theorem wsem_off11 (h : k.val % 8 = 7 ∧ k.val < 15) (hh) : (cc0_scoped3.slice (Rect.unit (s := S2) (k0_off11 (fw k.val)) S1.size hh)).squeeze S_ squeezes_S1_S_ = wsem (sl 2 (k.val / 8 + 1)) := wsem_congr (off11_eq k h) _
@[sl_canon] theorem wslot_off12 (h : k.val % 8 = 7 ∧ k.val < 15) (hh hs) : (wR.slice (Rect.unit (s := S2x2048x1024) (k0_off12 (fw k.val)) S1x2048x1024.size hh) hs).squeeze S2048x1024 squeezes_S1x2048x1024_S2048x1024 = wslot (sl 2 (k.val / 8 + 1)) := wslot_congr (off12_eq k h) _ _
@[sl_canon] theorem wblk_off13 (h : k.val % 8 = 7 ∧ k.val < 15) (hh hs) : wM.slice (Rect.unit (s := S2048x8192) (k0_off13 (gn k.val) (gb k.val) (gi k.val)) S2048x1024.size hh) hs = wblk (wb (k.val + 1)) := wblk_congr (off13_eq k h) _ _
@[sl_canon] theorem xsem_off14 (hh) : (cc0_scoped1.slice (Rect.unit (s := S3) (k0_off14 (cx k.val)) S1.size hh)).squeeze S_ squeezes_S1_S_ = xsem (sl 3 k.val) := xsem_congr (off14_eq k) _
@[sl_canon] theorem xslot_off15 (hh hs) : (xR.slice (Rect.unit (s := S3x1x1024x2048) (k0_off15 (cx k.val)) S1x1x1024x2048.size hh) hs).squeeze S1x1024x2048 squeezes_S1x1x1024x2048_S1x1024x2048 = xslot (sl 3 k.val) := xslot_congr (off15_eq k) _ _
@[sl_canon] theorem xblk_off16 (hh hs) : xM.slice (Rect.unit (s := S2x4096x2048) (k0_off16 (gb k.val) (gi k.val)) S1x1024x2048.size hh) hs = xblk (xb k.val) := xblk_congr (off16_eq k) _ _
@[sl_canon] theorem wsem_off17 (hh) : (cc0_scoped3.slice (Rect.unit (s := S2) (k0_off17 (cw k.val)) S1.size hh)).squeeze S_ squeezes_S1_S_ = wsem (sl 2 (k.val / 8)) := wsem_congr (off17_eq k) _
@[sl_canon] theorem wslot_off18 (hh hs) : (wR.slice (Rect.unit (s := S2x2048x1024) (k0_off18 (cw k.val)) S1x2048x1024.size hh) hs).squeeze S2048x1024 squeezes_S1x2048x1024_S2048x1024 = wslot (sl 2 (k.val / 8)) := wslot_congr (off18_eq k) _ _
@[sl_canon] theorem wblk_off19 (hh hs) : wM.slice (Rect.unit (s := S2048x8192) (k0_off19 (gn k.val)) S2048x1024.size hh) hs = wblk (wb k.val) := wblk_congr (off19_eq k) _ _
@[sl_canon] theorem xslot_off21 (hh hs) : (xR.slice (Rect.unit (s := S3x1x1024x2048) (k0_off21 (cx k.val)) S1x1x1024x2048.size hh) hs).squeeze S1x1024x2048 squeezes_S1x1x1024x2048_S1x1024x2048 = xslot (sl 3 k.val) := xslot_congr (off21_eq k) _ _
@[sl_canon] theorem oslot_off22 (hh hs) : (oR.slice (Rect.unit (s := S2x1x8x1x4x256x128) (k0_off22 (fo k.val)) S1x1x8x1x4x256x128.size hh) hs).squeeze S1x8x1x4x256x128 squeezes_S1x1x8x1x4x256x128_S1x8x1x4x256x128 = oslot (sl 2 k.val) := oslot_congr (off22_eq k) _ _
@[sl_canon] theorem osem_off55 (hh) : (cc0_scoped5.slice (Rect.unit (s := S2) (k0_off55 (fo k.val)) S1.size hh)).squeeze S_ squeezes_S1_S_ = osem (sl 2 k.val) := osem_congr (off55_eq k) _
@[sl_canon] theorem oblk_off56 (hh hs) : oM.slice (Rect.unit (s := S2x16x1x4x1024x128) (k0_off56 (gn k.val) (gb k.val) (gi k.val)) S1x8x1x4x256x128.size hh) hs = oblk (ob k.val) := oblk_congr (off56_eq k) _ _
@[sl_canon] theorem oslot_off57 (hh hs) : (oR.slice (Rect.unit (s := S2x1x8x1x4x256x128) (k0_off57 (fo k.val)) S1x1x8x1x4x256x128.size hh) hs).squeeze S1x8x1x4x256x128 squeezes_S1x1x8x1x4x256x128_S1x8x1x4x256x128 = oslot (sl 2 k.val) := oslot_congr (off57_eq k) _ _
@[sl_canon] theorem osem_off58 (h : 1 ≤ k.val) (hh) : (cc0_scoped5.slice (Rect.unit (s := S2) (k0_off58 (co k.val)) S1.size hh)).squeeze S_ squeezes_S1_S_ = osem (sl 2 (k.val + 1)) := osem_congr (off58_eq k h) _
@[sl_canon] theorem oblk_off59 (h : 1 ≤ k.val) (hh hs) : oM.slice (Rect.unit (s := S2x16x1x4x1024x128) (k0_off59 (gn k.val) (gb k.val) (gi k.val)) S1x8x1x4x256x128.size hh) hs = oblk (ob (k.val - 1)) := oblk_congr (off59_eq k h) _ _
@[sl_canon] theorem oslot_off60 (h : 1 ≤ k.val) (hh hs) : (oR.slice (Rect.unit (s := S2x1x8x1x4x256x128) (k0_off60 (co k.val)) S1x1x8x1x4x256x128.size hh) hs).squeeze S1x8x1x4x256x128 squeezes_S1x1x8x1x4x256x128_S1x8x1x4x256x128 = oslot (sl 2 (k.val + 1)) := oslot_congr (off60_eq k h) _ _

end Canon

end Cert.Kernel8Ideal.Hand

end
-- ==== Proof.Hand8.Pieces.lean ====
/-
  What is held during a trip: a block of an array at home, a slot of a ring, a slot's transfer cell, a slot in flight;
  and what the loop computes, block by block.
-/
module

public import proofs.«01_k».proof.Proof.Hand8.Names
public import proofs.«01_k».proof.Proof.Hand4.Split
public import proofs.«01_k».proof.Proof.Gen.Kernel8Ideal.Launch
public import proofs.«01_k».proof.Proof.Gen.Kernel8Ideal.Loops
public import proofs.«01_k».proof.Proof.Gen.Kernel8Ideal.Points
public import Idealize.ShloMosaic.Lib.WritesUnit
public import Idealize.ShloMosaic.Lib.ViewIndex
public import Idealize.ShloMosaic.Lib.Pointwise

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
abbrev UU (nD : Nat) (τ : Topo) : Type := UR sig nD τ × Counters
local notation "𝕄" => MT nD τ sig Unit (Elt F) ℕ (UU nD τ) ℕ
abbrev 𝒱₀ : Variants := Variants.none

section Pieces
variable (c : Dev nD)
  (XA : Buf (Elt F) (xM.view.loc (c : Thread nD τ))) (WA : Buf (Elt F) (wM.view.loc (c : Thread nD τ)))

abbrev xcellP (s : Fin 3) : sProp 𝕄 := semVal ((c : Thread nD τ), SemLoc.dma (xsem s).sem) 0
abbrev wcellP (s : Fin 2) : sProp 𝕄 := semVal ((c : Thread nD τ), SemLoc.dma (wsem s).sem) 0
abbrev ocellP (s : Fin 2) : sProp 𝕄 := semVal ((c : Thread nD τ), SemLoc.dma (osem s).sem) 0
abbrev xslotP (s : Fin 3) (f : Buf (Elt F) ((xslot s).view.loc (c : Thread nD τ))) : sProp 𝕄 :=
  (xslot s).view.loc (c : Thread nD τ) ↦[(xslot s).view.set]{fullShare} f
abbrev wslotP (s : Fin 2) (f : Buf (Elt F) ((wslot s).view.loc (c : Thread nD τ))) : sProp 𝕄 :=
  (wslot s).view.loc (c : Thread nD τ) ↦[(wslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhomeP (b : Fin 8) : sProp 𝕄 := (xblk b).view.loc (c : Thread nD τ) ↦[(xblk b).view.set]{fullShare} XA
abbrev whomeP (b : Fin 8) : sProp 𝕄 := (wblk b).view.loc (c : Thread nD τ) ↦[(wblk b).view.set]{fullShare} WA
abbrev oblkP (t : Fin 16) (g : Buf (Elt F) ((oblk t).view.loc (c : Thread nD τ))) : sProp 𝕄 :=
  (oblk t).view.loc (c : Thread nD τ) ↦[(oblk t).view.set]{fullShare} g

abbrev xpay (b : Fin 8) : S1x1024x2048.Idx → Elt F .bf16 := ReadAs.same.apply ((xblk b).view.read (Elt F) XA)
abbrev wpay (b : Fin 8) : S2048x1024.Idx → Elt F .f32 := ReadAs.same.apply ((wblk b).view.read (Elt F) WA)
abbrev xland (s : Fin 3) (b : Fin 8) (f : Buf (Elt F) ((xslot s).view.loc (c : Thread nD τ))) : Buf (Elt F) ((xslot s).view.loc (c : Thread nD τ)) :=
  (xslot s).view.writes (Elt F) f [⟨Rect.whole _, xpay c XA b⟩]
abbrev wland (s : Fin 2) (b : Fin 8) (f : Buf (Elt F) ((wslot s).view.loc (c : Thread nD τ))) : Buf (Elt F) ((wslot s).view.loc (c : Thread nD τ)) :=
  (wslot s).view.writes (Elt F) f [⟨Rect.whole _, wpay c WA b⟩]
abbrev xflightP (s : Fin 3) (b : Fin 8) : sProp 𝕄 :=
  iprop(∃ f, Transfers.Flight countersEmb (c : Thread nD τ) (SemLoc.dma (xsem s).sem) () 131072 iprop(xslotP c s (xland c XA s b f) ∗ xhomeP c XA b))
abbrev wflightP (s : Fin 2) (b : Fin 8) : sProp 𝕄 :=
  iprop(∃ f, Transfers.Flight countersEmb (c : Thread nD τ) (SemLoc.dma (wsem s).sem) () 262144 iprop(wslotP c s (wland c WA s b f) ∗ whomeP c WA b))
abbrev oflightP (s : Fin 2) (t : Fin 16) (g : Buf (Elt F) ((oblk t).view.loc (c : Thread nD τ))) : sProp 𝕄 :=
  iprop(∃ f, Transfers.Flight countersEmb (c : Thread nD τ) (SemLoc.dma (osem s).sem) () 65536 iprop(oblkP c t g ∗ oslotP c s f))

end Pieces

/-! ## What the loop computes -/

section Values

/-- The element of the out ring that slot `s` has at `y`. -/
def oIdx (s : Fin 2) (y : S1x8x1x4x256x128.Idx) : S2x1x8x1x4x256x128.Idx :=
  ix7 s 0 (y 1) 0 (y 3) (y 4) (y 5)

theorem oslot_emb (s : Fin 2) (y : S1x8x1x4x256x128.Idx) : (oslot s).view.emb y = oIdx s y := by
  have e : Shape.reshapeEquiv (s := S1x1x8x1x4x256x128) (s' := S1x8x1x4x256x128) squeezes_S1x1x8x1x4x256x128_S1x8x1x4x256x128.numel_eq y = ix7 0 0 (y 1) 0 (y 3) (y 4) (y 5) := by
    simp only [pointwise]
  show (Rect.unit (s := S2x1x8x1x4x256x128) (oslotOff s) S1x1x8x1x4x256x128.size (oslotOff_inb s)).emb (Shape.reshapeEquiv (s := S1x1x8x1x4x256x128) (s' := S1x8x1x4x256x128) squeezes_S1x1x8x1x4x256x128_S1x8x1x4x256x128.numel_eq y) = oIdx s y
  rw [e]
  funext a
  apply Fin.ext
  match a with
  | ⟨0, _⟩ => rfl
  | ⟨1, _⟩ => rfl
  | ⟨2, _⟩ => exact (Nat.zero_add _).trans (Nat.one_mul _)
  | ⟨3, _⟩ => rfl
  | ⟨4, _⟩ => exact (Nat.zero_add _).trans (Nat.one_mul _)
  | ⟨5, _⟩ => exact (Nat.zero_add _).trans (Nat.one_mul _)
  | ⟨6, _⟩ => exact (Nat.zero_add _).trans (Nat.one_mul _)

/-- A slot of the out ring read at `y`. -/
theorem oslot_read (s : Fin 2) (f : oR.view.ty.Contents (Elt F)) (y : S1x8x1x4x256x128.Idx) :
    (oslot s).view.read (Elt F) f y = oR.view.read (Elt F) f (oIdx s y) :=
  congrArg f (oslot_emb s y)

/-- A slot whose thirty-two pieces are those of `q`, read at `y`. -/
theorem upto_all {s : Fin 2} {q : Fin 8 → Fin 4 → S1x1x1x1x1x256x128.Idx → Elt F .bf16} {f : oR.view.ty.Contents (Elt F)} (hf : Upto oR s q 32 f) (y : S1x8x1x4x256x128.Idx) :
    (oslot s).view.read (Elt F) f y = q (y 1) (y 3) (ix7 0 0 0 0 0 (y 4) (y 5)) := by
  rw [oslot_read]
  refine hf (y 1) (y 3) (y 4) (y 5) ?_
  have h1 : (y 1).val < 8 := (y 1).isLt
  have h3 : (y 3).val < 4 := (y 3).isLt
  omega

variable (c : Dev nD)
  (XA : Buf (Elt F) (xM.view.loc (c : Thread nD τ))) (WA : Buf (Elt F) (wM.view.loc (c : Thread nD τ)))

/-- The scratch's contents while block `n` of the weights is used: the block rounded to bf16. -/
def wsV (n : Fin 8) : FVec F S2048x1024 .bf16 := truncf .bf16 (wpay c WA n) bitsLt_bf16_f32
/-- Trip `k`'s product, scaled. -/
def prod (k : ℕ) : FVec F S1024x1024 .f32 := k0_pay3 (k0_pay2 (xpay c XA (xb k))) (wsV c WA (wb k))
/-- Trip `k`'s scaled product rounded to bf16. -/
def prodB (k : ℕ) : FVec F S1024x1024 .bf16 := truncf .bf16 (prod c XA WA k) bitsLt_bf16_f32

/-- The trip that computes element `i` of the result. -/
def tripOf (i : S2x16x1x4x1024x128.Idx) : ℕ := (i 1).val / 8 * 8 + (i 0).val * 4 + (i 4).val / 256
/-- The result array after the loop: residue `i 3` of the rows, four apart. -/
def outA : Buf (Elt F) (oM.view.loc (c : Thread nD τ)) := fun i : S2x16x1x4x1024x128.Idx =>
  prodB c XA WA (tripOf i) (ix2 ⟨4 * ((i 4).val % 256) + (i 3).val, by have : (i 3).val < 4 := (i 3).isLt; omega⟩ ⟨(i 1).val % 8 * 128 + (i 5).val, by have : (i 5).val < 128 := (i 5).isLt; omega⟩)

variable (a : FVec F S1024x2048 .bf16) (b : Vec F S2048x1024 .bf16) (m : FVec F S1024x1024 .f32)
theorem pay4_at : k0_pay4 a b = headV (k0_pay3 a b) 0 := by
  funext y; unfold k0_pay4 headV; generalize k0_pay3 a b = m; pointwise
theorem pay5_at : k0_pay5 a b = headV (k0_pay3 a b) 1 := by
  funext y; unfold k0_pay5 headV; generalize k0_pay3 a b = m; pointwise
theorem pay6_at : k0_pay6 a b = headV (k0_pay3 a b) 2 := by
  funext y; unfold k0_pay6 headV; generalize k0_pay3 a b = m; pointwise
theorem pay7_at : k0_pay7 a b = headV (k0_pay3 a b) 3 := by
  funext y; unfold k0_pay7 headV; generalize k0_pay3 a b = m; pointwise
theorem pay8_at : k0_pay8 a b = headV (k0_pay3 a b) 4 := by
  funext y; unfold k0_pay8 headV; generalize k0_pay3 a b = m; pointwise
theorem pay9_at : k0_pay9 a b = headV (k0_pay3 a b) 5 := by
  funext y; unfold k0_pay9 headV; generalize k0_pay3 a b = m; pointwise
theorem pay11_at : k0_pay11 (k0_pay10 a b) = headV (k0_pay3 a b) 6 := by
  funext y; unfold k0_pay11 k0_pay10 headV; generalize k0_pay3 a b = m; pointwise
theorem pay12_at : k0_pay12 m = headV m 7 := by funext y; unfold k0_pay12 headV; pointwise

/-- The element of the result array that block `t` has at `y`. -/
theorem oblk_emb (t : Fin 16) (y : S1x8x1x4x256x128.Idx) : (oblk t).view.emb y = (ix6 (⟨t.val / 4 % 2, by omega⟩ : Fin 2) (⟨8 * (t.val / 8) + (y 1).val, by have : (y 1).val < 8 := (y 1).isLt; omega⟩ : Fin 16)
    (0 : Fin 1) (y 3 : Fin 4) (⟨256 * (t.val % 4) + (y 4).val, by have : (y 4).val < 256 := (y 4).isLt; omega⟩ : Fin 1024) (y 5 : Fin 128) : S2x16x1x4x1024x128.Idx) := by
  show (Rect.unit (s := S2x16x1x4x1024x128) (oblkOff t) S1x8x1x4x256x128.size (oblkOff_inb t)).emb y = _
  funext a
  apply Fin.ext
  have h0 : (y 0).val = 0 := Nat.lt_one_iff.mp (y 0).isLt
  have h2 : (y 2).val = 0 := Nat.lt_one_iff.mp (y 2).isLt
  match a with
  | ⟨0, _⟩ => show t.val / 4 % 2 + 1 * (y 0).val = t.val / 4 % 2; omega
  | ⟨1, _⟩ => show 8 * (t.val / 8) + 1 * (y 1).val = 8 * (t.val / 8) + (y 1).val; omega
  | ⟨2, _⟩ => show 0 + 1 * (y 2).val = 0; omega
  | ⟨3, _⟩ => show 0 + 1 * (y 3).val = (y 3).val; omega
  | ⟨4, _⟩ => show 256 * (t.val % 4) + 1 * (y 4).val = 256 * (t.val % 4) + (y 4).val; omega
  | ⟨5, _⟩ => show 0 + 1 * (y 5).val = (y 5).val; omega

/-- The result at the element that block `k` has at `y`. -/
theorem outA_emb (k : ℕ) (hk : k < 16) (y : S1x8x1x4x256x128.Idx) :
    outA c XA WA ((oblk (ob k)).view.emb y) = heads (prod c XA WA k) (y 1) (y 3) (ix7 0 0 0 0 0 (y 4) (y 5)) := by
  rw [oblk_emb]
  have h1 : (y 1).val < 8 := (y 1).isLt
  have h4 : (y 4).val < 256 := (y 4).isLt
  have hb : (ob k).val = k := Nat.mod_eq_of_lt hk
  have ht : tripOf (ix6 (⟨(ob k).val / 4 % 2, by omega⟩ : Fin 2) (⟨8 * ((ob k).val / 8) + (y 1).val, by omega⟩ : Fin 16)
    (0 : Fin 1) (y 3 : Fin 4) (⟨256 * ((ob k).val % 4) + (y 4).val, by omega⟩ : Fin 1024) (y 5 : Fin 128)) = k := by
    show (8 * ((ob k).val / 8) + (y 1).val) / 8 * 8 + (ob k).val / 4 % 2 * 4 + (256 * ((ob k).val % 4) + (y 4).val) / 256 = k
    omega
  unfold outA heads prodB
  rw [ht]
  refine congrArg _ (congrArg₂ ix2 (Fin.ext ?_) (Fin.ext ?_))
  · show 4 * ((256 * ((ob k).val % 4) + (y 4).val) % 256) + (y 3).val = 4 * (y 4).val + (y 3).val; omega
  · show (8 * ((ob k).val / 8) + (y 1).val) % 8 * 128 + (y 5).val = (y 1).val * 128 + (y 5).val; omega

/-- The block that trip `k` sends home is the result's block `k`. -/
theorem outA_block (k : ℕ) (hk : k < 16) (g : Buf (Elt F) ((oblk (ob k)).view.loc (c : Thread nD τ))) (w : S1x8x1x4x256x128.Idx → Elt F .bf16)
    (hw : ∀ y, w y = heads (prod c XA WA k) (y 1) (y 3) (ix7 0 0 0 0 0 (y 4) (y 5))) :
    oblkP c (ob k) ((oblk (ob k)).view.writes (Elt F) g [⟨Rect.whole S1x8x1x4x256x128, w⟩]) = oblkP c (ob k) (outA c XA WA) := by
  refine pointsTo_congr (agree_of_read (oblk (ob k)).view fun y => ?_)
  refine (read_whole_writes (oblk (ob k)).view g w y).trans ((hw y).trans (outA_emb c XA WA k hk y).symm)

end Values

end Cert.Kernel8Ideal.Hand

end
-- ==== Proof.Hand8.Trip.lean ====
/-
  One trip of the loop: what it takes, what it leaves.
-/
module

public import proofs.«01_k».proof.Proof.Hand8.Pieces
public import Idealize.ShloMosaic.Lib.VecWindow

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The parts of a trip's resources -/

abbrev xfree (s : Fin 3) : sProp 𝕄 := iprop(xcellP c s ∗ ∃ f, xslotP c s f)
abbrev wfree (s : Fin 2) : sProp 𝕄 := iprop(wcellP c s ∗ ∃ f, wslotP c s f)
abbrev ofree (s : Fin 2) : sProp 𝕄 := iprop(ocellP c s ∗ ∃ f, oslotP c s f)
abbrev wsP (f : Buf (Elt F) (wsM.view.loc (c : Thread nD τ))) : sProp 𝕄 := wsM.view.loc (c : Thread nD τ) ↦[wsM.view.set]{fullShare} f

abbrev asP (f : Buf (Elt F) (asM.view.loc (c : Thread nD τ))) : sProp 𝕄 := asM.view.loc (c : Thread nD τ) ↦[asM.view.set]{fullShare} f

/-- Block `t` of the result at an array's contents, at home and on its way. -/
abbrev oHomeP (t : Fin 16) (G : Buf (Elt F) (oM.view.loc (c : Thread nD τ))) : sProp 𝕄 := oblkP c t G
abbrev oFlyP (s : Fin 2) (t : Fin 16) (G : Buf (Elt F) (oM.view.loc (c : Thread nD τ))) : sProp 𝕄 := oflightP c s t G

/-- The activations: block `k + 2` is sent for, if there is one. -/
def xPre (k : ℕ) : sProp 𝕄 := if k < 14 then iprop(xhomeP c XA (xb (k + 2)) ∗ xfree c (sl 3 (k + 2))) else iprop(emp)
def xPost (k : ℕ) : sProp 𝕄 := if k < 14 then xflightP c XA (sl 3 (k + 2)) (xb (k + 2)) else iprop(emp)
/-- The weights: the next block is sent for at the last trip of a block; a block is received at its first trip. -/
def wPre (k : ℕ) : sProp 𝕄 :=
  if k % 8 = 7 ∧ k < 15 then iprop(whomeP c WA (wb (k + 1)) ∗ wfree c (sl 2 (k / 8 + 1)))
  else if k % 8 = 0 then wflightP c WA (sl 2 (k / 8)) (wb k) else iprop(emp)
def wPost (k : ℕ) : sProp 𝕄 :=
  if k % 8 = 7 ∧ k < 15 then wflightP c WA (sl 2 (k / 8 + 1)) (wb (k + 1))
  else if k % 8 = 0 then iprop(whomeP c WA (wb k) ∗ wfree c (sl 2 (k / 8))) else iprop(emp)
/-- The scratch: the current block of the weights, once it has been received. -/
def wsPre (k : ℕ) : sProp 𝕄 := if k % 8 = 0 then iprop(∃ f, wsP c f) else wsP c (wsV c WA (wb k))
/-- The result: the block of the trip before is waited for. -/
def oPre (k : ℕ) : sProp 𝕄 := if 1 ≤ k then oFlyP c (sl 2 (k + 1)) (ob (k - 1)) (outA c XA WA) else ofree c (sl 2 (k + 1))
def oPost (k : ℕ) : sProp 𝕄 := if 1 ≤ k then iprop(oHomeP c (ob (k - 1)) (outA c XA WA) ∗ ofree c (sl 2 (k + 1))) else ofree c (sl 2 (k + 1))

/-- What trip `k` takes. -/
def tPre (k : ℕ) : sProp 𝕄 :=
  iprop((∃ W, owes (c : Thread nD τ) 0 W) ∗ xflightP c XA (sl 3 k) (xb k) ∗ xPre c XA k ∗ wPre c WA k ∗ wsPre c WA k
    ∗ (∃ f, asP c f) ∗ ofree c (sl 2 k) ∗ oPre c XA WA k ∗ oHomeP c (ob k) g0)
/-- What trip `k` leaves. -/
def tPost (k : ℕ) : sProp 𝕄 :=
  iprop((∃ W, owes (c : Thread nD τ) 0 W) ∗ xhomeP c XA (xb k) ∗ xfree c (sl 3 k) ∗ xPost c XA k ∗ wPost c WA k ∗ wsP c (wsV c WA (wb k))
    ∗ (∃ f, asP c f) ∗ oFlyP c (sl 2 k) (ob k) (outA c XA WA) ∗ oPost c XA WA k)

/-! ## What the trip's loads read and its stores leave -/

/-- A load of the whole activations' slot after a landing. -/
theorem xload (s : Fin 3) (b : Fin 8) (f : Buf (Elt F) ((xslot s).view.loc (c : Thread nD τ))) (inb : ∀ a, (![0, 0, 0] : Fin 3 → ℕ) a + S1x1024x2048.size a ≤ S1x1024x2048.size a) :
    (xslot s).view.readAt (Elt F) (Rect.unit (s := S1x1024x2048) ![0, 0, 0] S1x1024x2048.size inb).toLoadRect (xland c XA s b f) = xpay c XA b :=
  (Idealize.ShloMosaic.View.readAt_full (xslot s).view _ inb).trans (funext fun y => read_whole_writes (xslot s).view f (xpay c XA b) y)

/-- The same, stated over the landing alone. -/
theorem xcov (s : Fin 3) (b : Fin 8) (inb : ∀ a, (![0, 0, 0] : Fin 3 → ℕ) a + S1x1024x2048.size a ≤ S1x1024x2048.size a) :
    (xslot s).view.readCov [⟨Rect.whole S1x1024x2048, xpay c XA b⟩] (Rect.unit (s := S1x1024x2048) ![0, 0, 0] S1x1024x2048.size inb).toLoadRect = xpay c XA b :=
  xload c XA s b _ inb

/-- A load of the whole scratch. -/
theorem wsload (f : Buf (Elt F) (wsM.view.loc (c : Thread nD τ))) (inb : ∀ a, (![0, 0] : Fin 2 → ℕ) a + S2048x1024.size a ≤ S2048x1024.size a) :
    wsM.view.readAt (Elt F) (Rect.unit (s := S2048x1024) ![0, 0] S2048x1024.size inb).toLoadRect f = f :=
  Idealize.ShloMosaic.View.readAt_full wsM.view f inb

/-- The slot that goes out, sent: the result's block. -/
theorem sent (k : ℕ) (hk : k < 16) {g : Buf (Elt F) ((oblk (ob k)).view.loc (c : Thread nD τ))} {w : S1x8x1x4x256x128.Idx → Elt F .bf16} {f : oR.view.ty.Contents (Elt F)}
    (hw : w = ReadAs.same.apply ((oslot (sl 2 k)).view.read (Elt F) f)) (hf : Upto oR (sl 2 k) (heads (prod c XA WA k)) 32 f) :
    (Transfers.Flight countersEmb (c : Thread nD τ) (SemLoc.dma (osem (sl 2 k)).sem) () 65536
        iprop(oblkP c (ob k) ((oblk (ob k)).view.writes (Elt F) g [⟨Rect.whole S1x8x1x4x256x128, w⟩]) ∗ oslotP c (sl 2 k) f) : sProp 𝕄)
      ⊢ oFlyP c (sl 2 k) (ob k) (outA c XA WA) := by
  subst hw
  rw [outA_block c XA WA k hk g _ (upto_all hf)]
  iintro H
  iexists f
  iexact H

/-- The thirty-two stores of trip `k`, made of the eight heads of its product, and the transfer that takes them home. -/
theorem sent_pieces (k : ℕ) (hk : k < 16) {g : Buf (Elt F) ((oblk (ob k)).view.loc (c : Thread nD τ))} {w : S1x8x1x4x256x128.Idx → Elt F .bf16} {f : oR.view.ty.Contents (Elt F)}
    {a : FVec F S1024x2048 .bf16} {b : FVec F S2048x1024 .bf16} {v : Vec F S1x1024x2048 .bf16} {L : List (View.Piece (Elt F) S8x1024x128 .f32)}
    (hw : w = ReadAs.same.apply ((oslot (sl 2 k)).view.read (Elt F) f))
    (hf : AccUpto asM (k0_pay3 a b) 8 L → Upto oR (sl 2 k) (heads (k0_pay3 a b)) 32 f) (hL : AccUpto asM (k0_pay3 a b) 8 L)
    (ha : a = k0_pay2 v) (hv : v = xpay c XA (xb k)) (hb : b = wsV c WA (wb k)) :
    (Transfers.Flight countersEmb (c : Thread nD τ) (SemLoc.dma (osem (sl 2 k)).sem) () 65536
        iprop(oblkP c (ob k) ((oblk (ob k)).view.writes (Elt F) g [⟨Rect.whole S1x8x1x4x256x128, w⟩]) ∗ oslotP c (sl 2 k) f) : sProp 𝕄)
      ⊢ oFlyP c (sl 2 k) (ob k) (outA c XA WA) := by
  subst hv ha hb
  exact sent c XA WA k hk hw (hf hL)

/-- The weights' slot, loaded whole after a landing and rounded: the block rounded. -/
theorem wload (s : Fin 2) (n : Fin 8) (f : Buf (Elt F) ((wslot s).view.loc (c : Thread nD τ))) {off : Fin 3 → ℕ} (e : off = wslotOff s) (inb : ∀ a, off a + S1x2048x1024.size a ≤ S2x2048x1024.size a) :
    k0_pay1 (wR.view.readAt (Elt F) (Rect.unit (s := S2x2048x1024) off S1x2048x1024.size inb).toLoadRect (wland c WA s n f)) = wsV c WA n := by
  subst e
  have h : (shapeCast S2048x1024 (wR.view.readAt (Elt F) (Rect.unit (s := S2x2048x1024) (wslotOff s) S1x2048x1024.size inb).toLoadRect (wland c WA s n f)) shapeCasts_S1x2048x1024_S2048x1024 : Vec F S2048x1024 .f32)
      = wpay c WA n := by
    funext y
    exact read_whole_writes (wslot s).view f (wpay c WA n) y
  unfold k0_pay1 wsV
  rw [h]
  funext y
  pointwise

/-- The scratch after a store of all of it. -/
theorem wsstore (f : Buf (Elt F) (wsM.view.loc (c : Thread nD τ))) {L : List (View.Piece (Elt F) S2048x1024 .bf16)} {inb : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 8) (hp : p = wsV c WA n) :
    (wsM.view.loc (c : Thread nD τ) ↦[wsM.view.set]{fullShare} wsM.view.writes (Elt F) f L : sProp 𝕄) ⊢ wsP c (wsV c WA n) := by
  subst hL hp
  refine Entails.of_eq (pointsTo_congr (agree_of_read wsM.view fun y => ?_))
  rw [Idealize.ShloMosaic.View.read_writes_full]
  rfl

/-- The scratch loaded whole after a store of all of it. -/
theorem wscov {L : List (View.Piece (Elt F) S2048x1024 .bf16)} {inb inb' : ∀ a, (![0, 0] : Fin 2 → ℕ) a + S2048x1024.size a ≤ S2048x1024.size a}
    {p : FVec F S2048x1024 .bf16} (hL : L = [⟨Rect.unit (s := S2048x1024) ![0, 0] S2048x1024.size inb, p⟩]) (n : Fin 8) (hp : p = wsV c WA n) :
    wsM.view.readCov L (Rect.unit (s := S2048x1024) ![0, 0] S2048x1024.size inb').toLoadRect = wsV c WA n := by
  subst hL hp
  exact Idealize.ShloMosaic.View.readCov_full wsM.view inb' inb _ []

end Cert.Kernel8Ideal.Hand

end
-- ==== Proof.Hand8.Run.lean ====
/-
  One trip of the loop, run.
-/
module

public import proofs.«01_k».proof.Proof.Hand8.Trip

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-- The loop's carried words before trip `k`. -/
abbrev Acc : Type := BitVec 32 × BitVec 32 × BitVec 32 × BitVec 32 × BitVec 32 × BitVec 32 × BitVec 32 × BitVec 32 × BitVec 32
def accAt (k : ℕ) : Acc := (fx k, cx k, fw k, cw k, fo k, co k, gn k, gb k, gi k)

abbrev tripG (v25 v26 : BitVec 32) (k : Fin k0_t1_loop.trips) (acc : Acc) :=
  k0_t1_body (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5 v25 v26 k acc

/-- Trip `k` runs from its resources to what it leaves. -/
def TripSpec (k : Fin k0_t1_loop.trips) : Prop :=
  ∀ v25 v26 : BitVec 32, tPre c XA WA g0 k.val ⊢ wp frame (wpE (defs₀ (F := F)) 𝒱₀ (c : Thread nD τ) none) Set.univ (tripG (F := F) v25 v26 k (accAt k.val))
    (fun acc => iprop(⌜acc = accAt (k.val + 1)⌝ ∗ tPost c XA WA k.val))

set_option maxHeartbeats 800000 in
/-- A trip that neither starts nor ends a block of the weights. -/
theorem trip_mid (k : Fin k0_t1_loop.trips) (h1 : 1 ≤ k.val) (h14 : k.val < 14) (hw : ¬ k.val % 8 = 7) (hc : ¬ k.val % 8 = 0) : TripSpec c XA WA g0 k := by
  intro v25 v26
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_neg hc, if_neg (fun h : k.val % 8 = 7 ∧ k.val < 15 => hw h.1)]
  iintro ⟨⟨%W, HW⟩, ⟨%fX, HFx⟩, ⟨Hx, Hxc, ⟨%fxs, Hxs⟩⟩, -, Hws, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fas fX fxs fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitr; · iempintro
  isplitl [Hws]; · iexact Hws
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay11_at _ _) (pay12_at _)
    · exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that ends a block of the weights and sends for the next. -/
theorem trip_send (k : Fin k0_t1_loop.trips) (h1 : 1 ≤ k.val) (h14 : k.val < 14) (hw : k.val % 8 = 7 ∧ k.val < 15) : TripSpec c XA WA g0 k := by
  intro v25 v26
  have hc : ¬ k.val % 8 = 0 := by omega
  have c2 : k0_cond2 k (gb k.val) (gi k.val) = 1#1 := (cond2_iff k).2 h14
  have c3 : k0_cond3 k (gn k.val) (gb k.val) (gi k.val) = 1#1 := (cond3_iff k).2 hw
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_neg hc, if_pos hw]
  iintro ⟨⟨%W, HW⟩, ⟨%fX, HFx⟩, ⟨Hx, Hxc, ⟨%fxs, Hxs⟩⟩, ⟨Hwh, Hwc, ⟨%fwl, Hwl⟩⟩, Hws, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fas fX fxs fwl fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [Hwc]; · iexists _; iexact Hwc
  isplitl [Hws]; · iexact Hws
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay11_at _ _) (pay12_at _)
    · exact rfl
    · exact xcov c XA (sl 3 k.val) (xb k.val) _
    · exact wsload c (wsV c WA (wb k.val)) _
  isplitl [HFo_dst]; · iexact HFo_dst
  isplitl [HFo]; · iexact HFo
  iexists _; iexact HFo_src

set_option maxHeartbeats 800000 in
/-- A trip that starts a block of the weights, not the first. -/
theorem trip_take (k : Fin k0_t1_loop.trips) (h1 : 1 ≤ k.val) (h14 : k.val < 14) (hc : k.val % 8 = 0) : TripSpec c XA WA g0 k := by
  intro v25 v26
  have hw : ¬ k.val % 8 = 7 := by omega
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  have hkk : k.val < 16 := by have := trips_eq; omega
  unfold tPre tPost xPre xPost wPre wPost wsPre oPre oPost
  simp only [if_pos h1, if_pos h14, if_pos hc, if_neg (fun h : k.val % 8 = 7 ∧ k.val < 15 => hw h.1)]
  iintro ⟨⟨%W, HW⟩, ⟨%fX, HFx⟩, ⟨Hx, Hxc, ⟨%fxs, Hxs⟩⟩, ⟨%fW, HFw⟩, ⟨%fws, Hws⟩, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fas fX fxs fW fws fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay11_at _ _) (pay12_at _)
    · exact rfl
    · exact xcov c XA (sl 3 k.val) (xb k.val) _
    · exact wscov c WA rfl (wb k.val) (wload c WA (sl 2 (k.val / 8)) (wb k.val) _ (off20_eq k) _)
  isplitl [HFo_dst]; · iexact HFo_dst
  isplitl [HFo]; · iexact HFo
  iexists _; iexact HFo_src

set_option maxHeartbeats 800000 in
/-- The first trip. -/
theorem trip_first (k : Fin k0_t1_loop.trips) (h1 : ¬ 1 ≤ k.val) : TripSpec c XA WA g0 k := by
  intro v25 v26
  have h14 : k.val < 14 := by omega
  have hc : k.val % 8 = 0 := by omega
  have hw : ¬ k.val % 8 = 7 := by omega
  have c2 : k0_cond2 k (gb k.val) (gi k.val) = 1#1 := (cond2_iff k).2 h14
  have c3 : ¬ k0_cond3 k (gn k.val) (gb k.val) (gi k.val) = 1#1 := fun h => hw ((cond3_iff k).1 h).1
  have c4 : k0_cond4 k (gb k.val) (gi k.val) = 1#1 := cond4_iff k
  have c5 : k0_cond5 k (gn k.val) (gb k.val) (gi k.val) = 1#1 := (cond5_iff k).2 hc
  have c7 : k0_cond7 (gb k.val) (gi k.val) = 1#1 := (cond7_iff k).2 hc
  have c10 : k0_cond10 k (gn k.val) (gb k.val) (gi k.val) = 1#1 := cond10_iff k
  have c13 : ¬ k0_cond13 k (gn k.val) (gb k.val) (gi k.val) = 1#1 := fun h => h1 ((cond13_iff k).1 h)
  have hk1 := chk1_all k
  have hk2 := chk2_all k
  have hk3 := chk3_all k
  have hkk : k.val < 16 := by have := trips_eq; omega
  unfold tPre tPost xPre xPost wPre wPost wsPre oPre oPost
  simp only [if_neg h1, if_pos h14, if_pos hc, if_neg (fun h : k.val % 8 = 7 ∧ k.val < 15 => hw h.1)]
  iintro ⟨⟨%W, HW⟩, ⟨%fX, HFx⟩, ⟨Hx, Hxc, ⟨%fxs, Hxs⟩⟩, ⟨%fW, HFw⟩, ⟨%fws, Hws⟩, ⟨%fas, Has⟩, ⟨Hoc, ⟨%fos, Hos⟩⟩, HFo, Hob⟩
  dsimp only [tripG, accAt]
  sl_unfold [k0_t1_body]
  sl_exec
  sl_step
  isplitr
  · ipureintro
    clear h1 h14 hw hc c2 c3 c4 c5 c7 c10 c13 hk1 hk2 hk3 hkk fas fX fxs fW fws fos
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitl [Hxc]; · iexists _; iexact Hxc
  isplitl [HFw HFw_src HFw_dst]
  · isplitl [HFw_src]; · iexact HFw_src
    isplitl [HFw]; · iexact HFw
    iexists _; iexact HFw_dst
  isplitl [Hws]
  · istop
    exact wsstore c WA fws rfl (wb k.val) (wload c WA (sl 2 (k.val / 8)) (wb k.val) _ (off20_eq k) _)
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay11_at _ _) (pay12_at _)
    · exact rfl
    · exact xcov c XA (sl 3 k.val) (xb k.val) _
    · exact wscov c WA rfl (wb k.val) (wload c WA (sl 2 (k.val / 8)) (wb k.val) _ (off20_eq k) _)
  iexact HFo

set_option maxHeartbeats 800000 in
/-- The last two trips, which send for nothing. -/
theorem trip_last (k : Fin k0_t1_loop.trips) (h14 : ¬ k.val < 14) : TripSpec c XA WA g0 k := by
  intro v25 v26
  have hkk : k.val < 16 := by have := k.isLt; have := trips_eq; omega
  have h1 : 1 ≤ k.val := by omega
  have hw : ¬ (k.val % 8 = 7 ∧ k.val < 15) := by omega
  have hc : ¬ k.val % 8 = 0 := by omega
  have c2 : ¬ k0_cond2 k (gb k.val) (gi k.val) = 1#1 := fun h => h14 ((cond2_iff k).1 h)
  have c3 : ¬ k0_cond3 k (gn k.val) (gb k.val) (gi k.val) = 1#1 := fun h => hw ((cond3_iff k).1 h)
  have c4 : k0_cond4 k (gb k.val) (gi k.val) = 1#1 := cond4_iff k
  have c5 : ¬ k0_cond5 k (gn k.val) (gb k.val) (gi k.val) = 1#1 := fun h => hc ((cond5_iff k).1 h)
  have c7 : ¬ k0_cond7 (gb k.val) (gi k.val) = 1#1 := fun h => hc ((cond7_iff k).1 h)
  have c10 : k0_cond10 k (gn k.val) (gb k.val) (gi k.val) = 1#1 := cond10_iff k
  have c13 : k0_cond13 k (gn k.val) (gb k.val) (gi k.val) = 1#1 := (cond13_iff k).2 h1
  have hk1 := chk1_all k
  have hk2 := chk2_all k
  have hk3 := chk3_all k
  unfold tPre tPost xPre xPost wPre wPost wsPre oPre oPost
  simp only [if_pos h1, if_neg h14, if_neg hc, if_neg hw]
  iintro ⟨⟨%W, HW⟩, ⟨%fX, HFx⟩, -, -, Hws, ⟨%fas, Has⟩, ⟨Hoc, ⟨%fos, Hos⟩⟩, ⟨%fof, HFo⟩, Hob⟩
  dsimp only [tripG, accAt]
  sl_unfold [k0_t1_body]
  sl_exec
  sl_step
  isplitr
  · ipureintro
    clear h1 h14 hw hc c2 c3 c4 c5 c7 c10 c13 hk1 hk2 hk3 hkk fas fX fos fof
    refine acc_ext ?_ ?_ ?_ ?_ ?_ ?_ ?_ ?_ ?_ <;> (revert k; exact all_trips (by decide +kernel))
  isplitl [HW]; · iexists _; iexact HW
  isplitl [HFx_src]; · iexact HFx_src
  isplitl [HFx HFx_dst]
  · isplitl [HFx]; · iexact HFx
    iexists _; iexact HFx_dst
  isplitr; · iempintro
  isplitr; · iempintro
  isplitl [Hws]; · iexact Hws
  isplitl [Has]; · iexists _; iexact Has
  isplitl [Hoc]
  · istop
    apply sent_pieces c XA WA k.val hkk
    · exact rfl
    · intro hL
      iterate 32 refine upto_step (by decide) rfl ClosedOff.eq (piece_at hL rfl rfl rfl) ?_
      exact fun _ _ _ _ h => absurd h (Nat.not_lt_zero _)
    · exact acc_all rfl rfl rfl rfl rfl rfl rfl rfl (pay4_at _ _) (pay5_at _ _) (pay6_at _ _) (pay7_at _ _) (pay8_at _ _) (pay9_at _ _) (pay11_at _ _) (pay12_at _)
    · exact rfl
    · exact xcov c XA (sl 3 k.val) (xb k.val) _
    · exact wsload c (wsV c WA (wb k.val)) _
  isplitl [HFo_dst]; · iexact HFo_dst
  isplitl [HFo]; · iexact HFo
  iexists _; iexact HFo_src

/-- Every trip runs from its resources to what it leaves. -/
theorem trip_all (k : Fin k0_t1_loop.trips) : TripSpec c XA WA g0 k := by
  by_cases h1 : 1 ≤ k.val
  · by_cases h14 : k.val < 14
    · by_cases hw : k.val % 8 = 7
      · exact trip_send c XA WA g0 k h1 h14 ⟨hw, by omega⟩
      · by_cases hc : k.val % 8 = 0
        · exact trip_take c XA WA g0 k h1 h14 hc
        · exact trip_mid c XA WA g0 k h1 h14 hw hc
    · exact trip_last c XA WA g0 k h14
  · exact trip_first c XA WA g0 k h1

end Cert.Kernel8Ideal.Hand

end
-- ==== Proof.Hand8.Loop.lean ====
/-
  The loop: what is held between trips.
-/
module

public import proofs.«01_k».proof.Proof.Hand8.Run

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

theorem bigSep_ins {α : Type} [DecidableEq α] {s : Finset α} {a : α} {Φ : α → sProp 𝕄} (h : a ∉ s) : bigSep (insert a s) Φ = iprop(Φ a ∗ bigSep s Φ) := bigSep_insert h

/-! ## Turning slots -/

theorem sl3_turn (k : ℕ) : sl 3 (k + 1 + 2) = sl 3 k := Fin.ext (by simp [sl, Fin.ofNat]; omega)
theorem sl2_turn (k : ℕ) : sl 2 (k + 1 + 1) = sl 2 k := Fin.ext (by simp [sl, Fin.ofNat]; omega)
theorem wb_same (k : ℕ) (h : ¬ (k + 1) % 8 = 0) : wb (k + 1) = wb k := by
  unfold wb; rw [show (k + 1) / 8 = k / 8 by omega]

/-! ## The activations -/

/-- The blocks at home before trip `k`. -/
def xset (k : ℕ) : Finset (Fin 8) := Finset.univ.filter fun b => (b ≠ xb k ∨ 16 ≤ k) ∧ (b ≠ xb (k + 1) ∨ 15 ≤ k)
def xrest (k : ℕ) : Finset (Fin 8) := Finset.univ.filter fun b => b ≠ xb k ∧ b ≠ xb (k + 1) ∧ b ≠ xb (k + 2)

theorem xset_split : ∀ k : Fin 14, xset k = insert (xb (k + 2)) (xrest k) ∧ xb (k + 2) ∉ xrest k ∧ xset (k + 1) = insert (xb k) (xrest k) ∧ xb k ∉ xrest k := by
  decide +kernel
theorem xset_14 : xset 15 = insert (xb 14) (xset 14) ∧ xb 14 ∉ xset 14 := by decide +kernel
theorem xset_15 : xset 16 = insert (xb 15) (xset 15) ∧ xb 15 ∉ xset 15 := by decide +kernel
theorem xset_16 : xset 16 = Finset.univ := by decide +kernel

def xfly (k : ℕ) : sProp 𝕄 := if k < 16 then xflightP c XA (sl 3 k) (xb k) else xfree c (sl 3 k)
/-- The activations before trip `k`: blocks `k` and `k + 1` are on their way, the third slot is free, the others at home. -/
def xPart (k : ℕ) : sProp 𝕄 := iprop(xfly c XA k ∗ xfly c XA (k + 1) ∗ xfree c (sl 3 (k + 2)) ∗ bigSep (xset k) (xhomeP c XA))

theorem x_step (k : ℕ) (hk : k < 16) :
    xPart c XA k ⊢ iprop(xflightP c XA (sl 3 k) (xb k) ∗ xPre c XA k ∗ (iprop(xhomeP c XA (xb k) ∗ xfree c (sl 3 k) ∗ xPost c XA k) -∗ xPart c XA (k + 1))) := by
  unfold xPart xPre xPost
  rw [sl3_turn, show xfly c XA k = xflightP c XA (sl 3 k) (xb k) from if_pos hk]
  by_cases h : k < 14
  · obtain ⟨e1, n1, e2, n2⟩ := xset_split ⟨k, h⟩
    dsimp only at e1 n1 e2 n2
    rw [e1, bigSep_ins n1, e2, bigSep_ins n2, if_pos h, if_pos h, show k + 1 + 1 = k + 2 from rfl, show xfly c XA (k + 2) = xflightP c XA (sl 3 (k + 2)) (xb (k + 2)) from if_pos (by omega)]
    iintro ⟨H0, H1, H2, H3, H4⟩
    isplitl [H0]; · iexact H0
    isplitl [H2 H3]
    · isplitl [H3]; · iexact H3
      iexact H2
    iintro ⟨G0, G1, G2⟩
    isplitl [H1]; · iexact H1
    isplitl [G2]; · iexact G2
    isplitl [G1]; · iexact G1
    isplitl [G0]; · iexact G0
    iexact H4
  · have e : xset (k + 1) = insert (xb k) (xset k) ∧ xb k ∉ xset k := by
      obtain rfl | rfl : k = 14 ∨ k = 15 := by omega
      · exact xset_14
      · exact xset_15
    rw [e.1, bigSep_ins e.2, if_neg h, if_neg h, show k + 1 + 1 = k + 2 from rfl, show xfly c XA (k + 2) = xfree c (sl 3 (k + 2)) from if_neg (by omega)]
    iintro ⟨H0, H1, H2, H3⟩
    isplitl [H0]; · iexact H0
    isplitr; · iempintro
    iintro ⟨G0, G1, -⟩
    isplitl [H1]; · iexact H1
    isplitl [H2]; · iexact H2
    isplitl [G1]; · iexact G1
    isplitl [G0]; · iexact G0
    iexact H3

/-! ## The weights -/

/-- The blocks at home before trip `k`. -/
def wset (k : ℕ) : Finset (Fin 8) := Finset.univ.filter fun b => b ≠ wb k ∨ ¬ (k % 8 = 0 ∧ k < 16)
theorem wset_in : ∀ k : Fin 16, k.val % 8 = 0 → wset (k + 1) = insert (wb k) (wset k) ∧ wb k ∉ wset k := by decide +kernel
theorem wset_out : ∀ k : Fin 16, k.val % 8 = 7 ∧ k.val < 15 → wset k = insert (wb (k + 1)) (wset (k + 1)) ∧ wb (k + 1) ∉ wset (k + 1) := by decide +kernel
theorem wset_same : ∀ k : Fin 16, ¬ (k.val % 8 = 7 ∧ k.val < 15) → ¬ k.val % 8 = 0 → wset (k + 1) = wset k := by decide +kernel
theorem wset_16 : wset 16 = Finset.univ := by decide +kernel

def wfly (k : ℕ) : sProp 𝕄 := if k % 8 = 0 ∧ k < 16 then wflightP c WA (sl 2 (k / 8)) (wb k) else wfree c (sl 2 (k / 8))
/-- The weights before trip `k`: the block is on its way at its first trip, the rest at home. -/
def wPart (k : ℕ) : sProp 𝕄 := iprop(wfly c WA k ∗ wfree c (sl 2 (k / 8 + 1)) ∗ bigSep (wset k) (whomeP c WA))

theorem w_step (k : ℕ) (hk : k < 16) : wPart c WA k ⊢ iprop(wPre c WA k ∗ (wPost c WA k -∗ wPart c WA (k + 1))) := by
  unfold wPart wPre wPost wfly
  by_cases h7 : k % 8 = 7 ∧ k < 15
  · obtain ⟨e, n⟩ := wset_out ⟨k, hk⟩ h7
    dsimp only at e n
    rw [if_pos h7, if_pos h7, if_neg (by omega), if_pos (by omega), e, bigSep_ins n, show (k + 1) / 8 = k / 8 + 1 by omega, sl2_turn]
    iintro ⟨H0, H1, H2, H3⟩
    isplitl [H1 H2]
    · isplitl [H2]; · iexact H2
      iexact H1
    iintro G
    isplitl [G]; · iexact G
    isplitl [H0]; · iexact H0
    iexact H3
  · rw [if_neg h7, if_neg h7]
    by_cases h0 : k % 8 = 0
    · obtain ⟨e, n⟩ := wset_in ⟨k, hk⟩ h0
      dsimp only at e n
      rw [if_pos h0, if_pos h0, if_pos ⟨h0, hk⟩, if_neg (by omega), e, bigSep_ins n, show (k + 1) / 8 = k / 8 by omega]
      iintro ⟨H0, H1, H2⟩
      isplitl [H0]; · iexact H0
      iintro ⟨G0, G1⟩
      isplitl [G1]; · iexact G1
      isplitl [H1]; · iexact H1
      isplitl [G0]; · iexact G0
      iexact H2
    · rw [if_neg h0, if_neg h0, if_neg (by omega), if_neg (by omega)]
      have e := wset_same ⟨k, hk⟩ h7 h0
      dsimp only at e
      rw [e]
      by_cases h15 : k = 15
      · subst h15
        rw [show sl 2 ((15 + 1) / 8) = sl 2 (15 / 8 + 1) from rfl, show sl 2 ((15 + 1) / 8 + 1) = sl 2 (15 / 8) from rfl]
        iintro ⟨H0, H1, H2⟩
        isplitr; · iempintro
        iintro -
        isplitl [H1]; · iexact H1
        isplitl [H0]; · iexact H0
        iexact H2
      · rw [show (k + 1) / 8 = k / 8 by omega]
        iintro ⟨H0, H1, H2⟩
        isplitr; · iempintro
        iintro -
        isplitl [H0]; · iexact H0
        isplitl [H1]; · iexact H1
        iexact H2

theorem ws_step (k : ℕ) : wsP c (wsV c WA (wb k)) ⊢ wsPre c WA (k + 1) := by
  unfold wsPre
  by_cases h : (k + 1) % 8 = 0
  · rw [if_pos h]; iintro H; iexists _; iexact H
  · rw [if_neg h, wb_same k h]

/-! ## The result -/

def oset (k : ℕ) : Finset (Fin 16) := Finset.univ.filter fun t => t.val + 1 < k
def orest (k : ℕ) : Finset (Fin 16) := Finset.univ.filter fun t => k ≤ t.val
theorem ob_val (k : ℕ) (hk : k < 16) : (ob k).val = k := Nat.mod_eq_of_lt hk
theorem oset_step (k : ℕ) (hk : k < 16) (h1 : 1 ≤ k) : oset (k + 1) = insert (ob (k - 1)) (oset k) ∧ ob (k - 1) ∉ oset k := by
  have e := ob_val (k - 1) (by omega)
  constructor
  · ext t; simp only [oset, Finset.mem_filter, Finset.mem_univ, true_and, Finset.mem_insert, Fin.ext_iff, e]; omega
  · simp only [oset, Finset.mem_filter, Finset.mem_univ, true_and, e]; omega
theorem orest_step (k : ℕ) (hk : k < 16) : orest k = insert (ob k) (orest (k + 1)) ∧ ob k ∉ orest (k + 1) := by
  have e := ob_val k hk
  constructor
  · ext t; simp only [orest, Finset.mem_filter, Finset.mem_univ, true_and, Finset.mem_insert, Fin.ext_iff, e]; omega
  · simp only [orest, Finset.mem_filter, Finset.mem_univ, true_and, e]; omega
theorem oset_1 : oset (0 + 1) = oset 0 := by decide +kernel

/-- The result before trip `k`: the blocks before the last are home with their values, the last on its way, the others as they were. -/
def oPart (k : ℕ) : sProp 𝕄 :=
  iprop(ofree c (sl 2 k) ∗ oPre c XA WA k ∗ bigSep (oset k) (fun t => oHomeP c t (outA c XA WA)) ∗ bigSep (orest k) (fun t => oHomeP c t g0))

theorem o_step (k : ℕ) (hk : k < 16) :
    oPart c XA WA g0 k ⊢ iprop(ofree c (sl 2 k) ∗ oPre c XA WA k ∗ oHomeP c (ob k) g0
      ∗ (iprop(oFlyP c (sl 2 k) (ob k) (outA c XA WA) ∗ oPost c XA WA k) -∗ oPart c XA WA g0 (k + 1))) := by
  obtain ⟨er, nr⟩ := orest_step k hk
  unfold oPart
  rw [er, bigSep_ins nr]
  have ep : oPre c XA WA (k + 1) = oFlyP c (sl 2 k) (ob k) (outA c XA WA) := by
    unfold oPre
    rw [if_pos (by omega), sl2_turn, show k + 1 - 1 = k from rfl]
  rw [ep]
  by_cases h1 : 1 ≤ k
  · obtain ⟨es, ns⟩ := oset_step k hk h1
    rw [es, bigSep_ins ns]
    unfold oPost
    rw [if_pos h1]
    iintro ⟨H0, H1, H2, H3, H4⟩
    isplitl [H0]; · iexact H0
    isplitl [H1]; · iexact H1
    isplitl [H3]; · iexact H3
    iintro ⟨G0, G1, G2⟩
    isplitl [G2]; · iexact G2
    isplitl [G0]; · iexact G0
    isplitl [G1 H2]
    · isplitl [G1]; · iexact G1
      iexact H2
    iexact H4
  · obtain rfl : k = 0 := by omega
    rw [oset_1]
    unfold oPost
    rw [if_neg h1]
    iintro ⟨H0, H1, H2, H3, H4⟩
    isplitl [H0]; · iexact H0
    isplitl [H1]; · iexact H1
    isplitl [H3]; · iexact H3
    iintro ⟨G0, G1⟩
    isplitl [G1]; · iexact G1
    isplitl [G0]; · iexact G0
    isplitl [H2]; · iexact H2
    iexact H4

/-! ## All of it -/

def invAt (k : ℕ) : sProp 𝕄 :=
  iprop((∃ W, owes (c : Thread nD τ) 0 W) ∗ xPart c XA k ∗ wPart c WA k ∗ wsPre c WA k ∗ (∃ f, asP c f) ∗ oPart c XA WA g0 k)

theorem inv_step (k : ℕ) (hk : k < 16) : invAt c XA WA g0 k ⊢ iprop(tPre c XA WA g0 k ∗ (tPost c XA WA k -∗ invAt c XA WA g0 (k + 1))) := by
  unfold invAt tPre tPost
  iintro ⟨HW, HX, Hw, Hs, Ha, HO⟩
  ihave HX' := (x_step c XA k hk) $$ HX
  icases HX' with ⟨X0, X1, X2⟩
  ihave Hw' := (w_step c WA k hk) $$ Hw
  icases Hw' with ⟨W0, W1⟩
  ihave HO' := (o_step c XA WA g0 k hk) $$ HO
  icases HO' with ⟨O0, O1, O2, O3⟩
  isplitl [HW X0 X1 W0 Hs Ha O0 O1 O2]
  · isplitl [HW]; · iexact HW
    isplitl [X0]; · iexact X0
    isplitl [X1]; · iexact X1
    isplitl [W0]; · iexact W0
    isplitl [Hs]; · iexact Hs
    isplitl [Ha]; · iexact Ha
    isplitl [O0]; · iexact O0
    isplitl [O1]; · iexact O1
    iexact O2
  iintro ⟨G0, G1, G2, G3, G4, G5, GA, G6, G7⟩
  isplitl [G0]; · iexact G0
  isplitl [X2 G1 G2 G3]
  · iapply X2
    isplitl [G1]; · iexact G1
    isplitl [G2]; · iexact G2
    iexact G3
  isplitl [W1 G4]
  · iapply W1; iexact G4
  isplitl [G5]
  · iapply (ws_step c WA k); iexact G5
  isplitl [GA]; · iexact GA
  iapply O3
  isplitl [G6]; · iexact G6
  iexact G7

set_option warn.classDefReducibility false in
/-- The loop's invariant. -/
def loopInv (v25 v26 : BitVec 32) (init : Acc) :
    LoopInvTy_k0_t1 (F := F) Unit ℕ (UU nD τ) ℕ 𝒱₀ c none Set.univ xM (Memref.isWhole_whole _) wM (Memref.isWhole_whole _) oM (Memref.isWhole_whole _) wsM (Memref.isWhole_whole _) asM (Memref.isWhole_whole _)
      xR (Memref.isWhole_whole _) cc0_scoped1 wR (Memref.isWhole_whole _) cc0_scoped3 oR (Memref.isWhole_whole _) cc0_scoped5 v25 v26 init where
  inv k acc := iprop(⌜acc = accAt k⌝ ∗ invAt c XA WA g0 k)
  step k acc := by
    have hk : k.val < 16 := Nat.lt_of_lt_of_eq k.isLt trips_eq
    iintro ⟨%e, H⟩
    subst e
    ihave H' := (inv_step c XA WA g0 k.val hk) $$ H
    icases H' with ⟨H0, H1⟩
    iapply (wp_wand_r Idealize.ShloMosaic.frame (wpE (defs₀ (F := F)) 𝒱₀ (c : Thread nD τ) none) Set.univ)
    isplitl [H0]
    · iapply (trip_all c XA WA g0 k v25 v26); iexact H0
    · iintro %a ⟨%e, G⟩
      isplitr; · ipureintro; exact e
      iapply H1; iexact G

end Cert.Kernel8Ideal.Hand

end
-- ==== Proof.Hand8.Body.lean ====
/-
  The body: the first blocks sent for, the loop, the last block waited for.
-/
module

public import proofs.«01_k».proof.Proof.Hand8.Loop

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

variable (c : Dev nD)
  (XA : Buf (Elt F) (xM.view.loc (c : Thread nD τ))) (WA : Buf (Elt F) (wM.view.loc (c : Thread nD τ)))
  (g0 : Buf (Elt F) (oM.view.loc (c : Thread nD τ)))

/-! ## The names before and after the loop -/

theorem cond1_eq : k0_cond1 = 1#1 := by decide +kernel
theorem chk4_end : k0_chk4 (co 16) := by decide +kernel
theorem chk5_end : k0_chk5 (gi 16) (gb 16) (gn 16) := by decide +kernel
theorem accAt_0 : ((2#32, 0#32, 1#32, 0#32, 0#32, 0#32, 0#32, 0#32, 0#32) : Acc) = accAt 0 := by
  refine acc_ext ?_ ?_ ?_ ?_ ?_ ?_ ?_ ?_ ?_ <;> decide +kernel

/-- The loop, run: from the invariant at trip 0 to the invariant at trip 16. -/
theorem loop_run {β : Type} (kk : Acc → Prog (TpuEff nD τ sig (Elt F) Λ₀ .tc) β) (Q : β → sProp 𝕄) :
    invAt c XA WA g0 0 ⊢ iprop((invAt c XA WA g0 16 -∗ wp frame (wpE (defs₀ (F := F)) 𝒱₀ (c : Thread nD τ) none) Set.univ (kk (accAt 16)) Q)
      -∗ wp frame (wpE (defs₀ (F := F)) 𝒱₀ (c : Thread nD τ) none) Set.univ
        (k0_t1_loop.for k0_t1_ok (2#32, 0#32, 1#32, 0#32, 0#32, 0#32, 0#32, 0#32, 0#32) (tripG (F := F) 0#32 1#32) >>= kk) Q) := by
  have h := exec_loop (kk := kk) (Q := Q) Idealize.ShloMosaic.frame (wpE (defs₀ (F := F)) 𝒱₀ (c : Thread nD τ) none) Set.univ _ _ _ k0_t1_ok _ _ (loopInv c XA WA g0 0#32 1#32 (2#32, 0#32, 1#32, 0#32, 0#32, 0#32, 0#32, 0#32, 0#32))
  have e : ∀ k acc, (loopInv c XA WA g0 0#32 1#32 (2#32, 0#32, 1#32, 0#32, 0#32, 0#32, 0#32, 0#32, 0#32)).inv k acc = iprop(⌜acc = accAt k⌝ ∗ invAt c XA WA g0 k) := fun _ _ => rfl
  iintro H HK
  iapply h $$ [H]
  · rw [e]
    isplitr
    · ipureintro; exact accAt_0
    iexact H
  iintro %acc G
  ihave G' := (of_eq (((e _ acc).trans (congrArg (fun k => iprop(⌜acc = accAt k⌝ ∗ invAt c XA WA g0 k)) (show Scf.trips k0_t1_loop.lb k0_t1_loop.ub k0_t1_loop.st = 16 from trips_eq))))) $$ G
  icases G' with ⟨%ea, G⟩
  subst ea
  iapply HK
  iexact G

section Canon
variable (a b : ℕ)
@[sl_canon] theorem xsem_off1 (hh) : (cc0_scoped1.slice (Rect.unit (s := S3) k0_off1 S1.size hh)).squeeze S_ squeezes_S1_S_ = xsem (sl 3 0) := xsem_congr (by decide +kernel) _
@[sl_canon] theorem xslot_off2 (hh hs) : (xR.slice (Rect.unit (s := S3x1x1024x2048) k0_off2 S1x1x1024x2048.size hh) hs).squeeze S1x1024x2048 squeezes_S1x1x1024x2048_S1x1024x2048 = xslot (sl 3 0) := xslot_congr (by decide +kernel) _ _
@[sl_canon] theorem xblk_first (hh hs) : xM.slice (Rect.unit (s := S2x4096x2048) ![0, 0, 0] S1x1024x2048.size hh) hs = xblk (xb 0) := xblk_congr (by decide +kernel) _ _
@[sl_canon] theorem wsem_off3 (hh) : (cc0_scoped3.slice (Rect.unit (s := S2) k0_off3 S1.size hh)).squeeze S_ squeezes_S1_S_ = wsem (sl 2 (0 / 8)) := wsem_congr (by decide +kernel) _
@[sl_canon] theorem wslot_off4 (hh hs) : (wR.slice (Rect.unit (s := S2x2048x1024) k0_off4 S1x2048x1024.size hh) hs).squeeze S2048x1024 squeezes_S1x2048x1024_S2048x1024 = wslot (sl 2 (0 / 8)) := wslot_congr (by decide +kernel) _ _
@[sl_canon] theorem wblk_first (hh hs) : wM.slice (Rect.unit (s := S2048x8192) ![0, 2048] S2048x1024.size hh) hs = wblk (wb 0) := wblk_congr (by decide +kernel) _ _
@[sl_canon] theorem xsem_off5 (hh) : (cc0_scoped1.slice (Rect.unit (s := S3) k0_off5 S1.size hh)).squeeze S_ squeezes_S1_S_ = xsem (sl 3 (0 + 1)) := xsem_congr (by decide +kernel) _
@[sl_canon] theorem xslot_off6 (hh hs) : (xR.slice (Rect.unit (s := S3x1x1024x2048) k0_off6 S1x1x1024x2048.size hh) hs).squeeze S1x1024x2048 squeezes_S1x1x1024x2048_S1x1024x2048 = xslot (sl 3 (0 + 1)) := xslot_congr (by decide +kernel) _ _
@[sl_canon] theorem xblk_off7 (hh hs) : xM.slice (Rect.unit (s := S2x4096x2048) k0_off7 S1x1024x2048.size hh) hs = xblk (xb (0 + 1)) := xblk_congr (by decide +kernel) _ _
@[sl_canon] theorem osem_off61 (hh) : (cc0_scoped5.slice (Rect.unit (s := S2) (k0_off61 (co 16)) S1.size hh)).squeeze S_ squeezes_S1_S_ = osem (sl 2 (16 + 1)) := osem_congr (by decide +kernel) _
@[sl_canon] theorem oblk_off62 (hh hs) : oM.slice (Rect.unit (s := S2x16x1x4x1024x128) (k0_off62 (gi 16) (gb 16) (gn 16)) S1x8x1x4x256x128.size hh) hs = oblk (ob (16 - 1)) := oblk_congr (by decide +kernel) _ _
@[sl_canon] theorem oslot_off63 (hh hs) : (oR.slice (Rect.unit (s := S2x1x8x1x4x256x128) (k0_off63 (co 16)) S1x1x8x1x4x256x128.size hh) hs).squeeze S1x8x1x4x256x128 squeezes_S1x1x8x1x4x256x128_S1x8x1x4x256x128 = oslot (sl 2 (16 + 1)) := oslot_congr (by decide +kernel) _ _
end Canon

/-! ## What the body takes and leaves -/

/-- The rings, their semaphores and the scratch, free. -/
def freeP : sProp 𝕄 :=
  iprop(xfree (F := F) c (sl 3 0) ∗ xfree (F := F) c (sl 3 (0 + 1)) ∗ xfree (F := F) c (sl 3 (0 + 2)) ∗ wfree (F := F) c (sl 2 (0 / 8)) ∗ wfree (F := F) c (sl 2 (0 / 8 + 1)) ∗ ofree (F := F) c (sl 2 0) ∗ ofree (F := F) c (sl 2 (0 + 1)) ∗ (∃ f, wsP (F := F) c f) ∗ ∃ f, asP (F := F) c f)
/-- The arrays, in blocks: the result at the contents `G`. -/
def arrP (G : Buf (Elt F) (oM.view.loc (c : Thread nD τ))) : sProp 𝕄 :=
  iprop(bigSep Finset.univ (xhomeP c XA) ∗ bigSep Finset.univ (whomeP c WA) ∗ bigSep Finset.univ (fun t => oHomeP c t G))

theorem xset_0 : (Finset.univ : Finset (Fin 8)) = insert (xb 0) (insert (xb (0 + 1)) (xset 0)) ∧ xb 0 ∉ insert (xb (0 + 1)) (xset 0) ∧ xb (0 + 1) ∉ xset 0 := by decide +kernel
theorem wset_0 : (Finset.univ : Finset (Fin 8)) = insert (wb 0) (wset 0) ∧ wb 0 ∉ wset 0 := by decide +kernel
theorem oset_0 : oset 0 = ∅ := by decide +kernel
theorem orest_0 : orest 0 = Finset.univ := by decide +kernel
theorem oset_16 : (Finset.univ : Finset (Fin 16)) = insert (ob (16 - 1)) (oset 16) ∧ ob (16 - 1) ∉ oset 16 := by decide +kernel
theorem orest_16 : orest 16 = ∅ := by decide +kernel

abbrev bodyP := cc0_proj_d4_scale_skel (F := F) xM (Memref.isWhole_whole _) wM (Memref.isWhole_whole _) oM (Memref.isWhole_whole _) wsM (Memref.isWhole_whole _) asM (Memref.isWhole_whole _)
    xR (Memref.isWhole_whole _) cc0_scoped1 wR (Memref.isWhole_whole _) cc0_scoped3 oR (Memref.isWhole_whole _) cc0_scoped5

set_option maxHeartbeats 1600000 in
theorem body_run (W : Waits sig Unit) :
    iprop(owes (c : Thread nD τ) 0 W ∗ freeP c ∗ arrP c XA WA g0)
      ⊢ wp frame (wpE (defs₀ (F := F)) 𝒱₀ (c : Thread nD τ) none) Set.univ (bodyP (F := F))
        (fun _ => iprop((∃ W, owes (c : Thread nD τ) 0 W) ∗ freeP c ∗ arrP c XA WA (outA c XA WA))) := by
  unfold freeP arrP
  obtain ⟨ex, nx, nx'⟩ := xset_0
  obtain ⟨ew, nw⟩ := wset_0
  have eX : bigSep Finset.univ (xhomeP c XA) = iprop(xhomeP c XA (xb 0) ∗ xhomeP c XA (xb (0 + 1)) ∗ bigSep (xset 0) (xhomeP c XA)) := by
    rw [ex, bigSep_ins nx, bigSep_ins nx']
  have eW : bigSep Finset.univ (whomeP c WA) = iprop(whomeP c WA (wb 0) ∗ bigSep (wset 0) (whomeP c WA)) := by
    rw [ew, bigSep_ins nw]
  rw [eX, eW]
  have hc1 := cond1_eq
  have hk4 := chk4_end
  have hk5 := chk5_end
  iintro ⟨HW, ⟨⟨Hx0, ⟨%fx0, Hxs0⟩⟩, ⟨Hx1, ⟨%fx1, Hxs1⟩⟩, Hx2, ⟨Hw0, ⟨%fw0, Hws0⟩⟩, Hw1, Ho0, Ho1, Hs, ⟨%fas, Has⟩⟩, ⟨Hxh0, Hxh1, Hxh⟩, ⟨Hwh0, Hwh⟩, Hoh⟩
  dsimp only [bodyP]
  sl_unfold [cc0_proj_d4_scale_skel]
  sl_exec
  iapply (loop_run c XA WA g0 _ _) $$ [HW Hx2 Hw1 Ho0 Ho1 Hs Has Hxh Hwh Hoh Hx0 Hw0 Hx1]
  · unfold invAt xPart wPart wsPre oPart
    rw [show xfly c XA 0 = xflightP c XA (sl 3 0) (xb 0) from if_pos (by decide), show xfly c XA (0 + 1) = xflightP c XA (sl 3 (0 + 1)) (xb (0 + 1)) from if_pos (by decide),
      show wfly c WA 0 = wflightP c WA (sl 2 (0 / 8)) (wb 0) from if_pos (by decide), if_pos (by decide), oset_0, orest_0]
    isplitl [HW]; · iexists _; iexact HW
    isplitl [Hx0 Hx1 Hx2 Hxh]
    · isplitl [Hx0]; · iexists _; iexact Hx0
      isplitl [Hx1]; · iexists _; iexact Hx1
      isplitl [Hx2]; · iexact Hx2
      iexact Hxh
    isplitl [Hw0 Hw1 Hwh]
    · isplitl [Hw0]; · iexists _; iexact Hw0
      isplitl [Hw1]; · iexact Hw1
      iexact Hwh
    isplitl [Hs]; · iexact Hs
    isplitl [Has]; · iexists _; iexact Has
    isplitl [Ho0]; · iexact Ho0
    isplitl [Ho1]
    · unfold oPre; rw [if_neg (by decide)]; iexact Ho1
    isplitr
    · rw [bigSep_empty]; iempintro
    iexact Hoh
  iintro HI
  unfold invAt xPart wPart wsPre oPart
  rw [show xfly c XA 16 = xfree c (sl 3 16) from if_neg (by decide), show xfly c XA (16 + 1) = xfree c (sl 3 (16 + 1)) from if_neg (by decide),
    show wfly c WA 16 = wfree c (sl 2 (16 / 8)) from if_neg (by decide), if_pos (by decide), orest_16, xset_16, wset_16]
  unfold oPre
  rw [if_pos (by decide)]
  icases HI with ⟨⟨%W', HW⟩, ⟨Hx0, Hx1, Hx2, Hxh⟩, ⟨Hw0, Hw1, Hwh⟩, Hs, ⟨%fas', Has⟩, Ho0, ⟨%fof, HFo⟩, Hod, -⟩
  dsimp only [accAt]
  sl_exec
  sl_step
  rw [show sl 3 16 = sl 3 (0 + 1) from rfl, show sl 3 (16 + 1) = sl 3 (0 + 2) from rfl, show sl 3 (16 + 2) = sl 3 0 from rfl,
    show sl 2 (16 / 8) = sl 2 (0 / 8) from rfl, show sl 2 (16 / 8 + 1) = sl 2 (0 / 8 + 1) from rfl, show sl 2 16 = sl 2 0 from rfl,
    ← eX, ← eW, oset_16.1, bigSep_ins oset_16.2]
  isplitl [HW]; · iexists _; iexact HW
  isplitl [Hx0 Hx1 Hx2 Hw0 Hw1 Ho0 HFo HFo_src Hs Has]
  · isplitl [Hx2]; · iexact Hx2
    isplitl [Hx0]; · iexact Hx0
    isplitl [Hx1]; · iexact Hx1
    isplitl [Hw0]; · iexact Hw0
    isplitl [Hw1]; · iexact Hw1
    isplitl [Ho0]; · iexact Ho0
    isplitl [HFo HFo_src]
    · isplitl [HFo]; · iexact HFo
      iexists _; iexact HFo_src
    isplitl [Hs]; · iexact Hs
    iexists _; iexact Has
  isplitl [Hxh]; · iexact Hxh
  isplitl [Hwh]; · iexact Hwh
  isplitl [HFo_dst]; · iexact HFo_dst
  iexact Hod

end Cert.Kernel8Ideal.Hand

end
-- ==== Proof.Hand8.Launch.lean ====
/-
  The launch: the arrays and the rings in blocks, the body run at the one point, the run of the program.
-/
module

public import proofs.«01_k».proof.Proof.Hand8.Body
public import proofs.«01_k».proof.Proof.Gen.Kernel8Ideal.Launch
public import proofs.«01_k».proof.Proof.Gen.Kernel8Ideal.Frame
public import Idealize.ShloMosaic.Lib.Pipeline.FrameValue
public import Idealize.ShloMosaic.Lib.Ring

@[expose] public section

noncomputable section

namespace Cert.Kernel8Ideal.Hand

open Cert.Kernel8Ideal Cert.Kernel8Ideal.Gen
open Idealize.ShloMosaic Idealize.ShloMosaic.TcCoe Idealize.ShloMosaic.Tactic
open Idealize.ShloMosaic.Ring (sl)
open Cert.Shared Cert.Split
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig Unit (Elt F) ℕ (UU nD τ) ℕ

open Idealize.ShloMosaic.Pipeline (Dat Cfg Window BodyObligation)

/-! ## Element sets -/

abbrev xS (b : Fin 8) : Finset S2x4096x2048.Idx := (Rect.unit (s := S2x4096x2048) (xblkOff b) S1x1024x2048.size (xblkOff_inb b)).set
abbrev wS (b : Fin 8) : Finset S2048x8192.Idx := (Rect.unit (s := S2048x8192) (wblkOff b) S2048x1024.size (wblkOff_inb b)).set
abbrev oS (t : Fin 16) : Finset S2x16x1x4x1024x128.Idx := (Rect.unit (s := S2x16x1x4x1024x128) (oblkOff t) S1x8x1x4x256x128.size (oblkOff_inb t)).set
abbrev xrS (s : Fin 3) : Finset S3x1x1024x2048.Idx := (Rect.unit (s := S3x1x1024x2048) (xslotOff s) S1x1x1024x2048.size (xslotOff_inb s)).set
abbrev wrS (s : Fin 2) : Finset S2x2048x1024.Idx := (Rect.unit (s := S2x2048x1024) (wslotOff s) S1x2048x1024.size (wslotOff_inb s)).set
abbrev orS (s : Fin 2) : Finset S2x1x8x1x4x256x128.Idx := (Rect.unit (s := S2x1x8x1x4x256x128) (oslotOff s) S1x1x8x1x4x256x128.size (oslotOff_inb s)).set

theorem xS_tiles : Tiles xS := rows_tiles
theorem wS_tiles : Tiles wS := axis_tiles 1 1024 (fun _ => rfl) (by intro b a h; fin_cases a <;> first | rfl | exact absurd rfl h) rfl (by decide) rfl
theorem oS_tiles : Tiles oS := by
  refine fibres oS (fun y => 8 * ((y 1).val / 8) + 4 * (y 0).val + (y 4).val / 256) Fin.val Fin.val_injective (fun b y => ?_) (fun y => ?_)
  · rw [Rect.mem_set_unit]
    have h0 : (y 0).val < 2 := (y 0).isLt
    have h1 : (y 1).val < 16 := (y 1).isLt
    have h2 : (y 2).val < 1 := (y 2).isLt
    have h3 : (y 3).val < 4 := (y 3).isLt
    have h4 : (y 4).val < 1024 := (y 4).isLt
    have h5 : (y 5).val < 128 := (y 5).isLt
    have hb := b.isLt
    constructor
    · intro H
      have a0 : b.val / 4 % 2 ≤ (y 0).val ∧ (y 0).val < b.val / 4 % 2 + 1 := H 0
      have a1 : 8 * (b.val / 8) ≤ (y 1).val ∧ (y 1).val < 8 * (b.val / 8) + 8 := H 1
      have a4 : 256 * (b.val % 4) ≤ (y 4).val ∧ (y 4).val < 256 * (b.val % 4) + 256 := H 4
      omega
    · intro H i
      fin_cases i
      · show b.val / 4 % 2 ≤ (y 0).val ∧ (y 0).val < b.val / 4 % 2 + 1; omega
      · show 8 * (b.val / 8) ≤ (y 1).val ∧ (y 1).val < 8 * (b.val / 8) + 8; omega
      · show 0 ≤ (y 2).val ∧ (y 2).val < 0 + 1; omega
      · show 0 ≤ (y 3).val ∧ (y 3).val < 0 + 4; omega
      · show 256 * (b.val % 4) ≤ (y 4).val ∧ (y 4).val < 256 * (b.val % 4) + 256; omega
      · show 0 ≤ (y 5).val ∧ (y 5).val < 0 + 128; omega
  · have h0 : (y 0).val < 2 := (y 0).isLt
    have h1 : (y 1).val < 16 := (y 1).isLt
    have h2 : (y 2).val < 1 := (y 2).isLt
    have h4 : (y 4).val < 1024 := (y 4).isLt
    exact ⟨⟨8 * ((y 1).val / 8) + 4 * (y 0).val + (y 4).val / 256, by omega⟩, rfl⟩

/-- The slots of a ring. -/
theorem xrS_tiles : Tiles xrS := axis_tiles 0 1 (fun _ => (Nat.one_mul _).symm) (by intro b a h; fin_cases a <;> first | rfl | exact absurd rfl h) rfl (by decide) rfl
theorem wrS_tiles : Tiles wrS := axis_tiles 0 1 (fun _ => (Nat.one_mul _).symm) (by intro b a h; fin_cases a <;> first | rfl | exact absurd rfl h) rfl (by decide) rfl
theorem orS_tiles : Tiles orS := axis_tiles 0 1 (fun _ => (Nat.one_mul _).symm) (by intro b a h; fin_cases a <;> first | rfl | exact absurd rfl h) rfl (by decide) rfl

/-! ## Whole buffers and their blocks -/

section Blocks
variable (c : Dev nD)

theorem x_eq (XA : Buf (Elt F) (xM.view.loc (c : Thread nD τ))) :
    (((c : Thread nD τ).loc main_arg0) ↦{fullShare} XA : sProp 𝕄) = bigSep Finset.univ (xhomeP c XA) := by
  rw [Ring.pointsTo_blocks (ℓ := (c : Thread nD τ).loc main_arg0) xS xS_tiles.1 xS_tiles.2]
  exact bigSep_congr fun b _ => by rw [show xS b = (xblk b).view.set from (View.set_slice_whole _ _).symm]; rfl
theorem w_eq (WA : Buf (Elt F) (wM.view.loc (c : Thread nD τ))) :
    (((c : Thread nD τ).loc main_arg1) ↦{fullShare} WA : sProp 𝕄) = bigSep Finset.univ (whomeP c WA) := by
  rw [Ring.pointsTo_blocks (ℓ := (c : Thread nD τ).loc main_arg1) wS wS_tiles.1 wS_tiles.2]
  exact bigSep_congr fun b _ => by rw [show wS b = (wblk b).view.set from (View.set_slice_whole _ _).symm]; rfl
theorem o_eq (G : Buf (Elt F) (oM.view.loc (c : Thread nD τ))) :
    (((c : Thread nD τ).loc main_v0) ↦{fullShare} G : sProp 𝕄) = bigSep Finset.univ (fun t => oHomeP c t G) := by
  rw [Ring.pointsTo_blocks (ℓ := (c : Thread nD τ).loc main_v0) oS oS_tiles.1 oS_tiles.2]
  exact bigSep_congr fun b _ => by rw [show oS b = (oblk b).view.set from (View.set_slice_whole _ _).symm]; rfl

theorem xslotP_eq (s : Fin 3) (f) : xslotP (F := F) c s f = (((c : Thread nD τ).loc cc0_scoped0) ↦[xrS s]{fullShare} f : sProp 𝕄) :=
  congrArg (fun S => (_ ↦[S]{fullShare} f : sProp 𝕄)) ((View.set_reshape _ _).trans (View.set_slice_whole _ _))
theorem wslotP_eq (s : Fin 2) (f) : wslotP (F := F) c s f = (((c : Thread nD τ).loc cc0_scoped2) ↦[wrS s]{fullShare} f : sProp 𝕄) :=
  congrArg (fun S => (_ ↦[S]{fullShare} f : sProp 𝕄)) ((View.set_reshape _ _).trans (View.set_slice_whole _ _))
theorem oslotP_eq (s : Fin 2) (f) : oslotP (F := F) c s f = (((c : Thread nD τ).loc cc0_scoped4) ↦[orS s]{fullShare} f : sProp 𝕄) :=
  congrArg (fun S => (_ ↦[S]{fullShare} f : sProp 𝕄)) ((View.set_reshape _ _).trans (View.set_slice_whole _ _))

theorem xring : (iprop(∃ f : Buf (Elt F) ((c : Thread nD τ).loc cc0_scoped0), ((c : Thread nD τ).loc cc0_scoped0) ↦{fullShare} f) : sProp 𝕄)
    ⊣⊢ iprop((∃ f, xslotP c 0 f) ∗ (∃ f, xslotP c 1 f) ∗ ∃ f, xslotP c 2 f) := by
  have h := some_blocks (F := F) (U := UU nD τ) (ℓ := (c : Thread nD τ).loc cc0_scoped0) xrS xrS_tiles (xR.view.junk)
  rw [bigSep_three] at h
  simp only [xslotP_eq]
  exact h
theorem wring : (iprop(∃ f : Buf (Elt F) ((c : Thread nD τ).loc cc0_scoped2), ((c : Thread nD τ).loc cc0_scoped2) ↦{fullShare} f) : sProp 𝕄)
    ⊣⊢ iprop((∃ f, wslotP c 0 f) ∗ ∃ f, wslotP c 1 f) := by
  have h := some_blocks (F := F) (U := UU nD τ) (ℓ := (c : Thread nD τ).loc cc0_scoped2) wrS wrS_tiles (wR.view.junk)
  rw [bigSep_two] at h
  simp only [wslotP_eq]
  exact h
theorem oring : (iprop(∃ f : Buf (Elt F) ((c : Thread nD τ).loc cc0_scoped4), ((c : Thread nD τ).loc cc0_scoped4) ↦{fullShare} f) : sProp 𝕄)
    ⊣⊢ iprop((∃ f, oslotP c 0 f) ∗ ∃ f, oslotP c 1 f) := by
  have h := some_blocks (F := F) (U := UU nD τ) (ℓ := (c : Thread nD τ).loc cc0_scoped4) orS orS_tiles (oR.view.junk)
  rw [bigSep_two] at h
  simp only [oslotP_eq]
  exact h

/-! ## The region's invariant -/

/-- The kernel's own semaphores. -/
abbrev cells : Fin 7 → SemLoc sig := ![.dma (xsem 0).sem, .dma (xsem 1).sem, .dma (xsem 2).sem, .dma (wsem 0).sem, .dma (wsem 1).sem, .dma (osem 0).sem, .dma (osem 1).sem]
theorem cells_own : Pipeline.OwnSemFacts (cfg0.spec) cells := by decide +kernel
theorem cells_eq : (Pipeline.ownSems0 (Ix := Unit) (Name := ℕ) (U := UU nD τ) (Lvl := ℕ) (Val := Elt F) (τ := τ) cells c : sProp 𝕄)
    = iprop(xcellP c 0 ∗ xcellP c 1 ∗ xcellP c 2 ∗ wcellP c 0 ∗ wcellP c 1 ∗ ocellP c 0 ∗ ocellP c 1) :=
  Pipeline.ownSems0_eq_of_list c cells [0, 1, 2, 3, 4, 5, 6] (by decide) (by decide)

abbrev readR : Finset (Ref sig .tc) := {main_arg0, main_arg1}
abbrev writeR : Finset (Ref sig .tc) := {main_v0}
theorem readR_sub : readR ⊆ Pipeline.restRefs sig (cfg0.spec) := by decide
theorem writeR_sub : writeR ⊆ Pipeline.restRefs sig (cfg0.spec) \ readR := by decide
theorem read_eq (V : (b : Ref sig .tc) → Buf (Elt F) ((c : Thread nD τ).loc b)) :
    (bigSep readR (fun b => ((c : Thread nD τ).loc b) ↦{fullShare} V b) : sProp 𝕄)
      = iprop((((c : Thread nD τ).loc main_arg0) ↦{fullShare} V main_arg0) ∗ (((c : Thread nD τ).loc main_arg1) ↦{fullShare} V main_arg1)) := by
  rw [BI.bigSep_eq_bigSepL_of_eq [main_arg0, main_arg1] (by decide) (by decide)]; rfl

/-- What the body's run takes and leaves of the region: the result at the contents `G`. -/
def regionP (XA : Buf (Elt F) (xM.view.loc (c : Thread nD τ))) (WA : Buf (Elt F) (wM.view.loc (c : Thread nD τ))) (G : Buf (Elt F) (oM.view.loc (c : Thread nD τ))) : sProp 𝕄 :=
  iprop(freeP c ∗ arrP c XA WA G ∗ ∃ r, prngReg c r)

theorem region_eq (V G : (c : Dev nD) → (b : Ref sig .tc) → Buf (Elt F) ((c : Thread nD τ).loc b)) :
    (Pipeline.ΦDRG cells (cfg0.spec) readR writeR V G c : sProp 𝕄) ⊣⊢ regionP c (V c main_arg0) (V c main_arg1) (G c main_v0) := by
  have ews : ∀ f : Buf (Elt F) (wsM.view.loc (c : Thread nD τ)), wsP (F := F) c f = (((c : Thread nD τ).loc cc0_scratch0) ↦{fullShare} f : sProp 𝕄) :=
    fun f => congrArg (fun S => (_ ↦[S]{fullShare} f : sProp 𝕄)) (View.set_whole cc0_scratch0)
  have eas : ∀ f : Buf (Elt F) (asM.view.loc (c : Thread nD τ)), asP (F := F) c f = (((c : Thread nD τ).loc cc0_scratch1) ↦{fullShare} f : sProp 𝕄) :=
    fun f => congrArg (fun S => (_ ↦[S]{fullShare} f : sProp 𝕄)) (View.set_whole cc0_scratch1)
  rw [Pipeline.ΦDRG_eq, scopedRest0_eq, cells_eq, read_eq, show Pipeline.routed writeR c (G c) = _ from Pipeline.routed_singleton main_v0 c (G c),
    x_eq, w_eq, o_eq]
  unfold regionP freeP arrP
  simp only [ews, eas]
  exact region_pack_two (xring c) (wring c) (oring c)

end Blocks

/-! ## The body at the one point, and the run -/

section Launch
variable (m : (ℓ : Loc nD τ sig) → Buf (Elt F) ℓ) (ρ : Dev nD → PrngReg)

abbrev XAt (c : Dev nD) : Buf (Elt F) (xM.view.loc (c : Thread nD τ)) := m ((c : Thread nD τ).loc main_arg0)
abbrev WAt (c : Dev nD) : Buf (Elt F) (wM.view.loc (c : Thread nD τ)) := m ((c : Thread nD τ).loc main_arg1)
/-- The contents the region returns: the result at what the blocks compute. -/
def endG (c : Dev nD) (b : Ref sig .tc) : Buf (Elt F) ((c : Thread nD τ).loc b) := Function.update (V m c) main_v0 (outA c (XAt m c) (WAt m c)) b

def dats (_ : Fin 1) (c : Dev nD) : Dat τ (Elt F) Unit ℕ (UU nD τ) ℕ cfg0 c where
  A w := V m c (Pipeline.arrRef (cfg0.spec) w)
  after w _ := w.elim0
  Φ t := if t.val = 0 then regionP c (XAt m c) (WAt m c) (V m c main_v0) else regionP c (XAt m c) (WAt m c) (outA c (XAt m c) (WAt m c))
  q _ := fullShare
  owed _ := 0

theorem prog_eq (t : Fin cfg0.N) : (defs₀ (F := F)) .tc cfg0.body (cfg0.bodyArgs t (cfg0.slots t)) = bodyP (F := F) := by
  have e : (defs₀ (F := F)) .tc cfg0.body (cfg0.bodyArgs t (cfg0.slots t)) = bodyAt0 t := by unfold defs₀; rw [Defs.onTc_tc]
  rw [e]
  unfold bodyAt0
  rw [cc0_proj_d4_scale_eq_skeleton]

set_option backward.isDefEq.respectTransparency.types false in
theorem body_obligation (c : Dev nD) : BodyObligation (dats (F := F) m 0 c) (defs₀ (F := F)) 𝒱₀ () Set.univ := fun t => by
  obtain rfl := fin_N0 t
  rw [show (dats m 0 c).Φ (t0_0).castSucc = regionP c (XAt m c) (WAt m c) (V m c main_v0) from rfl, show (dats m 0 c).Φ (t0_0).succ = regionP c (XAt m c) (WAt m c) (outA c (XAt m c) (WAt m c)) from rfl]
  unfold Dat.owesAt Pipeline.owesWithin
  rw [show (dats m 0 c).owed (t0_0).castSucc = 0 from rfl, show (dats m 0 c).owed (t0_0).succ = 0 from rfl]
  unfold regionP
  iintro ⟨⟨Hf, Ha, Hr⟩, ⟨%W, -, HW⟩, HE⟩
  sl_rw [prog_eq t0_0]
  iapply (wp_wand_r Idealize.ShloMosaic.frame (wpE (defs₀ (F := F)) 𝒱₀ (c : Thread nD τ) none) Set.univ)
  isplitl [Hf Ha HW]
  · iapply (body_run c (XAt m c) (WAt m c) (V m c main_v0) W)
    isplitl [HW]; · iexact HW
    isplitl [Hf]; · iexact Hf
    iexact Ha
  iintro %a ⟨⟨%W', HW⟩, Hf, Ha⟩
  isplitl [Hf Ha Hr]
  · isplitl [Hf]; · iexact Hf
    isplitl [Ha]; · iexact Ha
    iexact Hr
  isplitl [HW]
  · iexists W'; isplitr; · ipureintro; exact fun _ _ => Or.inl trivial
    iexact HW
  iexact HE

set_option backward.isDefEq.respectTransparency.types false in
theorem run_post : θ_run defs (onTc (τ := τ) (main (F := F))) (s₀ m ρ)
    (fun r => Pipeline.FramePostRG cfgs (dats m) 0 writeR (V m) (endG m) r ∧ r.2.sem = fun _ => 0) :=
  Pipeline.θ_run_frame_dmaRG (Q' := _) cfgs (dats m) (0 : Fin 1) launch0 cells defs₀ 𝒱₀ cells_own readR writeR readR_sub writeR_sub m ρ main
    (hbody := fun c => (body_obligation m c).loose) (hshare := fun c => (dats m 0 c).share_full fun _ => rfl)
    (howed := fun _ _ => rfl) (V := V m) (hmain := Pipeline.hmain_region cfgs 0 defs₀ 𝒱₀ m main fun c => (main_chain c).trans rfl) (hA := fun _ _ => rfl)
    (G := endG m) (hin := fun c => (region_eq c (V m) (V m)).1)
    (hout := fun c => (region_eq c (V m) (endG m)).2)

/-- The program runs to the end: the arguments unchanged, the result at what the blocks compute, every counter at zero. -/
theorem run_main : θ_run defs (onTc (τ := τ) (main (F := F))) (s₀ m ρ) (fun r => (∀ c : Dev nD,
      r.2.mem ((c : Thread nD τ).loc main_v0) = outA c (XAt m c) (WAt m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun r h => ⟨fun c => ⟨h.1.written c (Finset.mem_singleton_self _), (h.1.toR c).2 main_arg0 (by decide), (h.1.toR c).2 main_arg1 (by decide)⟩, h.2⟩)
    (run_post m ρ)

end Launch

end Cert.Kernel8Ideal.Hand

end
-- ==== Proof.Hand8.Value.lean ====
/-
  The result at the ideal instance: both programs' results as one scaled sum over the contracted axis, index by index.
-/
module

public import proofs.«01_k».proof.Proof.Hand8.Pieces
public import proofs.«01_k».proof.Proof.Gen.Reference8Ideal.Run
public import proofs.«01_k».proof.Proof.Hand7.Value
public import Idealize.ShloMosaic.PureOps.Ideal
public import Idealize.ShloMosaic.Lib.Pointwise

@[expose] public section

noncomputable section

namespace Cert.Kernel8Ideal.Hand

open Cert.Kernel8Ideal Cert.Kernel8Ideal.Gen
open Idealize.ShloMosaic Idealize.ShloMosaic.TcCoe
open Idealize.SL.Sem

open Cert.Kernel7Ideal.Hand (QS refScale div_scale)

/-- The program's named factor is the queries' factor. -/
theorem qs_named : Named.named (F := Ideal) κ "qk_scale" (φ := .f32) 0x3E0293EE#32 = QS := IdealRules.named_const.ideal_named_scalar _ _ _ _ rfl

/-- Element `i` of the result: row `4 * i 4 + i 3` of batch `i 0` of the activations against the column of head `i 1`, lane `i 5`, of the second part, scaled. -/
def SPEC (x : S2x4096x2048.Idx → EReal) (w : S2048x8192.Idx → EReal) : S2x16x1x4x1024x128.Idx → EReal := fun i =>
  (∑ k : Fin 2048, x (ix3 (i 0 : Fin 2) (⟨4 * (i 4).val + (i 3).val, by
      have h3 : (i 3).val < 4 := (i 3).isLt; have h4 : (i 4).val < 1024 := (i 4).isLt; omega⟩ : Fin 4096) k)
    * w (ix2 k (⟨2048 + (i 1).val * 128 + (i 5).val, by
        have h1 : (i 1).val < 16 := (i 1).isLt; have h5 : (i 5).val < 128 := (i 5).isLt; omega⟩ : Fin 8192))) * QS

variable (c : Dev nD)
  (XA : Buf (Elt Ideal) (xM.view.loc (c : Thread nD τ))) (WA : Buf (Elt Ideal) (wM.view.loc (c : Thread nD τ)))

theorem xblk_at (b : Fin 8) (r : Fin 1024) (k : Fin 2048) :
    xpay c XA b (ix3 0 r k) = XA (ix3 (⟨b.val / 4, by omega⟩ : Fin 2) (⟨1024 * (b.val % 4) + r.val, by omega⟩ : Fin 4096) k : S2x4096x2048.Idx) := by
  show XA ((Rect.unit (s := S2x4096x2048) (xblkOff b) S1x1024x2048.size (xblkOff_inb b)).emb (ix3 0 r k)) = _
  refine congrArg XA (funext fun a => Fin.ext ?_)
  match a with
  | ⟨0, _⟩ => show b.val / 4 + 1 * 0 = b.val / 4; omega
  | ⟨1, _⟩ => show 1024 * (b.val % 4) + 1 * r.val = 1024 * (b.val % 4) + r.val; omega
  | ⟨2, _⟩ => show 0 + 1 * k.val = k.val; omega

theorem wblk_at (n : Fin 8) (k : Fin 2048) (l : Fin 1024) :
    wpay c WA n (ix2 k l) = WA (ix2 k (⟨1024 * n.val + l.val, by omega⟩ : Fin 8192) : S2048x8192.Idx) := by
  show WA ((Rect.unit (s := S2048x8192) (wblkOff n) S2048x1024.size (wblkOff_inb n)).emb (ix2 k l)) = _
  refine congrArg WA (funext fun a => Fin.ext ?_)
  match a with
  | ⟨0, _⟩ => show 0 + 1 * k.val = k.val; omega
  | ⟨1, _⟩ => show 1024 * n.val + 1 * l.val = 1024 * n.val + l.val; omega

theorem prodB_at (t : ℕ) (r l : Fin 1024) : prodB c XA WA t (ix2 r l) = (∑ k : Fin 2048, xpay c XA (xb t) (ix3 0 r k) * wpay c WA (wb t) (ix2 k l)) * QS := by
  unfold prodB prod wsV
  generalize xpay c XA (xb t) = x
  generalize wpay c WA (wb t) = w
  rw [← qs_named]
  pointwise [k0_pay3, k0_pay2]

theorem out_spec : outA c XA WA = SPEC XA WA := by
  funext i
  have h0 : ((i : S2x16x1x4x1024x128.Idx) 0).val < 2 := (i 0).isLt
  have h1 : ((i : S2x16x1x4x1024x128.Idx) 1).val < 16 := (i 1).isLt
  have h3 : ((i : S2x16x1x4x1024x128.Idx) 3).val < 4 := (i 3).isLt
  have h4 : ((i : S2x16x1x4x1024x128.Idx) 4).val < 1024 := (i 4).isLt
  have h5 : ((i : S2x16x1x4x1024x128.Idx) 5).val < 128 := (i 5).isLt
  unfold outA SPEC
  refine (prodB_at c XA WA _ _ _).trans (congrArg (fun v : EReal => v * QS) (Finset.sum_congr (M := EReal) rfl fun k _ => ?_))
  rw [xblk_at, wblk_at]
  have eb : (xb (tripOf i)).val = (i 0).val * 4 + (i 4).val / 256 := by
    show tripOf i % 8 = _; unfold tripOf; omega
  have en : (wb (tripOf i)).val = 2 + (i 1).val / 8 := by
    show (2 + tripOf i / 8) % 8 = _; unfold tripOf; omega
  congr 2
  · congr 1 <;> apply Fin.ext <;> simp only [eb] <;> omega
  · congr 1; apply Fin.ext; simp only [en]; omega

open Cert.Reference8Ideal Cert.Reference8Ideal.Gen in
/-- The reference's projected second part, head by head, the rows of a residue together, as its operations compose. -/
def refQ (x : FVec Ideal S2x4096x2048 .bf16) (w : FVec Ideal S2048x8192 .f32) : FVec Ideal S2x16x4x1024x128 .f32 :=
  transpose S2x16x4x1024x128 [0, 3, 2, 1, 4] (shapeCast _ (extractStridedSlice S2x4096x2048 ![0, 0, 2048] (Host.dotGeneral dot_S2x4096x2048_S2048x8192_S2x4096x8192_2_0_01_1_n_n none (extf .f32 x Cert.Reference8Ideal.Gen.bitsLt_bf16_f32) w) slices_S2x4096x8192_S2x4096x2048_0_0_2048) shapeCasts_S2x4096x2048_S2x1024x4x16x128) transposes_S2x1024x4x16x128_S2x16x4x1024x128_0_3_2_1_4

open Cert.Reference8Ideal Cert.Reference8Ideal.Gen in
/-- The reference's result as its operations compose. -/
def refOut (x : FVec Ideal S2x4096x2048 .bf16) (w : FVec Ideal S2048x8192 .f32) : FVec Ideal S2x16x1x4x1024x128 .bf16 :=
  truncf .bf16 (shapeCast _ (Host.divf (refQ x w) (broadcastInDim S2x16x4x1024x128 ![] bcast_S_S2x16x4x1024x128 refScale)) shapeCasts_S2x16x4x1024x128_S2x16x1x4x1024x128) Cert.Reference8Ideal.Gen.bitsLt_bf16_f32

theorem refQ_at (x : S2x4096x2048.Idx → EReal) (w : S2048x8192.Idx → EReal) (b : Fin 2) (h : Fin 16) (r : Fin 4) (q : Fin 1024) (l : Fin 128) :
    refQ x w (ix5 b h r q l) = ∑ k : Fin 2048, x (ix3 b (⟨4 * q.val + r.val, by omega⟩ : Fin 4096) k) * w (ix2 k (⟨2048 + h.val * 128 + l.val, by omega⟩ : Fin 8192)) := by
  unfold refQ
  pointwise
  refine Finset.sum_congr rfl fun k _ => ?_
  congr 3 <;> (apply Fin.ext; dsimp only; omega)

/-- The reference's result is the same. -/
theorem ref_spec (x : S2x4096x2048.Idx → EReal) (w : S2048x8192.Idx → EReal) : refOut x w = SPEC x w := by
  funext i
  have e : refOut x w i = Ideal.div (refQ x w (ix5 (i 0 : Fin 2) (i 1 : Fin 16) (i 3 : Fin 4) (i 4 : Fin 1024) (i 5 : Fin 128))) (refScale ix0) := by
    unfold refOut
    generalize refQ x w = q
    generalize refScale = s
    pointwise
  rw [e, div_scale]
  exact congrArg (fun v : EReal => v * QS) (refQ_at x w (i 0 : Fin 2) (i 1 : Fin 16) (i 3 : Fin 4) (i 4 : Fin 1024) (i 5 : Fin 128))

end Cert.Kernel8Ideal.Hand

end
-- ==== Proof.lean ====
/-
  The claims: the frames of the three programs, the idealized kernel against the kernel, and the kernel against the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal.Value
public import proofs.«01_k».proof.Proof.Gen.Kernel3
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Frame
public import proofs.«01_k».proof.Proof.Gen.Kernel4Ideal.Loops
public import proofs.«01_k».proof.Proof.Gen.Kernel4Ideal.Points
public import proofs.«01_k».proof.Proof.Gen.Kernel4Ideal.Skeleton
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Frame
public import proofs.«01_k».proof.Proof.Gen.Kernel5Ideal.Loops
public import proofs.«01_k».proof.Proof.Gen.Kernel5Ideal.Points
public import proofs.«01_k».proof.Proof.Gen.Kernel5Ideal.Skeleton
public import proofs.«01_k».proof.Proof.Gen.Reference5Ideal.Run
public import proofs.«01_k».proof.Proof.Gen.Kernel7
public import proofs.«01_k».proof.Proof.Gen.Kernel7Ideal
public import proofs.«01_k».proof.Proof.Gen.Kernel7Ideal.Launch
public import proofs.«01_k».proof.Proof.Gen.Kernel7Ideal.Frame
public import proofs.«01_k».proof.Proof.Gen.Kernel7Ideal.Loops
public import proofs.«01_k».proof.Proof.Gen.Kernel7Ideal.Points
public import proofs.«01_k».proof.Proof.Gen.Kernel7Ideal.Skeleton
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Launch
public import proofs.«01_k».proof.Proof.Gen.Kernel8Ideal.Frame
public import proofs.«01_k».proof.Proof.Gen.Kernel8Ideal.Loops
public import proofs.«01_k».proof.Proof.Gen.Kernel8Ideal.Points
public import proofs.«01_k».proof.Proof.Gen.Kernel8Ideal.Skeleton
public import proofs.«01_k».proof.Proof.Gen.Reference8Ideal.Run
public import proofs.«01_k».proof.Proof.Gen.Kernel6
public import proofs.«01_k».proof.Proof.Gen.Kernel6Ideal.Value
public import proofs.«01_k».proof.Proof.Gen.Reference6Ideal.Run
public import proofs.«01_k».proof.Proof.Hand.Launch
public import proofs.«01_k».proof.Proof.Hand.Value
public import proofs.«01_k».proof.Proof.Hand.Value2
public import proofs.«01_k».proof.Proof.Hand.Value3
public import proofs.«01_k».proof.Proof.Hand.Value6
public import proofs.«01_k».proof.Proof.Hand4.Launch
public import proofs.«01_k».proof.Proof.Hand4.Value
public import proofs.«01_k».proof.Proof.Hand5.Launch
public import proofs.«01_k».proof.Proof.Hand5.Value
public import proofs.«01_k».proof.Proof.Hand7.Launch
public import proofs.«01_k».proof.Proof.Hand7.Value
public import proofs.«01_k».proof.Proof.Hand8.Launch
public import proofs.«01_k».proof.Proof.Hand8.Value
public import Idealize.ShloMosaic.Adequacy

@[expose] public section

noncomputable section

namespace Cert.Proof

open Idealize.ShloMosaic Idealize.ShloMosaic.TcCoe Idealize.SL.Sem
open Cert.KernelIdeal.Hand (run_main out_spec ref_spec outA SPEC XAt WAt)

/-- The kernel's frame: the run at the machine's own floats. -/
theorem frame_kernel : Cert.quiescent_Kernel := fun m ρ _ =>
  (θ_run Cert.KernelIdeal.defs _ _).mono (fun _ h => ⟨fun c => (h.1 c).2, h.2⟩) (run_main (F := Bits) m ρ)

/-- The idealized kernel's frame: the same run at the ideal floats. -/
theorem frame_ideal : Cert.quiescent_KernelIdeal := fun m ρ _ =>
  (θ_run Cert.KernelIdeal.defs _ _).mono (fun _ h => ⟨fun c => (h.1 c).2, h.2⟩) (run_main (F := Ideal) m ρ)

/-- The reference's frame; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the sum `SPEC` of the two arguments. -/
theorem value : Cert.algebraic_KernelIdeal_ReferenceIdeal := fun m ρ m' ρ' _ hm =>
  ⟨fun c => SPEC (XAt m c) (WAt m c),
    (θ_run Cert.KernelIdeal.defs _ _).mono (fun _ h c => ⟨(h.1 c).1.trans (out_spec c _ _), (h.1 c).2⟩) (run_main (F := Ideal) m ρ),
    (θ_run Cert.ReferenceIdeal.defs _ _).mono
      (fun _ h c => ⟨(h c).1.trans ((ref_spec _ _).trans (congrArg₂ SPEC (hm c).1 (hm c).2)), (h c).2⟩)
      (Cert.ReferenceIdeal.Value.run (F := Ideal) m' ρ')⟩

/-- The input projection's two body tables are one. -/
theorem table2 : @Cert.Kernel2.defs Bits _ Cert.Kernel2.Gen.facts = @Cert.Kernel2Ideal.defs Bits _ Cert.Kernel2Ideal.Gen.facts :=
  congrArg (fun d => Pipeline.defs Cert.Kernel2Ideal.pcfgs (Defs.onTc d)) (funext fun l => by
    match l with
    | 0 => rfl)

/-- The input projection's frames: one run, at either floats. -/
theorem frame_kernel2 : Cert.quiescent_Kernel2 := fun m ρ _ =>
  (congrArg (fun d => θ_run d (onTc Cert.Kernel2Ideal.main) _ _) table2).mpr (Cert.Kernel2Ideal.Gen.frame (F := Bits) m ρ)

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Both pairs of results are the gated product and the gate of the projection. -/
theorem value2 : Cert.algebraic_Kernel2Ideal_Reference2Ideal := fun m ρ m' ρ' _ hm =>
  open Cert.Kernel2Ideal.Hand in
  ⟨fun c => UU (HAt m c) (WAt m c), fun c => ZZ (HAt m c) (WAt m c),
    (θ_run Cert.Kernel2Ideal.defs _ _).mono (fun _ h c => ⟨(h c).1.trans (out_u m c), (h c).2.1.trans (out_z m c), (h c).2.2⟩)
      (Cert.Kernel2Ideal.Value.run (F := Ideal) m ρ),
    (θ_run Cert.Reference2Ideal.defs _ _).mono
      (fun _ h c => ⟨(h c).1.trans ((ref_u _ _).trans (congrArg₂ UU (hm c).1 (hm c).2)),
        (h c).2.1.trans ((ref_z _ _).trans (congrArg₂ ZZ (hm c).1 (hm c).2)), (h c).2.2⟩)
      (Cert.Reference2Ideal.Value.run (F := Ideal) m' ρ')⟩

/-- The output projection's two body tables are one. -/
theorem table3 : @Cert.Kernel3.defs Bits _ Cert.Kernel3.Gen.facts = @Cert.Kernel3Ideal.defs Bits _ Cert.Kernel3Ideal.Gen.facts :=
  congrArg (fun d => Pipeline.defs Cert.Kernel3Ideal.pcfgs (Defs.onTc d)) (funext fun l => by
    match l with
    | 0 => rfl)

/-- The output projection's frames: one run, at either floats. -/
theorem frame_kernel3 : Cert.quiescent_Kernel3 := fun m ρ _ =>
  (congrArg (fun d => θ_run d (onTc Cert.Kernel3Ideal.main) _ _) table3).mpr (Cert.Kernel3Ideal.Gen.frame (F := Bits) m ρ)

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both results are the normed residual stream of the four arguments. -/
theorem value3 : Cert.algebraic_Kernel3Ideal_Reference3Ideal := fun m ρ m' ρ' _ hm =>
  open Cert.Kernel3Ideal.Hand in
  ⟨fun c => NORM (YAt m c) (WAt m c) (XAt m c) (GAt m c),
    (θ_run Cert.Kernel3Ideal.defs _ _).mono (fun _ h c => ⟨(h c).1.trans (out_norm m c), (h c).2⟩) (Cert.Kernel3Ideal.Value.run (F := Ideal) m ρ),
    (θ_run Cert.Reference3Ideal.defs _ _).mono
      (fun _ h c => ⟨(h c).1.trans ((ref_norm _ _ _ _).trans
        (congr (congr (congr (congrArg NORM (hm c).1) (hm c).2.1) (hm c).2.2.1) (hm c).2.2.2)), (h c).2⟩)
      (Cert.Reference3Ideal.Value.run (F := Ideal) m' ρ')⟩

/-- The second group's projection: one run, at either floats. -/
theorem frame_kernel4 : Cert.quiescent_Kernel4 := fun m ρ _ =>
  (θ_run Cert.Kernel4Ideal.defs _ _).mono (fun _ h => ⟨fun c => (h.1 c).2, h.2⟩) (Cert.Kernel4Ideal.Hand.run_main (F := Bits) m ρ)

theorem frame_ideal4 : Cert.quiescent_Kernel4Ideal := fun m ρ _ =>
  (θ_run Cert.Kernel4Ideal.defs _ _).mono (fun _ h => ⟨fun c => (h.1 c).2, h.2⟩) (Cert.Kernel4Ideal.Hand.run_main (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both results are the second group's sum of the two arguments. -/
theorem value4 : Cert.algebraic_Kernel4Ideal_Reference4Ideal := fun m ρ m' ρ' _ hm =>
  ⟨fun c => Cert.Kernel4Ideal.Hand.SPEC (Cert.Kernel4Ideal.Hand.XAt m c) (Cert.Kernel4Ideal.Hand.WAt m c),
    (θ_run Cert.Kernel4Ideal.defs _ _).mono (fun _ h c => ⟨(h.1 c).1.trans (Cert.Kernel4Ideal.Hand.out_spec c _ _), (h.1 c).2⟩) (Cert.Kernel4Ideal.Hand.run_main (F := Ideal) m ρ),
    (θ_run Cert.Reference4Ideal.defs _ _).mono
      (fun _ h c => ⟨(h c).1.trans ((Cert.Kernel4Ideal.Hand.ref_spec _ _).trans (congrArg₂ Cert.Kernel4Ideal.Hand.SPEC (hm c).1 (hm c).2)), (h c).2⟩)
      (Cert.Reference4Ideal.Value.run (F := Ideal) m' ρ')⟩

/-- The gate projection: one run, at either floats. -/
theorem frame_kernel5 : Cert.quiescent_Kernel5 := fun m ρ _ =>
  (θ_run Cert.Kernel5Ideal.defs _ _).mono (fun _ h => ⟨fun c => (h.1 c).2, h.2⟩) (Cert.Kernel5Ideal.Hand.run_main (F := Bits) m ρ)

theorem frame_ideal5 : Cert.quiescent_Kernel5Ideal := fun m ρ _ =>
  (θ_run Cert.Kernel5Ideal.defs _ _).mono (fun _ h => ⟨fun c => (h.1 c).2, h.2⟩) (Cert.Kernel5Ideal.Hand.run_main (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Both results are the gated last part of the projection. -/
theorem value5 : Cert.algebraic_Kernel5Ideal_Reference5Ideal := fun m ρ m' ρ' _ hm =>
  ⟨fun c => Cert.Kernel5Ideal.Hand.SPEC (Cert.Kernel5Ideal.Hand.XAt m c) (Cert.Kernel5Ideal.Hand.WAt m c),
    (θ_run Cert.Kernel5Ideal.defs _ _).mono (fun _ h c => ⟨(h.1 c).1.trans (Cert.Kernel5Ideal.Hand.out_spec c _ _), (h.1 c).2⟩) (Cert.Kernel5Ideal.Hand.run_main (F := Ideal) m ρ),
    (θ_run Cert.Reference5Ideal.defs _ _).mono
      (fun _ h c => ⟨(h c).1.trans ((Cert.Kernel5Ideal.Hand.ref_spec _ _).trans (congrArg₂ Cert.Kernel5Ideal.Hand.SPEC (hm c).1 (hm c).2)), (h c).2⟩)
      (Cert.Reference5Ideal.Value.run (F := Ideal) m' ρ')⟩

/-- The first norm's two body tables are one. -/
theorem table6 : @Cert.Kernel6.defs Bits _ Cert.Kernel6.Gen.facts = @Cert.Kernel6Ideal.defs Bits _ Cert.Kernel6Ideal.Gen.facts :=
  congrArg (fun d => Pipeline.defs Cert.Kernel6Ideal.pcfgs (Defs.onTc d)) (funext fun l => by
    match l with
    | 0 => rfl)

/-- The first norm's frames: one run, at either floats. -/
theorem frame_kernel6 : Cert.quiescent_Kernel6 := fun m ρ _ =>
  (congrArg (fun d => θ_run d (onTc Cert.Kernel6Ideal.main) _ _) table6).mpr (Cert.Kernel6Ideal.Gen.frame (F := Bits) m ρ)

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Both results are the normed rows of the argument. -/
theorem value6 : Cert.algebraic_Kernel6Ideal_Reference6Ideal := fun m ρ m' ρ' _ hm =>
  open Cert.Kernel6Ideal.Hand in
  ⟨fun c => NORM (XAt m c) (GAt m c),
    (θ_run Cert.Kernel6Ideal.defs _ _).mono (fun _ h c => ⟨(h c).1.trans (out_norm m c), (h c).2⟩) (Cert.Kernel6Ideal.Value.run_blocks (F := Ideal) m ρ),
    (θ_run Cert.Reference6Ideal.defs _ _).mono
      (fun _ h c => ⟨(h c).1.trans ((ref_norm _ _).trans (congrArg₂ NORM (hm c).1 (hm c).2)), (h c).2⟩)
      (Cert.Reference6Ideal.Value.run (F := Ideal) m' ρ')⟩

/-- At the machine's floats a named constant is its bits. -/
abbrev namedBits : Named Bits := ⟨fun _ _ {φ} b => Scalar.ofBits φ b⟩

/-- The first group's queries: one run, at either floats. -/
theorem frame_kernel7 : Cert.quiescent_Kernel7 := fun m ρ _ =>
  (θ_run (@Cert.Kernel7Ideal.defs Bits _ namedBits _) _ _).mono (fun _ h => ⟨fun c => (h.1 c).2, h.2⟩)
    (@Cert.Kernel7Ideal.Hand.run_main Bits _ namedBits m ρ)

theorem frame_ideal7 : Cert.quiescent_Kernel7Ideal := fun m ρ _ =>
  (θ_run Cert.Kernel7Ideal.defs _ _).mono (fun _ h => ⟨fun c => (h.1 c).2, h.2⟩) (Cert.Kernel7Ideal.Hand.run_main (F := Ideal) m ρ)

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The named factor of the queries is the real the table gives it. -/
theorem preserves7 : Cert.preserves_Kernel7_Kernel7Ideal :=
  IdealRules.named_const.statement Cert.Kernel7Ideal.κ "qk_scale" .f32 0x3E0293EE#32 (((Real.sqrt 128)⁻¹ * (Real.log 2)⁻¹ : ℝ) : EReal) rfl

/-- Both results are the scaled first part of the projection of the arguments. -/
theorem value7 : Cert.algebraic_Kernel7Ideal_Reference7Ideal := fun m ρ m' ρ' _ hm =>
  ⟨fun c => Cert.Kernel7Ideal.Hand.SPEC (Cert.Kernel7Ideal.Hand.XAt m c) (Cert.Kernel7Ideal.Hand.WAt m c),
    (θ_run Cert.Kernel7Ideal.defs _ _).mono (fun _ h c => ⟨(h.1 c).1.trans (Cert.Kernel7Ideal.Hand.out_spec c _ _), (h.1 c).2⟩) (Cert.Kernel7Ideal.Hand.run_main (F := Ideal) m ρ),
    (θ_run Cert.Reference7Ideal.defs _ _).mono
      (fun _ h c => ⟨(h c).1.trans ((Cert.Kernel7Ideal.Hand.ref_spec _ _).trans (congrArg₂ Cert.Kernel7Ideal.Hand.SPEC (hm c).1 (hm c).2)), (h c).2⟩)
      (Cert.Reference7Ideal.Value.run (F := Ideal) m' ρ')⟩

/-- The second group's queries: one run, at either floats. -/
theorem frame_kernel8 : Cert.quiescent_Kernel8 := fun m ρ _ =>
  (θ_run (@Cert.Kernel8Ideal.defs Bits _ namedBits _) _ _).mono (fun _ h => ⟨fun c => (h.1 c).2, h.2⟩)
    (@Cert.Kernel8Ideal.Hand.run_main Bits _ namedBits m ρ)

theorem frame_ideal8 : Cert.quiescent_Kernel8Ideal := fun m ρ _ =>
  (θ_run Cert.Kernel8Ideal.defs _ _).mono (fun _ h => ⟨fun c => (h.1 c).2, h.2⟩) (Cert.Kernel8Ideal.Hand.run_main (F := Ideal) m ρ)

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The named factor of the queries is the real the table gives it. -/
theorem preserves8 : Cert.preserves_Kernel8_Kernel8Ideal :=
  IdealRules.named_const.statement Cert.Kernel8Ideal.κ "qk_scale" .f32 0x3E0293EE#32 (((Real.sqrt 128)⁻¹ * (Real.log 2)⁻¹ : ℝ) : EReal) rfl

/-- Both results are the scaled second part of the projection of the arguments. -/
theorem value8 : Cert.algebraic_Kernel8Ideal_Reference8Ideal := fun m ρ m' ρ' _ hm =>
  ⟨fun c => Cert.Kernel8Ideal.Hand.SPEC (Cert.Kernel8Ideal.Hand.XAt m c) (Cert.Kernel8Ideal.Hand.WAt m c),
    (θ_run Cert.Kernel8Ideal.defs _ _).mono (fun _ h c => ⟨(h.1 c).1.trans (Cert.Kernel8Ideal.Hand.out_spec c _ _), (h.1 c).2⟩) (Cert.Kernel8Ideal.Hand.run_main (F := Ideal) m ρ),
    (θ_run Cert.Reference8Ideal.defs _ _).mono
      (fun _ h c => ⟨(h c).1.trans ((Cert.Kernel8Ideal.Hand.ref_spec _ _).trans (congrArg₂ Cert.Kernel8Ideal.Hand.SPEC (hm c).1 (hm c).2)), (h c).2⟩)
      (Cert.Reference8Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    frame_kernel, frame_ideal, frame_reference, frame_kernel2, frame_ideal2, frame_reference2, frame_kernel3, frame_ideal3, frame_reference3, frame_kernel4, frame_ideal4, frame_reference4, frame_kernel5, frame_ideal5, frame_reference5, frame_kernel6, frame_ideal6, frame_reference6, frame_kernel7, frame_ideal7, frame_reference7, frame_kernel8, frame_ideal8, frame_reference8,
    trivial, value, trivial, value2, trivial, value3, trivial, value4, trivial, value5, trivial, value6, preserves7, value7, preserves8, value8⟩

end Cert.Proof

end
